-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2RefIdeal (m : (ℓ : Loc Cert.DwFf2RefIdeal.nD Cert.DwFf2RefIdeal.τ Cert.DwFf2RefIdeal.sig) → Buf (Elt Ideal) ℓ) : Prop :=
  True

def Pre_DU (m : (ℓ : Loc Cert.DU.nD Cert.DU.τ Cert.DU.sig) → Buf (Elt Bits) ℓ) : Prop :=
  True

def Pre_DUIdeal (m : (ℓ : Loc Cert.DUIdeal.nD Cert.DUIdeal.τ Cert.DUIdeal.sig) → Buf (Elt Ideal) ℓ) : Prop :=
  True

def Pre_DURefIdeal (m : (ℓ : Loc Cert.DURefIdeal.nD Cert.DURefIdeal.τ Cert.DURefIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1RefIdeal (m : (ℓ : Loc Cert.DwFf1RefIdeal.nD Cert.DwFf1RefIdeal.τ Cert.DwFf1RefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DCat (m : (ℓ : Loc Cert.DCat.nD Cert.DCat.τ Cert.DCat.sig) → Buf (Elt Bits) ℓ) : Prop :=
  True

def Pre_DCatIdeal (m : (ℓ : Loc Cert.DCatIdeal.nD Cert.DCatIdeal.τ Cert.DCatIdeal.sig) → Buf (Elt Ideal) ℓ) : Prop :=
  True

def Pre_DCatRefIdeal (m : (ℓ : Loc Cert.DCatRefIdeal.nD Cert.DCatRefIdeal.τ Cert.DCatRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormMlp (m : (ℓ : Loc Cert.NormMlp.nD Cert.NormMlp.τ Cert.NormMlp.sig) → Buf (Elt Bits) ℓ) : Prop :=
  True

def Pre_NormMlpIdeal (m : (ℓ : Loc Cert.NormMlpIdeal.nD Cert.NormMlpIdeal.τ Cert.NormMlpIdeal.sig) → Buf (Elt Ideal) ℓ) : Prop :=
  True

def Pre_NormMlpRefIdeal (m : (ℓ : Loc Cert.NormMlpRefIdeal.nD Cert.NormMlpRefIdeal.τ Cert.NormMlpRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFf1 (m : (ℓ : Loc Cert.AdamFf1.nD Cert.AdamFf1.τ Cert.AdamFf1.sig) → Buf (Elt Bits) ℓ) : Prop :=
  True

def Pre_AdamFf1Ideal (m : (ℓ : Loc Cert.AdamFf1Ideal.nD Cert.AdamFf1Ideal.τ Cert.AdamFf1Ideal.sig) → Buf (Elt Ideal) ℓ) : Prop :=
  True

def Pre_AdamFf1RefIdeal (m : (ℓ : Loc Cert.AdamFf1RefIdeal.nD Cert.AdamFf1RefIdeal.τ Cert.AdamFf1RefIdeal.sig) → Buf (Elt Ideal) ℓ) : Prop :=
  True

def Pre_AdamFf2 (m : (ℓ : Loc Cert.AdamFf2.nD Cert.AdamFf2.τ Cert.AdamFf2.sig) → Buf (Elt Bits) ℓ) : Prop :=
  True

def Pre_AdamFf2Ideal (m : (ℓ : Loc Cert.AdamFf2Ideal.nD Cert.AdamFf2Ideal.τ Cert.AdamFf2Ideal.sig) → Buf (Elt Ideal) ℓ) : Prop :=
  True

def Pre_AdamFf2RefIdeal (m : (ℓ : Loc Cert.AdamFf2RefIdeal.nD Cert.AdamFf2RefIdeal.τ Cert.AdamFf2RefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_scores [hPre_finite_scores : Cert.Pre_finite_scores.Facts] (m : (ℓ : Loc Cert.FwdIdeal.nD Cert.FwdIdeal.τ Cert.FwdIdeal.sig) → Buf (Elt Ideal) ℓ) : Prop :=
  ∀ c : Dev Cert.FwdIdeal.nD,
    (Cert.Pre_finite_scores.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_scores [hPre_finite_scores : Cert.Pre_finite_scores.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_scores.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_NormMixFwd (m : (ℓ : Loc Cert.NormMixFwd.nD Cert.NormMixFwd.τ Cert.NormMixFwd.sig) → Buf (Elt Bits) ℓ) : Prop :=
  True

def Pre_NormMixFwdIdeal (m : (ℓ : Loc Cert.NormMixFwdIdeal.nD Cert.NormMixFwdIdeal.τ Cert.NormMixFwdIdeal.sig) → Buf (Elt Ideal) ℓ) : Prop :=
  True

def Pre_NormMixFwdRefIdeal (m : (ℓ : Loc Cert.NormMixFwdRefIdeal.nD Cert.NormMixFwdRefIdeal.τ Cert.NormMixFwdRefIdeal.sig) → Buf (Elt Ideal) ℓ) : Prop :=
  True

def Pre_NormMlpFwd (m : (ℓ : Loc Cert.NormMlpFwd.nD Cert.NormMlpFwd.τ Cert.NormMlpFwd.sig) → Buf (Elt Bits) ℓ) : Prop :=
  True

def Pre_NormMlpFwdIdeal (m : (ℓ : Loc Cert.NormMlpFwdIdeal.nD Cert.NormMlpFwdIdeal.τ Cert.NormMlpFwdIdeal.sig) → Buf (Elt Ideal) ℓ) : Prop :=
  True

def Pre_NormMlpFwdRefIdeal (m : (ℓ : Loc Cert.NormMlpFwdRefIdeal.nD Cert.NormMlpFwdRefIdeal.τ Cert.NormMlpFwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamTiny (m : (ℓ : Loc Cert.AdamTiny.nD Cert.AdamTiny.τ Cert.AdamTiny.sig) → Buf (Elt Bits) ℓ) : Prop :=
  True

def Pre_AdamTinyIdeal (m : (ℓ : Loc Cert.AdamTinyIdeal.nD Cert.AdamTinyIdeal.τ Cert.AdamTinyIdeal.sig) → Buf (Elt Ideal) ℓ) : Prop :=
  True

def Pre_AdamTinyRefIdeal (m : (ℓ : Loc Cert.AdamTinyRefIdeal.nD Cert.AdamTinyRefIdeal.τ Cert.AdamTinyRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MlstmPost (m : (ℓ : Loc Cert.MlstmPost.nD Cert.MlstmPost.τ Cert.MlstmPost.sig) → Buf (Elt Bits) ℓ) : Prop :=
  True

def Pre_MlstmPostIdeal (m : (ℓ : Loc Cert.MlstmPostIdeal.nD Cert.MlstmPostIdeal.τ Cert.MlstmPostIdeal.sig) → Buf (Elt Ideal) ℓ) : Prop :=
  True

def Pre_MlstmPostRefIdeal (m : (ℓ : Loc Cert.MlstmPostRefIdeal.nD Cert.MlstmPostRefIdeal.τ Cert.MlstmPostRefIdeal.sig) → Buf (Elt Ideal) ℓ) : Prop :=
  True

def Pre_MlstmPostBwd (m : (ℓ : Loc Cert.MlstmPostBwd.nD Cert.MlstmPostBwd.τ Cert.MlstmPostBwd.sig) → Buf (Elt Bits) ℓ) : Prop :=
  True

def Pre_MlstmPostBwdIdeal (m : (ℓ : Loc Cert.MlstmPostBwdIdeal.nD Cert.MlstmPostBwdIdeal.τ Cert.MlstmPostBwdIdeal.sig) → Buf (Elt Ideal) ℓ) : Prop :=
  True

def Pre_MlstmPostBwdRefIdeal (m : (ℓ : Loc Cert.MlstmPostBwdRefIdeal.nD Cert.MlstmPostBwdRefIdeal.τ Cert.MlstmPostBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ r.2.sem = fun _ => 0)

def quiescent_DwFf2RefIdeal [hDwFf2RefIdeal : Cert.DwFf2RefIdeal.Facts] : Prop :=
  ∀ (m : (ℓ : Loc Cert.DwFf2RefIdeal.nD Cert.DwFf2RefIdeal.τ Cert.DwFf2RefIdeal.sig) → Buf (Elt Ideal) ℓ) (g : Dev Cert.DwFf2RefIdeal.nD → PrngReg), Pre_DwFf2RefIdeal m →
    θ_run (Cert.DwFf2RefIdeal.defs (F := Ideal)) (onTc (τ := Cert.DwFf2RefIdeal.τ) (Cert.DwFf2RefIdeal.main (F := Ideal))) ⟨m, fun _ => 0, g⟩ (fun r => (∀ c : Dev Cert.DwFf2RefIdeal.nD,
      r.2.mem ((c.tc : Thread Cert.DwFf2RefIdeal.nD Cert.DwFf2RefIdeal.τ).loc Cert.DwFf2RefIdeal.main_arg0) = m ((c.tc : Thread Cert.DwFf2RefIdeal.nD Cert.DwFf2RefIdeal.τ).loc Cert.DwFf2RefIdeal.main_arg0)
      ∧ r.2.mem ((c.tc : Thread Cert.DwFf2RefIdeal.nD Cert.DwFf2RefIdeal.τ).loc Cert.DwFf2RefIdeal.main_arg1) = m ((c.tc : Thread Cert.DwFf2RefIdeal.nD Cert.DwFf2RefIdeal.τ).loc Cert.DwFf2RefIdeal.main_arg1))
      ∧ r.2.sem = fun _ => 0)

def quiescent_DU [hDU : Cert.DU.Facts] : Prop :=
  ∀ (m : (ℓ : Loc Cert.DU.nD Cert.DU.τ Cert.DU.sig) → Buf (Elt Bits) ℓ) (g : Dev Cert.DU.nD → PrngReg), Pre_DU m →
    θ_run (Cert.DU.defs (F := Bits)) (onTc (τ := Cert.DU.τ) (Cert.DU.main (F := Bits))) ⟨m, fun _ => 0, g⟩ (fun r => (∀ c : Dev Cert.DU.nD,
      r.2.mem ((c.tc : Thread Cert.DU.nD Cert.DU.τ).loc Cert.DU.main_arg0) = m ((c.tc : Thread Cert.DU.nD Cert.DU.τ).loc Cert.DU.main_arg0)
      ∧ r.2.mem ((c.tc : Thread Cert.DU.nD Cert.DU.τ).loc Cert.DU.main_arg1) = m ((c.tc : Thread Cert.DU.nD Cert.DU.τ).loc Cert.DU.main_arg1)
      ∧ r.2.mem ((c.tc : Thread Cert.DU.nD Cert.DU.τ).loc Cert.DU.main_arg2) = m ((c.tc : Thread Cert.DU.nD Cert.DU.τ).loc Cert.DU.main_arg2))
      ∧ r.2.sem = fun _ => 0)

def quiescent_DUIdeal [hDUIdeal : Cert.DUIdeal.Facts] : Prop :=
  ∀ (m : (ℓ : Loc Cert.DUIdeal.nD Cert.DUIdeal.τ Cert.DUIdeal.sig) → Buf (Elt Ideal) ℓ) (g : Dev Cert.DUIdeal.nD → PrngReg), Pre_DUIdeal m →
    θ_run (Cert.DUIdeal.defs (F := Ideal)) (onTc (τ := Cert.DUIdeal.τ) (Cert.DUIdeal.main (F := Ideal))) ⟨m, fun _ => 0, g⟩ (fun r => (∀ c : Dev Cert.DUIdeal.nD,
      r.2.mem ((c.tc : Thread Cert.DUIdeal.nD Cert.DUIdeal.τ).loc Cert.DUIdeal.main_arg0) = m ((c.tc : Thread Cert.DUIdeal.nD Cert.DUIdeal.τ).loc Cert.DUIdeal.main_arg0)
      ∧ r.2.mem ((c.tc : Thread Cert.DUIdeal.nD Cert.DUIdeal.τ).loc Cert.DUIdeal.main_arg1) = m ((c.tc : Thread Cert.DUIdeal.nD Cert.DUIdeal.τ).loc Cert.DUIdeal.main_arg1)
      ∧ r.2.mem ((c.tc : Thread Cert.DUIdeal.nD Cert.DUIdeal.τ).loc Cert.DUIdeal.main_arg2) = m ((c.tc : Thread Cert.DUIdeal.nD Cert.DUIdeal.τ).loc Cert.DUIdeal.main_arg2))
      ∧ r.2.sem = fun _ => 0)

def quiescent_DURefIdeal [hDURefIdeal : Cert.DURefIdeal.Facts] : Prop :=
  ∀ (m : (ℓ : Loc Cert.DURefIdeal.nD Cert.DURefIdeal.τ Cert.DURefIdeal.sig) → Buf (Elt Ideal) ℓ) (g : Dev Cert.DURefIdeal.nD → PrngReg), Pre_DURefIdeal m →
    θ_run (Cert.DURefIdeal.defs (F := Ideal)) (onTc (τ := Cert.DURefIdeal.τ) (Cert.DURefIdeal.main (F := Ideal))) ⟨m, fun _ => 0, g⟩ (fun r => (∀ c : Dev Cert.DURefIdeal.nD,
      r.2.mem ((c.tc : Thread Cert.DURefIdeal.nD Cert.DURefIdeal.τ).loc Cert.DURefIdeal.main_arg0) = m ((c.tc : Thread Cert.DURefIdeal.nD Cert.DURefIdeal.τ).loc Cert.DURefIdeal.main_arg0)
      ∧ r.2.mem ((c.tc : Thread Cert.DURefIdeal.nD Cert.DURefIdeal.τ).loc Cert.DURefIdeal.main_arg1) = m ((c.tc : Thread Cert.DURefIdeal.nD Cert.DURefIdeal.τ).loc Cert.DURefIdeal.main_arg1)
      ∧ r.2.mem ((c.tc : Thread Cert.DURefIdeal.nD Cert.DURefIdeal.τ).loc Cert.DURefIdeal.main_arg2) = m ((c.tc : Thread Cert.DURefIdeal.nD Cert.DURefIdeal.τ).loc Cert.DURefIdeal.main_arg2))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ r.2.sem = fun _ => 0)

def quiescent_DwFf1RefIdeal [hDwFf1RefIdeal : Cert.DwFf1RefIdeal.Facts] : Prop :=
  ∀ (m : (ℓ : Loc Cert.DwFf1RefIdeal.nD Cert.DwFf1RefIdeal.τ Cert.DwFf1RefIdeal.sig) → Buf (Elt Ideal) ℓ) (g : Dev Cert.DwFf1RefIdeal.nD → PrngReg), Pre_DwFf1RefIdeal m →
    θ_run (Cert.DwFf1RefIdeal.defs (F := Ideal)) (onTc (τ := Cert.DwFf1RefIdeal.τ) (Cert.DwFf1RefIdeal.main (F := Ideal))) ⟨m, fun _ => 0, g⟩ (fun r => (∀ c : Dev Cert.DwFf1RefIdeal.nD,
      r.2.mem ((c.tc : Thread Cert.DwFf1RefIdeal.nD Cert.DwFf1RefIdeal.τ).loc Cert.DwFf1RefIdeal.main_arg0) = m ((c.tc : Thread Cert.DwFf1RefIdeal.nD Cert.DwFf1RefIdeal.τ).loc Cert.DwFf1RefIdeal.main_arg0)
      ∧ r.2.mem ((c.tc : Thread Cert.DwFf1RefIdeal.nD Cert.DwFf1RefIdeal.τ).loc Cert.DwFf1RefIdeal.main_arg1) = m ((c.tc : Thread Cert.DwFf1RefIdeal.nD Cert.DwFf1RefIdeal.τ).loc Cert.DwFf1RefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DCat [hDCat : Cert.DCat.Facts] : Prop :=
  ∀ (m : (ℓ : Loc Cert.DCat.nD Cert.DCat.τ Cert.DCat.sig) → Buf (Elt Bits) ℓ) (g : Dev Cert.DCat.nD → PrngReg), Pre_DCat m →
    θ_run (Cert.DCat.defs (F := Bits)) (onTc (τ := Cert.DCat.τ) (Cert.DCat.main (F := Bits))) ⟨m, fun _ => 0, g⟩ (fun r => (∀ c : Dev Cert.DCat.nD,
      r.2.mem ((c.tc : Thread Cert.DCat.nD Cert.DCat.τ).loc Cert.DCat.main_arg0) = m ((c.tc : Thread Cert.DCat.nD Cert.DCat.τ).loc Cert.DCat.main_arg0)
      ∧ r.2.mem ((c.tc : Thread Cert.DCat.nD Cert.DCat.τ).loc Cert.DCat.main_arg1) = m ((c.tc : Thread Cert.DCat.nD Cert.DCat.τ).loc Cert.DCat.main_arg1))
      ∧ r.2.sem = fun _ => 0)

def quiescent_DCatIdeal [hDCatIdeal : Cert.DCatIdeal.Facts] : Prop :=
  ∀ (m : (ℓ : Loc Cert.DCatIdeal.nD Cert.DCatIdeal.τ Cert.DCatIdeal.sig) → Buf (Elt Ideal) ℓ) (g : Dev Cert.DCatIdeal.nD → PrngReg), Pre_DCatIdeal m →
    θ_run (Cert.DCatIdeal.defs (F := Ideal)) (onTc (τ := Cert.DCatIdeal.τ) (Cert.DCatIdeal.main (F := Ideal))) ⟨m, fun _ => 0, g⟩ (fun r => (∀ c : Dev Cert.DCatIdeal.nD,
      r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
      ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ r.2.sem = fun _ => 0)

def quiescent_DCatRefIdeal [hDCatRefIdeal : Cert.DCatRefIdeal.Facts] : Prop :=
  ∀ (m : (ℓ : Loc Cert.DCatRefIdeal.nD Cert.DCatRefIdeal.τ Cert.DCatRefIdeal.sig) → Buf (Elt Ideal) ℓ) (g : Dev Cert.DCatRefIdeal.nD → PrngReg), Pre_DCatRefIdeal m →
    θ_run (Cert.DCatRefIdeal.defs (F := Ideal)) (onTc (τ := Cert.DCatRefIdeal.τ) (Cert.DCatRefIdeal.main (F := Ideal))) ⟨m, fun _ => 0, g⟩ (fun r => (∀ c : Dev Cert.DCatRefIdeal.nD,
      r.2.mem ((c.tc : Thread Cert.DCatRefIdeal.nD Cert.DCatRefIdeal.τ).loc Cert.DCatRefIdeal.main_arg0) = m ((c.tc : Thread Cert.DCatRefIdeal.nD Cert.DCatRefIdeal.τ).loc Cert.DCatRefIdeal.main_arg0)
      ∧ r.2.mem ((c.tc : Thread Cert.DCatRefIdeal.nD Cert.DCatRefIdeal.τ).loc Cert.DCatRefIdeal.main_arg1) = m ((c.tc : Thread Cert.DCatRefIdeal.nD Cert.DCatRefIdeal.τ).loc Cert.DCatRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2)
      ∧ r.2.mem ((c.tc : Thread Cert.NormMix.nD Cert.NormMix.τ).loc Cert.NormMix.main_arg3) = m ((c.tc : Thread Cert.NormMix.nD Cert.NormMix.τ).loc Cert.NormMix.main_arg3)
      ∧ r.2.mem ((c.tc : Thread Cert.NormMix.nD Cert.NormMix.τ).loc Cert.NormMix.main_arg4) = m ((c.tc : Thread Cert.NormMix.nD Cert.NormMix.τ).loc Cert.NormMix.main_arg4)
      ∧ r.2.mem ((c.tc : Thread Cert.NormMix.nD Cert.NormMix.τ).loc Cert.NormMix.main_arg5) = m ((c.tc : Thread Cert.NormMix.nD Cert.NormMix.τ).loc Cert.NormMix.main_arg5))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
      ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4)
      ∧ r.2.mem ((c.tc : Thread Cert.NormMixRefIdeal.nD Cert.NormMixRefIdeal.τ).loc Cert.NormMixRefIdeal.main_arg5) = m ((c.tc : Thread Cert.NormMixRefIdeal.nD Cert.NormMixRefIdeal.τ).loc Cert.NormMixRefIdeal.main_arg5))
      ∧ r.2.sem = fun _ => 0)

def quiescent_NormMlp [hNormMlp : Cert.NormMlp.Facts] : Prop :=
  ∀ (m : (ℓ : Loc Cert.NormMlp.nD Cert.NormMlp.τ Cert.NormMlp.sig) → Buf (Elt Bits) ℓ) (g : Dev Cert.NormMlp.nD → PrngReg), Pre_NormMlp m →
    θ_run (Cert.NormMlp.defs (F := Bits)) (onTc (τ := Cert.NormMlp.τ) (Cert.NormMlp.main (F := Bits))) ⟨m, fun _ => 0, g⟩ (fun r => (∀ c : Dev Cert.NormMlp.nD,
      r.2.mem ((c.tc : Thread Cert.NormMlp.nD Cert.NormMlp.τ).loc Cert.NormMlp.main_arg0) = m ((c.tc : Thread Cert.NormMlp.nD Cert.NormMlp.τ).loc Cert.NormMlp.main_arg0)
      ∧ r.2.mem ((c.tc : Thread Cert.NormMlp.nD Cert.NormMlp.τ).loc Cert.NormMlp.main_arg1) = m ((c.tc : Thread Cert.NormMlp.nD Cert.NormMlp.τ).loc Cert.NormMlp.main_arg1)
      ∧ r.2.mem ((c.tc : Thread Cert.NormMlp.nD Cert.NormMlp.τ).loc Cert.NormMlp.main_arg2) = m ((c.tc : Thread Cert.NormMlp.nD Cert.NormMlp.τ).loc Cert.NormMlp.main_arg2)
      ∧ r.2.mem ((c.tc : Thread Cert.NormMlp.nD Cert.NormMlp.τ).loc Cert.NormMlp.main_arg3) = m ((c.tc : Thread Cert.NormMlp.nD Cert.NormMlp.τ).loc Cert.NormMlp.main_arg3)
      ∧ r.2.mem ((c.tc : Thread Cert.NormMlp.nD Cert.NormMlp.τ).loc Cert.NormMlp.main_arg4) = m ((c.tc : Thread Cert.NormMlp.nD Cert.NormMlp.τ).loc Cert.NormMlp.main_arg4)
      ∧ r.2.mem ((c.tc : Thread Cert.NormMlp.nD Cert.NormMlp.τ).loc Cert.NormMlp.main_arg5) = m ((c.tc : Thread Cert.NormMlp.nD Cert.NormMlp.τ).loc Cert.NormMlp.main_arg5)
      ∧ r.2.mem ((c.tc : Thread Cert.NormMlp.nD Cert.NormMlp.τ).loc Cert.NormMlp.main_arg6) = m ((c.tc : Thread Cert.NormMlp.nD Cert.NormMlp.τ).loc Cert.NormMlp.main_arg6)
      ∧ r.2.mem ((c.tc : Thread Cert.NormMlp.nD Cert.NormMlp.τ).loc Cert.NormMlp.main_arg7) = m ((c.tc : Thread Cert.NormMlp.nD Cert.NormMlp.τ).loc Cert.NormMlp.main_arg7))
      ∧ r.2.sem = fun _ => 0)

def quiescent_NormMlpIdeal [hNormMlpIdeal : Cert.NormMlpIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg), Pre_NormMlpIdeal m →
    θ_run (Cert.NormMlpIdeal.defs (F := Ideal)) (onTc (τ := Cert.NormMlpIdeal.τ) (Cert.NormMlpIdeal.main (F := Ideal))) ⟨m, fun _ => 0, g⟩ (fun r => (∀ c : Dev Cert.NormMlpIdeal.nD,
      r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
      ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1)
      ∧ r.2.mem ((c.tc : Thread Cert.NormMlpIdeal.nD Cert.NormMlpIdeal.τ).loc Cert.NormMlpIdeal.main_arg2) = m ((c.tc : Thread Cert.NormMlpIdeal.nD Cert.NormMlpIdeal.τ).loc Cert.NormMlpIdeal.main_arg2)
      ∧ r.2.mem ((c.tc : Thread Cert.NormMlpIdeal.nD Cert.NormMlpIdeal.τ).loc Cert.NormMlpIdeal.main_arg3) = m ((c.tc : Thread Cert.NormMlpIdeal.nD Cert.NormMlpIdeal.τ).loc Cert.NormMlpIdeal.main_arg3)
      ∧ r.2.mem ((c.tc : Thread Cert.NormMlpIdeal.nD Cert.NormMlpIdeal.τ).loc Cert.NormMlpIdeal.main_arg4) = m ((c.tc : Thread Cert.NormMlpIdeal.nD Cert.NormMlpIdeal.τ).loc Cert.NormMlpIdeal.main_arg4)
      ∧ r.2.mem ((c.tc : Thread Cert.NormMlpIdeal.nD Cert.NormMlpIdeal.τ).loc Cert.NormMlpIdeal.main_arg5) = m ((c.tc : Thread Cert.NormMlpIdeal.nD Cert.NormMlpIdeal.τ).loc Cert.NormMlpIdeal.main_arg5)
      ∧ r.2.mem ((c.tc : Thread Cert.NormMlpIdeal.nD Cert.NormMlpIdeal.τ).loc Cert.NormMlpIdeal.main_arg6) = m ((c.tc : Thread Cert.NormMlpIdeal.nD Cert.NormMlpIdeal.τ).loc Cert.NormMlpIdeal.main_arg6)
      ∧ r.2.mem ((c.tc : Thread Cert.NormMlpIdeal.nD Cert.NormMlpIdeal.τ).loc Cert.NormMlpIdeal.main_arg7) = m ((c.tc : Thread Cert.NormMlpIdeal.nD Cert.NormMlpIdeal.τ).loc Cert.NormMlpIdeal.main_arg7))
      ∧ r.2.sem = fun _ => 0)

def quiescent_NormMlpRefIdeal [hNormMlpRefIdeal : Cert.NormMlpRefIdeal.Facts] : Prop :=
  ∀ (m : (ℓ : Loc Cert.NormMlpRefIdeal.nD Cert.NormMlpRefIdeal.τ Cert.NormMlpRefIdeal.sig) → Buf (Elt Ideal) ℓ) (g : Dev Cert.NormMlpRefIdeal.nD → PrngReg), Pre_NormMlpRefIdeal m →
    θ_run (Cert.NormMlpRefIdeal.defs (F := Ideal)) (onTc (τ := Cert.NormMlpRefIdeal.τ) (Cert.NormMlpRefIdeal.main (F := Ideal))) ⟨m, fun _ => 0, g⟩ (fun r => (∀ c : Dev Cert.NormMlpRefIdeal.nD,
      r.2.mem ((c.tc : Thread Cert.NormMlpRefIdeal.nD Cert.NormMlpRefIdeal.τ).loc Cert.NormMlpRefIdeal.main_arg0) = m ((c.tc : Thread Cert.NormMlpRefIdeal.nD Cert.NormMlpRefIdeal.τ).loc Cert.NormMlpRefIdeal.main_arg0)
      ∧ r.2.mem ((c.tc : Thread Cert.NormMlpRefIdeal.nD Cert.NormMlpRefIdeal.τ).loc Cert.NormMlpRefIdeal.main_arg1) = m ((c.tc : Thread Cert.NormMlpRefIdeal.nD Cert.NormMlpRefIdeal.τ).loc Cert.NormMlpRefIdeal.main_arg1)
      ∧ r.2.mem ((c.tc : Thread Cert.NormMlpRefIdeal.nD Cert.NormMlpRefIdeal.τ).loc Cert.NormMlpRefIdeal.main_arg2) = m ((c.tc : Thread Cert.NormMlpRefIdeal.nD Cert.NormMlpRefIdeal.τ).loc Cert.NormMlpRefIdeal.main_arg2)
      ∧ r.2.mem ((c.tc : Thread Cert.NormMlpRefIdeal.nD Cert.NormMlpRefIdeal.τ).loc Cert.NormMlpRefIdeal.main_arg3) = m ((c.tc : Thread Cert.NormMlpRefIdeal.nD Cert.NormMlpRefIdeal.τ).loc Cert.NormMlpRefIdeal.main_arg3)
      ∧ r.2.mem ((c.tc : Thread Cert.NormMlpRefIdeal.nD Cert.NormMlpRefIdeal.τ).loc Cert.NormMlpRefIdeal.main_arg4) = m ((c.tc : Thread Cert.NormMlpRefIdeal.nD Cert.NormMlpRefIdeal.τ).loc Cert.NormMlpRefIdeal.main_arg4)
      ∧ r.2.mem ((c.tc : Thread Cert.NormMlpRefIdeal.nD Cert.NormMlpRefIdeal.τ).loc Cert.NormMlpRefIdeal.main_arg5) = m ((c.tc : Thread Cert.NormMlpRefIdeal.nD Cert.NormMlpRefIdeal.τ).loc Cert.NormMlpRefIdeal.main_arg5)
      ∧ r.2.mem ((c.tc : Thread Cert.NormMlpRefIdeal.nD Cert.NormMlpRefIdeal.τ).loc Cert.NormMlpRefIdeal.main_arg6) = m ((c.tc : Thread Cert.NormMlpRefIdeal.nD Cert.NormMlpRefIdeal.τ).loc Cert.NormMlpRefIdeal.main_arg6)
      ∧ r.2.mem ((c.tc : Thread Cert.NormMlpRefIdeal.nD Cert.NormMlpRefIdeal.τ).loc Cert.NormMlpRefIdeal.main_arg7) = m ((c.tc : Thread Cert.NormMlpRefIdeal.nD Cert.NormMlpRefIdeal.τ).loc Cert.NormMlpRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6)
      ∧ r.2.mem ((c.tc : Thread Cert.AdamInRefIdeal.nD Cert.AdamInRefIdeal.τ).loc Cert.AdamInRefIdeal.main_arg7) = m ((c.tc : Thread Cert.AdamInRefIdeal.nD Cert.AdamInRefIdeal.τ).loc Cert.AdamInRefIdeal.main_arg7))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6)
      ∧ r.2.mem ((c.tc : Thread Cert.AdamOutRefIdeal.nD Cert.AdamOutRefIdeal.τ).loc Cert.AdamOutRefIdeal.main_arg7) = m ((c.tc : Thread Cert.AdamOutRefIdeal.nD Cert.AdamOutRefIdeal.τ).loc Cert.AdamOutRefIdeal.main_arg7))
      ∧ r.2.sem = fun _ => 0)

def quiescent_AdamFf1 [hAdamFf1 : Cert.AdamFf1.Facts] : Prop :=
  ∀ (m : (ℓ : Loc Cert.AdamFf1.nD Cert.AdamFf1.τ Cert.AdamFf1.sig) → Buf (Elt Bits) ℓ) (g : Dev Cert.AdamFf1.nD → PrngReg), Pre_AdamFf1 m →
    θ_run (Cert.AdamFf1.defs (F := Bits)) (onTc (τ := Cert.AdamFf1.τ) (Cert.AdamFf1.main (F := Bits))) ⟨m, fun _ => 0, g⟩ (fun r => (∀ c : Dev Cert.AdamFf1.nD,
      r.2.mem ((c.tc : Thread Cert.AdamFf1.nD Cert.AdamFf1.τ).loc Cert.AdamFf1.main_arg0) = m ((c.tc : Thread Cert.AdamFf1.nD Cert.AdamFf1.τ).loc Cert.AdamFf1.main_arg0)
      ∧ r.2.mem ((c.tc : Thread Cert.AdamFf1.nD Cert.AdamFf1.τ).loc Cert.AdamFf1.main_arg1) = m ((c.tc : Thread Cert.AdamFf1.nD Cert.AdamFf1.τ).loc Cert.AdamFf1.main_arg1)
      ∧ r.2.mem ((c.tc : Thread Cert.AdamFf1.nD Cert.AdamFf1.τ).loc Cert.AdamFf1.main_arg2) = m ((c.tc : Thread Cert.AdamFf1.nD Cert.AdamFf1.τ).loc Cert.AdamFf1.main_arg2)
      ∧ r.2.mem ((c.tc : Thread Cert.AdamFf1.nD Cert.AdamFf1.τ).loc Cert.AdamFf1.main_arg3) = m ((c.tc : Thread Cert.AdamFf1.nD Cert.AdamFf1.τ).loc Cert.AdamFf1.main_arg3)
      ∧ r.2.mem ((c.tc : Thread Cert.AdamFf1.nD Cert.AdamFf1.τ).loc Cert.AdamFf1.main_arg4) = m ((c.tc : Thread Cert.AdamFf1.nD Cert.AdamFf1.τ).loc Cert.AdamFf1.main_arg4)
      ∧ r.2.mem ((c.tc : Thread Cert.AdamFf1.nD Cert.AdamFf1.τ).loc Cert.AdamFf1.main_arg5) = m ((c.tc : Thread Cert.AdamFf1.nD Cert.AdamFf1.τ).loc Cert.AdamFf1.main_arg5)
      ∧ r.2.mem ((c.tc : Thread Cert.AdamFf1.nD Cert.AdamFf1.τ).loc Cert.AdamFf1.main_arg6) = m ((c.tc : Thread Cert.AdamFf1.nD Cert.AdamFf1.τ).loc Cert.AdamFf1.main_arg6)
      ∧ r.2.mem ((c.tc : Thread Cert.AdamFf1.nD Cert.AdamFf1.τ).loc Cert.AdamFf1.main_arg7) = m ((c.tc : Thread Cert.AdamFf1.nD Cert.AdamFf1.τ).loc Cert.AdamFf1.main_arg7))
      ∧ r.2.sem = fun _ => 0)

def quiescent_AdamFf1Ideal [hAdamFf1Ideal : Cert.AdamFf1Ideal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg), Pre_AdamFf1Ideal m →
    θ_run (Cert.AdamFf1Ideal.defs (F := Ideal)) (onTc (τ := Cert.AdamFf1Ideal.τ) (Cert.AdamFf1Ideal.main (F := Ideal))) ⟨m, fun _ => 0, g⟩ (fun r => (∀ c : Dev Cert.AdamFf1Ideal.nD,
      r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
      ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
      ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
      ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3)
      ∧ r.2.mem ((c.tc : Thread Cert.AdamFf1Ideal.nD Cert.AdamFf1Ideal.τ).loc Cert.AdamFf1Ideal.main_arg4) = m ((c.tc : Thread Cert.AdamFf1Ideal.nD Cert.AdamFf1Ideal.τ).loc Cert.AdamFf1Ideal.main_arg4)
      ∧ r.2.mem ((c.tc : Thread Cert.AdamFf1Ideal.nD Cert.AdamFf1Ideal.τ).loc Cert.AdamFf1Ideal.main_arg5) = m ((c.tc : Thread Cert.AdamFf1Ideal.nD Cert.AdamFf1Ideal.τ).loc Cert.AdamFf1Ideal.main_arg5)
      ∧ r.2.mem ((c.tc : Thread Cert.AdamFf1Ideal.nD Cert.AdamFf1Ideal.τ).loc Cert.AdamFf1Ideal.main_arg6) = m ((c.tc : Thread Cert.AdamFf1Ideal.nD Cert.AdamFf1Ideal.τ).loc Cert.AdamFf1Ideal.main_arg6)
      ∧ r.2.mem ((c.tc : Thread Cert.AdamFf1Ideal.nD Cert.AdamFf1Ideal.τ).loc Cert.AdamFf1Ideal.main_arg7) = m ((c.tc : Thread Cert.AdamFf1Ideal.nD Cert.AdamFf1Ideal.τ).loc Cert.AdamFf1Ideal.main_arg7))
      ∧ r.2.sem = fun _ => 0)

def quiescent_AdamFf1RefIdeal [hAdamFf1RefIdeal : Cert.AdamFf1RefIdeal.Facts] : Prop :=
  ∀ (m : (ℓ : Loc Cert.AdamFf1RefIdeal.nD Cert.AdamFf1RefIdeal.τ Cert.AdamFf1RefIdeal.sig) → Buf (Elt Ideal) ℓ) (g : Dev Cert.AdamFf1RefIdeal.nD → PrngReg), Pre_AdamFf1RefIdeal m →
    θ_run (Cert.AdamFf1RefIdeal.defs (F := Ideal)) (onTc (τ := Cert.AdamFf1RefIdeal.τ) (Cert.AdamFf1RefIdeal.main (F := Ideal))) ⟨m, fun _ => 0, g⟩ (fun r => (∀ c : Dev Cert.AdamFf1RefIdeal.nD,
      r.2.mem ((c.tc : Thread Cert.AdamFf1RefIdeal.nD Cert.AdamFf1RefIdeal.τ).loc Cert.AdamFf1RefIdeal.main_arg0) = m ((c.tc : Thread Cert.AdamFf1RefIdeal.nD Cert.AdamFf1RefIdeal.τ).loc Cert.AdamFf1RefIdeal.main_arg0)
      ∧ r.2.mem ((c.tc : Thread Cert.AdamFf1RefIdeal.nD Cert.AdamFf1RefIdeal.τ).loc Cert.AdamFf1RefIdeal.main_arg1) = m ((c.tc : Thread Cert.AdamFf1RefIdeal.nD Cert.AdamFf1RefIdeal.τ).loc Cert.AdamFf1RefIdeal.main_arg1)
      ∧ r.2.mem ((c.tc : Thread Cert.AdamFf1RefIdeal.nD Cert.AdamFf1RefIdeal.τ).loc Cert.AdamFf1RefIdeal.main_arg2) = m ((c.tc : Thread Cert.AdamFf1RefIdeal.nD Cert.AdamFf1RefIdeal.τ).loc Cert.AdamFf1RefIdeal.main_arg2)
      ∧ r.2.mem ((c.tc : Thread Cert.AdamFf1RefIdeal.nD Cert.AdamFf1RefIdeal.τ).loc Cert.AdamFf1RefIdeal.main_arg3) = m ((c.tc : Thread Cert.AdamFf1RefIdeal.nD Cert.AdamFf1RefIdeal.τ).loc Cert.AdamFf1RefIdeal.main_arg3)
      ∧ r.2.mem ((c.tc : Thread Cert.AdamFf1RefIdeal.nD Cert.AdamFf1RefIdeal.τ).loc Cert.AdamFf1RefIdeal.main_arg4) = m ((c.tc : Thread Cert.AdamFf1RefIdeal.nD Cert.AdamFf1RefIdeal.τ).loc Cert.AdamFf1RefIdeal.main_arg4)
      ∧ r.2.mem ((c.tc : Thread Cert.AdamFf1RefIdeal.nD Cert.AdamFf1RefIdeal.τ).loc Cert.AdamFf1RefIdeal.main_arg5) = m ((c.tc : Thread Cert.AdamFf1RefIdeal.nD Cert.AdamFf1RefIdeal.τ).loc Cert.AdamFf1RefIdeal.main_arg5)
      ∧ r.2.mem ((c.tc : Thread Cert.AdamFf1RefIdeal.nD Cert.AdamFf1RefIdeal.τ).loc Cert.AdamFf1RefIdeal.main_arg6) = m ((c.tc : Thread Cert.AdamFf1RefIdeal.nD Cert.AdamFf1RefIdeal.τ).loc Cert.AdamFf1RefIdeal.main_arg6)
      ∧ r.2.mem ((c.tc : Thread Cert.AdamFf1RefIdeal.nD Cert.AdamFf1RefIdeal.τ).loc Cert.AdamFf1RefIdeal.main_arg7) = m ((c.tc : Thread Cert.AdamFf1RefIdeal.nD Cert.AdamFf1RefIdeal.τ).loc Cert.AdamFf1RefIdeal.main_arg7))
      ∧ r.2.sem = fun _ => 0)

def quiescent_AdamFf2 [hAdamFf2 : Cert.AdamFf2.Facts] : Prop :=
  ∀ (m : (ℓ : Loc Cert.AdamFf2.nD Cert.AdamFf2.τ Cert.AdamFf2.sig) → Buf (Elt Bits) ℓ) (g : Dev Cert.AdamFf2.nD → PrngReg), Pre_AdamFf2 m →
    θ_run (Cert.AdamFf2.defs (F := Bits)) (onTc (τ := Cert.AdamFf2.τ) (Cert.AdamFf2.main (F := Bits))) ⟨m, fun _ => 0, g⟩ (fun r => (∀ c : Dev Cert.AdamFf2.nD,
      r.2.mem ((c.tc : Thread Cert.AdamFf2.nD Cert.AdamFf2.τ).loc Cert.AdamFf2.main_arg0) = m ((c.tc : Thread Cert.AdamFf2.nD Cert.AdamFf2.τ).loc Cert.AdamFf2.main_arg0)
      ∧ r.2.mem ((c.tc : Thread Cert.AdamFf2.nD Cert.AdamFf2.τ).loc Cert.AdamFf2.main_arg1) = m ((c.tc : Thread Cert.AdamFf2.nD Cert.AdamFf2.τ).loc Cert.AdamFf2.main_arg1)
      ∧ r.2.mem ((c.tc : Thread Cert.AdamFf2.nD Cert.AdamFf2.τ).loc Cert.AdamFf2.main_arg2) = m ((c.tc : Thread Cert.AdamFf2.nD Cert.AdamFf2.τ).loc Cert.AdamFf2.main_arg2)
      ∧ r.2.mem ((c.tc : Thread Cert.AdamFf2.nD Cert.AdamFf2.τ).loc Cert.AdamFf2.main_arg3) = m ((c.tc : Thread Cert.AdamFf2.nD Cert.AdamFf2.τ).loc Cert.AdamFf2.main_arg3)
      ∧ r.2.mem ((c.tc : Thread Cert.AdamFf2.nD Cert.AdamFf2.τ).loc Cert.AdamFf2.main_arg4) = m ((c.tc : Thread Cert.AdamFf2.nD Cert.AdamFf2.τ).loc Cert.AdamFf2.main_arg4)
      ∧ r.2.mem ((c.tc : Thread Cert.AdamFf2.nD Cert.AdamFf2.τ).loc Cert.AdamFf2.main_arg5) = m ((c.tc : Thread Cert.AdamFf2.nD Cert.AdamFf2.τ).loc Cert.AdamFf2.main_arg5)
      ∧ r.2.mem ((c.tc : Thread Cert.AdamFf2.nD Cert.AdamFf2.τ).loc Cert.AdamFf2.main_arg6) = m ((c.tc : Thread Cert.AdamFf2.nD Cert.AdamFf2.τ).loc Cert.AdamFf2.main_arg6)
      ∧ r.2.mem ((c.tc : Thread Cert.AdamFf2.nD Cert.AdamFf2.τ).loc Cert.AdamFf2.main_arg7) = m ((c.tc : Thread Cert.AdamFf2.nD Cert.AdamFf2.τ).loc Cert.AdamFf2.main_arg7))
      ∧ r.2.sem = fun _ => 0)

def quiescent_AdamFf2Ideal [hAdamFf2Ideal : Cert.AdamFf2Ideal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg), Pre_AdamFf2Ideal m →
    θ_run (Cert.AdamFf2Ideal.defs (F := Ideal)) (onTc (τ := Cert.AdamFf2Ideal.τ) (Cert.AdamFf2Ideal.main (F := Ideal))) ⟨m, fun _ => 0, g⟩ (fun r => (∀ c : Dev Cert.AdamFf2Ideal.nD,
      r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
      ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
      ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
      ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3)
      ∧ r.2.mem ((c.tc : Thread Cert.AdamFf2Ideal.nD Cert.AdamFf2Ideal.τ).loc Cert.AdamFf2Ideal.main_arg4) = m ((c.tc : Thread Cert.AdamFf2Ideal.nD Cert.AdamFf2Ideal.τ).loc Cert.AdamFf2Ideal.main_arg4)
      ∧ r.2.mem ((c.tc : Thread Cert.AdamFf2Ideal.nD Cert.AdamFf2Ideal.τ).loc Cert.AdamFf2Ideal.main_arg5) = m ((c.tc : Thread Cert.AdamFf2Ideal.nD Cert.AdamFf2Ideal.τ).loc Cert.AdamFf2Ideal.main_arg5)
      ∧ r.2.mem ((c.tc : Thread Cert.AdamFf2Ideal.nD Cert.AdamFf2Ideal.τ).loc Cert.AdamFf2Ideal.main_arg6) = m ((c.tc : Thread Cert.AdamFf2Ideal.nD Cert.AdamFf2Ideal.τ).loc Cert.AdamFf2Ideal.main_arg6)
      ∧ r.2.mem ((c.tc : Thread Cert.AdamFf2Ideal.nD Cert.AdamFf2Ideal.τ).loc Cert.AdamFf2Ideal.main_arg7) = m ((c.tc : Thread Cert.AdamFf2Ideal.nD Cert.AdamFf2Ideal.τ).loc Cert.AdamFf2Ideal.main_arg7))
      ∧ r.2.sem = fun _ => 0)

def quiescent_AdamFf2RefIdeal [hAdamFf2RefIdeal : Cert.AdamFf2RefIdeal.Facts] : Prop :=
  ∀ (m : (ℓ : Loc Cert.AdamFf2RefIdeal.nD Cert.AdamFf2RefIdeal.τ Cert.AdamFf2RefIdeal.sig) → Buf (Elt Ideal) ℓ) (g : Dev Cert.AdamFf2RefIdeal.nD → PrngReg), Pre_AdamFf2RefIdeal m →
    θ_run (Cert.AdamFf2RefIdeal.defs (F := Ideal)) (onTc (τ := Cert.AdamFf2RefIdeal.τ) (Cert.AdamFf2RefIdeal.main (F := Ideal))) ⟨m, fun _ => 0, g⟩ (fun r => (∀ c : Dev Cert.AdamFf2RefIdeal.nD,
      r.2.mem ((c.tc : Thread Cert.AdamFf2RefIdeal.nD Cert.AdamFf2RefIdeal.τ).loc Cert.AdamFf2RefIdeal.main_arg0) = m ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m ((c.tc : Thread Cert.AdamFf2RefIdeal.nD Cert.AdamFf2RefIdeal.τ).loc Cert.AdamFf2RefIdeal.main_arg3)
      ∧ r.2.mem ((c.tc : Thread Cert.AdamFf2RefIdeal.nD Cert.AdamFf2RefIdeal.τ).loc Cert.AdamFf2RefIdeal.main_arg4) = m ((c.tc : Thread Cert.AdamFf2RefIdeal.nD Cert.AdamFf2RefIdeal.τ).loc Cert.AdamFf2RefIdeal.main_arg4)
      ∧ r.2.mem ((c.tc : Thread Cert.AdamFf2RefIdeal.nD Cert.AdamFf2RefIdeal.τ).loc Cert.AdamFf2RefIdeal.main_arg5) = m ((c.tc : Thread Cert.AdamFf2RefIdeal.nD Cert.AdamFf2RefIdeal.τ).loc Cert.AdamFf2RefIdeal.main_arg5)
      ∧ r.2.mem ((c.tc : Thread Cert.AdamFf2RefIdeal.nD Cert.AdamFf2RefIdeal.τ).loc Cert.AdamFf2RefIdeal.main_arg6) = m ((c.tc : Thread Cert.AdamFf2RefIdeal.nD Cert.AdamFf2RefIdeal.τ).loc Cert.AdamFf2RefIdeal.main_arg6)
      ∧ r.2.mem ((c.tc : Thread Cert.AdamFf2RefIdeal.nD Cert.AdamFf2RefIdeal.τ).loc Cert.AdamFf2RefIdeal.main_arg7) = m ((c.tc : Thread Cert.AdamFf2RefIdeal.nD Cert.AdamFf2RefIdeal.τ).loc Cert.AdamFf2RefIdeal.main_arg7))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_scores [hFwdIdeal : Cert.FwdIdeal.Facts] [hPre_finite_scores : Cert.Pre_finite_scores.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_scores m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_scores [hFwdRefIdeal : Cert.FwdRefIdeal.Facts] [hPre_finite_scores : Cert.Pre_finite_scores.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_scores m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_NormMixFwd [hNormMixFwd : Cert.NormMixFwd.Facts] : Prop :=
  ∀ (m : (ℓ : Loc Cert.NormMixFwd.nD Cert.NormMixFwd.τ Cert.NormMixFwd.sig) → Buf (Elt Bits) ℓ) (g : Dev Cert.NormMixFwd.nD → PrngReg), Pre_NormMixFwd m →
    θ_run (Cert.NormMixFwd.defs (F := Bits)) (onTc (τ := Cert.NormMixFwd.τ) (Cert.NormMixFwd.main (F := Bits))) ⟨m, fun _ => 0, g⟩ (fun r => (∀ c : Dev Cert.NormMixFwd.nD,
      r.2.mem ((c.tc : Thread Cert.NormMixFwd.nD Cert.NormMixFwd.τ).loc Cert.NormMixFwd.main_arg0) = m ((c.tc : Thread Cert.NormMixFwd.nD Cert.NormMixFwd.τ).loc Cert.NormMixFwd.main_arg0)
      ∧ r.2.mem ((c.tc : Thread Cert.NormMixFwd.nD Cert.NormMixFwd.τ).loc Cert.NormMixFwd.main_arg1) = m ((c.tc : Thread Cert.NormMixFwd.nD Cert.NormMixFwd.τ).loc Cert.NormMixFwd.main_arg1)
      ∧ r.2.mem ((c.tc : Thread Cert.NormMixFwd.nD Cert.NormMixFwd.τ).loc Cert.NormMixFwd.main_arg2) = m ((c.tc : Thread Cert.NormMixFwd.nD Cert.NormMixFwd.τ).loc Cert.NormMixFwd.main_arg2)
      ∧ r.2.mem ((c.tc : Thread Cert.NormMixFwd.nD Cert.NormMixFwd.τ).loc Cert.NormMixFwd.main_arg3) = m ((c.tc : Thread Cert.NormMixFwd.nD Cert.NormMixFwd.τ).loc Cert.NormMixFwd.main_arg3))
      ∧ r.2.sem = fun _ => 0)

def quiescent_NormMixFwdIdeal [hNormMixFwdIdeal : Cert.NormMixFwdIdeal.Facts] : Prop :=
  ∀ (m : (ℓ : Loc Cert.NormMixFwdIdeal.nD Cert.NormMixFwdIdeal.τ Cert.NormMixFwdIdeal.sig) → Buf (Elt Ideal) ℓ) (g : Dev Cert.NormMixFwdIdeal.nD → PrngReg), Pre_NormMixFwdIdeal m →
    θ_run (Cert.NormMixFwdIdeal.defs (F := Ideal)) (onTc (τ := Cert.NormMixFwdIdeal.τ) (Cert.NormMixFwdIdeal.main (F := Ideal))) ⟨m, fun _ => 0, g⟩ (fun r => (∀ c : Dev Cert.NormMixFwdIdeal.nD,
      r.2.mem ((c.tc : Thread Cert.NormMixFwdIdeal.nD Cert.NormMixFwdIdeal.τ).loc Cert.NormMixFwdIdeal.main_arg0) = m ((c.tc : Thread Cert.NormMixFwdIdeal.nD Cert.NormMixFwdIdeal.τ).loc Cert.NormMixFwdIdeal.main_arg0)
      ∧ r.2.mem ((c.tc : Thread Cert.NormMixFwdIdeal.nD Cert.NormMixFwdIdeal.τ).loc Cert.NormMixFwdIdeal.main_arg1) = m ((c.tc : Thread Cert.NormMixFwdIdeal.nD Cert.NormMixFwdIdeal.τ).loc Cert.NormMixFwdIdeal.main_arg1)
      ∧ r.2.mem ((c.tc : Thread Cert.NormMixFwdIdeal.nD Cert.NormMixFwdIdeal.τ).loc Cert.NormMixFwdIdeal.main_arg2) = m ((c.tc : Thread Cert.NormMixFwdIdeal.nD Cert.NormMixFwdIdeal.τ).loc Cert.NormMixFwdIdeal.main_arg2)
      ∧ r.2.mem ((c.tc : Thread Cert.NormMixFwdIdeal.nD Cert.NormMixFwdIdeal.τ).loc Cert.NormMixFwdIdeal.main_arg3) = m ((c.tc : Thread Cert.NormMixFwdIdeal.nD Cert.NormMixFwdIdeal.τ).loc Cert.NormMixFwdIdeal.main_arg3))
      ∧ r.2.sem = fun _ => 0)

def quiescent_NormMixFwdRefIdeal [hNormMixFwdRefIdeal : Cert.NormMixFwdRefIdeal.Facts] : Prop :=
  ∀ (m : (ℓ : Loc Cert.NormMixFwdRefIdeal.nD Cert.NormMixFwdRefIdeal.τ Cert.NormMixFwdRefIdeal.sig) → Buf (Elt Ideal) ℓ) (g : Dev Cert.NormMixFwdRefIdeal.nD → PrngReg), Pre_NormMixFwdRefIdeal m →
    θ_run (Cert.NormMixFwdRefIdeal.defs (F := Ideal)) (onTc (τ := Cert.NormMixFwdRefIdeal.τ) (Cert.NormMixFwdRefIdeal.main (F := Ideal))) ⟨m, fun _ => 0, g⟩ (fun r => (∀ c : Dev Cert.NormMixFwdRefIdeal.nD,
      r.2.mem ((c.tc : Thread Cert.NormMixFwdRefIdeal.nD Cert.NormMixFwdRefIdeal.τ).loc Cert.NormMixFwdRefIdeal.main_arg0) = m ((c.tc : Thread Cert.NormMixFwdRefIdeal.nD Cert.NormMixFwdRefIdeal.τ).loc Cert.NormMixFwdRefIdeal.main_arg0)
      ∧ r.2.mem ((c.tc : Thread Cert.NormMixFwdRefIdeal.nD Cert.NormMixFwdRefIdeal.τ).loc Cert.NormMixFwdRefIdeal.main_arg1) = m ((c.tc : Thread Cert.NormMixFwdRefIdeal.nD Cert.NormMixFwdRefIdeal.τ).loc Cert.NormMixFwdRefIdeal.main_arg1)
      ∧ r.2.mem ((c.tc : Thread Cert.NormMixFwdRefIdeal.nD Cert.NormMixFwdRefIdeal.τ).loc Cert.NormMixFwdRefIdeal.main_arg2) = m ((c.tc : Thread Cert.NormMixFwdRefIdeal.nD Cert.NormMixFwdRefIdeal.τ).loc Cert.NormMixFwdRefIdeal.main_arg2)
      ∧ r.2.mem ((c.tc : Thread Cert.NormMixFwdRefIdeal.nD Cert.NormMixFwdRefIdeal.τ).loc Cert.NormMixFwdRefIdeal.main_arg3) = m ((c.tc : Thread Cert.NormMixFwdRefIdeal.nD Cert.NormMixFwdRefIdeal.τ).loc Cert.NormMixFwdRefIdeal.main_arg3))
      ∧ r.2.sem = fun _ => 0)

def quiescent_NormMlpFwd [hNormMlpFwd : Cert.NormMlpFwd.Facts] : Prop :=
  ∀ (m : (ℓ : Loc Cert.NormMlpFwd.nD Cert.NormMlpFwd.τ Cert.NormMlpFwd.sig) → Buf (Elt Bits) ℓ) (g : Dev Cert.NormMlpFwd.nD → PrngReg), Pre_NormMlpFwd m →
    θ_run (Cert.NormMlpFwd.defs (F := Bits)) (onTc (τ := Cert.NormMlpFwd.τ) (Cert.NormMlpFwd.main (F := Bits))) ⟨m, fun _ => 0, g⟩ (fun r => (∀ c : Dev Cert.NormMlpFwd.nD,
      r.2.mem ((c.tc : Thread Cert.NormMlpFwd.nD Cert.NormMlpFwd.τ).loc Cert.NormMlpFwd.main_arg0) = m ((c.tc : Thread Cert.NormMlpFwd.nD Cert.NormMlpFwd.τ).loc Cert.NormMlpFwd.main_arg0)
      ∧ r.2.mem ((c.tc : Thread Cert.NormMlpFwd.nD Cert.NormMlpFwd.τ).loc Cert.NormMlpFwd.main_arg1) = m ((c.tc : Thread Cert.NormMlpFwd.nD Cert.NormMlpFwd.τ).loc Cert.NormMlpFwd.main_arg1)
      ∧ r.2.mem ((c.tc : Thread Cert.NormMlpFwd.nD Cert.NormMlpFwd.τ).loc Cert.NormMlpFwd.main_arg2) = m ((c.tc : Thread Cert.NormMlpFwd.nD Cert.NormMlpFwd.τ).loc Cert.NormMlpFwd.main_arg2)
      ∧ r.2.mem ((c.tc : Thread Cert.NormMlpFwd.nD Cert.NormMlpFwd.τ).loc Cert.NormMlpFwd.main_arg3) = m ((c.tc : Thread Cert.NormMlpFwd.nD Cert.NormMlpFwd.τ).loc Cert.NormMlpFwd.main_arg3)
      ∧ r.2.mem ((c.tc : Thread Cert.NormMlpFwd.nD Cert.NormMlpFwd.τ).loc Cert.NormMlpFwd.main_arg4) = m ((c.tc : Thread Cert.NormMlpFwd.nD Cert.NormMlpFwd.τ).loc Cert.NormMlpFwd.main_arg4)
      ∧ r.2.mem ((c.tc : Thread Cert.NormMlpFwd.nD Cert.NormMlpFwd.τ).loc Cert.NormMlpFwd.main_arg5) = m ((c.tc : Thread Cert.NormMlpFwd.nD Cert.NormMlpFwd.τ).loc Cert.NormMlpFwd.main_arg5))
      ∧ r.2.sem = fun _ => 0)

def quiescent_NormMlpFwdIdeal [hNormMlpFwdIdeal : Cert.NormMlpFwdIdeal.Facts] : Prop :=
  ∀ (m : (ℓ : Loc Cert.NormMlpFwdIdeal.nD Cert.NormMlpFwdIdeal.τ Cert.NormMlpFwdIdeal.sig) → Buf (Elt Ideal) ℓ) (g : Dev Cert.NormMlpFwdIdeal.nD → PrngReg), Pre_NormMlpFwdIdeal m →
    θ_run (Cert.NormMlpFwdIdeal.defs (F := Ideal)) (onTc (τ := Cert.NormMlpFwdIdeal.τ) (Cert.NormMlpFwdIdeal.main (F := Ideal))) ⟨m, fun _ => 0, g⟩ (fun r => (∀ c : Dev Cert.NormMlpFwdIdeal.nD,
      r.2.mem ((c.tc : Thread Cert.NormMlpFwdIdeal.nD Cert.NormMlpFwdIdeal.τ).loc Cert.NormMlpFwdIdeal.main_arg0) = m ((c.tc : Thread Cert.NormMlpFwdIdeal.nD Cert.NormMlpFwdIdeal.τ).loc Cert.NormMlpFwdIdeal.main_arg0)
      ∧ r.2.mem ((c.tc : Thread Cert.NormMlpFwdIdeal.nD Cert.NormMlpFwdIdeal.τ).loc Cert.NormMlpFwdIdeal.main_arg1) = m ((c.tc : Thread Cert.NormMlpFwdIdeal.nD Cert.NormMlpFwdIdeal.τ).loc Cert.NormMlpFwdIdeal.main_arg1)
      ∧ r.2.mem ((c.tc : Thread Cert.NormMlpFwdIdeal.nD Cert.NormMlpFwdIdeal.τ).loc Cert.NormMlpFwdIdeal.main_arg2) = m ((c.tc : Thread Cert.NormMlpFwdIdeal.nD Cert.NormMlpFwdIdeal.τ).loc Cert.NormMlpFwdIdeal.main_arg2)
      ∧ r.2.mem ((c.tc : Thread Cert.NormMlpFwdIdeal.nD Cert.NormMlpFwdIdeal.τ).loc Cert.NormMlpFwdIdeal.main_arg3) = m ((c.tc : Thread Cert.NormMlpFwdIdeal.nD Cert.NormMlpFwdIdeal.τ).loc Cert.NormMlpFwdIdeal.main_arg3)
      ∧ r.2.mem ((c.tc : Thread Cert.NormMlpFwdIdeal.nD Cert.NormMlpFwdIdeal.τ).loc Cert.NormMlpFwdIdeal.main_arg4) = m ((c.tc : Thread Cert.NormMlpFwdIdeal.nD Cert.NormMlpFwdIdeal.τ).loc Cert.NormMlpFwdIdeal.main_arg4)
      ∧ r.2.mem ((c.tc : Thread Cert.NormMlpFwdIdeal.nD Cert.NormMlpFwdIdeal.τ).loc Cert.NormMlpFwdIdeal.main_arg5) = m ((c.tc : Thread Cert.NormMlpFwdIdeal.nD Cert.NormMlpFwdIdeal.τ).loc Cert.NormMlpFwdIdeal.main_arg5))
      ∧ r.2.sem = fun _ => 0)

def quiescent_NormMlpFwdRefIdeal [hNormMlpFwdRefIdeal : Cert.NormMlpFwdRefIdeal.Facts] : Prop :=
  ∀ (m : (ℓ : Loc Cert.NormMlpFwdRefIdeal.nD Cert.NormMlpFwdRefIdeal.τ Cert.NormMlpFwdRefIdeal.sig) → Buf (Elt Ideal) ℓ) (g : Dev Cert.NormMlpFwdRefIdeal.nD → PrngReg), Pre_NormMlpFwdRefIdeal m →
    θ_run (Cert.NormMlpFwdRefIdeal.defs (F := Ideal)) (onTc (τ := Cert.NormMlpFwdRefIdeal.τ) (Cert.NormMlpFwdRefIdeal.main (F := Ideal))) ⟨m, fun _ => 0, g⟩ (fun r => (∀ c : Dev Cert.NormMlpFwdRefIdeal.nD,
      r.2.mem ((c.tc : Thread Cert.NormMlpFwdRefIdeal.nD Cert.NormMlpFwdRefIdeal.τ).loc Cert.NormMlpFwdRefIdeal.main_arg0) = m ((c.tc : Thread Cert.NormMlpFwdRefIdeal.nD Cert.NormMlpFwdRefIdeal.τ).loc Cert.NormMlpFwdRefIdeal.main_arg0)
      ∧ r.2.mem ((c.tc : Thread Cert.NormMlpFwdRefIdeal.nD Cert.NormMlpFwdRefIdeal.τ).loc Cert.NormMlpFwdRefIdeal.main_arg1) = m ((c.tc : Thread Cert.NormMlpFwdRefIdeal.nD Cert.NormMlpFwdRefIdeal.τ).loc Cert.NormMlpFwdRefIdeal.main_arg1)
      ∧ r.2.mem ((c.tc : Thread Cert.NormMlpFwdRefIdeal.nD Cert.NormMlpFwdRefIdeal.τ).loc Cert.NormMlpFwdRefIdeal.main_arg2) = m ((c.tc : Thread Cert.NormMlpFwdRefIdeal.nD Cert.NormMlpFwdRefIdeal.τ).loc Cert.NormMlpFwdRefIdeal.main_arg2)
      ∧ r.2.mem ((c.tc : Thread Cert.NormMlpFwdRefIdeal.nD Cert.NormMlpFwdRefIdeal.τ).loc Cert.NormMlpFwdRefIdeal.main_arg3) = m ((c.tc : Thread Cert.NormMlpFwdRefIdeal.nD Cert.NormMlpFwdRefIdeal.τ).loc Cert.NormMlpFwdRefIdeal.main_arg3)
      ∧ r.2.mem ((c.tc : Thread Cert.NormMlpFwdRefIdeal.nD Cert.NormMlpFwdRefIdeal.τ).loc Cert.NormMlpFwdRefIdeal.main_arg4) = m ((c.tc : Thread Cert.NormMlpFwdRefIdeal.nD Cert.NormMlpFwdRefIdeal.τ).loc Cert.NormMlpFwdRefIdeal.main_arg4)
      ∧ r.2.mem ((c.tc : Thread Cert.NormMlpFwdRefIdeal.nD Cert.NormMlpFwdRefIdeal.τ).loc Cert.NormMlpFwdRefIdeal.main_arg5) = m ((c.tc : Thread Cert.NormMlpFwdRefIdeal.nD Cert.NormMlpFwdRefIdeal.τ).loc Cert.NormMlpFwdRefIdeal.main_arg5))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10))
      ∧ r.2.sem = fun _ => 0)

def quiescent_AdamTiny [hAdamTiny : Cert.AdamTiny.Facts] : Prop :=
  ∀ (m : (ℓ : Loc Cert.AdamTiny.nD Cert.AdamTiny.τ Cert.AdamTiny.sig) → Buf (Elt Bits) ℓ) (g : Dev Cert.AdamTiny.nD → PrngReg), Pre_AdamTiny m →
    θ_run (Cert.AdamTiny.defs (F := Bits)) (onTc (τ := Cert.AdamTiny.τ) (Cert.AdamTiny.main (F := Bits))) ⟨m, fun _ => 0, g⟩ (fun r => (∀ c : Dev Cert.AdamTiny.nD,
      r.2.mem ((c.tc : Thread Cert.AdamTiny.nD Cert.AdamTiny.τ).loc Cert.AdamTiny.main_arg0) = m ((c.tc : Thread Cert.AdamTiny.nD Cert.AdamTiny.τ).loc Cert.AdamTiny.main_arg0)
      ∧ r.2.mem ((c.tc : Thread Cert.AdamTiny.nD Cert.AdamTiny.τ).loc Cert.AdamTiny.main_arg1) = m ((c.tc : Thread Cert.AdamTiny.nD Cert.AdamTiny.τ).loc Cert.AdamTiny.main_arg1)
      ∧ r.2.mem ((c.tc : Thread Cert.AdamTiny.nD Cert.AdamTiny.τ).loc Cert.AdamTiny.main_arg2) = m ((c.tc : Thread Cert.AdamTiny.nD Cert.AdamTiny.τ).loc Cert.AdamTiny.main_arg2)
      ∧ r.2.mem ((c.tc : Thread Cert.AdamTiny.nD Cert.AdamTiny.τ).loc Cert.AdamTiny.main_arg3) = m ((c.tc : Thread Cert.AdamTiny.nD Cert.AdamTiny.τ).loc Cert.AdamTiny.main_arg3)
      ∧ r.2.mem ((c.tc : Thread Cert.AdamTiny.nD Cert.AdamTiny.τ).loc Cert.AdamTiny.main_arg4) = m ((c.tc : Thread Cert.AdamTiny.nD Cert.AdamTiny.τ).loc Cert.AdamTiny.main_arg4)
      ∧ r.2.mem ((c.tc : Thread Cert.AdamTiny.nD Cert.AdamTiny.τ).loc Cert.AdamTiny.main_arg5) = m ((c.tc : Thread Cert.AdamTiny.nD Cert.AdamTiny.τ).loc Cert.AdamTiny.main_arg5)
      ∧ r.2.mem ((c.tc : Thread Cert.AdamTiny.nD Cert.AdamTiny.τ).loc Cert.AdamTiny.main_arg6) = m ((c.tc : Thread Cert.AdamTiny.nD Cert.AdamTiny.τ).loc Cert.AdamTiny.main_arg6)
      ∧ r.2.mem ((c.tc : Thread Cert.AdamTiny.nD Cert.AdamTiny.τ).loc Cert.AdamTiny.main_arg7) = m ((c.tc : Thread Cert.AdamTiny.nD Cert.AdamTiny.τ).loc Cert.AdamTiny.main_arg7))
      ∧ r.2.sem = fun _ => 0)

def quiescent_AdamTinyIdeal [hAdamTinyIdeal : Cert.AdamTinyIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg), Pre_AdamTinyIdeal m →
    θ_run (Cert.AdamTinyIdeal.defs (F := Ideal)) (onTc (τ := Cert.AdamTinyIdeal.τ) (Cert.AdamTinyIdeal.main (F := Ideal))) ⟨m, fun _ => 0, g⟩ (fun r => (∀ c : Dev Cert.AdamTinyIdeal.nD,
      r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
      ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
      ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
      ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3)
      ∧ r.2.mem ((c.tc : Thread Cert.AdamTinyIdeal.nD Cert.AdamTinyIdeal.τ).loc Cert.AdamTinyIdeal.main_arg4) = m ((c.tc : Thread Cert.AdamTinyIdeal.nD Cert.AdamTinyIdeal.τ).loc Cert.AdamTinyIdeal.main_arg4)
      ∧ r.2.mem ((c.tc : Thread Cert.AdamTinyIdeal.nD Cert.AdamTinyIdeal.τ).loc Cert.AdamTinyIdeal.main_arg5) = m ((c.tc : Thread Cert.AdamTinyIdeal.nD Cert.AdamTinyIdeal.τ).loc Cert.AdamTinyIdeal.main_arg5)
      ∧ r.2.mem ((c.tc : Thread Cert.AdamTinyIdeal.nD Cert.AdamTinyIdeal.τ).loc Cert.AdamTinyIdeal.main_arg6) = m ((c.tc : Thread Cert.AdamTinyIdeal.nD Cert.AdamTinyIdeal.τ).loc Cert.AdamTinyIdeal.main_arg6)
      ∧ r.2.mem ((c.tc : Thread Cert.AdamTinyIdeal.nD Cert.AdamTinyIdeal.τ).loc Cert.AdamTinyIdeal.main_arg7) = m ((c.tc : Thread Cert.AdamTinyIdeal.nD Cert.AdamTinyIdeal.τ).loc Cert.AdamTinyIdeal.main_arg7))
      ∧ r.2.sem = fun _ => 0)

def quiescent_AdamTinyRefIdeal [hAdamTinyRefIdeal : Cert.AdamTinyRefIdeal.Facts] : Prop :=
  ∀ (m : (ℓ : Loc Cert.AdamTinyRefIdeal.nD Cert.AdamTinyRefIdeal.τ Cert.AdamTinyRefIdeal.sig) → Buf (Elt Ideal) ℓ) (g : Dev Cert.AdamTinyRefIdeal.nD → PrngReg), Pre_AdamTinyRefIdeal m →
    θ_run (Cert.AdamTinyRefIdeal.defs (F := Ideal)) (onTc (τ := Cert.AdamTinyRefIdeal.τ) (Cert.AdamTinyRefIdeal.main (F := Ideal))) ⟨m, fun _ => 0, g⟩ (fun r => (∀ c : Dev Cert.AdamTinyRefIdeal.nD,
      r.2.mem ((c.tc : Thread Cert.AdamTinyRefIdeal.nD Cert.AdamTinyRefIdeal.τ).loc Cert.AdamTinyRefIdeal.main_arg0) = m ((c.tc : Thread Cert.AdamTinyRefIdeal.nD Cert.AdamTinyRefIdeal.τ).loc Cert.AdamTinyRefIdeal.main_arg0)
      ∧ r.2.mem ((c.tc : Thread Cert.AdamTinyRefIdeal.nD Cert.AdamTinyRefIdeal.τ).loc Cert.AdamTinyRefIdeal.main_arg1) = m ((c.tc : Thread Cert.AdamTinyRefIdeal.nD Cert.AdamTinyRefIdeal.τ).loc Cert.AdamTinyRefIdeal.main_arg1)
      ∧ r.2.mem ((c.tc : Thread Cert.AdamTinyRefIdeal.nD Cert.AdamTinyRefIdeal.τ).loc Cert.AdamTinyRefIdeal.main_arg2) = m ((c.tc : Thread Cert.AdamTinyRefIdeal.nD Cert.AdamTinyRefIdeal.τ).loc Cert.AdamTinyRefIdeal.main_arg2)
      ∧ r.2.mem ((c.tc : Thread Cert.AdamTinyRefIdeal.nD Cert.AdamTinyRefIdeal.τ).loc Cert.AdamTinyRefIdeal.main_arg3) = m ((c.tc : Thread Cert.AdamTinyRefIdeal.nD Cert.AdamTinyRefIdeal.τ).loc Cert.AdamTinyRefIdeal.main_arg3)
      ∧ r.2.mem ((c.tc : Thread Cert.AdamTinyRefIdeal.nD Cert.AdamTinyRefIdeal.τ).loc Cert.AdamTinyRefIdeal.main_arg4) = m ((c.tc : Thread Cert.AdamTinyRefIdeal.nD Cert.AdamTinyRefIdeal.τ).loc Cert.AdamTinyRefIdeal.main_arg4)
      ∧ r.2.mem ((c.tc : Thread Cert.AdamTinyRefIdeal.nD Cert.AdamTinyRefIdeal.τ).loc Cert.AdamTinyRefIdeal.main_arg5) = m ((c.tc : Thread Cert.AdamTinyRefIdeal.nD Cert.AdamTinyRefIdeal.τ).loc Cert.AdamTinyRefIdeal.main_arg5)
      ∧ r.2.mem ((c.tc : Thread Cert.AdamTinyRefIdeal.nD Cert.AdamTinyRefIdeal.τ).loc Cert.AdamTinyRefIdeal.main_arg6) = m ((c.tc : Thread Cert.AdamTinyRefIdeal.nD Cert.AdamTinyRefIdeal.τ).loc Cert.AdamTinyRefIdeal.main_arg6)
      ∧ r.2.mem ((c.tc : Thread Cert.AdamTinyRefIdeal.nD Cert.AdamTinyRefIdeal.τ).loc Cert.AdamTinyRefIdeal.main_arg7) = m ((c.tc : Thread Cert.AdamTinyRefIdeal.nD Cert.AdamTinyRefIdeal.τ).loc Cert.AdamTinyRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_MlstmPost [hMlstmPost : Cert.MlstmPost.Facts] : Prop :=
  ∀ (m : (ℓ : Loc Cert.MlstmPost.nD Cert.MlstmPost.τ Cert.MlstmPost.sig) → Buf (Elt Bits) ℓ) (g : Dev Cert.MlstmPost.nD → PrngReg), Pre_MlstmPost m →
    θ_run (Cert.MlstmPost.defs (F := Bits)) (onTc (τ := Cert.MlstmPost.τ) (Cert.MlstmPost.main (F := Bits))) ⟨m, fun _ => 0, g⟩ (fun r => (∀ c : Dev Cert.MlstmPost.nD,
      r.2.mem ((c.tc : Thread Cert.MlstmPost.nD Cert.MlstmPost.τ).loc Cert.MlstmPost.main_arg0) = m ((c.tc : Thread Cert.MlstmPost.nD Cert.MlstmPost.τ).loc Cert.MlstmPost.main_arg0)
      ∧ r.2.mem ((c.tc : Thread Cert.MlstmPost.nD Cert.MlstmPost.τ).loc Cert.MlstmPost.main_arg1) = m ((c.tc : Thread Cert.MlstmPost.nD Cert.MlstmPost.τ).loc Cert.MlstmPost.main_arg1)
      ∧ r.2.mem ((c.tc : Thread Cert.MlstmPost.nD Cert.MlstmPost.τ).loc Cert.MlstmPost.main_arg2) = m ((c.tc : Thread Cert.MlstmPost.nD Cert.MlstmPost.τ).loc Cert.MlstmPost.main_arg2))
      ∧ r.2.sem = fun _ => 0)

def quiescent_MlstmPostIdeal [hMlstmPostIdeal : Cert.MlstmPostIdeal.Facts] : Prop :=
  ∀ (m : (ℓ : Loc Cert.MlstmPostIdeal.nD Cert.MlstmPostIdeal.τ Cert.MlstmPostIdeal.sig) → Buf (Elt Ideal) ℓ) (g : Dev Cert.MlstmPostIdeal.nD → PrngReg), Pre_MlstmPostIdeal m →
    θ_run (Cert.MlstmPostIdeal.defs (F := Ideal)) (onTc (τ := Cert.MlstmPostIdeal.τ) (Cert.MlstmPostIdeal.main (F := Ideal))) ⟨m, fun _ => 0, g⟩ (fun r => (∀ c : Dev Cert.MlstmPostIdeal.nD,
      r.2.mem ((c.tc : Thread Cert.MlstmPostIdeal.nD Cert.MlstmPostIdeal.τ).loc Cert.MlstmPostIdeal.main_arg0) = m ((c.tc : Thread Cert.MlstmPostIdeal.nD Cert.MlstmPostIdeal.τ).loc Cert.MlstmPostIdeal.main_arg0)
      ∧ r.2.mem ((c.tc : Thread Cert.MlstmPostIdeal.nD Cert.MlstmPostIdeal.τ).loc Cert.MlstmPostIdeal.main_arg1) = m ((c.tc : Thread Cert.MlstmPostIdeal.nD Cert.MlstmPostIdeal.τ).loc Cert.MlstmPostIdeal.main_arg1)
      ∧ r.2.mem ((c.tc : Thread Cert.MlstmPostIdeal.nD Cert.MlstmPostIdeal.τ).loc Cert.MlstmPostIdeal.main_arg2) = m ((c.tc : Thread Cert.MlstmPostIdeal.nD Cert.MlstmPostIdeal.τ).loc Cert.MlstmPostIdeal.main_arg2))
      ∧ r.2.sem = fun _ => 0)

def quiescent_MlstmPostRefIdeal [hMlstmPostRefIdeal : Cert.MlstmPostRefIdeal.Facts] : Prop :=
  ∀ (m : (ℓ : Loc Cert.MlstmPostRefIdeal.nD Cert.MlstmPostRefIdeal.τ Cert.MlstmPostRefIdeal.sig) → Buf (Elt Ideal) ℓ) (g : Dev Cert.MlstmPostRefIdeal.nD → PrngReg), Pre_MlstmPostRefIdeal m →
    θ_run (Cert.MlstmPostRefIdeal.defs (F := Ideal)) (onTc (τ := Cert.MlstmPostRefIdeal.τ) (Cert.MlstmPostRefIdeal.main (F := Ideal))) ⟨m, fun _ => 0, g⟩ (fun r => (∀ c : Dev Cert.MlstmPostRefIdeal.nD,
      r.2.mem ((c.tc : Thread Cert.MlstmPostRefIdeal.nD Cert.MlstmPostRefIdeal.τ).loc Cert.MlstmPostRefIdeal.main_arg0) = m ((c.tc : Thread Cert.MlstmPostRefIdeal.nD Cert.MlstmPostRefIdeal.τ).loc Cert.MlstmPostRefIdeal.main_arg0)
      ∧ r.2.mem ((c.tc : Thread Cert.MlstmPostRefIdeal.nD Cert.MlstmPostRefIdeal.τ).loc Cert.MlstmPostRefIdeal.main_arg1) = m ((c.tc : Thread Cert.MlstmPostRefIdeal.nD Cert.MlstmPostRefIdeal.τ).loc Cert.MlstmPostRefIdeal.main_arg1)
      ∧ r.2.mem ((c.tc : Thread Cert.MlstmPostRefIdeal.nD Cert.MlstmPostRefIdeal.τ).loc Cert.MlstmPostRefIdeal.main_arg2) = m ((c.tc : Thread Cert.MlstmPostRefIdeal.nD Cert.MlstmPostRefIdeal.τ).loc Cert.MlstmPostRefIdeal.main_arg2))
      ∧ r.2.sem = fun _ => 0)

def quiescent_MlstmPostBwd [hMlstmPostBwd : Cert.MlstmPostBwd.Facts] : Prop :=
  ∀ (m : (ℓ : Loc Cert.MlstmPostBwd.nD Cert.MlstmPostBwd.τ Cert.MlstmPostBwd.sig) → Buf (Elt Bits) ℓ) (g : Dev Cert.MlstmPostBwd.nD → PrngReg), Pre_MlstmPostBwd m →
    θ_run (Cert.MlstmPostBwd.defs (F := Bits)) (onTc (τ := Cert.MlstmPostBwd.τ) (Cert.MlstmPostBwd.main (F := Bits))) ⟨m, fun _ => 0, g⟩ (fun r => (∀ c : Dev Cert.MlstmPostBwd.nD,
      r.2.mem ((c.tc : Thread Cert.MlstmPostBwd.nD Cert.MlstmPostBwd.τ).loc Cert.MlstmPostBwd.main_arg0) = m ((c.tc : Thread Cert.MlstmPostBwd.nD Cert.MlstmPostBwd.τ).loc Cert.MlstmPostBwd.main_arg0)
      ∧ r.2.mem ((c.tc : Thread Cert.MlstmPostBwd.nD Cert.MlstmPostBwd.τ).loc Cert.MlstmPostBwd.main_arg1) = m ((c.tc : Thread Cert.MlstmPostBwd.nD Cert.MlstmPostBwd.τ).loc Cert.MlstmPostBwd.main_arg1)
      ∧ r.2.mem ((c.tc : Thread Cert.MlstmPostBwd.nD Cert.MlstmPostBwd.τ).loc Cert.MlstmPostBwd.main_arg2) = m ((c.tc : Thread Cert.MlstmPostBwd.nD Cert.MlstmPostBwd.τ).loc Cert.MlstmPostBwd.main_arg2)
      ∧ r.2.mem ((c.tc : Thread Cert.MlstmPostBwd.nD Cert.MlstmPostBwd.τ).loc Cert.MlstmPostBwd.main_arg3) = m ((c.tc : Thread Cert.MlstmPostBwd.nD Cert.MlstmPostBwd.τ).loc Cert.MlstmPostBwd.main_arg3))
      ∧ r.2.sem = fun _ => 0)

def quiescent_MlstmPostBwdIdeal [hMlstmPostBwdIdeal : Cert.MlstmPostBwdIdeal.Facts] : Prop :=
  ∀ (m : (ℓ : Loc Cert.MlstmPostBwdIdeal.nD Cert.MlstmPostBwdIdeal.τ Cert.MlstmPostBwdIdeal.sig) → Buf (Elt Ideal) ℓ) (g : Dev Cert.MlstmPostBwdIdeal.nD → PrngReg), Pre_MlstmPostBwdIdeal m →
    θ_run (Cert.MlstmPostBwdIdeal.defs (F := Ideal)) (onTc (τ := Cert.MlstmPostBwdIdeal.τ) (Cert.MlstmPostBwdIdeal.main (F := Ideal))) ⟨m, fun _ => 0, g⟩ (fun r => (∀ c : Dev Cert.MlstmPostBwdIdeal.nD,
      r.2.mem ((c.tc : Thread Cert.MlstmPostBwdIdeal.nD Cert.MlstmPostBwdIdeal.τ).loc Cert.MlstmPostBwdIdeal.main_arg0) = m ((c.tc : Thread Cert.MlstmPostBwdIdeal.nD Cert.MlstmPostBwdIdeal.τ).loc Cert.MlstmPostBwdIdeal.main_arg0)
      ∧ r.2.mem ((c.tc : Thread Cert.MlstmPostBwdIdeal.nD Cert.MlstmPostBwdIdeal.τ).loc Cert.MlstmPostBwdIdeal.main_arg1) = m ((c.tc : Thread Cert.MlstmPostBwdIdeal.nD Cert.MlstmPostBwdIdeal.τ).loc Cert.MlstmPostBwdIdeal.main_arg1)
      ∧ r.2.mem ((c.tc : Thread Cert.MlstmPostBwdIdeal.nD Cert.MlstmPostBwdIdeal.τ).loc Cert.MlstmPostBwdIdeal.main_arg2) = m ((c.tc : Thread Cert.MlstmPostBwdIdeal.nD Cert.MlstmPostBwdIdeal.τ).loc Cert.MlstmPostBwdIdeal.main_arg2)
      ∧ r.2.mem ((c.tc : Thread Cert.MlstmPostBwdIdeal.nD Cert.MlstmPostBwdIdeal.τ).loc Cert.MlstmPostBwdIdeal.main_arg3) = m ((c.tc : Thread Cert.MlstmPostBwdIdeal.nD Cert.MlstmPostBwdIdeal.τ).loc Cert.MlstmPostBwdIdeal.main_arg3))
      ∧ r.2.sem = fun _ => 0)

def quiescent_MlstmPostBwdRefIdeal [hMlstmPostBwdRefIdeal : Cert.MlstmPostBwdRefIdeal.Facts] : Prop :=
  ∀ (m : (ℓ : Loc Cert.MlstmPostBwdRefIdeal.nD Cert.MlstmPostBwdRefIdeal.τ Cert.MlstmPostBwdRefIdeal.sig) → Buf (Elt Ideal) ℓ) (g : Dev Cert.MlstmPostBwdRefIdeal.nD → PrngReg), Pre_MlstmPostBwdRefIdeal m →
    θ_run (Cert.MlstmPostBwdRefIdeal.defs (F := Ideal)) (onTc (τ := Cert.MlstmPostBwdRefIdeal.τ) (Cert.MlstmPostBwdRefIdeal.main (F := Ideal))) ⟨m, fun _ => 0, g⟩ (fun r => (∀ c : Dev Cert.MlstmPostBwdRefIdeal.nD,
      r.2.mem ((c.tc : Thread Cert.MlstmPostBwdRefIdeal.nD Cert.MlstmPostBwdRefIdeal.τ).loc Cert.MlstmPostBwdRefIdeal.main_arg0) = m ((c.tc : Thread Cert.MlstmPostBwdRefIdeal.nD Cert.MlstmPostBwdRefIdeal.τ).loc Cert.MlstmPostBwdRefIdeal.main_arg0)
      ∧ r.2.mem ((c.tc : Thread Cert.MlstmPostBwdRefIdeal.nD Cert.MlstmPostBwdRefIdeal.τ).loc Cert.MlstmPostBwdRefIdeal.main_arg1) = m ((c.tc : Thread Cert.MlstmPostBwdRefIdeal.nD Cert.MlstmPostBwdRefIdeal.τ).loc Cert.MlstmPostBwdRefIdeal.main_arg1)
      ∧ r.2.mem ((c.tc : Thread Cert.MlstmPostBwdRefIdeal.nD Cert.MlstmPostBwdRefIdeal.τ).loc Cert.MlstmPostBwdRefIdeal.main_arg2) = m ((c.tc : Thread Cert.MlstmPostBwdRefIdeal.nD Cert.MlstmPostBwdRefIdeal.τ).loc Cert.MlstmPostBwdRefIdeal.main_arg2)
      ∧ r.2.mem ((c.tc : Thread Cert.MlstmPostBwdRefIdeal.nD Cert.MlstmPostBwdRefIdeal.τ).loc Cert.MlstmPostBwdRefIdeal.main_arg3) = m ((c.tc : Thread Cert.MlstmPostBwdRefIdeal.nD Cert.MlstmPostBwdRefIdeal.τ).loc Cert.MlstmPostBwdRefIdeal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwFf2_DwFf2Ideal : Prop :=
  True

def algebraic_DwFf2Ideal_DwFf2RefIdeal [hDwFf2Ideal : Cert.DwFf2Ideal.Facts] [hDwFf2RefIdeal : Cert.DwFf2RefIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2RefIdeal.nD Cert.DwFf2RefIdeal.τ Cert.DwFf2RefIdeal.sig) → Buf (Elt Ideal) ℓ) (g' : Dev Cert.DwFf2RefIdeal.nD → PrngReg), Pre_DwFf2Ideal m →
    (∀ c : Dev Cert.DwFf2Ideal.nD,
      m' ((c.tc : Thread Cert.DwFf2RefIdeal.nD Cert.DwFf2RefIdeal.τ).loc Cert.DwFf2RefIdeal.main_arg0) = m ((c.tc : Thread Cert.DwFf2Ideal.nD Cert.DwFf2Ideal.τ).loc Cert.DwFf2Ideal.main_arg0)
      ∧ m' ((c.tc : Thread Cert.DwFf2RefIdeal.nD Cert.DwFf2RefIdeal.τ).loc Cert.DwFf2RefIdeal.main_arg1) = m ((c.tc : Thread Cert.DwFf2Ideal.nD Cert.DwFf2Ideal.τ).loc Cert.DwFf2Ideal.main_arg1)) →
    ∃ (v0 : (c : Dev Cert.DwFf2Ideal.nD) → Buf (Elt Ideal) ((c.tc : Thread Cert.DwFf2Ideal.nD Cert.DwFf2Ideal.τ).loc Cert.DwFf2Ideal.main_v0)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v0) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ θ_run (Cert.DwFf2RefIdeal.defs (F := Ideal)) (onTc (τ := Cert.DwFf2RefIdeal.τ) (Cert.DwFf2RefIdeal.main (F := Ideal))) ⟨m', fun _ => 0, g'⟩ (fun r => ∀ c : Dev Cert.DwFf2RefIdeal.nD,
          r.2.mem ((c.tc : Thread Cert.DwFf2RefIdeal.nD Cert.DwFf2RefIdeal.τ).loc Cert.DwFf2RefIdeal.main_v8) = v0 c
          ∧ r.2.mem ((c.tc : Thread Cert.DwFf2RefIdeal.nD Cert.DwFf2RefIdeal.τ).loc Cert.DwFf2RefIdeal.main_arg0) = m' ((c.tc : Thread Cert.DwFf2RefIdeal.nD Cert.DwFf2RefIdeal.τ).loc Cert.DwFf2RefIdeal.main_arg0)
          ∧ r.2.mem ((c.tc : Thread Cert.DwFf2RefIdeal.nD Cert.DwFf2RefIdeal.τ).loc Cert.DwFf2RefIdeal.main_arg1) = m' ((c.tc : Thread Cert.DwFf2RefIdeal.nD Cert.DwFf2RefIdeal.τ).loc Cert.DwFf2RefIdeal.main_arg1))

def preserves_DU_DUIdeal : Prop :=
  True

def algebraic_DUIdeal_DURefIdeal [hDUIdeal : Cert.DUIdeal.Facts] [hDURefIdeal : Cert.DURefIdeal.Facts] : Prop :=
  ∀ (m : (ℓ : Loc Cert.DUIdeal.nD Cert.DUIdeal.τ Cert.DUIdeal.sig) → Buf (Elt Ideal) ℓ) (g : Dev Cert.DUIdeal.nD → PrngReg)
    (m' : (ℓ : Loc Cert.DURefIdeal.nD Cert.DURefIdeal.τ Cert.DURefIdeal.sig) → Buf (Elt Ideal) ℓ) (g' : Dev Cert.DURefIdeal.nD → PrngReg), Pre_DUIdeal m →
    (∀ c : Dev Cert.DUIdeal.nD,
      m' ((c.tc : Thread Cert.DURefIdeal.nD Cert.DURefIdeal.τ).loc Cert.DURefIdeal.main_arg0) = m ((c.tc : Thread Cert.DUIdeal.nD Cert.DUIdeal.τ).loc Cert.DUIdeal.main_arg0)
      ∧ m' ((c.tc : Thread Cert.DURefIdeal.nD Cert.DURefIdeal.τ).loc Cert.DURefIdeal.main_arg1) = m ((c.tc : Thread Cert.DUIdeal.nD Cert.DUIdeal.τ).loc Cert.DUIdeal.main_arg1)
      ∧ m' ((c.tc : Thread Cert.DURefIdeal.nD Cert.DURefIdeal.τ).loc Cert.DURefIdeal.main_arg2) = m ((c.tc : Thread Cert.DUIdeal.nD Cert.DUIdeal.τ).loc Cert.DUIdeal.main_arg2)) →
    ∃ (v0 : (c : Dev Cert.DUIdeal.nD) → Buf (Elt Ideal) ((c.tc : Thread Cert.DUIdeal.nD Cert.DUIdeal.τ).loc Cert.DUIdeal.main_v0)),
      θ_run (Cert.DUIdeal.defs (F := Ideal)) (onTc (τ := Cert.DUIdeal.τ) (Cert.DUIdeal.main (F := Ideal))) ⟨m, fun _ => 0, g⟩ (fun r => ∀ c : Dev Cert.DUIdeal.nD,
          r.2.mem ((c.tc : Thread Cert.DUIdeal.nD Cert.DUIdeal.τ).loc Cert.DUIdeal.main_v0) = v0 c
          ∧ r.2.mem ((c.tc : Thread Cert.DUIdeal.nD Cert.DUIdeal.τ).loc Cert.DUIdeal.main_arg0) = m ((c.tc : Thread Cert.DUIdeal.nD Cert.DUIdeal.τ).loc Cert.DUIdeal.main_arg0)
          ∧ r.2.mem ((c.tc : Thread Cert.DUIdeal.nD Cert.DUIdeal.τ).loc Cert.DUIdeal.main_arg1) = m ((c.tc : Thread Cert.DUIdeal.nD Cert.DUIdeal.τ).loc Cert.DUIdeal.main_arg1)
          ∧ r.2.mem ((c.tc : Thread Cert.DUIdeal.nD Cert.DUIdeal.τ).loc Cert.DUIdeal.main_arg2) = m ((c.tc : Thread Cert.DUIdeal.nD Cert.DUIdeal.τ).loc Cert.DUIdeal.main_arg2))
      ∧ θ_run (Cert.DURefIdeal.defs (F := Ideal)) (onTc (τ := Cert.DURefIdeal.τ) (Cert.DURefIdeal.main (F := Ideal))) ⟨m', fun _ => 0, g'⟩ (fun r => ∀ c : Dev Cert.DURefIdeal.nD,
          r.2.mem ((c.tc : Thread Cert.DURefIdeal.nD Cert.DURefIdeal.τ).loc Cert.DURefIdeal.main_v15) = v0 c
          ∧ r.2.mem ((c.tc : Thread Cert.DURefIdeal.nD Cert.DURefIdeal.τ).loc Cert.DURefIdeal.main_arg0) = m' ((c.tc : Thread Cert.DURefIdeal.nD Cert.DURefIdeal.τ).loc Cert.DURefIdeal.main_arg0)
          ∧ r.2.mem ((c.tc : Thread Cert.DURefIdeal.nD Cert.DURefIdeal.τ).loc Cert.DURefIdeal.main_arg1) = m' ((c.tc : Thread Cert.DURefIdeal.nD Cert.DURefIdeal.τ).loc Cert.DURefIdeal.main_arg1)
          ∧ r.2.mem ((c.tc : Thread Cert.DURefIdeal.nD Cert.DURefIdeal.τ).loc Cert.DURefIdeal.main_arg2) = m' ((c.tc : Thread Cert.DURefIdeal.nD Cert.DURefIdeal.τ).loc Cert.DURefIdeal.main_arg2))

def preserves_DwFf1_DwFf1Ideal : Prop :=
  True

def algebraic_DwFf1Ideal_DwFf1RefIdeal [hDwFf1Ideal : Cert.DwFf1Ideal.Facts] [hDwFf1RefIdeal : Cert.DwFf1RefIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1RefIdeal.nD Cert.DwFf1RefIdeal.τ Cert.DwFf1RefIdeal.sig) → Buf (Elt Ideal) ℓ) (g' : Dev Cert.DwFf1RefIdeal.nD → PrngReg), Pre_DwFf1Ideal m →
    (∀ c : Dev Cert.DwFf1Ideal.nD,
      m' ((c.tc : Thread Cert.DwFf1RefIdeal.nD Cert.DwFf1RefIdeal.τ).loc Cert.DwFf1RefIdeal.main_arg0) = m ((c.tc : Thread Cert.DwFf1Ideal.nD Cert.DwFf1Ideal.τ).loc Cert.DwFf1Ideal.main_arg0)
      ∧ m' ((c.tc : Thread Cert.DwFf1RefIdeal.nD Cert.DwFf1RefIdeal.τ).loc Cert.DwFf1RefIdeal.main_arg1) = m ((c.tc : Thread Cert.DwFf1Ideal.nD Cert.DwFf1Ideal.τ).loc Cert.DwFf1Ideal.main_arg1)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ θ_run (Cert.DwFf1RefIdeal.defs (F := Ideal)) (onTc (τ := Cert.DwFf1RefIdeal.τ) (Cert.DwFf1RefIdeal.main (F := Ideal))) ⟨m', fun _ => 0, g'⟩ (fun r => ∀ c : Dev Cert.DwFf1RefIdeal.nD,
          r.2.mem ((c.tc : Thread Cert.DwFf1RefIdeal.nD Cert.DwFf1RefIdeal.τ).loc Cert.DwFf1RefIdeal.main_v10) = v0 c
          ∧ r.2.mem ((c.tc : Thread Cert.DwFf1RefIdeal.nD Cert.DwFf1RefIdeal.τ).loc Cert.DwFf1RefIdeal.main_arg0) = m' ((c.tc : Thread Cert.DwFf1RefIdeal.nD Cert.DwFf1RefIdeal.τ).loc Cert.DwFf1RefIdeal.main_arg0)
          ∧ r.2.mem ((c.tc : Thread Cert.DwFf1RefIdeal.nD Cert.DwFf1RefIdeal.τ).loc Cert.DwFf1RefIdeal.main_arg1) = m' ((c.tc : Thread Cert.DwFf1RefIdeal.nD Cert.DwFf1RefIdeal.τ).loc Cert.DwFf1RefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v6) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v2) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v5) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v4) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DCat_DCatIdeal : Prop :=
  True

def algebraic_DCatIdeal_DCatRefIdeal [hDCatIdeal : Cert.DCatIdeal.Facts] [hDCatRefIdeal : Cert.DCatRefIdeal.Facts] : Prop :=
  ∀ (m : (ℓ : Loc Cert.DCatIdeal.nD Cert.DCatIdeal.τ Cert.DCatIdeal.sig) → Buf (Elt Ideal) ℓ) (g : Dev Cert.DCatIdeal.nD → PrngReg)
    (m' : (ℓ : Loc Cert.DCatRefIdeal.nD Cert.DCatRefIdeal.τ Cert.DCatRefIdeal.sig) → Buf (Elt Ideal) ℓ) (g' : Dev Cert.DCatRefIdeal.nD → PrngReg), Pre_DCatIdeal m →
    (∀ c : Dev Cert.DCatIdeal.nD,
      m' ((c.tc : Thread Cert.DCatRefIdeal.nD Cert.DCatRefIdeal.τ).loc Cert.DCatRefIdeal.main_arg0) = m ((c.tc : Thread Cert.DCatIdeal.nD Cert.DCatIdeal.τ).loc Cert.DCatIdeal.main_arg0)
      ∧ m' ((c.tc : Thread Cert.DCatRefIdeal.nD Cert.DCatRefIdeal.τ).loc Cert.DCatRefIdeal.main_arg1) = m ((c.tc : Thread Cert.DCatIdeal.nD Cert.DCatIdeal.τ).loc Cert.DCatIdeal.main_arg1)) →
    ∃ (v0 : (c : Dev Cert.DCatIdeal.nD) → Buf (Elt Ideal) ((c.tc : Thread Cert.DCatIdeal.nD Cert.DCatIdeal.τ).loc Cert.DCatIdeal.main_v0)),
      θ_run (Cert.DCatIdeal.defs (F := Ideal)) (onTc (τ := Cert.DCatIdeal.τ) (Cert.DCatIdeal.main (F := Ideal))) ⟨m, fun _ => 0, g⟩ (fun r => ∀ c : Dev Cert.DCatIdeal.nD,
          r.2.mem ((c.tc : Thread Cert.DCatIdeal.nD Cert.DCatIdeal.τ).loc Cert.DCatIdeal.main_v0) = v0 c
          ∧ r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
          ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ θ_run (Cert.DCatRefIdeal.defs (F := Ideal)) (onTc (τ := Cert.DCatRefIdeal.τ) (Cert.DCatRefIdeal.main (F := Ideal))) ⟨m', fun _ => 0, g'⟩ (fun r => ∀ c : Dev Cert.DCatRefIdeal.nD,
          r.2.mem ((c.tc : Thread Cert.DCatRefIdeal.nD Cert.DCatRefIdeal.τ).loc Cert.DCatRefIdeal.main_v4) = v0 c
          ∧ r.2.mem ((c.tc : Thread Cert.DCatRefIdeal.nD Cert.DCatRefIdeal.τ).loc Cert.DCatRefIdeal.main_arg0) = m' ((c.tc : Thread Cert.DCatRefIdeal.nD Cert.DCatRefIdeal.τ).loc Cert.DCatRefIdeal.main_arg0)
          ∧ r.2.mem ((c.tc : Thread Cert.DCatRefIdeal.nD Cert.DCatRefIdeal.τ).loc Cert.DCatRefIdeal.main_arg1) = m' ((c.tc : Thread Cert.DCatRefIdeal.nD Cert.DCatRefIdeal.τ).loc Cert.DCatRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v4) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)
      ∧ m' ((c.tc : Thread Cert.NormMixRefIdeal.nD Cert.NormMixRefIdeal.τ).loc Cert.NormMixRefIdeal.main_arg3) = m ((c.tc : Thread Cert.NormMixIdeal.nD Cert.NormMixIdeal.τ).loc Cert.NormMixIdeal.main_arg3)
      ∧ m' ((c.tc : Thread Cert.NormMixRefIdeal.nD Cert.NormMixRefIdeal.τ).loc Cert.NormMixRefIdeal.main_arg4) = m ((c.tc : Thread Cert.NormMixIdeal.nD Cert.NormMixIdeal.τ).loc Cert.NormMixIdeal.main_arg4)
      ∧ m' ((c.tc : Thread Cert.NormMixRefIdeal.nD Cert.NormMixRefIdeal.τ).loc Cert.NormMixRefIdeal.main_arg5) = m ((c.tc : Thread Cert.NormMixIdeal.nD Cert.NormMixIdeal.τ).loc Cert.NormMixIdeal.main_arg5)) →
    ∃ (v0 : (c : Dev Cert.NormMixIdeal.nD) → Buf (Elt Ideal) ((c.tc : Thread Cert.NormMixIdeal.nD Cert.NormMixIdeal.τ).loc Cert.NormMixIdeal.main_v0_0)) (v1 : (c : Dev Cert.NormMixIdeal.nD) → Buf (Elt Ideal) ((c.tc : Thread Cert.NormMixIdeal.nD Cert.NormMixIdeal.τ).loc Cert.NormMixIdeal.main_v0_1)) (v2 : (c : Dev Cert.NormMixIdeal.nD) → Buf (Elt Ideal) ((c.tc : Thread Cert.NormMixIdeal.nD Cert.NormMixIdeal.τ).loc Cert.NormMixIdeal.main_v0_2)) (v3 : (c : Dev Cert.NormMixIdeal.nD) → Buf (Elt Ideal) ((c.tc : Thread Cert.NormMixIdeal.nD Cert.NormMixIdeal.τ).loc Cert.NormMixIdeal.main_v0_3)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0_0) = v0 c
          ∧ r.2.mem ((c.tc : Thread Cert.NormMixIdeal.nD Cert.NormMixIdeal.τ).loc Cert.NormMixIdeal.main_v0_1) = v1 c
          ∧ r.2.mem ((c.tc : Thread Cert.NormMixIdeal.nD Cert.NormMixIdeal.τ).loc Cert.NormMixIdeal.main_v0_2) = v2 c
          ∧ r.2.mem ((c.tc : Thread Cert.NormMixIdeal.nD Cert.NormMixIdeal.τ).loc Cert.NormMixIdeal.main_v0_3) = v3 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
          ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
          ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
          ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v48) = v0 c
          ∧ r.2.mem ((c.tc : Thread Cert.NormMixRefIdeal.nD Cert.NormMixRefIdeal.τ).loc Cert.NormMixRefIdeal.main_v31) = v1 c
          ∧ r.2.mem ((c.tc : Thread Cert.NormMixRefIdeal.nD Cert.NormMixRefIdeal.τ).loc Cert.NormMixRefIdeal.main_v23) = v2 c
          ∧ r.2.mem ((c.tc : Thread Cert.NormMixRefIdeal.nD Cert.NormMixRefIdeal.τ).loc Cert.NormMixRefIdeal.main_v26) = v3 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3)
          ∧ r.2.mem ((c.tc : Thread Cert.NormMixRefIdeal.nD Cert.NormMixRefIdeal.τ).loc Cert.NormMixRefIdeal.main_arg4) = m' ((c.tc : Thread Cert.NormMixRefIdeal.nD Cert.NormMixRefIdeal.τ).loc Cert.NormMixRefIdeal.main_arg4)
          ∧ r.2.mem ((c.tc : Thread Cert.NormMixRefIdeal.nD Cert.NormMixRefIdeal.τ).loc Cert.NormMixRefIdeal.main_arg5) = m' ((c.tc : Thread Cert.NormMixRefIdeal.nD Cert.NormMixRefIdeal.τ).loc Cert.NormMixRefIdeal.main_arg5))

def preserves_NormMlp_NormMlpIdeal : Prop :=
  True

def algebraic_NormMlpIdeal_NormMlpRefIdeal [hNormMlpIdeal : Cert.NormMlpIdeal.Facts] [hNormMlpRefIdeal : Cert.NormMlpRefIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg)
    (m' : (ℓ : Loc Cert.NormMlpRefIdeal.nD Cert.NormMlpRefIdeal.τ Cert.NormMlpRefIdeal.sig) → Buf (Elt Ideal) ℓ) (g' : Dev Cert.NormMlpRefIdeal.nD → PrngReg), Pre_NormMlpIdeal m →
    (∀ c : Dev Cert.NormMlpIdeal.nD,
      m' ((c.tc : Thread Cert.NormMlpRefIdeal.nD Cert.NormMlpRefIdeal.τ).loc Cert.NormMlpRefIdeal.main_arg0) = m ((c.tc : Thread Cert.NormMlpIdeal.nD Cert.NormMlpIdeal.τ).loc Cert.NormMlpIdeal.main_arg0)
      ∧ m' ((c.tc : Thread Cert.NormMlpRefIdeal.nD Cert.NormMlpRefIdeal.τ).loc Cert.NormMlpRefIdeal.main_arg1) = m ((c.tc : Thread Cert.NormMlpIdeal.nD Cert.NormMlpIdeal.τ).loc Cert.NormMlpIdeal.main_arg1)
      ∧ m' ((c.tc : Thread Cert.NormMlpRefIdeal.nD Cert.NormMlpRefIdeal.τ).loc Cert.NormMlpRefIdeal.main_arg2) = m ((c.tc : Thread Cert.NormMlpIdeal.nD Cert.NormMlpIdeal.τ).loc Cert.NormMlpIdeal.main_arg2)
      ∧ m' ((c.tc : Thread Cert.NormMlpRefIdeal.nD Cert.NormMlpRefIdeal.τ).loc Cert.NormMlpRefIdeal.main_arg3) = m ((c.tc : Thread Cert.NormMlpIdeal.nD Cert.NormMlpIdeal.τ).loc Cert.NormMlpIdeal.main_arg3)
      ∧ m' ((c.tc : Thread Cert.NormMlpRefIdeal.nD Cert.NormMlpRefIdeal.τ).loc Cert.NormMlpRefIdeal.main_arg4) = m ((c.tc : Thread Cert.NormMlpIdeal.nD Cert.NormMlpIdeal.τ).loc Cert.NormMlpIdeal.main_arg4)
      ∧ m' ((c.tc : Thread Cert.NormMlpRefIdeal.nD Cert.NormMlpRefIdeal.τ).loc Cert.NormMlpRefIdeal.main_arg5) = m ((c.tc : Thread Cert.NormMlpIdeal.nD Cert.NormMlpIdeal.τ).loc Cert.NormMlpIdeal.main_arg5)
      ∧ m' ((c.tc : Thread Cert.NormMlpRefIdeal.nD Cert.NormMlpRefIdeal.τ).loc Cert.NormMlpRefIdeal.main_arg6) = m ((c.tc : Thread Cert.NormMlpIdeal.nD Cert.NormMlpIdeal.τ).loc Cert.NormMlpIdeal.main_arg6)
      ∧ m' ((c.tc : Thread Cert.NormMlpRefIdeal.nD Cert.NormMlpRefIdeal.τ).loc Cert.NormMlpRefIdeal.main_arg7) = m ((c.tc : Thread Cert.NormMlpIdeal.nD Cert.NormMlpIdeal.τ).loc Cert.NormMlpIdeal.main_arg7)) →
    ∃ (v0 : (c : Dev Cert.NormMlpIdeal.nD) → Buf (Elt Ideal) ((c.tc : Thread Cert.NormMlpIdeal.nD Cert.NormMlpIdeal.τ).loc Cert.NormMlpIdeal.main_v0_0)) (v1 : (c : Dev Cert.NormMlpIdeal.nD) → Buf (Elt Ideal) ((c.tc : Thread Cert.NormMlpIdeal.nD Cert.NormMlpIdeal.τ).loc Cert.NormMlpIdeal.main_v0_1)) (v2 : (c : Dev Cert.NormMlpIdeal.nD) → Buf (Elt Ideal) ((c.tc : Thread Cert.NormMlpIdeal.nD Cert.NormMlpIdeal.τ).loc Cert.NormMlpIdeal.main_v0_2)) (v3 : (c : Dev Cert.NormMlpIdeal.nD) → Buf (Elt Ideal) ((c.tc : Thread Cert.NormMlpIdeal.nD Cert.NormMlpIdeal.τ).loc Cert.NormMlpIdeal.main_v0_3)) (v4 : (c : Dev Cert.NormMlpIdeal.nD) → Buf (Elt Ideal) ((c.tc : Thread Cert.NormMlpIdeal.nD Cert.NormMlpIdeal.τ).loc Cert.NormMlpIdeal.main_v0_4)) (v5 : (c : Dev Cert.NormMlpIdeal.nD) → Buf (Elt Ideal) ((c.tc : Thread Cert.NormMlpIdeal.nD Cert.NormMlpIdeal.τ).loc Cert.NormMlpIdeal.main_v0_5)),
      θ_run (Cert.NormMlpIdeal.defs (F := Ideal)) (onTc (τ := Cert.NormMlpIdeal.τ) (Cert.NormMlpIdeal.main (F := Ideal))) ⟨m, fun _ => 0, g⟩ (fun r => ∀ c : Dev Cert.NormMlpIdeal.nD,
          r.2.mem ((c.tc : Thread Cert.NormMlpIdeal.nD Cert.NormMlpIdeal.τ).loc Cert.NormMlpIdeal.main_v0_0) = v0 c
          ∧ r.2.mem ((c.tc : Thread Cert.NormMlpIdeal.nD Cert.NormMlpIdeal.τ).loc Cert.NormMlpIdeal.main_v0_1) = v1 c
          ∧ r.2.mem ((c.tc : Thread Cert.NormMlpIdeal.nD Cert.NormMlpIdeal.τ).loc Cert.NormMlpIdeal.main_v0_2) = v2 c
          ∧ r.2.mem ((c.tc : Thread Cert.NormMlpIdeal.nD Cert.NormMlpIdeal.τ).loc Cert.NormMlpIdeal.main_v0_3) = v3 c
          ∧ r.2.mem ((c.tc : Thread Cert.NormMlpIdeal.nD Cert.NormMlpIdeal.τ).loc Cert.NormMlpIdeal.main_v0_4) = v4 c
          ∧ r.2.mem ((c.tc : Thread Cert.NormMlpIdeal.nD Cert.NormMlpIdeal.τ).loc Cert.NormMlpIdeal.main_v0_5) = v5 c
          ∧ r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
          ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1)
          ∧ r.2.mem ((c.tc : Thread Cert.NormMlpIdeal.nD Cert.NormMlpIdeal.τ).loc Cert.NormMlpIdeal.main_arg2) = m ((c.tc : Thread Cert.NormMlpIdeal.nD Cert.NormMlpIdeal.τ).loc Cert.NormMlpIdeal.main_arg2)
          ∧ r.2.mem ((c.tc : Thread Cert.NormMlpIdeal.nD Cert.NormMlpIdeal.τ).loc Cert.NormMlpIdeal.main_arg3) = m ((c.tc : Thread Cert.NormMlpIdeal.nD Cert.NormMlpIdeal.τ).loc Cert.NormMlpIdeal.main_arg3)
          ∧ r.2.mem ((c.tc : Thread Cert.NormMlpIdeal.nD Cert.NormMlpIdeal.τ).loc Cert.NormMlpIdeal.main_arg4) = m ((c.tc : Thread Cert.NormMlpIdeal.nD Cert.NormMlpIdeal.τ).loc Cert.NormMlpIdeal.main_arg4)
          ∧ r.2.mem ((c.tc : Thread Cert.NormMlpIdeal.nD Cert.NormMlpIdeal.τ).loc Cert.NormMlpIdeal.main_arg5) = m ((c.tc : Thread Cert.NormMlpIdeal.nD Cert.NormMlpIdeal.τ).loc Cert.NormMlpIdeal.main_arg5)
          ∧ r.2.mem ((c.tc : Thread Cert.NormMlpIdeal.nD Cert.NormMlpIdeal.τ).loc Cert.NormMlpIdeal.main_arg6) = m ((c.tc : Thread Cert.NormMlpIdeal.nD Cert.NormMlpIdeal.τ).loc Cert.NormMlpIdeal.main_arg6)
          ∧ r.2.mem ((c.tc : Thread Cert.NormMlpIdeal.nD Cert.NormMlpIdeal.τ).loc Cert.NormMlpIdeal.main_arg7) = m ((c.tc : Thread Cert.NormMlpIdeal.nD Cert.NormMlpIdeal.τ).loc Cert.NormMlpIdeal.main_arg7))
      ∧ θ_run (Cert.NormMlpRefIdeal.defs (F := Ideal)) (onTc (τ := Cert.NormMlpRefIdeal.τ) (Cert.NormMlpRefIdeal.main (F := Ideal))) ⟨m', fun _ => 0, g'⟩ (fun r => ∀ c : Dev Cert.NormMlpRefIdeal.nD,
          r.2.mem ((c.tc : Thread Cert.NormMlpRefIdeal.nD Cert.NormMlpRefIdeal.τ).loc Cert.NormMlpRefIdeal.main_v51) = v0 c
          ∧ r.2.mem ((c.tc : Thread Cert.NormMlpRefIdeal.nD Cert.NormMlpRefIdeal.τ).loc Cert.NormMlpRefIdeal.main_v58) = v1 c
          ∧ r.2.mem ((c.tc : Thread Cert.NormMlpRefIdeal.nD Cert.NormMlpRefIdeal.τ).loc Cert.NormMlpRefIdeal.main_v57) = v2 c
          ∧ r.2.mem ((c.tc : Thread Cert.NormMlpRefIdeal.nD Cert.NormMlpRefIdeal.τ).loc Cert.NormMlpRefIdeal.main_v34) = v3 c
          ∧ r.2.mem ((c.tc : Thread Cert.NormMlpRefIdeal.nD Cert.NormMlpRefIdeal.τ).loc Cert.NormMlpRefIdeal.main_v26) = v4 c
          ∧ r.2.mem ((c.tc : Thread Cert.NormMlpRefIdeal.nD Cert.NormMlpRefIdeal.τ).loc Cert.NormMlpRefIdeal.main_v29) = v5 c
          ∧ r.2.mem ((c.tc : Thread Cert.NormMlpRefIdeal.nD Cert.NormMlpRefIdeal.τ).loc Cert.NormMlpRefIdeal.main_arg0) = m' ((c.tc : Thread Cert.NormMlpRefIdeal.nD Cert.NormMlpRefIdeal.τ).loc Cert.NormMlpRefIdeal.main_arg0)
          ∧ r.2.mem ((c.tc : Thread Cert.NormMlpRefIdeal.nD Cert.NormMlpRefIdeal.τ).loc Cert.NormMlpRefIdeal.main_arg1) = m' ((c.tc : Thread Cert.NormMlpRefIdeal.nD Cert.NormMlpRefIdeal.τ).loc Cert.NormMlpRefIdeal.main_arg1)
          ∧ r.2.mem ((c.tc : Thread Cert.NormMlpRefIdeal.nD Cert.NormMlpRefIdeal.τ).loc Cert.NormMlpRefIdeal.main_arg2) = m' ((c.tc : Thread Cert.NormMlpRefIdeal.nD Cert.NormMlpRefIdeal.τ).loc Cert.NormMlpRefIdeal.main_arg2)
          ∧ r.2.mem ((c.tc : Thread Cert.NormMlpRefIdeal.nD Cert.NormMlpRefIdeal.τ).loc Cert.NormMlpRefIdeal.main_arg3) = m' ((c.tc : Thread Cert.NormMlpRefIdeal.nD Cert.NormMlpRefIdeal.τ).loc Cert.NormMlpRefIdeal.main_arg3)
          ∧ r.2.mem ((c.tc : Thread Cert.NormMlpRefIdeal.nD Cert.NormMlpRefIdeal.τ).loc Cert.NormMlpRefIdeal.main_arg4) = m' ((c.tc : Thread Cert.NormMlpRefIdeal.nD Cert.NormMlpRefIdeal.τ).loc Cert.NormMlpRefIdeal.main_arg4)
          ∧ r.2.mem ((c.tc : Thread Cert.NormMlpRefIdeal.nD Cert.NormMlpRefIdeal.τ).loc Cert.NormMlpRefIdeal.main_arg5) = m' ((c.tc : Thread Cert.NormMlpRefIdeal.nD Cert.NormMlpRefIdeal.τ).loc Cert.NormMlpRefIdeal.main_arg5)
          ∧ r.2.mem ((c.tc : Thread Cert.NormMlpRefIdeal.nD Cert.NormMlpRefIdeal.τ).loc Cert.NormMlpRefIdeal.main_arg6) = m' ((c.tc : Thread Cert.NormMlpRefIdeal.nD Cert.NormMlpRefIdeal.τ).loc Cert.NormMlpRefIdeal.main_arg6)
          ∧ r.2.mem ((c.tc : Thread Cert.NormMlpRefIdeal.nD Cert.NormMlpRefIdeal.τ).loc Cert.NormMlpRefIdeal.main_arg7) = m' ((c.tc : Thread Cert.NormMlpRefIdeal.nD Cert.NormMlpRefIdeal.τ).loc Cert.NormMlpRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)
      ∧ m' ((c.tc : Thread Cert.AdamInRefIdeal.nD Cert.AdamInRefIdeal.τ).loc Cert.AdamInRefIdeal.main_arg7) = m ((c.tc : Thread Cert.AdamInIdeal.nD Cert.AdamInIdeal.τ).loc Cert.AdamInIdeal.main_arg7)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v10) = v0 c
          ∧ r.2.mem ((c.tc : Thread Cert.AdamInRefIdeal.nD Cert.AdamInRefIdeal.τ).loc Cert.AdamInRefIdeal.main_v34) = v1 c
          ∧ r.2.mem ((c.tc : Thread Cert.AdamInRefIdeal.nD Cert.AdamInRefIdeal.τ).loc Cert.AdamInRefIdeal.main_v15) = v2 c
          ∧ r.2.mem ((c.tc : Thread Cert.AdamInRefIdeal.nD Cert.AdamInRefIdeal.τ).loc Cert.AdamInRefIdeal.main_v21) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6)
          ∧ r.2.mem ((c.tc : Thread Cert.AdamInRefIdeal.nD Cert.AdamInRefIdeal.τ).loc Cert.AdamInRefIdeal.main_arg7) = m' ((c.tc : Thread Cert.AdamInRefIdeal.nD Cert.AdamInRefIdeal.τ).loc Cert.AdamInRefIdeal.main_arg7))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)
      ∧ m' ((c.tc : Thread Cert.AdamOutRefIdeal.nD Cert.AdamOutRefIdeal.τ).loc Cert.AdamOutRefIdeal.main_arg7) = m ((c.tc : Thread Cert.AdamOutIdeal.nD Cert.AdamOutIdeal.τ).loc Cert.AdamOutIdeal.main_arg7)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v10) = v0 c
          ∧ r.2.mem ((c.tc : Thread Cert.AdamOutRefIdeal.nD Cert.AdamOutRefIdeal.τ).loc Cert.AdamOutRefIdeal.main_v34) = v1 c
          ∧ r.2.mem ((c.tc : Thread Cert.AdamOutRefIdeal.nD Cert.AdamOutRefIdeal.τ).loc Cert.AdamOutRefIdeal.main_v15) = v2 c
          ∧ r.2.mem ((c.tc : Thread Cert.AdamOutRefIdeal.nD Cert.AdamOutRefIdeal.τ).loc Cert.AdamOutRefIdeal.main_v21) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6)
          ∧ r.2.mem ((c.tc : Thread Cert.AdamOutRefIdeal.nD Cert.AdamOutRefIdeal.τ).loc Cert.AdamOutRefIdeal.main_arg7) = m' ((c.tc : Thread Cert.AdamOutRefIdeal.nD Cert.AdamOutRefIdeal.τ).loc Cert.AdamOutRefIdeal.main_arg7))

def preserves_AdamFf1_AdamFf1Ideal : Prop :=
  True

def algebraic_AdamFf1Ideal_AdamFf1RefIdeal [hAdamFf1Ideal : Cert.AdamFf1Ideal.Facts] [hAdamFf1RefIdeal : Cert.AdamFf1RefIdeal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg)
    (m' : (ℓ : Loc Cert.AdamFf1RefIdeal.nD Cert.AdamFf1RefIdeal.τ Cert.AdamFf1RefIdeal.sig) → Buf (Elt Ideal) ℓ) (g' : Dev Cert.AdamFf1RefIdeal.nD → PrngReg), Pre_AdamFf1Ideal m →
    (∀ c : Dev Cert.AdamFf1Ideal.nD,
      m' ((c.tc : Thread Cert.AdamFf1RefIdeal.nD Cert.AdamFf1RefIdeal.τ).loc Cert.AdamFf1RefIdeal.main_arg0) = m ((c.tc : Thread Cert.AdamFf1Ideal.nD Cert.AdamFf1Ideal.τ).loc Cert.AdamFf1Ideal.main_arg0)
      ∧ m' ((c.tc : Thread Cert.AdamFf1RefIdeal.nD Cert.AdamFf1RefIdeal.τ).loc Cert.AdamFf1RefIdeal.main_arg1) = m ((c.tc : Thread Cert.AdamFf1Ideal.nD Cert.AdamFf1Ideal.τ).loc Cert.AdamFf1Ideal.main_arg1)
      ∧ m' ((c.tc : Thread Cert.AdamFf1RefIdeal.nD Cert.AdamFf1RefIdeal.τ).loc Cert.AdamFf1RefIdeal.main_arg2) = m ((c.tc : Thread Cert.AdamFf1Ideal.nD Cert.AdamFf1Ideal.τ).loc Cert.AdamFf1Ideal.main_arg2)
      ∧ m' ((c.tc : Thread Cert.AdamFf1RefIdeal.nD Cert.AdamFf1RefIdeal.τ).loc Cert.AdamFf1RefIdeal.main_arg3) = m ((c.tc : Thread Cert.AdamFf1Ideal.nD Cert.AdamFf1Ideal.τ).loc Cert.AdamFf1Ideal.main_arg3)
      ∧ m' ((c.tc : Thread Cert.AdamFf1RefIdeal.nD Cert.AdamFf1RefIdeal.τ).loc Cert.AdamFf1RefIdeal.main_arg4) = m ((c.tc : Thread Cert.AdamFf1Ideal.nD Cert.AdamFf1Ideal.τ).loc Cert.AdamFf1Ideal.main_arg4)
      ∧ m' ((c.tc : Thread Cert.AdamFf1RefIdeal.nD Cert.AdamFf1RefIdeal.τ).loc Cert.AdamFf1RefIdeal.main_arg5) = m ((c.tc : Thread Cert.AdamFf1Ideal.nD Cert.AdamFf1Ideal.τ).loc Cert.AdamFf1Ideal.main_arg5)
      ∧ m' ((c.tc : Thread Cert.AdamFf1RefIdeal.nD Cert.AdamFf1RefIdeal.τ).loc Cert.AdamFf1RefIdeal.main_arg6) = m ((c.tc : Thread Cert.AdamFf1Ideal.nD Cert.AdamFf1Ideal.τ).loc Cert.AdamFf1Ideal.main_arg6)
      ∧ m' ((c.tc : Thread Cert.AdamFf1RefIdeal.nD Cert.AdamFf1RefIdeal.τ).loc Cert.AdamFf1RefIdeal.main_arg7) = m ((c.tc : Thread Cert.AdamFf1Ideal.nD Cert.AdamFf1Ideal.τ).loc Cert.AdamFf1Ideal.main_arg7)) →
    ∃ (v0 : (c : Dev Cert.AdamFf1Ideal.nD) → Buf (Elt Ideal) ((c.tc : Thread Cert.AdamFf1Ideal.nD Cert.AdamFf1Ideal.τ).loc Cert.AdamFf1Ideal.main_v0_0)) (v1 : (c : Dev Cert.AdamFf1Ideal.nD) → Buf (Elt Ideal) ((c.tc : Thread Cert.AdamFf1Ideal.nD Cert.AdamFf1Ideal.τ).loc Cert.AdamFf1Ideal.main_v0_1)) (v2 : (c : Dev Cert.AdamFf1Ideal.nD) → Buf (Elt Ideal) ((c.tc : Thread Cert.AdamFf1Ideal.nD Cert.AdamFf1Ideal.τ).loc Cert.AdamFf1Ideal.main_v0_2)) (v3 : (c : Dev Cert.AdamFf1Ideal.nD) → Buf (Elt Ideal) ((c.tc : Thread Cert.AdamFf1Ideal.nD Cert.AdamFf1Ideal.τ).loc Cert.AdamFf1Ideal.main_v0_3)),
      θ_run (Cert.AdamFf1Ideal.defs (F := Ideal)) (onTc (τ := Cert.AdamFf1Ideal.τ) (Cert.AdamFf1Ideal.main (F := Ideal))) ⟨m, fun _ => 0, g⟩ (fun r => ∀ c : Dev Cert.AdamFf1Ideal.nD,
          r.2.mem ((c.tc : Thread Cert.AdamFf1Ideal.nD Cert.AdamFf1Ideal.τ).loc Cert.AdamFf1Ideal.main_v0_0) = v0 c
          ∧ r.2.mem ((c.tc : Thread Cert.AdamFf1Ideal.nD Cert.AdamFf1Ideal.τ).loc Cert.AdamFf1Ideal.main_v0_1) = v1 c
          ∧ r.2.mem ((c.tc : Thread Cert.AdamFf1Ideal.nD Cert.AdamFf1Ideal.τ).loc Cert.AdamFf1Ideal.main_v0_2) = v2 c
          ∧ r.2.mem ((c.tc : Thread Cert.AdamFf1Ideal.nD Cert.AdamFf1Ideal.τ).loc Cert.AdamFf1Ideal.main_v0_3) = v3 c
          ∧ r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
          ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
          ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
          ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3)
          ∧ r.2.mem ((c.tc : Thread Cert.AdamFf1Ideal.nD Cert.AdamFf1Ideal.τ).loc Cert.AdamFf1Ideal.main_arg4) = m ((c.tc : Thread Cert.AdamFf1Ideal.nD Cert.AdamFf1Ideal.τ).loc Cert.AdamFf1Ideal.main_arg4)
          ∧ r.2.mem ((c.tc : Thread Cert.AdamFf1Ideal.nD Cert.AdamFf1Ideal.τ).loc Cert.AdamFf1Ideal.main_arg5) = m ((c.tc : Thread Cert.AdamFf1Ideal.nD Cert.AdamFf1Ideal.τ).loc Cert.AdamFf1Ideal.main_arg5)
          ∧ r.2.mem ((c.tc : Thread Cert.AdamFf1Ideal.nD Cert.AdamFf1Ideal.τ).loc Cert.AdamFf1Ideal.main_arg6) = m ((c.tc : Thread Cert.AdamFf1Ideal.nD Cert.AdamFf1Ideal.τ).loc Cert.AdamFf1Ideal.main_arg6)
          ∧ r.2.mem ((c.tc : Thread Cert.AdamFf1Ideal.nD Cert.AdamFf1Ideal.τ).loc Cert.AdamFf1Ideal.main_arg7) = m ((c.tc : Thread Cert.AdamFf1Ideal.nD Cert.AdamFf1Ideal.τ).loc Cert.AdamFf1Ideal.main_arg7))
      ∧ θ_run (Cert.AdamFf1RefIdeal.defs (F := Ideal)) (onTc (τ := Cert.AdamFf1RefIdeal.τ) (Cert.AdamFf1RefIdeal.main (F := Ideal))) ⟨m', fun _ => 0, g'⟩ (fun r => ∀ c : Dev Cert.AdamFf1RefIdeal.nD,
          r.2.mem ((c.tc : Thread Cert.AdamFf1RefIdeal.nD Cert.AdamFf1RefIdeal.τ).loc Cert.AdamFf1RefIdeal.main_v10) = v0 c
          ∧ r.2.mem ((c.tc : Thread Cert.AdamFf1RefIdeal.nD Cert.AdamFf1RefIdeal.τ).loc Cert.AdamFf1RefIdeal.main_v34) = v1 c
          ∧ r.2.mem ((c.tc : Thread Cert.AdamFf1RefIdeal.nD Cert.AdamFf1RefIdeal.τ).loc Cert.AdamFf1RefIdeal.main_v15) = v2 c
          ∧ r.2.mem ((c.tc : Thread Cert.AdamFf1RefIdeal.nD Cert.AdamFf1RefIdeal.τ).loc Cert.AdamFf1RefIdeal.main_v21) = v3 c
          ∧ r.2.mem ((c.tc : Thread Cert.AdamFf1RefIdeal.nD Cert.AdamFf1RefIdeal.τ).loc Cert.AdamFf1RefIdeal.main_arg0) = m' ((c.tc : Thread Cert.AdamFf1RefIdeal.nD Cert.AdamFf1RefIdeal.τ).loc Cert.AdamFf1RefIdeal.main_arg0)
          ∧ r.2.mem ((c.tc : Thread Cert.AdamFf1RefIdeal.nD Cert.AdamFf1RefIdeal.τ).loc Cert.AdamFf1RefIdeal.main_arg1) = m' ((c.tc : Thread Cert.AdamFf1RefIdeal.nD Cert.AdamFf1RefIdeal.τ).loc Cert.AdamFf1RefIdeal.main_arg1)
          ∧ r.2.mem ((c.tc : Thread Cert.AdamFf1RefIdeal.nD Cert.AdamFf1RefIdeal.τ).loc Cert.AdamFf1RefIdeal.main_arg2) = m' ((c.tc : Thread Cert.AdamFf1RefIdeal.nD Cert.AdamFf1RefIdeal.τ).loc Cert.AdamFf1RefIdeal.main_arg2)
          ∧ r.2.mem ((c.tc : Thread Cert.AdamFf1RefIdeal.nD Cert.AdamFf1RefIdeal.τ).loc Cert.AdamFf1RefIdeal.main_arg3) = m' ((c.tc : Thread Cert.AdamFf1RefIdeal.nD Cert.AdamFf1RefIdeal.τ).loc Cert.AdamFf1RefIdeal.main_arg3)
          ∧ r.2.mem ((c.tc : Thread Cert.AdamFf1RefIdeal.nD Cert.AdamFf1RefIdeal.τ).loc Cert.AdamFf1RefIdeal.main_arg4) = m' ((c.tc : Thread Cert.AdamFf1RefIdeal.nD Cert.AdamFf1RefIdeal.τ).loc Cert.AdamFf1RefIdeal.main_arg4)
          ∧ r.2.mem ((c.tc : Thread Cert.AdamFf1RefIdeal.nD Cert.AdamFf1RefIdeal.τ).loc Cert.AdamFf1RefIdeal.main_arg5) = m' ((c.tc : Thread Cert.AdamFf1RefIdeal.nD Cert.AdamFf1RefIdeal.τ).loc Cert.AdamFf1RefIdeal.main_arg5)
          ∧ r.2.mem ((c.tc : Thread Cert.AdamFf1RefIdeal.nD Cert.AdamFf1RefIdeal.τ).loc Cert.AdamFf1RefIdeal.main_arg6) = m' ((c.tc : Thread Cert.AdamFf1RefIdeal.nD Cert.AdamFf1RefIdeal.τ).loc Cert.AdamFf1RefIdeal.main_arg6)
          ∧ r.2.mem ((c.tc : Thread Cert.AdamFf1RefIdeal.nD Cert.AdamFf1RefIdeal.τ).loc Cert.AdamFf1RefIdeal.main_arg7) = m' ((c.tc : Thread Cert.AdamFf1RefIdeal.nD Cert.AdamFf1RefIdeal.τ).loc Cert.AdamFf1RefIdeal.main_arg7))

def preserves_AdamFf2_AdamFf2Ideal : Prop :=
  True

def algebraic_AdamFf2Ideal_AdamFf2RefIdeal [hAdamFf2Ideal : Cert.AdamFf2Ideal.Facts] [hAdamFf2RefIdeal : Cert.AdamFf2RefIdeal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg)
    (m' : (ℓ : Loc Cert.AdamFf2RefIdeal.nD Cert.AdamFf2RefIdeal.τ Cert.AdamFf2RefIdeal.sig) → Buf (Elt Ideal) ℓ) (g' : Dev Cert.AdamFf2RefIdeal.nD → PrngReg), Pre_AdamFf2Ideal m →
    (∀ c : Dev Cert.AdamFf2Ideal.nD,
      m' ((c.tc : Thread Cert.AdamFf2RefIdeal.nD Cert.AdamFf2RefIdeal.τ).loc Cert.AdamFf2RefIdeal.main_arg0) = m ((c.tc : Thread Cert.AdamFf2Ideal.nD Cert.AdamFf2Ideal.τ).loc Cert.AdamFf2Ideal.main_arg0)
      ∧ m' ((c.tc : Thread Cert.AdamFf2RefIdeal.nD Cert.AdamFf2RefIdeal.τ).loc Cert.AdamFf2RefIdeal.main_arg1) = m ((c.tc : Thread Cert.AdamFf2Ideal.nD Cert.AdamFf2Ideal.τ).loc Cert.AdamFf2Ideal.main_arg1)
      ∧ m' ((c.tc : Thread Cert.AdamFf2RefIdeal.nD Cert.AdamFf2RefIdeal.τ).loc Cert.AdamFf2RefIdeal.main_arg2) = m ((c.tc : Thread Cert.AdamFf2Ideal.nD Cert.AdamFf2Ideal.τ).loc Cert.AdamFf2Ideal.main_arg2)
      ∧ m' ((c.tc : Thread Cert.AdamFf2RefIdeal.nD Cert.AdamFf2RefIdeal.τ).loc Cert.AdamFf2RefIdeal.main_arg3) = m ((c.tc : Thread Cert.AdamFf2Ideal.nD Cert.AdamFf2Ideal.τ).loc Cert.AdamFf2Ideal.main_arg3)
      ∧ m' ((c.tc : Thread Cert.AdamFf2RefIdeal.nD Cert.AdamFf2RefIdeal.τ).loc Cert.AdamFf2RefIdeal.main_arg4) = m ((c.tc : Thread Cert.AdamFf2Ideal.nD Cert.AdamFf2Ideal.τ).loc Cert.AdamFf2Ideal.main_arg4)
      ∧ m' ((c.tc : Thread Cert.AdamFf2RefIdeal.nD Cert.AdamFf2RefIdeal.τ).loc Cert.AdamFf2RefIdeal.main_arg5) = m ((c.tc : Thread Cert.AdamFf2Ideal.nD Cert.AdamFf2Ideal.τ).loc Cert.AdamFf2Ideal.main_arg5)
      ∧ m' ((c.tc : Thread Cert.AdamFf2RefIdeal.nD Cert.AdamFf2RefIdeal.τ).loc Cert.AdamFf2RefIdeal.main_arg6) = m ((c.tc : Thread Cert.AdamFf2Ideal.nD Cert.AdamFf2Ideal.τ).loc Cert.AdamFf2Ideal.main_arg6)
      ∧ m' ((c.tc : Thread Cert.AdamFf2RefIdeal.nD Cert.AdamFf2RefIdeal.τ).loc Cert.AdamFf2RefIdeal.main_arg7) = m ((c.tc : Thread Cert.AdamFf2Ideal.nD Cert.AdamFf2Ideal.τ).loc Cert.AdamFf2Ideal.main_arg7)) →
    ∃ (v0 : (c : Dev Cert.AdamFf2Ideal.nD) → Buf (Elt Ideal) ((c.tc : Thread Cert.AdamFf2Ideal.nD Cert.AdamFf2Ideal.τ).loc Cert.AdamFf2Ideal.main_v0_0)) (v1 : (c : Dev Cert.AdamFf2Ideal.nD) → Buf (Elt Ideal) ((c.tc : Thread Cert.AdamFf2Ideal.nD Cert.AdamFf2Ideal.τ).loc Cert.AdamFf2Ideal.main_v0_1)) (v2 : (c : Dev Cert.AdamFf2Ideal.nD) → Buf (Elt Ideal) ((c.tc : Thread Cert.AdamFf2Ideal.nD Cert.AdamFf2Ideal.τ).loc Cert.AdamFf2Ideal.main_v0_2)) (v3 : (c : Dev Cert.AdamFf2Ideal.nD) → Buf (Elt Ideal) ((c.tc : Thread Cert.AdamFf2Ideal.nD Cert.AdamFf2Ideal.τ).loc Cert.AdamFf2Ideal.main_v0_3)),
      θ_run (Cert.AdamFf2Ideal.defs (F := Ideal)) (onTc (τ := Cert.AdamFf2Ideal.τ) (Cert.AdamFf2Ideal.main (F := Ideal))) ⟨m, fun _ => 0, g⟩ (fun r => ∀ c : Dev Cert.AdamFf2Ideal.nD,
          r.2.mem ((c.tc : Thread Cert.AdamFf2Ideal.nD Cert.AdamFf2Ideal.τ).loc Cert.AdamFf2Ideal.main_v0_0) = v0 c
          ∧ r.2.mem ((c.tc : Thread Cert.AdamFf2Ideal.nD Cert.AdamFf2Ideal.τ).loc Cert.AdamFf2Ideal.main_v0_1) = v1 c
          ∧ r.2.mem ((c.tc : Thread Cert.AdamFf2Ideal.nD Cert.AdamFf2Ideal.τ).loc Cert.AdamFf2Ideal.main_v0_2) = v2 c
          ∧ r.2.mem ((c.tc : Thread Cert.AdamFf2Ideal.nD Cert.AdamFf2Ideal.τ).loc Cert.AdamFf2Ideal.main_v0_3) = v3 c
          ∧ r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
          ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
          ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
          ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3)
          ∧ r.2.mem ((c.tc : Thread Cert.AdamFf2Ideal.nD Cert.AdamFf2Ideal.τ).loc Cert.AdamFf2Ideal.main_arg4) = m ((c.tc : Thread Cert.AdamFf2Ideal.nD Cert.AdamFf2Ideal.τ).loc Cert.AdamFf2Ideal.main_arg4)
          ∧ r.2.mem ((c.tc : Thread Cert.AdamFf2Ideal.nD Cert.AdamFf2Ideal.τ).loc Cert.AdamFf2Ideal.main_arg5) = m ((c.tc : Thread Cert.AdamFf2Ideal.nD Cert.AdamFf2Ideal.τ).loc Cert.AdamFf2Ideal.main_arg5)
          ∧ r.2.mem ((c.tc : Thread Cert.AdamFf2Ideal.nD Cert.AdamFf2Ideal.τ).loc Cert.AdamFf2Ideal.main_arg6) = m ((c.tc : Thread Cert.AdamFf2Ideal.nD Cert.AdamFf2Ideal.τ).loc Cert.AdamFf2Ideal.main_arg6)
          ∧ r.2.mem ((c.tc : Thread Cert.AdamFf2Ideal.nD Cert.AdamFf2Ideal.τ).loc Cert.AdamFf2Ideal.main_arg7) = m ((c.tc : Thread Cert.AdamFf2Ideal.nD Cert.AdamFf2Ideal.τ).loc Cert.AdamFf2Ideal.main_arg7))
      ∧ θ_run (Cert.AdamFf2RefIdeal.defs (F := Ideal)) (onTc (τ := Cert.AdamFf2RefIdeal.τ) (Cert.AdamFf2RefIdeal.main (F := Ideal))) ⟨m', fun _ => 0, g'⟩ (fun r => ∀ c : Dev Cert.AdamFf2RefIdeal.nD,
          r.2.mem ((c.tc : Thread Cert.AdamFf2RefIdeal.nD Cert.AdamFf2RefIdeal.τ).loc Cert.AdamFf2RefIdeal.main_v10) = v0 c
          ∧ r.2.mem ((c.tc : Thread Cert.AdamFf2RefIdeal.nD Cert.AdamFf2RefIdeal.τ).loc Cert.AdamFf2RefIdeal.main_v34) = v1 c
          ∧ r.2.mem ((c.tc : Thread Cert.AdamFf2RefIdeal.nD Cert.AdamFf2RefIdeal.τ).loc Cert.AdamFf2RefIdeal.main_v15) = v2 c
          ∧ r.2.mem ((c.tc : Thread Cert.AdamFf2RefIdeal.nD Cert.AdamFf2RefIdeal.τ).loc Cert.AdamFf2RefIdeal.main_v21) = v3 c
          ∧ r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
          ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
          ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
          ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3)
          ∧ r.2.mem ((c.tc : Thread Cert.AdamFf2RefIdeal.nD Cert.AdamFf2RefIdeal.τ).loc Cert.AdamFf2RefIdeal.main_arg4) = m' ((c.tc : Thread Cert.AdamFf2RefIdeal.nD Cert.AdamFf2RefIdeal.τ).loc Cert.AdamFf2RefIdeal.main_arg4)
          ∧ r.2.mem ((c.tc : Thread Cert.AdamFf2RefIdeal.nD Cert.AdamFf2RefIdeal.τ).loc Cert.AdamFf2RefIdeal.main_arg5) = m' ((c.tc : Thread Cert.AdamFf2RefIdeal.nD Cert.AdamFf2RefIdeal.τ).loc Cert.AdamFf2RefIdeal.main_arg5)
          ∧ r.2.mem ((c.tc : Thread Cert.AdamFf2RefIdeal.nD Cert.AdamFf2RefIdeal.τ).loc Cert.AdamFf2RefIdeal.main_arg6) = m' ((c.tc : Thread Cert.AdamFf2RefIdeal.nD Cert.AdamFf2RefIdeal.τ).loc Cert.AdamFf2RefIdeal.main_arg6)
          ∧ r.2.mem ((c.tc : Thread Cert.AdamFf2RefIdeal.nD Cert.AdamFf2RefIdeal.τ).loc Cert.AdamFf2RefIdeal.main_arg7) = m' ((c.tc : Thread Cert.AdamFf2RefIdeal.nD Cert.AdamFf2RefIdeal.τ).loc Cert.AdamFf2RefIdeal.main_arg7))

def preserves_Fwd_FwdIdeal : Prop :=
  True

def algebraic_FwdIdeal_FwdRefIdeal_pre_finite_scores [hFwdIdeal : Cert.FwdIdeal.Facts] [hFwdRefIdeal : Cert.FwdRefIdeal.Facts] [hPre_finite_scores : Cert.Pre_finite_scores.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_scores m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v44) = v0 c
          ∧ r.2.mem ((c.tc : Thread Cert.FwdRefIdeal.nD Cert.FwdRefIdeal.τ).loc Cert.FwdRefIdeal.main_v19) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_NormMixFwd_NormMixFwdIdeal : Prop :=
  True

def algebraic_NormMixFwdIdeal_NormMixFwdRefIdeal [hNormMixFwdIdeal : Cert.NormMixFwdIdeal.Facts] [hNormMixFwdRefIdeal : Cert.NormMixFwdRefIdeal.Facts] : Prop :=
  ∀ (m : (ℓ : Loc Cert.NormMixFwdIdeal.nD Cert.NormMixFwdIdeal.τ Cert.NormMixFwdIdeal.sig) → Buf (Elt Ideal) ℓ) (g : Dev Cert.NormMixFwdIdeal.nD → PrngReg)
    (m' : (ℓ : Loc Cert.NormMixFwdRefIdeal.nD Cert.NormMixFwdRefIdeal.τ Cert.NormMixFwdRefIdeal.sig) → Buf (Elt Ideal) ℓ) (g' : Dev Cert.NormMixFwdRefIdeal.nD → PrngReg), Pre_NormMixFwdIdeal m →
    (∀ c : Dev Cert.NormMixFwdIdeal.nD,
      m' ((c.tc : Thread Cert.NormMixFwdRefIdeal.nD Cert.NormMixFwdRefIdeal.τ).loc Cert.NormMixFwdRefIdeal.main_arg0) = m ((c.tc : Thread Cert.NormMixFwdIdeal.nD Cert.NormMixFwdIdeal.τ).loc Cert.NormMixFwdIdeal.main_arg0)
      ∧ m' ((c.tc : Thread Cert.NormMixFwdRefIdeal.nD Cert.NormMixFwdRefIdeal.τ).loc Cert.NormMixFwdRefIdeal.main_arg1) = m ((c.tc : Thread Cert.NormMixFwdIdeal.nD Cert.NormMixFwdIdeal.τ).loc Cert.NormMixFwdIdeal.main_arg1)
      ∧ m' ((c.tc : Thread Cert.NormMixFwdRefIdeal.nD Cert.NormMixFwdRefIdeal.τ).loc Cert.NormMixFwdRefIdeal.main_arg2) = m ((c.tc : Thread Cert.NormMixFwdIdeal.nD Cert.NormMixFwdIdeal.τ).loc Cert.NormMixFwdIdeal.main_arg2)
      ∧ m' ((c.tc : Thread Cert.NormMixFwdRefIdeal.nD Cert.NormMixFwdRefIdeal.τ).loc Cert.NormMixFwdRefIdeal.main_arg3) = m ((c.tc : Thread Cert.NormMixFwdIdeal.nD Cert.NormMixFwdIdeal.τ).loc Cert.NormMixFwdIdeal.main_arg3)) →
    ∃ (v0 : (c : Dev Cert.NormMixFwdIdeal.nD) → Buf (Elt Ideal) ((c.tc : Thread Cert.NormMixFwdIdeal.nD Cert.NormMixFwdIdeal.τ).loc Cert.NormMixFwdIdeal.main_v0)),
      θ_run (Cert.NormMixFwdIdeal.defs (F := Ideal)) (onTc (τ := Cert.NormMixFwdIdeal.τ) (Cert.NormMixFwdIdeal.main (F := Ideal))) ⟨m, fun _ => 0, g⟩ (fun r => ∀ c : Dev Cert.NormMixFwdIdeal.nD,
          r.2.mem ((c.tc : Thread Cert.NormMixFwdIdeal.nD Cert.NormMixFwdIdeal.τ).loc Cert.NormMixFwdIdeal.main_v0) = v0 c
          ∧ r.2.mem ((c.tc : Thread Cert.NormMixFwdIdeal.nD Cert.NormMixFwdIdeal.τ).loc Cert.NormMixFwdIdeal.main_arg0) = m ((c.tc : Thread Cert.NormMixFwdIdeal.nD Cert.NormMixFwdIdeal.τ).loc Cert.NormMixFwdIdeal.main_arg0)
          ∧ r.2.mem ((c.tc : Thread Cert.NormMixFwdIdeal.nD Cert.NormMixFwdIdeal.τ).loc Cert.NormMixFwdIdeal.main_arg1) = m ((c.tc : Thread Cert.NormMixFwdIdeal.nD Cert.NormMixFwdIdeal.τ).loc Cert.NormMixFwdIdeal.main_arg1)
          ∧ r.2.mem ((c.tc : Thread Cert.NormMixFwdIdeal.nD Cert.NormMixFwdIdeal.τ).loc Cert.NormMixFwdIdeal.main_arg2) = m ((c.tc : Thread Cert.NormMixFwdIdeal.nD Cert.NormMixFwdIdeal.τ).loc Cert.NormMixFwdIdeal.main_arg2)
          ∧ r.2.mem ((c.tc : Thread Cert.NormMixFwdIdeal.nD Cert.NormMixFwdIdeal.τ).loc Cert.NormMixFwdIdeal.main_arg3) = m ((c.tc : Thread Cert.NormMixFwdIdeal.nD Cert.NormMixFwdIdeal.τ).loc Cert.NormMixFwdIdeal.main_arg3))
      ∧ θ_run (Cert.NormMixFwdRefIdeal.defs (F := Ideal)) (onTc (τ := Cert.NormMixFwdRefIdeal.τ) (Cert.NormMixFwdRefIdeal.main (F := Ideal))) ⟨m', fun _ => 0, g'⟩ (fun r => ∀ c : Dev Cert.NormMixFwdRefIdeal.nD,
          r.2.mem ((c.tc : Thread Cert.NormMixFwdRefIdeal.nD Cert.NormMixFwdRefIdeal.τ).loc Cert.NormMixFwdRefIdeal.main_v18) = v0 c
          ∧ r.2.mem ((c.tc : Thread Cert.NormMixFwdRefIdeal.nD Cert.NormMixFwdRefIdeal.τ).loc Cert.NormMixFwdRefIdeal.main_arg0) = m' ((c.tc : Thread Cert.NormMixFwdRefIdeal.nD Cert.NormMixFwdRefIdeal.τ).loc Cert.NormMixFwdRefIdeal.main_arg0)
          ∧ r.2.mem ((c.tc : Thread Cert.NormMixFwdRefIdeal.nD Cert.NormMixFwdRefIdeal.τ).loc Cert.NormMixFwdRefIdeal.main_arg1) = m' ((c.tc : Thread Cert.NormMixFwdRefIdeal.nD Cert.NormMixFwdRefIdeal.τ).loc Cert.NormMixFwdRefIdeal.main_arg1)
          ∧ r.2.mem ((c.tc : Thread Cert.NormMixFwdRefIdeal.nD Cert.NormMixFwdRefIdeal.τ).loc Cert.NormMixFwdRefIdeal.main_arg2) = m' ((c.tc : Thread Cert.NormMixFwdRefIdeal.nD Cert.NormMixFwdRefIdeal.τ).loc Cert.NormMixFwdRefIdeal.main_arg2)
          ∧ r.2.mem ((c.tc : Thread Cert.NormMixFwdRefIdeal.nD Cert.NormMixFwdRefIdeal.τ).loc Cert.NormMixFwdRefIdeal.main_arg3) = m' ((c.tc : Thread Cert.NormMixFwdRefIdeal.nD Cert.NormMixFwdRefIdeal.τ).loc Cert.NormMixFwdRefIdeal.main_arg3))

def preserves_NormMlpFwd_NormMlpFwdIdeal : Prop :=
  True

def algebraic_NormMlpFwdIdeal_NormMlpFwdRefIdeal [hNormMlpFwdIdeal : Cert.NormMlpFwdIdeal.Facts] [hNormMlpFwdRefIdeal : Cert.NormMlpFwdRefIdeal.Facts] : Prop :=
  ∀ (m : (ℓ : Loc Cert.NormMlpFwdIdeal.nD Cert.NormMlpFwdIdeal.τ Cert.NormMlpFwdIdeal.sig) → Buf (Elt Ideal) ℓ) (g : Dev Cert.NormMlpFwdIdeal.nD → PrngReg)
    (m' : (ℓ : Loc Cert.NormMlpFwdRefIdeal.nD Cert.NormMlpFwdRefIdeal.τ Cert.NormMlpFwdRefIdeal.sig) → Buf (Elt Ideal) ℓ) (g' : Dev Cert.NormMlpFwdRefIdeal.nD → PrngReg), Pre_NormMlpFwdIdeal m →
    (∀ c : Dev Cert.NormMlpFwdIdeal.nD,
      m' ((c.tc : Thread Cert.NormMlpFwdRefIdeal.nD Cert.NormMlpFwdRefIdeal.τ).loc Cert.NormMlpFwdRefIdeal.main_arg0) = m ((c.tc : Thread Cert.NormMlpFwdIdeal.nD Cert.NormMlpFwdIdeal.τ).loc Cert.NormMlpFwdIdeal.main_arg0)
      ∧ m' ((c.tc : Thread Cert.NormMlpFwdRefIdeal.nD Cert.NormMlpFwdRefIdeal.τ).loc Cert.NormMlpFwdRefIdeal.main_arg1) = m ((c.tc : Thread Cert.NormMlpFwdIdeal.nD Cert.NormMlpFwdIdeal.τ).loc Cert.NormMlpFwdIdeal.main_arg1)
      ∧ m' ((c.tc : Thread Cert.NormMlpFwdRefIdeal.nD Cert.NormMlpFwdRefIdeal.τ).loc Cert.NormMlpFwdRefIdeal.main_arg2) = m ((c.tc : Thread Cert.NormMlpFwdIdeal.nD Cert.NormMlpFwdIdeal.τ).loc Cert.NormMlpFwdIdeal.main_arg2)
      ∧ m' ((c.tc : Thread Cert.NormMlpFwdRefIdeal.nD Cert.NormMlpFwdRefIdeal.τ).loc Cert.NormMlpFwdRefIdeal.main_arg3) = m ((c.tc : Thread Cert.NormMlpFwdIdeal.nD Cert.NormMlpFwdIdeal.τ).loc Cert.NormMlpFwdIdeal.main_arg3)
      ∧ m' ((c.tc : Thread Cert.NormMlpFwdRefIdeal.nD Cert.NormMlpFwdRefIdeal.τ).loc Cert.NormMlpFwdRefIdeal.main_arg4) = m ((c.tc : Thread Cert.NormMlpFwdIdeal.nD Cert.NormMlpFwdIdeal.τ).loc Cert.NormMlpFwdIdeal.main_arg4)
      ∧ m' ((c.tc : Thread Cert.NormMlpFwdRefIdeal.nD Cert.NormMlpFwdRefIdeal.τ).loc Cert.NormMlpFwdRefIdeal.main_arg5) = m ((c.tc : Thread Cert.NormMlpFwdIdeal.nD Cert.NormMlpFwdIdeal.τ).loc Cert.NormMlpFwdIdeal.main_arg5)) →
    ∃ (v0 : (c : Dev Cert.NormMlpFwdIdeal.nD) → Buf (Elt Ideal) ((c.tc : Thread Cert.NormMlpFwdIdeal.nD Cert.NormMlpFwdIdeal.τ).loc Cert.NormMlpFwdIdeal.main_v0_0)) (v1 : (c : Dev Cert.NormMlpFwdIdeal.nD) → Buf (Elt Ideal) ((c.tc : Thread Cert.NormMlpFwdIdeal.nD Cert.NormMlpFwdIdeal.τ).loc Cert.NormMlpFwdIdeal.main_v0_1)),
      θ_run (Cert.NormMlpFwdIdeal.defs (F := Ideal)) (onTc (τ := Cert.NormMlpFwdIdeal.τ) (Cert.NormMlpFwdIdeal.main (F := Ideal))) ⟨m, fun _ => 0, g⟩ (fun r => ∀ c : Dev Cert.NormMlpFwdIdeal.nD,
          r.2.mem ((c.tc : Thread Cert.NormMlpFwdIdeal.nD Cert.NormMlpFwdIdeal.τ).loc Cert.NormMlpFwdIdeal.main_v0_0) = v0 c
          ∧ r.2.mem ((c.tc : Thread Cert.NormMlpFwdIdeal.nD Cert.NormMlpFwdIdeal.τ).loc Cert.NormMlpFwdIdeal.main_v0_1) = v1 c
          ∧ r.2.mem ((c.tc : Thread Cert.NormMlpFwdIdeal.nD Cert.NormMlpFwdIdeal.τ).loc Cert.NormMlpFwdIdeal.main_arg0) = m ((c.tc : Thread Cert.NormMlpFwdIdeal.nD Cert.NormMlpFwdIdeal.τ).loc Cert.NormMlpFwdIdeal.main_arg0)
          ∧ r.2.mem ((c.tc : Thread Cert.NormMlpFwdIdeal.nD Cert.NormMlpFwdIdeal.τ).loc Cert.NormMlpFwdIdeal.main_arg1) = m ((c.tc : Thread Cert.NormMlpFwdIdeal.nD Cert.NormMlpFwdIdeal.τ).loc Cert.NormMlpFwdIdeal.main_arg1)
          ∧ r.2.mem ((c.tc : Thread Cert.NormMlpFwdIdeal.nD Cert.NormMlpFwdIdeal.τ).loc Cert.NormMlpFwdIdeal.main_arg2) = m ((c.tc : Thread Cert.NormMlpFwdIdeal.nD Cert.NormMlpFwdIdeal.τ).loc Cert.NormMlpFwdIdeal.main_arg2)
          ∧ r.2.mem ((c.tc : Thread Cert.NormMlpFwdIdeal.nD Cert.NormMlpFwdIdeal.τ).loc Cert.NormMlpFwdIdeal.main_arg3) = m ((c.tc : Thread Cert.NormMlpFwdIdeal.nD Cert.NormMlpFwdIdeal.τ).loc Cert.NormMlpFwdIdeal.main_arg3)
          ∧ r.2.mem ((c.tc : Thread Cert.NormMlpFwdIdeal.nD Cert.NormMlpFwdIdeal.τ).loc Cert.NormMlpFwdIdeal.main_arg4) = m ((c.tc : Thread Cert.NormMlpFwdIdeal.nD Cert.NormMlpFwdIdeal.τ).loc Cert.NormMlpFwdIdeal.main_arg4)
          ∧ r.2.mem ((c.tc : Thread Cert.NormMlpFwdIdeal.nD Cert.NormMlpFwdIdeal.τ).loc Cert.NormMlpFwdIdeal.main_arg5) = m ((c.tc : Thread Cert.NormMlpFwdIdeal.nD Cert.NormMlpFwdIdeal.τ).loc Cert.NormMlpFwdIdeal.main_arg5))
      ∧ θ_run (Cert.NormMlpFwdRefIdeal.defs (F := Ideal)) (onTc (τ := Cert.NormMlpFwdRefIdeal.τ) (Cert.NormMlpFwdRefIdeal.main (F := Ideal))) ⟨m', fun _ => 0, g'⟩ (fun r => ∀ c : Dev Cert.NormMlpFwdRefIdeal.nD,
          r.2.mem ((c.tc : Thread Cert.NormMlpFwdRefIdeal.nD Cert.NormMlpFwdRefIdeal.τ).loc Cert.NormMlpFwdRefIdeal.main_v2) = v0 c
          ∧ r.2.mem ((c.tc : Thread Cert.NormMlpFwdRefIdeal.nD Cert.NormMlpFwdRefIdeal.τ).loc Cert.NormMlpFwdRefIdeal.main_v21) = v1 c
          ∧ r.2.mem ((c.tc : Thread Cert.NormMlpFwdRefIdeal.nD Cert.NormMlpFwdRefIdeal.τ).loc Cert.NormMlpFwdRefIdeal.main_arg0) = m' ((c.tc : Thread Cert.NormMlpFwdRefIdeal.nD Cert.NormMlpFwdRefIdeal.τ).loc Cert.NormMlpFwdRefIdeal.main_arg0)
          ∧ r.2.mem ((c.tc : Thread Cert.NormMlpFwdRefIdeal.nD Cert.NormMlpFwdRefIdeal.τ).loc Cert.NormMlpFwdRefIdeal.main_arg1) = m' ((c.tc : Thread Cert.NormMlpFwdRefIdeal.nD Cert.NormMlpFwdRefIdeal.τ).loc Cert.NormMlpFwdRefIdeal.main_arg1)
          ∧ r.2.mem ((c.tc : Thread Cert.NormMlpFwdRefIdeal.nD Cert.NormMlpFwdRefIdeal.τ).loc Cert.NormMlpFwdRefIdeal.main_arg2) = m' ((c.tc : Thread Cert.NormMlpFwdRefIdeal.nD Cert.NormMlpFwdRefIdeal.τ).loc Cert.NormMlpFwdRefIdeal.main_arg2)
          ∧ r.2.mem ((c.tc : Thread Cert.NormMlpFwdRefIdeal.nD Cert.NormMlpFwdRefIdeal.τ).loc Cert.NormMlpFwdRefIdeal.main_arg3) = m' ((c.tc : Thread Cert.NormMlpFwdRefIdeal.nD Cert.NormMlpFwdRefIdeal.τ).loc Cert.NormMlpFwdRefIdeal.main_arg3)
          ∧ r.2.mem ((c.tc : Thread Cert.NormMlpFwdRefIdeal.nD Cert.NormMlpFwdRefIdeal.τ).loc Cert.NormMlpFwdRefIdeal.main_arg4) = m' ((c.tc : Thread Cert.NormMlpFwdRefIdeal.nD Cert.NormMlpFwdRefIdeal.τ).loc Cert.NormMlpFwdRefIdeal.main_arg4)
          ∧ r.2.mem ((c.tc : Thread Cert.NormMlpFwdRefIdeal.nD Cert.NormMlpFwdRefIdeal.τ).loc Cert.NormMlpFwdRefIdeal.main_arg5) = m' ((c.tc : Thread Cert.NormMlpFwdRefIdeal.nD Cert.NormMlpFwdRefIdeal.τ).loc Cert.NormMlpFwdRefIdeal.main_arg5))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v4) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v1) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v6) = v2 c
          ∧ r.2.mem ((c.tc : Thread Cert.AdamAdaRefIdeal.nD Cert.AdamAdaRefIdeal.τ).loc Cert.AdamAdaRefIdeal.main_v12) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v8) = v0 c
          ∧ r.2.mem ((c.tc : Thread Cert.AdamSmallRefIdeal.nD Cert.AdamSmallRefIdeal.τ).loc Cert.AdamSmallRefIdeal.main_v32) = v1 c
          ∧ r.2.mem ((c.tc : Thread Cert.AdamSmallRefIdeal.nD Cert.AdamSmallRefIdeal.τ).loc Cert.AdamSmallRefIdeal.main_v13) = v2 c
          ∧ r.2.mem ((c.tc : Thread Cert.AdamSmallRefIdeal.nD Cert.AdamSmallRefIdeal.τ).loc Cert.AdamSmallRefIdeal.main_v19) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10))

def preserves_AdamTiny_AdamTinyIdeal : Prop :=
  True

def algebraic_AdamTinyIdeal_AdamTinyRefIdeal [hAdamTinyIdeal : Cert.AdamTinyIdeal.Facts] [hAdamTinyRefIdeal : Cert.AdamTinyRefIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg)
    (m' : (ℓ : Loc Cert.AdamTinyRefIdeal.nD Cert.AdamTinyRefIdeal.τ Cert.AdamTinyRefIdeal.sig) → Buf (Elt Ideal) ℓ) (g' : Dev Cert.AdamTinyRefIdeal.nD → PrngReg), Pre_AdamTinyIdeal m →
    (∀ c : Dev Cert.AdamTinyIdeal.nD,
      m' ((c.tc : Thread Cert.AdamTinyRefIdeal.nD Cert.AdamTinyRefIdeal.τ).loc Cert.AdamTinyRefIdeal.main_arg0) = m ((c.tc : Thread Cert.AdamTinyIdeal.nD Cert.AdamTinyIdeal.τ).loc Cert.AdamTinyIdeal.main_arg0)
      ∧ m' ((c.tc : Thread Cert.AdamTinyRefIdeal.nD Cert.AdamTinyRefIdeal.τ).loc Cert.AdamTinyRefIdeal.main_arg1) = m ((c.tc : Thread Cert.AdamTinyIdeal.nD Cert.AdamTinyIdeal.τ).loc Cert.AdamTinyIdeal.main_arg1)
      ∧ m' ((c.tc : Thread Cert.AdamTinyRefIdeal.nD Cert.AdamTinyRefIdeal.τ).loc Cert.AdamTinyRefIdeal.main_arg2) = m ((c.tc : Thread Cert.AdamTinyIdeal.nD Cert.AdamTinyIdeal.τ).loc Cert.AdamTinyIdeal.main_arg2)
      ∧ m' ((c.tc : Thread Cert.AdamTinyRefIdeal.nD Cert.AdamTinyRefIdeal.τ).loc Cert.AdamTinyRefIdeal.main_arg3) = m ((c.tc : Thread Cert.AdamTinyIdeal.nD Cert.AdamTinyIdeal.τ).loc Cert.AdamTinyIdeal.main_arg3)
      ∧ m' ((c.tc : Thread Cert.AdamTinyRefIdeal.nD Cert.AdamTinyRefIdeal.τ).loc Cert.AdamTinyRefIdeal.main_arg4) = m ((c.tc : Thread Cert.AdamTinyIdeal.nD Cert.AdamTinyIdeal.τ).loc Cert.AdamTinyIdeal.main_arg4)
      ∧ m' ((c.tc : Thread Cert.AdamTinyRefIdeal.nD Cert.AdamTinyRefIdeal.τ).loc Cert.AdamTinyRefIdeal.main_arg5) = m ((c.tc : Thread Cert.AdamTinyIdeal.nD Cert.AdamTinyIdeal.τ).loc Cert.AdamTinyIdeal.main_arg5)
      ∧ m' ((c.tc : Thread Cert.AdamTinyRefIdeal.nD Cert.AdamTinyRefIdeal.τ).loc Cert.AdamTinyRefIdeal.main_arg6) = m ((c.tc : Thread Cert.AdamTinyIdeal.nD Cert.AdamTinyIdeal.τ).loc Cert.AdamTinyIdeal.main_arg6)
      ∧ m' ((c.tc : Thread Cert.AdamTinyRefIdeal.nD Cert.AdamTinyRefIdeal.τ).loc Cert.AdamTinyRefIdeal.main_arg7) = m ((c.tc : Thread Cert.AdamTinyIdeal.nD Cert.AdamTinyIdeal.τ).loc Cert.AdamTinyIdeal.main_arg7)) →
    ∃ (v0 : (c : Dev Cert.AdamTinyIdeal.nD) → Buf (Elt Ideal) ((c.tc : Thread Cert.AdamTinyIdeal.nD Cert.AdamTinyIdeal.τ).loc Cert.AdamTinyIdeal.main_v0_0)) (v1 : (c : Dev Cert.AdamTinyIdeal.nD) → Buf (Elt Ideal) ((c.tc : Thread Cert.AdamTinyIdeal.nD Cert.AdamTinyIdeal.τ).loc Cert.AdamTinyIdeal.main_v0_1)) (v2 : (c : Dev Cert.AdamTinyIdeal.nD) → Buf (Elt Ideal) ((c.tc : Thread Cert.AdamTinyIdeal.nD Cert.AdamTinyIdeal.τ).loc Cert.AdamTinyIdeal.main_v0_2)) (v3 : (c : Dev Cert.AdamTinyIdeal.nD) → Buf (Elt Ideal) ((c.tc : Thread Cert.AdamTinyIdeal.nD Cert.AdamTinyIdeal.τ).loc Cert.AdamTinyIdeal.main_v0_3)),
      θ_run (Cert.AdamTinyIdeal.defs (F := Ideal)) (onTc (τ := Cert.AdamTinyIdeal.τ) (Cert.AdamTinyIdeal.main (F := Ideal))) ⟨m, fun _ => 0, g⟩ (fun r => ∀ c : Dev Cert.AdamTinyIdeal.nD,
          r.2.mem ((c.tc : Thread Cert.AdamTinyIdeal.nD Cert.AdamTinyIdeal.τ).loc Cert.AdamTinyIdeal.main_v0_0) = v0 c
          ∧ r.2.mem ((c.tc : Thread Cert.AdamTinyIdeal.nD Cert.AdamTinyIdeal.τ).loc Cert.AdamTinyIdeal.main_v0_1) = v1 c
          ∧ r.2.mem ((c.tc : Thread Cert.AdamTinyIdeal.nD Cert.AdamTinyIdeal.τ).loc Cert.AdamTinyIdeal.main_v0_2) = v2 c
          ∧ r.2.mem ((c.tc : Thread Cert.AdamTinyIdeal.nD Cert.AdamTinyIdeal.τ).loc Cert.AdamTinyIdeal.main_v0_3) = v3 c
          ∧ r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
          ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
          ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
          ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3)
          ∧ r.2.mem ((c.tc : Thread Cert.AdamTinyIdeal.nD Cert.AdamTinyIdeal.τ).loc Cert.AdamTinyIdeal.main_arg4) = m ((c.tc : Thread Cert.AdamTinyIdeal.nD Cert.AdamTinyIdeal.τ).loc Cert.AdamTinyIdeal.main_arg4)
          ∧ r.2.mem ((c.tc : Thread Cert.AdamTinyIdeal.nD Cert.AdamTinyIdeal.τ).loc Cert.AdamTinyIdeal.main_arg5) = m ((c.tc : Thread Cert.AdamTinyIdeal.nD Cert.AdamTinyIdeal.τ).loc Cert.AdamTinyIdeal.main_arg5)
          ∧ r.2.mem ((c.tc : Thread Cert.AdamTinyIdeal.nD Cert.AdamTinyIdeal.τ).loc Cert.AdamTinyIdeal.main_arg6) = m ((c.tc : Thread Cert.AdamTinyIdeal.nD Cert.AdamTinyIdeal.τ).loc Cert.AdamTinyIdeal.main_arg6)
          ∧ r.2.mem ((c.tc : Thread Cert.AdamTinyIdeal.nD Cert.AdamTinyIdeal.τ).loc Cert.AdamTinyIdeal.main_arg7) = m ((c.tc : Thread Cert.AdamTinyIdeal.nD Cert.AdamTinyIdeal.τ).loc Cert.AdamTinyIdeal.main_arg7))
      ∧ θ_run (Cert.AdamTinyRefIdeal.defs (F := Ideal)) (onTc (τ := Cert.AdamTinyRefIdeal.τ) (Cert.AdamTinyRefIdeal.main (F := Ideal))) ⟨m', fun _ => 0, g'⟩ (fun r => ∀ c : Dev Cert.AdamTinyRefIdeal.nD,
          r.2.mem ((c.tc : Thread Cert.AdamTinyRefIdeal.nD Cert.AdamTinyRefIdeal.τ).loc Cert.AdamTinyRefIdeal.main_v10) = v0 c
          ∧ r.2.mem ((c.tc : Thread Cert.AdamTinyRefIdeal.nD Cert.AdamTinyRefIdeal.τ).loc Cert.AdamTinyRefIdeal.main_v34) = v1 c
          ∧ r.2.mem ((c.tc : Thread Cert.AdamTinyRefIdeal.nD Cert.AdamTinyRefIdeal.τ).loc Cert.AdamTinyRefIdeal.main_v15) = v2 c
          ∧ r.2.mem ((c.tc : Thread Cert.AdamTinyRefIdeal.nD Cert.AdamTinyRefIdeal.τ).loc Cert.AdamTinyRefIdeal.main_v21) = v3 c
          ∧ r.2.mem ((c.tc : Thread Cert.AdamTinyRefIdeal.nD Cert.AdamTinyRefIdeal.τ).loc Cert.AdamTinyRefIdeal.main_arg0) = m' ((c.tc : Thread Cert.AdamTinyRefIdeal.nD Cert.AdamTinyRefIdeal.τ).loc Cert.AdamTinyRefIdeal.main_arg0)
          ∧ r.2.mem ((c.tc : Thread Cert.AdamTinyRefIdeal.nD Cert.AdamTinyRefIdeal.τ).loc Cert.AdamTinyRefIdeal.main_arg1) = m' ((c.tc : Thread Cert.AdamTinyRefIdeal.nD Cert.AdamTinyRefIdeal.τ).loc Cert.AdamTinyRefIdeal.main_arg1)
          ∧ r.2.mem ((c.tc : Thread Cert.AdamTinyRefIdeal.nD Cert.AdamTinyRefIdeal.τ).loc Cert.AdamTinyRefIdeal.main_arg2) = m' ((c.tc : Thread Cert.AdamTinyRefIdeal.nD Cert.AdamTinyRefIdeal.τ).loc Cert.AdamTinyRefIdeal.main_arg2)
          ∧ r.2.mem ((c.tc : Thread Cert.AdamTinyRefIdeal.nD Cert.AdamTinyRefIdeal.τ).loc Cert.AdamTinyRefIdeal.main_arg3) = m' ((c.tc : Thread Cert.AdamTinyRefIdeal.nD Cert.AdamTinyRefIdeal.τ).loc Cert.AdamTinyRefIdeal.main_arg3)
          ∧ r.2.mem ((c.tc : Thread Cert.AdamTinyRefIdeal.nD Cert.AdamTinyRefIdeal.τ).loc Cert.AdamTinyRefIdeal.main_arg4) = m' ((c.tc : Thread Cert.AdamTinyRefIdeal.nD Cert.AdamTinyRefIdeal.τ).loc Cert.AdamTinyRefIdeal.main_arg4)
          ∧ r.2.mem ((c.tc : Thread Cert.AdamTinyRefIdeal.nD Cert.AdamTinyRefIdeal.τ).loc Cert.AdamTinyRefIdeal.main_arg5) = m' ((c.tc : Thread Cert.AdamTinyRefIdeal.nD Cert.AdamTinyRefIdeal.τ).loc Cert.AdamTinyRefIdeal.main_arg5)
          ∧ r.2.mem ((c.tc : Thread Cert.AdamTinyRefIdeal.nD Cert.AdamTinyRefIdeal.τ).loc Cert.AdamTinyRefIdeal.main_arg6) = m' ((c.tc : Thread Cert.AdamTinyRefIdeal.nD Cert.AdamTinyRefIdeal.τ).loc Cert.AdamTinyRefIdeal.main_arg6)
          ∧ r.2.mem ((c.tc : Thread Cert.AdamTinyRefIdeal.nD Cert.AdamTinyRefIdeal.τ).loc Cert.AdamTinyRefIdeal.main_arg7) = m' ((c.tc : Thread Cert.AdamTinyRefIdeal.nD Cert.AdamTinyRefIdeal.τ).loc Cert.AdamTinyRefIdeal.main_arg7))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v23) = v0 c
          ∧ r.2.mem ((c.tc : Thread Cert.LossRefIdeal.nD Cert.LossRefIdeal.τ).loc Cert.LossRefIdeal.main_v17) = v1 c
          ∧ r.2.mem ((c.tc : Thread Cert.LossRefIdeal.nD Cert.LossRefIdeal.τ).loc Cert.LossRefIdeal.main_v24) = v2 c
          ∧ r.2.mem ((c.tc : Thread Cert.LossRefIdeal.nD Cert.LossRefIdeal.τ).loc Cert.LossRefIdeal.main_v22) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_MlstmPost_MlstmPostIdeal : Prop :=
  True

def algebraic_MlstmPostIdeal_MlstmPostRefIdeal [hMlstmPostIdeal : Cert.MlstmPostIdeal.Facts] [hMlstmPostRefIdeal : Cert.MlstmPostRefIdeal.Facts] : Prop :=
  ∀ (m : (ℓ : Loc Cert.MlstmPostIdeal.nD Cert.MlstmPostIdeal.τ Cert.MlstmPostIdeal.sig) → Buf (Elt Ideal) ℓ) (g : Dev Cert.MlstmPostIdeal.nD → PrngReg)
    (m' : (ℓ : Loc Cert.MlstmPostRefIdeal.nD Cert.MlstmPostRefIdeal.τ Cert.MlstmPostRefIdeal.sig) → Buf (Elt Ideal) ℓ) (g' : Dev Cert.MlstmPostRefIdeal.nD → PrngReg), Pre_MlstmPostIdeal m →
    (∀ c : Dev Cert.MlstmPostIdeal.nD,
      m' ((c.tc : Thread Cert.MlstmPostRefIdeal.nD Cert.MlstmPostRefIdeal.τ).loc Cert.MlstmPostRefIdeal.main_arg0) = m ((c.tc : Thread Cert.MlstmPostIdeal.nD Cert.MlstmPostIdeal.τ).loc Cert.MlstmPostIdeal.main_arg0)
      ∧ m' ((c.tc : Thread Cert.MlstmPostRefIdeal.nD Cert.MlstmPostRefIdeal.τ).loc Cert.MlstmPostRefIdeal.main_arg1) = m ((c.tc : Thread Cert.MlstmPostIdeal.nD Cert.MlstmPostIdeal.τ).loc Cert.MlstmPostIdeal.main_arg1)
      ∧ m' ((c.tc : Thread Cert.MlstmPostRefIdeal.nD Cert.MlstmPostRefIdeal.τ).loc Cert.MlstmPostRefIdeal.main_arg2) = m ((c.tc : Thread Cert.MlstmPostIdeal.nD Cert.MlstmPostIdeal.τ).loc Cert.MlstmPostIdeal.main_arg2)) →
    ∃ (v0 : (c : Dev Cert.MlstmPostIdeal.nD) → Buf (Elt Ideal) ((c.tc : Thread Cert.MlstmPostIdeal.nD Cert.MlstmPostIdeal.τ).loc Cert.MlstmPostIdeal.main_v0)),
      θ_run (Cert.MlstmPostIdeal.defs (F := Ideal)) (onTc (τ := Cert.MlstmPostIdeal.τ) (Cert.MlstmPostIdeal.main (F := Ideal))) ⟨m, fun _ => 0, g⟩ (fun r => ∀ c : Dev Cert.MlstmPostIdeal.nD,
          r.2.mem ((c.tc : Thread Cert.MlstmPostIdeal.nD Cert.MlstmPostIdeal.τ).loc Cert.MlstmPostIdeal.main_v0) = v0 c
          ∧ r.2.mem ((c.tc : Thread Cert.MlstmPostIdeal.nD Cert.MlstmPostIdeal.τ).loc Cert.MlstmPostIdeal.main_arg0) = m ((c.tc : Thread Cert.MlstmPostIdeal.nD Cert.MlstmPostIdeal.τ).loc Cert.MlstmPostIdeal.main_arg0)
          ∧ r.2.mem ((c.tc : Thread Cert.MlstmPostIdeal.nD Cert.MlstmPostIdeal.τ).loc Cert.MlstmPostIdeal.main_arg1) = m ((c.tc : Thread Cert.MlstmPostIdeal.nD Cert.MlstmPostIdeal.τ).loc Cert.MlstmPostIdeal.main_arg1)
          ∧ r.2.mem ((c.tc : Thread Cert.MlstmPostIdeal.nD Cert.MlstmPostIdeal.τ).loc Cert.MlstmPostIdeal.main_arg2) = m ((c.tc : Thread Cert.MlstmPostIdeal.nD Cert.MlstmPostIdeal.τ).loc Cert.MlstmPostIdeal.main_arg2))
      ∧ θ_run (Cert.MlstmPostRefIdeal.defs (F := Ideal)) (onTc (τ := Cert.MlstmPostRefIdeal.τ) (Cert.MlstmPostRefIdeal.main (F := Ideal))) ⟨m', fun _ => 0, g'⟩ (fun r => ∀ c : Dev Cert.MlstmPostRefIdeal.nD,
          r.2.mem ((c.tc : Thread Cert.MlstmPostRefIdeal.nD Cert.MlstmPostRefIdeal.τ).loc Cert.MlstmPostRefIdeal.main_v30) = v0 c
          ∧ r.2.mem ((c.tc : Thread Cert.MlstmPostRefIdeal.nD Cert.MlstmPostRefIdeal.τ).loc Cert.MlstmPostRefIdeal.main_arg0) = m' ((c.tc : Thread Cert.MlstmPostRefIdeal.nD Cert.MlstmPostRefIdeal.τ).loc Cert.MlstmPostRefIdeal.main_arg0)
          ∧ r.2.mem ((c.tc : Thread Cert.MlstmPostRefIdeal.nD Cert.MlstmPostRefIdeal.τ).loc Cert.MlstmPostRefIdeal.main_arg1) = m' ((c.tc : Thread Cert.MlstmPostRefIdeal.nD Cert.MlstmPostRefIdeal.τ).loc Cert.MlstmPostRefIdeal.main_arg1)
          ∧ r.2.mem ((c.tc : Thread Cert.MlstmPostRefIdeal.nD Cert.MlstmPostRefIdeal.τ).loc Cert.MlstmPostRefIdeal.main_arg2) = m' ((c.tc : Thread Cert.MlstmPostRefIdeal.nD Cert.MlstmPostRefIdeal.τ).loc Cert.MlstmPostRefIdeal.main_arg2))

def preserves_MlstmPostBwd_MlstmPostBwdIdeal : Prop :=
  True

def algebraic_MlstmPostBwdIdeal_MlstmPostBwdRefIdeal [hMlstmPostBwdIdeal : Cert.MlstmPostBwdIdeal.Facts] [hMlstmPostBwdRefIdeal : Cert.MlstmPostBwdRefIdeal.Facts] : Prop :=
  ∀ (m : (ℓ : Loc Cert.MlstmPostBwdIdeal.nD Cert.MlstmPostBwdIdeal.τ Cert.MlstmPostBwdIdeal.sig) → Buf (Elt Ideal) ℓ) (g : Dev Cert.MlstmPostBwdIdeal.nD → PrngReg)
    (m' : (ℓ : Loc Cert.MlstmPostBwdRefIdeal.nD Cert.MlstmPostBwdRefIdeal.τ Cert.MlstmPostBwdRefIdeal.sig) → Buf (Elt Ideal) ℓ) (g' : Dev Cert.MlstmPostBwdRefIdeal.nD → PrngReg), Pre_MlstmPostBwdIdeal m →
    (∀ c : Dev Cert.MlstmPostBwdIdeal.nD,
      m' ((c.tc : Thread Cert.MlstmPostBwdRefIdeal.nD Cert.MlstmPostBwdRefIdeal.τ).loc Cert.MlstmPostBwdRefIdeal.main_arg0) = m ((c.tc : Thread Cert.MlstmPostBwdIdeal.nD Cert.MlstmPostBwdIdeal.τ).loc Cert.MlstmPostBwdIdeal.main_arg0)
      ∧ m' ((c.tc : Thread Cert.MlstmPostBwdRefIdeal.nD Cert.MlstmPostBwdRefIdeal.τ).loc Cert.MlstmPostBwdRefIdeal.main_arg1) = m ((c.tc : Thread Cert.MlstmPostBwdIdeal.nD Cert.MlstmPostBwdIdeal.τ).loc Cert.MlstmPostBwdIdeal.main_arg1)
      ∧ m' ((c.tc : Thread Cert.MlstmPostBwdRefIdeal.nD Cert.MlstmPostBwdRefIdeal.τ).loc Cert.MlstmPostBwdRefIdeal.main_arg2) = m ((c.tc : Thread Cert.MlstmPostBwdIdeal.nD Cert.MlstmPostBwdIdeal.τ).loc Cert.MlstmPostBwdIdeal.main_arg2)
      ∧ m' ((c.tc : Thread Cert.MlstmPostBwdRefIdeal.nD Cert.MlstmPostBwdRefIdeal.τ).loc Cert.MlstmPostBwdRefIdeal.main_arg3) = m ((c.tc : Thread Cert.MlstmPostBwdIdeal.nD Cert.MlstmPostBwdIdeal.τ).loc Cert.MlstmPostBwdIdeal.main_arg3)) →
    ∃ (v0 : (c : Dev Cert.MlstmPostBwdIdeal.nD) → Buf (Elt Ideal) ((c.tc : Thread Cert.MlstmPostBwdIdeal.nD Cert.MlstmPostBwdIdeal.τ).loc Cert.MlstmPostBwdIdeal.main_v0_0)) (v1 : (c : Dev Cert.MlstmPostBwdIdeal.nD) → Buf (Elt Ideal) ((c.tc : Thread Cert.MlstmPostBwdIdeal.nD Cert.MlstmPostBwdIdeal.τ).loc Cert.MlstmPostBwdIdeal.main_v0_1)) (v2 : (c : Dev Cert.MlstmPostBwdIdeal.nD) → Buf (Elt Ideal) ((c.tc : Thread Cert.MlstmPostBwdIdeal.nD Cert.MlstmPostBwdIdeal.τ).loc Cert.MlstmPostBwdIdeal.main_v0_2)) (v3 : (c : Dev Cert.MlstmPostBwdIdeal.nD) → Buf (Elt Ideal) ((c.tc : Thread Cert.MlstmPostBwdIdeal.nD Cert.MlstmPostBwdIdeal.τ).loc Cert.MlstmPostBwdIdeal.main_v0_3)),
      θ_run (Cert.MlstmPostBwdIdeal.defs (F := Ideal)) (onTc (τ := Cert.MlstmPostBwdIdeal.τ) (Cert.MlstmPostBwdIdeal.main (F := Ideal))) ⟨m, fun _ => 0, g⟩ (fun r => ∀ c : Dev Cert.MlstmPostBwdIdeal.nD,
          r.2.mem ((c.tc : Thread Cert.MlstmPostBwdIdeal.nD Cert.MlstmPostBwdIdeal.τ).loc Cert.MlstmPostBwdIdeal.main_v0_0) = v0 c
          ∧ r.2.mem ((c.tc : Thread Cert.MlstmPostBwdIdeal.nD Cert.MlstmPostBwdIdeal.τ).loc Cert.MlstmPostBwdIdeal.main_v0_1) = v1 c
          ∧ r.2.mem ((c.tc : Thread Cert.MlstmPostBwdIdeal.nD Cert.MlstmPostBwdIdeal.τ).loc Cert.MlstmPostBwdIdeal.main_v0_2) = v2 c
          ∧ r.2.mem ((c.tc : Thread Cert.MlstmPostBwdIdeal.nD Cert.MlstmPostBwdIdeal.τ).loc Cert.MlstmPostBwdIdeal.main_v0_3) = v3 c
          ∧ r.2.mem ((c.tc : Thread Cert.MlstmPostBwdIdeal.nD Cert.MlstmPostBwdIdeal.τ).loc Cert.MlstmPostBwdIdeal.main_arg0) = m ((c.tc : Thread Cert.MlstmPostBwdIdeal.nD Cert.MlstmPostBwdIdeal.τ).loc Cert.MlstmPostBwdIdeal.main_arg0)
          ∧ r.2.mem ((c.tc : Thread Cert.MlstmPostBwdIdeal.nD Cert.MlstmPostBwdIdeal.τ).loc Cert.MlstmPostBwdIdeal.main_arg1) = m ((c.tc : Thread Cert.MlstmPostBwdIdeal.nD Cert.MlstmPostBwdIdeal.τ).loc Cert.MlstmPostBwdIdeal.main_arg1)
          ∧ r.2.mem ((c.tc : Thread Cert.MlstmPostBwdIdeal.nD Cert.MlstmPostBwdIdeal.τ).loc Cert.MlstmPostBwdIdeal.main_arg2) = m ((c.tc : Thread Cert.MlstmPostBwdIdeal.nD Cert.MlstmPostBwdIdeal.τ).loc Cert.MlstmPostBwdIdeal.main_arg2)
          ∧ r.2.mem ((c.tc : Thread Cert.MlstmPostBwdIdeal.nD Cert.MlstmPostBwdIdeal.τ).loc Cert.MlstmPostBwdIdeal.main_arg3) = m ((c.tc : Thread Cert.MlstmPostBwdIdeal.nD Cert.MlstmPostBwdIdeal.τ).loc Cert.MlstmPostBwdIdeal.main_arg3))
      ∧ θ_run (Cert.MlstmPostBwdRefIdeal.defs (F := Ideal)) (onTc (τ := Cert.MlstmPostBwdRefIdeal.τ) (Cert.MlstmPostBwdRefIdeal.main (F := Ideal))) ⟨m', fun _ => 0, g'⟩ (fun r => ∀ c : Dev Cert.MlstmPostBwdRefIdeal.nD,
          r.2.mem ((c.tc : Thread Cert.MlstmPostBwdRefIdeal.nD Cert.MlstmPostBwdRefIdeal.τ).loc Cert.MlstmPostBwdRefIdeal.main_v63) = v0 c
          ∧ r.2.mem ((c.tc : Thread Cert.MlstmPostBwdRefIdeal.nD Cert.MlstmPostBwdRefIdeal.τ).loc Cert.MlstmPostBwdRefIdeal.main_v63) = v1 c
          ∧ r.2.mem ((c.tc : Thread Cert.MlstmPostBwdRefIdeal.nD Cert.MlstmPostBwdRefIdeal.τ).loc Cert.MlstmPostBwdRefIdeal.main_v41) = v2 c
          ∧ r.2.mem ((c.tc : Thread Cert.MlstmPostBwdRefIdeal.nD Cert.MlstmPostBwdRefIdeal.τ).loc Cert.MlstmPostBwdRefIdeal.main_v62) = v3 c
          ∧ r.2.mem ((c.tc : Thread Cert.MlstmPostBwdRefIdeal.nD Cert.MlstmPostBwdRefIdeal.τ).loc Cert.MlstmPostBwdRefIdeal.main_arg0) = m' ((c.tc : Thread Cert.MlstmPostBwdRefIdeal.nD Cert.MlstmPostBwdRefIdeal.τ).loc Cert.MlstmPostBwdRefIdeal.main_arg0)
          ∧ r.2.mem ((c.tc : Thread Cert.MlstmPostBwdRefIdeal.nD Cert.MlstmPostBwdRefIdeal.τ).loc Cert.MlstmPostBwdRefIdeal.main_arg1) = m' ((c.tc : Thread Cert.MlstmPostBwdRefIdeal.nD Cert.MlstmPostBwdRefIdeal.τ).loc Cert.MlstmPostBwdRefIdeal.main_arg1)
          ∧ r.2.mem ((c.tc : Thread Cert.MlstmPostBwdRefIdeal.nD Cert.MlstmPostBwdRefIdeal.τ).loc Cert.MlstmPostBwdRefIdeal.main_arg2) = m' ((c.tc : Thread Cert.MlstmPostBwdRefIdeal.nD Cert.MlstmPostBwdRefIdeal.τ).loc Cert.MlstmPostBwdRefIdeal.main_arg2)
          ∧ r.2.mem ((c.tc : Thread Cert.MlstmPostBwdRefIdeal.nD Cert.MlstmPostBwdRefIdeal.τ).loc Cert.MlstmPostBwdRefIdeal.main_arg3) = m' ((c.tc : Thread Cert.MlstmPostBwdRefIdeal.nD Cert.MlstmPostBwdRefIdeal.τ).loc Cert.MlstmPostBwdRefIdeal.main_arg3))

def Claim : Prop :=
  ∃ (hKernel : Cert.Kernel.Facts) (hKernelIdeal : Cert.KernelIdeal.Facts) (hReferenceIdeal : Cert.ReferenceIdeal.Facts) (hDwFf2 : Cert.DwFf2.Facts) (hDwFf2Ideal : Cert.DwFf2Ideal.Facts) (hDwFf2RefIdeal : Cert.DwFf2RefIdeal.Facts) (hDU : Cert.DU.Facts) (hDUIdeal : Cert.DUIdeal.Facts) (hDURefIdeal : Cert.DURefIdeal.Facts) (hDwFf1 : Cert.DwFf1.Facts) (hDwFf1Ideal : Cert.DwFf1Ideal.Facts) (hDwFf1RefIdeal : Cert.DwFf1RefIdeal.Facts) (hDH2 : Cert.DH2.Facts) (hDH2Ideal : Cert.DH2Ideal.Facts) (hDH2RefIdeal : Cert.DH2RefIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hDwOut : Cert.DwOut.Facts) (hDwOutIdeal : Cert.DwOutIdeal.Facts) (hDwOutRefIdeal : Cert.DwOutRefIdeal.Facts) (hDCat : Cert.DCat.Facts) (hDCatIdeal : Cert.DCatIdeal.Facts) (hDCatRefIdeal : Cert.DCatRefIdeal.Facts) (hDwIn : Cert.DwIn.Facts) (hDwInIdeal : Cert.DwInIdeal.Facts) (hDwInRefIdeal : Cert.DwInRefIdeal.Facts) (hDH : Cert.DH.Facts) (hDHIdeal : Cert.DHIdeal.Facts) (hDHRefIdeal : Cert.DHRefIdeal.Facts) (hNormMix : Cert.NormMix.Facts) (hNormMixIdeal : Cert.NormMixIdeal.Facts) (hNormMixRefIdeal : Cert.NormMixRefIdeal.Facts) (hNormMlp : Cert.NormMlp.Facts) (hNormMlpIdeal : Cert.NormMlpIdeal.Facts) (hNormMlpRefIdeal : Cert.NormMlpRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamFf1 : Cert.AdamFf1.Facts) (hAdamFf1Ideal : Cert.AdamFf1Ideal.Facts) (hAdamFf1RefIdeal : Cert.AdamFf1RefIdeal.Facts) (hAdamFf2 : Cert.AdamFf2.Facts) (hAdamFf2Ideal : Cert.AdamFf2Ideal.Facts) (hAdamFf2RefIdeal : Cert.AdamFf2RefIdeal.Facts) (hFwd : Cert.Fwd.Facts) (hFwdIdeal : Cert.FwdIdeal.Facts) (hFwdRefIdeal : Cert.FwdRefIdeal.Facts) (hNormMixFwd : Cert.NormMixFwd.Facts) (hNormMixFwdIdeal : Cert.NormMixFwdIdeal.Facts) (hNormMixFwdRefIdeal : Cert.NormMixFwdRefIdeal.Facts) (hNormMlpFwd : Cert.NormMlpFwd.Facts) (hNormMlpFwdIdeal : Cert.NormMlpFwdIdeal.Facts) (hNormMlpFwdRefIdeal : Cert.NormMlpFwdRefIdeal.Facts) (hAdaFwd : Cert.AdaFwd.Facts) (hAdaFwdIdeal : Cert.AdaFwdIdeal.Facts) (hAdaFwdRefIdeal : Cert.AdaFwdRefIdeal.Facts) (hAdaGrad : Cert.AdaGrad.Facts) (hAdaGradIdeal : Cert.AdaGradIdeal.Facts) (hAdaGradRefIdeal : Cert.AdaGradRefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hAdamTiny : Cert.AdamTiny.Facts) (hAdamTinyIdeal : Cert.AdamTinyIdeal.Facts) (hAdamTinyRefIdeal : Cert.AdamTinyRefIdeal.Facts) (hLoss : Cert.Loss.Facts) (hLossIdeal : Cert.LossIdeal.Facts) (hLossRefIdeal : Cert.LossRefIdeal.Facts) (hMlstmPost : Cert.MlstmPost.Facts) (hMlstmPostIdeal : Cert.MlstmPostIdeal.Facts) (hMlstmPostRefIdeal : Cert.MlstmPostRefIdeal.Facts) (hMlstmPostBwd : Cert.MlstmPostBwd.Facts) (hMlstmPostBwdIdeal : Cert.MlstmPostBwdIdeal.Facts) (hMlstmPostBwdRefIdeal : Cert.MlstmPostBwdRefIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwFf2 (hDwFf2 := hDwFf2)
    ∧ quiescent_DwFf2Ideal (hDwFf2Ideal := hDwFf2Ideal)
    ∧ quiescent_DwFf2RefIdeal (hDwFf2RefIdeal := hDwFf2RefIdeal)
    ∧ quiescent_DU (hDU := hDU)
    ∧ quiescent_DUIdeal (hDUIdeal := hDUIdeal)
    ∧ quiescent_DURefIdeal (hDURefIdeal := hDURefIdeal)
    ∧ quiescent_DwFf1 (hDwFf1 := hDwFf1)
    ∧ quiescent_DwFf1Ideal (hDwFf1Ideal := hDwFf1Ideal)
    ∧ quiescent_DwFf1RefIdeal (hDwFf1RefIdeal := hDwFf1RefIdeal)
    ∧ quiescent_DH2 (hDH2 := hDH2)
    ∧ quiescent_DH2Ideal (hDH2Ideal := hDH2Ideal)
    ∧ quiescent_DH2RefIdeal (hDH2RefIdeal := hDH2RefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DCat (hDCat := hDCat)
    ∧ quiescent_DCatIdeal (hDCatIdeal := hDCatIdeal)
    ∧ quiescent_DCatRefIdeal (hDCatRefIdeal := hDCatRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DH (hDH := hDH)
    ∧ quiescent_DHIdeal (hDHIdeal := hDHIdeal)
    ∧ quiescent_DHRefIdeal (hDHRefIdeal := hDHRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormMlp (hNormMlp := hNormMlp)
    ∧ quiescent_NormMlpIdeal (hNormMlpIdeal := hNormMlpIdeal)
    ∧ quiescent_NormMlpRefIdeal (hNormMlpRefIdeal := hNormMlpRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFf1 (hAdamFf1 := hAdamFf1)
    ∧ quiescent_AdamFf1Ideal (hAdamFf1Ideal := hAdamFf1Ideal)
    ∧ quiescent_AdamFf1RefIdeal (hAdamFf1RefIdeal := hAdamFf1RefIdeal)
    ∧ quiescent_AdamFf2 (hAdamFf2 := hAdamFf2)
    ∧ quiescent_AdamFf2Ideal (hAdamFf2Ideal := hAdamFf2Ideal)
    ∧ quiescent_AdamFf2RefIdeal (hAdamFf2RefIdeal := hAdamFf2RefIdeal)
    ∧ quiescent_Fwd (hFwd := hFwd)
    ∧ quiescent_FwdIdeal (hFwdIdeal := hFwdIdeal)
    ∧ quiescent_FwdIdeal_pre_finite_scores (hFwdIdeal := hFwdIdeal) (hPre_finite_scores := hPre_finite_scores)
    ∧ quiescent_FwdRefIdeal (hFwdRefIdeal := hFwdRefIdeal)
    ∧ quiescent_FwdRefIdeal_pre_finite_scores (hFwdRefIdeal := hFwdRefIdeal) (hPre_finite_scores := hPre_finite_scores)
    ∧ quiescent_NormMixFwd (hNormMixFwd := hNormMixFwd)
    ∧ quiescent_NormMixFwdIdeal (hNormMixFwdIdeal := hNormMixFwdIdeal)
    ∧ quiescent_NormMixFwdRefIdeal (hNormMixFwdRefIdeal := hNormMixFwdRefIdeal)
    ∧ quiescent_NormMlpFwd (hNormMlpFwd := hNormMlpFwd)
    ∧ quiescent_NormMlpFwdIdeal (hNormMlpFwdIdeal := hNormMlpFwdIdeal)
    ∧ quiescent_NormMlpFwdRefIdeal (hNormMlpFwdRefIdeal := hNormMlpFwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamTiny (hAdamTiny := hAdamTiny)
    ∧ quiescent_AdamTinyIdeal (hAdamTinyIdeal := hAdamTinyIdeal)
    ∧ quiescent_AdamTinyRefIdeal (hAdamTinyRefIdeal := hAdamTinyRefIdeal)
    ∧ quiescent_Loss (hLoss := hLoss)
    ∧ quiescent_LossIdeal (hLossIdeal := hLossIdeal)
    ∧ quiescent_LossRefIdeal (hLossRefIdeal := hLossRefIdeal)
    ∧ quiescent_MlstmPost (hMlstmPost := hMlstmPost)
    ∧ quiescent_MlstmPostIdeal (hMlstmPostIdeal := hMlstmPostIdeal)
    ∧ quiescent_MlstmPostRefIdeal (hMlstmPostRefIdeal := hMlstmPostRefIdeal)
    ∧ quiescent_MlstmPostBwd (hMlstmPostBwd := hMlstmPostBwd)
    ∧ quiescent_MlstmPostBwdIdeal (hMlstmPostBwdIdeal := hMlstmPostBwdIdeal)
    ∧ quiescent_MlstmPostBwdRefIdeal (hMlstmPostBwdRefIdeal := hMlstmPostBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwFf2_DwFf2Ideal
    ∧ algebraic_DwFf2Ideal_DwFf2RefIdeal (hDwFf2Ideal := hDwFf2Ideal) (hDwFf2RefIdeal := hDwFf2RefIdeal)
    ∧ preserves_DU_DUIdeal
    ∧ algebraic_DUIdeal_DURefIdeal (hDUIdeal := hDUIdeal) (hDURefIdeal := hDURefIdeal)
    ∧ preserves_DwFf1_DwFf1Ideal
    ∧ algebraic_DwFf1Ideal_DwFf1RefIdeal (hDwFf1Ideal := hDwFf1Ideal) (hDwFf1RefIdeal := hDwFf1RefIdeal)
    ∧ preserves_DH2_DH2Ideal
    ∧ algebraic_DH2Ideal_DH2RefIdeal (hDH2Ideal := hDH2Ideal) (hDH2RefIdeal := hDH2RefIdeal)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_DwOut_DwOutIdeal
    ∧ algebraic_DwOutIdeal_DwOutRefIdeal (hDwOutIdeal := hDwOutIdeal) (hDwOutRefIdeal := hDwOutRefIdeal)
    ∧ preserves_DCat_DCatIdeal
    ∧ algebraic_DCatIdeal_DCatRefIdeal (hDCatIdeal := hDCatIdeal) (hDCatRefIdeal := hDCatRefIdeal)
    ∧ preserves_DwIn_DwInIdeal
    ∧ algebraic_DwInIdeal_DwInRefIdeal (hDwInIdeal := hDwInIdeal) (hDwInRefIdeal := hDwInRefIdeal)
    ∧ preserves_DH_DHIdeal
    ∧ algebraic_DHIdeal_DHRefIdeal (hDHIdeal := hDHIdeal) (hDHRefIdeal := hDHRefIdeal)
    ∧ preserves_NormMix_NormMixIdeal
    ∧ algebraic_NormMixIdeal_NormMixRefIdeal (hNormMixIdeal := hNormMixIdeal) (hNormMixRefIdeal := hNormMixRefIdeal)
    ∧ preserves_NormMlp_NormMlpIdeal
    ∧ algebraic_NormMlpIdeal_NormMlpRefIdeal (hNormMlpIdeal := hNormMlpIdeal) (hNormMlpRefIdeal := hNormMlpRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFf1_AdamFf1Ideal
    ∧ algebraic_AdamFf1Ideal_AdamFf1RefIdeal (hAdamFf1Ideal := hAdamFf1Ideal) (hAdamFf1RefIdeal := hAdamFf1RefIdeal)
    ∧ preserves_AdamFf2_AdamFf2Ideal
    ∧ algebraic_AdamFf2Ideal_AdamFf2RefIdeal (hAdamFf2Ideal := hAdamFf2Ideal) (hAdamFf2RefIdeal := hAdamFf2RefIdeal)
    ∧ preserves_Fwd_FwdIdeal
    ∧ algebraic_FwdIdeal_FwdRefIdeal_pre_finite_scores (hFwdIdeal := hFwdIdeal) (hFwdRefIdeal := hFwdRefIdeal) (hPre_finite_scores := hPre_finite_scores)
    ∧ preserves_NormMixFwd_NormMixFwdIdeal
    ∧ algebraic_NormMixFwdIdeal_NormMixFwdRefIdeal (hNormMixFwdIdeal := hNormMixFwdIdeal) (hNormMixFwdRefIdeal := hNormMixFwdRefIdeal)
    ∧ preserves_NormMlpFwd_NormMlpFwdIdeal
    ∧ algebraic_NormMlpFwdIdeal_NormMlpFwdRefIdeal (hNormMlpFwdIdeal := hNormMlpFwdIdeal) (hNormMlpFwdRefIdeal := hNormMlpFwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamTiny_AdamTinyIdeal
    ∧ algebraic_AdamTinyIdeal_AdamTinyRefIdeal (hAdamTinyIdeal := hAdamTinyIdeal) (hAdamTinyRefIdeal := hAdamTinyRefIdeal)
    ∧ preserves_Loss_LossIdeal
    ∧ algebraic_LossIdeal_LossRefIdeal (hLossIdeal := hLossIdeal) (hLossRefIdeal := hLossRefIdeal)
    ∧ preserves_MlstmPost_MlstmPostIdeal
    ∧ algebraic_MlstmPostIdeal_MlstmPostRefIdeal (hMlstmPostIdeal := hMlstmPostIdeal) (hMlstmPostRefIdeal := hMlstmPostRefIdeal)
    ∧ preserves_MlstmPostBwd_MlstmPostBwdIdeal
    ∧ algebraic_MlstmPostBwdIdeal_MlstmPostBwdRefIdeal (hMlstmPostBwdIdeal := hMlstmPostBwdIdeal) (hMlstmPostBwdRefIdeal := hMlstmPostBwdRefIdeal)
-- ==== Pre_finite.lean ====
abbrev S8192x2048 : Shape := ⟨2, ![8192, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v16 : IVec S_ 1) (main_v17 : FVec F S8192x2048 .f32) : IVec S_ 1 :=
  let main_cst_4 : FVec F S_ .f32 := constant S_ .f32 0x7F800000#32
  let main_v18 : FVec F S8192x2048 .f32 := broadcastInDim S8192x2048 ![] bcast_S_S8192x2048 main_cst_4
  let main_v19 : IVec S8192x2048 1 := cmpf .olt main_v17 main_v18
  let main_c_5 : IVec S_ 1 := constantI S_ 1 1#1
  let main_v20 : IVec S_ 1 := (fun x v => Host.reduce IntOp.andi x v reducesTo_S8192x2048_S_d0_1 h_S_) main_v19 main_c_5
  let main_v21 : IVec S_ 1 := andi main_v16 main_v20
  main_v21

def fn {F : FTy → Type} [FloatOps F] (main_arg0 : FVec F S8192x2048 .bf16) (main_arg1 : FVec F S8192x2048 .bf16) (main_arg2 : FVec F S8192x1024 .bf16) (main_arg3 : FVec F S8192x2048 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  let main_v17 : FVec F S8192x2048 .f32 := Host.absf main_arg3
  fn_part1 (F := F) main_v16 main_v17
-- ==== Pre_finite_scores.lean ====
abbrev S8192x2048 : Shape := ⟨2, ![8192, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .bf16) (main_arg1 : FVec F S8192x2048 .bf16) (main_arg2 : FVec F S8192x1024 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  main_v10
-- ==== Kernel.lean ====
abbrev S8192x2048 : Shape := ⟨2, ![8192, 2048]⟩
abbrev S8192x1024 : Shape := ⟨2, ![8192, 1024]⟩
abbrev S8192x8x256 : Shape := ⟨3, ![8192, 8, 256]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩
abbrev S8x1x8192 : Shape := ⟨3, ![8, 1, 8192]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S1x1x512 : Shape := ⟨3, ![1, 1, 512]⟩
abbrev S8x128 : Shape := ⟨2, ![8, 128]⟩
abbrev S8x512 : Shape := ⟨2, ![8, 512]⟩
abbrev S1x512 : Shape := ⟨2, ![1, 512]⟩
abbrev S512x512 : Shape := ⟨2, ![512, 512]⟩

abbrev nBuf : Space → Nat
  | .hbm => 61
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S8192x8x256, .f32⟩
  | .hbm, ⟨6, _⟩ => ⟨S8192x2048, .f32⟩
  | .hbm, ⟨7, _⟩ => ⟨S8192x8x256, .f32⟩
  | .hbm, ⟨8, _⟩ => ⟨S8x8192x8192, .f32⟩
  | .hbm, ⟨9, _⟩ => ⟨S_, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S_, .f32⟩
  | .hbm, ⟨16, _⟩ => ⟨S8x8192, .f32⟩
  | .hbm, ⟨17, _⟩ => ⟨S8x8192, .f32⟩
  | .hbm, ⟨18, _⟩ => ⟨S8x8192x1, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8192x1024, .f32⟩
  | .hbm, ⟨28, _⟩ => ⟨S8192x8x128, .f32⟩
  | .hbm, ⟨29, _⟩ => ⟨S8x128x8192, .f32⟩
  | .hbm, ⟨30, _⟩ => ⟨S8192x8x128, .f32⟩
  | .hbm, ⟨31, _⟩ => ⟨S8192x1024, .f32⟩
  | .hbm, ⟨32, _⟩ => ⟨S8192x1024, .bf16⟩
  | .hbm, ⟨33, _⟩ => ⟨S8192x2048, .f32⟩
  | .hbm, ⟨34, _⟩ => ⟨S8192x8x256, .f32⟩
  | .hbm, ⟨35, _⟩ => ⟨S8192x2048, .f32⟩
  | .hbm, ⟨36, _⟩ => ⟨S8192x8x256, .f32⟩
  | .hbm, ⟨37, _⟩ => ⟨S8x8192x8192, .f32⟩
  | .hbm, ⟨38, _⟩ => ⟨S_, .f32⟩
  | .hbm, ⟨39, _⟩ => ⟨S_, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192, .f32⟩
  | .hbm, ⟨50, _⟩ => ⟨S8x8192x1, .f32⟩
  | .hbm, ⟨51, _⟩ => ⟨S8x8192x1, .f32⟩
  | .hbm, ⟨52, _⟩ => ⟨S8x8192x1, .f32⟩
  | .hbm, ⟨53, _⟩ => ⟨S_, .f32⟩
  | .hbm, ⟨54, _⟩ => ⟨S_, .f32⟩
  | .hbm, ⟨55, _⟩ => ⟨S8x8192x1, .f32⟩
  | .hbm, ⟨56, _⟩ => ⟨S8x8192x1, .f32⟩
  | .hbm, ⟨57, _⟩ => ⟨S8x1x8192, .f32⟩
  | .hbm, ⟨58, _⟩ => ⟨S8192x2048, .f32⟩
  | .hbm, ⟨59, _⟩ => ⟨S8192x2048, .f32⟩
  | .hbm, ⟨60, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S1x1x512, .f32⟩
  | .local _ .vmem, ⟨9, _⟩ => ⟨S1x1x512, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S8192x256, .f32⟩
  | .local _ .vmem, ⟨15, _⟩ => ⟨S8192x256, .f32⟩
  | .local _ .vmem, ⟨16, _⟩ => ⟨S8192x128, .f32⟩
  | .local _ .vmem, ⟨17, _⟩ => ⟨S8192x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 16, 1], ![false, false, false]⟩

def k0_mult1 (i : grid0.Coords) : BitVec 32 :=
  let arg2 : BitVec 32 := BitVec.ofNat 32 (i 2).val
  let c8192_i32 : BitVec 32 := 8192#32
  let v27 : BitVec 32 := Scalar.muli arg2 c8192_i32
  let c0_i32_18 : BitVec 32 := 0#32
  let v28 : BitVec 32 := Scalar.addi v27 c0_i32_18
  v28
def k0_off1 (i : grid0.Coords) (c0_i32_18 : BitVec 32) : Fin 2 → Nat :=
  let arg2 : BitVec 32 := BitVec.ofNat 32 (i 2).val
  let c8192_i32 : BitVec 32 := 8192#32
  let v27 : BitVec 32 := Scalar.muli arg2 c8192_i32
  let v28 : BitVec 32 := Scalar.addi v27 c0_i32_18
  let v29 : BitVec 32 := v28
  let v40 : Index := Scalar.indexCast v29
  let c0_23 : Index := 0#32
  ![v40.toNat, 0]
def k0_off2 (i : grid0.Coords) (c0_i32_18 : BitVec 32) : Fin 2 → Nat :=
  let arg2 : BitVec 32 := BitVec.ofNat 32 (i 2).val
  let c8192_i32 : BitVec 32 := 8192#32
  let v27 : BitVec 32 := Scalar.muli arg2 c8192_i32
  let v28 : BitVec 32 := Scalar.addi v27 c0_i32_18
  let v29 : BitVec 32 := v28
  let v48 : Index := Scalar.indexCast v29
  let c0_26 : Index := 0#32
  ![v48.toNat, 0]
def k0_mult2 (i : grid0.Coords) : BitVec 32 :=
  let arg2 : BitVec 32 := BitVec.ofNat 32 (i 2).val
  let c8192_i32_31 : BitVec 32 := 8192#32
  let v58 : BitVec 32 := Scalar.muli arg2 c8192_i32_31
  let c512_i32 : BitVec 32 := 512#32
  let v59 : BitVec 32 := Scalar.addi v58 c512_i32
  v59
def k0_mult3 (i : grid0.Coords) : BitVec 32 :=
  let arg2 : BitVec 32 := BitVec.ofNat 32 (i 2).val
  let c8192_i32_44 : BitVec 32 := 8192#32
  let v89 : BitVec 32 := Scalar.muli arg2 c8192_i32_44
  let c1024_i32 : BitVec 32 := 1024#32
  let v90 : BitVec 32 := Scalar.addi v89 c1024_i32
  v90
def k0_mult4 (i : grid0.Coords) : BitVec 32 :=
  let arg2 : BitVec 32 := BitVec.ofNat 32 (i 2).val
  let c8192_i32_57 : BitVec 32 := 8192#32
  let v120 : BitVec 32 := Scalar.muli arg2 c8192_i32_57
  let c1536_i32 : BitVec 32 := 1536#32
  let v121 : BitVec 32 := Scalar.addi v120 c1536_i32
  v121
def k0_mult5 (i : grid0.Coords) : BitVec 32 :=
  let arg2 : BitVec 32 := BitVec.ofNat 32 (i 2).val
  let c8192_i32_70 : BitVec 32 := 8192#32
  let v151 : BitVec 32 := Scalar.muli arg2 c8192_i32_70
  let c2048_i32 : BitVec 32 := 2048#32
  let v152 : BitVec 32 := Scalar.addi v151 c2048_i32
  v152
def k0_mult6 (i : grid0.Coords) : BitVec 32 :=
  let arg2 : BitVec 32 := BitVec.ofNat 32 (i 2).val
  let c8192_i32_83 : BitVec 32 := 8192#32
  let v182 : BitVec 32 := Scalar.muli arg2 c8192_i32_83
  let c2560_i32 : BitVec 32 := 2560#32
  let v183 : BitVec 32 := Scalar.addi v182 c2560_i32
  v183
def k0_mult7 (i : grid0.Coords) : BitVec 32 :=
  let arg2 : BitVec 32 := BitVec.ofNat 32 (i 2).val
  let c8192_i32_96 : BitVec 32 := 8192#32
  let v213 : BitVec 32 := Scalar.muli arg2 c8192_i32_96
  let c3072_i32 : BitVec 32 := 3072#32
  let v214 : BitVec 32 := Scalar.addi v213 c3072_i32
  v214
def k0_mult8 (i : grid0.Coords) : BitVec 32 :=
  let arg2 : BitVec 32 := BitVec.ofNat 32 (i 2).val
  let c8192_i32_109 : BitVec 32 := 8192#32
  let v244 : BitVec 32 := Scalar.muli arg2 c8192_i32_109
  let c3584_i32 : BitVec 32 := 3584#32
  let v245 : BitVec 32 := Scalar.addi v244 c3584_i32
  v245
def k0_mult9 (i : grid0.Coords) : BitVec 32 :=
  let arg2 : BitVec 32 := BitVec.ofNat 32 (i 2).val
  let c8192_i32_122 : BitVec 32 := 8192#32
  let v275 : BitVec 32 := Scalar.muli arg2 c8192_i32_122
  let c4096_i32 : BitVec 32 := 4096#32
  let v276 : BitVec 32 := Scalar.addi v275 c4096_i32
  v276
def k0_mult10 (i : grid0.Coords) : BitVec 32 :=
  let arg2 : BitVec 32 := BitVec.ofNat 32 (i 2).val
  let c8192_i32_135 : BitVec 32 := 8192#32
  let v306 : BitVec 32 := Scalar.muli arg2 c8192_i32_135
  let c4608_i32 : BitVec 32 := 4608#32
  let v307 : BitVec 32 := Scalar.addi v306 c4608_i32
  v307
def k0_mult11 (i : grid0.Coords) : BitVec 32 :=
  let arg2 : BitVec 32 := BitVec.ofNat 32 (i 2).val
  let c8192_i32_148 : BitVec 32 := 8192#32
  let v337 : BitVec 32 := Scalar.muli arg2 c8192_i32_148
  let c5120_i32 : BitVec 32 := 5120#32
  let v338 : BitVec 32 := Scalar.addi v337 c5120_i32
  v338
def k0_mult12 (i : grid0.Coords) : BitVec 32 :=
  let arg2 : BitVec 32 := BitVec.ofNat 32 (i 2).val
  let c8192_i32_161 : BitVec 32 := 8192#32
  let v368 : BitVec 32 := Scalar.muli arg2 c8192_i32_161
  let c5632_i32 : BitVec 32 := 5632#32
  let v369 : BitVec 32 := Scalar.addi v368 c5632_i32
  v369
def k0_mult13 (i : grid0.Coords) : BitVec 32 :=
  let arg2 : BitVec 32 := BitVec.ofNat 32 (i 2).val
  let c8192_i32_174 : BitVec 32 := 8192#32
  let v399 : BitVec 32 := Scalar.muli arg2 c8192_i32_174
  let c6144_i32 : BitVec 32 := 6144#32
  let v400 : BitVec 32 := Scalar.addi v399 c6144_i32
  v400
def k0_mult14 (i : grid0.Coords) : BitVec 32 :=
  let arg2 : BitVec 32 := BitVec.ofNat 32 (i 2).val
  let c8192_i32_187 : BitVec 32 := 8192#32
  let v430 : BitVec 32 := Scalar.muli arg2 c8192_i32_187
  let c6656_i32 : BitVec 32 := 6656#32
  let v431 : BitVec 32 := Scalar.addi v430 c6656_i32
  v431
def k0_mult15 (i : grid0.Coords) : BitVec 32 :=
  let arg2 : BitVec 32 := BitVec.ofNat 32 (i 2).val
  let c8192_i32_200 : BitVec 32 := 8192#32
  let v461 : BitVec 32 := Scalar.muli arg2 c8192_i32_200
  let c7168_i32 : BitVec 32 := 7168#32
  let v462 : BitVec 32 := Scalar.addi v461 c7168_i32
  v462
def k0_mult16 (i : grid0.Coords) : BitVec 32 :=
  let arg2 : BitVec 32 := BitVec.ofNat 32 (i 2).val
  let c8192_i32_213 : BitVec 32 := 8192#32
  let v492 : BitVec 32 := Scalar.muli arg2 c8192_i32_213
  let c7680_i32 : BitVec 32 := 7680#32
  let v493 : BitVec 32 := Scalar.addi v492 c7680_i32
  v493
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x2048 : Shape := ⟨2, ![8192, 2048]⟩
abbrev S8192x1024 : Shape := ⟨2, ![8192, 1024]⟩
abbrev S8192x8x256 : Shape := ⟨3, ![8192, 8, 256]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩
abbrev S8x8192x256 : Shape := ⟨3, ![8, 8192, 256]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x1024, .f32⟩
  | .hbm, ⟨7, _⟩ => ⟨S8192x8x256, .f32⟩
  | .hbm, ⟨8, _⟩ => ⟨S8192x8x256, .f32⟩
  | .hbm, ⟨9, _⟩ => ⟨S8x8192x8192, .f32⟩
  | .hbm, ⟨10, _⟩ => ⟨S_, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .i1⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S_, .f32⟩
  | .hbm, ⟨26, _⟩ => ⟨S8x8192, .f32⟩
  | .hbm, ⟨27, _⟩ => ⟨S8x8192, .i1⟩
  | .hbm, ⟨28, _⟩ => ⟨S_, .f32⟩
  | .hbm, ⟨29, _⟩ => ⟨S8x8192, .f32⟩
  | .hbm, ⟨30, _⟩ => ⟨S8x8192, .i1⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S8192x8x128, .f32⟩
  | .hbm, ⟨53, _⟩ => ⟨S8x128x8192, .f32⟩
  | .hbm, ⟨54, _⟩ => ⟨S8192x8x128, .f32⟩
  | .hbm, ⟨55, _⟩ => ⟨S8192x1024, .f32⟩
  | .hbm, ⟨56, _⟩ => ⟨S8192x1024, .f32⟩
  | .hbm, ⟨57, _⟩ => ⟨S8192x8x128, .f32⟩
  | .hbm, ⟨58, _⟩ => ⟨S8x128x8192, .f32⟩
  | .hbm, ⟨59, _⟩ => ⟨S8x8192x8192, .f32⟩
  | .hbm, ⟨60, _⟩ => ⟨S8x128x8192, .f32⟩
  | .hbm, ⟨61, _⟩ => ⟨S8192x8x128, .f32⟩
  | .hbm, ⟨62, _⟩ => ⟨S8192x1024, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x1, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S8x8192x256, .f32⟩
  | .hbm, ⟨80, _⟩ => ⟨S8192x8x256, .f32⟩
  | .hbm, ⟨81, _⟩ => ⟨S8x8192x256, .f32⟩
  | .hbm, ⟨82, _⟩ => ⟨S8192x8x256, .f32⟩
  | .hbm, ⟨83, _⟩ => ⟨S8192x2048, .f32⟩
  | .hbm, ⟨84, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== DwFf2.lean ====
abbrev S8192x8192 : Shape := ⟨2, ![8192, 8192]⟩
abbrev S8192x2048 : Shape := ⟨2, ![8192, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf2RefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | .hbm, ⟨11, _⟩ => ⟨S2048x8192, .f32⟩
  | .hbm, ⟨12, _⟩ => ⟨S8192x2048, .f32⟩
  | .hbm, ⟨13, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== DU.lean ====
abbrev S8192x2048 : Shape := ⟨2, ![8192, 2048]⟩
abbrev S8192x8192 : Shape := ⟨2, ![8192, 8192]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S8192x8192, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DURefIdeal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DwFf1.lean ====
abbrev S8192x2048 : Shape := ⟨2, ![8192, 2048]⟩
abbrev S8192x8192 : Shape := ⟨2, ![8192, 8192]⟩
abbrev S8x2048x1024 : Shape := ⟨3, ![8, 2048, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8x2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf1RefIdeal.lean ====
abbrev S8192x2048 : Shape := ⟨2, ![8192, 2048]⟩
abbrev S8192x8192 : Shape := ⟨2, ![8192, 8192]⟩
abbrev S_ : Shape := ⟨0, ![]⟩
abbrev S8x2048x1024 : Shape := ⟨3, ![8, 2048, 1024]⟩
abbrev S2048x8x1024 : Shape := ⟨3, ![2048, 8, 1024]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S8x2048x1024, .f32⟩
  | .hbm, ⟨4, _⟩ => ⟨S8192x2048, .f32⟩
  | .hbm, ⟨5, _⟩ => ⟨S2048x8x1024, .f32⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DH2.lean ====
abbrev S8192x8192 : Shape := ⟨2, ![8192, 8192]⟩
abbrev S8x2048x1024 : Shape := ⟨3, ![8, 2048, 1024]⟩
abbrev S8192x2048 : Shape := ⟨2, ![8192, 2048]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8x2048x1024, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2RefIdeal.lean ====
abbrev S8192x8192 : Shape := ⟨2, ![8192, 8192]⟩
abbrev S8x2048x1024 : Shape := ⟨3, ![8, 2048, 1024]⟩
abbrev S_ : Shape := ⟨0, ![]⟩
abbrev S8192x2048 : Shape := ⟨2, ![8192, 2048]⟩
abbrev S2048x8x1024 : Shape := ⟨3, ![2048, 8, 1024]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8x2048x1024, .bf16⟩
  | .hbm, ⟨2, _⟩ => ⟨S_, .f32⟩
  | .hbm, ⟨3, _⟩ => ⟨S8192x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjIn.lean ====
abbrev S8192x2048 : Shape := ⟨2, ![8192, 2048]⟩
abbrev S2048x5120 : Shape := ⟨2, ![2048, 5120]⟩
abbrev S8192x5120 : Shape := ⟨2, ![8192, 5120]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x5120, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S8192x2048 : Shape := ⟨2, ![8192, 2048]⟩
abbrev S2048x5120 : Shape := ⟨2, ![2048, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x2048, .f32⟩
  | .hbm, ⟨3, _⟩ => ⟨S2048x5120, .f32⟩
  | .hbm, ⟨4, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjOut.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ff1.lean ====
abbrev S8192x2048 : Shape := ⟨2, ![8192, 2048]⟩
abbrev S8x2048x1024 : Shape := ⟨3, ![8, 2048, 1024]⟩
abbrev S8192x8192 : Shape := ⟨2, ![8192, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x8192, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1RefIdeal.lean ====
abbrev S8192x2048 : Shape := ⟨2, ![8192, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S8192x8192, .f32⟩
  | .hbm, ⟨7, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ff2.lean ====
abbrev S8192x8192 : Shape := ⟨2, ![8192, 8192]⟩
abbrev S8192x2048 : Shape := ⟨2, ![8192, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2RefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DCat.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCatRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwIn.lean ====
abbrev S8192x2048 : Shape := ⟨2, ![8192, 2048]⟩
abbrev S8192x5120 : Shape := ⟨2, ![8192, 5120]⟩
abbrev S2048x5120 : Shape := ⟨2, ![2048, 5120]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S2048x5120, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S8192x5120 : Shape := ⟨2, ![8192, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S_, .f32⟩
  | .hbm, ⟨3, _⟩ => ⟨S2048x5120, .f32⟩
  | .hbm, ⟨4, _⟩ => ⟨S8192x2048, .f32⟩
  | .hbm, ⟨5, _⟩ => ⟨S8192x5120, .f32⟩
  | .hbm, ⟨6, _⟩ => ⟨S8192x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH.lean ====
abbrev S8192x5120 : Shape := ⟨2, ![8192, 5120]⟩
abbrev S2048x5120 : Shape := ⟨2, ![2048, 5120]⟩
abbrev S8192x2048 : Shape := ⟨2, ![8192, 2048]⟩
abbrev S512x1280 : Shape := ⟨2, ![512, 1280]⟩
abbrev S2048x1280 : Shape := ⟨2, ![2048, 1280]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S8192x2048, .f32⟩
  | .local _ .vmem, ⟨0, _⟩ => ⟨S512x1280, .bf16⟩
  | .local _ .vmem, ⟨1, _⟩ => ⟨S512x1280, .bf16⟩
  | .local _ .vmem, ⟨2, _⟩ => ⟨S2048x1280, .bf16⟩
  | .local _ .vmem, ⟨3, _⟩ => ⟨S2048x1280, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S8192x5120 : Shape := ⟨2, ![8192, 5120]⟩
abbrev S2048x5120 : Shape := ⟨2, ![2048, 5120]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S_, .f32⟩
  | .hbm, ⟨3, _⟩ => ⟨S8192x2048, .f32⟩
  | .hbm, ⟨4, _⟩ => ⟨S2048x5120, .f32⟩
  | .hbm, ⟨5, _⟩ => ⟨S8192x5120, .f32⟩
  | .hbm, ⟨6, _⟩ => ⟨S8192x5120, .f32⟩
  | .hbm, ⟨7, _⟩ => ⟨S8192x2048, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormMix.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormMixRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== NormMlp.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormMlpRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== AdamIn.lean ====
abbrev S2048x618 : Shape := ⟨2, ![2048, 618]⟩
abbrev S256x618 : Shape := ⟨2, ![256, 618]⟩

abbrev nBuf : Space → Nat
  | .hbm => 12
  | .vmem => 24
  | .smem => 0
  | _ => 0

abbrev bufTy : (tb : Table) → Fin (tcTables nBuf tb) → BufTy
  | .hbm, ⟨0, _⟩ => ⟨S2048x618, .bf16⟩
  | .hbm, ⟨1, _⟩ => ⟨S2048x618, .bf16⟩
  | .hbm, ⟨2, _⟩ => ⟨S2048x618, .bf16⟩
  | .hbm, ⟨3, _⟩ => ⟨S2048x618, .bf16⟩
  | .hbm, ⟨4, _⟩ => ⟨S2048x618, .bf16⟩
  | .hbm, ⟨5, _⟩ => ⟨S2048x618, .f32⟩
  | .hbm, ⟨6, _⟩ => ⟨S2048x618, .f32⟩
  | .hbm, ⟨7, _⟩ => ⟨S2048x618, .f32⟩
  | .hbm, ⟨8, _⟩ => ⟨S2048x618, .f32⟩
  | .hbm, ⟨9, _⟩ => ⟨S2048x618, .f32⟩
  | .hbm, ⟨10, _⟩ => ⟨S2048x618, .f32⟩
  | .hbm, ⟨11, _⟩ => ⟨S2048x618, .f32⟩
  | .local _ .vmem, ⟨0, _⟩ => ⟨S256x618, .bf16⟩
  | .local _ .vmem, ⟨1, _⟩ => ⟨S256x618, .bf16⟩
  | .local _ .vmem, ⟨2, _⟩ => ⟨S256x618, .bf16⟩
  | .local _ .vmem, ⟨3, _⟩ => ⟨S256x618, .bf16⟩
  | .local _ .vmem, ⟨4, _⟩ => ⟨S256x618, .bf16⟩
  | .local _ .vmem, ⟨5, _⟩ => ⟨S256x618, .bf16⟩
  | .local _ .vmem, ⟨6, _⟩ => ⟨S256x618, .bf16⟩
  | .local _ .vmem, ⟨7, _⟩ => ⟨S256x618, .bf16⟩
  | .local _ .vmem, ⟨8, _⟩ => ⟨S256x618, .bf16⟩
  | .local _ .vmem, ⟨9, _⟩ => ⟨S256x618, .bf16⟩
  | .local _ .vmem, ⟨10, _⟩ => ⟨S256x618, .f32⟩
  | .local _ .vmem, ⟨11, _⟩ => ⟨S256x618, .f32⟩
  | .local _ .vmem, ⟨12, _⟩ => ⟨S256x618, .f32⟩
  | .local _ .vmem, ⟨13, _⟩ => ⟨S256x618, .f32⟩
  | .local _ .vmem, ⟨14, _⟩ => ⟨S256x618, .f32⟩
  | .local _ .vmem, ⟨15, _⟩ => ⟨S256x618, .f32⟩
  | .local _ .vmem, ⟨16, _⟩ => ⟨S256x618, .f32⟩
  | .local _ .vmem, ⟨17, _⟩ => ⟨S256x618, .f32⟩
  | .local _ .vmem, ⟨18, _⟩ => ⟨S256x618, .f32⟩
  | .local _ .vmem, ⟨19, _⟩ => ⟨S256x618, .f32⟩
  | .local _ .vmem, ⟨20, _⟩ => ⟨S256x618, .f32⟩
  | .local _ .vmem, ⟨21, _⟩ => ⟨S256x618, .f32⟩
  | .local _ .vmem, ⟨22, _⟩ => ⟨S256x618, .f32⟩
  | .local _ .vmem, ⟨23, _⟩ => ⟨S256x618, .f32⟩
  | _, _ => ⟨S2048x618, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x618 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x618 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x618 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x618 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x618 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x618 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x618 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x618 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x618 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x618 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x618 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x618 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdamInIdeal.lean ====
abbrev S2048x618 : Shape := ⟨2, ![2048, 618]⟩
abbrev S256x618 : Shape := ⟨2, ![256, 618]⟩

abbrev nBuf : Space → Nat
  | .hbm => 12
  | .vmem => 24
  | .smem => 0
  | _ => 0

abbrev bufTy : (tb : Table) → Fin (tcTables nBuf tb) → BufTy
  | .hbm, ⟨0, _⟩ => ⟨S2048x618, .bf16⟩
  | .hbm, ⟨1, _⟩ => ⟨S2048x618, .bf16⟩
  | .hbm, ⟨2, _⟩ => ⟨S2048x618, .bf16⟩
  | .hbm, ⟨3, _⟩ => ⟨S2048x618, .bf16⟩
  | .hbm, ⟨4, _⟩ => ⟨S2048x618, .bf16⟩
  | .hbm, ⟨5, _⟩ => ⟨S2048x618, .f32⟩
  | .hbm, ⟨6, _⟩ => ⟨S2048x618, .f32⟩
  | .hbm, ⟨7, _⟩ => ⟨S2048x618, .f32⟩
  | .hbm, ⟨8, _⟩ => ⟨S2048x618, .f32⟩
  | .hbm, ⟨9, _⟩ => ⟨S2048x618, .f32⟩
  | .hbm, ⟨10, _⟩ => ⟨S2048x618, .f32⟩
  | .hbm, ⟨11, _⟩ => ⟨S2048x618, .f32⟩
  | .local _ .vmem, ⟨0, _⟩ => ⟨S256x618, .bf16⟩
  | .local _ .vmem, ⟨1, _⟩ => ⟨S256x618, .bf16⟩
  | .local _ .vmem, ⟨2, _⟩ => ⟨S256x618, .bf16⟩
  | .local _ .vmem, ⟨3, _⟩ => ⟨S256x618, .bf16⟩
  | .local _ .vmem, ⟨4, _⟩ => ⟨S256x618, .bf16⟩
  | .local _ .vmem, ⟨5, _⟩ => ⟨S256x618, .bf16⟩
  | .local _ .vmem, ⟨6, _⟩ => ⟨S256x618, .bf16⟩
  | .local _ .vmem, ⟨7, _⟩ => ⟨S256x618, .bf16⟩
  | .local _ .vmem, ⟨8, _⟩ => ⟨S256x618, .bf16⟩
  | .local _ .vmem, ⟨9, _⟩ => ⟨S256x618, .bf16⟩
  | .local _ .vmem, ⟨10, _⟩ => ⟨S256x618, .f32⟩
  | .local _ .vmem, ⟨11, _⟩ => ⟨S256x618, .f32⟩
  | .local _ .vmem, ⟨12, _⟩ => ⟨S256x618, .f32⟩
  | .local _ .vmem, ⟨13, _⟩ => ⟨S256x618, .f32⟩
  | .local _ .vmem, ⟨14, _⟩ => ⟨S256x618, .f32⟩
  | .local _ .vmem, ⟨15, _⟩ => ⟨S256x618, .f32⟩
  | .local _ .vmem, ⟨16, _⟩ => ⟨S256x618, .f32⟩
  | .local _ .vmem, ⟨17, _⟩ => ⟨S256x618, .f32⟩
  | .local _ .vmem, ⟨18, _⟩ => ⟨S256x618, .f32⟩
  | .local _ .vmem, ⟨19, _⟩ => ⟨S256x618, .f32⟩
  | .local _ .vmem, ⟨20, _⟩ => ⟨S256x618, .f32⟩
  | .local _ .vmem, ⟨21, _⟩ => ⟨S256x618, .f32⟩
  | .local _ .vmem, ⟨22, _⟩ => ⟨S256x618, .f32⟩
  | .local _ .vmem, ⟨23, _⟩ => ⟨S256x618, .f32⟩
  | _, _ => ⟨S2048x618, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x618 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x618 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x618 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x618 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x618 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x618 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x618 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x618 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x618 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x618 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x618 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x618 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdamInRefIdeal.lean ====
abbrev S2048x618 : Shape := ⟨2, ![2048, 618]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2048x618, .bf16⟩
  | .hbm, ⟨1, _⟩ => ⟨S2048x618, .bf16⟩
  | .hbm, ⟨2, _⟩ => ⟨S2048x618, .bf16⟩
  | .hbm, ⟨3, _⟩ => ⟨S2048x618, .bf16⟩
  | .hbm, ⟨4, _⟩ => ⟨S2048x618, .bf16⟩
  | .hbm, ⟨5, _⟩ => ⟨S2048x618, .f32⟩
  | .hbm, ⟨6, _⟩ => ⟨S2048x618, .f32⟩
  | .hbm, ⟨7, _⟩ => ⟨S2048x618, .f32⟩
  | .hbm, ⟨8, _⟩ => ⟨S2048x618, .f32⟩
  | .hbm, ⟨9, _⟩ => ⟨S_, .f32⟩
  | .hbm, ⟨10, _⟩ => ⟨S2048x618, .f32⟩
  | .hbm, ⟨11, _⟩ => ⟨S2048x618, .f32⟩
  | .hbm, ⟨12, _⟩ => ⟨S2048x618, .f32⟩
  | .hbm, ⟨13, _⟩ => ⟨S2048x618, .f32⟩
  | .hbm, ⟨14, _⟩ => ⟨S2048x618, .f32⟩
  | .hbm, ⟨15, _⟩ => ⟨S2048x618, .f32⟩
  | .hbm, ⟨16, _⟩ => ⟨S2048x618, .f32⟩
  | .hbm, ⟨17, _⟩ => ⟨S2048x618, .f32⟩
  | .hbm, ⟨18, _⟩ => ⟨S2048x618, .f32⟩
  | .hbm, ⟨19, _⟩ => ⟨S2048x618, .f32⟩
  | .hbm, ⟨20, _⟩ => ⟨S_, .f32⟩
  | .hbm, ⟨21, _⟩ => ⟨S2048x618, .f32⟩
  | .hbm, ⟨22, _⟩ => ⟨S2048x618, .f32⟩
  | .hbm, ⟨23, _⟩ => ⟨S_, .f32⟩
  | .hbm, ⟨24, _⟩ => ⟨S2048x618, .f32⟩
  | .hbm, ⟨25, _⟩ => ⟨S2048x618, .f32⟩
  | .hbm, ⟨26, _⟩ => ⟨S2048x618, .f32⟩
  | .hbm, ⟨27, _⟩ => ⟨S_, .f32⟩
  | .hbm, ⟨28, _⟩ => ⟨S2048x618, .f32⟩
  | .hbm, ⟨29, _⟩ => ⟨S2048x618, .f32⟩
  | .hbm, ⟨30, _⟩ => ⟨S2048x618, .f32⟩
  | .hbm, ⟨31, _⟩ => ⟨S_, .f32⟩
  | .hbm, ⟨32, _⟩ => ⟨S2048x618, .f32⟩
  | .hbm, ⟨33, _⟩ => ⟨S2048x618, .f32⟩
  | .hbm, ⟨34, _⟩ => ⟨S2048x618, .f32⟩
  | .hbm, ⟨35, _⟩ => ⟨S_, .f32⟩
  | .hbm, ⟨36, _⟩ => ⟨S2048x618, .f32⟩
  | .hbm, ⟨37, _⟩ => ⟨S2048x618, .f32⟩
  | .hbm, ⟨38, _⟩ => ⟨S_, .f32⟩
  | .hbm, ⟨39, _⟩ => ⟨S2048x618, .f32⟩
  | .hbm, ⟨40, _⟩ => ⟨S2048x618, .f32⟩
  | .hbm, ⟨41, _⟩ => ⟨S2048x618, .f32⟩
  | .hbm, ⟨42, _⟩ => ⟨S_, .f32⟩
  | .hbm, ⟨43, _⟩ => ⟨S2048x618, .f32⟩
  | .hbm, ⟨44, _⟩ => ⟨S2048x618, .f32⟩
  | .hbm, ⟨45, _⟩ => ⟨S2048x618, .f32⟩
  | .hbm, ⟨46, _⟩ => ⟨S_, .f32⟩
  | .hbm, ⟨47, _⟩ => ⟨S2048x618, .f32⟩
  | .hbm, ⟨48, _⟩ => ⟨S2048x618, .f32⟩
  | .hbm, ⟨49, _⟩ => ⟨S2048x618, .f32⟩
  | .hbm, ⟨50, _⟩ => ⟨S_, .f32⟩
  | .hbm, ⟨51, _⟩ => ⟨S2048x618, .f32⟩
  | .hbm, ⟨52, _⟩ => ⟨S2048x618, .f32⟩
  | _, _ => ⟨S2048x618, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamOut.lean ====
abbrev S256x2048 : Shape := ⟨2, ![256, 2048]⟩

abbrev nBuf : Space → Nat
  | .hbm => 12
  | .vmem => 12
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S256x2048, .bf16⟩
  | .hbm, ⟨3, _⟩ => ⟨S256x2048, .bf16⟩
  | .hbm, ⟨4, _⟩ => ⟨S256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S256x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== AdamOutIdeal.lean ====
abbrev S256x2048 : Shape := ⟨2, ![256, 2048]⟩

abbrev nBuf : Space → Nat
  | .hbm => 12
  | .vmem => 12
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S256x2048, .bf16⟩
  | .hbm, ⟨3, _⟩ => ⟨S256x2048, .bf16⟩
  | .hbm, ⟨4, _⟩ => ⟨S256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S256x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== AdamOutRefIdeal.lean ====
abbrev S256x2048 : Shape := ⟨2, ![256, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S256x2048, .bf16⟩
  | .hbm, ⟨3, _⟩ => ⟨S256x2048, .bf16⟩
  | .hbm, ⟨4, _⟩ => ⟨S256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamFf1.lean ====
abbrev S2048x1024 : Shape := ⟨2, ![2048, 1024]⟩
abbrev S256x1024 : Shape := ⟨2, ![256, 1024]⟩

abbrev nBuf : Space → Nat
  | .hbm => 12
  | .vmem => 24
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdamFf1Ideal.lean ====
abbrev S2048x1024 : Shape := ⟨2, ![2048, 1024]⟩
abbrev S256x1024 : Shape := ⟨2, ![256, 1024]⟩

abbrev nBuf : Space → Nat
  | .hbm => 12
  | .vmem => 24
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdamFf1RefIdeal.lean ====
abbrev S2048x1024 : Shape := ⟨2, ![2048, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamFf2.lean ====
abbrev S1024x2048 : Shape := ⟨2, ![1024, 2048]⟩
abbrev S256x2048 : Shape := ⟨2, ![256, 2048]⟩

abbrev nBuf : Space → Nat
  | .hbm => 12
  | .vmem => 24
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdamFf2Ideal.lean ====
abbrev S1024x2048 : Shape := ⟨2, ![1024, 2048]⟩
abbrev S256x2048 : Shape := ⟨2, ![256, 2048]⟩

abbrev nBuf : Space → Nat
  | .hbm => 12
  | .vmem => 24
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdamFf2RefIdeal.lean ====
abbrev S1024x2048 : Shape := ⟨2, ![1024, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S_, .f32⟩
  | .hbm, ⟨51, _⟩ => ⟨S1024x2048, .f32⟩
  | .hbm, ⟨52, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Fwd.lean ====
abbrev S8192x2048 : Shape := ⟨2, ![8192, 2048]⟩
abbrev S8192x1024 : Shape := ⟨2, ![8192, 1024]⟩
abbrev S8x8192x1 : Shape := ⟨3, ![8, 8192, 1]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S1x512x1 : Shape := ⟨3, ![1, 512, 1]⟩
abbrev S512x1 : Shape := ⟨2, ![512, 1]⟩
abbrev S1024x256 : Shape := ⟨2, ![1024, 256]⟩
abbrev S512x1024 : Shape := ⟨2, ![512, 1024]⟩
abbrev S512 : Shape := ⟨1, ![512]⟩
abbrev S1024x128 : Shape := ⟨2, ![1024, 128]⟩

abbrev nBuf : Space → Nat
  | .hbm => 5
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8x8192x1, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 1], ![false, false, false]⟩

def k0_cond2 (i : grid0.Coords) : BitVec 1 :=
  let arg2 : BitVec 32 := BitVec.ofNat 32 (i 2).val
  let c0_i32_56 : BitVec 32 := 0#32
  let v113 : BitVec 1 := Scalar.cmpi .eq arg2 c0_i32_56
  let v114 : BitVec 32 := Scalar.extui v113
  let c0_i32_57 : BitVec 32 := 0#32
  let v115 : BitVec 1 := Scalar.cmpi .ne v114 c0_i32_57
  v115

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FwdRefIdeal.lean ====
abbrev S8192x2048 : Shape := ⟨2, ![8192, 2048]⟩
abbrev S8192x1024 : Shape := ⟨2, ![8192, 1024]⟩
abbrev S8192x8x256 : Shape := ⟨3, ![8192, 8, 256]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S8192x8x256, .f32⟩
  | .hbm, ⟨5, _⟩ => ⟨S8192x2048, .f32⟩
  | .hbm, ⟨6, _⟩ => ⟨S8192x8x256, .f32⟩
  | .hbm, ⟨7, _⟩ => ⟨S8x8192x8192, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S8x8192x8192, .f32⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x1, .f32⟩
  | .hbm, ⟨22, _⟩ => ⟨S8x8192x1, .f32⟩
  | .hbm, ⟨23, _⟩ => ⟨S_, .f32⟩
  | .hbm, ⟨24, _⟩ => ⟨S_, .f32⟩
  | .hbm, ⟨25, _⟩ => ⟨S8x8192x1, .f32⟩
  | .hbm, ⟨26, _⟩ => ⟨S8x8192x1, .f32⟩
  | .hbm, ⟨27, _⟩ => ⟨S8192x2048, .f32⟩
  | .hbm, ⟨28, _⟩ => ⟨S8192x8x256, .f32⟩
  | .hbm, ⟨29, _⟩ => ⟨S8192x2048, .f32⟩
  | .hbm, ⟨30, _⟩ => ⟨S8192x8x256, .f32⟩
  | .hbm, ⟨31, _⟩ => ⟨S8x8192x8192, .f32⟩
  | .hbm, ⟨32, _⟩ => ⟨S_, .f32⟩
  | .hbm, ⟨33, _⟩ => ⟨S_, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8192x1024, .f32⟩
  | .hbm, ⟨51, _⟩ => ⟨S8192x8x128, .f32⟩
  | .hbm, ⟨52, _⟩ => ⟨S8x128x8192, .f32⟩
  | .hbm, ⟨53, _⟩ => ⟨S8192x8x128, .f32⟩
  | .hbm, ⟨54, _⟩ => ⟨S8192x1024, .f32⟩
  | .hbm, ⟨55, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== NormMixFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormMixFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormMlpFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormMlpFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== AdaFwd.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x2048 : Shape := ⟨2, ![8, 2048]⟩
abbrev S2048x1536 : Shape := ⟨2, ![2048, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdaGrad.lean ====
abbrev S8x2048 : Shape := ⟨2, ![8, 2048]⟩
abbrev S8x1536 : Shape := ⟨2, ![8, 1536]⟩
abbrev S2048x1536 : Shape := ⟨2, ![2048, 1536]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S2048x512, .f32⟩
  | .local _ .vmem, ⟨4, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaGradRefIdeal.lean ====
abbrev S8x2048 : Shape := ⟨2, ![8, 2048]⟩
abbrev S8x1536 : Shape := ⟨2, ![8, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S_, .f32⟩
  | .hbm, ⟨3, _⟩ => ⟨S2048x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1536, .f32⟩
  | .hbm, ⟨14, _⟩ => ⟨S1536x2048, .f32⟩
  | .hbm, ⟨15, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AdamAda.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S2048x1536 : Shape := ⟨2, ![2048, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S_, .f32⟩
  | .hbm, ⟨11, _⟩ => ⟨S2048x1536, .f32⟩
  | .hbm, ⟨12, _⟩ => ⟨S2048x1536, .f32⟩
  | .hbm, ⟨13, _⟩ => ⟨S2048x1536, .f32⟩
  | .hbm, ⟨14, _⟩ => ⟨S_, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S_, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S_, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S_, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S1x19712 : Shape := ⟨2, ![1, 19712]⟩

abbrev nBuf : Space → Nat
  | .hbm => 15
  | .vmem => 15
  | .smem => 0
  | _ => 0

abbrev bufTy : (tb : Table) → Fin (tcTables nBuf tb) → BufTy
  | .hbm, ⟨0, _⟩ => ⟨S1x19712, .f32⟩
  | .hbm, ⟨1, _⟩ => ⟨S1x19712, .f32⟩
  | .hbm, ⟨2, _⟩ => ⟨S1x19712, .f32⟩
  | .hbm, ⟨3, _⟩ => ⟨S1x19712, .f32⟩
  | .hbm, ⟨4, _⟩ => ⟨S1x19712, .f32⟩
  | .hbm, ⟨5, _⟩ => ⟨S1x19712, .f32⟩
  | .hbm, ⟨6, _⟩ => ⟨S1x19712, .f32⟩
  | .hbm, ⟨7, _⟩ => ⟨S1x19712, .f32⟩
  | .hbm, ⟨8, _⟩ => ⟨S1x19712, .f32⟩
  | .hbm, ⟨9, _⟩ => ⟨S1x19712, .f32⟩
  | .hbm, ⟨10, _⟩ => ⟨S1x19712, .f32⟩
  | .hbm, ⟨11, _⟩ => ⟨S1x19712, .f32⟩
  | .hbm, ⟨12, _⟩ => ⟨S1x19712, .f32⟩
  | .hbm, ⟨13, _⟩ => ⟨S1x19712, .f32⟩
  | .hbm, ⟨14, _⟩ => ⟨S1x19712, .f32⟩
  | .local _ .vmem, ⟨0, _⟩ => ⟨S1x19712, .f32⟩
  | .local _ .vmem, ⟨1, _⟩ => ⟨S1x19712, .f32⟩
  | .local _ .vmem, ⟨2, _⟩ => ⟨S1x19712, .f32⟩
  | .local _ .vmem, ⟨3, _⟩ => ⟨S1x19712, .f32⟩
  | .local _ .vmem, ⟨4, _⟩ => ⟨S1x19712, .f32⟩
  | .local _ .vmem, ⟨5, _⟩ => ⟨S1x19712, .f32⟩
  | .local _ .vmem, ⟨6, _⟩ => ⟨S1x19712, .f32⟩
  | .local _ .vmem, ⟨7, _⟩ => ⟨S1x19712, .f32⟩
  | .local _ .vmem, ⟨8, _⟩ => ⟨S1x19712, .f32⟩
  | .local _ .vmem, ⟨9, _⟩ => ⟨S1x19712, .f32⟩
  | .local _ .vmem, ⟨10, _⟩ => ⟨S1x19712, .f32⟩
  | .local _ .vmem, ⟨11, _⟩ => ⟨S1x19712, .f32⟩
  | .local _ .vmem, ⟨12, _⟩ => ⟨S1x19712, .f32⟩
  | .local _ .vmem, ⟨13, _⟩ => ⟨S1x19712, .f32⟩
  | .local _ .vmem, ⟨14, _⟩ => ⟨S1x19712, .f32⟩
  | _, _ => ⟨S1x19712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x19712 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x19712 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x19712 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x19712 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x19712 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x19712 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x19712 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x19712 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x19712 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x19712 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x19712 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x19712 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x19712 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x19712 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x19712 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== AdamSmallRefIdeal.lean ====
abbrev S1x19712 : Shape := ⟨2, ![1, 19712]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1x19712, .f32⟩
  | .hbm, ⟨1, _⟩ => ⟨S1x19712, .f32⟩
  | .hbm, ⟨2, _⟩ => ⟨S1x19712, .f32⟩
  | .hbm, ⟨3, _⟩ => ⟨S1x19712, .f32⟩
  | .hbm, ⟨4, _⟩ => ⟨S1x19712, .f32⟩
  | .hbm, ⟨5, _⟩ => ⟨S1x19712, .f32⟩
  | .hbm, ⟨6, _⟩ => ⟨S1x19712, .f32⟩
  | .hbm, ⟨7, _⟩ => ⟨S1x19712, .f32⟩
  | .hbm, ⟨8, _⟩ => ⟨S1x19712, .f32⟩
  | .hbm, ⟨9, _⟩ => ⟨S1x19712, .f32⟩
  | .hbm, ⟨10, _⟩ => ⟨S1x19712, .f32⟩
  | .hbm, ⟨11, _⟩ => ⟨S_, .f32⟩
  | .hbm, ⟨12, _⟩ => ⟨S1x19712, .f32⟩
  | .hbm, ⟨13, _⟩ => ⟨S1x19712, .f32⟩
  | .hbm, ⟨14, _⟩ => ⟨S1x19712, .f32⟩
  | .hbm, ⟨15, _⟩ => ⟨S1x19712, .f32⟩
  | .hbm, ⟨16, _⟩ => ⟨S1x19712, .f32⟩
  | .hbm, ⟨17, _⟩ => ⟨S1x19712, .f32⟩
  | .hbm, ⟨18, _⟩ => ⟨S1x19712, .f32⟩
  | .hbm, ⟨19, _⟩ => ⟨S1x19712, .f32⟩
  | .hbm, ⟨20, _⟩ => ⟨S1x19712, .f32⟩
  | .hbm, ⟨21, _⟩ => ⟨S_, .f32⟩
  | .hbm, ⟨22, _⟩ => ⟨S1x19712, .f32⟩
  | .hbm, ⟨23, _⟩ => ⟨S1x19712, .f32⟩
  | .hbm, ⟨24, _⟩ => ⟨S_, .f32⟩
  | .hbm, ⟨25, _⟩ => ⟨S1x19712, .f32⟩
  | .hbm, ⟨26, _⟩ => ⟨S1x19712, .f32⟩
  | .hbm, ⟨27, _⟩ => ⟨S1x19712, .f32⟩
  | .hbm, ⟨28, _⟩ => ⟨S_, .f32⟩
  | .hbm, ⟨29, _⟩ => ⟨S1x19712, .f32⟩
  | .hbm, ⟨30, _⟩ => ⟨S1x19712, .f32⟩
  | .hbm, ⟨31, _⟩ => ⟨S1x19712, .f32⟩
  | .hbm, ⟨32, _⟩ => ⟨S_, .f32⟩
  | .hbm, ⟨33, _⟩ => ⟨S1x19712, .f32⟩
  | .hbm, ⟨34, _⟩ => ⟨S1x19712, .f32⟩
  | .hbm, ⟨35, _⟩ => ⟨S1x19712, .f32⟩
  | .hbm, ⟨36, _⟩ => ⟨S_, .f32⟩
  | .hbm, ⟨37, _⟩ => ⟨S1x19712, .f32⟩
  | .hbm, ⟨38, _⟩ => ⟨S1x19712, .f32⟩
  | .hbm, ⟨39, _⟩ => ⟨S_, .f32⟩
  | .hbm, ⟨40, _⟩ => ⟨S1x19712, .f32⟩
  | .hbm, ⟨41, _⟩ => ⟨S1x19712, .f32⟩
  | .hbm, ⟨42, _⟩ => ⟨S1x19712, .f32⟩
  | .hbm, ⟨43, _⟩ => ⟨S_, .f32⟩
  | .hbm, ⟨44, _⟩ => ⟨S1x19712, .f32⟩
  | .hbm, ⟨45, _⟩ => ⟨S1x19712, .f32⟩
  | .hbm, ⟨46, _⟩ => ⟨S1x19712, .f32⟩
  | .hbm, ⟨47, _⟩ => ⟨S_, .f32⟩
  | .hbm, ⟨48, _⟩ => ⟨S1x19712, .f32⟩
  | .hbm, ⟨49, _⟩ => ⟨S1x19712, .f32⟩
  | .hbm, ⟨50, _⟩ => ⟨S1x19712, .f32⟩
  | .hbm, ⟨51, _⟩ => ⟨S_, .f32⟩
  | .hbm, ⟨52, _⟩ => ⟨S1x19712, .f32⟩
  | .hbm, ⟨53, _⟩ => ⟨S1x19712, .f32⟩
  | _, _ => ⟨S1x19712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== AdamTiny.lean ====
abbrev S384x512 : Shape := ⟨2, ![384, 512]⟩
abbrev S192x512 : Shape := ⟨2, ![192, 512]⟩

abbrev nBuf : Space → Nat
  | .hbm => 12
  | .vmem => 24
  | .smem => 0
  | _ => 0

abbrev bufTy : (tb : Table) → Fin (tcTables nBuf tb) → BufTy
  | .hbm, ⟨0, _⟩ => ⟨S384x512, .bf16⟩
  | .hbm, ⟨1, _⟩ => ⟨S384x512, .bf16⟩
  | .hbm, ⟨2, _⟩ => ⟨S384x512, .bf16⟩
  | .hbm, ⟨3, _⟩ => ⟨S384x512, .bf16⟩
  | .hbm, ⟨4, _⟩ => ⟨S384x512, .bf16⟩
  | .hbm, ⟨5, _⟩ => ⟨S384x512, .f32⟩
  | .hbm, ⟨6, _⟩ => ⟨S384x512, .f32⟩
  | .hbm, ⟨7, _⟩ => ⟨S384x512, .f32⟩
  | .hbm, ⟨8, _⟩ => ⟨S384x512, .f32⟩
  | .hbm, ⟨9, _⟩ => ⟨S384x512, .f32⟩
  | .hbm, ⟨10, _⟩ => ⟨S384x512, .f32⟩
  | .hbm, ⟨11, _⟩ => ⟨S384x512, .f32⟩
  | .local _ .vmem, ⟨0, _⟩ => ⟨S192x512, .bf16⟩
  | .local _ .vmem, ⟨1, _⟩ => ⟨S192x512, .bf16⟩
  | .local _ .vmem, ⟨2, _⟩ => ⟨S192x512, .bf16⟩
  | .local _ .vmem, ⟨3, _⟩ => ⟨S192x512, .bf16⟩
  | .local _ .vmem, ⟨4, _⟩ => ⟨S192x512, .bf16⟩
  | .local _ .vmem, ⟨5, _⟩ => ⟨S192x512, .bf16⟩
  | .local _ .vmem, ⟨6, _⟩ => ⟨S192x512, .bf16⟩
  | .local _ .vmem, ⟨7, _⟩ => ⟨S192x512, .bf16⟩
  | .local _ .vmem, ⟨8, _⟩ => ⟨S192x512, .bf16⟩
  | .local _ .vmem, ⟨9, _⟩ => ⟨S192x512, .bf16⟩
  | .local _ .vmem, ⟨10, _⟩ => ⟨S192x512, .f32⟩
  | .local _ .vmem, ⟨11, _⟩ => ⟨S192x512, .f32⟩
  | .local _ .vmem, ⟨12, _⟩ => ⟨S192x512, .f32⟩
  | .local _ .vmem, ⟨13, _⟩ => ⟨S192x512, .f32⟩
  | .local _ .vmem, ⟨14, _⟩ => ⟨S192x512, .f32⟩
  | .local _ .vmem, ⟨15, _⟩ => ⟨S192x512, .f32⟩
  | .local _ .vmem, ⟨16, _⟩ => ⟨S192x512, .f32⟩
  | .local _ .vmem, ⟨17, _⟩ => ⟨S192x512, .f32⟩
  | .local _ .vmem, ⟨18, _⟩ => ⟨S192x512, .f32⟩
  | .local _ .vmem, ⟨19, _⟩ => ⟨S192x512, .f32⟩
  | .local _ .vmem, ⟨20, _⟩ => ⟨S192x512, .f32⟩
  | .local _ .vmem, ⟨21, _⟩ => ⟨S192x512, .f32⟩
  | .local _ .vmem, ⟨22, _⟩ => ⟨S192x512, .f32⟩
  | .local _ .vmem, ⟨23, _⟩ => ⟨S192x512, .f32⟩
  | _, _ => ⟨S384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S192x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S192x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdamTinyRefIdeal.lean ====
abbrev S384x512 : Shape := ⟨2, ![384, 512]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S384x512, .bf16⟩
  | .hbm, ⟨1, _⟩ => ⟨S384x512, .bf16⟩
  | .hbm, ⟨2, _⟩ => ⟨S384x512, .bf16⟩
  | .hbm, ⟨3, _⟩ => ⟨S384x512, .bf16⟩
  | .hbm, ⟨4, _⟩ => ⟨S384x512, .bf16⟩
  | .hbm, ⟨5, _⟩ => ⟨S384x512, .f32⟩
  | .hbm, ⟨6, _⟩ => ⟨S384x512, .f32⟩
  | .hbm, ⟨7, _⟩ => ⟨S384x512, .f32⟩
  | .hbm, ⟨8, _⟩ => ⟨S384x512, .f32⟩
  | .hbm, ⟨9, _⟩ => ⟨S_, .f32⟩
  | .hbm, ⟨10, _⟩ => ⟨S384x512, .f32⟩
  | .hbm, ⟨11, _⟩ => ⟨S384x512, .f32⟩
  | .hbm, ⟨12, _⟩ => ⟨S384x512, .f32⟩
  | .hbm, ⟨13, _⟩ => ⟨S384x512, .f32⟩
  | .hbm, ⟨14, _⟩ => ⟨S384x512, .f32⟩
  | .hbm, ⟨15, _⟩ => ⟨S384x512, .f32⟩
  | .hbm, ⟨16, _⟩ => ⟨S384x512, .f32⟩
  | .hbm, ⟨17, _⟩ => ⟨S384x512, .f32⟩
  | .hbm, ⟨18, _⟩ => ⟨S384x512, .f32⟩
  | .hbm, ⟨19, _⟩ => ⟨S384x512, .f32⟩
  | .hbm, ⟨20, _⟩ => ⟨S_, .f32⟩
  | .hbm, ⟨21, _⟩ => ⟨S384x512, .f32⟩
  | .hbm, ⟨22, _⟩ => ⟨S384x512, .f32⟩
  | .hbm, ⟨23, _⟩ => ⟨S_, .f32⟩
  | .hbm, ⟨24, _⟩ => ⟨S384x512, .f32⟩
  | .hbm, ⟨25, _⟩ => ⟨S384x512, .f32⟩
  | .hbm, ⟨26, _⟩ => ⟨S384x512, .f32⟩
  | .hbm, ⟨27, _⟩ => ⟨S_, .f32⟩
  | .hbm, ⟨28, _⟩ => ⟨S384x512, .f32⟩
  | .hbm, ⟨29, _⟩ => ⟨S384x512, .f32⟩
  | .hbm, ⟨30, _⟩ => ⟨S384x512, .f32⟩
  | .hbm, ⟨31, _⟩ => ⟨S_, .f32⟩
  | .hbm, ⟨32, _⟩ => ⟨S384x512, .f32⟩
  | .hbm, ⟨33, _⟩ => ⟨S384x512, .f32⟩
  | .hbm, ⟨34, _⟩ => ⟨S384x512, .f32⟩
  | .hbm, ⟨35, _⟩ => ⟨S_, .f32⟩
  | .hbm, ⟨36, _⟩ => ⟨S384x512, .f32⟩
  | .hbm, ⟨37, _⟩ => ⟨S384x512, .f32⟩
  | .hbm, ⟨38, _⟩ => ⟨S_, .f32⟩
  | .hbm, ⟨39, _⟩ => ⟨S384x512, .f32⟩
  | .hbm, ⟨40, _⟩ => ⟨S384x512, .f32⟩
  | .hbm, ⟨41, _⟩ => ⟨S384x512, .f32⟩
  | .hbm, ⟨42, _⟩ => ⟨S_, .f32⟩
  | .hbm, ⟨43, _⟩ => ⟨S384x512, .f32⟩
  | .hbm, ⟨44, _⟩ => ⟨S384x512, .f32⟩
  | .hbm, ⟨45, _⟩ => ⟨S384x512, .f32⟩
  | .hbm, ⟨46, _⟩ => ⟨S_, .f32⟩
  | .hbm, ⟨47, _⟩ => ⟨S384x512, .f32⟩
  | .hbm, ⟨48, _⟩ => ⟨S384x512, .f32⟩
  | .hbm, ⟨49, _⟩ => ⟨S384x512, .f32⟩
  | .hbm, ⟨50, _⟩ => ⟨S_, .f32⟩
  | .hbm, ⟨51, _⟩ => ⟨S384x512, .f32⟩
  | .hbm, ⟨52, _⟩ => ⟨S384x512, .f32⟩
  | _, _ => ⟨S384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x1, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x1, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S2048 : Shape := ⟨1, ![2048]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S1x1, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== MlstmPost.lean ====
abbrev S2x8192x1024 : Shape := ⟨3, ![2, 8192, 1024]⟩
abbrev S8192x5120 : Shape := ⟨2, ![8192, 5120]⟩
abbrev S1x1024 : Shape := ⟨2, ![1, 1024]⟩
abbrev S8192x1024 : Shape := ⟨2, ![8192, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 4
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S8192x5120, .f32⟩
  | .hbm, ⟨2, _⟩ => ⟨S1x1024, .f32⟩
  | .hbm, ⟨3, _⟩ => ⟨S8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlstmPostRefIdeal.lean ====
abbrev S2x8192x1024 : Shape := ⟨3, ![2, 8192, 1024]⟩
abbrev S8192x5120 : Shape := ⟨2, ![8192, 5120]⟩
abbrev S1x1024 : Shape := ⟨2, ![1, 1024]⟩
abbrev S1x8192x1024 : Shape := ⟨3, ![1, 8192, 1024]⟩
abbrev S8192x1024 : Shape := ⟨2, ![8192, 1024]⟩
abbrev S8192x4x256 : Shape := ⟨3, ![8192, 4, 256]⟩
abbrev S4x256 : Shape := ⟨2, ![4, 256]⟩
abbrev S_ : Shape := ⟨0, ![]⟩
abbrev S8192x4 : Shape := ⟨2, ![8192, 4]⟩
abbrev S8192x4x1 : Shape := ⟨3, ![8192, 4, 1]⟩
abbrev S1x4x256 : Shape := ⟨3, ![1, 4, 256]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x5120, .f32⟩
  | .hbm, ⟨2, _⟩ => ⟨S1x1024, .f32⟩
  | .hbm, ⟨3, _⟩ => ⟨S1x8192x1024, .f32⟩
  | .hbm, ⟨4, _⟩ => ⟨S8192x1024, .f32⟩
  | .hbm, ⟨5, _⟩ => ⟨S1x8192x1024, .f32⟩
  | .hbm, ⟨6, _⟩ => ⟨S8192x1024, .f32⟩
  | .hbm, ⟨7, _⟩ => ⟨S8192x1024, .f32⟩
  | .hbm, ⟨8, _⟩ => ⟨S8192x4x256, .f32⟩
  | .hbm, ⟨9, _⟩ => ⟨S4x256, .f32⟩
  | .hbm, ⟨10, _⟩ => ⟨S8192x4x256, .f32⟩
  | .hbm, ⟨11, _⟩ => ⟨S_, .f32⟩
  | .hbm, ⟨12, _⟩ => ⟨S8192x4, .f32⟩
  | .hbm, ⟨13, _⟩ => ⟨S8192x4x1, .f32⟩
  | .hbm, ⟨14, _⟩ => ⟨S_, .f32⟩
  | .hbm, ⟨15, _⟩ => ⟨S8192x4x1, .f32⟩
  | .hbm, ⟨16, _⟩ => ⟨S8192x4x1, .f32⟩
  | .hbm, ⟨17, _⟩ => ⟨S_, .f32⟩
  | .hbm, ⟨18, _⟩ => ⟨S8192x4x1, .f32⟩
  | .hbm, ⟨19, _⟩ => ⟨S8192x4x1, .f32⟩
  | .hbm, ⟨20, _⟩ => ⟨S8192x4x1, .f32⟩
  | .hbm, ⟨21, _⟩ => ⟨S8192x4x256, .f32⟩
  | .hbm, ⟨22, _⟩ => ⟨S8192x4x256, .f32⟩
  | .hbm, ⟨23, _⟩ => ⟨S1x4x256, .f32⟩
  | .hbm, ⟨24, _⟩ => ⟨S8192x4x256, .f32⟩
  | .hbm, ⟨25, _⟩ => ⟨S8192x4x256, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x4x256, .f32⟩
  | .hbm, ⟨36, _⟩ => ⟨S8192x4x256, .f32⟩
  | .hbm, ⟨37, _⟩ => ⟨S8192x1024, .f32⟩
  | .hbm, ⟨38, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== MlstmPostBwd.lean ====
abbrev S2x8192x1024 : Shape := ⟨3, ![2, 8192, 1024]⟩
abbrev S8192x5120 : Shape := ⟨2, ![8192, 5120]⟩
abbrev S1x1024 : Shape := ⟨2, ![1, 1024]⟩
abbrev S8192x2048 : Shape := ⟨2, ![8192, 2048]⟩
abbrev S8192x1024 : Shape := ⟨2, ![8192, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1x768 : Shape := ⟨2, ![1, 768]⟩
abbrev S256x768 : Shape := ⟨2, ![256, 768]⟩
abbrev S1x512 : Shape := ⟨2, ![1, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S8192x5120, .f32⟩
  | .hbm, ⟨2, _⟩ => ⟨S1x1024, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlstmPostBwdRefIdeal.lean ====
abbrev S2x8192x1024 : Shape := ⟨3, ![2, 8192, 1024]⟩
abbrev S8192x5120 : Shape := ⟨2, ![8192, 5120]⟩
abbrev S1x1024 : Shape := ⟨2, ![1, 1024]⟩
abbrev S8192x2048 : Shape := ⟨2, ![8192, 2048]⟩
abbrev S1x8192x1024 : Shape := ⟨3, ![1, 8192, 1024]⟩
abbrev S8192x1024 : Shape := ⟨2, ![8192, 1024]⟩
abbrev S8192x4x256 : Shape := ⟨3, ![8192, 4, 256]⟩
abbrev S4x256 : Shape := ⟨2, ![4, 256]⟩
abbrev S_ : Shape := ⟨0, ![]⟩
abbrev S8192x4 : Shape := ⟨2, ![8192, 4]⟩
abbrev S8192x4x1 : Shape := ⟨3, ![8192, 4, 1]⟩
abbrev S1x4x256 : Shape := ⟨3, ![1, 4, 256]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x5120, .f32⟩
  | .hbm, ⟨2, _⟩ => ⟨S1x1024, .f32⟩
  | .hbm, ⟨3, _⟩ => ⟨S8192x2048, .f32⟩
  | .hbm, ⟨4, _⟩ => ⟨S1x8192x1024, .f32⟩
  | .hbm, ⟨5, _⟩ => ⟨S8192x1024, .f32⟩
  | .hbm, ⟨6, _⟩ => ⟨S1x8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x4x256, .f32⟩
  | .hbm, ⟨11, _⟩ => ⟨S4x256, .f32⟩
  | .hbm, ⟨12, _⟩ => ⟨S8192x4x256, .f32⟩
  | .hbm, ⟨13, _⟩ => ⟨S_, .f32⟩
  | .hbm, ⟨14, _⟩ => ⟨S8192x4, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S_, .f32⟩
  | .hbm, ⟨20, _⟩ => ⟨S8192x4x1, .f32⟩
  | .hbm, ⟨21, _⟩ => ⟨S8192x4x1, .f32⟩
  | .hbm, ⟨22, _⟩ => ⟨S8192x4x1, .f32⟩
  | .hbm, ⟨23, _⟩ => ⟨S8192x4x1, .f32⟩
  | .hbm, ⟨24, _⟩ => ⟨S_, .f32⟩
  | .hbm, ⟨25, _⟩ => ⟨S8192x4x1, .f32⟩
  | .hbm, ⟨26, _⟩ => ⟨S8192x4x1, .f32⟩
  | .hbm, ⟨27, _⟩ => ⟨S8192x4x256, .f32⟩
  | .hbm, ⟨28, _⟩ => ⟨S8192x4x256, .f32⟩
  | .hbm, ⟨29, _⟩ => ⟨S1x4x256, .f32⟩
  | .hbm, ⟨30, _⟩ => ⟨S8192x4x256, .f32⟩
  | .hbm, ⟨31, _⟩ => ⟨S8192x4x256, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x4x256, .f32⟩
  | .hbm, ⟨45, _⟩ => ⟨S8192x4x256, .f32⟩
  | .hbm, ⟨46, _⟩ => ⟨S8192x1024, .f32⟩
  | .hbm, ⟨47, _⟩ => ⟨S8192x1024, .f32⟩
  | .hbm, ⟨48, _⟩ => ⟨S8192x4x256, .f32⟩
  | .hbm, ⟨49, _⟩ => ⟨S8192x4x256, .f32⟩
  | .hbm, ⟨50, _⟩ => ⟨S8192x4x256, .f32⟩
  | .hbm, ⟨51, _⟩ => ⟨S8192x1024, .f32⟩
  | .hbm, ⟨52, _⟩ => ⟨S8192x1024, .f32⟩
  | .hbm, ⟨53, _⟩ => ⟨S8192x4x256, .f32⟩
  | .hbm, ⟨54, _⟩ => ⟨S_, .f32⟩
  | .hbm, ⟨55, _⟩ => ⟨S4x256, .f32⟩
  | .hbm, ⟨56, _⟩ => ⟨S1x4x256, .f32⟩
  | .hbm, ⟨57, _⟩ => ⟨S8192x4x256, .f32⟩
  | .hbm, ⟨58, _⟩ => ⟨S8192x4x256, .f32⟩
  | .hbm, ⟨59, _⟩ => ⟨S_, .f32⟩
  | .hbm, ⟨60, _⟩ => ⟨S4x256, .f32⟩
  | .hbm, ⟨61, _⟩ => ⟨S8192x4x256, .f32⟩
  | .hbm, ⟨62, _⟩ => ⟨S_, .f32⟩
  | .hbm, ⟨63, _⟩ => ⟨S8192x4, .f32⟩
  | .hbm, ⟨64, _⟩ => ⟨S8192x4x1, .f32⟩
  | .hbm, ⟨65, _⟩ => ⟨S8192x4x256, .f32⟩
  | .hbm, ⟨66, _⟩ => ⟨S8192x4x256, .f32⟩
  | .hbm, ⟨67, _⟩ => ⟨S8192x4x1, .f32⟩
  | .hbm, ⟨68, _⟩ => ⟨S_, .f32⟩
  | .hbm, ⟨69, _⟩ => ⟨S8192x4x1, .f32⟩
  | .hbm, ⟨70, _⟩ => ⟨S8192x4x1, .f32⟩
  | .hbm, ⟨71, _⟩ => ⟨S_, .f32⟩
  | .hbm, ⟨72, _⟩ => ⟨S8192x4, .f32⟩
  | .hbm, ⟨73, _⟩ => ⟨S8192x4x256, .f32⟩
  | .hbm, ⟨74, _⟩ => ⟨S8192x4x256, .f32⟩
  | .hbm, ⟨75, _⟩ => ⟨S8192x4x256, .f32⟩
  | .hbm, ⟨76, _⟩ => ⟨S8192x4x256, .f32⟩
  | .hbm, ⟨77, _⟩ => ⟨S8192x4x256, .f32⟩
  | .hbm, ⟨78, _⟩ => ⟨S1x1024, .f32⟩
  | .hbm, ⟨79, _⟩ => ⟨S8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Proof.Math.lean ====
/- Attention's gradient over the reals: the softmax, its value through the saved log-sum-exp, the two forms of the
   score gradient, and sums of extended reals that are real. -/
module

public import Idealize.ShloMosaic.Lib.Pointwise
public import Idealize.ShloMosaic.Lib.IdealHost

@[expose] public section

noncomputable section

namespace Cert.Attn

open Idealize.ShloMosaic

/-! ## Extended reals that are real -/

/-- The f32 pattern of two. -/
theorem two_f32 : Ideal.ofBits .f32 0x40000000#32 = ((2 : ℝ) : EReal) := by
  simp [Ideal.ofBits, Ideal.ieee, -EReal.coe_mul]; norm_num

/-- The f32 pattern of minus infinity. -/
theorem bot_f32 : Ideal.ofBits .f32 0xFF800000#32 = ⊥ := by simp [Ideal.ofBits, Ideal.ieee]

/-- The logarithm of the pattern of two is the real `log 2`. -/
theorem log_two : Ideal.log (Ideal.ofBits .f32 0x40000000#32) = ((Real.log 2 : ℝ) : EReal) := by
  rw [two_f32, Ideal.log_coe, if_neg (by norm_num)]

/-- A sum of reals is real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of reals is real. -/
theorem coe_sum_mul {ι : Type} [Fintype ι] (f g : ι → ℝ) : ∑ i, (f i : EReal) * (g i : EReal) = ((∑ i, f i * g i : ℝ) : EReal) := by
  rw [← coe_sum]; simp only [EReal.coe_mul]

/-- A quotient of reals by a positive one is real. -/
theorem coe_div (x y : ℝ) (h : 0 < y) : Ideal.div (x : EReal) (y : EReal) = ((x / y : ℝ) : EReal) := by
  rw [Ideal.div_coe h.ne', ← EReal.coe_mul, one_div, div_eq_mul_inv]

/-- The maximum of finitely many reals, from minus infinity, is real. -/
theorem fold_max {ι : Type} [Fintype ι] [Nonempty ι] (f : ι → ℝ) : Finset.fold max (⊥ : EReal) (fun k => (f k : EReal)) Finset.univ
    = ((Finset.univ.sup' Finset.univ_nonempty f : ℝ) : EReal) := by
  have h : Finset.fold max (⊥ : EReal) (fun k => (f k : EReal)) Finset.univ = Finset.univ.sup fun k => (f k : EReal) := rfl
  rw [h]
  apply le_antisymm
  · exact Finset.sup_le fun k _ => EReal.coe_le_coe_iff.mpr (Finset.le_sup' f (Finset.mem_univ k))
  · obtain ⟨k, _, hk⟩ := Finset.exists_mem_eq_sup' Finset.univ_nonempty f
    rw [hk]
    exact Finset.le_sup (f := fun k => (f k : EReal)) (Finset.mem_univ k)

/-- A host maximum over the last of three axes, read at an index. -/
theorem rowMax {n0 n1 n2 : ℕ} {u : Shape} (x : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf x init h hu (ix2 a b) = Finset.fold max (init (Shape.Idx.first hu)) (fun c => x (ix3 a b c)) Finset.univ := by
  simp only [pointwise]

/-- An elementwise maximum, read at an index. -/
theorem max_at {s : Shape} (a b : FVec Ideal s .f32) (j : s.Idx) : maximumf a b j = max (a j) (b j) := rfl

/-- An elementwise host logarithm, read at an index. -/
theorem log_at {s : Shape} (a : FVec Ideal s .f32) (j : s.Idx) : Host.log a j = Ideal.log (a j) := rfl

/-- An elementwise sum, read at an index. -/
theorem add_at {s : Shape} (a b : FVec Ideal s .f32) (j : s.Idx) : addf a b j = a j + b j := rfl

/-- An elementwise host quotient, read at an index. -/
theorem div_at {s : Shape} (a b : FVec Ideal s .f32) (j : s.Idx) : Host.divf a b j = Ideal.div (a j) (b j) := rfl

/-- The logarithm of a positive real. -/
theorem log_pos (r : ℝ) (h : 0 < r) : Ideal.log (r : EReal) = ((Real.log r : ℝ) : EReal) := by
  rw [Ideal.log_coe, if_neg (not_le.mpr h)]

/-! ## The columns of a head -/

/-- Column `e` of head `h` in the query and key arrays. -/
def colQ (h : Fin 8) (e : Fin 256) : Fin 2048 := ⟨h.val * 256 + e.val, by have := h.isLt; have := e.isLt; omega⟩

/-- Column `e` of head `h` in the value array. -/
def colV (h : Fin 8) (e : Fin 128) : Fin 1024 := ⟨h.val * 128 + e.val, by have := h.isLt; have := e.isLt; omega⟩

/-! ## The quantities of one step, over the reals -/

section Real

variable (q k : Fin 8192 → Fin 2048 → ℝ) (v d : Fin 8192 → Fin 1024 → ℝ) (h : Fin 8) (i : Fin 8192)

/-- The product of a query and a key. -/
def dotQK (j : Fin 8192) : ℝ := ∑ e, q i (colQ h e) * k j (colQ h e)

/-- The score. -/
def score (j : Fin 8192) : ℝ := dotQK q k h i j * Real.log 2

/-- The largest score of a query. -/
def top : ℝ := Finset.univ.sup' (Finset.univ_nonempty (α := Fin 8192)) (score q k h i)

/-- The exponential of a shifted score. -/
def expo (j : Fin 8192) : ℝ := Real.exp (score q k h i j - top q k h i)

/-- The softmax's denominator. -/
def mass : ℝ := ∑ j, expo q k h i j

/-- The softmax. -/
def prob (j : Fin 8192) : ℝ := expo q k h i j / mass q k h i

/-- The attention output. -/
def outp (e : Fin 128) : ℝ := ∑ j, v j (colV h e) * prob q k h i j

/-- The base-two log-sum-exp that the forward pass saves. -/
def lse2 : ℝ := (top q k h i + Real.log (mass q k h i)) / Real.log 2

/-- The gradient of the loss in a probability. -/
def gradP (j : Fin 8192) : ℝ := ∑ e, d i (colV h e) * v j (colV h e)

/-- The gradient in a score, times `log 2`, as differentiating the softmax gives it. -/
def gradS (j : Fin 8192) : ℝ :=
  (gradP v d h i j / mass q k h i + -(∑ j', gradP v d h i j' * (1 / (mass q k h i * mass q k h i)) * expo q k h i j'))
    * expo q k h i j * Real.log 2

theorem mass_pos : 0 < mass q k h i := Finset.sum_pos (fun _ _ => Real.exp_pos _) Finset.univ_nonempty

/-- The probability recovered from the saved log-sum-exp. -/
theorem prob_eq (j : Fin 8192) : Real.rpow 2 (dotQK q k h i j - lse2 q k h i) = prob q k h i j := by
  have hl : (0 : ℝ) < Real.log 2 := Real.log_pos (by norm_num)
  have hm := mass_pos q k h i
  change (2 : ℝ) ^ (dotQK q k h i j - lse2 q k h i) = _
  rw [Real.rpow_def_of_pos (by norm_num)]
  have : Real.log 2 * (dotQK q k h i j - lse2 q k h i) = score q k h i j - top q k h i - Real.log (mass q k h i) := by
    unfold score lse2; field_simp; ring
  rw [this, Real.exp_sub, Real.exp_log hm]
  rfl

/-- The score gradient as the kernel computes it, from the row sum of `d · o`. -/
theorem gradS_eq (j : Fin 8192) :
    prob q k h i j * ((∑ e, v j (colV h e) * (d i (colV h e) * Real.log 2))
      - ∑ e, d i (colV h e) * Real.log 2 * outp q k v h i e) = gradS q k v d h i j := by
  have hm := (mass_pos q k h i).ne'
  have e1 : ∑ e, v j (colV h e) * (d i (colV h e) * Real.log 2) = gradP v d h i j * Real.log 2 := by
    unfold gradP; rw [Finset.sum_mul]; exact Finset.sum_congr rfl fun _ _ => by ring
  have e2 : ∑ e, d i (colV h e) * Real.log 2 * outp q k v h i e
      = (∑ j', gradP v d h i j' * expo q k h i j') / mass q k h i * Real.log 2 := by
    unfold outp gradP prob
    simp only [Finset.mul_sum, Finset.sum_mul, Finset.sum_div]
    rw [Finset.sum_comm]
    exact Finset.sum_congr rfl fun _ _ => Finset.sum_congr rfl fun _ _ => by ring
  have e3 : ∑ j', gradP v d h i j' * (1 / (mass q k h i * mass q k h i)) * expo q k h i j'
      = (∑ j', gradP v d h i j' * expo q k h i j') / (mass q k h i * mass q k h i) := by
    rw [Finset.sum_div]; exact Finset.sum_congr rfl fun _ _ => by ring
  unfold gradS
  rw [e1, e2, e3]
  unfold prob
  field_simp
  ring

end Real

/-! ## Sums over row blocks -/

/-- Row `r` of block `b`. -/
def rowOf (b : Fin 16) (r : Fin 512) : Fin 8192 := ⟨512 * b.val + r.val, by have := b.isLt; have := r.isLt; omega⟩

/-- A sum over all rows is the sum over the blocks of the sums over a block's rows. -/
theorem sum_rows (f : Fin 8192 → ℝ) : ∑ b : Fin 16, ∑ r : Fin 512, f (rowOf b r) = ∑ i, f i := by
  rw [← Fintype.sum_prod_type']
  refine Fintype.sum_equiv (finProdFinEquiv (m := 16) (n := 512)) _ _ fun x => ?_
  congr 1
  apply Fin.ext
  simp only [rowOf, finProdFinEquiv, Equiv.coe_fn_mk]
  omega

end Cert.Attn

end
-- ==== Proof.RefVals.lean ====
/- The reference's results over the reals, array by array. -/
module

public import proofs.«01_k».proof.Proof.Gen.ReferenceIdeal.Run
public import proofs.«01_k».proof.Proof.Math

@[expose] public section

set_option maxRecDepth 16384

noncomputable section

namespace Cert.ReferenceIdeal.Value

open Cert.ReferenceIdeal Cert.ReferenceIdeal.Gen Cert.Attn
open Idealize.ShloMosaic Idealize.ShloMosaic.TcCoe Idealize.ShloMosaic.Tactic

/-! ## The arrays the reference builds -/

section Arrays

variable (x0 x1 : FVec Ideal S8192x2048 .bf16) (x2 : FVec Ideal S8192x1024 .bf16) (x3 : FVec Ideal S8192x2048 .f32)

/-- The scores. -/
def sArr : FVec Ideal S8x8192x8192 .f32 :=
  mulf (Host.dotGeneral dot_S8192x8x256_S8192x8x256_S8x8192x8192_2_2_0_0_1_1 none (shapeCast _ (extf .f32 x0 bitsLt_bf16_f32) shapeCasts_S8192x2048_S8192x8x256) (shapeCast _ (extf .f32 x1 bitsLt_bf16_f32) shapeCasts_S8192x2048_S8192x8x256)) (broadcastInDim S8x8192x8192 ![] bcast_S_S8x8192x8192 (Host.log (constant S_ .f32 0x40000000#32)))

/-- A column, spread along every row. -/
def bArr (l : FVec Ideal S8x8192x1 .f32) : FVec Ideal S8x8192x8192 .f32 :=
  broadcastInDim S8x8192x8192 ![0, 1, 2] bcast_S8x8192x1_S8x8192x8192_0_1_2 l

/-- One number for each row, spread along it. -/
def cArr (l : FVec Ideal S8x8192 .f32) : FVec Ideal S8x8192x8192 .f32 :=
  broadcastInDim S8x8192x8192 ![0, 1] bcast_S8x8192_S8x8192x8192_0_1 l

/-- One number for each row, as a column. -/
def uArr (l : FVec Ideal S8x8192 .f32) : FVec Ideal S8x8192x1 .f32 :=
  broadcastInDim S8x8192x1 ![0, 1] bcast_S8x8192_S8x8192x1_0_1 l

/-- The columns of the concatenation's gradient that belong to the attention. -/
def oArr (x3 : FVec Ideal S8192x2048 .f32) : FVec Ideal S8192x1024 .f32 :=
  extractStridedSlice S8192x1024 ![0, 0] x3 slices_S8192x2048_S8192x1024_0_0

/-- The row maxima. -/
def mArr (s : FVec Ideal S8x8192x8192 .f32) : FVec Ideal S8x8192 .f32 :=
  maximumf (broadcastInDim S8x8192 ![] bcast_S_S8x8192 (constant S_ .f32 0xFF800000#32)) (Host.reduce FloatOps.maximumf s (constant S_ .f32 0xFF800000#32) reducesTo_S8x8192x8192_S8x8192_d2 h_S_)

/-- The exponentials of the shifted scores. -/
def eArr (s : FVec Ideal S8x8192x8192 .f32) : FVec Ideal S8x8192x8192 .f32 :=
  Host.exp (subf s (bArr (uArr (mArr s))))

/-- The row sums of an array, as a column. -/
def lArr (e : FVec Ideal S8x8192x8192 .f32) : FVec Ideal S8x8192x1 .f32 :=
  uArr (Host.reduceAdd e (constant S_ .f32 0x00000000#32) reducesTo_S8x8192x8192_S8x8192_d2 h_S_)

/-- The softmax. -/
def pArr (e : FVec Ideal S8x8192x8192 .f32) : FVec Ideal S8x8192x8192 .f32 :=
  Host.divf e (bArr (lArr e))

/-- The output's gradient, transposed head by head. -/
def dArr : FVec Ideal S8x128x8192 .f32 :=
  transpose S8x128x8192 [1, 2, 0] (shapeCast _ (oArr x3) shapeCasts_S8192x1024_S8192x8x128) transposes_S8192x8x128_S8x128x8192_1_2_0

/-- The gradients of the probabilities. -/
def gArr : FVec Ideal S8x8192x8192 .f32 :=
  Host.dotGeneral dot_S8x128x8192_S8192x8x128_S8x8192x8192_1_2_2_0_0_1 none (dArr x3) (shapeCast _ (extf .f32 x2 bitsLt_bf16_f32) shapeCasts_S8192x1024_S8192x8x128)

/-- The gradient that reaches the softmax's denominator. -/
def nArr (g e : FVec Ideal S8x8192x8192 .f32) : FVec Ideal S8x8192 .f32 :=
  Host.reduceAdd (Host.negf (shapeCast _ (Host.reduceAdd (mulf (mulf g (bArr (Host.divf (broadcastInDim S8x8192x1 ![] bcast_S_S8x8192x1 (constant S_ .f32 0x3F800000#32)) (mulf (lArr e) (lArr e))))) e) (constant S_ .f32 0x00000000#32) reducesTo_S8x8192x8192_S8x8192_d2 h_S_) shapeCasts_S8x8192_S8x8192x1)) (constant S_ .f32 0x00000000#32) reducesTo_S8x8192x1_S8x8192_d2 h_S_

/-- The gradients of the products of queries and keys. -/
def dsArr (g e : FVec Ideal S8x8192x8192 .f32) : FVec Ideal S8x8192x8192 .f32 :=
  mulf (mulf (addf (Host.divf g (bArr (lArr e))) (cArr (nArr g e))) e) (broadcastInDim S8x8192x8192 ![] bcast_S_S8x8192x8192 (Host.log (constant S_ .f32 0x40000000#32)))

/-- The values' gradient. -/
def dvArr (p : FVec Ideal S8x8192x8192 .f32) : FVec Ideal S8192x1024 .f32 :=
  shapeCast _ (transpose S8192x8x128 [2, 0, 1] (Host.dotGeneral dot_S8x128x8192_S8x8192x8192_S8x128x8192_2_1_1_2_0_0 none (dArr x3) p) transposes_S8x128x8192_S8192x8x128_2_0_1) shapeCasts_S8192x8x128_S8192x1024

/-- The keys' gradient. -/
def dkArr (s : FVec Ideal S8x8192x8192 .f32) : FVec Ideal S8192x2048 .f32 :=
  shapeCast _ (transpose S8192x8x256 [1, 0, 2] (Host.dotGeneral dot_S8x8192x8192_S8192x8x256_S8x8192x256_1_0_2_2_0_1 none s (shapeCast _ (extf .f32 x0 bitsLt_bf16_f32) shapeCasts_S8192x2048_S8192x8x256)) transposes_S8x8192x256_S8192x8x256_1_0_2) shapeCasts_S8192x8x256_S8192x2048

/-- The queries' gradient. -/
def dqArr (s : FVec Ideal S8x8192x8192 .f32) : FVec Ideal S8192x2048 .f32 :=
  shapeCast _ (transpose S8192x8x256 [1, 0, 2] (Host.dotGeneral dot_S8x8192x8192_S8192x8x256_S8x8192x256_2_0_1_2_0_1 none s (shapeCast _ (extf .f32 x1 bitsLt_bf16_f32) shapeCasts_S8192x2048_S8192x8x256)) transposes_S8x8192x256_S8192x8x256_1_0_2) shapeCasts_S8192x8x256_S8192x2048

end Arrays

/-! ## Their entries -/

section Entries

variable {x0 x1 : FVec Ideal S8192x2048 .bf16} {x2 : FVec Ideal S8192x1024 .bf16} {x3 : FVec Ideal S8192x2048 .f32}
variable {q k : Fin 8192 → Fin 2048 → ℝ} {v d : Fin 8192 → Fin 1024 → ℝ}

/-- A column of the output's gradient among the concatenation's columns. -/
def catCol (l : Fin 1024) : Fin 2048 := ⟨l.val, by have := l.isLt; omega⟩

theorem bArr_at (l : FVec Ideal S8x8192x1 .f32) (h : Fin 8) (i j : Fin 8192) : bArr l (ix3 h i j) = l (ix3 h i (0 : Fin 1)) := by
  unfold bArr
  simp only [pointwise]
  rfl

theorem cArr_at (l : FVec Ideal S8x8192 .f32) (h : Fin 8) (i j : Fin 8192) : cArr l (ix3 h i j) = l (ix2 h i) := by
  unfold cArr
  simp only [pointwise]
  rfl

theorem uArr_at (l : FVec Ideal S8x8192 .f32) (h : Fin 8) (i : Fin 8192) (u : Fin 1) : uArr l (ix3 h i u) = l (ix2 h i) := by
  unfold uArr
  simp only [pointwise]
  rfl

theorem oArr_at (h3 : ∀ i l, x3 (ix2 i (catCol l)) = (d i l : EReal)) (i : Fin 8192) (l : Fin 1024) : oArr x3 (ix2 i l) = (d i l : EReal) := by
  rw [← h3 i l]
  unfold oArr
  simp only [pointwise]
  congr 1
  funext a
  apply Fin.ext
  match a with
  | 0 => exact Nat.zero_add _
  | 1 => exact Nat.zero_add _

theorem sArr_at (h0 : ∀ i l, x0 (ix2 i l) = (q i l : EReal)) (h1 : ∀ i l, x1 (ix2 i l) = (k i l : EReal)) (h : Fin 8) (i j : Fin 8192) :
    sArr x0 x1 (ix3 h i j) = (score q k h i j : EReal) := by
  unfold sArr
  simp only [pointwise, h0, h1]
  rw [log_two, coe_sum_mul, zero_add, ← EReal.coe_mul]
  rfl

theorem mArr_at {s : FVec Ideal S8x8192x8192 .f32} (hs : ∀ h i j, s (ix3 h i j) = (score q k h i j : EReal)) (h : Fin 8) (i : Fin 8192) :
    mArr s (ix2 h i) = (top q k h i : EReal) := by
  unfold mArr
  have e : ∀ b : FVec Ideal S_ .f32, b (Shape.Idx.first h_S_) = ⊥ →
      Host.reduce FloatOps.maximumf s b reducesTo_S8x8192x8192_S8x8192_d2 h_S_ (ix2 h i) = (top q k h i : EReal) := by
    intro b hb
    rw [rowMax, hb]
    simp only [hs]
    exact fold_max _
  rw [max_at, e _ bot_f32]
  have e2 : (broadcastInDim S8x8192 ![] bcast_S_S8x8192 (constant S_ .f32 0xFF800000#32) : FVec Ideal S8x8192 .f32) (ix2 h i) = ⊥ := bot_f32
  rw [e2]
  exact max_eq_right bot_le

theorem eArr_at {s : FVec Ideal S8x8192x8192 .f32} (hs : ∀ h i j, s (ix3 h i j) = (score q k h i j : EReal)) (h : Fin 8) (i j : Fin 8192) :
    eArr s (ix3 h i j) = (expo q k h i j : EReal) := by
  unfold eArr
  simp only [pointwise, hs, bArr_at, uArr_at, mArr_at hs]
  rw [← EReal.coe_sub, Ideal.exp_coe]
  rfl

theorem lArr_at {e : FVec Ideal S8x8192x8192 .f32} (he : ∀ h i j, e (ix3 h i j) = (expo q k h i j : EReal)) (h : Fin 8) (i : Fin 8192) (u : Fin 1) :
    lArr e (ix3 h i u) = (mass q k h i : EReal) := by
  unfold lArr
  simp only [uArr_at]
  simp only [pointwise, he]
  rw [coe_sum, zero_add]
  rfl

theorem pArr_at {e : FVec Ideal S8x8192x8192 .f32} (he : ∀ h i j, e (ix3 h i j) = (expo q k h i j : EReal)) (h : Fin 8) (i j : Fin 8192) :
    pArr e (ix3 h i j) = (prob q k h i j : EReal) := by
  unfold pArr
  simp only [pointwise, he, bArr_at, lArr_at he]
  exact coe_div _ _ (mass_pos q k h i)

theorem gArr_at (h2 : ∀ i l, x2 (ix2 i l) = (v i l : EReal)) (h3 : ∀ i l, x3 (ix2 i (catCol l)) = (d i l : EReal)) (h : Fin 8) (i j : Fin 8192) :
    gArr x2 x3 (ix3 h i j) = (gradP v d h i j : EReal) := by
  unfold gArr dArr
  simp only [pointwise, h2, oArr_at h3]
  rw [coe_sum_mul, zero_add]
  rfl

theorem nArr_at {g e : FVec Ideal S8x8192x8192 .f32} (hg : ∀ h i j, g (ix3 h i j) = (gradP v d h i j : EReal))
    (he : ∀ h i j, e (ix3 h i j) = (expo q k h i j : EReal)) (h : Fin 8) (i : Fin 8192) :
    nArr g e (ix2 h i) = ((-∑ j', gradP v d h i j' * (1 / (mass q k h i * mass q k h i)) * expo q k h i j' : ℝ) : EReal) := by
  have hm := mass_pos q k h i
  unfold nArr
  simp only [pointwise, hg, he, bArr_at, lArr_at he]
  have hd : Ideal.div 1 ((mass q k h i * mass q k h i : ℝ) : EReal) = ((1 / (mass q k h i * mass q k h i) : ℝ) : EReal) := by
    rw [← EReal.coe_one, coe_div _ _ (mul_pos hm hm)]
  simp only [← EReal.coe_mul, hd, coe_sum, zero_add, ← EReal.coe_neg]
  rw [Fin.sum_univ_one]

theorem dsArr_at {g e : FVec Ideal S8x8192x8192 .f32} (hg : ∀ h i j, g (ix3 h i j) = (gradP v d h i j : EReal))
    (he : ∀ h i j, e (ix3 h i j) = (expo q k h i j : EReal)) (h : Fin 8) (i j : Fin 8192) :
    dsArr g e (ix3 h i j) = (gradS q k v d h i j : EReal) := by
  unfold dsArr
  simp only [pointwise, hg, he, bArr_at, cArr_at, lArr_at he, nArr_at hg he]
  rw [log_two, coe_div _ _ (mass_pos q k h i), ← EReal.coe_add, ← EReal.coe_mul, ← EReal.coe_mul]
  rfl

/-- The head of a column of 256-wide heads. -/
def headQ (l : Fin 2048) : Fin 8 := ⟨l.val / 256, by have := l.isLt; omega⟩

/-- The head of a column of 128-wide heads. -/
def headV (l : Fin 1024) : Fin 8 := ⟨l.val / 128, by have := l.isLt; omega⟩

theorem dvArr_at {p : FVec Ideal S8x8192x8192 .f32} (h3 : ∀ i l, x3 (ix2 i (catCol l)) = (d i l : EReal))
    (hp : ∀ h i j, p (ix3 h i j) = (prob q k h i j : EReal)) (j : Fin 8192) (l : Fin 1024) :
    dvArr x3 p (ix2 j l) = ((∑ i, d i l * prob q k (headV l) i j : ℝ) : EReal) := by
  unfold dvArr dArr
  simp only [pointwise, hp, oArr_at h3]
  rw [coe_sum_mul, zero_add]
  rfl

theorem dkArr_at {s : FVec Ideal S8x8192x8192 .f32} (h0 : ∀ i l, x0 (ix2 i l) = (q i l : EReal))
    (hs : ∀ h i j, s (ix3 h i j) = (gradS q k v d h i j : EReal)) (j : Fin 8192) (l : Fin 2048) :
    dkArr x0 s (ix2 j l) = ((∑ i, gradS q k v d (headQ l) i j * q i l : ℝ) : EReal) := by
  unfold dkArr
  simp only [pointwise, hs, h0]
  rw [coe_sum_mul, zero_add]
  rfl

theorem dqArr_at {s : FVec Ideal S8x8192x8192 .f32} (h1 : ∀ i l, x1 (ix2 i l) = (k i l : EReal))
    (hs : ∀ h i j, s (ix3 h i j) = (gradS q k v d h i j : EReal)) (i : Fin 8192) (l : Fin 2048) :
    dqArr x1 s (ix2 i l) = ((∑ j, gradS q k v d (headQ l) i j * k j l : ℝ) : EReal) := by
  unfold dqArr
  simp only [pointwise, hs, h1]
  rw [coe_sum_mul, zero_add]
  rfl

end Entries

/-! ## The results the run names are these arrays -/

theorem res_dq (m : (ℓ : Loc nD τ sig) → Buf (Elt Ideal) ℓ) (c : Dev nD) (x0 x1 x2 x3) (h0 : m ((c.tc : Thread nD τ).loc main_arg0) = x0)
    (h1 : m ((c.tc : Thread nD τ).loc main_arg1) = x1) (h2 : m ((c.tc : Thread nD τ).loc main_arg2) = x2) (h3 : m ((c.tc : Thread nD τ).loc main_arg3) = x3) :
    res_main_v67 m c = dqArr x1 (dsArr (gArr x2 x3) (eArr (sArr x0 x1))) := by
  subst h0 h1 h2 h3; rfl

theorem res_dk (m : (ℓ : Loc nD τ sig) → Buf (Elt Ideal) ℓ) (c : Dev nD) (x0 x1 x2 x3) (h0 : m ((c.tc : Thread nD τ).loc main_arg0) = x0)
    (h1 : m ((c.tc : Thread nD τ).loc main_arg1) = x1) (h2 : m ((c.tc : Thread nD τ).loc main_arg2) = x2) (h3 : m ((c.tc : Thread nD τ).loc main_arg3) = x3) :
    res_main_v66 m c = dkArr x0 (dsArr (gArr x2 x3) (eArr (sArr x0 x1))) := by
  subst h0 h1 h2 h3; rfl

end Cert.ReferenceIdeal.Value

end
-- ==== Proof.Step.lean ====
/- One grid point of the kernel as a function of the staged blocks: what it leaves in the three output windows. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pointwise
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F] [Named F]

/-- Row block `b` (512 rows) of an array of 8192 rows. -/
def rows {α : Type} {n : ℕ} (b : Fin 16) (x : (⟨2, ![8192, n]⟩ : Shape).Idx → α) : (⟨2, ![512, n]⟩ : Shape).Idx → α :=
  fun y => x (ix2 (⟨512 * b.val + (y 0).val, by have := b.isLt; have : (y 0).val < 512 := (y 0).isLt; omega⟩ : Fin 8192) (y 1))

/-- The row block a row of 8192 lies in. -/
def blkIx (r : Fin 8192) : Fin 16 := ⟨r.val / 512, by have := r.isLt; omega⟩

/-- The row within its block. -/
def inIx (r : Fin 8192) : Fin 512 := ⟨r.val % 512, by omega⟩

/-- The `dv` window after a point: every row block gains its own product. -/
def stepV (q : Vec F S512x256 .bf16) (k : Vec F S8192x256 .bf16) (lse : Vec F S1x1x512 .f32) (dO : Vec F S512x128 .f32)
    (old : Vec F S8192x128 .f32) : Vec F S8192x128 .f32 := fun j =>
  k0_pay12 (k0_pay4 dO) (k0_pay7 lse) (k0_pay9 q (rows (blkIx (j 0)) k)) (rows (blkIx (j 0)) old) (ix2 (inIx (j 0)) (j 1))

/-- The `dk` window after a point: every row block gains its own product. -/
def stepK (q : Vec F S512x256 .bf16) (k : Vec F S8192x256 .bf16) (v : Vec F S8192x128 .bf16) (o : Vec F S512x128 .bf16)
    (lse : Vec F S1x1x512 .f32) (dO : Vec F S512x128 .f32) (old : Vec F S8192x256 .f32) : Vec F S8192x256 .f32 := fun j =>
  k0_pay13 q (k0_pay5 dO) (k0_pay6 dO o) (k0_pay7 lse) (k0_pay9 q (rows (blkIx (j 0)) k)) (rows (blkIx (j 0)) v)
    (rows (blkIx (j 0)) old) (ix2 (inIx (j 0)) (j 1))

/-- The running `dq` of a point before row block `b`, from the row blocks of K and of V. -/
def accQ (q : Vec F S512x256 .bf16) (kb : Fin 16 → Vec F S512x256 .bf16) (vb : Fin 16 → Vec F S512x128 .bf16) (o : Vec F S512x128 .bf16)
    (lse : Vec F S1x1x512 .f32) (dO : Vec F S512x128 .f32) : ℕ → FVec F S512x256 .f32
  | 0 => k0_pay8
  | b + 1 => k0_pay14 (k0_pay5 dO) (k0_pay6 dO o) (k0_pay7 lse) (accQ q kb vb o lse dO b) (kb (Fin.ofNat 16 b))
      (k0_pay9 q (kb (Fin.ofNat 16 b))) (vb (Fin.ofNat 16 b))

/-- The `dq` window after a point, from the row blocks of K and of V. -/
def sumQ (q : Vec F S512x256 .bf16) (kb : Fin 16 → Vec F S512x256 .bf16) (vb : Fin 16 → Vec F S512x128 .bf16) (o : Vec F S512x128 .bf16)
    (lse : Vec F S1x1x512 .f32) (dO : Vec F S512x128 .f32) (z : Vec F S512x256 .f32) : Vec F S512x256 .f32 :=
  k0_pay89 (k0_pay5 dO) (k0_pay6 dO o) (k0_pay7 lse) (accQ q kb vb o lse dO 15) (kb 15) (k0_pay9 q (kb 15)) (vb 15) z

/-- The `dq` window after a point. -/
def stepQ (q : Vec F S512x256 .bf16) (k : Vec F S8192x256 .bf16) (v : Vec F S8192x128 .bf16) (o : Vec F S512x128 .bf16)
    (lse : Vec F S1x1x512 .f32) (dO : Vec F S512x128 .f32) : Vec F S512x256 .f32 :=
  sumQ q (fun b => rows b k) (fun b => rows b v) o lse dO k0_pay1

/-- The sub-block's row offset is 512 times its number (the key axis has one grid step). -/
theorem off1 (i : grid0.Coords) (r : Fin 16) : k0_off1 i (BitVec.ofNat 32 (512 * r.val)) = ![512 * r.val, 0] := by
  rw [k0_off1_eq]; have : (i 2).val = 0 := by have := (i 2).isLt; change _ < 1 at this; omega
  rw [this]; simp

/-- The same for the `dk` window. -/
theorem off2 (i : grid0.Coords) (r : Fin 16) : k0_off2 i (BitVec.ofNat 32 (512 * r.val)) = ![512 * r.val, 0] := by
  rw [k0_off2_eq]; have : (i 2).val = 0 := by have := (i 2).isLt; change _ < 1 at this; omega
  rw [this]; simp

/-- A load of 512 rows at row `512 b` of a memref that reads as `x` reads row block `b`. -/
theorem readAt_rows {n : ℕ} {e : EltTy} {arg : Memref sig .tc .vmem (⟨2, ![8192, n]⟩ : Shape) e}
    (x : Vec F ⟨2, ![8192, n]⟩ e) (f : arg.view.ty.Contents (Elt F)) (hf : arg.view.read (Elt F) f = x) (b : Fin 16) (off : Fin 2 → ℕ)
    (hoff : off = ![512 * b.val, 0]) (inb : ∀ a, off a + ![512, n] a ≤ ![8192, n] a) :
    View.readAt (Elt F) arg.view (Rect.unit (s := ⟨2, ![8192, n]⟩) off ![512, n] inb).toLoadRect f = rows b x := by
  subst hoff; subst hf
  funext y
  rw [View.readAt_apply]
  unfold rows
  congr 1
  funext a
  apply Fin.ext
  match a with
  | 0 => change 512 * b.val + 1 * (y 0).val = 512 * b.val + (y 0).val; omega
  | 1 => change 0 + 1 * (y 1).val = (y 1).val; omega

/-- What a row-block store writes at a place is the step's value at that place of the whole window, for a step
    given block by block. -/
theorem piece_rows {n : ℕ} {e : EltTy} (blk : Fin 16 → (⟨2, ![512, n]⟩ : Shape).Idx → Elt F e) (b : Fin 16) (off : Fin 2 → ℕ)
    (hoff : off = ![512 * b.val, 0]) (inb : ∀ a, off a + ![512, n] a ≤ ![8192, n] a)
    (x : (Rect.unit (s := ⟨2, ![8192, n]⟩) off ![512, n] inb).shape.Idx) :
    blk b x = blk (blkIx ((Rect.unit (s := ⟨2, ![8192, n]⟩) off ![512, n] inb).emb x 0))
      (ix2 (inIx ((Rect.unit (s := ⟨2, ![8192, n]⟩) off ![512, n] inb).emb x 0))
        ((Rect.unit (s := ⟨2, ![8192, n]⟩) off ![512, n] inb).emb x 1)) := by
  subst hoff
  have hx : (x 0).val < 512 := (x 0).isLt
  have h0 := ValueKit.rect_emb_unit_val (s := ⟨2, ![8192, n]⟩) ![512 * b.val, 0] ![512, n] inb x 0
  have h1 := ValueKit.rect_emb_unit_val (s := ⟨2, ![8192, n]⟩) ![512 * b.val, 0] ![512, n] inb x 1
  change _ = 512 * b.val + (x 0).val at h0
  change _ = 0 + (x 1).val at h1
  have hb : blkIx ((Rect.unit (s := ⟨2, ![8192, n]⟩) ![512 * b.val, 0] ![512, n] inb).emb x 0) = b := by
    apply Fin.ext; unfold blkIx; change _ / 512 = _; rw [h0]; omega
  rw [hb]
  congr 1
  funext a
  apply Fin.ext
  match a with
  | 0 => unfold inIx; change (x 0).val = _ % 512; rw [h0]; omega
  | 1 => exact (h1.trans (Nat.zero_add _)).symm

/-- Every place of the window lies in its row block's rectangle. -/
theorem mem_rows {n : ℕ} (off : Fin 2 → ℕ) (y : (⟨2, ![8192, n]⟩ : Shape).Idx) (hoff : off = ![512 * (blkIx (y 0)).val, 0])
    (inb : ∀ a, off a + ![512, n] a ≤ ![8192, n] a) : y ∈ (Rect.unit (s := ⟨2, ![8192, n]⟩) off ![512, n] inb).set := by
  subst hoff
  rw [Rect.mem_set_unit]
  intro a
  match a with
  | 0 =>
    change 512 * ((y 0).val / 512) ≤ (y 0).val ∧ (y 0).val < 512 * ((y 0).val / 512) + 512
    omega
  | 1 => exact ⟨Nat.zero_le _, by change _ < 0 + n; have : (y 1).val < n := (y 1).isLt; omega⟩

end Cert.KernelIdeal.Run

end
-- ==== Proof.Body.lean ====
/- The kernel's body at one grid point: what it leaves in the three output windows (`stepQ`, `stepK`, `stepV`). -/
module

public import proofs.«01_k».proof.Proof.Step

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The condition under which the body zeroes the `dq` window. -/
abbrev cond0 (i : grid0.Coords) : Prop :=
  (Scalar.cmpi .ne (Scalar.extui (Scalar.cmpi .eq (BitVec.ofNat 32 (i 2).val) 0#32)) 0#32) = 1#1

/-- The condition under which the body zeroes the `dk` and `dv` windows. -/
abbrev cond1 (i : grid0.Coords) : Prop :=
  (Scalar.cmpi .ne (Scalar.extui (Scalar.andi (Scalar.cmpi .eq (BitVec.ofNat 32 (i 1).val) 0#32)
    (Scalar.cmpi .eq (BitVec.ofNat 32 (i 2).val) 0#32))) 0#32) = 1#1

/-- A store to a whole window leaves the stored value, whatever was written before it. -/
theorem read_writes_whole {s : Shape} {e : EltTy} {arg : Memref sig .tc .vmem s e} (f : arg.view.ty.Contents (Elt F))
    (L : List (View.Piece (Elt F) s e)) (off : Fin s.rank → ℕ) (inb : ∀ a, off a + s.size a ≤ s.size a)
    (w : Vec F s e) :
    arg.view.read (Elt F) (arg.view.writes (Elt F) f (⟨Rect.unit off s.size inb, w⟩ :: L)) = w := by
  funext y
  have hy : (Rect.unit off s.size inb).emb y = y := by
    funext a; apply Fin.ext; rw [ValueKit.rect_emb_unit_val]; have := inb a; omega
  have h := View.read_writes_cons_emb arg.view f (Rect.unit off s.size inb) w L y
  rw [hy] at h; exact h

/-- A load of a whole window reads its contents. -/
theorem readAt_whole {s : Shape} {e : EltTy} {arg : Memref sig .tc .vmem s e} (harg : arg.IsWhole) (x : Vec F s e)
    (off : Fin s.rank → ℕ) (inb : ∀ a, off a + s.size a ≤ s.size a) :
    View.readAt (Elt F) arg.view (Rect.unit off s.size inb).toLoadRect (harg.unread x) = x := by
  funext y
  rw [View.readAt_apply, harg.read_unread]
  congr 1
  funext a; apply Fin.ext
  change off a + 1 * (y a).val = (y a).val
  have := inb a; omega

set_option maxHeartbeats 400000 in
/-- One store to the `dv` window, as the run leaves it, is `stepV` on its rows. -/
theorem pieceV {arg3 : Memref sig .tc .vmem S512x256 .bf16} (harg3 : arg3.IsWhole) {arg4 : Memref sig .tc .vmem S8192x256 .bf16} (harg4 : arg4.IsWhole) {arg5 : Memref sig .tc .vmem S8192x128 .bf16} (harg5 : arg5.IsWhole) {arg6 : Memref sig .tc .vmem S512x128 .bf16} (harg6 : arg6.IsWhole) {arg7 : Memref sig .tc .vmem S1x1x512 .f32} (harg7 : arg7.IsWhole) {arg8 : Memref sig .tc .vmem S512x128 .f32} (harg8 : arg8.IsWhole) {arg9 : Memref sig .tc .vmem S512x256 .f32} (harg9 : arg9.IsWhole) {arg10 : Memref sig .tc .vmem S8192x256 .f32} (harg10 : arg10.IsWhole) {arg11 : Memref sig .tc .vmem S8192x128 .f32} (harg11 : arg11.IsWhole) (x0 : Vec F S512x256 .bf16) (x1 : Vec F S8192x256 .bf16) (x4 : Vec F S1x1x512 .f32) (x5 : Vec F S512x128 .f32)
    (z8 : Vec F S8192x128 .f32) (f : arg11.view.ty.Contents (Elt F)) (hf : arg11.view.read (Elt F) f = z8) (b : Fin 16)
    (offk : Fin 2 → ℕ) (hk : offk = ![512 * b.val, 0]) (inbk : ∀ a, offk a + ![512, 256] a ≤ ![8192, 256] a)
    (off : Fin 2 → ℕ) (ho : off = ![512 * b.val, 0]) (inb : ∀ a, off a + ![512, 128] a ≤ ![8192, 128] a)
    (y : (Rect.unit (s := S8192x128) off ![512, 128] inb).shape.Idx) :
    k0_pay12 (k0_pay4 (View.readAt (Elt F) arg8.view (Rect.unit (s := S512x128) ![0, 0] S512x128.size inb_S512x128_S512x128_0_0).toLoadRect (harg8.unread x5))) (k0_pay7 (View.readAt (Elt F) arg7.view (Rect.unit (s := S1x1x512) ![0, 0, 0] S1x1x512.size inb_S1x1x512_S1x1x512_0_0_0).toLoadRect (harg7.unread x4)))
        (k0_pay9 (View.readAt (Elt F) arg3.view (Rect.unit (s := S512x256) ![0, 0] S512x256.size inb_S512x256_S512x256_0_0).toLoadRect (harg3.unread x0)) (View.readAt (Elt F) arg4.view (Rect.unit (s := S8192x256) offk ![512, 256] inbk).toLoadRect (harg4.unread x1)))
        (View.readAt (Elt F) arg11.view (Rect.unit (s := S8192x128) off ![512, 128] inb).toLoadRect f) y
      = stepV x0 x1 x4 x5 z8 ((Rect.unit (s := S8192x128) off ![512, 128] inb).emb y) := by
  rw [readAt_whole harg3 x0, readAt_whole harg7 x4, readAt_whole harg8 x5, readAt_rows x1 _ (harg4.read_unread x1) b offk hk inbk, readAt_rows z8 f hf b off ho inb]
  exact piece_rows (F := F) (e := .f32) (fun b => k0_pay12 (k0_pay4 x5) (k0_pay7 x4) (k0_pay9 x0 (rows b x1)) (rows b z8)) b off ho inb y

set_option maxHeartbeats 400000 in
/-- One store to the `dk` window, as the run leaves it, is `stepK` on its rows. -/
theorem pieceK {arg3 : Memref sig .tc .vmem S512x256 .bf16} (harg3 : arg3.IsWhole) {arg4 : Memref sig .tc .vmem S8192x256 .bf16} (harg4 : arg4.IsWhole) {arg5 : Memref sig .tc .vmem S8192x128 .bf16} (harg5 : arg5.IsWhole) {arg6 : Memref sig .tc .vmem S512x128 .bf16} (harg6 : arg6.IsWhole) {arg7 : Memref sig .tc .vmem S1x1x512 .f32} (harg7 : arg7.IsWhole) {arg8 : Memref sig .tc .vmem S512x128 .f32} (harg8 : arg8.IsWhole) {arg9 : Memref sig .tc .vmem S512x256 .f32} (harg9 : arg9.IsWhole) {arg10 : Memref sig .tc .vmem S8192x256 .f32} (harg10 : arg10.IsWhole) {arg11 : Memref sig .tc .vmem S8192x128 .f32} (harg11 : arg11.IsWhole) (x0 : Vec F S512x256 .bf16) (x1 : Vec F S8192x256 .bf16) (x2 : Vec F S8192x128 .bf16) (x3 : Vec F S512x128 .bf16) (x4 : Vec F S1x1x512 .f32) (x5 : Vec F S512x128 .f32)
    (z7 : Vec F S8192x256 .f32) (f : arg10.view.ty.Contents (Elt F)) (hf : arg10.view.read (Elt F) f = z7) (b : Fin 16)
    (offk : Fin 2 → ℕ) (hk : offk = ![512 * b.val, 0]) (inbk : ∀ a, offk a + ![512, 256] a ≤ ![8192, 256] a)
    (offv : Fin 2 → ℕ) (hv : offv = ![512 * b.val, 0]) (inbv : ∀ a, offv a + ![512, 128] a ≤ ![8192, 128] a)
    (off : Fin 2 → ℕ) (ho : off = ![512 * b.val, 0]) (inb : ∀ a, off a + ![512, 256] a ≤ ![8192, 256] a)
    (y : (Rect.unit (s := S8192x256) off ![512, 256] inb).shape.Idx) :
    k0_pay13 (View.readAt (Elt F) arg3.view (Rect.unit (s := S512x256) ![0, 0] S512x256.size inb_S512x256_S512x256_0_0).toLoadRect (harg3.unread x0)) (k0_pay5 (View.readAt (Elt F) arg8.view (Rect.unit (s := S512x128) ![0, 0] S512x128.size inb_S512x128_S512x128_0_0).toLoadRect (harg8.unread x5))) (k0_pay6 (View.readAt (Elt F) arg8.view (Rect.unit (s := S512x128) ![0, 0] S512x128.size inb_S512x128_S512x128_0_0).toLoadRect (harg8.unread x5)) (View.readAt (Elt F) arg6.view (Rect.unit (s := S512x128) ![0, 0] S512x128.size inb_S512x128_S512x128_0_0).toLoadRect (harg6.unread x3))) (k0_pay7 (View.readAt (Elt F) arg7.view (Rect.unit (s := S1x1x512) ![0, 0, 0] S1x1x512.size inb_S1x1x512_S1x1x512_0_0_0).toLoadRect (harg7.unread x4)))
        (k0_pay9 (View.readAt (Elt F) arg3.view (Rect.unit (s := S512x256) ![0, 0] S512x256.size inb_S512x256_S512x256_0_0).toLoadRect (harg3.unread x0)) (View.readAt (Elt F) arg4.view (Rect.unit (s := S8192x256) offk ![512, 256] inbk).toLoadRect (harg4.unread x1))) (View.readAt (Elt F) arg5.view (Rect.unit (s := S8192x128) offv ![512, 128] inbv).toLoadRect (harg5.unread x2))
        (View.readAt (Elt F) arg10.view (Rect.unit (s := S8192x256) off ![512, 256] inb).toLoadRect f) y
      = stepK x0 x1 x2 x3 x4 x5 z7 ((Rect.unit (s := S8192x256) off ![512, 256] inb).emb y) := by
  rw [readAt_whole harg3 x0, readAt_whole harg7 x4, readAt_whole harg8 x5, readAt_whole harg6 x3, readAt_rows x1 _ (harg4.read_unread x1) b offk hk inbk,
    readAt_rows x2 _ (harg5.read_unread x2) b offv hv inbv, readAt_rows z7 f hf b off ho inb]
  exact piece_rows (F := F) (e := .f32) (fun b => k0_pay13 x0 (k0_pay5 x5) (k0_pay6 x5 x3) (k0_pay7 x4) (k0_pay9 x0 (rows b x1)) (rows b x2)
      (rows b z7)) b off ho inb y

/-- A row block of 512 rows lies in an array of 8192. -/
theorem inb_rows (n : ℕ) (b : Fin 16) : ∀ a, (![512 * b.val, 0] : Fin 2 → ℕ) a + (![512, n] : Fin 2 → ℕ) a ≤ (![8192, n] : Fin 2 → ℕ) a := by
  intro a
  match a with
  | 0 => change 512 * b.val + 512 ≤ 8192; have := b.isLt; omega
  | 1 => change 0 + n ≤ n; omega

set_option maxHeartbeats 400000 in
/-- The store to the `dq` window, as the run leaves it, is `stepQ`. -/
theorem pieceQ {arg3 : Memref sig .tc .vmem S512x256 .bf16} (harg3 : arg3.IsWhole) {arg4 : Memref sig .tc .vmem S8192x256 .bf16} (harg4 : arg4.IsWhole) {arg5 : Memref sig .tc .vmem S8192x128 .bf16} (harg5 : arg5.IsWhole) {arg6 : Memref sig .tc .vmem S512x128 .bf16} (harg6 : arg6.IsWhole) {arg7 : Memref sig .tc .vmem S1x1x512 .f32} (harg7 : arg7.IsWhole) {arg8 : Memref sig .tc .vmem S512x128 .f32} (harg8 : arg8.IsWhole) {arg9 : Memref sig .tc .vmem S512x256 .f32} (harg9 : arg9.IsWhole) {arg10 : Memref sig .tc .vmem S8192x256 .f32} (harg10 : arg10.IsWhole) {arg11 : Memref sig .tc .vmem S8192x128 .f32} (harg11 : arg11.IsWhole) (x0 : Vec F S512x256 .bf16) (x1 : Vec F S8192x256 .bf16) (x2 : Vec F S8192x128 .bf16) (x3 : Vec F S512x128 .bf16) (x4 : Vec F S1x1x512 .f32) (x5 : Vec F S512x128 .f32) (z : Vec F S512x256 .f32) (hz : z = k0_pay1) :
    sumQ (View.readAt (Elt F) arg3.view (Rect.unit (s := S512x256) ![0, 0] S512x256.size inb_S512x256_S512x256_0_0).toLoadRect (harg3.unread x0)) (fun b => View.readAt (Elt F) arg4.view (Rect.unit (s := S8192x256) ![512 * b.val, 0] ![512, 256] (inb_rows 256 b)).toLoadRect (harg4.unread x1))
      (fun b => View.readAt (Elt F) arg5.view (Rect.unit (s := S8192x128) ![512 * b.val, 0] ![512, 128] (inb_rows 128 b)).toLoadRect (harg5.unread x2))
      (View.readAt (Elt F) arg6.view (Rect.unit (s := S512x128) ![0, 0] S512x128.size inb_S512x128_S512x128_0_0).toLoadRect (harg6.unread x3)) (View.readAt (Elt F) arg7.view (Rect.unit (s := S1x1x512) ![0, 0, 0] S1x1x512.size inb_S1x1x512_S1x1x512_0_0_0).toLoadRect (harg7.unread x4)) (View.readAt (Elt F) arg8.view (Rect.unit (s := S512x128) ![0, 0] S512x128.size inb_S512x128_S512x128_0_0).toLoadRect (harg8.unread x5)) z = stepQ x0 x1 x2 x3 x4 x5 := by
  subst hz
  rw [readAt_whole harg3 x0, readAt_whole harg7 x4, readAt_whole harg8 x5, readAt_whole harg6 x3]
  unfold stepQ
  congr 1
  · funext b; exact readAt_rows x1 _ (harg4.read_unread x1) b _ rfl _
  · funext b; exact readAt_rows x2 _ (harg5.read_unread x2) b _ rfl _

set_option maxHeartbeats 1000000 in
/-- The whole body: with the `dk` and `dv` windows at `z7` and `z8` after the zeroing (zero at a head's first
    query block, their old contents otherwise), it leaves `stepQ`, `stepK` and `stepV`. -/
theorem body (c : Dev nD) (i : grid0.Coords) (arg3 : Memref sig .tc .vmem S512x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S1x1x512 .f32) (harg7 : arg7.IsWhole) (arg8 : Memref sig .tc .vmem S512x128 .f32) (harg8 : arg8.IsWhole) (arg9 : Memref sig .tc .vmem S512x256 .f32) (harg9 : arg9.IsWhole) (arg10 : Memref sig .tc .vmem S8192x256 .f32) (harg10 : arg10.IsWhole) (arg11 : Memref sig .tc .vmem S8192x128 .f32) (harg11 : arg11.IsWhole) (hc0 : cond0 i)
    (x0 : Vec F S512x256 .bf16) (x1 : Vec F S8192x256 .bf16) (x2 : Vec F S8192x128 .bf16) (x3 : Vec F S512x128 .bf16) (x4 : Vec F S1x1x512 .f32) (x5 : Vec F S512x128 .f32) (xo7 z7 : Vec F S8192x256 .f32) (xo8 z8 : Vec F S8192x128 .f32)
    (hz : (cond1 i ∧ z7 = k0_pay2 ∧ z8 = k0_pay3) ∨ (¬ cond1 i ∧ z7 = xo7 ∧ z8 = xo8)) (E : Set ℕ) (K : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (x3) ∗ owns (c : Thread nD τ) arg7 fullShare (x4) ∗ owns (c : Thread nD τ) arg8 fullShare (x5) ∗ (∃ d, owns (c : Thread nD τ) arg9 fullShare (d)) ∗ owns (c : Thread nD τ) arg10 fullShare (xo7) ∗ owns (c : Thread nD τ) arg11 fullShare (xo8)
        ∗ (iprop(owns (c : Thread nD τ) arg3 fullShare (x0) ∗ owns (c : Thread nD τ) arg4 fullShare (x1) ∗ owns (c : Thread nD τ) arg5 fullShare (x2) ∗ owns (c : Thread nD τ) arg6 fullShare (x3) ∗ owns (c : Thread nD τ) arg7 fullShare (x4) ∗ owns (c : Thread nD τ) arg8 fullShare (x5) ∗ owns (c : Thread nD τ) arg9 fullShare (stepQ x0 x1 x2 x3 x4 x5) ∗ owns (c : Thread nD τ) arg10 fullShare (stepK x0 x1 x2 x3 x4 x5 z7) ∗ owns (c : Thread nD τ) arg11 fullShare (stepV x0 x1 x4 x5 z8)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11) K := by
  simp only [cc0_flash_bwd_eq_skeleton]; unfold cc0_flash_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  simp only [k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg10.eq_unread hf7; obtain rfl := harg11.eq_unread hf8
  sl_exec (disch := sl_exact hc0)
  have h7 : View.read (Elt F) arg10.view (if hc : cond1 i then arg10.view.writes (Elt F) (harg10.unread xo7)
      [⟨Rect.unit (s := S8192x256) ![0, 0] S8192x256.size inb_S8192x256_S8192x256_0_0, k0_pay2⟩] else harg10.unread xo7) = z7 := by
    rcases hz with ⟨hc, rfl, rfl⟩ | ⟨hc, rfl, rfl⟩
    · rw [dif_pos hc]; exact read_writes_whole _ _ _ _ _
    · rw [dif_neg hc]; exact harg10.read_unread _
  have h8 : View.read (Elt F) arg11.view (if hc : cond1 i then arg11.view.writes (Elt F) (harg11.unread xo8)
      [⟨Rect.unit (s := S8192x128) ![0, 0] S8192x128.size inb_S8192x128_S8192x128_0_0, k0_pay3⟩] else harg11.unread xo8) = z8 := by
    rcases hz with ⟨hc, rfl, rfl⟩ | ⟨hc, rfl, rfl⟩
    · rw [dif_pos hc]; exact read_writes_whole _ _ _ _ _
    · rw [dif_neg hc]; exact harg11.read_unread _
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    on_goal 2 => iexact H6
    ipureintro
    rw [read_writes_whole]
    refine (pieceQ harg3 harg4 harg5 harg6 harg7 harg8 harg9 harg10 harg11 x0 x1 x2 x3 x4 x5 (body.sl.v522 c arg9) ?_)
    exact View.readCov_cons_toLoadRect arg9.view _ _ _
  isplitl [H7]
  · iexists _; isplitr
    on_goal 2 => iexact H7
    ipureintro
    funext y
    refine View.read_writes_apply_of_pieces _ _ _ _ ?_ y ?_
    · simp only [List.forall_mem_cons, List.not_mem_nil, false_implies, implies_true, and_true]
      exact ⟨fun y => pieceK harg3 harg4 harg5 harg6 harg7 harg8 harg9 harg10 harg11 x0 x1 x2 x3 x4 x5 z7 _ h7 15 _ rfl _ _ rfl _ _ (off2 i 15) _ y, fun y => pieceK harg3 harg4 harg5 harg6 harg7 harg8 harg9 harg10 harg11 x0 x1 x2 x3 x4 x5 z7 _ h7 14 _ rfl _ _ rfl _ _ (off2 i 14) _ y, fun y => pieceK harg3 harg4 harg5 harg6 harg7 harg8 harg9 harg10 harg11 x0 x1 x2 x3 x4 x5 z7 _ h7 13 _ rfl _ _ rfl _ _ (off2 i 13) _ y, fun y => pieceK harg3 harg4 harg5 harg6 harg7 harg8 harg9 harg10 harg11 x0 x1 x2 x3 x4 x5 z7 _ h7 12 _ rfl _ _ rfl _ _ (off2 i 12) _ y, fun y => pieceK harg3 harg4 harg5 harg6 harg7 harg8 harg9 harg10 harg11 x0 x1 x2 x3 x4 x5 z7 _ h7 11 _ rfl _ _ rfl _ _ (off2 i 11) _ y, fun y => pieceK harg3 harg4 harg5 harg6 harg7 harg8 harg9 harg10 harg11 x0 x1 x2 x3 x4 x5 z7 _ h7 10 _ rfl _ _ rfl _ _ (off2 i 10) _ y, fun y => pieceK harg3 harg4 harg5 harg6 harg7 harg8 harg9 harg10 harg11 x0 x1 x2 x3 x4 x5 z7 _ h7 9 _ rfl _ _ rfl _ _ (off2 i 9) _ y, fun y => pieceK harg3 harg4 harg5 harg6 harg7 harg8 harg9 harg10 harg11 x0 x1 x2 x3 x4 x5 z7 _ h7 8 _ rfl _ _ rfl _ _ (off2 i 8) _ y, fun y => pieceK harg3 harg4 harg5 harg6 harg7 harg8 harg9 harg10 harg11 x0 x1 x2 x3 x4 x5 z7 _ h7 7 _ rfl _ _ rfl _ _ (off2 i 7) _ y, fun y => pieceK harg3 harg4 harg5 harg6 harg7 harg8 harg9 harg10 harg11 x0 x1 x2 x3 x4 x5 z7 _ h7 6 _ rfl _ _ rfl _ _ (off2 i 6) _ y, fun y => pieceK harg3 harg4 harg5 harg6 harg7 harg8 harg9 harg10 harg11 x0 x1 x2 x3 x4 x5 z7 _ h7 5 _ rfl _ _ rfl _ _ (off2 i 5) _ y, fun y => pieceK harg3 harg4 harg5 harg6 harg7 harg8 harg9 harg10 harg11 x0 x1 x2 x3 x4 x5 z7 _ h7 4 _ rfl _ _ rfl _ _ (off2 i 4) _ y, fun y => pieceK harg3 harg4 harg5 harg6 harg7 harg8 harg9 harg10 harg11 x0 x1 x2 x3 x4 x5 z7 _ h7 3 _ rfl _ _ rfl _ _ (off2 i 3) _ y, fun y => pieceK harg3 harg4 harg5 harg6 harg7 harg8 harg9 harg10 harg11 x0 x1 x2 x3 x4 x5 z7 _ h7 2 _ rfl _ _ rfl _ _ (off2 i 2) _ y, fun y => pieceK harg3 harg4 harg5 harg6 harg7 harg8 harg9 harg10 harg11 x0 x1 x2 x3 x4 x5 z7 _ h7 1 _ rfl _ _ rfl _ _ (off2 i 1) _ y, fun y => pieceK harg3 harg4 harg5 harg6 harg7 harg8 harg9 harg10 harg11 x0 x1 x2 x3 x4 x5 z7 _ h7 0 _ rfl _ _ rfl _ _ (off2 i 0) _ y⟩
    · obtain ⟨b, hb⟩ : ∃ b, blkIx (y 0) = b := ⟨_, rfl⟩
      simp only [List.mem_cons, List.not_mem_nil, or_false, exists_eq_or_imp, exists_eq_left]
      fin_cases b
      · exact Or.inr (Or.inr (Or.inr (Or.inr (Or.inr (Or.inr (Or.inr (Or.inr (Or.inr (Or.inr (Or.inr (Or.inr (Or.inr (Or.inr (Or.inr ((mem_rows _ y ((off2 i 0).trans (by rw [hb]; rfl)) _))))))))))))))))
      · exact Or.inr (Or.inr (Or.inr (Or.inr (Or.inr (Or.inr (Or.inr (Or.inr (Or.inr (Or.inr (Or.inr (Or.inr (Or.inr (Or.inr (Or.inl (mem_rows _ y ((off2 i 1).trans (by rw [hb]; rfl)) _)))))))))))))))
      · exact Or.inr (Or.inr (Or.inr (Or.inr (Or.inr (Or.inr (Or.inr (Or.inr (Or.inr (Or.inr (Or.inr (Or.inr (Or.inr (Or.inl (mem_rows _ y ((off2 i 2).trans (by rw [hb]; rfl)) _))))))))))))))
      · exact Or.inr (Or.inr (Or.inr (Or.inr (Or.inr (Or.inr (Or.inr (Or.inr (Or.inr (Or.inr (Or.inr (Or.inr (Or.inl (mem_rows _ y ((off2 i 3).trans (by rw [hb]; rfl)) _)))))))))))))
      · exact Or.inr (Or.inr (Or.inr (Or.inr (Or.inr (Or.inr (Or.inr (Or.inr (Or.inr (Or.inr (Or.inr (Or.inl (mem_rows _ y ((off2 i 4).trans (by rw [hb]; rfl)) _))))))))))))
      · exact Or.inr (Or.inr (Or.inr (Or.inr (Or.inr (Or.inr (Or.inr (Or.inr (Or.inr (Or.inr (Or.inl (mem_rows _ y ((off2 i 5).trans (by rw [hb]; rfl)) _)))))))))))
      · exact Or.inr (Or.inr (Or.inr (Or.inr (Or.inr (Or.inr (Or.inr (Or.inr (Or.inr (Or.inl (mem_rows _ y ((off2 i 6).trans (by rw [hb]; rfl)) _))))))))))
      · exact Or.inr (Or.inr (Or.inr (Or.inr (Or.inr (Or.inr (Or.inr (Or.inr (Or.inl (mem_rows _ y ((off2 i 7).trans (by rw [hb]; rfl)) _)))))))))
      · exact Or.inr (Or.inr (Or.inr (Or.inr (Or.inr (Or.inr (Or.inr (Or.inl (mem_rows _ y ((off2 i 8).trans (by rw [hb]; rfl)) _))))))))
      · exact Or.inr (Or.inr (Or.inr (Or.inr (Or.inr (Or.inr (Or.inl (mem_rows _ y ((off2 i 9).trans (by rw [hb]; rfl)) _)))))))
      · exact Or.inr (Or.inr (Or.inr (Or.inr (Or.inr (Or.inl (mem_rows _ y ((off2 i 10).trans (by rw [hb]; rfl)) _))))))
      · exact Or.inr (Or.inr (Or.inr (Or.inr (Or.inl (mem_rows _ y ((off2 i 11).trans (by rw [hb]; rfl)) _)))))
      · exact Or.inr (Or.inr (Or.inr (Or.inl (mem_rows _ y ((off2 i 12).trans (by rw [hb]; rfl)) _))))
      · exact Or.inr (Or.inr (Or.inl (mem_rows _ y ((off2 i 13).trans (by rw [hb]; rfl)) _)))
      · exact Or.inr (Or.inl (mem_rows _ y ((off2 i 14).trans (by rw [hb]; rfl)) _))
      · exact Or.inl (mem_rows _ y ((off2 i 15).trans (by rw [hb]; rfl)) _)
  iexists _; isplitr
  on_goal 2 => iexact H8
  ipureintro
  funext y
  refine View.read_writes_apply_of_pieces _ _ _ _ ?_ y ?_
  · simp only [List.forall_mem_cons, List.not_mem_nil, false_implies, implies_true, and_true]
    exact ⟨fun y => pieceV harg3 harg4 harg5 harg6 harg7 harg8 harg9 harg10 harg11 x0 x1 x4 x5 z8 _ h8 15 _ rfl _ _ (off1 i 15) _ y, fun y => pieceV harg3 harg4 harg5 harg6 harg7 harg8 harg9 harg10 harg11 x0 x1 x4 x5 z8 _ h8 14 _ rfl _ _ (off1 i 14) _ y, fun y => pieceV harg3 harg4 harg5 harg6 harg7 harg8 harg9 harg10 harg11 x0 x1 x4 x5 z8 _ h8 13 _ rfl _ _ (off1 i 13) _ y, fun y => pieceV harg3 harg4 harg5 harg6 harg7 harg8 harg9 harg10 harg11 x0 x1 x4 x5 z8 _ h8 12 _ rfl _ _ (off1 i 12) _ y, fun y => pieceV harg3 harg4 harg5 harg6 harg7 harg8 harg9 harg10 harg11 x0 x1 x4 x5 z8 _ h8 11 _ rfl _ _ (off1 i 11) _ y, fun y => pieceV harg3 harg4 harg5 harg6 harg7 harg8 harg9 harg10 harg11 x0 x1 x4 x5 z8 _ h8 10 _ rfl _ _ (off1 i 10) _ y, fun y => pieceV harg3 harg4 harg5 harg6 harg7 harg8 harg9 harg10 harg11 x0 x1 x4 x5 z8 _ h8 9 _ rfl _ _ (off1 i 9) _ y, fun y => pieceV harg3 harg4 harg5 harg6 harg7 harg8 harg9 harg10 harg11 x0 x1 x4 x5 z8 _ h8 8 _ rfl _ _ (off1 i 8) _ y, fun y => pieceV harg3 harg4 harg5 harg6 harg7 harg8 harg9 harg10 harg11 x0 x1 x4 x5 z8 _ h8 7 _ rfl _ _ (off1 i 7) _ y, fun y => pieceV harg3 harg4 harg5 harg6 harg7 harg8 harg9 harg10 harg11 x0 x1 x4 x5 z8 _ h8 6 _ rfl _ _ (off1 i 6) _ y, fun y => pieceV harg3 harg4 harg5 harg6 harg7 harg8 harg9 harg10 harg11 x0 x1 x4 x5 z8 _ h8 5 _ rfl _ _ (off1 i 5) _ y, fun y => pieceV harg3 harg4 harg5 harg6 harg7 harg8 harg9 harg10 harg11 x0 x1 x4 x5 z8 _ h8 4 _ rfl _ _ (off1 i 4) _ y, fun y => pieceV harg3 harg4 harg5 harg6 harg7 harg8 harg9 harg10 harg11 x0 x1 x4 x5 z8 _ h8 3 _ rfl _ _ (off1 i 3) _ y, fun y => pieceV harg3 harg4 harg5 harg6 harg7 harg8 harg9 harg10 harg11 x0 x1 x4 x5 z8 _ h8 2 _ rfl _ _ (off1 i 2) _ y, fun y => pieceV harg3 harg4 harg5 harg6 harg7 harg8 harg9 harg10 harg11 x0 x1 x4 x5 z8 _ h8 1 _ rfl _ _ (off1 i 1) _ y, fun y => pieceV harg3 harg4 harg5 harg6 harg7 harg8 harg9 harg10 harg11 x0 x1 x4 x5 z8 _ h8 0 _ rfl _ _ (off1 i 0) _ y⟩
  · obtain ⟨b, hb⟩ : ∃ b, blkIx (y 0) = b := ⟨_, rfl⟩
    simp only [List.mem_cons, List.not_mem_nil, or_false, exists_eq_or_imp, exists_eq_left]
    fin_cases b
    · exact Or.inr (Or.inr (Or.inr (Or.inr (Or.inr (Or.inr (Or.inr (Or.inr (Or.inr (Or.inr (Or.inr (Or.inr (Or.inr (Or.inr (Or.inr ((mem_rows _ y ((off1 i 0).trans (by rw [hb]; rfl)) _))))))))))))))))
    · exact Or.inr (Or.inr (Or.inr (Or.inr (Or.inr (Or.inr (Or.inr (Or.inr (Or.inr (Or.inr (Or.inr (Or.inr (Or.inr (Or.inr (Or.inl (mem_rows _ y ((off1 i 1).trans (by rw [hb]; rfl)) _)))))))))))))))
    · exact Or.inr (Or.inr (Or.inr (Or.inr (Or.inr (Or.inr (Or.inr (Or.inr (Or.inr (Or.inr (Or.inr (Or.inr (Or.inr (Or.inl (mem_rows _ y ((off1 i 2).trans (by rw [hb]; rfl)) _))))))))))))))
    · exact Or.inr (Or.inr (Or.inr (Or.inr (Or.inr (Or.inr (Or.inr (Or.inr (Or.inr (Or.inr (Or.inr (Or.inr (Or.inl (mem_rows _ y ((off1 i 3).trans (by rw [hb]; rfl)) _)))))))))))))
    · exact Or.inr (Or.inr (Or.inr (Or.inr (Or.inr (Or.inr (Or.inr (Or.inr (Or.inr (Or.inr (Or.inr (Or.inl (mem_rows _ y ((off1 i 4).trans (by rw [hb]; rfl)) _))))))))))))
    · exact Or.inr (Or.inr (Or.inr (Or.inr (Or.inr (Or.inr (Or.inr (Or.inr (Or.inr (Or.inr (Or.inl (mem_rows _ y ((off1 i 5).trans (by rw [hb]; rfl)) _)))))))))))
    · exact Or.inr (Or.inr (Or.inr (Or.inr (Or.inr (Or.inr (Or.inr (Or.inr (Or.inr (Or.inl (mem_rows _ y ((off1 i 6).trans (by rw [hb]; rfl)) _))))))))))
    · exact Or.inr (Or.inr (Or.inr (Or.inr (Or.inr (Or.inr (Or.inr (Or.inr (Or.inl (mem_rows _ y ((off1 i 7).trans (by rw [hb]; rfl)) _)))))))))
    · exact Or.inr (Or.inr (Or.inr (Or.inr (Or.inr (Or.inr (Or.inr (Or.inl (mem_rows _ y ((off1 i 8).trans (by rw [hb]; rfl)) _))))))))
    · exact Or.inr (Or.inr (Or.inr (Or.inr (Or.inr (Or.inr (Or.inl (mem_rows _ y ((off1 i 9).trans (by rw [hb]; rfl)) _)))))))
    · exact Or.inr (Or.inr (Or.inr (Or.inr (Or.inr (Or.inl (mem_rows _ y ((off1 i 10).trans (by rw [hb]; rfl)) _))))))
    · exact Or.inr (Or.inr (Or.inr (Or.inr (Or.inl (mem_rows _ y ((off1 i 11).trans (by rw [hb]; rfl)) _)))))
    · exact Or.inr (Or.inr (Or.inr (Or.inl (mem_rows _ y ((off1 i 12).trans (by rw [hb]; rfl)) _))))
    · exact Or.inr (Or.inr (Or.inl (mem_rows _ y ((off1 i 13).trans (by rw [hb]; rfl)) _)))
    · exact Or.inr (Or.inl (mem_rows _ y ((off1 i 14).trans (by rw [hb]; rfl)) _))
    · exact Or.inl (mem_rows _ y ((off1 i 15).trans (by rw [hb]; rfl)) _)

end Cert.KernelIdeal.Run

end
-- ==== Proof.Launch.lean ====
/- The kernel's launch: what the output windows hold after each grid point, the body obligation, and the run. -/
module

public import proofs.«01_k».proof.Proof.Body
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The `dq` window is zeroed at every point. -/
theorem cond0_all (t : Fin cfg0.N) : cond0 (grid0.coords t) := by
  have ht : t.val < 128 := Nat.lt_of_lt_of_eq t.isLt N_0
  have e2 : (grid0.coords t 2).val = t.val / 1 % 1 := Pipeline.Grid.coords_val t 2 (by decide) rfl
  simp only [cond0, e2]
  word_cmp

/-- The `dk` and `dv` windows are zeroed at the first query block of each head. -/
theorem cond1_iff (t : Fin cfg0.N) : cond1 (grid0.coords t) ↔ t.val % 16 = 0 := by
  have ht : t.val < 128 := Nat.lt_of_lt_of_eq t.isLt N_0
  have e1 : (grid0.coords t 1).val = t.val / 1 % 16 := Pipeline.Grid.coords_val t 1 (by decide) rfl
  have e2 : (grid0.coords t 2).val = t.val / 1 % 1 := Pipeline.Grid.coords_val t 2 (by decide) rfl
  simp only [cond1, e1, e2]
  word_cmp

/-- The staged block of the Q at point `t`. -/
abbrev blkQ (c : Dev nD) (t : Fin cfg0.N) : Vec F S512x256 .bf16 := iblk m c 0 t
/-- The staged block of the K at point `t`. -/
abbrev blkK (c : Dev nD) (t : Fin cfg0.N) : Vec F S8192x256 .bf16 := iblk m c 1 t
/-- The staged block of the V at point `t`. -/
abbrev blkV (c : Dev nD) (t : Fin cfg0.N) : Vec F S8192x128 .bf16 := iblk m c 2 t
/-- The staged block of the attention output at point `t`. -/
abbrev blkO (c : Dev nD) (t : Fin cfg0.N) : Vec F S512x128 .bf16 := iblk m c 3 t
/-- The staged block of the log-sum-exp at point `t`. -/
abbrev blkL (c : Dev nD) (t : Fin cfg0.N) : Vec F S1x1x512 .f32 := iblk m c 4 t
/-- The staged block of the cotangent at point `t`. -/
abbrev blkD (c : Dev nD) (t : Fin cfg0.N) : Vec F S512x128 .f32 := iblk m c 5 t

/-- What the `dk` and `dv` windows hold after point `n`: the running sums over the query blocks of the head. -/
def sums (c : Dev nD) : (n : ℕ) → n < cfg0.N → Vec F S8192x256 .f32 × Vec F S8192x128 .f32
  | 0, hn => let t : Fin cfg0.N := ⟨0, hn⟩
    (stepK (blkQ m c t) (blkK m c t) (blkV m c t) (blkO m c t) (blkL m c t) (blkD m c t) k0_pay2, stepV (blkQ m c t) (blkK m c t) (blkL m c t) (blkD m c t) k0_pay3)
  | n + 1, hn => let t : Fin cfg0.N := ⟨n + 1, hn⟩
    let old := sums c n (Nat.lt_of_succ_lt hn)
    (stepK (blkQ m c t) (blkK m c t) (blkV m c t) (blkO m c t) (blkL m c t) (blkD m c t) (if (n + 1) % 16 = 0 then k0_pay2 else old.1),
      stepV (blkQ m c t) (blkK m c t) (blkL m c t) (blkD m c t) (if (n + 1) % 16 = 0 then k0_pay3 else old.2))

/-- The first query block of a head starts from zero. -/
theorem sums_first (c : Dev nD) (t : Fin cfg0.N) (h : t.val % 16 = 0) : sums m c t.val t.isLt
    = (stepK (blkQ m c t) (blkK m c t) (blkV m c t) (blkO m c t) (blkL m c t) (blkD m c t) k0_pay2, stepV (blkQ m c t) (blkK m c t) (blkL m c t) (blkD m c t) k0_pay3) := by
  obtain ⟨n, hn⟩ := t
  cases n with
  | zero => rfl
  | succ n => change (n + 1) % 16 = 0 at h; rw [sums]; simp only [if_pos h]

/-- Any other adds to the one before it. -/
theorem sums_next (c : Dev nD) (t : Fin cfg0.N) (h : ¬ t.val % 16 = 0) : sums m c t.val t.isLt
    = (stepK (blkQ m c t) (blkK m c t) (blkV m c t) (blkO m c t) (blkL m c t) (blkD m c t) (sums m c (t.val - 1) (Nat.lt_of_le_of_lt (Nat.sub_le _ _) t.isLt)).1,
      stepV (blkQ m c t) (blkK m c t) (blkL m c t) (blkD m c t) (sums m c (t.val - 1) (Nat.lt_of_le_of_lt (Nat.sub_le _ _) t.isLt)).2) := by
  obtain ⟨n, hn⟩ := t
  cases n with
  | zero => exact absurd (Nat.zero_mod _) h
  | succ n => change ¬ (n + 1) % 16 = 0 at h; rw [sums]; simp only [if_neg h]; rfl

/-- The proof data: inputs stay in place, `dq`'s window holds the point's product, `dk`'s and `dv`'s the running sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => stepQ (blkQ m c t) (blkK m c t) (blkV m c t) (blkO m c t) (blkL m c t) (blkD m c t)
    | ⟨7, _⟩ => (sums m c t.val t.isLt).1
    | ⟨8, _⟩ => (sums m c t.val t.isLt).2
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- The body leaves input 0 in place. -/
theorem after_0 (c : Dev nD) (t : Fin cfg0.N) : (dats m 0 c).after 0 t = iblk m c 0 t := by dsimp only [dats]
/-- The body finds input 0's block. -/
theorem before_0 (c : Dev nD) (t : Fin cfg0.N) (d) : (dats m 0 c).before 0 t d = iblk m c 0 t :=
  before0_0_of m (dats m 0 c) (A_eq m c 0) (after_0 m c) t d
/-- The body leaves input 1 in place. -/
theorem after_1 (c : Dev nD) (t : Fin cfg0.N) : (dats m 0 c).after 1 t = iblk m c 1 t := by dsimp only [dats]
/-- The body finds input 1's block. -/
theorem before_1 (c : Dev nD) (t : Fin cfg0.N) (d) : (dats m 0 c).before 1 t d = iblk m c 1 t :=
  before0_1_of m (dats m 0 c) (A_eq m c 1) (after_1 m c) t d
/-- The body leaves input 2 in place. -/
theorem after_2 (c : Dev nD) (t : Fin cfg0.N) : (dats m 0 c).after 2 t = iblk m c 2 t := by dsimp only [dats]
/-- The body finds input 2's block. -/
theorem before_2 (c : Dev nD) (t : Fin cfg0.N) (d) : (dats m 0 c).before 2 t d = iblk m c 2 t :=
  before0_2_of m (dats m 0 c) (A_eq m c 2) (after_2 m c) t d
/-- The body leaves input 3 in place. -/
theorem after_3 (c : Dev nD) (t : Fin cfg0.N) : (dats m 0 c).after 3 t = iblk m c 3 t := by dsimp only [dats]
/-- The body finds input 3's block. -/
theorem before_3 (c : Dev nD) (t : Fin cfg0.N) (d) : (dats m 0 c).before 3 t d = iblk m c 3 t :=
  before0_3_of m (dats m 0 c) (A_eq m c 3) (after_3 m c) t d
/-- The body leaves input 4 in place. -/
theorem after_4 (c : Dev nD) (t : Fin cfg0.N) : (dats m 0 c).after 4 t = iblk m c 4 t := by dsimp only [dats]
/-- The body finds input 4's block. -/
theorem before_4 (c : Dev nD) (t : Fin cfg0.N) (d) : (dats m 0 c).before 4 t d = iblk m c 4 t :=
  before0_4_of m (dats m 0 c) (A_eq m c 4) (after_4 m c) t d
/-- The body leaves input 5 in place. -/
theorem after_5 (c : Dev nD) (t : Fin cfg0.N) : (dats m 0 c).after 5 t = iblk m c 5 t := by dsimp only [dats]
/-- The body finds input 5's block. -/
theorem before_5 (c : Dev nD) (t : Fin cfg0.N) (d) : (dats m 0 c).before 5 t d = iblk m c 5 t :=
  before0_5_of m (dats m 0 c) (A_eq m c 5) (after_5 m c) t d
/-- What the body leaves in the `dq` window. -/
theorem after_6 (c : Dev nD) (t : Fin cfg0.N) : (dats m 0 c).after 6 t = stepQ (blkQ m c t) (blkK m c t) (blkV m c t) (blkO m c t) (blkL m c t) (blkD m c t) := by dsimp only [dats]
/-- What the body leaves in the `dk` window. -/
theorem after_7 (c : Dev nD) (t : Fin cfg0.N) : (dats m 0 c).after 7 t = (sums m c t.val t.isLt).1 := by dsimp only [dats]
/-- What the body leaves in the `dv` window. -/
theorem after_8 (c : Dev nD) (t : Fin cfg0.N) : (dats m 0 c).after 8 t = (sums m c t.val t.isLt).2 := by dsimp only [dats]
/-- Inside a head the `dk` window still holds what the point before left. -/
theorem before_7 (c : Dev nD) (t : Fin cfg0.N) (h : ¬ t.val % 16 = 0) (d) :
    (dats m 0 c).before 7 t d = (sums m c (t.val - 1) (Nat.lt_of_le_of_lt (Nat.sub_le _ _) t.isLt)).1 := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    (fun _ => rfl) (fun _ _ => rfl)]
  dsimp only [dats]
/-- Inside a head the `dv` window still holds what the point before left. -/
theorem before_8 (c : Dev nD) (t : Fin cfg0.N) (h : ¬ t.val % 16 = 0) (d) :
    (dats m 0 c).before 8 t d = (sums m c (t.val - 1) (Nat.lt_of_le_of_lt (Nat.sub_le _ _) t.isLt)).2 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]
/-- Window 0's staging memref at point `t`. -/
abbrev mem0 (t : Fin cfg0.N) : Memref sig .tc .vmem S512x256 .bf16 := win0_0.stage (cfg0.slots t 0)
/-- Window 1's staging memref at point `t`. -/
abbrev mem1 (t : Fin cfg0.N) : Memref sig .tc .vmem S8192x256 .bf16 := win0_1.stage (cfg0.slots t 1)
/-- Window 2's staging memref at point `t`. -/
abbrev mem2 (t : Fin cfg0.N) : Memref sig .tc .vmem S8192x128 .bf16 := win0_2.stage (cfg0.slots t 2)
/-- Window 3's staging memref at point `t`. -/
abbrev mem3 (t : Fin cfg0.N) : Memref sig .tc .vmem S512x128 .bf16 := win0_3.stage (cfg0.slots t 3)
/-- Window 4's staging memref at point `t`. -/
abbrev mem4 (t : Fin cfg0.N) : Memref sig .tc .vmem S1x1x512 .f32 := win0_4.stage (cfg0.slots t 4)
/-- Window 5's staging memref at point `t`. -/
abbrev mem5 (t : Fin cfg0.N) : Memref sig .tc .vmem S512x128 .f32 := win0_5.stage (cfg0.slots t 5)
/-- Window 6's staging memref at point `t`. -/
abbrev mem6 (t : Fin cfg0.N) : Memref sig .tc .vmem S512x256 .f32 := win0_6.stage (cfg0.slots t 6)
/-- Window 7's staging memref at point `t`. -/
abbrev mem7 (t : Fin cfg0.N) : Memref sig .tc .vmem S8192x256 .f32 := win0_7.stage (cfg0.slots t 7)
/-- Window 8's staging memref at point `t`. -/
abbrev mem8 (t : Fin cfg0.N) : Memref sig .tc .vmem S8192x128 .f32 := win0_8.stage (cfg0.slots t 8)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t))

set_option maxHeartbeats 1600000 in
/-- The body at any point turns the one into the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h : t.val % 16 = 0
  · rw [sums_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body c (grid0.coords t) _ _ _ _ _ _ _ _ _ _ _ _ _ _ _ _ _ _ (cond0_all t) (blkQ m c t) (blkK m c t) (blkV m c t) (blkO m c t) (blkL m c t) (blkD m c t) ((dats m 0 c).before 7 t d7) k0_pay2 ((dats m 0 c).before 8 t d8) k0_pay3 (Or.inl ⟨(cond1_iff t).mpr h, rfl, rfl⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [sums_next m c t h]
    simp only [before_7 m c t h, before_8 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body c (grid0.coords t) _ _ _ _ _ _ _ _ _ _ _ _ _ _ _ _ _ _ (cond0_all t) (blkQ m c t) (blkK m c t) (blkV m c t) (blkO m c t) (blkL m c t) (blkD m c t) (sums m c (t.val - 1) (Nat.lt_of_le_of_lt (Nat.sub_le _ _) t.isLt)).1 (sums m c (t.val - 1) (Nat.lt_of_le_of_lt (Nat.sub_le _ _) t.isLt)).1 (sums m c (t.val - 1) (Nat.lt_of_le_of_lt (Nat.sub_le _ _) t.isLt)).2 (sums m c (t.val - 1) (Nat.lt_of_le_of_lt (Nat.sub_le _ _) t.isLt)).2 (Or.inr ⟨fun hc => h ((cond1_iff t).mp hc), rfl, rfl⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t` is the body at its staging memrefs. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs; the arrays end at the proof data's contents and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame claim of the program, at any instance. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

/-- The run with its results named: each output array ends at the proof data's final contents, the arguments as launched. -/
theorem run_results : θ_run defs (onTc (τ := τ) (main (F := F))) ⟨m, fun _ => 0, ρ⟩ (fun r => ∀ c : Dev nD,
      r.2.mem ((c.tc : Thread nD τ).loc main_v46_0) = (dats m 0 c).arrAt 6 cfg0.N
      ∧ r.2.mem ((c.tc : Thread nD τ).loc main_v46_1) = (dats m 0 c).arrAt 7 cfg0.N
      ∧ r.2.mem ((c.tc : Thread nD τ).loc main_v46_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 6, (h.1 c).1 7, (h.1 c).1 8, h.2 c⟩)
    (θ_run_and (run_main m ρ) (frame_of m ρ (dats m) (A_eq m) (run_main m ρ)))

end Cert.KernelIdeal.Run

end
-- ==== Proof.StepIdeal.lean ====
/- A grid point's windows over the reals: what one step adds to `dk` and `dv`, and what it leaves in `dq`. -/
module

public import proofs.«01_k».proof.Proof.Step
public import proofs.«01_k».proof.Proof.Math

@[expose] public section

set_option maxRecDepth 16384

noncomputable section

namespace Cert.KernelIdeal.Run

open Cert.KernelIdeal Cert.KernelIdeal.Gen Cert.Attn
open Idealize.ShloMosaic Idealize.ShloMosaic.TcCoe Idealize.ShloMosaic.Tactic

/-- The kernel's named constant is the real `log 2`. -/
theorem ln2_eq : Named.named (F := Ideal) Cert.KernelIdeal.κ "ln2" (φ := .f32) 0x3F317218#32 = ((Real.log 2 : ℝ) : EReal) :=
  IdealRules.named_const.ideal_named_scalar _ _ _ _ rfl

/-- The f32 pattern of one. -/
theorem one_f32 : Ideal.ofBits .f32 0x3F800000#32 = ((1 : ℝ) : EReal) := by rw [Ideal.ofBits_one_f32]; rfl

/-- A row block read at an index. -/
theorem rows_at {α : Type} {n : ℕ} (b : Fin 16) (x : (⟨2, ![8192, n]⟩ : Shape).Idx → α) (r : Fin 512) (l : Fin n) :
    rows b x (ix2 r l) = x (ix2 (rowOf b r) l) := rfl

/-- The first row of eight. -/
theorem slice_at (x : FVec Ideal S8x512 .f32) (r : Fin 512) :
    extractStridedSlice S1x512 ![0, 0] x slices_S8x512_o0_0_S1x512 (ix2 (0 : Fin 1) r) = x (ix2 (0 : Fin 8) r) := by
  simp only [pointwise]
  congr 1
  funext a
  apply Fin.ext
  match a with
  | 0 => rfl
  | 1 => exact Nat.zero_add _

/-- The blocks of one grid point hold these reals: head `h`, query rows of block `a`. -/
structure Holds (q k : Fin 8192 → Fin 2048 → ℝ) (v d : Fin 8192 → Fin 1024 → ℝ) (h : Fin 8) (a : Fin 16)
    (qb : Vec Ideal S512x256 .bf16) (kb : Vec Ideal S8192x256 .bf16) (vb : Vec Ideal S8192x128 .bf16) (ob : Vec Ideal S512x128 .bf16)
    (lb : Vec Ideal S1x1x512 .f32) (db : Vec Ideal S512x128 .f32) : Prop where
  hq : ∀ r e, qb (ix2 r e) = (q (rowOf a r) (colQ h e) : EReal)
  hk : ∀ j e, kb (ix2 j e) = (k j (colQ h e) : EReal)
  hv : ∀ j e, vb (ix2 j e) = (v j (colV h e) : EReal)
  ho : ∀ r e, ob (ix2 r e) = (outp q k v h (rowOf a r) e : EReal)
  hl : ∀ r, lb (ix3 (0 : Fin 1) (0 : Fin 1) r) = (lse2 q k h (rowOf a r) : EReal)
  hd : ∀ r e, db (ix2 r e) = (d (rowOf a r) (colV h e) : EReal)

section

variable {q k : Fin 8192 → Fin 2048 → ℝ} {v d : Fin 8192 → Fin 1024 → ℝ} {h : Fin 8} {a : Fin 16}
variable {qb : Vec Ideal S512x256 .bf16} {kb : Vec Ideal S8192x256 .bf16} {vb : Vec Ideal S8192x128 .bf16} {ob : Vec Ideal S512x128 .bf16}
variable {lb : Vec Ideal S1x1x512 .f32} {db : Vec Ideal S512x128 .f32}

theorem pay9_at (H : Holds q k v d h a qb kb vb ob lb db) (b : Fin 16) (j r : Fin 512) :
    k0_pay9 qb (rows b kb) (ix2 j r) = (dotQK q k h (rowOf a r) (rowOf b j) : EReal) := by
  unfold k0_pay9
  simp only [pointwise, rows_at, H.hq, H.hk]
  rw [coe_sum_mul]
  simp only [zero_add, dotQK, mul_comm]

theorem pay7_at (H : Holds q k v d h a qb kb vb ob lb db) (r : Fin 512) :
    k0_pay7 lb (ix2 (0 : Fin 1) r) = (lse2 q k h (rowOf a r) : EReal) := by
  rw [← H.hl r]
  unfold k0_pay7
  simp only [pointwise]

theorem pay10_at (H : Holds q k v d h a qb kb vb ob lb db) (b : Fin 16) (j r : Fin 512) :
    k0_pay10 (k0_pay7 lb) (k0_pay9 qb (rows b kb)) (ix2 j r) = (prob q k h (rowOf a r) (rowOf b j) : EReal) := by
  have hb : broadcastTo S512x512 (k0_pay7 lb) broadcasts_S1x512_S512x512 (ix2 j r) = (lse2 q k h (rowOf a r) : EReal) := by
    rw [← pay7_at H r]
    simp only [pointwise]
    rfl
  unfold k0_pay10
  simp only [pointwise, pay9_at H] at hb ⊢
  rw [hb, ← EReal.coe_sub]
  change Ideal.exp2 _ = _
  rw [Ideal.exp2_coe, prob_eq]

theorem pay5_at (H : Holds q k v d h a qb kb vb ob lb db) (r : Fin 512) (e : Fin 128) :
    k0_pay5 db (ix2 r e) = ((d (rowOf a r) (colV h e) * Real.log 2 : ℝ) : EReal) := by
  unfold k0_pay5
  simp only [pointwise, H.hd, ln2_eq, ← EReal.coe_mul]

theorem pay6_at (H : Holds q k v d h a qb kb vb ob lb db) (r : Fin 512) :
    k0_pay6 db ob (ix2 (0 : Fin 1) r) = ((∑ e, d (rowOf a r) (colV h e) * Real.log 2 * outp q k v h (rowOf a r) e : ℝ) : EReal) := by
  unfold k0_pay6
  refine (slice_at _ r).trans ?_
  simp only [pointwise, H.hd, H.ho, ln2_eq, ← EReal.coe_mul, one_mul, zero_add, coe_sum]

theorem pay11_at (H : Holds q k v d h a qb kb vb ob lb db) (b : Fin 16) (j r : Fin 512) :
    k0_pay11 (k0_pay5 db) (k0_pay6 db ob) (k0_pay7 lb) (k0_pay9 qb (rows b kb)) (rows b vb) (ix2 j r)
      = (gradS q k v d h (rowOf a r) (rowOf b j) : EReal) := by
  have hb : broadcastTo S512x512 (k0_pay6 db ob) broadcasts_S1x512_S512x512 (ix2 j r)
      = ((∑ e, d (rowOf a r) (colV h e) * Real.log 2 * outp q k v h (rowOf a r) e : ℝ) : EReal) := by
    rw [← pay6_at H r]
    simp only [pointwise]
    rfl
  unfold k0_pay11
  simp only [pointwise, pay10_at H, rows_at, H.hv, pay5_at H] at hb ⊢
  rw [hb, coe_sum_mul, zero_add, ← EReal.coe_sub, ← EReal.coe_mul, gradS_eq]

/-- A row block of `dv` gains the block's product of probabilities and output gradients. -/
theorem stepV_at (H : Holds q k v d h a qb kb vb ob lb db) (old : Vec Ideal S8192x128 .f32) (b : Fin 16) (j : Fin 512) (e : Fin 128) :
    stepV qb kb lb db old (ix2 (rowOf b j) e)
      = old (ix2 (rowOf b j) e) + ((∑ r, prob q k h (rowOf a r) (rowOf b j) * d (rowOf a r) (colV h e) : ℝ) : EReal) := by
  have e1 : blkIx (rowOf b j) = b := by apply Fin.ext; change (512 * b.val + j.val) / 512 = b.val; have := j.isLt; omega
  have e2 : inIx (rowOf b j) = j := by apply Fin.ext; change (512 * b.val + j.val) % 512 = j.val; have := j.isLt; omega
  unfold stepV
  change k0_pay12 _ _ (k0_pay9 qb (rows (blkIx (rowOf b j)) kb)) (rows (blkIx (rowOf b j)) old) (ix2 (inIx (rowOf b j)) e) = _
  rw [e1, e2]
  unfold k0_pay12 k0_pay4
  simp only [pointwise, pay10_at H, H.hd, rows_at]
  rw [coe_sum_mul, zero_add]

/-- A row block of `dk` gains the block's product of score gradients and queries. -/
theorem stepK_at (H : Holds q k v d h a qb kb vb ob lb db) (old : Vec Ideal S8192x256 .f32) (b : Fin 16) (j : Fin 512) (e : Fin 256) :
    stepK qb kb vb ob lb db old (ix2 (rowOf b j) e)
      = old (ix2 (rowOf b j) e) + ((∑ r, gradS q k v d h (rowOf a r) (rowOf b j) * q (rowOf a r) (colQ h e) : ℝ) : EReal) := by
  have e1 : blkIx (rowOf b j) = b := by apply Fin.ext; change (512 * b.val + j.val) / 512 = b.val; have := j.isLt; omega
  have e2 : inIx (rowOf b j) = j := by apply Fin.ext; change (512 * b.val + j.val) % 512 = j.val; have := j.isLt; omega
  unfold stepK
  change k0_pay13 qb _ _ _ (k0_pay9 qb (rows (blkIx (rowOf b j)) kb)) (rows (blkIx (rowOf b j)) vb) (rows (blkIx (rowOf b j)) old) (ix2 (inIx (rowOf b j)) e) = _
  rw [e1, e2]
  unfold k0_pay13
  simp only [pointwise, pay11_at H, H.hq, rows_at]
  rw [coe_sum_mul, zero_add]

/-- The running `dq` before row block `n`. -/
theorem accQ_at (H : Holds q k v d h a qb kb vb ob lb db) (n : ℕ) (r : Fin 512) (e : Fin 256) :
    accQ qb (fun b => rows b kb) (fun b => rows b vb) ob lb db n (ix2 r e)
      = ((∑ b ∈ Finset.range n, ∑ j, gradS q k v d h (rowOf a r) (rowOf (Fin.ofNat 16 b) j) * k (rowOf (Fin.ofNat 16 b) j) (colQ h e) : ℝ) : EReal) := by
  induction n with
  | zero =>
    unfold accQ k0_pay8
    simp only [pointwise]
    simp
  | succ n ih =>
    rw [accQ]
    unfold k0_pay14
    simp only [pointwise, pay11_at H, H.hk, rows_at, ih]
    rw [coe_sum_mul, zero_add, ← EReal.coe_add, Finset.sum_range_succ]

/-- The `dq` window after a point is the whole sum over the keys. -/
theorem stepQ_at (H : Holds q k v d h a qb kb vb ob lb db) (r : Fin 512) (e : Fin 256) :
    stepQ qb kb vb ob lb db (ix2 r e) = ((∑ j, gradS q k v d h (rowOf a r) j * k j (colQ h e) : ℝ) : EReal) := by
  have h1 : stepQ qb kb vb ob lb db (ix2 r e) = accQ qb (fun b => rows b kb) (fun b => rows b vb) ob lb db 16 (ix2 r e) := by
    have h2 : accQ qb (fun b => rows b kb) (fun b => rows b vb) ob lb db 16 = k0_pay14 (k0_pay5 db) (k0_pay6 db ob) (k0_pay7 lb)
        (accQ qb (fun b => rows b kb) (fun b => rows b vb) ob lb db 15) (rows 15 kb) (k0_pay9 qb (rows 15 kb)) (rows 15 vb) := rfl
    rw [h2]
    unfold stepQ sumQ k0_pay89 k0_pay14
    generalize accQ qb (fun b => rows b kb) (fun b => rows b vb) ob lb db 15 = acc
    simp only [pointwise]
    unfold k0_pay1
    simp only [pointwise, zero_add]
    rfl
  rw [h1, accQ_at H, ← Fin.sum_univ_eq_sum_range (fun b => ∑ j, gradS q k v d h (rowOf a r) (rowOf (Fin.ofNat 16 b) j) * k (rowOf (Fin.ofNat 16 b) j) (colQ h e)) 16,
    ← sum_rows]
  simp only [Fin.ofNat_val_eq_self]

end

end Cert.KernelIdeal.Run

end
-- ==== Proof.HostVals.lean ====
/- What the host line hands the kernel call: the attention output and the log-sum-exp, over the reals. -/
module

public import proofs.«01_k».proof.Proof.RefVals
public import proofs.«01_k».proof.Proof.Launch
public import proofs.«01_k».proof.Proof.StepIdeal

@[expose] public section

set_option maxRecDepth 16384

noncomputable section

namespace Cert.KernelIdeal.Run

open Cert.KernelIdeal Cert.KernelIdeal.Gen Cert.Attn
open Idealize.ShloMosaic Idealize.ShloMosaic.TcCoe Idealize.ShloMosaic.Tactic
open Cert.ReferenceIdeal.Value (sArr eArr pArr uArr bArr lArr sArr_at eArr_at pArr_at uArr_at bArr_at lArr_at)

section Arrays

variable (x0 x1 : FVec Ideal S8192x2048 .bf16) (x2 : FVec Ideal S8192x1024 .bf16)

/-- The attention output from a softmax. -/
def oHost (p : FVec Ideal S8x8192x8192 .f32) : FVec Ideal S8192x1024 .bf16 :=
  truncf .bf16 (shapeCast _ (transpose S8192x8x128 [2, 0, 1] (Host.dotGeneral dot_S8192x8x128_S8x8192x8192_S8x128x8192_0_2_2_1_1_0 none (shapeCast _ (extf .f32 x2 bitsLt_bf16_f32) shapeCasts_S8192x1024_S8192x8x128) p) transposes_S8x128x8192_S8192x8x128_2_0_1) shapeCasts_S8192x8x128_S8192x1024) bitsLt_bf16_f32

/-- The row maxima as a column. -/
def mHost (s : FVec Ideal S8x8192x8192 .f32) : FVec Ideal S8x8192x1 .f32 :=
  uArr (Host.reduce FloatOps.maximumf s (constant S_ .f32 0xFF800000#32) reducesTo_S8x8192x8192_S8x8192_d2 h_S_)

/-- The exponentials of the scores less their row's maximum. -/
def eHost (s : FVec Ideal S8x8192x8192 .f32) : FVec Ideal S8x8192x8192 .f32 := Host.exp (subf s (bArr (mHost s)))

/-- The base-two log-sum-exp as a column. -/
def cHost (s : FVec Ideal S8x8192x8192 .f32) : FVec Ideal S8x8192x1 .f32 :=
  Host.divf (addf (mHost s) (Host.log (lArr (eHost s)))) (broadcastInDim S8x8192x1 ![] bcast_S_S8x8192x1 (Host.log (constant S_ .f32 0x40000000#32)))

/-- The base-two log-sum-exp, one row for each head. -/
def lHost (s : FVec Ideal S8x8192x8192 .f32) : FVec Ideal S8x1x8192 .f32 := shapeCast _ (cHost s) shapeCasts_S8x8192x1_S8x1x8192

end Arrays

section Entries

variable {x0 x1 : FVec Ideal S8192x2048 .bf16} {x2 : FVec Ideal S8192x1024 .bf16}
variable {q k : Fin 8192 → Fin 2048 → ℝ} {v : Fin 8192 → Fin 1024 → ℝ}

theorem oHost_at {p : FVec Ideal S8x8192x8192 .f32} (h2 : ∀ i l, x2 (ix2 i l) = (v i l : EReal))
    (hp : ∀ h i j, p (ix3 h i j) = (prob q k h i j : EReal)) (h : Fin 8) (i : Fin 8192) (e : Fin 128) :
    oHost x2 p (ix2 i (colV h e)) = (outp q k v h i e : EReal) := by
  have e1 : ∀ hh, (⟨(colV h e).val / 128, hh⟩ : Fin 8) = h := fun _ => by
    apply Fin.ext; change (h.val * 128 + e.val) / 128 = h.val; have := e.isLt; omega
  have e2 : ∀ hh, (⟨h.val * 128 + (colV h e).val % 128, hh⟩ : Fin 1024) = colV h e := fun _ => by
    apply Fin.ext; change h.val * 128 + (h.val * 128 + e.val) % 128 = h.val * 128 + e.val; have := e.isLt; omega
  unfold oHost
  simp only [pointwise, h2, hp, e1, e2]
  rw [coe_sum_mul, zero_add]
  rfl

theorem mHost_at {s : FVec Ideal S8x8192x8192 .f32} (hs : ∀ h i j, s (ix3 h i j) = (score q k h i j : EReal)) (h : Fin 8) (i : Fin 8192) (u : Fin 1) :
    mHost s (ix3 h i u) = (top q k h i : EReal) := by
  have e : ∀ b : FVec Ideal S_ .f32, b (Shape.Idx.first h_S_) = ⊥ →
      uArr (Host.reduce FloatOps.maximumf s b reducesTo_S8x8192x8192_S8x8192_d2 h_S_) (ix3 h i u) = (top q k h i : EReal) := by
    intro b hb
    rw [uArr_at, rowMax, hb]
    simp only [hs]
    exact fold_max _
  exact e _ bot_f32

theorem eHost_at {s : FVec Ideal S8x8192x8192 .f32} (hs : ∀ h i j, s (ix3 h i j) = (score q k h i j : EReal)) (h : Fin 8) (i j : Fin 8192) :
    eHost s (ix3 h i j) = (expo q k h i j : EReal) := by
  unfold eHost
  simp only [pointwise, hs, bArr_at, mHost_at hs]
  rw [← EReal.coe_sub, Ideal.exp_coe]
  rfl

theorem cHost_at {s : FVec Ideal S8x8192x8192 .f32} (hs : ∀ h i j, s (ix3 h i j) = (score q k h i j : EReal)) (h : Fin 8) (i : Fin 8192) (u : Fin 1) :
    cHost s (ix3 h i u) = (lse2 q k h i : EReal) := by
  have e1 : Host.log (lArr (eHost s)) (ix3 h i u) = ((Real.log (mass q k h i) : ℝ) : EReal) := by
    rw [log_at, lArr_at (eHost_at hs), log_pos _ (mass_pos q k h i)]
  have e2 : (broadcastInDim S8x8192x1 ![] bcast_S_S8x8192x1 (Host.log (constant S_ .f32 0x40000000#32)) : FVec Ideal S8x8192x1 .f32) (ix3 h i u)
      = ((Real.log 2 : ℝ) : EReal) := log_two
  unfold cHost lse2
  rw [div_at, add_at, e1, e2, mHost_at hs, ← EReal.coe_add, coe_div _ _ (Real.log_pos (by norm_num))]

theorem lHost_at {s : FVec Ideal S8x8192x8192 .f32} (hs : ∀ h i j, s (ix3 h i j) = (score q k h i j : EReal)) (h : Fin 8) (u : Fin 1) (i : Fin 8192) :
    lHost s (ix3 h u i) = (lse2 q k h i : EReal) := by
  unfold lHost
  simp only [pointwise, cHost_at hs]

end Entries

variable (m : (ℓ : Loc nD τ sig) → Buf (Elt Ideal) ℓ) (c : Dev nD)

/-- The kernel call's fourth operand. -/
theorem entry_o (x0 x1 x2) (h0 : m ((c.tc : Thread nD τ).loc main_arg0) = x0) (h1 : m ((c.tc : Thread nD τ).loc main_arg1) = x1)
    (h2 : m ((c.tc : Thread nD τ).loc main_arg2) = x2) : V m c main_v24 = oHost x2 (pArr (eArr (sArr x0 x1))) := by
  subst h0 h1 h2
  entry_read
  rfl

/-- The kernel call's fifth operand. -/
theorem entry_lse (x0 x1) (h0 : m ((c.tc : Thread nD τ).loc main_arg0) = x0) (h1 : m ((c.tc : Thread nD τ).loc main_arg1) = x1) :
    V m c main_v45 = lHost (sArr x0 x1) := by
  subst h0 h1
  entry_read
  rfl

end Cert.KernelIdeal.Run

end
-- ==== Proof.Final.lean ====
/- The kernel's result arrays over the reals: the blocks each grid point reads, the running sums, the arrays after the grid. -/
module

public import proofs.«01_k».proof.Proof.HostVals

@[expose] public section

set_option maxRecDepth 16384

noncomputable section

namespace Cert.KernelIdeal.Run

open Cert.KernelIdeal Cert.KernelIdeal.Gen Cert.Attn
open Idealize.ShloMosaic Idealize.ShloMosaic.TcCoe Idealize.ShloMosaic.Tactic
open Cert.ReferenceIdeal.Value (sArr eArr pArr sArr_at eArr_at pArr_at catCol headQ headV)

/-! ## Which blocks a grid point is on -/

/-- The head of a grid point. -/
def headOf (t : Fin cfg0.N) : Fin 8 := ⟨t.val / 16, by have : t.val < 128 := Nat.lt_of_lt_of_eq t.isLt N_0; omega⟩

/-- The query block of a grid point. -/
def blockOf (t : Fin cfg0.N) : Fin 16 := ⟨t.val % 16, by omega⟩

theorem index0 : ∀ t : Fin cfg0.N, win0_0.index t = ![t.val % 16, t.val / 16] :=
  (by decide +kernel : ∀ t : Fin grid0.N, win0_0.index t = ![t.val % 16, t.val / 16])
theorem index1 : ∀ t : Fin cfg0.N, win0_1.index t = ![0, t.val / 16] :=
  (by decide +kernel : ∀ t : Fin grid0.N, win0_1.index t = ![0, t.val / 16])
theorem index2 : ∀ t : Fin cfg0.N, win0_2.index t = ![0, t.val / 16] :=
  (by decide +kernel : ∀ t : Fin grid0.N, win0_2.index t = ![0, t.val / 16])
theorem index3 : ∀ t : Fin cfg0.N, win0_3.index t = ![t.val % 16, t.val / 16] :=
  (by decide +kernel : ∀ t : Fin grid0.N, win0_3.index t = ![t.val % 16, t.val / 16])
theorem index4 : ∀ t : Fin cfg0.N, win0_4.index t = ![t.val / 16, 0, t.val % 16] :=
  (by decide +kernel : ∀ t : Fin grid0.N, win0_4.index t = ![t.val / 16, 0, t.val % 16])
theorem index5 : ∀ t : Fin cfg0.N, win0_5.index t = ![t.val % 16, t.val / 16] :=
  (by decide +kernel : ∀ t : Fin grid0.N, win0_5.index t = ![t.val % 16, t.val / 16])
theorem index6 : ∀ t : Fin cfg0.N, win0_6.index t = ![t.val % 16, t.val / 16] :=
  (by decide +kernel : ∀ t : Fin grid0.N, win0_6.index t = ![t.val % 16, t.val / 16])
theorem index7 : ∀ t : Fin cfg0.N, win0_7.index t = ![0, t.val / 16] :=
  (by decide +kernel : ∀ t : Fin grid0.N, win0_7.index t = ![0, t.val / 16])
theorem index8 : ∀ t : Fin cfg0.N, win0_8.index t = ![0, t.val / 16] :=
  (by decide +kernel : ∀ t : Fin grid0.N, win0_8.index t = ![0, t.val / 16])

variable (m : (ℓ : Loc nD τ sig) → Buf (Elt Ideal) ℓ) (c : Dev nD)

theorem blkQ_at (t : Fin cfg0.N) (r : Fin 512) (e : Fin 256) :
    blkQ m c t (ix2 r e) = m ((c.tc : Thread nD τ).loc main_arg0) (ix2 (rowOf (blockOf t) r) (colQ (headOf t) e)) := by
  unfold blkQ iblk
  rw [View.read_apply, ← V_main_arg0 m c]
  change V m c main_arg0 _ = _
  congr 1
  funext a
  apply Fin.ext
  match a with
  | ⟨0, _⟩ => change win0_0.index t 0 * 512 + 1 * r.val = 512 * (t.val % 16) + r.val; rw [index0]; change t.val % 16 * 512 + 1 * r.val = _; omega
  | ⟨1, _⟩ => change win0_0.index t 1 * 256 + 1 * e.val = t.val / 16 * 256 + e.val; rw [index0]; change t.val / 16 * 256 + 1 * e.val = _; omega

theorem blkK_at (t : Fin cfg0.N) (j : Fin 8192) (e : Fin 256) :
    blkK m c t (ix2 j e) = m ((c.tc : Thread nD τ).loc main_arg1) (ix2 j (colQ (headOf t) e)) := by
  unfold blkK iblk
  rw [View.read_apply, ← V_main_arg1 m c]
  change V m c main_arg1 _ = _
  congr 1
  funext a
  apply Fin.ext
  match a with
  | ⟨0, _⟩ => change win0_1.index t 0 * 8192 + 1 * j.val = j.val; rw [index1]; change 0 * 8192 + 1 * j.val = _; omega
  | ⟨1, _⟩ => change win0_1.index t 1 * 256 + 1 * e.val = t.val / 16 * 256 + e.val; rw [index1]; change t.val / 16 * 256 + 1 * e.val = _; omega

theorem blkV_at (t : Fin cfg0.N) (j : Fin 8192) (e : Fin 128) :
    blkV m c t (ix2 j e) = m ((c.tc : Thread nD τ).loc main_arg2) (ix2 j (colV (headOf t) e)) := by
  unfold blkV iblk
  rw [View.read_apply, ← V_main_arg2 m c]
  change V m c main_arg2 _ = _
  congr 1
  funext a
  apply Fin.ext
  match a with
  | ⟨0, _⟩ => change win0_2.index t 0 * 8192 + 1 * j.val = j.val; rw [index2]; change 0 * 8192 + 1 * j.val = _; omega
  | ⟨1, _⟩ => change win0_2.index t 1 * 128 + 1 * e.val = t.val / 16 * 128 + e.val; rw [index2]; change t.val / 16 * 128 + 1 * e.val = _; omega

theorem blkO_at (x : FVec Ideal S8192x1024 .bf16) (hx : V m c main_v24 = x) (t : Fin cfg0.N) (r : Fin 512) (e : Fin 128) :
    blkO m c t (ix2 r e) = x (ix2 (rowOf (blockOf t) r) (colV (headOf t) e)) := by
  subst hx
  unfold blkO iblk
  rw [View.read_apply]
  change V m c main_v24 _ = _
  congr 1
  funext a
  apply Fin.ext
  match a with
  | ⟨0, _⟩ => change win0_3.index t 0 * 512 + 1 * r.val = 512 * (t.val % 16) + r.val; rw [index3]; change t.val % 16 * 512 + 1 * r.val = _; omega
  | ⟨1, _⟩ => change win0_3.index t 1 * 128 + 1 * e.val = t.val / 16 * 128 + e.val; rw [index3]; change t.val / 16 * 128 + 1 * e.val = _; omega

theorem blkL_at (x : FVec Ideal S8x1x8192 .f32) (hx : V m c main_v45 = x) (t : Fin cfg0.N) (r : Fin 512) :
    blkL m c t (ix3 (0 : Fin 1) (0 : Fin 1) r) = x (ix3 (headOf t) (0 : Fin 1) (rowOf (blockOf t) r)) := by
  subst hx
  unfold blkL iblk
  rw [View.read_apply]
  change V m c main_v45 _ = _
  congr 1
  funext a
  apply Fin.ext
  match a with
  | ⟨0, _⟩ => change win0_4.index t 0 * 1 + 1 * 0 = t.val / 16; rw [index4]; change t.val / 16 * 1 + 1 * 0 = _; omega
  | ⟨1, _⟩ => change win0_4.index t 1 * 1 + 1 * 0 = 0; rw [index4]; rfl
  | ⟨2, _⟩ => change win0_4.index t 2 * 512 + 1 * r.val = 512 * (t.val % 16) + r.val; rw [index4]; change t.val % 16 * 512 + 1 * r.val = _; omega

theorem blkD_at (t : Fin cfg0.N) (r : Fin 512) (e : Fin 128) :
    blkD m c t (ix2 r e) = m ((c.tc : Thread nD τ).loc main_arg3) (ix2 (rowOf (blockOf t) r) (catCol (colV (headOf t) e))) := by
  unfold blkD iblk
  rw [View.read_apply, ← V_main_arg3 m c]
  change V m c main_arg3 _ = _
  congr 1
  funext a
  apply Fin.ext
  match a with
  | ⟨0, _⟩ => change win0_5.index t 0 * 512 + 1 * r.val = 512 * (t.val % 16) + r.val; rw [index5]; change t.val % 16 * 512 + 1 * r.val = _; omega
  | ⟨1, _⟩ => change win0_5.index t 1 * 128 + 1 * e.val = t.val / 16 * 128 + e.val; rw [index5]; change t.val / 16 * 128 + 1 * e.val = _; omega

/-! ## Two points' output blocks do not meet -/

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (by
    have h : win0_6.index t = win0_6.index t' := h
    rw [index6, index6] at h
    have h0 : t.val % 16 = t'.val % 16 := congrFun h 0
    have h1 : t.val / 16 = t'.val / 16 := congrFun h 1
    apply Fin.ext; omega)

theorem disjoint7 : ∀ t t' : Fin cfg0.N, (cfg0.win 7).flush t = true → (cfg0.win 7).flush t' = true → t ≠ t' →
    Disjoint ((cfg0.win 7).blk t).view.set ((cfg0.win 7).blk t').view.set :=
  fun t t' f f' hne => (cfg0.win 7).disjoint_blk fun h => hne (by
    have h : win0_7.index t = win0_7.index t' := h
    rw [index7, index7] at h
    have h0 := (flush0_7 t).mp f
    have h0' := (flush0_7 t').mp f'
    have h1 : t.val / 16 = t'.val / 16 := congrFun h 1
    apply Fin.ext; omega)

theorem disjoint8 : ∀ t t' : Fin cfg0.N, (cfg0.win 8).flush t = true → (cfg0.win 8).flush t' = true → t ≠ t' →
    Disjoint ((cfg0.win 8).blk t).view.set ((cfg0.win 8).blk t').view.set :=
  fun t t' f f' hne => (cfg0.win 8).disjoint_blk fun h => hne (by
    have h : win0_8.index t = win0_8.index t' := h
    rw [index8, index8] at h
    have h0 := (flush0_8 t).mp f
    have h0' := (flush0_8 t').mp f'
    have h1 : t.val / 16 = t'.val / 16 := congrFun h 1
    apply Fin.ext; omega)

/-! ## The result arrays, entry by entry -/

/-- The `dq` array holds at each block what the block's point left in the window. -/
theorem dq_block (t : Fin cfg0.N) (r : Fin 512) (e : Fin 256) :
    (dats m 0 c).arrAt 6 cfg0.N (ix2 (rowOf (blockOf t) r) (colQ (headOf t) e))
      = stepQ (blkQ m c t) (blkK m c t) (blkV m c t) (blkO m c t) (blkL m c t) (blkD m c t) (ix2 r e) := by
  have h := congrFun ((dats m 0 c).read_blk_arrAt_eq_flushed 6 disjoint6 cfg0.N t t.isLt (flush0_6 t)) (ix2 r e)
  have h2 : (dats m 0 c).flushed 6 t (ix2 r e) = (dats m 0 c).after 6 t (ix2 r e) := rfl
  rw [h2, after_6, View.read_apply] at h
  rw [← h]
  change _ = (dats m 0 c).arrAt 6 cfg0.N _
  congr 1
  funext a
  apply Fin.ext
  match a with
  | ⟨0, _⟩ => change 512 * (t.val % 16) + r.val = win0_6.index t 0 * 512 + 1 * r.val; rw [index6]; change _ = t.val % 16 * 512 + 1 * r.val; omega
  | ⟨1, _⟩ => change t.val / 16 * 256 + e.val = win0_6.index t 1 * 256 + 1 * e.val; rw [index6]; change _ = t.val / 16 * 256 + 1 * e.val; omega

/-- The `dk` array holds at each head what the head's last point left in the window. -/
theorem dk_block (t : Fin cfg0.N) (ht : t.val % 16 = 15) (j : Fin 8192) (e : Fin 256) :
    (dats m 0 c).arrAt 7 cfg0.N (ix2 j (colQ (headOf t) e)) = (sums m c t.val t.isLt).1 (ix2 j e) := by
  have h := congrFun ((dats m 0 c).read_blk_arrAt_eq_flushed 7 disjoint7 cfg0.N t t.isLt ((flush0_7 t).mpr ht)) (ix2 j e)
  have h2 : (dats m 0 c).flushed 7 t (ix2 j e) = (dats m 0 c).after 7 t (ix2 j e) := rfl
  rw [h2, after_7, View.read_apply] at h
  rw [← h]
  change _ = (dats m 0 c).arrAt 7 cfg0.N _
  congr 1
  funext a
  apply Fin.ext
  match a with
  | ⟨0, _⟩ => change j.val = win0_7.index t 0 * 8192 + 1 * j.val; rw [index7]; change _ = 0 * 8192 + 1 * j.val; omega
  | ⟨1, _⟩ => change t.val / 16 * 256 + e.val = win0_7.index t 1 * 256 + 1 * e.val; rw [index7]; change _ = t.val / 16 * 256 + 1 * e.val; omega

/-- The `dv` array holds at each head what the head's last point left in the window. -/
theorem dv_block (t : Fin cfg0.N) (ht : t.val % 16 = 15) (j : Fin 8192) (e : Fin 128) :
    (dats m 0 c).arrAt 8 cfg0.N (ix2 j (colV (headOf t) e)) = (sums m c t.val t.isLt).2 (ix2 j e) := by
  have h := congrFun ((dats m 0 c).read_blk_arrAt_eq_flushed 8 disjoint8 cfg0.N t t.isLt ((flush0_8 t).mpr ht)) (ix2 j e)
  have h2 : (dats m 0 c).flushed 8 t (ix2 j e) = (dats m 0 c).after 8 t (ix2 j e) := rfl
  rw [h2, after_8, View.read_apply] at h
  rw [← h]
  change _ = (dats m 0 c).arrAt 8 cfg0.N _
  congr 1
  funext a
  apply Fin.ext
  match a with
  | ⟨0, _⟩ => change j.val = win0_8.index t 0 * 8192 + 1 * j.val; rw [index8]; change _ = 0 * 8192 + 1 * j.val; omega
  | ⟨1, _⟩ => change t.val / 16 * 128 + e.val = win0_8.index t 1 * 128 + 1 * e.val; rw [index8]; change _ = t.val / 16 * 128 + 1 * e.val; omega

/-! ## Over the reals -/

section Real

variable {m c}
variable {q k : Fin 8192 → Fin 2048 → ℝ} {v d : Fin 8192 → Fin 1024 → ℝ}
variable {x0 x1 : FVec Ideal S8192x2048 .bf16} {x2 : FVec Ideal S8192x1024 .bf16} {x3 : FVec Ideal S8192x2048 .f32}

/-- Every point's blocks hold the reals of its head and query block. -/
theorem holds (a0 : m ((c.tc : Thread nD τ).loc main_arg0) = x0) (a1 : m ((c.tc : Thread nD τ).loc main_arg1) = x1)
    (a2 : m ((c.tc : Thread nD τ).loc main_arg2) = x2) (a3 : m ((c.tc : Thread nD τ).loc main_arg3) = x3)
    (h0 : ∀ i l, x0 (ix2 i l) = (q i l : EReal)) (h1 : ∀ i l, x1 (ix2 i l) = (k i l : EReal))
    (h2 : ∀ i l, x2 (ix2 i l) = (v i l : EReal)) (h3 : ∀ i l, x3 (ix2 i (catCol l)) = (d i l : EReal)) (t : Fin cfg0.N) :
    Holds q k v d (headOf t) (blockOf t) (blkQ m c t) (blkK m c t) (blkV m c t) (blkO m c t) (blkL m c t) (blkD m c t) where
  hq r e := by rw [blkQ_at, a0, h0]
  hk j e := by rw [blkK_at, a1, h1]
  hv j e := by rw [blkV_at, a2, h2]
  ho r e := by
    rw [blkO_at m c _ (entry_o m c x0 x1 x2 a0 a1 a2)]
    exact oHost_at h2 (fun h i j => pArr_at (eArr_at (sArr_at h0 h1)) h i j) _ _ _
  hl r := by
    rw [blkL_at m c _ (entry_lse m c x0 x1 a0 a1)]
    exact lHost_at (sArr_at h0 h1) _ _ _
  hd r e := by rw [blkD_at, a3, h3]

/-- The point of a head and a query block. -/
def pt (h : Fin 8) (a : ℕ) (ha : a < 16) : Fin cfg0.N := ⟨16 * h.val + a, Nat.lt_of_lt_of_eq (by have := h.isLt; omega : 16 * h.val + a < 128) N_0.symm⟩

theorem headOf_pt (h : Fin 8) (a : ℕ) (ha : a < 16) : headOf (pt h a ha) = h := by
  apply Fin.ext; change (16 * h.val + a) / 16 = h.val; omega

theorem blockOf_pt (h : Fin 8) (a : ℕ) (ha : a < 16) : blockOf (pt h a ha) = ⟨a, ha⟩ := by
  apply Fin.ext; change (16 * h.val + a) % 16 = a; omega

theorem headQ_colQ (l : Fin 2048) : ∃ e, l = colQ (headQ l) e := ⟨⟨l.val % 256, by omega⟩, by apply Fin.ext; change l.val = l.val / 256 * 256 + l.val % 256; omega⟩

theorem headV_colV (l : Fin 1024) : ∃ e, l = colV (headV l) e := ⟨⟨l.val % 128, by omega⟩, by apply Fin.ext; change l.val = l.val / 128 * 128 + l.val % 128; omega⟩

theorem rowOf_surj (i : Fin 8192) : ∃ b r, i = rowOf b r :=
  ⟨⟨i.val / 512, by have := i.isLt; omega⟩, ⟨i.val % 512, by omega⟩, by apply Fin.ext; change i.val = 512 * (i.val / 512) + i.val % 512; omega⟩

variable (H : ∀ t, Holds q k v d (headOf t) (blockOf t) (blkQ m c t) (blkK m c t) (blkV m c t) (blkO m c t) (blkL m c t) (blkD m c t))
include H

/-- The running sums after query block `a` of a head. -/
theorem sums_at (h : Fin 8) (a : ℕ) (ha : a < 16) (b : Fin 16) (j : Fin 512) :
    (∀ e, (sums m c (pt h a ha).val (pt h a ha).isLt).1 (ix2 (rowOf b j) e)
      = ((∑ a' ∈ Finset.range (a + 1), ∑ r, gradS q k v d h (rowOf (Fin.ofNat 16 a') r) (rowOf b j) * q (rowOf (Fin.ofNat 16 a') r) (colQ h e) : ℝ) : EReal))
    ∧ (∀ e, (sums m c (pt h a ha).val (pt h a ha).isLt).2 (ix2 (rowOf b j) e)
      = ((∑ a' ∈ Finset.range (a + 1), ∑ r, prob q k h (rowOf (Fin.ofNat 16 a') r) (rowOf b j) * d (rowOf (Fin.ofNat 16 a') r) (colV h e) : ℝ) : EReal)) := by
  have Ht := H (pt h a ha)
  rw [headOf_pt, blockOf_pt, show (⟨a, ha⟩ : Fin 16) = Fin.ofNat 16 a from Fin.ext (Nat.mod_eq_of_lt ha).symm] at Ht
  induction a with
  | zero =>
    have e0 : (pt h 0 ha).val % 16 = 0 := by change (16 * h.val + 0) % 16 = 0; omega
    rw [sums_first m c _ e0]
    constructor
    · intro e
      change stepK _ _ _ _ _ _ _ _ = _
      rw [stepK_at Ht]
      unfold k0_pay2
      simp only [pointwise, zero_add, Finset.sum_range_one]
    · intro e
      change stepV _ _ _ _ _ _ = _
      rw [stepV_at Ht]
      unfold k0_pay3
      simp only [pointwise, zero_add, Finset.sum_range_one]
  | succ a ih =>
    have e0 : ¬ (pt h (a + 1) ha).val % 16 = 0 := by change ¬ (16 * h.val + (a + 1)) % 16 = 0; omega
    have Hp := H (pt h a (by omega))
    rw [headOf_pt, blockOf_pt, show (⟨a, by omega⟩ : Fin 16) = Fin.ofNat 16 a from Fin.ext (Nat.mod_eq_of_lt (by omega)).symm] at Hp
    obtain ⟨i1, i2⟩ := ih (by omega) Hp
    rw [sums_next m c _ e0]
    constructor
    · intro e
      change stepK _ _ _ _ _ _ _ _ = _
      rw [stepK_at Ht, Finset.sum_range_succ _ (a + 1), EReal.coe_add, ← i1 e]
      rfl
    · intro e
      change stepV _ _ _ _ _ _ = _
      rw [stepV_at Ht, Finset.sum_range_succ _ (a + 1), EReal.coe_add, ← i2 e]
      rfl

theorem dq_at (i : Fin 8192) (l : Fin 2048) :
    (dats m 0 c).arrAt 6 cfg0.N (ix2 i l) = ((∑ j, gradS q k v d (headQ l) i j * k j l : ℝ) : EReal) := by
  obtain ⟨e, he⟩ := headQ_colQ l
  obtain ⟨b, r, rfl⟩ := rowOf_surj i
  generalize headQ l = h at he
  subst he
  have := dq_block m c (pt h b.val b.isLt) r e
  have Ht := H (pt h b.val b.isLt)
  rw [headOf_pt, blockOf_pt] at this Ht
  exact this.trans (stepQ_at Ht r e)

theorem dk_at (j : Fin 8192) (l : Fin 2048) :
    (dats m 0 c).arrAt 7 cfg0.N (ix2 j l) = ((∑ i, gradS q k v d (headQ l) i j * q i l : ℝ) : EReal) := by
  obtain ⟨e, he⟩ := headQ_colQ l
  obtain ⟨b, r, rfl⟩ := rowOf_surj j
  generalize headQ l = h at he
  subst he
  have := dk_block m c (pt h 15 (by omega)) (by change (16 * h.val + 15) % 16 = 15; omega) (rowOf b r) e
  rw [headOf_pt] at this
  rw [this, (sums_at H h 15 (by omega) b r).1 e,
    ← Fin.sum_univ_eq_sum_range (fun a => ∑ r', gradS q k v d h (rowOf (Fin.ofNat 16 a) r') (rowOf b r) * q (rowOf (Fin.ofNat 16 a) r') (colQ h e)) 16]
  simp only [Fin.ofNat_val_eq_self]
  rw [sum_rows (fun i => gradS q k v d h i (rowOf b r) * q i (colQ h e))]

theorem dv_at (j : Fin 8192) (l : Fin 1024) :
    (dats m 0 c).arrAt 8 cfg0.N (ix2 j l) = ((∑ i, d i l * prob q k (headV l) i j : ℝ) : EReal) := by
  obtain ⟨e, he⟩ := headV_colV l
  obtain ⟨b, r, rfl⟩ := rowOf_surj j
  generalize headV l = h at he
  subst he
  have := dv_block m c (pt h 15 (by omega)) (by change (16 * h.val + 15) % 16 = 15; omega) (rowOf b r) e
  rw [headOf_pt] at this
  rw [this, (sums_at H h 15 (by omega) b r).2 e,
    ← Fin.sum_univ_eq_sum_range (fun a => ∑ r', prob q k h (rowOf (Fin.ofNat 16 a) r') (rowOf b r) * d (rowOf (Fin.ofNat 16 a) r') (colV h e)) 16]
  simp only [Fin.ofNat_val_eq_self]
  rw [sum_rows (fun i => prob q k h i (rowOf b r) * d i (colV h e))]
  simp only [mul_comm]

end Real

end Cert.KernelIdeal.Run

end
-- ==== Proof.Algebra.lean ====
/- The claims: the frames, the named constant, and the two programs' equal results on finite arguments. -/
module

public import proofs.«01_k».proof.Defs
public import proofs.«01_k».proof.Proof.KernelLaunch
public import proofs.«01_k».proof.Proof.Gen.Pre_finite
public import proofs.«01_k».proof.Proof.Gen.ReferenceIdeal.Run
public import proofs.«01_k».proof.Proof.Final
public import Idealize.ShloMosaic.Lib.ReduceAll
public import Idealize.ShloMosaic.Lib.Quiescent

@[expose] public section

noncomputable section

namespace Cert.Attn

open Idealize.ShloMosaic Idealize.ShloMosaic.TcCoe Idealize.SL.Sem
open Cert.ReferenceIdeal.Value (catCol)

/-- The f32 pattern of plus infinity. -/
theorem top_f32 : Ideal.ofBits .f32 0x7F800000#32 = ⊤ := by simp [Ideal.ofBits, Ideal.ieee]

/-- A value whose magnitude compares below infinity is real. -/
theorem real_of_lt (x : EReal) (h : Ideal.cmp .olt (max x (-x)) (Ideal.ofBits .f32 0x7F800000#32) = 1#1) : x = (x.toReal : EReal) := by
  rw [top_f32] at h
  have hlt : max x (-x) < ⊤ := by
    by_contra hn
    unfold Ideal.cmp at h
    simp [hn] at h
  rw [max_lt_iff] at hlt
  refine (EReal.coe_toReal hlt.1.ne ?_).symm
  rintro rfl
  simp at hlt

/-- The precondition's one test of a f32 array: every entry is real. -/
theorem real_of_all {s : Shape} {ax : List (Fin s.rank)} (x : FVec Ideal s .f32) (hb : (⟨0, ![]⟩ : Shape).BroadcastsInDim s (![] : Fin 0 → Fin s.rank))
    (hr : s.ReducesTo ax ⟨0, ![]⟩) (hu : 0 < (⟨0, ![]⟩ : Shape).numel) (j : (⟨0, ![]⟩ : Shape).Idx)
    (h : Host.reduce IntOp.andi (cmpf .olt (Host.absf x) (broadcastInDim s ![] hb (constant ⟨0, ![]⟩ .f32 0x7F800000#32)))
      (constantI ⟨0, ![]⟩ 1 1#1) hr hu j = 1#1) (i : s.Idx) : x i = ((x i).toReal : EReal) := by
  haveI : Subsingleton (⟨0, ![]⟩ : Shape).Idx := ⟨fun a b => funext fun k => k.elim0⟩
  exact real_of_lt _ (Host.reduce_andi_all _ _ hr hu j h i)

/-- Finite arguments are real, entry by entry. -/
theorem reals_of_finite (x0 x1 : FVec Ideal ⟨2, ![8192, 2048]⟩ .bf16) (x2 : FVec Ideal ⟨2, ![8192, 1024]⟩ .bf16) (x3 : FVec Ideal ⟨2, ![8192, 2048]⟩ .f32)
    (h : Cert.Pre_finite.fn (F := Ideal) x0 x1 x2 x3 = fun _ => 1#1) :
    (∀ i, x0 i = ((x0 i).toReal : EReal)) ∧ (∀ i, x1 i = ((x1 i).toReal : EReal)) ∧ (∀ i, x2 i = ((x2 i).toReal : EReal))
      ∧ ∀ i, x3 i = ((x3 i).toReal : EReal) := by
  have e := congrFun h ix0
  unfold Cert.Pre_finite.fn Cert.Pre_finite.fn_part1 at e
  obtain ⟨e012, e3⟩ := IntOp.andi_eq_one.1 e
  obtain ⟨e01, e2⟩ := IntOp.andi_eq_one.1 e012
  obtain ⟨e0, e1⟩ := IntOp.andi_eq_one.1 e01
  exact ⟨real_of_all _ _ _ _ _ e0, real_of_all _ _ _ _ _ e1, real_of_all _ _ _ _ _ e2, real_of_all _ _ _ _ _ e3⟩

end Cert.Attn

namespace Cert.Proof.Claims

open Idealize.ShloMosaic Idealize.ShloMosaic.TcCoe Idealize.ShloMosaic.Tactic Idealize.SL.Sem
open Cert.ReferenceIdeal.Value Cert.Attn

/-- The kernel at bits ends with its arguments unchanged and every counter at zero. -/
theorem frame_p : Cert.quiescent_Kernel := fun m ρ _ => Cert.Kernel.Run.frame_claim m ρ

/-- The kernel over the reals ends with its arguments unchanged and every counter at zero. -/
theorem frame_pi : Cert.quiescent_KernelIdeal := fun m ρ _ => Cert.KernelIdeal.Run.frame_claim m ρ

/-- The same from finite arguments. -/
theorem frame_pi_finite : Cert.quiescent_KernelIdeal_pre_finite := fun m ρ _ => Cert.KernelIdeal.Run.frame_claim m ρ

/-- The reference ends with its arguments unchanged and every counter at zero. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same from finite arguments. -/
theorem frame_ri_finite : Cert.quiescent_ReferenceIdeal_pre_finite := fun m ρ _ => frame_ri m ρ trivial

/-- The kernel's one named constant is the real logarithm of two. -/
theorem preserves : Cert.preserves_Kernel_KernelIdeal :=
  IdealRules.named_const.statement Cert.KernelIdeal.κ "ln2" .f32 0x3F317218#32 ((Real.log 2 : ℝ) : EReal) rfl

/-- On one device's finite arguments the kernel's three arrays are the reference's three gradients. -/
theorem results_eq (m : (ℓ : Loc Cert.KernelIdeal.nD Cert.KernelIdeal.τ Cert.KernelIdeal.sig) → Buf (Elt Ideal) ℓ)
    (c : Dev Cert.KernelIdeal.nD) (x0 x1 : FVec Ideal ⟨2, ![8192, 2048]⟩ .bf16) (x2 : FVec Ideal ⟨2, ![8192, 1024]⟩ .bf16)
    (x3 : FVec Ideal ⟨2, ![8192, 2048]⟩ .f32)
    (a0 : m ((c.tc : Thread Cert.KernelIdeal.nD Cert.KernelIdeal.τ).loc Cert.KernelIdeal.main_arg0) = x0)
    (a1 : m ((c.tc : Thread Cert.KernelIdeal.nD Cert.KernelIdeal.τ).loc Cert.KernelIdeal.main_arg1) = x1)
    (a2 : m ((c.tc : Thread Cert.KernelIdeal.nD Cert.KernelIdeal.τ).loc Cert.KernelIdeal.main_arg2) = x2)
    (a3 : m ((c.tc : Thread Cert.KernelIdeal.nD Cert.KernelIdeal.τ).loc Cert.KernelIdeal.main_arg3) = x3)
    (h : Cert.Pre_finite.fn (F := Ideal) x0 x1 x2 x3 = fun _ => 1#1) :
    dqArr x1 (dsArr (gArr x2 x3) (eArr (sArr x0 x1))) = (Cert.KernelIdeal.Run.dats m 0 c).arrAt 6 Cert.KernelIdeal.cfg0.N
    ∧ dkArr x0 (dsArr (gArr x2 x3) (eArr (sArr x0 x1))) = (Cert.KernelIdeal.Run.dats m 0 c).arrAt 7 Cert.KernelIdeal.cfg0.N
    ∧ dvArr x3 (pArr (eArr (sArr x0 x1))) = (Cert.KernelIdeal.Run.dats m 0 c).arrAt 8 Cert.KernelIdeal.cfg0.N := by
  obtain ⟨r0, r1, r2, r3⟩ := reals_of_finite x0 x1 x2 x3 h
  have h0 : ∀ i l, x0 (ix2 i l) = (((x0 (ix2 i l)).toReal : ℝ) : EReal) := fun i l => r0 _
  have h1 : ∀ i l, x1 (ix2 i l) = (((x1 (ix2 i l)).toReal : ℝ) : EReal) := fun i l => r1 _
  have h2 : ∀ i l, x2 (ix2 i l) = (((x2 (ix2 i l)).toReal : ℝ) : EReal) := fun i l => r2 _
  have h3 : ∀ i l, x3 (ix2 i (catCol l)) = (((x3 (ix2 i (catCol l))).toReal : ℝ) : EReal) := fun i l => r3 _
  generalize hq : (fun i l => (x0 (ix2 i l)).toReal) = q
  generalize hk : (fun i l => (x1 (ix2 i l)).toReal) = k
  generalize hv : (fun i l => (x2 (ix2 i l)).toReal) = v
  generalize hd : (fun i l => (x3 (ix2 i (catCol l))).toReal) = d
  replace h0 : ∀ i l, x0 (ix2 i l) = (q i l : EReal) := by subst hq; exact h0
  replace h1 : ∀ i l, x1 (ix2 i l) = (k i l : EReal) := by subst hk; exact h1
  replace h2 : ∀ i l, x2 (ix2 i l) = (v i l : EReal) := by subst hv; exact h2
  replace h3 : ∀ i l, x3 (ix2 i (catCol l)) = (d i l : EReal) := by subst hd; exact h3
  have H := Cert.KernelIdeal.Run.holds a0 a1 a2 a3 h0 h1 h2 h3
  have hs := sArr_at h0 h1
  have he := eArr_at hs
  have hds := dsArr_at (gArr_at h2 h3) he
  refine ⟨?_, ?_, ?_⟩
  · refine funext fun y => ?_
    have e : y = ix2 (y 0) (y 1) := by funext b; fin_cases b <;> rfl
    rw [e]
    exact (dqArr_at h1 hds _ _).trans (Cert.KernelIdeal.Run.dq_at H _ _).symm
  · refine funext fun y => ?_
    have e : y = ix2 (y 0) (y 1) := by funext b; fin_cases b <;> rfl
    rw [e]
    exact (dkArr_at h0 hds _ _).trans (Cert.KernelIdeal.Run.dk_at H _ _).symm
  · refine funext fun y => ?_
    have e : y = ix2 (y 0) (y 1) := by funext b; fin_cases b <;> rfl
    rw [e]
    exact (dvArr_at h3 (pArr_at he) _ _).trans (Cert.KernelIdeal.Run.dv_at H _ _).symm

/-- From finite arguments that agree, the kernel's arrays end at the reference's gradients. -/
theorem algebraic : Cert.algebraic_KernelIdeal_ReferenceIdeal_pre_finite := by
  intro m ρ m' ρ' hpre hagree
  refine ⟨_, _, _, Cert.KernelIdeal.Run.run_results (F := Ideal) m ρ, ?_⟩
  refine (θ_run Cert.ReferenceIdeal.defs _ _).mono (fun _ h c => ?_) (Cert.ReferenceIdeal.Value.run (F := Ideal) m' ρ')
  obtain ⟨e0, e1, e2, e3⟩ := hagree c
  obtain ⟨rq, rk, rv⟩ := results_eq m c _ _ _ _ rfl rfl rfl rfl (hpre c)
  obtain ⟨hq, hk, hv, hargs⟩ := h c
  refine ⟨hq.trans ((res_dq m' c _ _ _ _ e0 e1 e2 e3).trans rq), hk.trans ((res_dk m' c _ _ _ _ e0 e1 e2 e3).trans rk), ?_, hargs⟩
  refine hv.trans (Eq.trans ?_ rv)
  rw [e0, e1, e3]
  rfl

end Cert.Proof.Claims

end
-- ==== Proof.Blocks.lean ====
/- A matrix product computed block by block: arrays read at pairs of numbers, and an accumulator that starts anew every
   few points and gains one block's sum at each, over the extended reals. -/
module

public import Idealize.ShloMosaic.Lib.Pointwise
public import Idealize.ShloMosaic.Lib.IdealHost

@[expose] public section

noncomputable section

namespace Cert.Blocks

open Idealize.ShloMosaic

/-- The entry of a two-axis array at a pair of numbers, zero off the array. -/
def at2 {a b : ℕ} (x : (⟨2, ![a, b]⟩ : Shape).Idx → EReal) (i j : ℕ) : EReal :=
  if h : i < a ∧ j < b then x (ix2 ⟨i, h.1⟩ ⟨j, h.2⟩) else 0

/-- The entry of a three-axis array at a triple of numbers, zero off the array. -/
def at3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0

theorem at2_val {a b : ℕ} (x : (⟨2, ![a, b]⟩ : Shape).Idx → EReal) (y : (⟨2, ![a, b]⟩ : Shape).Idx) {i j : ℕ}
    (h0 : (y 0).val = i) (h1 : (y 1).val = j) : x y = at2 x i j := by
  subst h0 h1
  unfold at2
  rw [dif_pos ⟨(y 0).isLt, (y 1).isLt⟩]
  congr 1
  funext p
  match p with
  | ⟨0, _⟩ => rfl
  | ⟨1, _⟩ => rfl

theorem at3_val {a b d : ℕ} (x : (⟨3, ![a, b, d]⟩ : Shape).Idx → EReal) (y : (⟨3, ![a, b, d]⟩ : Shape).Idx) {i j k : ℕ}
    (h0 : (y 0).val = i) (h1 : (y 1).val = j) (h2 : (y 2).val = k) : x y = at3 x i j k := by
  subst h0 h1 h2
  unfold at3
  rw [dif_pos ⟨(y 0).isLt, (y 1).isLt, (y 2).isLt⟩]
  congr 1
  funext p
  match p with
  | ⟨0, _⟩ => rfl
  | ⟨1, _⟩ => rfl
  | ⟨2, _⟩ => rfl

theorem hz : (![0, 0] : Fin 2 → Nat) = fun _ => 0 := funext fun a => by fin_cases a <;> rfl
theorem hz3 : (![0, 0, 0] : Fin 3 → Nat) = fun _ => 0 := funext fun a => by fin_cases a <;> rfl

/-- Two arrays that agree at every pair of coordinates are equal. -/
theorem ext2 {a b : ℕ} {x z : (⟨2, ![a, b]⟩ : Shape).Idx → EReal} (h : ∀ (r : Fin a) (l : Fin b), x (ix2 r l) = z (ix2 r l)) : x = z := by
  funext i
  have hi : i = ix2 (i 0 : Fin a) (i 1 : Fin b) := by
    funext p
    match p with
    | ⟨0, _⟩ => rfl
    | ⟨1, _⟩ => rfl
  rw [hi]
  exact h _ _

/-- The square of the positive part. -/
def sqr (x : EReal) : EReal := max x 0 * max x 0

/-- A sum over one block of a range, after the blocks before it. -/
theorem sum_block (f : ℕ → EReal) (q w : ℕ) :
    ∑ k ∈ Finset.range (q * w), f k + ∑ k : Fin w, f (q * w + k.val) = ∑ k ∈ Finset.range ((q + 1) * w), f k := by
  rw [Finset.sum_fin_eq_sum_range, Nat.succ_mul, Finset.sum_range_add]
  congr 1
  exact Finset.sum_congr rfl fun k hk => dif_pos (Finset.mem_range.mp hk)

/-- An accumulator over `N` points that holds, at the first point of every `d`, one block's sum, and at every other point
    gains the next block's: it holds the sum over the blocks so far. -/
theorem acc_sum {ι : Type} {N d w : ℕ} (hd : 0 < d) (out : (n : ℕ) → n < N → ι → EReal) (f : ℕ → ι → ℕ → EReal)
    (hfirst : ∀ n h y, n % d = 0 → out n h y = ∑ k : Fin w, f (n / d) y (n % d * w + k.val))
    (hnext : ∀ n h y, ¬(n + 1) % d = 0 →
      out (n + 1) h y = out n (Nat.lt_of_succ_lt h) y + ∑ k : Fin w, f ((n + 1) / d) y ((n + 1) % d * w + k.val)) :
    ∀ n h y, out n h y = ∑ k ∈ Finset.range ((n % d + 1) * w), f (n / d) y k := by
  have first : ∀ n h y, n % d = 0 → out n h y = ∑ k ∈ Finset.range ((n % d + 1) * w), f (n / d) y k := by
    intro n h y h0
    rw [hfirst n h y h0, ← sum_block, h0, Nat.zero_mul, Finset.range_zero, Finset.sum_empty, zero_add]
  intro n
  induction n with
  | zero => exact fun h y => first 0 h y (Nat.zero_mod d)
  | succ n ih =>
    intro h y
    by_cases h0 : (n + 1) % d = 0
    · exact first _ h y h0
    · have e1 : (n + 1) % d = n % d + 1 := by
        rw [Nat.add_mod] at h0 ⊢
        have hlt : n % d < d := Nat.mod_lt n hd
        rcases Nat.lt_or_ge 1 d with h1 | h1
        · rw [Nat.mod_eq_of_lt h1] at h0 ⊢
          rcases Nat.lt_or_ge (n % d + 1) d with h2 | h2
          · exact Nat.mod_eq_of_lt h2
          · exact absurd (by rw [show n % d + 1 = d by omega, Nat.mod_self]) h0
        · obtain rfl : d = 1 := by omega
          exact absurd (Nat.mod_one _) h0
      have e2 : (n + 1) / d = n / d := by
        have a1 := Nat.div_add_mod (n + 1) d
        have a2 := Nat.div_add_mod n d
        have a3 : d * ((n + 1) / d) = d * (n / d) := by omega
        exact Nat.eq_of_mul_eq_mul_left hd a3
      rw [hnext n h y h0, ih, e2, e1, ← sum_block (q := n % d + 1)]

end Cert.Blocks

end
-- ==== Proof.Rows.lean ====
/- The gradients of a normalised and modulated row, in extended reals, as functions of one row each; and a sum over rows that
   gains one block of rows at a time. -/
module

public import proofs.«01_k».proof.Proof.Blocks

@[expose] public section

noncomputable section

namespace Cert.Rows

open Idealize.ShloMosaic Cert.Blocks

/-- A row of numbers. -/
abbrev Row := Fin 2048 → EReal

/-- Row `r` of an array. -/
def row {a : ℕ} (x : (⟨2, ![a, 2048]⟩ : Shape).Idx → EReal) (r : Fin a) : Row := fun k => x (ix2 r k)

/-- The row of an array at a number, zero off the array. -/
def rowN {a : ℕ} (x : (⟨2, ![a, 2048]⟩ : Shape).Idx → EReal) (n : ℕ) : Row := fun k => at2 x n k.val

theorem row_eq {a : ℕ} (x : (⟨2, ![a, 2048]⟩ : Shape).Idx → EReal) (r : Fin a) : row x r = rowN x r.val :=
  funext fun k => at2_val x (ix2 r k) rfl rfl

/-- The mean's divisor and its inverse, as the two programs write them. -/
theorem mean (x : EReal) : Ideal.div x (Ideal.ofBits .f32 0x45000000#32) = x * Ideal.ofBits .f32 0x3A000000#32 := by
  have e1 : Ideal.ofBits .f32 0x45000000#32 = ((2048 : ℝ) : EReal) := by
    simp [Ideal.ofBits, Ideal.ieee, -EReal.coe_mul]; norm_num
  have e2 : Ideal.ofBits .f32 0x3A000000#32 = ((1 / 2048 : ℝ) : EReal) := by
    simp [Ideal.ofBits, Ideal.ieee, -EReal.coe_mul]; norm_num
  rw [e1, e2, Ideal.div_coe (by norm_num)]

/-- The mean square of a row, and the norm's small number added to it. -/
def msq (x : Row) : EReal := (∑ k, x k * x k) * Ideal.ofBits .f32 0x3A000000#32 + Ideal.ofBits .f32 0x358637BD#32

/-- The gradient at the row before its gain, from the gradient `d` of the modulated row. -/
def pull (g scale d : Row) : Row := fun k => d k * (1 + scale k) * g k

/-- The gradient that comes through the mean square, at each entry's square. -/
def back (x g scale d : Row) : EReal :=
  (∑ k, x k * pull g scale d k) * (Ideal.ofBits .f32 0xBF000000#32 * Ideal.div (Ideal.rsqrt (msq x)) (msq x)) * Ideal.ofBits .f32 0x3A000000#32

/-- The gradient of the row, `e` being what reaches it past the norm. -/
def dx (x g scale d e : Row) (l : Fin 2048) : EReal :=
  e l + pull g scale d l * Ideal.rsqrt (msq x) + x l * back x g scale d + back x g scale d * x l

/-- One row's part of the gain's gradient. -/
def dg (x scale d : Row) (l : Fin 2048) : EReal := x l * Ideal.rsqrt (msq x) * (d l * (1 + scale l))

/-- One row's part of the scale's gradient. -/
def dscale (x g d : Row) (l : Fin 2048) : EReal := x l * Ideal.rsqrt (msq x) * g l * d l

/-- The gated sum of two rows. -/
def gated (x mixed gate : Row) : Row := fun k => x k + gate k * mixed k

/-- An accumulator that holds one block's sum at first and gains the next block's at every further point holds the sum over
    the blocks so far. -/
theorem sweep {N w : ℕ} (out : (n : ℕ) → n < N → Row) (f : Fin 2048 → ℕ → EReal)
    (hfirst : ∀ h l, out 0 h l = ∑ k : Fin w, f l (0 * w + k.val))
    (hnext : ∀ n h l, out (n + 1) h l = out n (Nat.lt_of_succ_lt h) l + ∑ k : Fin w, f l ((n + 1) * w + k.val)) :
    ∀ n h l, out n h l = ∑ k ∈ Finset.range ((n + 1) * w), f l k := by
  intro n
  induction n with
  | zero =>
    intro h l
    rw [hfirst h l, ← sum_block, Nat.zero_mul, Finset.range_zero, Finset.sum_empty, zero_add]
  | succ n ih =>
    intro h l
    rw [hnext n h l, ih, ← sum_block (q := n + 1)]

/-- A sum over the numbers of an array's rows is the sum over its rows. -/
theorem sum_rows (f : ℕ → EReal) (z : Fin 8192 → EReal) (h : ∀ k, f k.val = z k) : ∑ k ∈ Finset.range 8192, f k = ∑ k, z k := by
  rw [Finset.sum_range]
  exact Finset.sum_congr rfl fun k _ => h k

end Cert.Rows

end
-- ==== Proof.Tile.lean ====
/- Reading an array by its tiles. -/
module
public import proofs.«01_k».proof.Proof.Blocks
@[expose] public section

noncomputable section

namespace Cert.Tile

open Idealize.ShloMosaic Cert.Blocks

/-- A number times its sigmoid. -/
def silu (x : EReal) : EReal := x * Ideal.logistic x

/-- The entries of an array's tile, by the tile's two numbers. -/
theorem tile {a b p q : ℕ} (x : (⟨2, ![a, b]⟩ : Shape).Idx → EReal) (y : (⟨2, ![a, b]⟩ : Shape).Idx) {i j : ℕ} {k : Fin 2 → ℕ} (hk : k = ![i, j])
    (r : Fin p) (l : Fin q) (h0 : (y 0).val = k 0 * p + 1 * r.val) (h1 : (y 1).val = k 1 * q + 1 * l.val) : x y = at2 x (i * p + r.val) (j * q + l.val) := by
  subst hk
  rw [Nat.one_mul] at h0 h1
  exact at2_val x y h0 h1

/-- The tile of an array that is one tile high or wide is the array, on that axis. -/
theorem whole (n : ℕ) {p : ℕ} : 0 * p + n = n := by rw [Nat.zero_mul, Nat.zero_add]

/-- The place of a row or column in its tile. -/
theorem place {p : ℕ} (hp : 0 < p) (n : ℕ) : ∃ s : Fin p, n / p * p + s.val = n :=
  ⟨⟨n % p, Nat.mod_lt _ hp⟩, Nat.div_add_mod' n p⟩

/-- A place of an array, by numbers. -/
theorem at_ix {a b : ℕ} (x : (⟨2, ![a, b]⟩ : Shape).Idx → EReal) (r : Fin a) (l : Fin b) : x (ix2 r l) = at2 x r.val l.val :=
  at2_val x (ix2 r l) rfl rfl

/-- An entry of a tile of whole rows is the array's. -/
theorem entry {a b p n : ℕ} (x : (⟨2, ![a, b]⟩ : Shape).Idx → EReal) (y : (⟨2, ![a, b]⟩ : Shape).Idx) {k : Fin 2 → ℕ} (hk : k = ![n, 0])
    (i : Fin a) (r : Fin p) (l : Fin b) (hr : n * p + r.val = i.val) (h0 : (y 0).val = k 0 * p + 1 * r.val) (h1 : (y 1).val = k 1 * b + 1 * l.val) :
    x y = x (ix2 i l) := by
  refine (tile x y hk r l h0 h1).trans ?_
  rw [whole, hr, ← at_ix]

end Cert.Tile
end
-- ==== Proof.MlstmPost.lean ====
/- The mLSTM's two directions summed, normalised head by head, times the output gate's sigmoid: the kernel's result array is
   that, and so is the reference's. -/
module
public import proofs.«01_k».proof.Defs
public import proofs.«01_k».proof.Proof.Tile
public import proofs.«01_k».proof.Proof.Gen.MlstmPostIdeal.Value
public import proofs.«01_k».proof.Proof.Gen.MlstmPost
public import proofs.«01_k».proof.Proof.Gen.MlstmPostRefIdeal.Run
public import Idealize.ShloMosaic.Lib.VecWindow
public import Idealize.ShloMosaic.Lib.Tactic
public import Idealize.ShloMosaic.Lib.Quiescent
@[expose] public section

set_option maxRecDepth 16384

noncomputable section

namespace Cert.MlstmPostIdeal.Post

open Cert.MlstmPostIdeal Cert.MlstmPostIdeal.Gen Cert.Blocks Cert.Tile
open Idealize.ShloMosaic Idealize.ShloMosaic.TcCoe Idealize.SL.Sem

/-- A row over the heads' columns, and a head's column in it. -/
abbrev Heads := Fin 1024 → EReal
def col (h : Fin 4) (j : Fin 256) : Fin 1024 := ⟨h.val * 256 + j.val, by omega⟩

/-- A head's part of the result's row. -/
def post (s o g : Heads) (h : Fin 4) (j : Fin 256) : EReal :=
  Ideal.logistic (o (col h j)) * (s (col h j)
    * Ideal.rsqrt ((∑ k, s (col h k) * s (col h k)) * Ideal.ofBits .f32 0x3B800000#32 + Ideal.ofBits .f32 0x358637BD#32) * g (col h j))

variable (v0 v2 : Vec Ideal S1x256x1024 .f32) (v4 : Vec Ideal S256x1024 .f32) (v5 : Vec Ideal S1x1024 .f32) (r : Fin 256) (j : Fin 256)

/-- The two directions' rows, summed. -/
def both (v1 v2 : Vec Ideal S1x256x1024 .f32) (r : Fin 256) : Heads := fun l => v1 (ix3 (0 : Fin 1) r l) + v2 (ix3 (0 : Fin 1) r l)

/-- The number with a zero before it. -/
def same {b : ℕ} (k : Fin b) : Fin b := ⟨0 + k.val, lt_of_eq_of_lt (Nat.zero_add _) k.isLt⟩
theorem same_eq {b : ℕ} (k : Fin b) : same k = k := Fin.ext (Nat.zero_add _)

theorem head_at (v0 : Vec Ideal S256x1024 .f32) (v1 v2 : Vec Ideal S1x256x1024 .f32) (v3 : Vec Ideal S1x1024 .f32) (r : Fin 256) (h : Fin 4) (j : Fin 256) :
    Value.Cat4_0 v0 v1 v2 v3 h (ix2 r j) = post (both v1 v2 r) (fun l => v0 (ix2 r l)) (fun l => v3 (ix2 0 l)) h j := by
  suffices e : Value.Cat4_0 v0 v1 v2 v3 h (ix2 r j) = post (both v1 v2 (same r)) (fun l => v0 (ix2 (same r) l)) (fun l => v3 (ix2 0 l)) h j by
    rw [same_eq] at e
    exact e
  fin_cases h
  all_goals
    simp only [Value.Cat4_0, pointwise, zero_add]
    rfl

theorem point_at (x0 x1 : Vec Ideal S1x256x1024 .f32) (x2 : Vec Ideal S256x1024 .f32) (x3 : Vec Ideal S1x1024 .f32) (r : Fin 256) (h : Fin 4) (j : Fin 256) :
    out0_4 x0 x1 x2 x3 (ix2 r (col h j)) = post (both x0 x1 r) (fun l => x2 (ix2 r l)) (fun l => x3 (ix2 0 l)) h j := by
  unfold out0_4
  simp only [r0_0, r0_1, r0_2, View.ld_unit_zero (S := S256x1024) hz, View.ld_unit_zero (S := S1x1024) hz, View.ld_unit_zero (S := S1x256x1024) hz3]
  refine (Value.canon4_eq _ _ _ _ _).trans ?_
  have eh : Value.csel4_0 (ix2 r (col h j)) = h := Fin.ext (by show (h.val * 256 + j.val) / 256 = h.val; omega)
  have ej : Value.ix4_0 (ix2 r (col h j)) = ix2 r j := by
    funext a
    match a with
    | ⟨0, _⟩ => rfl
    | ⟨1, _⟩ => exact Fin.ext (by show (h.val * 256 + j.val) % 256 = j.val; omega)
  refine Eq.trans ?_ (head_at x2 x0 x1 x3 r h j)
  show Value.Cat4_0 x2 x0 x1 x3 (Value.csel4_0 (ix2 r (col h j))) (Value.ix4_0 (ix2 r (col h j))) = _
  rw [eh, ej]

theorem index : ∀ t : Fin cfg0.N, win0_0.index t = ![0, t.val, 0] ∧ win0_1.index t = ![1, t.val, 0] ∧ win0_2.index t = ![t.val, 3] ∧ win0_3.index t = ![0, 0]
    ∧ win0_4.index t = ![t.val, 0] :=
  (by decide +kernel : ∀ t : Fin grid0.N, win0_0.index t = ![0, t.val, 0] ∧ win0_1.index t = ![1, t.val, 0] ∧ win0_2.index t = ![t.val, 3] ∧ win0_3.index t = ![0, 0]
    ∧ win0_4.index t = ![t.val, 0])
theorem flush : ∀ t : Fin cfg0.N, (cfg0.win 4).flush t = true := (by decide +kernel : ∀ t : Fin grid0.N, win0_4.flush t = true)

variable (m : (ℓ : Loc nD τ sig) → Buf (Elt Ideal) ℓ) (c : Dev nD)

/-- The kernel's arguments, the two directions' rows, the projection and the gain, and its result array. -/
abbrev argH : FVec Ideal S2x8192x1024 .f32 := m ((c.tc : Thread nD τ).loc main_arg0)
abbrev argP : FVec Ideal S8192x5120 .f32 := m ((c.tc : Thread nD τ).loc main_arg1)
abbrev argG : FVec Ideal S1x1024 .f32 := m ((c.tc : Thread nD τ).loc main_arg2)
abbrev out : FVec Ideal S8192x1024 .bf16 := (dats m 0 c).arrAt 4 cfg0.N

/-- The output gate's column of the projection. -/
def gate (l : Fin 1024) : Fin 5120 := ⟨3072 + l.val, by omega⟩

theorem read0 (t : Fin cfg0.N) (r : Fin 256) (l : Fin 1024) :
    (iblk m c 0 t : Vec Ideal S1x256x1024 .f32) (ix3 (0 : Fin 1) r l) = at3 (argH m c) 0 (t.val * 256 + r.val) l.val := by
  unfold iblk
  rw [View.read_apply]
  obtain ⟨i, -⟩ := index t
  exact at3_val (argH m c) _ (by change win0_0.index t 0 * 1 + 1 * 0 = _; rw [i]; rfl)
    (by change win0_0.index t 1 * 256 + 1 * r.val = _; rw [i, Nat.one_mul]; rfl)
    (by change win0_0.index t 2 * 1024 + 1 * l.val = _; rw [i]; change 0 * 1024 + 1 * l.val = _; omega)

theorem read1 (t : Fin cfg0.N) (r : Fin 256) (l : Fin 1024) :
    (iblk m c 1 t : Vec Ideal S1x256x1024 .f32) (ix3 (0 : Fin 1) r l) = at3 (argH m c) 1 (t.val * 256 + r.val) l.val := by
  unfold iblk
  rw [View.read_apply]
  obtain ⟨-, i, -⟩ := index t
  exact at3_val (argH m c) _ (by change win0_1.index t 0 * 1 + 1 * 0 = _; rw [i]; rfl)
    (by change win0_1.index t 1 * 256 + 1 * r.val = _; rw [i, Nat.one_mul]; rfl)
    (by change win0_1.index t 2 * 1024 + 1 * l.val = _; rw [i]; change 0 * 1024 + 1 * l.val = _; omega)

theorem out_at (r : Fin 8192) (h : Fin 4) (j : Fin 256) :
    out m c (ix2 r (col h j)) = post (fun l => argH m c (ix3 0 r l) + argH m c (ix3 1 r l)) (fun l => argP m c (ix2 r (gate l))) (fun l => argG m c (ix2 0 l)) h j := by
  have hN : r.val / 256 < cfg0.N := lt_of_lt_of_eq (by omega) N_0.symm
  obtain ⟨i0, i1, i2, i3, i4⟩ := index ⟨_, hN⟩
  obtain ⟨s, hs⟩ := place (p := 256) (by decide) r.val
  have b := congrFun ((Value.blocks4 m c ⟨_, hN⟩ (flush _)).trans (Value.flushed4 m c ⟨_, hN⟩)) (ix2 s (col h j))
  rw [View.read_apply] at b
  have e := (tile (out m c) _ i4 s (col h j) rfl rfl).symm.trans (b.trans (point_at _ _ _ _ s h j))
  rw [whole, hs, ← at_ix] at e
  refine e.trans ?_
  congr 1
  · funext l
    unfold both
    rw [read0, read1, hs, at3_val (argH m c) (ix3 0 r l) rfl rfl rfl, at3_val (argH m c) (ix3 1 r l) rfl rfl rfl]
    rfl
  · funext l
    unfold iblk
    rw [View.read_apply]
    refine (tile (argP m c) _ i2 s l rfl rfl).trans ?_
    rw [hs, at_ix (argP m c) r (gate l)]
    rfl
  · funext l
    unfold iblk
    rw [View.read_apply]
    exact entry (argG m c) _ i3 0 (0 : Fin 1) l rfl rfl rfl

/-! ## The claims -/

/-- The body table printed for words is the one printed for extended reals, read at words. -/
theorem bodies : Cert.MlstmPost.defs₀ (F := Bits) = defs₀ (F := Bits) := by
  unfold Cert.MlstmPost.defs₀ defs₀
  congr 1
  funext l a
  match l, a with
  | ⟨0, _⟩, (t, s) => rfl

theorem frame_p : Cert.quiescent_MlstmPost := by
  intro m ρ _
  unfold Cert.MlstmPost.defs
  rw [bodies]
  exact Gen.frame (F := Bits) m ρ

theorem frame_pi : Cert.quiescent_MlstmPostIdeal :=
  fun m ρ _ => Gen.frame (F := Ideal) m ρ

theorem frame_ri : Cert.quiescent_MlstmPostRefIdeal :=
  fun m ρ _ => (θ_run Cert.MlstmPostRefIdeal.defs _ _).mono
    (fun r h => ⟨fun c => (h c).2, sem_eq_zero_of_no_sems (by decide) r.2⟩) (Cert.MlstmPostRefIdeal.Value.run (F := Ideal) m ρ)

theorem preserves : Cert.preserves_MlstmPost_MlstmPostIdeal := trivial

/-- A head's mean square: dividing by its 256 columns is multiplying by the kernel's constant. -/
theorem mean (x : EReal) : Ideal.div x (Ideal.ofBits .f32 0x43800000#32) = x * Ideal.ofBits .f32 0x3B800000#32 := by
  have e1 : Ideal.ofBits .f32 0x43800000#32 = ((256 : ℝ) : EReal) := by
    simp [Ideal.ofBits, Ideal.ieee, -EReal.coe_mul]; norm_num
  have e2 : Ideal.ofBits .f32 0x3B800000#32 = ((1 / 256 : ℝ) : EReal) := by
    simp [Ideal.ofBits, Ideal.ieee, -EReal.coe_mul]; norm_num
  rw [e1, e2, Ideal.div_coe (by norm_num)]

theorem algebraic : Cert.algebraic_MlstmPostIdeal_MlstmPostRefIdeal := by
  intro m ρ m' ρ' _ hagree
  refine ⟨_, Value.run_blocks (F := Ideal) m ρ, ?_⟩
  refine (θ_run Cert.MlstmPostRefIdeal.defs _ _).mono (fun _ h c => ?_) (Cert.MlstmPostRefIdeal.Value.run (F := Ideal) m' ρ')
  obtain ⟨e0, kept⟩ := h c
  obtain ⟨b0, b1, b2⟩ := hagree c
  refine ⟨e0.trans (ext2 fun r l => ?_), kept⟩
  have el : col ⟨l.val / 256, by omega⟩ ⟨l.val % 256, by omega⟩ = l := Fin.ext (by show l.val / 256 * 256 + l.val % 256 = l.val; omega)
  have ep (s o g : Heads) : post s o g ⟨l.val / 256, by omega⟩ ⟨l.val % 256, by omega⟩ = Ideal.logistic (o l) * (s l
      * Ideal.rsqrt ((∑ k, s (col ⟨l.val / 256, by omega⟩ k) * s (col ⟨l.val / 256, by omega⟩ k)) * Ideal.ofBits .f32 0x3B800000#32 + Ideal.ofBits .f32 0x358637BD#32)
      * g (col ⟨l.val / 256, by omega⟩ ⟨l.val % 256, by omega⟩)) := by
    unfold post
    rw [el]
  refine Eq.trans ?_ ((congrArg (fun l => out m c (ix2 r l)) el.symm).trans (out_at m c r _ _)).symm
  simp only [pointwise, zero_add, mean]
  simp only [b0, b1, b2]
  refine Eq.trans (b := post (fun l => argH m c (ix3 0 (same r) (same l)) + argH m c (ix3 1 (same r) (same l)))
    (fun l => argP m c (ix2 (same r) (gate l))) (fun l => argG m c (ix2 0 l)) ⟨l.val / 256, by omega⟩ ⟨l.val % 256, by omega⟩) ?_ ?_
  · refine Eq.trans ?_ (ep _ _ _).symm
    rfl
  · simp only [same_eq]

end Cert.MlstmPostIdeal.Post
end
-- ==== Proof.MlstmPostBwd.lean ====
/- The backward pass of the mLSTM's last call: the kernel's result arrays are the gradients of the two directions' rows, of the
   output gate's columns and of the gain, and so are the reference's. -/
module
public import proofs.«01_k».proof.Defs
public import proofs.«01_k».proof.Proof.Rows
public import proofs.«01_k».proof.Proof.MlstmPost
public import proofs.«01_k».proof.Proof.Gen.MlstmPostBwdIdeal.Value
public import proofs.«01_k».proof.Proof.Gen.MlstmPostBwd
public import proofs.«01_k».proof.Proof.Gen.MlstmPostBwdRefIdeal.Run
public import Idealize.ShloMosaic.Lib.VecWindow
public import Idealize.ShloMosaic.Lib.Tactic
public import Idealize.ShloMosaic.Lib.Quiescent
@[expose] public section

set_option maxRecDepth 16384

noncomputable section

namespace Cert.MlstmPostBwdIdeal.Grad

open Cert.MlstmPostBwdIdeal Cert.MlstmPostBwdIdeal.Gen Cert.Blocks Cert.Tile
open Idealize.ShloMosaic Idealize.ShloMosaic.TcCoe Idealize.SL.Sem
open Cert.MlstmPostIdeal.Post (Heads col same same_eq gate mean)
open Cert.Rows (sweep sum_rows)

section Values

variable {F : FTy → Type} [FloatOps F] (x0 x1 : Vec F S1x256x1024 .f32) (x2 : Vec F S256x1024 .f32) (x3 : Vec F S1x1024 .f32) (x4 : Vec F S256x1024 .f32)

/-- What a point computes: the gradients of the rows and of the gate, and what the gain's gradient gains. -/
def rowsV : Vec F S256x1024 .f32 :=
  k0_pay63 (k0_pay4 x2) (k0_pay6 x0 x1) (k0_pay8 x0 x1) (k0_pay9 x0 x1) (k0_pay11 x3) (k0_pay15 x0 x1) (k0_pay41 x4)
    (k0_pay53 (k0_pay25 (k0_pay3 x0 x1)) (k0_pay27 (k0_pay3 x0 x1)) (k0_pay28 (k0_pay3 x0 x1))
      (k0_pay47 x3 (k0_pay32 x2) (k0_pay34 (k0_pay3 x0 x1)) (k0_pay36 (k0_pay3 x0 x1)) (k0_pay37 (k0_pay3 x0 x1)) k0_pay38 x4)
      (k0_pay51 (k0_pay23 x2) (k0_pay30 x3) x4))
    (k0_pay59 (k0_pay13 x2) (k0_pay18 (k0_pay16 x0 x1) (FloatOps.ofBits .f32 0x358637BD#32)) (k0_pay21 x3) (k0_pay42 x4))
    (k0_pay60 (k0_pay13 x2) (k0_pay15 x0 x1) (k0_pay19 (k0_pay16 x0 x1) (FloatOps.ofBits .f32 0x358637BD#32)) (k0_pay21 x3) (k0_pay42 x4))
def gateV : Vec F S256x1024 .f32 :=
  k0_pay64 (k0_pay5 x2) (k0_pay12 x0 x1 x3) (k0_pay14 x2) (k0_pay41 x4)
    (k0_pay54 (k0_pay24 x2) (k0_pay48 x3 (k0_pay33 x2) (k0_pay34 (k0_pay3 x0 x1)) (k0_pay36 (k0_pay3 x0 x1)) x4) (k0_pay50 (k0_pay31 x3 (k0_pay3 x0 x1)) x4))
    (k0_pay56 (k0_pay22 x3 (k0_pay15 x0 x1) (k0_pay16 x0 x1) (FloatOps.ofBits .f32 0x358637BD#32)) (k0_pay42 x4))
def gainV : Vec F S1x1024 .f32 :=
  k0_pay62 (k0_pay4 x2) (k0_pay10 x0 x1) (k0_pay41 x4)
    (k0_pay58 (k0_pay13 x2) (k0_pay20 (k0_pay15 x0 x1) (k0_pay16 x0 x1) (FloatOps.ofBits .f32 0x358637BD#32)) (k0_pay42 x4)
      (k0_pay46 (k0_pay32 x2) (k0_pay34 (k0_pay3 x0 x1)) (k0_pay36 (k0_pay3 x0 x1)) x4) (FloatOps.ofBits .f32 0x00000000#32)
      (k0_pay52 (k0_pay23 x2) (k0_pay29 (k0_pay3 x0 x1)) x4))

end Values

section Cases

variable {F : FTy → Type} [FloatOps F] (c : Dev nD) (i : grid0.Coords) (a0 : Memref sig .tc .vmem S1x256x1024 .f32) (h0 : a0.IsWhole) (a1 : Memref sig .tc .vmem S1x256x1024 .f32) (h1 : a1.IsWhole) (a2 : Memref sig .tc .vmem S256x1024 .f32) (h2 : a2.IsWhole) (a3 : Memref sig .tc .vmem S1x1024 .f32) (h3 : a3.IsWhole) (a4 : Memref sig .tc .vmem S256x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (a8 : Memref sig .tc .vmem S1x1024 .f32) (h8 : a8.IsWhole)
  (x0 x1 : Vec F S1x256x1024 .f32) (x2 : Vec F S256x1024 .f32) (x3 : Vec F S1x1024 .f32) (x4 : Vec F S256x1024 .f32) (y8 : Vec F S1x1024 .f32)

theorem case_A (hc : cond0_0 i) :
    (out0_A_5 c i a0 h0 a1 h1 a2 h2 a3 h3 a4 h4 a5 h5 a6 h6 a7 h7 a8 h8 hc x0 x1 x2 x3 x4,
      out0_A_6 c i a0 h0 a1 h1 a2 h2 a3 h3 a4 h4 a5 h5 a6 h6 a7 h7 a8 h8 hc x0 x1 x2 x3 x4,
      out0_A_7 c i a0 h0 a1 h1 a2 h2 a3 h3 a4 h4 a5 h5 a6 h6 a7 h7 a8 h8 hc x0 x1 x2 x3 x4,
      out0_A_8 c i a0 h0 a1 h1 a2 h2 a3 h3 a4 h4 a5 h5 a6 h6 a7 h7 a8 h8 hc x0 x1 x2 x3 x4)
      = (rowsV x0 x1 x2 x3 x4, rowsV x0 x1 x2 x3 x4, gateV x0 x1 x2 x3 x4, k0_pay2 (gainV x0 x1 x2 x4) (k0_pay1 (F := F))) := by
  unfold out0_A_5 out0_A_6 out0_A_7 out0_A_8
  rw [View.read_writes_eq_canon _ _ _ (cover0_A_5 c i a0 h0 a1 h1 a2 h2 a3 h3 a4 h4 a5 h5 a6 h6 a7 h7 a8 h8 hc x0 x1 x2 x3 x4),
    View.read_writes_eq_canon _ _ _ (cover0_A_6 c i a0 h0 a1 h1 a2 h2 a3 h3 a4 h4 a5 h5 a6 h6 a7 h7 a8 h8 hc x0 x1 x2 x3 x4),
    View.read_writes_eq_canon _ _ _ (cover0_A_7 c i a0 h0 a1 h1 a2 h2 a3 h3 a4 h4 a5 h5 a6 h6 a7 h7 a8 h8 hc x0 x1 x2 x3 x4),
    View.read_writes_eq_canon _ _ _ (cover0_A_8 c i a0 h0 a1 h1 a2 h2 a3 h3 a4 h4 a5 h5 a6 h6 a7 h7 a8 h8 hc x0 x1 x2 x3 x4)]
  unfold kernelRun0_A
  dsimp only
  sl_unfold_words
  simp only [View.canon_unit_zero (S := S256x1024) hz, View.canon_unit_zero (S := S1x1024) hz, View.canon_cons_unit_zero (S := S1x1024) hz, View.readCov_unit_zero (S := S1x1024) _ hz,
    View.readAt_eq_ld, h0.read_unread, h1.read_unread, h2.read_unread, h3.read_unread, h4.read_unread, View.ld_unit_zero (S := S1x256x1024) hz3,
    View.ld_unit_zero (S := S256x1024) hz, View.ld_unit_zero (S := S1x1024) hz]
  rfl

theorem case_B (hc : ¬cond0_0 i) :
    (out0_B_5 c i a0 h0 a1 h1 a2 h2 a3 h3 a4 h4 a5 h5 a6 h6 a7 h7 a8 h8 hc x0 x1 x2 x3 x4 y8,
      out0_B_6 c i a0 h0 a1 h1 a2 h2 a3 h3 a4 h4 a5 h5 a6 h6 a7 h7 a8 h8 hc x0 x1 x2 x3 x4 y8,
      out0_B_7 c i a0 h0 a1 h1 a2 h2 a3 h3 a4 h4 a5 h5 a6 h6 a7 h7 a8 h8 hc x0 x1 x2 x3 x4 y8,
      out0_B_8 c i a0 h0 a1 h1 a2 h2 a3 h3 a4 h4 a5 h5 a6 h6 a7 h7 a8 h8 hc x0 x1 x2 x3 x4 y8)
      = (rowsV x0 x1 x2 x3 x4, rowsV x0 x1 x2 x3 x4, gateV x0 x1 x2 x3 x4, k0_pay2 (gainV x0 x1 x2 x4) y8) := by
  unfold out0_B_5 out0_B_6 out0_B_7 out0_B_8
  rw [View.read_writes_eq_canon _ _ _ (cover0_B_5 c i a0 h0 a1 h1 a2 h2 a3 h3 a4 h4 a5 h5 a6 h6 a7 h7 a8 h8 hc x0 x1 x2 x3 x4 y8),
    View.read_writes_eq_canon _ _ _ (cover0_B_6 c i a0 h0 a1 h1 a2 h2 a3 h3 a4 h4 a5 h5 a6 h6 a7 h7 a8 h8 hc x0 x1 x2 x3 x4 y8),
    View.read_writes_eq_canon _ _ _ (cover0_B_7 c i a0 h0 a1 h1 a2 h2 a3 h3 a4 h4 a5 h5 a6 h6 a7 h7 a8 h8 hc x0 x1 x2 x3 x4 y8),
    View.read_writes_eq_canon _ _ _ (cover0_B_8 c i a0 h0 a1 h1 a2 h2 a3 h3 a4 h4 a5 h5 a6 h6 a7 h7 a8 h8 hc x0 x1 x2 x3 x4 y8)]
  unfold kernelRun0_B
  dsimp only
  sl_unfold_words
  simp only [View.canon_unit_zero (S := S256x1024) hz, View.canon_unit_zero (S := S1x1024) hz,
    View.readAt_eq_ld, h0.read_unread, h1.read_unread, h2.read_unread, h3.read_unread, h4.read_unread, h8.read_unread, View.ld_unit_zero (S := S1x256x1024) hz3,
    View.ld_unit_zero (S := S256x1024) hz, View.ld_unit_zero (S := S1x1024) hz]
  rfl

end Cases

/-! ## A head's gradients, of the summed rows `s`, the gate's columns `o`, the gain `g` and the gradient `d` of the result -/

section Row

variable (s o g d : Heads) (h : Fin 4) (j : Fin 256)

/-- The head's mean square with the norm's small number, the gradient of the normalised row with its gain and of the row without it. -/
def ms : EReal := (∑ k, s (col h k) * s (col h k)) * Ideal.ofBits .f32 0x3B800000#32 + Ideal.ofBits .f32 0x358637BD#32
def out (l : Fin 1024) : EReal := Ideal.logistic (o l) * d l
def pulled (l : Fin 1024) : EReal := out o d l * g l

/-- The part of the gradient that goes through the mean square. -/
def back : EReal := (∑ k, s (col h k) * pulled o g d (col h k)) * (Ideal.ofBits .f32 0xBF000000#32 * Ideal.div (Ideal.rsqrt (ms s h)) (ms s h)) * Ideal.ofBits .f32 0x3B800000#32

def dRow : EReal := pulled o g d (col h j) * Ideal.rsqrt (ms s h) + s (col h j) * back s o g d h + back s o g d h * s (col h j)
def dGate : EReal := d (col h j) * (s (col h j) * Ideal.rsqrt (ms s h) * g (col h j)) * (Ideal.logistic (o (col h j)) * (1 - Ideal.logistic (o (col h j))))
def dGain : EReal := s (col h j) * Ideal.rsqrt (ms s h) * out o d (col h j)

end Row

/-! ## A column of the heads, in a padded block -/

theorem lt1 (h : Fin 4) (j : Fin 256) : (col h j).val < 256 ↔ h.val < 1 := by unfold col; dsimp only; omega
theorem lt2 (h : Fin 4) (j : Fin 256) : (col h j).val < 512 ↔ h.val < 2 := by unfold col; dsimp only; omega
theorem lt3 (h : Fin 4) (j : Fin 256) : (col h j).val < 768 ↔ h.val < 3 := by unfold col; dsimp only; omega
theorem first_col (j p) : (⟨(col 0 j).val, p⟩ : Fin 256) = j := Fin.ext (by show 0 * 256 + j.val = j.val; omega)
theorem later_col {q : ℕ} (h : Fin 4) (n : ℕ) (e : n = h.val * 256) (j p) : (⟨(col h j).val - ![q, n] 1, p⟩ : Fin 256) = j :=
  Fin.ext (by subst e; show h.val * 256 + j.val - h.val * 256 = j.val; omega)

/-! ## Entries -/

def both (v1 v2 : Vec Ideal S1x256x1024 .f32) (r : Fin 256) : Heads := fun l => v1 (ix3 (0 : Fin 1) r l) + v2 (ix3 (0 : Fin 1) r l)

section Entries

variable (x0 x1 : Vec Ideal S1x256x1024 .f32) (x2 : Vec Ideal S256x1024 .f32) (x3 : Vec Ideal S1x1024 .f32) (x4 : Vec Ideal S256x1024 .f32) (r : Fin 256) (h : Fin 4) (j : Fin 256)

theorem gateV_at : gateV x0 x1 x2 x3 x4 (ix2 r (col h j)) = dGate (both x0 x1 (same r)) (fun l => x2 (ix2 (same r) l)) (fun l => x3 (ix2 0 l)) (fun l => x4 (ix2 (same r) l)) h j := by
  fin_cases h
  all_goals
    simp only [gateV, k0_pay64, k0_pay5, k0_pay12, k0_pay14, k0_pay54, k0_pay24, k0_pay48, k0_pay33, k0_pay50, k0_pay31, k0_pay56, k0_pay22, pointwise, zero_add, lt1, lt2, lt3]
    simp (decide := true) only [if_true, if_false, dite_true, dite_false, first_col, later_col 1 256 rfl, later_col 2 512 rfl, later_col 3 768 rfl, Fin.eta, add_zero, zero_add]
    simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay51, k0_pay55, k0_pay57, k0_pay59, k0_pay60, k0_pay61,
      pointwise, zero_add, Finset.univ_unique, Finset.sum_singleton]
    rfl

theorem rowsV_at : rowsV x0 x1 x2 x3 x4 (ix2 r (col h j)) = dRow (both x0 x1 (same r)) (fun l => x2 (ix2 (same r) l)) (fun l => x3 (ix2 0 l)) (fun l => x4 (ix2 (same r) l)) h j := by
  fin_cases h
  all_goals
    simp only [rowsV, k0_pay63, k0_pay53, k0_pay47, pointwise, zero_add, lt1, lt2, lt3]
    simp (decide := true) only [if_true, if_false, dite_true, dite_false, first_col, later_col 1 256 rfl, later_col 2 512 rfl, later_col 3 768 rfl, Fin.eta, add_zero, zero_add]
    simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay51, k0_pay55, k0_pay57, k0_pay59, k0_pay60, k0_pay61,
      pointwise, zero_add, Finset.univ_unique, Finset.sum_singleton]
    rfl

theorem gainV_at : gainV x0 x1 x2 x4 (ix2 0 (col h j)) = ∑ r, dGain (both x0 x1 (same r)) (fun l => x2 (ix2 (same r) l)) (fun l => x4 (ix2 (same r) l)) h j := by
  fin_cases h
  all_goals
    simp only [gainV, k0_pay62, k0_pay58, k0_pay46, k0_pay52, pointwise, zero_add, lt1, lt2, lt3]
    simp (decide := true) only [if_true, if_false, dite_true, dite_false, first_col, later_col 1 256 rfl, later_col 2 512 rfl, later_col 3 768 rfl, Fin.eta, add_zero, zero_add]
    simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay49, k0_pay51, k0_pay55, k0_pay57, k0_pay59, k0_pay60, k0_pay61,
      pointwise, zero_add, Finset.univ_unique, Finset.sum_singleton]
    rfl

end Entries

theorem gain_acc (x y : Vec Ideal S1x1024 .f32) (l : Fin 1024) : k0_pay2 x y (ix2 0 l) = y (ix2 0 l) + x (ix2 0 l) := by
  unfold k0_pay2
  simp only [pointwise]

theorem zero_at (y : S1x1024.Idx) : k0_pay1 (F := Ideal) y = 0 := by
  unfold k0_pay1
  simp only [pointwise]

/-! ## Which blocks a point reads and writes -/

theorem index : ∀ t : Fin cfg0.N, win0_0.index t = ![0, t.val, 0] ∧ win0_1.index t = ![1, t.val, 0] ∧ win0_2.index t = ![t.val, 3] ∧ win0_3.index t = ![0, 0]
    ∧ win0_4.index t = ![t.val, 1] :=
  (by decide +kernel : ∀ t : Fin grid0.N, win0_0.index t = ![0, t.val, 0] ∧ win0_1.index t = ![1, t.val, 0] ∧ win0_2.index t = ![t.val, 3] ∧ win0_3.index t = ![0, 0]
    ∧ win0_4.index t = ![t.val, 1])
theorem place_out : ∀ t : Fin cfg0.N, win0_5.index t = ![t.val, 0] ∧ win0_6.index t = ![t.val, 0] ∧ win0_7.index t = ![t.val, 0] ∧ win0_8.index t = ![0, 0] :=
  (by decide +kernel : ∀ t : Fin grid0.N, win0_5.index t = ![t.val, 0] ∧ win0_6.index t = ![t.val, 0] ∧ win0_7.index t = ![t.val, 0] ∧ win0_8.index t = ![0, 0])
theorem flush : ∀ t : Fin cfg0.N, (cfg0.win 5).flush t = true ∧ (cfg0.win 6).flush t = true ∧ (cfg0.win 7).flush t = true :=
  (by decide +kernel : ∀ t : Fin grid0.N, win0_5.flush t = true ∧ win0_6.flush t = true ∧ win0_7.flush t = true)
theorem flush8 : ∀ t : Fin cfg0.N, (cfg0.win 8).flush t = decide (t.val = 31) := (by decide +kernel : ∀ t : Fin grid0.N, win0_8.flush t = decide (t.val = 31))

variable (m : (ℓ : Loc nD τ sig) → Buf (Elt Ideal) ℓ) (c : Dev nD)

/-- The kernel's arguments, the two directions' rows, the projection, the gain and the gradient that reaches the call. -/
abbrev argH : FVec Ideal S2x8192x1024 .f32 := m ((c.tc : Thread nD τ).loc main_arg0)
abbrev argP : FVec Ideal S8192x5120 .f32 := m ((c.tc : Thread nD τ).loc main_arg1)
abbrev argG : FVec Ideal S1x1024 .f32 := m ((c.tc : Thread nD τ).loc main_arg2)
abbrev argD : FVec Ideal S8192x2048 .f32 := m ((c.tc : Thread nD τ).loc main_arg3)

/-- A row by its number: the two directions summed, the output gate, the gradient that reaches the call; and the gain. -/
def sumN (n : ℕ) : Heads := fun l => at3 (argH m c) 0 n l.val + at3 (argH m c) 1 n l.val
def gateN (n : ℕ) : Heads := fun l => at2 (argP m c) n (3 * 1024 + l.val)
def gradN (n : ℕ) : Heads := fun l => at2 (argD m c) n (1 * 1024 + l.val)
def gain : Heads := fun l => argG m c (ix2 0 l)

theorem read0 (t : Fin cfg0.N) (r : Fin 256) : both (iblk m c 0 t) (iblk m c 1 t) r = sumN m c (t.val * 256 + r.val) := by
  funext l
  obtain ⟨i0, i1, -⟩ := index t
  unfold both sumN iblk
  rw [View.read_apply, View.read_apply]
  refine congrArg₂ (· + ·) (at3_val (argH m c) _ ?_ ?_ ?_) (at3_val (argH m c) _ ?_ ?_ ?_)
  · change win0_0.index t 0 * 1 + 1 * 0 = _; rw [i0]; rfl
  · change win0_0.index t 1 * 256 + 1 * r.val = _; rw [i0, Nat.one_mul]; rfl
  · change win0_0.index t 2 * 1024 + 1 * l.val = _; rw [i0]; change 0 * 1024 + 1 * l.val = _; omega
  · change win0_1.index t 0 * 1 + 1 * 0 = _; rw [i1]; rfl
  · change win0_1.index t 1 * 256 + 1 * r.val = _; rw [i1, Nat.one_mul]; rfl
  · change win0_1.index t 2 * 1024 + 1 * l.val = _; rw [i1]; change 0 * 1024 + 1 * l.val = _; omega

theorem read2 (t : Fin cfg0.N) (r : Fin 256) : (fun l => (iblk m c 2 t : Vec Ideal S256x1024 .f32) (ix2 r l)) = gateN m c (t.val * 256 + r.val) := by
  funext l
  obtain ⟨-, -, i, -⟩ := index t
  unfold iblk
  rw [View.read_apply]
  exact tile (argP m c) _ i r l rfl rfl

theorem read3 (t : Fin cfg0.N) : (fun l => (iblk m c 3 t : Vec Ideal S1x1024 .f32) (ix2 0 l)) = gain m c := by
  funext l
  obtain ⟨-, -, -, i, -⟩ := index t
  unfold iblk
  rw [View.read_apply]
  exact Cert.Tile.entry (argG m c) _ i 0 (0 : Fin 1) l rfl rfl rfl

theorem read4 (t : Fin cfg0.N) (r : Fin 256) : (fun l => (iblk m c 4 t : Vec Ideal S256x1024 .f32) (ix2 r l)) = gradN m c (t.val * 256 + r.val) := by
  funext l
  obtain ⟨-, -, -, -, i⟩ := index t
  unfold iblk
  rw [View.read_apply]
  exact tile (argD m c) _ i r l rfl rfl

/-! ## What a point leaves -/

/-- What a row adds to the gain's gradient. -/
abbrev gainN (h : Fin 4) (j : Fin 256) (n : ℕ) : EReal := dGain (sumN m c n) (gateN m c n) (gradN m c n) h j

theorem next (h : Fin 4) (j : Fin 256) (n : ℕ) (hn : n + 1 < cfg0.N) :
    (outsAt0 m c (n + 1) hn).2.2.2 (ix2 0 (col h j))
      = (outsAt0 m c n (Nat.lt_of_succ_lt hn)).2.2.2 (ix2 0 (col h j)) + ∑ k : Fin 256, gainN m c h j ((n + 1) * 256 + k.val) := by
  have h0 : ¬(⟨n + 1, hn⟩ : Fin cfg0.N).val % 32 = 0 := by
    have := lt_of_lt_of_eq hn N_0
    dsimp only
    omega
  have e := (outsAt0_B m c ⟨n + 1, hn⟩ h0).trans (case_B ..)
  dsimp only at e
  rw [e]
  dsimp only
  rw [gain_acc, gainV_at]
  simp only [same_eq, read0, read2, read4]
  rfl

theorem first (h : Fin 4) (j : Fin 256) (hn : 0 < cfg0.N) :
    (outsAt0 m c 0 hn).2.2.2 (ix2 0 (col h j)) = ∑ k : Fin 256, gainN m c h j (0 * 256 + k.val) := by
  have e := (outsAt0_A m c ⟨0, hn⟩ rfl).trans (case_A ..)
  dsimp only at e
  rw [e]
  dsimp only
  rw [gain_acc, gainV_at, zero_at, zero_add]
  simp only [same_eq, read0, read2, read4]

/-- What a point leaves in the blocks of the rows' and the gate's gradients. -/
theorem rows_at (t : Fin cfg0.N) (r : Fin 256) (h : Fin 4) (j : Fin 256) :
    let g (f : Heads → Heads → Heads → Heads → Fin 4 → Fin 256 → EReal) :=
      f (sumN m c (t.val * 256 + r.val)) (gateN m c (t.val * 256 + r.val)) (gain m c) (gradN m c (t.val * 256 + r.val)) h j
    (outsAt0 m c t.val t.isLt).1 (ix2 r (col h j)) = g dRow ∧ (outsAt0 m c t.val t.isLt).2.1 (ix2 r (col h j)) = g dRow
      ∧ (outsAt0 m c t.val t.isLt).2.2.1 (ix2 r (col h j)) = g dGate := by
  intro g
  have e : (outsAt0 m c t.val t.isLt).1 = rowsV (iblk m c 0 t) (iblk m c 1 t) (iblk m c 2 t) (iblk m c 3 t) (iblk m c 4 t)
      ∧ (outsAt0 m c t.val t.isLt).2.1 = rowsV (iblk m c 0 t) (iblk m c 1 t) (iblk m c 2 t) (iblk m c 3 t) (iblk m c 4 t)
      ∧ (outsAt0 m c t.val t.isLt).2.2.1 = gateV (iblk m c 0 t) (iblk m c 1 t) (iblk m c 2 t) (iblk m c 3 t) (iblk m c 4 t) := by
    by_cases h0 : t.val % 32 = 0
    · rw [(outsAt0_A m c t h0).trans (case_A ..)]
      exact ⟨rfl, rfl, rfl⟩
    · rw [(outsAt0_B m c t h0).trans (case_B ..)]
      exact ⟨rfl, rfl, rfl⟩
  rw [e.1, e.2.1, e.2.2, rowsV_at, gateV_at]
  simp only [same_eq, read0, read2, read3, read4]
  exact ⟨rfl, rfl, rfl⟩

/-! ## The result arrays -/

abbrev outF : FVec Ideal S8192x1024 .f32 := (dats m 0 c).arrAt 5 cfg0.N

theorem outF_at (r : Fin 8192) (h : Fin 4) (j : Fin 256) :
    outF m c (ix2 r (col h j)) = dRow (sumN m c r.val) (gateN m c r.val) (gain m c) (gradN m c r.val) h j := by
  have hN : r.val / 256 < cfg0.N := lt_of_lt_of_eq (by omega) N_0.symm
  obtain ⟨s, hs⟩ := place (p := 256) (by decide) r.val
  have b := congrFun ((Value.blocks5 m c ⟨_, hN⟩ (flush _).1).trans (Value.flushed5 m c ⟨_, hN⟩)) (ix2 s (col h j))
  rw [View.read_apply] at b
  have e := (tile (outF m c) _ (place_out ⟨_, hN⟩).1 s (col h j) rfl rfl).symm.trans (b.trans (rows_at m c ⟨_, hN⟩ s h j).1)
  rw [whole, hs, ← at_ix] at e
  exact e

abbrev outB : FVec Ideal S8192x1024 .f32 := (dats m 0 c).arrAt 6 cfg0.N

theorem outB_at (r : Fin 8192) (h : Fin 4) (j : Fin 256) :
    outB m c (ix2 r (col h j)) = dRow (sumN m c r.val) (gateN m c r.val) (gain m c) (gradN m c r.val) h j := by
  have hN : r.val / 256 < cfg0.N := lt_of_lt_of_eq (by omega) N_0.symm
  obtain ⟨s, hs⟩ := place (p := 256) (by decide) r.val
  have b := congrFun ((Value.blocks6 m c ⟨_, hN⟩ (flush _).2.1).trans (Value.flushed6 m c ⟨_, hN⟩)) (ix2 s (col h j))
  rw [View.read_apply] at b
  have e := (tile (outB m c) _ (place_out ⟨_, hN⟩).2.1 s (col h j) rfl rfl).symm.trans (b.trans (rows_at m c ⟨_, hN⟩ s h j).2.1)
  rw [whole, hs, ← at_ix] at e
  exact e

abbrev outO : FVec Ideal S8192x1024 .f32 := (dats m 0 c).arrAt 7 cfg0.N

theorem outO_at (r : Fin 8192) (h : Fin 4) (j : Fin 256) :
    outO m c (ix2 r (col h j)) = dGate (sumN m c r.val) (gateN m c r.val) (gain m c) (gradN m c r.val) h j := by
  have hN : r.val / 256 < cfg0.N := lt_of_lt_of_eq (by omega) N_0.symm
  obtain ⟨s, hs⟩ := place (p := 256) (by decide) r.val
  have b := congrFun ((Value.blocks7 m c ⟨_, hN⟩ (flush _).2.2).trans (Value.flushed7 m c ⟨_, hN⟩)) (ix2 s (col h j))
  rw [View.read_apply] at b
  have e := (tile (outO m c) _ (place_out ⟨_, hN⟩).2.2.1 s (col h j) rfl rfl).symm.trans (b.trans (rows_at m c ⟨_, hN⟩ s h j).2.2)
  rw [whole, hs, ← at_ix] at e
  exact e

/-- The last point, which alone writes the accumulated result back. -/
theorem last : ∃ t : Fin cfg0.N, t.val = 31 := ⟨⟨31, lt_of_lt_of_eq (by decide) N_0.symm⟩, rfl⟩

theorem once : ∀ t t' : Fin cfg0.N, (cfg0.win 8).flush t = true → (cfg0.win 8).flush t' = true → t ≠ t' →
    Disjoint ((cfg0.win 8).blk t).view.set ((cfg0.win 8).blk t').view.set :=
  fun t t' ht ht' hne => absurd (Fin.ext ((of_decide_eq_true ((flush8 t).symm.trans ht)).trans (of_decide_eq_true ((flush8 t').symm.trans ht')).symm)) hne

abbrev outG : FVec Ideal S1x1024 .f32 := (dats m 0 c).arrAt 8 cfg0.N

theorem outG_at (h : Fin 4) (j : Fin 256) : outG m c (ix2 0 (col h j)) = ∑ k : Fin 8192, gainN m c h j k.val := by
  obtain ⟨t, ht⟩ := last
  have e := congrFun ((dats m 0 c).read_blk_arrAt_eq_flushed 8 once cfg0.N t t.isLt ((flush8 t).trans (decide_eq_true ht))) (ix2 0 (col h j))
  rw [View.read_apply] at e
  refine (Cert.Tile.entry (outG m c) _ (place_out t).2.2.2 0 (0 : Fin 1) (col h j) rfl rfl rfl).symm.trans (e.trans ?_)
  rw [Value.flushed8]
  have s := sweep (fun n hn _ => (outsAt0 m c n hn).2.2.2 (ix2 0 (col h j))) (fun _ n => gainN m c h j n)
    (fun hn _ => first m c h j hn) (fun n hn _ => next m c h j n hn) t.val t.isLt 0
  rw [show (t.val + 1) * 256 = 8192 by rw [ht]] at s
  exact Eq.trans s (sum_rows _ _ fun k => rfl)

/-! ## The claims -/

/-- The body table printed for words is the one printed for extended reals, read at words. -/
theorem bodies : Cert.MlstmPostBwd.defs₀ (F := Bits) = defs₀ (F := Bits) := by
  unfold Cert.MlstmPostBwd.defs₀ defs₀
  congr 1
  funext l a
  match l, a with
  | ⟨0, _⟩, (t, s) => rfl

theorem frame_p : Cert.quiescent_MlstmPostBwd := by
  intro m ρ _
  unfold Cert.MlstmPostBwd.defs
  rw [bodies]
  exact Gen.frame (F := Bits) m ρ

theorem frame_pi : Cert.quiescent_MlstmPostBwdIdeal :=
  fun m ρ _ => Gen.frame (F := Ideal) m ρ

theorem frame_ri : Cert.quiescent_MlstmPostBwdRefIdeal :=
  fun m ρ _ => (θ_run Cert.MlstmPostBwdRefIdeal.defs _ _).mono
    (fun r h => ⟨fun c => (h c).2.2.2.2, sem_eq_zero_of_no_sems (by decide) r.2⟩) (Cert.MlstmPostBwdRefIdeal.Value.run (F := Ideal) m ρ)

theorem preserves : Cert.preserves_MlstmPostBwd_MlstmPostBwdIdeal := trivial

/-- A row by its number, as the reference reads it. -/
theorem sum_eq (r : Fin 8192) : sumN m c r.val = fun l => argH m c (ix3 0 (same r) (same l)) + argH m c (ix3 1 (same r) (same l)) := by
  simp only [same_eq]
  exact funext fun l => congrArg₂ (· + ·) (at3_val (argH m c) (ix3 0 r l) rfl rfl rfl).symm (at3_val (argH m c) (ix3 1 r l) rfl rfl rfl).symm
theorem gate_eq (r : Fin 8192) : gateN m c r.val = fun l => argP m c (ix2 (same r) (gate l)) := by
  simp only [same_eq]
  exact funext fun l => (at2_val (argP m c) (ix2 r (gate l)) rfl rfl).symm
theorem grad_eq (r : Fin 8192) : gradN m c r.val = fun l => argD m c (ix2 (same r) ⟨1024 + l.val, by omega⟩) := by
  simp only [same_eq]
  exact funext fun l => (at2_val (argD m c) (ix2 r ⟨1024 + l.val, by omega⟩) rfl rfl).symm

end Cert.MlstmPostBwdIdeal.Grad
end
-- ==== Proof.MlstmPostBwdRef.lean ====
/- The reference of the backward pass of the mLSTM's last call: its results are the gradients the kernel's result arrays hold. -/
module
public import proofs.«01_k».proof.Proof.MlstmPostBwd
@[expose] public section

set_option maxRecDepth 16384

noncomputable section

namespace Cert.MlstmPostBwdRefIdeal.Grad

open Cert.MlstmPostBwdRefIdeal Cert.MlstmPostBwdRefIdeal.Gen Cert.Blocks
open Cert.MlstmPostBwdIdeal.Grad (dRow dGate dGain)
open Idealize.ShloMosaic Idealize.ShloMosaic.TcCoe Idealize.SL.Sem
open Cert.MlstmPostIdeal.Post (Heads col same same_eq gate mean)

variable (m : (ℓ : Loc nD τ sig) → Buf (Elt Ideal) ℓ) (c : Dev nD)

/-- The reference's arguments, as the kernel's. -/
abbrev argH : FVec Ideal S2x8192x1024 .f32 := m ((c.tc : Thread nD τ).loc main_arg0)
abbrev argP : FVec Ideal S8192x5120 .f32 := m ((c.tc : Thread nD τ).loc main_arg1)
abbrev argG : FVec Ideal S1x1024 .f32 := m ((c.tc : Thread nD τ).loc main_arg2)
abbrev argD : FVec Ideal S8192x2048 .f32 := m ((c.tc : Thread nD τ).loc main_arg3)

/-- A row as the reference reads it: the two directions summed, the output gate, the gradient that reaches the call. -/
abbrev sum (r : Fin 8192) : Heads := fun l => argH m c (ix3 0 (same r) (same l)) + argH m c (ix3 1 (same r) (same l))
abbrev gateR (r : Fin 8192) : Heads := fun l => argP m c (ix2 (same r) (gate l))
abbrev gradR (r : Fin 8192) : Heads := fun l => argD m c (ix2 (same r) ⟨1024 + l.val, by omega⟩)

theorem split (l : Fin 1024) : col ⟨l.val / 256, by omega⟩ ⟨l.val % 256, by omega⟩ = l :=
  Fin.ext (by show l.val / 256 * 256 + l.val % 256 = l.val; omega)

open Cert.MlstmPostBwdIdeal.Grad (ms back) in
/-- The gradients at a column, the gain's column left as the reference reads it. -/
theorem dRow_at (s o g d : Heads) (l : Fin 1024) : dRow s o g d ⟨l.val / 256, by omega⟩ ⟨l.val % 256, by omega⟩
    = Ideal.logistic (o l) * d l * g (col ⟨l.val / 256, by omega⟩ ⟨l.val % 256, by omega⟩) * Ideal.rsqrt (ms s ⟨l.val / 256, by omega⟩) + s l * back s o g d ⟨l.val / 256, by omega⟩ + back s o g d ⟨l.val / 256, by omega⟩ * s l := by
  unfold dRow Cert.MlstmPostBwdIdeal.Grad.pulled Cert.MlstmPostBwdIdeal.Grad.out
  rw [split]
open Cert.MlstmPostBwdIdeal.Grad (ms) in
theorem dGate_at (s o g d : Heads) (l : Fin 1024) : dGate s o g d ⟨l.val / 256, by omega⟩ ⟨l.val % 256, by omega⟩
    = d l * (s l * Ideal.rsqrt (ms s ⟨l.val / 256, by omega⟩) * g (col ⟨l.val / 256, by omega⟩ ⟨l.val % 256, by omega⟩)) * (Ideal.logistic (o l) * (1 - Ideal.logistic (o l))) := by
  unfold dGate
  rw [split]
open Cert.MlstmPostBwdIdeal.Grad (ms) in
theorem dGain_at (s o d : Heads) (l : Fin 1024) : dGain s o d ⟨l.val / 256, by omega⟩ ⟨l.val % 256, by omega⟩
    = s l * Ideal.rsqrt (ms s ⟨l.val / 256, by omega⟩) * (Ideal.logistic (o l) * d l) := by
  unfold dGain Cert.MlstmPostBwdIdeal.Grad.out
  rw [split]

theorem row (r : Fin 8192) (l : Fin 1024) : (Value.res_main_v63 m c : FVec Ideal S8192x1024 .f32) (ix2 r l)
    = dRow (sum m c r) (gateR m c r) (fun l => argG m c (ix2 0 l)) (gradR m c r) ⟨l.val / 256, by omega⟩ ⟨l.val % 256, by omega⟩ := by
  unfold Value.res_main_v63
  simp only [pointwise, zero_add, mean, Finset.univ_unique, Finset.sum_singleton]
  refine Eq.trans ?_ (dRow_at _ _ _ _ l).symm
  rfl

open Cert.MlstmPostBwdIdeal.Grad (sumN gateN gradN gain gainN sum_eq gate_eq grad_eq outF outB outO outG outF_at outB_at outO_at outG_at) in
theorem algebraic : Cert.algebraic_MlstmPostBwdIdeal_MlstmPostBwdRefIdeal := by
  intro m ρ m' ρ' _ hagree
  refine ⟨_, _, _, _, Cert.MlstmPostBwdIdeal.Value.run_blocks (F := Ideal) m ρ, ?_⟩
  refine (θ_run defs _ _).mono (fun _ h c => ?_) (Value.run (F := Ideal) m' ρ')
  obtain ⟨e0, e1, e2, e3, kept⟩ := h c
  obtain ⟨b0, b1, b2, b3⟩ := hagree c
  have row (r : Fin 8192) (l : Fin 1024) : (Value.res_main_v63 m' c : FVec Ideal S8192x1024 .f32) (ix2 r l)
      = dRow (sumN m c r.val) (gateN m c r.val) (gain m c) (gradN m c r.val) ⟨l.val / 256, by omega⟩ ⟨l.val % 256, by omega⟩ := by
    refine (row m' c r l).trans ?_
    unfold sum gateR gradR argH argP argG argD
    rw [b0, b1, b2, b3, sum_eq, gate_eq, grad_eq]
    rfl
  refine ⟨e0.trans (ext2 fun r l => ?_), e1.trans (ext2 fun r l => ?_), e2.trans (ext2 fun r l => ?_), e3.trans (ext2 fun r l => ?_), kept⟩
  · exact (row r l).trans ((congrArg (fun l => outF m c (ix2 r l)) (split l).symm).trans (outF_at m c r _ _)).symm
  · exact (row r l).trans ((congrArg (fun l => outB m c (ix2 r l)) (split l).symm).trans (outB_at m c r _ _)).symm
  · refine Eq.trans ?_ ((congrArg (fun l => outO m c (ix2 r l)) (split l).symm).trans (outO_at m c r _ _)).symm
    simp only [pointwise, zero_add, mean, Finset.univ_unique, Finset.sum_singleton]
    refine Eq.trans (b := dGate (sum m' c r) (gateR m' c r) (fun l => argG m' c (ix2 0 l)) (gradR m' c r) ⟨l.val / 256, by omega⟩ ⟨l.val % 256, by omega⟩) ?_ ?_
    · refine Eq.trans ?_ (dGate_at _ _ _ _ l).symm
      rfl
    · unfold sum gateR gradR argH argP argG argD
      rw [b0, b1, b2, b3, sum_eq, gate_eq, grad_eq]
      rfl
  · obtain rfl : r = 0 := Subsingleton.elim _ _
    refine Eq.trans ?_ ((congrArg (fun l => outG m c (ix2 0 l)) (split l).symm).trans (outG_at m c _ _)).symm
    simp only [pointwise, zero_add, mean, Finset.univ_unique, Finset.sum_singleton]
    refine Finset.sum_congr rfl fun k _ => ?_
    refine Eq.trans (b := dGain (sum m' c k) (gateR m' c k) (gradR m' c k) ⟨l.val / 256, by omega⟩ ⟨l.val % 256, by omega⟩) ?_ ?_
    · refine Eq.trans ?_ (dGain_at _ _ _ l).symm
      rfl
    · unfold sum gateR gradR argH argP argD
      rw [b0, b1, b3, gainN, sum_eq, gate_eq, grad_eq]

end Cert.MlstmPostBwdRefIdeal.Grad
end
-- ==== Proof.NormForward.lean ====
/- The forward passes of the layer's two norms: a result row is the modulated norm of its row, and so is the reference's. -/
module
public import proofs.«01_k».proof.Defs
public import proofs.«01_k».proof.Proof.Rows
public import proofs.«01_k».proof.Proof.Tile
public import proofs.«01_k».proof.Proof.Gen.NormMixFwdIdeal.Value
public import proofs.«01_k».proof.Proof.Gen.NormMixFwd
public import proofs.«01_k».proof.Proof.Gen.NormMixFwdRefIdeal.Run
public import proofs.«01_k».proof.Proof.Gen.NormMlpFwdIdeal.Value
public import proofs.«01_k».proof.Proof.Gen.NormMlpFwd
public import proofs.«01_k».proof.Proof.Gen.NormMlpFwdRefIdeal.Run
public import Idealize.ShloMosaic.Lib.VecWindow
public import Idealize.ShloMosaic.Lib.Tactic
public import Idealize.ShloMosaic.Lib.Quiescent
@[expose] public section

set_option maxRecDepth 16384

noncomputable section

namespace Cert.Rows

open Idealize.ShloMosaic Cert.Blocks Cert.Tile

/-- A normalised row with its gain, scaled and shifted. -/
def modulated (x g shift scale : Row) : Row := fun l => x l * Ideal.rsqrt (msq x) * g l * (1 + scale l) + shift l

/-- A row of a tile of whole rows. -/
theorem row_tile {a p n : ℕ} {k : Fin 2 → ℕ} (hk : k = ![n, 0]) (x : (⟨2, ![a, 2048]⟩ : Shape).Idx → EReal) (v : (⟨2, ![p, 2048]⟩ : Shape).Idx → EReal)
    (f : (⟨2, ![p, 2048]⟩ : Shape).Idx → (⟨2, ![a, 2048]⟩ : Shape).Idx) (hv : ∀ y, v y = x (f y))
    (h0 : ∀ y, (f y 0).val = k 0 * p + 1 * (y 0).val) (h1 : ∀ y, (f y 1).val = k 1 * 2048 + 1 * (y 1).val)
    (i : Fin a) (r : Fin p) (hr : n * p + r.val = i.val) : row v r = row x i := by
  funext l
  refine (hv _).trans ((tile x _ hk r l (h0 _) (h1 _)).trans ?_)
  rw [whole, hr, ← at_ix]
  rfl

end Cert.Rows

namespace Cert.NormMixFwdIdeal.Norm

open Cert.NormMixFwdIdeal Cert.NormMixFwdIdeal.Gen Cert.Blocks Cert.Tile Cert.Rows
open Idealize.ShloMosaic Idealize.ShloMosaic.TcCoe Idealize.SL.Sem

theorem point_at (x0 : Vec Ideal S256x2048 .f32) (x1 x2 x3 : Vec Ideal S1x2048 .f32) (r : Fin 256) (l : Fin 2048) :
    out0_4 x0 x1 x2 x3 (ix2 r l) = modulated (row x0 r) (row x1 0) (row x2 0) (row x3 0) l := by
  unfold out0_4
  simp only [r0_0, r0_1, View.canon_unit_zero (S := S256x2048) hz, View.ld_unit_zero (S := S256x2048) hz, View.ld_unit_zero (S := S1x2048) hz]
  unfold k0_pay1
  simp only [pointwise, zero_add]
  rfl

theorem index : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0])
theorem flush : ∀ t : Fin cfg0.N, (cfg0.win 4).flush t = true := (by decide +kernel : ∀ t : Fin grid0.N, win0_4.flush t = true)

variable (m : (ℓ : Loc nD τ sig) → Buf (Elt Ideal) ℓ) (c : Dev nD)

/-- The kernel's arguments, the rows, the gain, the shift and the scale, and its result array. -/
abbrev argX : FVec Ideal S8192x2048 .f32 := m ((c.tc : Thread nD τ).loc main_arg0)
abbrev argG : FVec Ideal S1x2048 .f32 := m ((c.tc : Thread nD τ).loc main_arg1)
abbrev argH : FVec Ideal S1x2048 .f32 := m ((c.tc : Thread nD τ).loc main_arg2)
abbrev argS : FVec Ideal S1x2048 .f32 := m ((c.tc : Thread nD τ).loc main_arg3)
abbrev out : FVec Ideal S8192x2048 .bf16 := (dats m 0 c).arrAt 4 cfg0.N

theorem out_at (r : Fin 8192) (l : Fin 2048) :
    out m c (ix2 r l) = modulated (row (argX m c) r) (row (argG m c) 0) (row (argH m c) 0) (row (argS m c) 0) l := by
  have hN : r.val / 256 < cfg0.N := lt_of_lt_of_eq (by omega) N_0.symm
  obtain ⟨i0, i1, i2, i3, i4⟩ := index ⟨_, hN⟩
  obtain ⟨s, hs⟩ := place (p := 256) (by decide) r.val
  have b := congrFun ((Value.blocks4 m c ⟨_, hN⟩ (flush _)).trans (Value.flushed4 m c ⟨_, hN⟩)) (ix2 s l)
  rw [View.read_apply] at b
  have e := (tile (out m c) _ i4 s l rfl rfl).symm.trans (b.trans (point_at _ _ _ _ s l))
  rw [whole, hs, ← at_ix] at e
  rw [row_tile i0 (argX m c) (iblk m c 0 ⟨_, hN⟩) _ (fun _ => rfl) (fun _ => rfl) (fun _ => rfl) r s hs,
    row_tile i1 (argG m c) (iblk m c 1 ⟨_, hN⟩) _ (fun _ => rfl) (fun _ => rfl) (fun _ => rfl) 0 (0 : Fin 1) rfl,
    row_tile i2 (argH m c) (iblk m c 2 ⟨_, hN⟩) _ (fun _ => rfl) (fun _ => rfl) (fun _ => rfl) 0 (0 : Fin 1) rfl,
    row_tile i3 (argS m c) (iblk m c 3 ⟨_, hN⟩) _ (fun _ => rfl) (fun _ => rfl) (fun _ => rfl) 0 (0 : Fin 1) rfl] at e
  exact e

/-! ## The claims -/

/-- The body table printed for words is the one printed for extended reals, read at words. -/
theorem bodies : Cert.NormMixFwd.defs₀ (F := Bits) = defs₀ (F := Bits) := by
  unfold Cert.NormMixFwd.defs₀ defs₀
  congr 1
  funext l a
  match l, a with
  | ⟨0, _⟩, (t, s) => rfl

theorem frame_p : Cert.quiescent_NormMixFwd := by
  intro m ρ _
  unfold Cert.NormMixFwd.defs
  rw [bodies]
  exact Gen.frame (F := Bits) m ρ

theorem frame_pi : Cert.quiescent_NormMixFwdIdeal :=
  fun m ρ _ => Gen.frame (F := Ideal) m ρ

theorem frame_ri : Cert.quiescent_NormMixFwdRefIdeal :=
  fun m ρ _ => (θ_run Cert.NormMixFwdRefIdeal.defs _ _).mono
    (fun r h => ⟨fun c => (h c).2, sem_eq_zero_of_no_sems (by decide) r.2⟩) (Cert.NormMixFwdRefIdeal.Value.run (F := Ideal) m ρ)

theorem preserves : Cert.preserves_NormMixFwd_NormMixFwdIdeal := trivial

theorem algebraic : Cert.algebraic_NormMixFwdIdeal_NormMixFwdRefIdeal := by
  intro m ρ m' ρ' _ hagree
  refine ⟨_, Value.run_blocks (F := Ideal) m ρ, ?_⟩
  refine (θ_run Cert.NormMixFwdRefIdeal.defs _ _).mono (fun _ h c => ?_) (Cert.NormMixFwdRefIdeal.Value.run (F := Ideal) m' ρ')
  obtain ⟨e0, kept⟩ := h c
  obtain ⟨b0, b1, b2, b3⟩ := hagree c
  refine ⟨e0.trans (ext2 fun r l => Eq.trans ?_ (out_at m c r l).symm), kept⟩
  simp only [pointwise, zero_add, mean]
  rw [b0, b1, b2, b3]
  rfl

end Cert.NormMixFwdIdeal.Norm

namespace Cert.NormMlpFwdIdeal.Norm

open Cert.NormMlpFwdIdeal Cert.NormMlpFwdIdeal.Gen Cert.Blocks Cert.Tile Cert.Rows
open Idealize.ShloMosaic Idealize.ShloMosaic.TcCoe Idealize.SL.Sem

theorem point_at (x0 x1 : Vec Ideal S256x2048 .f32) (x2 x3 x4 x5 : Vec Ideal S1x2048 .f32) (r : Fin 256) (l : Fin 2048) :
    out0_6 x0 x1 x2 x3 x4 x5 (ix2 r l) = gated (row x0 r) (row x1 r) (row x2 0) l
      ∧ out0_7 x0 x1 x2 x3 x4 x5 (ix2 r l) = modulated (gated (row x0 r) (row x1 r) (row x2 0)) (row x3 0) (row x4 0) (row x5 0) l := by
  unfold out0_6 out0_7
  simp only [r0_0, r0_1, View.canon_unit_zero (S := S256x2048) hz, View.ld_unit_zero (S := S256x2048) hz, View.ld_unit_zero (S := S1x2048) hz]
  unfold k0_pay2 k0_pay1
  simp only [pointwise, zero_add]
  exact ⟨rfl, rfl⟩

theorem index : ∀ t : Fin cfg0.N, (win0_0.index t = ![t.val, 0] ∧ win0_1.index t = ![t.val, 0] ∧ win0_2.index t = ![0, 0] ∧ win0_3.index t = ![0, 0])
    ∧ win0_4.index t = ![0, 0] ∧ win0_5.index t = ![0, 0] ∧ win0_6.index t = ![t.val, 0] ∧ win0_7.index t = ![t.val, 0] :=
  (by decide +kernel : ∀ t : Fin grid0.N, (win0_0.index t = ![t.val, 0] ∧ win0_1.index t = ![t.val, 0] ∧ win0_2.index t = ![0, 0] ∧ win0_3.index t = ![0, 0])
    ∧ win0_4.index t = ![0, 0] ∧ win0_5.index t = ![0, 0] ∧ win0_6.index t = ![t.val, 0] ∧ win0_7.index t = ![t.val, 0])
theorem flush : ∀ t : Fin cfg0.N, (cfg0.win 6).flush t = true ∧ (cfg0.win 7).flush t = true :=
  (by decide +kernel : ∀ t : Fin grid0.N, win0_6.flush t = true ∧ win0_7.flush t = true)

variable (m : (ℓ : Loc nD τ sig) → Buf (Elt Ideal) ℓ) (c : Dev nD)

/-- The kernel's arguments, the rows, the mixed rows, the gate, the gain, the shift and the scale, and its result arrays. -/
abbrev argX : FVec Ideal S8192x2048 .f32 := m ((c.tc : Thread nD τ).loc main_arg0)
abbrev argY : FVec Ideal S8192x2048 .f32 := m ((c.tc : Thread nD τ).loc main_arg1)
abbrev argA : FVec Ideal S1x2048 .f32 := m ((c.tc : Thread nD τ).loc main_arg2)
abbrev argG : FVec Ideal S1x2048 .f32 := m ((c.tc : Thread nD τ).loc main_arg3)
abbrev argH : FVec Ideal S1x2048 .f32 := m ((c.tc : Thread nD τ).loc main_arg4)
abbrev argS : FVec Ideal S1x2048 .f32 := m ((c.tc : Thread nD τ).loc main_arg5)
abbrev outX : FVec Ideal S8192x2048 .f32 := (dats m 0 c).arrAt 6 cfg0.N
abbrev outH : FVec Ideal S8192x2048 .bf16 := (dats m 0 c).arrAt 7 cfg0.N

theorem out_at (r : Fin 8192) (l : Fin 2048) :
    outX m c (ix2 r l) = gated (row (argX m c) r) (row (argY m c) r) (row (argA m c) 0) l
      ∧ outH m c (ix2 r l) = modulated (gated (row (argX m c) r) (row (argY m c) r) (row (argA m c) 0)) (row (argG m c) 0) (row (argH m c) 0) (row (argS m c) 0) l := by
  have hN : r.val / 256 < cfg0.N := lt_of_lt_of_eq (by omega) N_0.symm
  obtain ⟨⟨i0, i1, i2, i3⟩, i4, i5, i6, i7⟩ := index ⟨_, hN⟩
  obtain ⟨f6, f7⟩ := flush ⟨_, hN⟩
  obtain ⟨s, hs⟩ := place (p := 256) (by decide) r.val
  have b6 := congrFun ((Value.blocks6 m c ⟨_, hN⟩ f6).trans (Value.flushed6 m c ⟨_, hN⟩)) (ix2 s l)
  have b7 := congrFun ((Value.blocks7 m c ⟨_, hN⟩ f7).trans (Value.flushed7 m c ⟨_, hN⟩)) (ix2 s l)
  rw [View.read_apply] at b6 b7
  have e := (tile (outX m c) _ i6 s l rfl rfl).symm.trans (b6.trans (point_at _ _ _ _ _ _ s l).1)
  have e' := (tile (outH m c) _ i7 s l rfl rfl).symm.trans (b7.trans (point_at _ _ _ _ _ _ s l).2)
  have r0 := row_tile i0 (argX m c) (iblk m c 0 ⟨_, hN⟩) _ (fun _ => rfl) (fun _ => rfl) (fun _ => rfl) r s hs
  have r1 := row_tile i1 (argY m c) (iblk m c 1 ⟨_, hN⟩) _ (fun _ => rfl) (fun _ => rfl) (fun _ => rfl) r s hs
  have r2 := row_tile i2 (argA m c) (iblk m c 2 ⟨_, hN⟩) _ (fun _ => rfl) (fun _ => rfl) (fun _ => rfl) 0 (0 : Fin 1) rfl
  rw [whole, hs, ← at_ix, r0, r1, r2] at e e'
  rw [row_tile i3 (argG m c) (iblk m c 3 ⟨_, hN⟩) _ (fun _ => rfl) (fun _ => rfl) (fun _ => rfl) 0 (0 : Fin 1) rfl,
    row_tile i4 (argH m c) (iblk m c 4 ⟨_, hN⟩) _ (fun _ => rfl) (fun _ => rfl) (fun _ => rfl) 0 (0 : Fin 1) rfl,
    row_tile i5 (argS m c) (iblk m c 5 ⟨_, hN⟩) _ (fun _ => rfl) (fun _ => rfl) (fun _ => rfl) 0 (0 : Fin 1) rfl] at e'
  exact ⟨e, e'⟩

/-! ## The claims -/

/-- The body table printed for words is the one printed for extended reals, read at words. -/
theorem bodies : Cert.NormMlpFwd.defs₀ (F := Bits) = defs₀ (F := Bits) := by
  unfold Cert.NormMlpFwd.defs₀ defs₀
  congr 1
  funext l a
  match l, a with
  | ⟨0, _⟩, (t, s) => rfl

theorem frame_p : Cert.quiescent_NormMlpFwd := by
  intro m ρ _
  unfold Cert.NormMlpFwd.defs
  rw [bodies]
  exact Gen.frame (F := Bits) m ρ

theorem frame_pi : Cert.quiescent_NormMlpFwdIdeal :=
  fun m ρ _ => Gen.frame (F := Ideal) m ρ

theorem frame_ri : Cert.quiescent_NormMlpFwdRefIdeal :=
  fun m ρ _ => (θ_run Cert.NormMlpFwdRefIdeal.defs _ _).mono
    (fun r h => ⟨fun c => (h c).2.2, sem_eq_zero_of_no_sems (by decide) r.2⟩) (Cert.NormMlpFwdRefIdeal.Value.run (F := Ideal) m ρ)

theorem preserves : Cert.preserves_NormMlpFwd_NormMlpFwdIdeal := trivial

theorem algebraic : Cert.algebraic_NormMlpFwdIdeal_NormMlpFwdRefIdeal := by
  intro m ρ m' ρ' _ hagree
  refine ⟨_, _, Value.run_blocks (F := Ideal) m ρ, ?_⟩
  refine (θ_run Cert.NormMlpFwdRefIdeal.defs _ _).mono (fun _ h c => ?_) (Cert.NormMlpFwdRefIdeal.Value.run (F := Ideal) m' ρ')
  obtain ⟨e0, e1, kept⟩ := h c
  obtain ⟨b0, b1, b2, b3, b4, b5⟩ := hagree c
  refine ⟨e0.trans (ext2 fun r l => Eq.trans ?_ (out_at m c r l).1.symm), e1.trans (ext2 fun r l => Eq.trans ?_ (out_at m c r l).2.symm), kept⟩
  all_goals
    simp only [pointwise, zero_add, mean]
    simp only [b0, b1, b2, b3, b4, b5]
    rfl

end Cert.NormMlpFwdIdeal.Norm
end
-- ==== Proof.LossHead.lean ====
/- The loss head: the kernel's result arrays are an example's loss and its gradients at the gated residual sum's three operands,
   and so are the reference's. -/
module
public import proofs.«01_k».proof.Defs
public import proofs.«01_k».proof.Proof.NormForward
public import proofs.«01_k».proof.Proof.Gen.LossIdeal.Value
public import proofs.«01_k».proof.Proof.Gen.Loss
public import proofs.«01_k».proof.Proof.Gen.LossRefIdeal.Run
public import Idealize.ShloMosaic.Lib.VecWindow
public import Idealize.ShloMosaic.Lib.Tactic
public import Idealize.ShloMosaic.Lib.Quiescent
@[expose] public section

set_option maxRecDepth 16384

noncomputable section

namespace Cert.LossIdeal.Head

open Cert.LossIdeal Cert.LossIdeal.Gen Cert.Rows Cert.Blocks Cert.Tile
open Idealize.ShloMosaic Idealize.ShloMosaic.TcCoe Idealize.SL.Sem

/-! ## A row's part -/

/-- What is left of the target: the gated residual sum less it. -/
def err (x y t g : Row) : Row := fun k => x k + g k * y k - t k

/-- A row's gradient, at each entry. -/
def grad (x y t g : Row) : Row := fun k => err x y t g k * Ideal.ofBits .f32 0x3A000000#32

/-- A row's part of the loss. -/
def part (x y t g : Row) : EReal :=
  Ideal.ofBits .f32 0x3F000000#32 * ((∑ k, err x y t g k * err x y t g k) * Ideal.ofBits .f32 0x3A000000#32)

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- One half of a sum is the sum of the halves. -/
theorem half_sum {n : ℕ} (f : Fin n → EReal) :
    Ideal.ofBits .f32 0x3F000000#32 * ∑ k, f k = ∑ k, Ideal.ofBits .f32 0x3F000000#32 * f k := by
  have h : ∀ a b : EReal, Ideal.ofBits .f32 0x3F000000#32 * (a + b) = Ideal.ofBits .f32 0x3F000000#32 * a + Ideal.ofBits .f32 0x3F000000#32 * b :=
    fun a b => EReal.left_distrib_of_nonneg_of_ne_top (by rw [half]; exact EReal.coe_nonneg.mpr (by norm_num)) (by rw [half]; exact EReal.coe_ne_top _) a b
  exact map_sum (⟨⟨fun x => Ideal.ofBits .f32 0x3F000000#32 * x, mul_zero _⟩, h⟩ : EReal →+ EReal) f Finset.univ

/-- The square's derivative doubles what the one half halves. -/
theorem twice (s e : EReal) : Ideal.ofBits .f32 0x3F000000#32 * s * (Ideal.ofBits .f32 0x40000000#32 * e) = e * s := by
  have h : Ideal.ofBits .f32 0x3F000000#32 * Ideal.ofBits .f32 0x40000000#32 = 1 := by
    rw [half, two, ← EReal.coe_mul]
    norm_num
  rw [mul_mul_mul_comm, h, one_mul, mul_comm]

/-! ## What a point leaves in the results' blocks -/

section Cases

variable {F : FTy → Type} [FloatOps F] (c : Dev nD) (i : grid0.Coords) (a0 : Memref sig .tc .vmem S256x2048 .f32) (h0 : a0.IsWhole) (a1 : Memref sig .tc .vmem S256x2048 .f32) (h1 : a1.IsWhole)
  (a2 : Memref sig .tc .vmem S256x2048 .f32) (h2 : a2.IsWhole) (a3 : Memref sig .tc .vmem S1x2048 .f32) (h3 : a3.IsWhole)
  (a4 : Memref sig .tc .vmem S1x1 .f32) (h4 : a4.IsWhole) (a5 : Memref sig .tc .vmem S256x2048 .f32) (h5 : a5.IsWhole)
  (a6 : Memref sig .tc .vmem S256x2048 .bf16) (h6 : a6.IsWhole) (a7 : Memref sig .tc .vmem S1x2048 .f32) (h7 : a7.IsWhole)
  (x0 x1 x2 : Vec F S256x2048 .f32) (x3 : Vec F S1x2048 .f32) (y4 : Vec F S1x1 .f32) (y7 : Vec F S1x2048 .f32)

theorem case_A (hc : cond0_0 i) :
    (out0_A_4 c i a0 h0 a1 h1 a2 h2 a3 h3 a4 h4 a5 h5 a6 h6 a7 h7 hc x0 x1 x2 x3,
      out0_A_5 c i a0 h0 a1 h1 a2 h2 a3 h3 a4 h4 a5 h5 a6 h6 a7 h7 hc x0 x1 x2 x3,
      out0_A_6 c i a0 h0 a1 h1 a2 h2 a3 h3 a4 h4 a5 h5 a6 h6 a7 h7 hc x0 x1 x2 x3,
      out0_A_7 c i a0 h0 a1 h1 a2 h2 a3 h3 a4 h4 a5 h5 a6 h6 a7 h7 hc x0 x1 x2 x3)
      = (k0_pay5 x1 x3 x0 x2 (k0_pay2 (F := F)), k0_pay6 x1 x3 x0 x2, k0_pay7 x1 x3 x0 x2, k0_pay1 x1 (k0_pay6 x1 x3 x0 x2) (k0_pay3 (F := F))) := by
  unfold out0_A_4 out0_A_5 out0_A_6 out0_A_7
  rw [View.read_writes_eq_canon _ _ _ (cover0_A_4 c i a0 h0 a1 h1 a2 h2 a3 h3 a4 h4 a5 h5 a6 h6 a7 h7 hc x0 x1 x2 x3),
    View.read_writes_eq_canon _ _ _ (cover0_A_5 c i a0 h0 a1 h1 a2 h2 a3 h3 a4 h4 a5 h5 a6 h6 a7 h7 hc x0 x1 x2 x3),
    View.read_writes_eq_canon _ _ _ (cover0_A_6 c i a0 h0 a1 h1 a2 h2 a3 h3 a4 h4 a5 h5 a6 h6 a7 h7 hc x0 x1 x2 x3),
    View.read_writes_eq_canon _ _ _ (cover0_A_7 c i a0 h0 a1 h1 a2 h2 a3 h3 a4 h4 a5 h5 a6 h6 a7 h7 hc x0 x1 x2 x3)]
  unfold kernelRun0_A
  dsimp only
  sl_unfold_words
  simp only [View.canon_unit_zero (S := S256x2048) hz, View.canon_cons_unit_zero (S := S1x1) hz, View.readCov_unit_zero (S := S1x1) _ hz,
    View.canon_cons_unit_zero (S := S1x2048) hz, View.readCov_unit_zero (S := S1x2048) _ hz, View.readAt_eq_ld,
    h0.read_unread, h1.read_unread, h2.read_unread, h3.read_unread, View.ld_unit_zero (S := S256x2048) hz, View.ld_unit_zero (S := S1x2048) hz]

theorem case_B (hc : ¬cond0_0 i) :
    (out0_B_4 c i a0 h0 a1 h1 a2 h2 a3 h3 a4 h4 a5 h5 a6 h6 a7 h7 hc x0 x1 x2 x3 y4 y7,
      out0_B_5 c i a0 h0 a1 h1 a2 h2 a3 h3 a4 h4 a5 h5 a6 h6 a7 h7 hc x0 x1 x2 x3 y4 y7,
      out0_B_6 c i a0 h0 a1 h1 a2 h2 a3 h3 a4 h4 a5 h5 a6 h6 a7 h7 hc x0 x1 x2 x3 y4 y7,
      out0_B_7 c i a0 h0 a1 h1 a2 h2 a3 h3 a4 h4 a5 h5 a6 h6 a7 h7 hc x0 x1 x2 x3 y4 y7)
      = (k0_pay5 x1 x3 x0 x2 y4, k0_pay6 x1 x3 x0 x2, k0_pay7 x1 x3 x0 x2, k0_pay1 x1 (k0_pay6 x1 x3 x0 x2) y7) := by
  unfold out0_B_4 out0_B_5 out0_B_6 out0_B_7
  rw [View.read_writes_eq_canon _ _ _ (cover0_B_4 c i a0 h0 a1 h1 a2 h2 a3 h3 a4 h4 a5 h5 a6 h6 a7 h7 hc x0 x1 x2 x3 y4 y7),
    View.read_writes_eq_canon _ _ _ (cover0_B_5 c i a0 h0 a1 h1 a2 h2 a3 h3 a4 h4 a5 h5 a6 h6 a7 h7 hc x0 x1 x2 x3 y4 y7),
    View.read_writes_eq_canon _ _ _ (cover0_B_6 c i a0 h0 a1 h1 a2 h2 a3 h3 a4 h4 a5 h5 a6 h6 a7 h7 hc x0 x1 x2 x3 y4 y7),
    View.read_writes_eq_canon _ _ _ (cover0_B_7 c i a0 h0 a1 h1 a2 h2 a3 h3 a4 h4 a5 h5 a6 h6 a7 h7 hc x0 x1 x2 x3 y4 y7)]
  unfold kernelRun0_B
  dsimp only
  sl_unfold_words
  simp only [View.canon_unit_zero (S := S256x2048) hz, View.canon_unit_zero (S := S1x1) hz, View.canon_unit_zero (S := S1x2048) hz, View.readAt_eq_ld,
    h0.read_unread, h1.read_unread, h2.read_unread, h3.read_unread, h4.read_unread, h7.read_unread, View.ld_unit_zero (S := S256x2048) hz,
    View.ld_unit_zero (S := S1x1) hz, View.ld_unit_zero (S := S1x2048) hz]

end Cases

/-! ## Entries -/

variable (x y t : Vec Ideal S256x2048 .f32) (g : Vec Ideal S1x2048 .f32)

theorem part_at (a : Vec Ideal S1x1 .f32) :
    k0_pay5 y g x t a (ix2 0 0) = a (ix2 0 0) + ∑ k : Fin 256, part (row x k) (row y k) (row t k) (row g 0) := by
  unfold k0_pay5 k0_pay4
  simp only [pointwise, zero_add]
  exact congrArg (a (ix2 0 0) + ·) (half_sum _)

theorem grad_at (r : Fin 256) (l : Fin 2048) :
    k0_pay6 y g x t (ix2 r l) = grad (row x r) (row y r) (row t r) (row g 0) l
      ∧ k0_pay7 y g x t (ix2 r l) = grad (row x r) (row y r) (row t r) (row g 0) l * row g 0 l := by
  unfold k0_pay7 k0_pay6 k0_pay4
  simp only [pointwise]
  exact ⟨rfl, rfl⟩

theorem gate_at (a : Vec Ideal S1x2048 .f32) (l : Fin 2048) :
    k0_pay1 y (k0_pay6 y g x t) a (ix2 0 l) = a (ix2 0 l) + ∑ k : Fin 256, grad (row x k) (row y k) (row t k) (row g 0) l * row y k l := by
  unfold k0_pay1 k0_pay6 k0_pay4
  simp only [pointwise, zero_add]
  rfl

theorem zero_at : (∀ i, k0_pay2 (F := Ideal) i = 0) ∧ ∀ i, k0_pay3 (F := Ideal) i = 0 := by
  unfold k0_pay2 k0_pay3
  simp only [pointwise, implies_true, and_self]

/-! ## Which blocks a point reads and writes -/

theorem index : ∀ t : Fin cfg0.N, (win0_0.index t = ![t.val, 0] ∧ win0_1.index t = ![t.val, 0] ∧ win0_2.index t = ![t.val, 0] ∧ win0_3.index t = ![0, 0])
    ∧ win0_4.index t = ![0, 0] ∧ win0_5.index t = ![t.val, 0] ∧ win0_6.index t = ![t.val, 0] ∧ win0_7.index t = ![0, 0] :=
  (by decide +kernel : ∀ t : Fin grid0.N, (win0_0.index t = ![t.val, 0] ∧ win0_1.index t = ![t.val, 0] ∧ win0_2.index t = ![t.val, 0] ∧ win0_3.index t = ![0, 0])
    ∧ win0_4.index t = ![0, 0] ∧ win0_5.index t = ![t.val, 0] ∧ win0_6.index t = ![t.val, 0] ∧ win0_7.index t = ![0, 0])
theorem flush : ∀ t : Fin cfg0.N, (cfg0.win 5).flush t = true ∧ (cfg0.win 6).flush t = true :=
  (by decide +kernel : ∀ t : Fin grid0.N, win0_5.flush t = true ∧ win0_6.flush t = true)
theorem flush4 : ∀ t : Fin cfg0.N, (cfg0.win 4).flush t = decide (t.val = 31) := (by decide +kernel : ∀ t : Fin grid0.N, win0_4.flush t = decide (t.val = 31))
theorem flush7 : ∀ t : Fin cfg0.N, (cfg0.win 7).flush t = decide (t.val = 31) := (by decide +kernel : ∀ t : Fin grid0.N, win0_7.flush t = decide (t.val = 31))

variable (m : (ℓ : Loc nD τ sig) → Buf (Elt Ideal) ℓ) (c : Dev nD)

/-- The kernel's arguments: the rows before the feed-forward, its output, the target and the gate. -/
abbrev argX : FVec Ideal S8192x2048 .f32 := m ((c.tc : Thread nD τ).loc main_arg0)
abbrev argY : FVec Ideal S8192x2048 .f32 := m ((c.tc : Thread nD τ).loc main_arg1)
abbrev argT : FVec Ideal S8192x2048 .f32 := m ((c.tc : Thread nD τ).loc main_arg2)
abbrev argG : FVec Ideal S1x2048 .f32 := m ((c.tc : Thread nD τ).loc main_arg3)

theorem read (t : Fin cfg0.N) (r : Fin 256) :
    row (iblk m c 0 t : Vec Ideal S256x2048 .f32) r = rowN (argX m c) (t.val * 256 + r.val)
      ∧ row (iblk m c 1 t : Vec Ideal S256x2048 .f32) r = rowN (argY m c) (t.val * 256 + r.val)
      ∧ row (iblk m c 2 t : Vec Ideal S256x2048 .f32) r = rowN (argT m c) (t.val * 256 + r.val)
      ∧ row (iblk m c 3 t : Vec Ideal S1x2048 .f32) 0 = row (argG m c) 0 := by
  have ht := lt_of_lt_of_eq t.isLt N_0
  have hi : t.val * 256 + r.val < 8192 := by have := r.isLt; omega
  obtain ⟨⟨i0, i1, i2, i3⟩, _⟩ := index t
  exact ⟨(row_tile i0 (argX m c) (iblk m c 0 t) _ (fun _ => rfl) (fun _ => rfl) (fun _ => rfl) ⟨_, hi⟩ r rfl).trans (row_eq _ _),
    (row_tile i1 (argY m c) (iblk m c 1 t) _ (fun _ => rfl) (fun _ => rfl) (fun _ => rfl) ⟨_, hi⟩ r rfl).trans (row_eq _ _),
    (row_tile i2 (argT m c) (iblk m c 2 t) _ (fun _ => rfl) (fun _ => rfl) (fun _ => rfl) ⟨_, hi⟩ r rfl).trans (row_eq _ _),
    row_tile i3 (argG m c) (iblk m c 3 t) _ (fun _ => rfl) (fun _ => rfl) (fun _ => rfl) 0 (0 : Fin 1) rfl⟩

/-- A row's part of the loss, and its gradient, by the row's number. -/
def partN (n : ℕ) : EReal := part (rowN (argX m c) n) (rowN (argY m c) n) (rowN (argT m c) n) (row (argG m c) 0)
def gradN (n : ℕ) : Row := grad (rowN (argX m c) n) (rowN (argY m c) n) (rowN (argT m c) n) (row (argG m c) 0)

/-! ## What a point leaves -/

/-- What the two accumulators gain at a point, over what the point before left. -/
theorem next (n : ℕ) (hn : n + 1 < cfg0.N) (l : Fin 2048) :
    (outsAt0 m c (n + 1) hn).1 (ix2 0 0) = (outsAt0 m c n (Nat.lt_of_succ_lt hn)).1 (ix2 0 0) + ∑ k : Fin 256, partN m c ((n + 1) * 256 + k.val)
      ∧ (outsAt0 m c (n + 1) hn).2.2.2 (ix2 0 l) = (outsAt0 m c n (Nat.lt_of_succ_lt hn)).2.2.2 (ix2 0 l)
        + ∑ k : Fin 256, gradN m c ((n + 1) * 256 + k.val) l * rowN (argY m c) ((n + 1) * 256 + k.val) l := by
  have h0 : ¬(⟨n + 1, hn⟩ : Fin cfg0.N).val % 32 = 0 := by
    have := lt_of_lt_of_eq hn N_0
    dsimp only
    omega
  have e := (outsAt0_B m c ⟨n + 1, hn⟩ h0).trans (case_B ..)
  dsimp only at e
  rw [e]
  dsimp only
  rw [part_at, gate_at]
  simp only [fun r => (read m c ⟨n + 1, hn⟩ r).1, fun r => (read m c ⟨n + 1, hn⟩ r).2.1, fun r => (read m c ⟨n + 1, hn⟩ r).2.2.1,
    (read m c ⟨n + 1, hn⟩ 0).2.2.2]
  exact ⟨rfl, rfl⟩

/-- What the first point leaves in the accumulators. -/
theorem first (hn : 0 < cfg0.N) (l : Fin 2048) :
    (outsAt0 m c 0 hn).1 (ix2 0 0) = ∑ k : Fin 256, partN m c (0 * 256 + k.val)
      ∧ (outsAt0 m c 0 hn).2.2.2 (ix2 0 l) = ∑ k : Fin 256, gradN m c (0 * 256 + k.val) l * rowN (argY m c) (0 * 256 + k.val) l := by
  have e := (outsAt0_A m c ⟨0, hn⟩ rfl).trans (case_A ..)
  dsimp only at e
  rw [e]
  dsimp only
  rw [part_at, gate_at, zero_at.1, zero_at.2, zero_add, zero_add]
  simp only [fun r => (read m c ⟨0, hn⟩ r).1, fun r => (read m c ⟨0, hn⟩ r).2.1, fun r => (read m c ⟨0, hn⟩ r).2.2.1, (read m c ⟨0, hn⟩ 0).2.2.2]
  exact ⟨rfl, rfl⟩

/-- What a point leaves in the blocks of the rows' gradients. -/
theorem rows_at (t : Fin cfg0.N) (r : Fin 256) (l : Fin 2048) :
    (outsAt0 m c t.val t.isLt).2.1 (ix2 r l) = gradN m c (t.val * 256 + r.val) l
      ∧ (outsAt0 m c t.val t.isLt).2.2.1 (ix2 r l) = gradN m c (t.val * 256 + r.val) l * row (argG m c) 0 l := by
  obtain ⟨g1, g2⟩ := grad_at (iblk m c 0 t) (iblk m c 1 t) (iblk m c 2 t) (iblk m c 3 t) r l
  obtain ⟨e0, e1, e2, e3⟩ := read m c t r
  rw [e0, e1, e2, e3] at g1 g2
  by_cases h0 : t.val % 32 = 0
  · rw [(outsAt0_A m c t h0).trans (case_A ..)]
    exact ⟨g1, g2⟩
  · rw [(outsAt0_B m c t h0).trans (case_B ..)]
    exact ⟨g1, g2⟩

/-! ## The result arrays -/

/-- The kernel's result arrays: the loss, and the gradients of the rows, of the feed-forward's output and of the gate. -/
abbrev outL : FVec Ideal S1x1 .f32 := (dats m 0 c).arrAt 4 cfg0.N
abbrev outX : FVec Ideal S8192x2048 .f32 := (dats m 0 c).arrAt 5 cfg0.N
abbrev outY : FVec Ideal S8192x2048 .bf16 := (dats m 0 c).arrAt 6 cfg0.N
abbrev outG : FVec Ideal S1x2048 .f32 := (dats m 0 c).arrAt 7 cfg0.N

theorem rows_out (r : Fin 8192) (l : Fin 2048) :
    outX m c (ix2 r l) = gradN m c r.val l ∧ outY m c (ix2 r l) = gradN m c r.val l * row (argG m c) 0 l := by
  have hN : r.val / 256 < cfg0.N := lt_of_lt_of_eq (by omega) N_0.symm
  obtain ⟨s, hs⟩ := place (p := 256) (by decide) r.val
  obtain ⟨t, ht⟩ : ∃ t : Fin cfg0.N, t.val * 256 + s.val = r.val := ⟨⟨_, hN⟩, hs⟩
  obtain ⟨_, _, i5, i6, _⟩ := index t
  obtain ⟨g1, g2⟩ := rows_at m c t s l
  rw [ht] at g1 g2
  have b1 := congrFun ((Value.blocks5 m c t (flush t).1).trans (Value.flushed5 m c t)) (ix2 s l)
  have b2 := congrFun ((Value.blocks6 m c t (flush t).2).trans (Value.flushed6 m c t)) (ix2 s l)
  rw [View.read_apply] at b1 b2
  exact ⟨(entry (outX m c) _ i5 r s l ht rfl rfl).symm.trans (b1.trans g1), (entry (outY m c) _ i6 r s l ht rfl rfl).symm.trans (b2.trans g2)⟩

/-- The last point, which alone writes the accumulated results back. -/
theorem last : ∃ t : Fin cfg0.N, t.val = 31 := ⟨⟨31, lt_of_lt_of_eq (by decide) N_0.symm⟩, rfl⟩

theorem sum_last (t : Fin cfg0.N) (ht : t.val = 31) (f : ℕ → EReal) :
    ∑ k ∈ Finset.range ((t.val + 1) * 256), f k = ∑ k ∈ Finset.range 8192, f k := by rw [ht]

/-- A result written back at the last point alone is written back once. -/
theorem once (w : Fin cfg0.W) (hf : ∀ t : Fin cfg0.N, (cfg0.win w).flush t = decide (t.val = 31)) :
    ∀ t t' : Fin cfg0.N, (cfg0.win w).flush t = true → (cfg0.win w).flush t' = true → t ≠ t' →
      Disjoint ((cfg0.win w).blk t).view.set ((cfg0.win w).blk t').view.set :=
  fun t t' ht ht' hne => absurd (Fin.ext ((of_decide_eq_true ((hf t).symm.trans ht)).trans (of_decide_eq_true ((hf t').symm.trans ht')).symm)) hne

theorem outL_at : outL m c (ix2 0 0) = ∑ k : Fin 8192, partN m c k.val := by
  obtain ⟨t, ht⟩ := last
  obtain ⟨_, i4, _⟩ := index t
  have b := congrFun (((dats m 0 c).read_blk_arrAt_eq_flushed 4 (once 4 flush4) cfg0.N t t.isLt ((flush4 t).trans (decide_eq_true ht))).trans
    (Value.flushed4 m c t)) (ix2 (0 : Fin 1) (0 : Fin 1))
  rw [View.read_apply] at b
  have s := sweep (fun n h _ => (outsAt0 m c n h).1 (ix2 0 0)) (fun _ n => partN m c n)
    (fun h l => (first m c h l).1) (fun n h l => (next m c n h l).1) t.val t.isLt 0
  rw [sum_last t ht] at s
  exact (entry (outL m c) (((cfg0.win 4).blk t).view.emb (ix2 (0 : Fin 1) (0 : Fin 1))) i4 0 (0 : Fin 1) 0 rfl rfl rfl).symm.trans (b.trans (Eq.trans s (sum_rows _ _ fun _ => rfl)))

theorem outG_at (l : Fin 2048) : outG m c (ix2 0 l) = ∑ k : Fin 8192, gradN m c k.val l * row (argY m c) k l := by
  obtain ⟨t, ht⟩ := last
  obtain ⟨_, _, _, _, i7⟩ := index t
  have b := congrFun (((dats m 0 c).read_blk_arrAt_eq_flushed 7 (once 7 flush7) cfg0.N t t.isLt ((flush7 t).trans (decide_eq_true ht))).trans
    (Value.flushed7 m c t)) (ix2 (0 : Fin 1) l)
  rw [View.read_apply] at b
  have s := sweep (fun n h l => (outsAt0 m c n h).2.2.2 (ix2 0 l)) (fun l n => gradN m c n l * rowN (argY m c) n l)
    (fun h l => (first m c h l).2) (fun n h l => (next m c n h l).2) t.val t.isLt l
  rw [sum_last t ht] at s
  exact (entry (outG m c) (((cfg0.win 7).blk t).view.emb (ix2 (0 : Fin 1) l)) i7 0 (0 : Fin 1) l rfl rfl rfl).symm.trans (b.trans (Eq.trans s (sum_rows _ _ fun k => by rw [row_eq])))

/-! ## The claims -/

/-- The body table printed for words is the one printed for extended reals, read at words. -/
theorem bodies : Cert.Loss.defs₀ (F := Bits) = defs₀ (F := Bits) := by
  unfold Cert.Loss.defs₀ defs₀
  congr 1
  funext l a
  match l, a with
  | ⟨0, _⟩, (t, s) => rfl

theorem frame_p : Cert.quiescent_Loss := by
  intro m ρ _
  unfold Cert.Loss.defs
  rw [bodies]
  exact Gen.frame (F := Bits) m ρ

theorem frame_pi : Cert.quiescent_LossIdeal :=
  fun m ρ _ => Gen.frame (F := Ideal) m ρ

theorem frame_ri : Cert.quiescent_LossRefIdeal :=
  fun m ρ _ => (θ_run Cert.LossRefIdeal.defs _ _).mono
    (fun r h => ⟨fun c => (h c).2.2.2.2, sem_eq_zero_of_no_sems (by decide) r.2⟩) (Cert.LossRefIdeal.Value.run (F := Ideal) m ρ)

theorem preserves : Cert.preserves_Loss_LossIdeal := trivial

theorem algebraic : Cert.algebraic_LossIdeal_LossRefIdeal := by
  intro m ρ m' ρ' _ hagree
  refine ⟨_, _, _, _, Value.run_blocks (F := Ideal) m ρ, ?_⟩
  refine (θ_run Cert.LossRefIdeal.defs _ _).mono (fun _ h c => ?_) (Cert.LossRefIdeal.Value.run (F := Ideal) m' ρ')
  obtain ⟨e0, e1, e2, e3, kept⟩ := h c
  obtain ⟨b0, b1, b2, b3⟩ := hagree c
  refine ⟨e0.trans (ext2 fun r l => ?_), e1.trans (ext2 fun r l => ?_), e2.trans (ext2 fun r l => ?_), e3.trans (ext2 fun r l => ?_), kept⟩
  · obtain rfl : r = 0 := Subsingleton.elim _ _
    obtain rfl : l = 0 := Subsingleton.elim _ _
    refine Eq.trans ?_ (outL_at m c).symm
    unfold partN
    simp only [← row_eq]
    simp only [pointwise, zero_add, mean]
    rw [b0, b1, b2, b3]
    exact half_sum _
  · refine Eq.trans ?_ (rows_out m c r l).1.symm
    unfold gradN
    simp only [← row_eq]
    simp only [pointwise, mul_one, mean, twice]
    rw [b0, b1, b2, b3]
    rfl
  · refine Eq.trans ?_ (rows_out m c r l).2.symm
    unfold gradN
    simp only [← row_eq]
    simp only [pointwise, mul_one, mean, twice]
    rw [b0, b1, b2, b3]
    exact mul_comm _ _
  · obtain rfl : r = 0 := Subsingleton.elim _ _
    refine Eq.trans ?_ (outG_at m c l).symm
    unfold gradN
    simp only [← row_eq]
    simp only [pointwise, zero_add, mul_one, mean, twice]
    rw [b0, b1, b2, b3]
    rfl

end Cert.LossIdeal.Head
end
-- ==== Proof.Update.lean ====
/- One AdamW step at one entry of a weight: the gradient's five parts summed, the two running means and the weight's
   change, and how an array written tile by tile is read. -/
module
public import proofs.«01_k».proof.Proof.Blocks
@[expose] public section

noncomputable section

namespace Cert.Update

open Idealize.ShloMosaic Cert.Blocks

/-- The gradient's parts, summed. -/
def grad (p0 p1 p2 p3 p4 : EReal) : EReal := p0 + p1 + p2 + p3 + p4

/-- The running mean of the gradient. -/
def newM (g m : EReal) : EReal := Ideal.ofBits .f32 0x3F666666#32 * m + Ideal.ofBits .f32 0x3DCCCCCD#32 * g

/-- The running mean of the gradient's square. -/
def newV (g v : EReal) : EReal := Ideal.ofBits .f32 0x3F7FBE77#32 * v + Ideal.ofBits .f32 0x3A83126F#32 * (g * g)

/-- The weight's change. -/
def delta (g w m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- The entries of an array's tile of whole rows, by the tile's number. -/
theorem tile {a b p : ℕ} (x : (⟨2, ![a, b]⟩ : Shape).Idx → EReal) (y : (⟨2, ![a, b]⟩ : Shape).Idx) (n : ℕ) (k : Fin 2 → ℕ) (hk : k = ![n, 0])
    (r : Fin p) (l : Fin b) (h0 : (y 0).val = k 0 * p + 1 * r.val) (h1 : (y 1).val = k 1 * b + 1 * l.val) : x y = at2 x (n * p + r.val) l.val := by
  subst hk
  refine at2_val x y (h0.trans ?_) (h1.trans ?_)
  · change n * p + 1 * r.val = _
    rw [Nat.one_mul]
  · change 0 * b + 1 * l.val = _
    rw [Nat.zero_mul, Nat.zero_add, Nat.one_mul]

/-- An entry of an array of which every tile is known: the entry of its tile. -/
theorem of_tile {a b p : ℕ} (x : (⟨2, ![a, b]⟩ : Shape).Idx → EReal) (f : ℕ → ℕ → EReal) (r : Fin a) (l : Fin b) (hp : 0 < p)
    (h : ∀ s : Fin p, at2 x (r.val / p * p + s.val) l.val = f (r.val / p * p + s.val) l.val) : x (ix2 r l) = f r.val l.val := by
  have e := h ⟨r.val % p, Nat.mod_lt _ hp⟩
  dsimp only at e
  rw [Nat.div_add_mod'] at e
  exact (at2_val x (ix2 r l) rfl rfl).trans e

end Cert.Update
end
-- ==== Proof.UpdateTiny.lean ====
/- The optimiser's step on the packed small matrices: the kernel's result arrays are the summed gradient, the
   weight's change and the two running means, and so are the reference's. -/
module
public import proofs.«01_k».proof.Defs
public import proofs.«01_k».proof.Proof.Update
public import proofs.«01_k».proof.Proof.Gen.AdamTinyIdeal.Value
public import proofs.«01_k».proof.Proof.Gen.AdamTiny
public import proofs.«01_k».proof.Proof.Gen.AdamTinyRefIdeal.Run
public import Idealize.ShloMosaic.Lib.VecWindow
public import Idealize.ShloMosaic.Lib.Tactic
public import Idealize.ShloMosaic.Lib.Quiescent
@[expose] public section

set_option maxRecDepth 16384

noncomputable section

namespace Cert.AdamTinyIdeal.Step

open Cert.AdamTinyIdeal Cert.AdamTinyIdeal.Gen Cert.Blocks Cert.Update
open Idealize.ShloMosaic Idealize.ShloMosaic.TcCoe Idealize.SL.Sem

/-- What a point leaves at an entry of the four results' tiles. -/
theorem point_at (x0 x1 x2 x3 x4 : Vec Ideal S192x512 .bf16) (x5 x6 x7 : Vec Ideal S192x512 .f32) (i : S192x512.Idx) :
    out0_8 x0 x1 x2 x3 x4 x5 x6 x7 i = grad (x0 i) (x1 i) (x2 i) (x3 i) (x4 i)
      ∧ out0_9 x0 x1 x2 x3 x4 x5 x6 x7 i = delta (grad (x0 i) (x1 i) (x2 i) (x3 i) (x4 i)) (x5 i) (x6 i) (x7 i)
      ∧ out0_10 x0 x1 x2 x3 x4 x5 x6 x7 i = newM (grad (x0 i) (x1 i) (x2 i) (x3 i) (x4 i)) (x6 i)
      ∧ out0_11 x0 x1 x2 x3 x4 x5 x6 x7 i = newV (grad (x0 i) (x1 i) (x2 i) (x3 i) (x4 i)) (x7 i) := by
  unfold out0_8 out0_9 out0_10 out0_11
  simp only [r0_0, View.canon_unit_zero (S := S192x512) hz, View.ld_unit_zero (S := S192x512) hz]
  unfold k0_pay1 k0_pay5 k0_pay6 k0_pay4 k0_pay3 k0_pay2
  exact ⟨rfl, rfl, rfl, rfl⟩

/-! ## Which tiles a point reads and writes -/

theorem index : ∀ t : Fin cfg0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0] :=
  (by decide +kernel : ∀ t : Fin grid0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0])
theorem flush : ∀ t : Fin cfg0.N, (cfg0.win 8).flush t = true ∧ (cfg0.win 9).flush t = true ∧ (cfg0.win 10).flush t = true ∧ (cfg0.win 11).flush t = true :=
  (by decide +kernel : ∀ t : Fin grid0.N, win0_8.flush t = true ∧ win0_9.flush t = true ∧ win0_10.flush t = true ∧ win0_11.flush t = true)

variable (m : (ℓ : Loc nD τ sig) → Buf (Elt Ideal) ℓ) (c : Dev nD)

/-- The kernel's arguments: the gradient's parts, the weight and the two running means. -/
abbrev arg0 : FVec Ideal S384x512 .bf16 := m ((c.tc : Thread nD τ).loc main_arg0)
abbrev arg1 : FVec Ideal S384x512 .bf16 := m ((c.tc : Thread nD τ).loc main_arg1)
abbrev arg2 : FVec Ideal S384x512 .bf16 := m ((c.tc : Thread nD τ).loc main_arg2)
abbrev arg3 : FVec Ideal S384x512 .bf16 := m ((c.tc : Thread nD τ).loc main_arg3)
abbrev arg4 : FVec Ideal S384x512 .bf16 := m ((c.tc : Thread nD τ).loc main_arg4)
abbrev argW : FVec Ideal S384x512 .f32 := m ((c.tc : Thread nD τ).loc main_arg5)
abbrev argM : FVec Ideal S384x512 .f32 := m ((c.tc : Thread nD τ).loc main_arg6)
abbrev argV : FVec Ideal S384x512 .f32 := m ((c.tc : Thread nD τ).loc main_arg7)

/-- The gradient at a pair of numbers, the parts summed. -/
def gradN (i j : ℕ) : EReal := grad (at2 (arg0 m c) i j) (at2 (arg1 m c) i j) (at2 (arg2 m c) i j) (at2 (arg3 m c) i j) (at2 (arg4 m c) i j)

theorem reads (t : Fin cfg0.N) (r : Fin 192) (l : Fin 512) :
    grad (iblk m c 0 t (ix2 r l)) (iblk m c 1 t (ix2 r l)) (iblk m c 2 t (ix2 r l)) (iblk m c 3 t (ix2 r l)) (iblk m c 4 t (ix2 r l))
        = gradN m c (t.val * 192 + r.val) l.val
      ∧ iblk m c 5 t (ix2 r l) = at2 (argW m c) (t.val * 192 + r.val) l.val
      ∧ iblk m c 6 t (ix2 r l) = at2 (argM m c) (t.val * 192 + r.val) l.val
      ∧ iblk m c 7 t (ix2 r l) = at2 (argV m c) (t.val * 192 + r.val) l.val := by
  obtain ⟨⟨i0, i1, i2, i3, i4, i5⟩, i6, i7, -⟩ := index t
  have e0 : iblk m c 0 t (ix2 r l) = at2 (arg0 m c) (t.val * 192 + r.val) l.val := tile (arg0 m c) _ _ _ i0 r l rfl rfl
  have e1 : iblk m c 1 t (ix2 r l) = at2 (arg1 m c) (t.val * 192 + r.val) l.val := tile (arg1 m c) _ _ _ i1 r l rfl rfl
  have e2 : iblk m c 2 t (ix2 r l) = at2 (arg2 m c) (t.val * 192 + r.val) l.val := tile (arg2 m c) _ _ _ i2 r l rfl rfl
  have e3 : iblk m c 3 t (ix2 r l) = at2 (arg3 m c) (t.val * 192 + r.val) l.val := tile (arg3 m c) _ _ _ i3 r l rfl rfl
  have e4 : iblk m c 4 t (ix2 r l) = at2 (arg4 m c) (t.val * 192 + r.val) l.val := tile (arg4 m c) _ _ _ i4 r l rfl rfl
  rw [e0, e1, e2, e3, e4]
  exact ⟨rfl, tile (argW m c) _ _ _ i5 r l rfl rfl, tile (argM m c) _ _ _ i6 r l rfl rfl, tile (argV m c) _ _ _ i7 r l rfl rfl⟩

/-! ## The result arrays -/

/-- The kernel's result arrays: the gradient, the weight's change and the two running means. -/
abbrev outG : FVec Ideal S384x512 .f32 := (dats m 0 c).arrAt 8 cfg0.N
abbrev outD : FVec Ideal S384x512 .f32 := (dats m 0 c).arrAt 9 cfg0.N
abbrev outM : FVec Ideal S384x512 .f32 := (dats m 0 c).arrAt 10 cfg0.N
abbrev outV : FVec Ideal S384x512 .f32 := (dats m 0 c).arrAt 11 cfg0.N

theorem tiles_at (t : Fin cfg0.N) (r : Fin 192) (l : Fin 512) :
    at2 (outG m c) (t.val * 192 + r.val) l.val = gradN m c (t.val * 192 + r.val) l.val
      ∧ at2 (outD m c) (t.val * 192 + r.val) l.val = delta (gradN m c (t.val * 192 + r.val) l.val) (at2 (argW m c) (t.val * 192 + r.val) l.val)
        (at2 (argM m c) (t.val * 192 + r.val) l.val) (at2 (argV m c) (t.val * 192 + r.val) l.val)
      ∧ at2 (outM m c) (t.val * 192 + r.val) l.val = newM (gradN m c (t.val * 192 + r.val) l.val) (at2 (argM m c) (t.val * 192 + r.val) l.val)
      ∧ at2 (outV m c) (t.val * 192 + r.val) l.val = newV (gradN m c (t.val * 192 + r.val) l.val) (at2 (argV m c) (t.val * 192 + r.val) l.val) := by
  obtain ⟨-, -, -, i8, i9, i10, i11⟩ := index t
  obtain ⟨f8, f9, f10, f11⟩ := flush t
  obtain ⟨g0, g1, g2, g3⟩ := point_at (iblk m c 0 t) (iblk m c 1 t) (iblk m c 2 t) (iblk m c 3 t) (iblk m c 4 t) (iblk m c 5 t) (iblk m c 6 t) (iblk m c 7 t) (ix2 r l)
  obtain ⟨hg, hw, hm, hv⟩ := reads m c t r l
  rw [hg] at g0 g1 g2 g3
  rw [hw, hm, hv] at g1
  rw [hm] at g2
  rw [hv] at g3
  have b8 := congrFun ((Value.blocks8 m c t f8).trans (Value.flushed8 m c t)) (ix2 r l)
  have b9 := congrFun ((Value.blocks9 m c t f9).trans (Value.flushed9 m c t)) (ix2 r l)
  have b10 := congrFun ((Value.blocks10 m c t f10).trans (Value.flushed10 m c t)) (ix2 r l)
  have b11 := congrFun ((Value.blocks11 m c t f11).trans (Value.flushed11 m c t)) (ix2 r l)
  rw [View.read_apply] at b8 b9 b10 b11
  exact ⟨(tile (outG m c) _ _ _ i8 r l rfl rfl).symm.trans (b8.trans g0), (tile (outD m c) _ _ _ i9 r l rfl rfl).symm.trans (b9.trans g1),
    (tile (outM m c) _ _ _ i10 r l rfl rfl).symm.trans (b10.trans g2), (tile (outV m c) _ _ _ i11 r l rfl rfl).symm.trans (b11.trans g3)⟩

/-- The gradient at an entry, the parts summed. -/
def gradA (r : Fin 384) (l : Fin 512) : EReal :=
  grad (arg0 m c (ix2 r l)) (arg1 m c (ix2 r l)) (arg2 m c (ix2 r l)) (arg3 m c (ix2 r l)) (arg4 m c (ix2 r l))

theorem out_at (r : Fin 384) (l : Fin 512) :
    outG m c (ix2 r l) = gradA m c r l
      ∧ outD m c (ix2 r l) = delta (gradA m c r l) (argW m c (ix2 r l)) (argM m c (ix2 r l)) (argV m c (ix2 r l))
      ∧ outM m c (ix2 r l) = newM (gradA m c r l) (argM m c (ix2 r l))
      ∧ outV m c (ix2 r l) = newV (gradA m c r l) (argV m c (ix2 r l)) := by
  have hN : r.val / 192 < cfg0.N := lt_of_lt_of_eq (by omega) N_0.symm
  have h := fun s : Fin 192 => tiles_at m c ⟨r.val / 192, hN⟩ s l
  have k (x : FVec Ideal S384x512 .f32) : x (ix2 r l) = at2 x r.val l.val := at2_val x (ix2 r l) rfl rfl
  have e : gradA m c r l = gradN m c r.val l.val := by
    unfold gradA gradN
    rw [k (arg0 m c), k (arg1 m c), k (arg2 m c), k (arg3 m c), k (arg4 m c)]
  rw [e, k (argW m c), k (argM m c), k (argV m c)]
  exact ⟨of_tile (outG m c) (gradN m c) r l (by decide) fun s => (h s).1,
    of_tile (outD m c) (fun i j => delta (gradN m c i j) (at2 (argW m c) i j) (at2 (argM m c) i j) (at2 (argV m c) i j)) r l (by decide) fun s => (h s).2.1,
    of_tile (outM m c) (fun i j => newM (gradN m c i j) (at2 (argM m c) i j)) r l (by decide) fun s => (h s).2.2.1,
    of_tile (outV m c) (fun i j => newV (gradN m c i j) (at2 (argV m c) i j)) r l (by decide) fun s => (h s).2.2.2⟩

/-! ## The claims -/

/-- The body table printed for words is the one printed for extended reals, read at words. -/
theorem bodies : Cert.AdamTiny.defs₀ (F := Bits) = defs₀ (F := Bits) := by
  unfold Cert.AdamTiny.defs₀ defs₀
  congr 1
  funext l a
  match l, a with
  | ⟨0, _⟩, (t, s) => rfl

theorem frame_p : Cert.quiescent_AdamTiny := by
  intro m ρ _
  unfold Cert.AdamTiny.defs
  rw [bodies]
  exact Gen.frame (F := Bits) m ρ

theorem frame_pi : Cert.quiescent_AdamTinyIdeal :=
  fun m ρ _ => Gen.frame (F := Ideal) m ρ

theorem frame_ri : Cert.quiescent_AdamTinyRefIdeal :=
  fun m ρ _ => (θ_run Cert.AdamTinyRefIdeal.defs _ _).mono
    (fun r h => ⟨fun c => (h c).2.2.2.2, sem_eq_zero_of_no_sems (by decide) r.2⟩) (Cert.AdamTinyRefIdeal.Value.run (F := Ideal) m ρ)

theorem preserves : Cert.preserves_AdamTiny_AdamTinyIdeal := trivial

theorem algebraic : Cert.algebraic_AdamTinyIdeal_AdamTinyRefIdeal := by
  intro m ρ m' ρ' _ hagree
  refine ⟨_, _, _, _, Value.run_blocks (F := Ideal) m ρ, ?_⟩
  refine (θ_run Cert.AdamTinyRefIdeal.defs _ _).mono (fun _ h c => ?_) (Cert.AdamTinyRefIdeal.Value.run (F := Ideal) m' ρ')
  obtain ⟨e0, e1, e2, e3, kept⟩ := h c
  obtain ⟨b0, b1, b2, b3, b4, b5, b6, b7⟩ := hagree c
  refine ⟨e0.trans (ext2 fun r l => Eq.trans ?_ (out_at m c r l).1.symm), e1.trans (ext2 fun r l => Eq.trans ?_ (out_at m c r l).2.1.symm),
    e2.trans (ext2 fun r l => Eq.trans ?_ (out_at m c r l).2.2.1.symm), e3.trans (ext2 fun r l => Eq.trans ?_ (out_at m c r l).2.2.2.symm), kept⟩
  all_goals
    simp only [pointwise, zero_add]
    simp only [b0, b1, b2, b3, b4, b5, b6, b7]
    rfl

end Cert.AdamTinyIdeal.Step
end
-- ==== Proof.UpdateSmall.lean ====
/- The optimiser's step on the packed row of small weights: the kernel's result arrays are the summed gradient, the
   weight's change and the two running means, and so are the reference's. -/
module
public import proofs.«01_k».proof.Defs
public import proofs.«01_k».proof.Proof.Update
public import proofs.«01_k».proof.Proof.Tile
public import proofs.«01_k».proof.Proof.Gen.AdamSmallIdeal.Value
public import proofs.«01_k».proof.Proof.Gen.AdamSmall
public import proofs.«01_k».proof.Proof.Gen.AdamSmallRefIdeal.Run
public import Idealize.ShloMosaic.Lib.VecWindow
public import Idealize.ShloMosaic.Lib.Tactic
public import Idealize.ShloMosaic.Lib.Quiescent
@[expose] public section

set_option maxRecDepth 16384

noncomputable section

namespace Cert.AdamSmallIdeal.Step

open Cert.AdamSmallIdeal Cert.AdamSmallIdeal.Gen Cert.Blocks Cert.Update Cert.Tile
open Idealize.ShloMosaic Idealize.ShloMosaic.TcCoe Idealize.SL.Sem

/-- The gradient's eight parts, summed. -/
def sum8 (p0 p1 p2 p3 p4 p5 p6 p7 : EReal) : EReal := p0 + p1 + p2 + p3 + p4 + p5 + p6 + p7

variable (m : (ℓ : Loc nD τ sig) → Buf (Elt Ideal) ℓ) (c : Dev nD)

/-- The kernel's arguments: the gradient's parts, the weight and the two running means. -/
abbrev arg0 : FVec Ideal S1x19712 .f32 := m ((c.tc : Thread nD τ).loc main_arg0)
abbrev arg1 : FVec Ideal S1x19712 .f32 := m ((c.tc : Thread nD τ).loc main_arg1)
abbrev arg2 : FVec Ideal S1x19712 .f32 := m ((c.tc : Thread nD τ).loc main_arg2)
abbrev arg3 : FVec Ideal S1x19712 .f32 := m ((c.tc : Thread nD τ).loc main_arg3)
abbrev arg4 : FVec Ideal S1x19712 .f32 := m ((c.tc : Thread nD τ).loc main_arg4)
abbrev arg5 : FVec Ideal S1x19712 .f32 := m ((c.tc : Thread nD τ).loc main_arg5)
abbrev arg6 : FVec Ideal S1x19712 .f32 := m ((c.tc : Thread nD τ).loc main_arg6)
abbrev arg7 : FVec Ideal S1x19712 .f32 := m ((c.tc : Thread nD τ).loc main_arg7)
abbrev argW : FVec Ideal S1x19712 .f32 := m ((c.tc : Thread nD τ).loc main_arg8)
abbrev argM : FVec Ideal S1x19712 .f32 := m ((c.tc : Thread nD τ).loc main_arg9)
abbrev argV : FVec Ideal S1x19712 .f32 := m ((c.tc : Thread nD τ).loc main_arg10)

/-- The kernel's result arrays: the gradient, the weight's change and the two running means. -/
abbrev outG : FVec Ideal S1x19712 .f32 := (dats m 0 c).arrAt 11 cfg0.N
abbrev outD : FVec Ideal S1x19712 .f32 := (dats m 0 c).arrAt 12 cfg0.N
abbrev outM : FVec Ideal S1x19712 .f32 := (dats m 0 c).arrAt 13 cfg0.N
abbrev outV : FVec Ideal S1x19712 .f32 := (dats m 0 c).arrAt 14 cfg0.N

/-- The gradient at an entry, the parts summed. -/
def gradA (r : Fin 1) (l : Fin 19712) : EReal := sum8 (arg0 m c (ix2 r l)) (arg1 m c (ix2 r l)) (arg2 m c (ix2 r l)) (arg3 m c (ix2 r l)) (arg4 m c (ix2 r l)) (arg5 m c (ix2 r l)) (arg6 m c (ix2 r l)) (arg7 m c (ix2 r l))

theorem out_at (r : Fin 1) (l : Fin 19712) :
    outG m c (ix2 r l) = gradA m c r l
      ∧ outD m c (ix2 r l) = delta (gradA m c r l) (argW m c (ix2 r l)) (argM m c (ix2 r l)) (argV m c (ix2 r l))
      ∧ outM m c (ix2 r l) = newM (gradA m c r l) (argM m c (ix2 r l))
      ∧ outV m c (ix2 r l) = newV (gradA m c r l) (argV m c (ix2 r l)) := by
  rw [show outG m c = _ from Value.final11 m c, show outD m c = _ from Value.final12 m c,
    show outM m c = _ from Value.final13 m c, show outV m c = _ from Value.final14 m c]
  unfold gradA
  simp only [Value.G11, Value.G12, Value.G13, Value.G14]
  unfold k0_pay1 k0_pay5 k0_pay6 k0_pay4 k0_pay3 k0_pay2
  exact ⟨rfl, rfl, rfl, rfl⟩

/-! ## The claims -/

/-- The body table printed for words is the one printed for extended reals, read at words. -/
theorem bodies : Cert.AdamSmall.defs₀ (F := Bits) = defs₀ (F := Bits) := by
  unfold Cert.AdamSmall.defs₀ defs₀
  congr 1
  funext l a
  match l, a with
  | ⟨0, _⟩, (t, s) => rfl

theorem frame_p : Cert.quiescent_AdamSmall := by
  intro m ρ _
  unfold Cert.AdamSmall.defs
  rw [bodies]
  exact Gen.frame (F := Bits) m ρ

theorem frame_pi : Cert.quiescent_AdamSmallIdeal :=
  fun m ρ _ => Gen.frame (F := Ideal) m ρ

theorem frame_ri : Cert.quiescent_AdamSmallRefIdeal :=
  fun m ρ _ => (θ_run Cert.AdamSmallRefIdeal.defs _ _).mono
    (fun r h => ⟨fun c => (h c).2.2.2.2, sem_eq_zero_of_no_sems (by decide) r.2⟩) (Cert.AdamSmallRefIdeal.Value.run (F := Ideal) m ρ)

theorem preserves : Cert.preserves_AdamSmall_AdamSmallIdeal := trivial

theorem algebraic : Cert.algebraic_AdamSmallIdeal_AdamSmallRefIdeal := by
  intro m ρ m' ρ' _ hagree
  refine ⟨_, _, _, _, Value.run_blocks (F := Ideal) m ρ, ?_⟩
  refine (θ_run Cert.AdamSmallRefIdeal.defs _ _).mono (fun _ h c => ?_) (Cert.AdamSmallRefIdeal.Value.run (F := Ideal) m' ρ')
  obtain ⟨e0, e1, e2, e3, kept⟩ := h c
  obtain ⟨b0, b1, b2, b3, b4, b5, b6, b7, b8, b9, b10⟩ := hagree c
  refine ⟨e0.trans (ext2 fun r l => Eq.trans ?_ (out_at m c r l).1.symm), e1.trans (ext2 fun r l => Eq.trans ?_ (out_at m c r l).2.1.symm),
    e2.trans (ext2 fun r l => Eq.trans ?_ (out_at m c r l).2.2.1.symm), e3.trans (ext2 fun r l => Eq.trans ?_ (out_at m c r l).2.2.2.symm), kept⟩
  all_goals
    simp only [pointwise, zero_add]
    simp only [b0, b1, b2, b3, b4, b5, b6, b7, b8, b9, b10]
    rfl

end Cert.AdamSmallIdeal.Step
end
-- ==== Proof.UpdateAda.lean ====
/- The optimiser's step on the modulation's weight: the kernel's result arrays are the summed gradient, the
   weight's change and the two running means, and so are the reference's. -/
module
public import proofs.«01_k».proof.Defs
public import proofs.«01_k».proof.Proof.Update
public import proofs.«01_k».proof.Proof.Tile
public import proofs.«01_k».proof.Proof.Gen.AdamAdaIdeal.Value
public import proofs.«01_k».proof.Proof.Gen.AdamAda
public import proofs.«01_k».proof.Proof.Gen.AdamAdaRefIdeal.Run
public import Idealize.ShloMosaic.Lib.VecWindow
public import Idealize.ShloMosaic.Lib.Tactic
public import Idealize.ShloMosaic.Lib.Quiescent
@[expose] public section

set_option maxRecDepth 16384

noncomputable section

namespace Cert.AdamAdaIdeal.Step

open Cert.AdamAdaIdeal Cert.AdamAdaIdeal.Gen Cert.Blocks Cert.Update Cert.Tile
open Idealize.ShloMosaic Idealize.ShloMosaic.TcCoe Idealize.SL.Sem

/-- What a point leaves at an entry of the four results' tiles. -/
theorem point_at (x0 x1 x2 x3 : Vec Ideal S256x1536 .f32) (i : S256x1536.Idx) :
    out0_4 x0 x1 x2 x3 i = x0 i
      ∧ out0_5 x0 x1 x2 x3 i = delta (x0 i) (x1 i) (x2 i) (x3 i)
      ∧ out0_6 x0 x1 x2 x3 i = newM (x0 i) (x2 i)
      ∧ out0_7 x0 x1 x2 x3 i = newV (x0 i) (x3 i) := by
  unfold out0_4 out0_5 out0_6 out0_7
  simp only [r0_0, View.canon_unit_zero (S := S256x1536) hz, View.ld_unit_zero (S := S256x1536) hz]
  unfold k0_pay3 k0_pay2 k0_pay1
  exact ⟨trivial, rfl, rfl, rfl⟩

/-! ## Which tiles a point reads and writes -/

theorem index : ∀ t : Fin cfg0.N, (win0_0.index t = ![t.val, 0] ∧ win0_1.index t = ![t.val, 0] ∧ win0_2.index t = ![t.val, 0] ∧ win0_3.index t = ![t.val, 0] ∧ win0_4.index t = ![t.val, 0] ∧ win0_5.index t = ![t.val, 0])
    ∧ (win0_6.index t = ![t.val, 0] ∧ win0_7.index t = ![t.val, 0]) :=
  (by decide +kernel : ∀ t : Fin grid0.N, (win0_0.index t = ![t.val, 0] ∧ win0_1.index t = ![t.val, 0] ∧ win0_2.index t = ![t.val, 0] ∧ win0_3.index t = ![t.val, 0] ∧ win0_4.index t = ![t.val, 0] ∧ win0_5.index t = ![t.val, 0])
    ∧ (win0_6.index t = ![t.val, 0] ∧ win0_7.index t = ![t.val, 0]))
theorem flush : ∀ t : Fin cfg0.N, (cfg0.win 4).flush t = true ∧ (cfg0.win 5).flush t = true ∧ (cfg0.win 6).flush t = true ∧ (cfg0.win 7).flush t = true :=
  (by decide +kernel : ∀ t : Fin grid0.N, win0_4.flush t = true ∧ win0_5.flush t = true ∧ win0_6.flush t = true ∧ win0_7.flush t = true)

variable (m : (ℓ : Loc nD τ sig) → Buf (Elt Ideal) ℓ) (c : Dev nD)

/-- The kernel's arguments: the gradient, the weight and the two running means. -/
abbrev arg0 : FVec Ideal S2048x1536 .f32 := m ((c.tc : Thread nD τ).loc main_arg0)
abbrev argW : FVec Ideal S2048x1536 .f32 := m ((c.tc : Thread nD τ).loc main_arg1)
abbrev argM : FVec Ideal S2048x1536 .f32 := m ((c.tc : Thread nD τ).loc main_arg2)
abbrev argV : FVec Ideal S2048x1536 .f32 := m ((c.tc : Thread nD τ).loc main_arg3)

/-- The kernel's result arrays: the gradient, the weight's change and the two running means. -/
abbrev outG : FVec Ideal S2048x1536 .f32 := (dats m 0 c).arrAt 4 cfg0.N
abbrev outD : FVec Ideal S2048x1536 .f32 := (dats m 0 c).arrAt 5 cfg0.N
abbrev outM : FVec Ideal S2048x1536 .f32 := (dats m 0 c).arrAt 6 cfg0.N
abbrev outV : FVec Ideal S2048x1536 .f32 := (dats m 0 c).arrAt 7 cfg0.N

/-- The gradient at an entry. -/
def gradA (r : Fin 2048) (l : Fin 1536) : EReal := arg0 m c (ix2 r l)

theorem out_at (r : Fin 2048) (l : Fin 1536) :
    outG m c (ix2 r l) = gradA m c r l
      ∧ outD m c (ix2 r l) = delta (gradA m c r l) (argW m c (ix2 r l)) (argM m c (ix2 r l)) (argV m c (ix2 r l))
      ∧ outM m c (ix2 r l) = newM (gradA m c r l) (argM m c (ix2 r l))
      ∧ outV m c (ix2 r l) = newV (gradA m c r l) (argV m c (ix2 r l)) := by
  have hN : r.val / 256 < cfg0.N := lt_of_lt_of_eq (by omega) N_0.symm
  obtain ⟨s, hs⟩ := place (p := 256) (by decide) r.val
  obtain ⟨t, ht⟩ : ∃ t : Fin cfg0.N, t.val * 256 + s.val = r.val := ⟨⟨_, hN⟩, hs⟩
  obtain ⟨⟨i0, i1, i2, i3, i4, i5⟩, i6, i7⟩ := index t
  obtain ⟨f0, f1, f2, f3⟩ := flush t
  obtain ⟨g0, g1, g2, g3⟩ := point_at (iblk m c 0 t) (iblk m c 1 t) (iblk m c 2 t) (iblk m c 3 t) (ix2 s l)
  have e0 : iblk m c 0 t (ix2 s l) = arg0 m c (ix2 r l) := entry (arg0 m c) _ i0 r s l ht rfl rfl
  have e1 : iblk m c 1 t (ix2 s l) = argW m c (ix2 r l) := entry (argW m c) _ i1 r s l ht rfl rfl
  have e2 : iblk m c 2 t (ix2 s l) = argM m c (ix2 r l) := entry (argM m c) _ i2 r s l ht rfl rfl
  have e3 : iblk m c 3 t (ix2 s l) = argV m c (ix2 r l) := entry (argV m c) _ i3 r s l ht rfl rfl
  simp only [e0, e1, e2, e3] at g0 g1 g2 g3
  have b0 := congrFun ((Value.blocks4 m c t f0).trans (Value.flushed4 m c t)) (ix2 s l)
  have b1 := congrFun ((Value.blocks5 m c t f1).trans (Value.flushed5 m c t)) (ix2 s l)
  have b2 := congrFun ((Value.blocks6 m c t f2).trans (Value.flushed6 m c t)) (ix2 s l)
  have b3 := congrFun ((Value.blocks7 m c t f3).trans (Value.flushed7 m c t)) (ix2 s l)
  rw [View.read_apply] at b0 b1 b2 b3
  exact ⟨(entry (outG m c) _ i4 r s l ht rfl rfl).symm.trans (b0.trans g0),
    (entry (outD m c) _ i5 r s l ht rfl rfl).symm.trans (b1.trans g1),
    (entry (outM m c) _ i6 r s l ht rfl rfl).symm.trans (b2.trans g2),
    (entry (outV m c) _ i7 r s l ht rfl rfl).symm.trans (b3.trans g3)⟩

/-! ## The claims -/

/-- The body table printed for words is the one printed for extended reals, read at words. -/
theorem bodies : Cert.AdamAda.defs₀ (F := Bits) = defs₀ (F := Bits) := by
  unfold Cert.AdamAda.defs₀ defs₀
  congr 1
  funext l a
  match l, a with
  | ⟨0, _⟩, (t, s) => rfl

theorem frame_p : Cert.quiescent_AdamAda := by
  intro m ρ _
  unfold Cert.AdamAda.defs
  rw [bodies]
  exact Gen.frame (F := Bits) m ρ

theorem frame_pi : Cert.quiescent_AdamAdaIdeal :=
  fun m ρ _ => Gen.frame (F := Ideal) m ρ

theorem frame_ri : Cert.quiescent_AdamAdaRefIdeal :=
  fun m ρ _ => (θ_run Cert.AdamAdaRefIdeal.defs _ _).mono
    (fun r h => ⟨fun c => (h c).2.2.2.2, sem_eq_zero_of_no_sems (by decide) r.2⟩) (Cert.AdamAdaRefIdeal.Value.run (F := Ideal) m ρ)

theorem preserves : Cert.preserves_AdamAda_AdamAdaIdeal := trivial

theorem algebraic : Cert.algebraic_AdamAdaIdeal_AdamAdaRefIdeal := by
  intro m ρ m' ρ' _ hagree
  refine ⟨_, _, _, _, Value.run_blocks (F := Ideal) m ρ, ?_⟩
  refine (θ_run Cert.AdamAdaRefIdeal.defs _ _).mono (fun _ h c => ?_) (Cert.AdamAdaRefIdeal.Value.run (F := Ideal) m' ρ')
  obtain ⟨e0, e1, e2, e3, kept⟩ := h c
  obtain ⟨b0, b1, b2, b3⟩ := hagree c
  refine ⟨e0.trans (ext2 fun r l => Eq.trans ?_ (out_at m c r l).1.symm), e1.trans (ext2 fun r l => Eq.trans ?_ (out_at m c r l).2.1.symm),
    e2.trans (ext2 fun r l => Eq.trans ?_ (out_at m c r l).2.2.1.symm), e3.trans (ext2 fun r l => Eq.trans ?_ (out_at m c r l).2.2.2.symm), kept⟩
  all_goals
    simp only [pointwise, zero_add]
    simp only [b0, b1, b2, b3]
    rfl

end Cert.AdamAdaIdeal.Step
end
-- ==== Proof.AdaFwd.lean ====
/- The modulation: the kernel's result array is the product of the gated conditioning and the weight, with the bias, and so is
   the reference's. -/
module
public import proofs.«01_k».proof.Defs
public import proofs.«01_k».proof.Proof.Tile
public import proofs.«01_k».proof.Proof.Gen.AdaFwdIdeal.Value
public import proofs.«01_k».proof.Proof.Gen.AdaFwd
public import proofs.«01_k».proof.Proof.Gen.AdaFwdRefIdeal.Run
public import Idealize.ShloMosaic.Lib.VecWindow
public import Idealize.ShloMosaic.Lib.Tactic
public import Idealize.ShloMosaic.Lib.Quiescent
@[expose] public section

set_option maxRecDepth 16384

noncomputable section

namespace Cert.AdaFwdIdeal.Modulation

open Cert.AdaFwdIdeal Cert.AdaFwdIdeal.Gen Cert.Blocks Cert.Tile
open Idealize.ShloMosaic Idealize.ShloMosaic.TcCoe Idealize.SL.Sem

theorem point_at (x0 : Vec Ideal S8x2048 .f32) (x1 : Vec Ideal S2048x512 .f32) (x2 : Vec Ideal S1x512 .f32) (r : Fin 8) (l : Fin 512) :
    out0_3 x0 x1 x2 (ix2 r l) = (∑ k : Fin 2048, silu (x0 (ix2 r k)) * x1 (ix2 k l)) + x2 (ix2 0 l) := by
  unfold out0_3
  simp only [r0_0, r0_1, r0_2, r0_3, View.canon_unit_zero (S := S8x512) hz, View.ld_unit_zero (S := S8x2048) hz, View.ld_unit_zero (S := S2048x512) hz,
    View.ld_unit_zero (S := S1x512) hz]
  unfold k0_pay1
  simp only [pointwise, zero_add]
  rfl

theorem index : ∀ t : Fin cfg0.N, win0_0.index t = ![0, 0] ∧ win0_1.index t = ![0, t.val] ∧ win0_2.index t = ![0, t.val] ∧ win0_3.index t = ![0, t.val] :=
  (by decide +kernel : ∀ t : Fin grid0.N, win0_0.index t = ![0, 0] ∧ win0_1.index t = ![0, t.val] ∧ win0_2.index t = ![0, t.val] ∧ win0_3.index t = ![0, t.val])
theorem flush : ∀ t : Fin cfg0.N, (cfg0.win 3).flush t = true := (by decide +kernel : ∀ t : Fin grid0.N, win0_3.flush t = true)

variable (m : (ℓ : Loc nD τ sig) → Buf (Elt Ideal) ℓ) (c : Dev nD)

/-- The kernel's arguments, the conditioning, the weight and the bias, and its result array. -/
abbrev argC : FVec Ideal S8x2048 .f32 := m ((c.tc : Thread nD τ).loc main_arg0)
abbrev argW : FVec Ideal S2048x1536 .f32 := m ((c.tc : Thread nD τ).loc main_arg1)
abbrev argB : FVec Ideal S1x1536 .f32 := m ((c.tc : Thread nD τ).loc main_arg2)
abbrev out : FVec Ideal S8x1536 .f32 := (dats m 0 c).arrAt 3 cfg0.N

theorem out_at (r : Fin 8) (l : Fin 1536) : out m c (ix2 r l) = (∑ k : Fin 2048, silu (argC m c (ix2 r k)) * argW m c (ix2 k l)) + argB m c (ix2 0 l) := by
  have hN : l.val / 512 < cfg0.N := lt_of_lt_of_eq (by omega) N_0.symm
  obtain ⟨i0, i1, i2, i3⟩ := index ⟨_, hN⟩
  obtain ⟨s, hs⟩ := place (p := 512) (by decide) l.val
  have b := congrFun ((Value.blocks3 m c ⟨_, hN⟩ (flush _)).trans (Value.flushed3 m c ⟨_, hN⟩)) (ix2 r s)
  rw [View.read_apply] at b
  have e := (tile (out m c) _ i3 r s rfl rfl).symm.trans (b.trans (point_at _ _ _ r s))
  rw [whole, hs, ← at_ix] at e
  have e2 : iblk m c 2 ⟨_, hN⟩ (ix2 0 s) = at2 (argB m c) (0 * 1 + (0 : Fin 1).val) (l.val / 512 * 512 + s.val) := tile (argB m c) _ i2 (0 : Fin 1) s rfl rfl
  rw [whole, hs, ← at_ix] at e2
  refine e.trans (congrArg₂ (· + ·) (Finset.sum_congr rfl fun k _ => ?_) e2)
  have e0 : iblk m c 0 ⟨_, hN⟩ (ix2 r k) = at2 (argC m c) (0 * 8 + r.val) (0 * 2048 + k.val) := tile (argC m c) _ i0 r k rfl rfl
  have e1 : iblk m c 1 ⟨_, hN⟩ (ix2 k s) = at2 (argW m c) (0 * 2048 + k.val) (l.val / 512 * 512 + s.val) := tile (argW m c) _ i1 k s rfl rfl
  rw [whole, whole, ← at_ix] at e0
  rw [whole, hs, ← at_ix] at e1
  rw [e0, e1]

/-! ## The claims -/

/-- The body table printed for words is the one printed for extended reals, read at words. -/
theorem bodies : Cert.AdaFwd.defs₀ (F := Bits) = defs₀ (F := Bits) := by
  unfold Cert.AdaFwd.defs₀ defs₀
  congr 1
  funext l a
  match l, a with
  | ⟨0, _⟩, (t, s) => rfl

theorem frame_p : Cert.quiescent_AdaFwd := by
  intro m ρ _
  unfold Cert.AdaFwd.defs
  rw [bodies]
  exact Gen.frame (F := Bits) m ρ

theorem frame_pi : Cert.quiescent_AdaFwdIdeal :=
  fun m ρ _ => Gen.frame (F := Ideal) m ρ

theorem frame_ri : Cert.quiescent_AdaFwdRefIdeal :=
  fun m ρ _ => (θ_run Cert.AdaFwdRefIdeal.defs _ _).mono
    (fun r h => ⟨fun c => (h c).2, sem_eq_zero_of_no_sems (by decide) r.2⟩) (Cert.AdaFwdRefIdeal.Value.run (F := Ideal) m ρ)

theorem preserves : Cert.preserves_AdaFwd_AdaFwdIdeal := trivial

theorem algebraic : Cert.algebraic_AdaFwdIdeal_AdaFwdRefIdeal := by
  intro m ρ m' ρ' _ hagree
  refine ⟨_, Value.run_blocks (F := Ideal) m ρ, ?_⟩
  refine (θ_run Cert.AdaFwdRefIdeal.defs _ _).mono (fun _ h c => ?_) (Cert.AdaFwdRefIdeal.Value.run (F := Ideal) m' ρ')
  obtain ⟨e0, kept⟩ := h c
  obtain ⟨b0, b1, b2⟩ := hagree c
  refine ⟨e0.trans (ext2 fun r l => Eq.trans ?_ (out_at m c r l).symm), kept⟩
  simp only [pointwise, zero_add]
  rw [b0, b1, b2]
  rfl

end Cert.AdaFwdIdeal.Modulation
end
-- ==== Proof.AdaGrad.lean ====
/- The gradient of the modulation's weight: the kernel's result array is the product of the transposed, gated conditioning and
   the gradient of the modulation, and so is the reference's. -/
module
public import proofs.«01_k».proof.Defs
public import proofs.«01_k».proof.Proof.Tile
public import proofs.«01_k».proof.Proof.Gen.AdaGradIdeal.Value
public import proofs.«01_k».proof.Proof.Gen.AdaGrad
public import proofs.«01_k».proof.Proof.Gen.AdaGradRefIdeal.Run
public import Idealize.ShloMosaic.Lib.VecWindow
public import Idealize.ShloMosaic.Lib.Tactic
public import Idealize.ShloMosaic.Lib.Quiescent
@[expose] public section

set_option maxRecDepth 16384

noncomputable section

namespace Cert.AdaGradIdeal.Grad

open Cert.AdaGradIdeal Cert.AdaGradIdeal.Gen Cert.Blocks Cert.Tile
open Idealize.ShloMosaic Idealize.ShloMosaic.TcCoe Idealize.SL.Sem

theorem point_at (x0 : Vec Ideal S8x2048 .f32) (x1 : Vec Ideal S8x512 .f32) (r : Fin 2048) (l : Fin 512) :
    out0_2 x0 x1 (ix2 r l) = ∑ k : Fin 8, silu (x0 (ix2 k r)) * x1 (ix2 k l) := by
  unfold out0_2
  simp only [r0_0, r0_1, r0_2, View.canon_unit_zero (S := S2048x512) hz, View.ld_unit_zero (S := S8x2048) hz, View.ld_unit_zero (S := S8x512) hz]
  unfold k0_pay1
  simp only [pointwise, zero_add]
  rfl

theorem index : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])
theorem flush : ∀ t : Fin cfg0.N, (cfg0.win 2).flush t = true := (by decide +kernel : ∀ t : Fin grid0.N, win0_2.flush t = true)

variable (m : (ℓ : Loc nD τ sig) → Buf (Elt Ideal) ℓ) (c : Dev nD)

/-- The kernel's arguments, the conditioning and the gradient of the modulation, and its result array. -/
abbrev argC : FVec Ideal S8x2048 .f32 := m ((c.tc : Thread nD τ).loc main_arg0)
abbrev argD : FVec Ideal S8x1536 .f32 := m ((c.tc : Thread nD τ).loc main_arg1)
abbrev out : FVec Ideal S2048x1536 .f32 := (dats m 0 c).arrAt 2 cfg0.N

theorem out_at (r : Fin 2048) (l : Fin 1536) : out m c (ix2 r l) = ∑ k : Fin 8, silu (argC m c (ix2 k r)) * argD m c (ix2 k l) := by
  have hN : l.val / 512 < cfg0.N := lt_of_lt_of_eq (by omega) N_0.symm
  obtain ⟨i0, i1, i2⟩ := index ⟨_, hN⟩
  obtain ⟨s, hs⟩ := place (p := 512) (by decide) l.val
  have b := congrFun ((Value.blocks2 m c ⟨_, hN⟩ (flush _)).trans (Value.flushed2 m c ⟨_, hN⟩)) (ix2 r s)
  rw [View.read_apply] at b
  have e := (tile (out m c) _ i2 r s rfl rfl).symm.trans (b.trans (point_at _ _ r s))
  rw [whole, hs, ← at_ix] at e
  refine e.trans (Finset.sum_congr rfl fun k _ => ?_)
  have e0 : iblk m c 0 ⟨_, hN⟩ (ix2 k r) = at2 (argC m c) (0 * 8 + k.val) (0 * 2048 + r.val) := tile (argC m c) _ i0 k r rfl rfl
  have e1 : iblk m c 1 ⟨_, hN⟩ (ix2 k s) = at2 (argD m c) (0 * 8 + k.val) (l.val / 512 * 512 + s.val) := tile (argD m c) _ i1 k s rfl rfl
  rw [whole, whole, ← at_ix] at e0
  rw [whole, hs, ← at_ix] at e1
  rw [e0, e1]

/-! ## The claims -/

/-- The body table printed for words is the one printed for extended reals, read at words. -/
theorem bodies : Cert.AdaGrad.defs₀ (F := Bits) = defs₀ (F := Bits) := by
  unfold Cert.AdaGrad.defs₀ defs₀
  congr 1
  funext l a
  match l, a with
  | ⟨0, _⟩, (t, s) => rfl

theorem frame_p : Cert.quiescent_AdaGrad := by
  intro m ρ _
  unfold Cert.AdaGrad.defs
  rw [bodies]
  exact Gen.frame (F := Bits) m ρ

theorem frame_pi : Cert.quiescent_AdaGradIdeal :=
  fun m ρ _ => Gen.frame (F := Ideal) m ρ

theorem frame_ri : Cert.quiescent_AdaGradRefIdeal :=
  fun m ρ _ => (θ_run Cert.AdaGradRefIdeal.defs _ _).mono
    (fun r h => ⟨fun c => (h c).2, sem_eq_zero_of_no_sems (by decide) r.2⟩) (Cert.AdaGradRefIdeal.Value.run (F := Ideal) m ρ)

theorem preserves : Cert.preserves_AdaGrad_AdaGradIdeal := trivial

theorem algebraic : Cert.algebraic_AdaGradIdeal_AdaGradRefIdeal := by
  intro m ρ m' ρ' _ hagree
  refine ⟨_, Value.run_blocks (F := Ideal) m ρ, ?_⟩
  refine (θ_run Cert.AdaGradRefIdeal.defs _ _).mono (fun _ h c => ?_) (Cert.AdaGradRefIdeal.Value.run (F := Ideal) m' ρ')
  obtain ⟨e0, kept⟩ := h c
  obtain ⟨b0, b1⟩ := hagree c
  refine ⟨e0.trans (ext2 fun r l => Eq.trans ?_ (out_at m c r l).symm), kept⟩
  simp only [pointwise, zero_add]
  rw [b0, b1]
  exact Finset.sum_congr rfl fun k _ => mul_comm _ _

end Cert.AdaGradIdeal.Grad
end
-- ==== Proof.Softmax.lean ====
/- A row of the attention's forward pass: its largest score, its sums and its output, from the products of a query and the
   keys in bits, taken eight blocks of keys at a time. -/
module
public import proofs.«01_k».proof.Proof.Math
@[expose] public section

noncomputable section

namespace Cert.Attn

open Idealize.ShloMosaic

/-! ## The keys in eight blocks -/

/-- Key `c` of block `b`. -/
def keyOf (b : Fin 8) (c : Fin 1024) : Fin 8192 := ⟨b.val * 1024 + c.val, by omega⟩

theorem exists_key (j : Fin 8192) : ∃ b c, keyOf b c = j :=
  ⟨⟨j.val / 1024, by omega⟩, ⟨j.val % 1024, by omega⟩, Fin.ext (by simp only [keyOf]; omega)⟩

theorem sum_keys (f : Fin 8192 → EReal) : ∑ b : Fin 8, ∑ c : Fin 1024, f (keyOf b c) = ∑ j, f j := by
  rw [← Fintype.sum_prod_type']
  refine Fintype.sum_equiv (finProdFinEquiv (m := 8) (n := 1024)) _ _ fun x => ?_
  congr 1
  apply Fin.ext
  simp only [keyOf, finProdFinEquiv, Equiv.coe_fn_mk]
  omega

/-- The eight blocks added place by place, then over the places. -/
theorem sum_places (f : Fin 8192 → EReal) :
    ∑ c : Fin 1024, (f (keyOf 0 c) + f (keyOf 1 c) + f (keyOf 2 c) + f (keyOf 3 c) + f (keyOf 4 c) + f (keyOf 5 c) + f (keyOf 6 c) + f (keyOf 7 c)) = ∑ j, f j := by
  rw [← sum_keys, Finset.sum_comm]
  exact Finset.sum_congr rfl fun c _ => (Fin.sum_univ_eight fun b => f (keyOf b c)).symm

/-- The eight blocks' sums added. -/
theorem sum_blocks (f : Fin 8192 → EReal) :
    (∑ c, f (keyOf 0 c)) + (∑ c, f (keyOf 1 c)) + (∑ c, f (keyOf 2 c)) + (∑ c, f (keyOf 3 c)) + (∑ c, f (keyOf 4 c)) + (∑ c, f (keyOf 5 c))
      + (∑ c, f (keyOf 6 c)) + (∑ c, f (keyOf 7 c)) = ∑ j, f j := by
  rw [← sum_keys]
  exact (Fin.sum_univ_eight fun b => ∑ c, f (keyOf b c)).symm

/-- The largest of all the keys' values is the largest of the blocks' largest, place by place. -/
theorem fold_keys (f : Fin 8192 → EReal) :
    Finset.fold max ⊥ (fun c : Fin 1024 => max (max (max (max (max (max (max (f (keyOf 0 c)) (f (keyOf 1 c))) (f (keyOf 2 c))) (f (keyOf 3 c)))
      (f (keyOf 4 c))) (f (keyOf 5 c))) (f (keyOf 6 c))) (f (keyOf 7 c))) Finset.univ = Finset.fold max ⊥ f Finset.univ := by
  refine eq_of_forall_ge_iff fun x => ?_
  simp only [Finset.fold_max_le, bot_le, true_and, Finset.mem_univ, forall_const, max_le_iff]
  constructor
  · intro h j
    obtain ⟨b, c, rfl⟩ := exists_key j
    obtain ⟨⟨⟨⟨⟨⟨⟨h0, h1⟩, h2⟩, h3⟩, h4⟩, h5⟩, h6⟩, h7⟩ := h c
    match b with
    | 0 => exact h0
    | 1 => exact h1
    | 2 => exact h2
    | 3 => exact h3
    | 4 => exact h4
    | 5 => exact h5
    | 6 => exact h6
    | 7 => exact h7
  · intro h c
    exact ⟨⟨⟨⟨⟨⟨⟨h _, h _⟩, h _⟩, h _⟩, h _⟩, h _⟩, h _⟩, h _⟩

/-! ## A positive divisor and a sum -/

theorem sum_mul_coe {ι : Type} (s : Finset ι) (f : ι → EReal) (r : ℝ) (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- A weighted sum divided by a positive real is the sum with the weights divided. -/
theorem div_sum {ι : Type} [Fintype ι] (e : ι → ℝ) (v : ι → EReal) (l : ℝ) (hl : 0 < l) :
    Ideal.div (∑ j, (e j : EReal) * v j) (l : EReal) = ∑ j, v j * ((e j / l : ℝ) : EReal) := by
  rw [Ideal.div_coe hl.ne', sum_mul_coe _ _ _ (one_div_pos.mpr hl).le]
  refine Finset.sum_congr rfl fun j _ => ?_
  rw [mul_comm (e j : EReal) (v j), mul_assoc, ← EReal.coe_mul, mul_one_div]

section Real

variable (q k : Fin 8192 → Fin 2048 → ℝ) (h : Fin 8) (i : Fin 8192)

/-- The largest product of a query and a key. -/
def top2 : ℝ := Finset.univ.sup' (Finset.univ_nonempty (α := Fin 8192)) (dotQK q k h i)

theorem top_eq : top q k h i = top2 q k h i * Real.log 2 := by
  have hl : (0 : ℝ) < Real.log 2 := Real.log_pos (by norm_num)
  unfold top top2
  apply le_antisymm
  · exact Finset.sup'_le _ _ fun j hj => mul_le_mul_of_nonneg_right (Finset.le_sup' (dotQK q k h i) hj) hl.le
  · obtain ⟨j, hj, e⟩ := Finset.exists_mem_eq_sup' (Finset.univ_nonempty (α := Fin 8192)) (dotQK q k h i)
    rw [e]
    exact Finset.le_sup' (score q k h i) hj

/-- The power of two that the kernel takes is the softmax's exponential. -/
theorem expo_eq (j : Fin 8192) : Real.rpow 2 (dotQK q k h i j - top2 q k h i) = expo q k h i j := by
  change (2 : ℝ) ^ (dotQK q k h i j - top2 q k h i) = _
  rw [Real.rpow_def_of_pos (by norm_num)]
  unfold expo score
  rw [top_eq]
  congr 1
  ring

/-- The log-sum-exp as the kernel computes it. -/
theorem lse2_eq : top2 q k h i + Real.log (mass q k h i) / Real.log 2 = lse2 q k h i := by
  have hl : Real.log 2 ≠ 0 := (Real.log_pos (by norm_num)).ne'
  unfold lse2
  rw [top_eq]
  field_simp

end Real

end Cert.Attn
end
-- ==== Proof.Forward.lean ====
/- The attention's forward call: its arrays are the softmax attention's output and each row's log-sum-exp in bits, and so are the
   reference's. -/
module
public import proofs.«01_k».proof.Defs
public import proofs.«01_k».proof.Proof.Softmax
public import proofs.«01_k».proof.Proof.HostVals
public import proofs.«01_k».proof.Proof.Algebra
public import proofs.«01_k».proof.Proof.Blocks
public import proofs.«01_k».proof.Proof.Gen.FwdIdeal.Value
public import proofs.«01_k».proof.Proof.Gen.Fwd
public import proofs.«01_k».proof.Proof.Gen.FwdRefIdeal.Run
public import proofs.«01_k».proof.Proof.Gen.Pre_finite_scores
public import Idealize.ShloMosaic.Lib.VecWindow
public import Idealize.ShloMosaic.Lib.Pipeline.ValueKit.Tiles
public import Idealize.ShloMosaic.Lib.Tactic
public import Idealize.ShloMosaic.Lib.Quiescent
@[expose] public section

set_option maxRecDepth 16384

noncomputable section

namespace Cert.FwdIdeal.Softmax

open Cert.FwdIdeal Cert.FwdIdeal.Gen Cert.Blocks Cert.Attn
open Idealize.ShloMosaic Idealize.ShloMosaic.TcCoe Idealize.SL.Sem

/-! ## What a point computes, as a term of its blocks -/

section Point

variable {F : FTy → Type} [FloatOps F]

/-- Block `b` of the keys. -/
def keys (x : Vec F S8192x256 .bf16) (b : Fin 8) : Vec F S1024x256 .bf16 := fun i => x (ix2 (keyOf b (i 0)) (i 1))

/-- Block `b` of the values. -/
def vals (x : Vec F S8192x128 .bf16) (b : Fin 8) : Vec F S1024x128 .bf16 := fun i => x (ix2 (keyOf b (i 0)) (i 1))

theorem ld_keys (x : Vec F S8192x256 .bf16) (b : Fin 8) (off : Fin 2 → ℕ) (ho : off = ![b.val * 1024, 0])
    (inb : ∀ k, off k + S1024x256.size k ≤ S8192x256.size k) :
    View.ld x (Rect.unit (s := S8192x256) off S1024x256.size inb) = keys x b := by
  subst ho
  refine funext fun i => View.ld_unit_apply_of x _ _ inb i _ fun a => ?_
  match a with
  | 0 => rfl
  | 1 => exact (Nat.zero_add _).symm

theorem ld_vals (x : Vec F S8192x128 .bf16) (b : Fin 8) (off : Fin 2 → ℕ) (ho : off = ![b.val * 1024, 0])
    (inb : ∀ k, off k + S1024x128.size k ≤ S8192x128.size k) :
    View.ld x (Rect.unit (s := S8192x128) off S1024x128.size inb) = vals x b := by
  subst ho
  refine funext fun i => View.ld_unit_apply_of x _ _ inb i _ fun a => ?_
  match a with
  | 0 => rfl
  | 1 => exact (Nat.zero_add _).symm

variable (x0 : Vec F S512x256 .bf16) (K : Fin 8 → Vec F S1024x256 .bf16) (W : Fin 8 → Vec F S1024x128 .bf16)

/-- The row's largest score. -/
def big : FVec F S512x1 .f32 := k0_pay16 k0_pay4 (k0_pay13 x0 (K 6)) (k0_pay14 x0 (K 7)) (k0_pay15 x0 (K 0) (K 1) (K 2) (K 3) (K 4) (K 5))

/-- The factor of what the scratch held before. -/
def fade : FVec F S512x1 .f32 := k0_pay17 k0_pay4 (k0_pay13 x0 (K 6)) (k0_pay14 x0 (K 7)) (k0_pay15 x0 (K 0) (K 1) (K 2) (K 3) (K 4) (K 5))

/-- The row's sum of exponentials. -/
def total : FVec F S512x1 .f32 :=
  k0_pay29 (k0_pay12 x0 (K 5)) (k0_pay13 x0 (K 6)) (k0_pay14 x0 (K 7)) (big x0 K) (fade x0 K)
    (k0_pay25 k0_pay4 (k0_pay7 x0 (K 0)) (k0_pay8 x0 (K 1)) (k0_pay9 x0 (K 2)) (k0_pay10 x0 (K 3)) (k0_pay11 x0 (K 4)) (k0_pay13 x0 (K 6)) (k0_pay14 x0 (K 7))
      (k0_pay15 x0 (K 0) (K 1) (K 2) (K 3) (K 4) (K 5))) k0_pay5

/-- The row's weighted sum of the values. -/
def mix : FVec F S512x128 .f32 :=
  k0_pay30 (k0_pay12 x0 (K 5)) (k0_pay13 x0 (K 6)) (k0_pay14 x0 (K 7)) (big x0 K) (fade x0 K)
    (k0_pay22 k0_pay4 (k0_pay7 x0 (K 0)) (k0_pay8 x0 (K 1)) (k0_pay9 x0 (K 2)) (k0_pay10 x0 (K 3)) (k0_pay13 x0 (K 6)) (k0_pay14 x0 (K 7))
      (k0_pay15 x0 (K 0) (K 1) (K 2) (K 3) (K 4) (K 5)) (W 0) (W 1) (W 2) (W 3))
    (k0_pay24 k0_pay4 (k0_pay11 x0 (K 4)) (k0_pay13 x0 (K 6)) (k0_pay14 x0 (K 7)) (k0_pay15 x0 (K 0) (K 1) (K 2) (K 3) (K 4) (K 5)) (W 4))
    (W 5) (W 6) (W 7) k0_pay6

end Point

section Case

variable {F : FTy → Type} [FloatOps F]
variable (c : Dev nD) (i : grid0.Coords) (a0 : Memref sig .tc .vmem S512x256 .bf16) (h0 : a0.IsWhole) (a1 : Memref sig .tc .vmem S8192x256 .bf16) (h1 : a1.IsWhole)
  (a2 : Memref sig .tc .vmem S8192x128 .bf16) (h2 : a2.IsWhole) (a3 : Memref sig .tc .vmem S512x128 .bf16) (h3 : a3.IsWhole)
  (a4 : Memref sig .tc .vmem S1x512x1 .f32) (h4 : a4.IsWhole) (a5 : Memref sig .tc .vmem S512x1 .f32) (h5 : a5.IsWhole)
  (a6 : Memref sig .tc .vmem S512x1 .f32) (h6 : a6.IsWhole) (a7 : Memref sig .tc .vmem S512x128 .f32) (h7 : a7.IsWhole) (hc0 : cond0_0 i) (hc1 : cond0_1 i)
  (x0 : Vec F S512x256 .bf16) (x1 : Vec F S8192x256 .bf16) (x2 : Vec F S8192x128 .bf16)

theorem case_A :
    (out0_A_3 c i a0 h0 a1 h1 a2 h2 a3 h3 a4 h4 a5 h5 a6 h6 a7 h7 hc0 hc1 x0 x1 x2, out0_A_4 c i a0 h0 a1 h1 a2 h2 a3 h3 a4 h4 a5 h5 a6 h6 a7 h7 hc0 hc1 x0 x1 x2)
      = (k0_pay2 (total x0 (keys x1)) (mix x0 (keys x1) (vals x2)), k0_pay3 (big x0 (keys x1)) (total x0 (keys x1))) := by
  unfold out0_A_3 out0_A_4
  rw [View.read_writes_eq_canon _ _ _ (cover0_A_3 c i a0 h0 a1 h1 a2 h2 a3 h3 a4 h4 a5 h5 a6 h6 a7 h7 hc0 hc1 x0 x1 x2),
    View.read_writes_eq_canon _ _ _ (cover0_A_4 c i a0 h0 a1 h1 a2 h2 a3 h3 a4 h4 a5 h5 a6 h6 a7 h7 hc0 hc1 x0 x1 x2)]
  unfold kernelRun0_A
  dsimp only
  sl_unfold_words
  simp only [View.canon_unit_zero (S := S512x128) hz, View.canon_unit_zero (S := S1x512x1) hz3, View.readCov_unit_zero (S := S512x1) _ hz,
    View.readCov_unit_zero (S := S512x128) _ hz, View.readAt_eq_ld, h0.read_unread, h1.read_unread, h2.read_unread, View.ld_unit_zero (S := S512x256) hz,
    ld_keys x1 0 ![0, 0] rfl, ld_keys x1 1 ![1024, 0] rfl, ld_keys x1 2 ![2048, 0] rfl, ld_keys x1 3 ![3072, 0] rfl, ld_keys x1 4 ![4096, 0] rfl,
    ld_keys x1 5 ![5120, 0] rfl, ld_keys x1 6 ![6144, 0] rfl, ld_keys x1 7 ![7168, 0] rfl,
    ld_vals x2 0 ![0, 0] rfl, ld_vals x2 1 ![1024, 0] rfl, ld_vals x2 2 ![2048, 0] rfl, ld_vals x2 3 ![3072, 0] rfl, ld_vals x2 4 ![4096, 0] rfl,
    ld_vals x2 5 ![5120, 0] rfl, ld_vals x2 6 ![6144, 0] rfl, ld_vals x2 7 ![7168, 0] rfl]
  rfl

end Case

/-! ## Its entries, over the extended reals -/

section Entries

variable {q k : Fin 8192 → Fin 2048 → ℝ} {h : Fin 8} {i : Fin 8192} {r : Fin 512}
variable {x0 : Vec Ideal S512x256 .bf16} {x1 : Vec Ideal S8192x256 .bf16} (x2 : Vec Ideal S8192x128 .bf16)

theorem score_at (hq : ∀ e, x0 (ix2 r e) = (q i (colQ h e) : EReal)) (hk : ∀ j e, x1 (ix2 j e) = (k j (colQ h e) : EReal)) (b : Fin 8) (c : Fin 1024) :
    k0_pay7 x0 (keys x1 b) (ix2 r c) = (dotQK q k h i (keyOf b c) : EReal) := by
  have hk' : ∀ e, keys x1 b (ix2 c e) = (k (keyOf b c) (colQ h e) : EReal) := fun e => hk _ _
  unfold k0_pay7
  simp only [pointwise, hq, hk']
  rw [coe_sum_mul, zero_add]
  rfl

/-- The eight products differ only in their block of keys. -/
theorem same (x : Vec Ideal S512x256 .bf16) (y : Vec Ideal S1024x256 .bf16) : k0_pay8 x y = k0_pay7 x y ∧ k0_pay9 x y = k0_pay7 x y ∧ k0_pay10 x y = k0_pay7 x y
    ∧ k0_pay11 x y = k0_pay7 x y ∧ k0_pay12 x y = k0_pay7 x y ∧ k0_pay13 x y = k0_pay7 x y ∧ k0_pay14 x y = k0_pay7 x y := ⟨rfl, rfl, rfl, rfl, rfl, rfl, rfl⟩

theorem big_at (hq : ∀ e, x0 (ix2 r e) = (q i (colQ h e) : EReal)) (hk : ∀ j e, x1 (ix2 j e) = (k j (colQ h e) : EReal)) (u : Fin 1) :
    big x0 (keys x1) (ix2 r u) = (top2 q k h i : EReal) := by
  have hs := score_at hq hk
  unfold big k0_pay16 k0_pay15 k0_pay4
  simp only [same]
  simp only [pointwise, hs]
  rw [bot_f32, fold_keys fun j => (dotQK q k h i j : EReal), fold_max]
  exact max_eq_right bot_le

end Entries

end Cert.FwdIdeal.Softmax
end
-- ==== Proof.ForwardRow.lean ====
/- The entries of what a point of the attention's forward call leaves: a row of the output and its log-sum-exp. -/
module
public import proofs.«01_k».proof.Proof.Forward
@[expose] public section

set_option maxRecDepth 16384

noncomputable section

namespace Cert.FwdIdeal.Softmax

open Cert.FwdIdeal Cert.FwdIdeal.Gen Cert.Blocks Cert.Attn
open Idealize.ShloMosaic Idealize.ShloMosaic.TcCoe Idealize.SL.Sem

variable {q k : Fin 8192 → Fin 2048 → ℝ} {h : Fin 8} {i : Fin 8192} {r : Fin 512}
variable {x0 : Vec Ideal S512x256 .bf16} {x1 : Vec Ideal S8192x256 .bf16} (x2 : Vec Ideal S8192x128 .bf16)

/-- The exponential at a key, once the score and the row's largest score are known. -/
theorem weight (b : Fin 8) (c : Fin 1024) : Ideal.exp2 ((dotQK q k h i (keyOf b c) : EReal) - (top2 q k h i : EReal)) = (expo q k h i (keyOf b c) : EReal) := by
  rw [← EReal.coe_sub, Ideal.exp2_coe, expo_eq]

variable (hq : ∀ e, x0 (ix2 r e) = (q i (colQ h e) : EReal)) (hk : ∀ j e, x1 (ix2 j e) = (k j (colQ h e) : EReal))
include hq hk

/-- The exponentials of a block of keys. -/
theorem weights_at (b : Fin 8) (c : Fin 1024) : k0_pay26 (k0_pay7 x0 (keys x1 b)) (big x0 (keys x1)) (ix2 r c) = (expo q k h i (keyOf b c) : EReal) := by
  have hs := score_at hq hk
  have hb := big_at hq hk
  unfold k0_pay26
  simp only [pointwise, hs]
  exact (congrArg (fun z => Ideal.exp2 ((dotQK q k h i (keyOf b c) : EReal) - z)) (hb 0)).trans (weight b c)

omit hq hk in
/-- The eight blocks' exponentials are one term at eight blocks. -/
theorem alike (x0 : Vec Ideal S512x256 .bf16) (K : Fin 8 → Vec Ideal S1024x256 .bf16) (s : FVec Ideal S512x1024 .f32) :
    k0_pay18 k0_pay4 s (k0_pay13 x0 (K 6)) (k0_pay14 x0 (K 7)) (k0_pay15 x0 (K 0) (K 1) (K 2) (K 3) (K 4) (K 5)) = k0_pay26 s (big x0 K)
      ∧ k0_pay19 k0_pay4 s (k0_pay13 x0 (K 6)) (k0_pay14 x0 (K 7)) (k0_pay15 x0 (K 0) (K 1) (K 2) (K 3) (K 4) (K 5)) = k0_pay26 s (big x0 K)
      ∧ k0_pay20 k0_pay4 s (k0_pay13 x0 (K 6)) (k0_pay14 x0 (K 7)) (k0_pay15 x0 (K 0) (K 1) (K 2) (K 3) (K 4) (K 5)) = k0_pay26 s (big x0 K)
      ∧ k0_pay21 k0_pay4 s (k0_pay13 x0 (K 6)) (k0_pay14 x0 (K 7)) (k0_pay15 x0 (K 0) (K 1) (K 2) (K 3) (K 4) (K 5)) = k0_pay26 s (big x0 K)
      ∧ k0_pay23 k0_pay4 s (k0_pay13 x0 (K 6)) (k0_pay14 x0 (K 7)) (k0_pay15 x0 (K 0) (K 1) (K 2) (K 3) (K 4) (K 5)) = k0_pay26 s (big x0 K)
      ∧ k0_pay27 s (big x0 K) = k0_pay26 s (big x0 K) ∧ k0_pay28 s (big x0 K) = k0_pay26 s (big x0 K) := ⟨rfl, rfl, rfl, rfl, rfl, rfl, rfl⟩

theorem total_at (u : Fin 1) : total x0 (keys x1) (ix2 r u) = (mass q k h i : EReal) := by
  have hw := weights_at hq hk
  unfold total k0_pay29 k0_pay25 k0_pay5
  simp only [alike]
  simp only [same]
  simp only [pointwise, hw, mul_zero, zero_add]
  rw [sum_places fun j => (expo q k h i j : EReal), coe_sum]
  rfl

theorem mix_at (e : Fin 128) : mix x0 (keys x1) (vals x2) (ix2 r e) = ∑ j, (expo q k h i j : EReal) * x2 (ix2 j e) := by
  have hw := weights_at hq hk
  have hv : ∀ b c, vals x2 b (ix2 c e) = x2 (ix2 (keyOf b c) e) := fun _ _ => rfl
  unfold mix k0_pay30 k0_pay22 k0_pay24 k0_pay6
  simp only [alike]
  simp only [same]
  simp only [pointwise, hw, hv, mul_zero, zero_add]
  exact sum_blocks fun j => (expo q k h i j : EReal) * x2 (ix2 j e)

/-- A row of the output. -/
theorem out_row (e : Fin 128) :
    k0_pay2 (total x0 (keys x1)) (mix x0 (keys x1) (vals x2)) (ix2 r e) = ∑ j, x2 (ix2 j e) * (prob q k h i j : EReal) := by
  have ht := total_at hq hk
  have hm := mix_at x2 hq hk e
  unfold k0_pay2
  simp only [pointwise, ht, hm]
  exact (congrArg (Ideal.div _) (ht 0)).trans (div_sum (expo q k h i) (fun j => x2 (ix2 j e)) _ (mass_pos q k h i))

/-- A row's log-sum-exp. -/
theorem lse_row (u : Fin 1) (w : Fin 1) : k0_pay3 (big x0 (keys x1)) (total x0 (keys x1)) (ix3 u r w) = (lse2 q k h i : EReal) := by
  have ht := total_at hq hk
  have hb := big_at hq hk
  unfold k0_pay3
  simp only [pointwise, ht, hb]
  change (top2 q k h i : EReal) + Ideal.div (Ideal.log (mass q k h i : EReal)) (Ideal.log (Ideal.ofBits .f32 0x40000000#32)) = _
  rw [log_two, log_pos _ (mass_pos q k h i), coe_div _ _ (Real.log_pos (by norm_num)), ← EReal.coe_add, lse2_eq]

end Cert.FwdIdeal.Softmax
end
-- ==== Proof.ForwardClaims.lean ====
/- The claims of the attention's forward call. -/
module
public import proofs.«01_k».proof.Proof.ForwardRow
@[expose] public section

set_option maxRecDepth 16384

noncomputable section

namespace Cert.FwdIdeal.Softmax

open Cert.FwdIdeal Cert.FwdIdeal.Gen Cert.Blocks Cert.Attn
open Idealize.ShloMosaic Idealize.ShloMosaic.TcCoe Idealize.SL.Sem
open Cert.ReferenceIdeal.Value (sArr eArr pArr sArr_at eArr_at pArr_at headV)
open Cert.KernelIdeal.Run (oHost cHost cHost_at)

/-! ## The blocks that a point reads and writes -/

theorem index0 : ∀ t : Fin cfg0.N, win0_0.index t = ![t.val % 16, t.val / 16] :=
  (by decide +kernel : ∀ t : Fin grid0.N, win0_0.index t = ![t.val % 16, t.val / 16])
theorem index1 : ∀ t : Fin cfg0.N, win0_1.index t = ![0, t.val / 16] :=
  (by decide +kernel : ∀ t : Fin grid0.N, win0_1.index t = ![0, t.val / 16])
theorem index2 : ∀ t : Fin cfg0.N, win0_2.index t = ![0, t.val / 16] :=
  (by decide +kernel : ∀ t : Fin grid0.N, win0_2.index t = ![0, t.val / 16])
theorem index3 : ∀ t : Fin cfg0.N, win0_3.index t = ![t.val % 16, t.val / 16] :=
  (by decide +kernel : ∀ t : Fin grid0.N, win0_3.index t = ![t.val % 16, t.val / 16])
theorem index4 : ∀ t : Fin cfg0.N, win0_4.index t = ![t.val / 16, t.val % 16, 0] :=
  (by decide +kernel : ∀ t : Fin grid0.N, win0_4.index t = ![t.val / 16, t.val % 16, 0])
theorem flush3 : ∀ t : Fin cfg0.N, (cfg0.win 3).flush t = true :=
  (by decide +kernel : ∀ t : Fin grid0.N, win0_3.flush t = true)
theorem flush4 : ∀ t : Fin cfg0.N, (cfg0.win 4).flush t = true :=
  (by decide +kernel : ∀ t : Fin grid0.N, win0_4.flush t = true)

variable (m : (ℓ : Loc nD τ sig) → Buf (Elt Ideal) ℓ) (c : Dev nD)

/-- The kernel's arguments: the queries, the keys and the values. -/
abbrev argQ : FVec Ideal S8192x2048 .bf16 := m ((c.tc : Thread nD τ).loc main_arg0)
abbrev argK : FVec Ideal S8192x2048 .bf16 := m ((c.tc : Thread nD τ).loc main_arg1)
abbrev argV : FVec Ideal S8192x1024 .bf16 := m ((c.tc : Thread nD τ).loc main_arg2)

/-- The kernel's result arrays: the output and the log-sum-exp. -/
abbrev outO : FVec Ideal S8192x1024 .bf16 := (dats m 0 c).arrAt 3 cfg0.N
abbrev outL : FVec Ideal S8x8192x1 .f32 := (dats m 0 c).arrAt 4 cfg0.N

section Reads

variable (t : Fin cfg0.N) (h : Fin 8) (hh : t.val / 16 = h.val)
include hh

theorem read0 (i : Fin 8192) (hi : t.val % 16 = i.val / 512) (r : Fin 512) (hr : r.val = i.val % 512) (e : Fin 256) :
    (iblk m c 0 t : Vec Ideal S512x256 .bf16) (ix2 r e) = argQ m c (ix2 i (colQ h e)) := by
  unfold iblk
  rw [View.read_apply]
  refine congrArg (argQ m c) (funext fun a => Fin.ext ?_)
  match a with
  | ⟨0, _⟩ => change win0_0.index t 0 * 512 + 1 * r.val = i.val; rw [index0 t]; change t.val % 16 * 512 + 1 * r.val = i.val; omega
  | ⟨1, _⟩ => change win0_0.index t 1 * 256 + 1 * e.val = h.val * 256 + e.val; rw [index0 t]; change t.val / 16 * 256 + 1 * e.val = _; omega

theorem read1 (j : Fin 8192) (e : Fin 256) : (iblk m c 1 t : Vec Ideal S8192x256 .bf16) (ix2 j e) = argK m c (ix2 j (colQ h e)) := by
  unfold iblk
  rw [View.read_apply]
  refine congrArg (argK m c) (funext fun a => Fin.ext ?_)
  match a with
  | ⟨0, _⟩ => change win0_1.index t 0 * 8192 + 1 * j.val = j.val; rw [index1 t]; change 0 * 8192 + 1 * j.val = j.val; omega
  | ⟨1, _⟩ => change win0_1.index t 1 * 256 + 1 * e.val = h.val * 256 + e.val; rw [index1 t]; change t.val / 16 * 256 + 1 * e.val = _; omega

theorem read2 (j : Fin 8192) (e : Fin 128) : (iblk m c 2 t : Vec Ideal S8192x128 .bf16) (ix2 j e) = argV m c (ix2 j (colV h e)) := by
  unfold iblk
  rw [View.read_apply]
  refine congrArg (argV m c) (funext fun a => Fin.ext ?_)
  match a with
  | ⟨0, _⟩ => change win0_2.index t 0 * 8192 + 1 * j.val = j.val; rw [index2 t]; change 0 * 8192 + 1 * j.val = j.val; omega
  | ⟨1, _⟩ => change win0_2.index t 1 * 128 + 1 * e.val = h.val * 128 + e.val; rw [index2 t]; change t.val / 16 * 128 + 1 * e.val = _; omega

end Reads

/-! ## The result arrays -/

theorem exists_point (h : Fin 8) (i : Fin 8192) : ∃ t : Fin cfg0.N, t.val / 16 = h.val ∧ t.val % 16 = i.val / 512 := by
  have hN : h.val * 16 + i.val / 512 < cfg0.N := lt_of_lt_of_eq (by omega) N_0.symm
  exact ⟨⟨_, hN⟩, by change (h.val * 16 + i.val / 512) / 16 = h.val; omega, by change (h.val * 16 + i.val / 512) % 16 = i.val / 512; omega⟩

variable {q k : Fin 8192 → Fin 2048 → ℝ} (hq : ∀ i l, argQ m c (ix2 i l) = (q i l : EReal)) (hk : ∀ i l, argK m c (ix2 i l) = (k i l : EReal))
include hq hk

theorem outs_at (h : Fin 8) (i : Fin 8192) (e : Fin 128) :
    outO m c (ix2 i (colV h e)) = ∑ j, argV m c (ix2 j (colV h e)) * (prob q k h i j : EReal)
      ∧ outL m c (ix3 h i (0 : Fin 1)) = (lse2 q k h i : EReal) := by
  obtain ⟨t, hh, hi⟩ := exists_point h i
  have h0 := fun e => (read0 m c t h hh i hi ⟨i.val % 512, Nat.mod_lt _ (by decide)⟩ rfl e).trans (hq _ _)
  have h1 := fun j e => (read1 m c t h hh j e).trans (hk _ _)
  have g : outsAt0 m c t = _ := case_A ..
  have b3 := congrFun ((Value.blocks3 m c t (flush3 t)).trans (Value.flushed3 m c t)) (ix2 (⟨i.val % 512, Nat.mod_lt _ (by decide)⟩ : Fin 512) e)
  have b4 := congrFun ((Value.blocks4 m c t (flush4 t)).trans (Value.flushed4 m c t)) (ix3 (0 : Fin 1) (⟨i.val % 512, Nat.mod_lt _ (by decide)⟩ : Fin 512) (0 : Fin 1))
  rw [g] at b3 b4
  rw [View.read_apply] at b3 b4
  refine ⟨Eq.trans (congrArg (outO m c) (funext fun a => Fin.ext ?_)) (b3.trans ((out_row _ h0 h1 e).trans (Finset.sum_congr rfl fun j _ => ?_))),
    Eq.trans (congrArg (outL m c) (funext fun a => Fin.ext ?_)) (b4.trans (lse_row h0 h1 0 0))⟩
  · match a with
    | ⟨0, _⟩ => change i.val = win0_3.index t 0 * 512 + 1 * (i.val % 512); rw [index3 t]; change i.val = t.val % 16 * 512 + 1 * (i.val % 512); omega
    | ⟨1, _⟩ => change h.val * 128 + e.val = win0_3.index t 1 * 128 + 1 * e.val; rw [index3 t]; change _ = t.val / 16 * 128 + 1 * e.val; omega
  · rw [read2 m c t h hh]
  · match a with
    | ⟨0, _⟩ => change h.val = win0_4.index t 0 * 1 + 1 * 0; rw [index4 t]; change h.val = t.val / 16 * 1 + 1 * 0; omega
    | ⟨1, _⟩ => change i.val = win0_4.index t 1 * 512 + 1 * (i.val % 512); rw [index4 t]; change i.val = t.val % 16 * 512 + 1 * (i.val % 512); omega
    | ⟨2, _⟩ => change 0 = win0_4.index t 2 * 1 + 1 * 0; rw [index4 t]; rfl

omit hq hk in
/-- The reference's output, for any values. -/
theorem oHost_row {x2 : FVec Ideal Cert.KernelIdeal.S8192x1024 .bf16} {p : FVec Ideal Cert.KernelIdeal.S8x8192x8192 .f32}
    (hp : ∀ h i j, p (ix3 h i j) = (prob q k h i j : EReal)) (h : Fin 8) (i : Fin 8192) (e : Fin 128) :
    oHost x2 p (ix2 i (colV h e)) = ∑ j, x2 (ix2 j (colV h e)) * (prob q k h i j : EReal) := by
  have e1 : ∀ hh, (⟨(colV h e).val / 128, hh⟩ : Fin 8) = h := fun _ => by
    apply Fin.ext; change (h.val * 128 + e.val) / 128 = h.val; have := e.isLt; omega
  have e2 : ∀ hh, (⟨h.val * 128 + (colV h e).val % 128, hh⟩ : Fin 1024) = colV h e := fun _ => by
    apply Fin.ext; change h.val * 128 + (h.val * 128 + e.val) % 128 = h.val * 128 + e.val; have := e.isLt; omega
  unfold oHost
  simp only [pointwise, hp, e1, e2]
  rw [zero_add]

omit hq hk in
theorem exists_col (l : Fin 1024) : ∃ h e, colV h e = l :=
  ⟨⟨l.val / 128, by omega⟩, ⟨l.val % 128, by omega⟩, Fin.ext (by simp only [colV]; omega)⟩

/-- The kernel's arrays are the reference's host terms. -/
theorem results_eq : oHost (argV m c) (pArr (eArr (sArr (argQ m c) (argK m c)))) = outO m c ∧ cHost (sArr (argQ m c) (argK m c)) = outL m c := by
  have hs := sArr_at hq hk
  constructor
  · refine ext2 fun i l => ?_
    obtain ⟨h, e, rfl⟩ := exists_col l
    exact (oHost_row (pArr_at (eArr_at hs)) h i e).trans (outs_at m c hq hk h i e).1.symm
  · funext y
    have hy : y = ix3 (y 0 : Fin 8) (y 1 : Fin 8192) (0 : Fin 1) := by
      funext a
      match a with
      | ⟨0, _⟩ => rfl
      | ⟨1, _⟩ => rfl
      | ⟨2, _⟩ => exact Subsingleton.elim (α := Fin 1) _ _
    rw [hy]
    exact (cHost_at hs _ _ _).trans (outs_at m c hq hk _ _ 0).2.symm

omit hq hk

/-- Finite queries and keys are real, entry by entry. -/
theorem reals_of_finite_scores (x0 x1 : FVec Ideal ⟨2, ![8192, 2048]⟩ .bf16) (x2 : FVec Ideal ⟨2, ![8192, 1024]⟩ .bf16)
    (h : Cert.Pre_finite_scores.fn (F := Ideal) x0 x1 x2 = fun _ => 1#1) :
    (∀ i, x0 i = ((x0 i).toReal : EReal)) ∧ ∀ i, x1 i = ((x1 i).toReal : EReal) := by
  have e := congrFun h ix0
  unfold Cert.Pre_finite_scores.fn at e
  obtain ⟨e0, e1⟩ := IntOp.andi_eq_one.1 e
  exact ⟨real_of_all _ _ _ _ _ e0, real_of_all _ _ _ _ _ e1⟩

/-! ## The claims -/

/-- The body table printed for words is the one printed for extended reals, read at words. -/
theorem bodies : Cert.Fwd.defs₀ (F := Bits) = defs₀ (F := Bits) := by
  unfold Cert.Fwd.defs₀ defs₀
  congr 1
  funext l a
  match l, a with
  | ⟨0, _⟩, (t, s) => rfl

theorem frame_p : Cert.quiescent_Fwd := by
  intro m ρ _
  unfold Cert.Fwd.defs
  rw [bodies]
  exact Gen.frame (F := Bits) m ρ

theorem frame_pi : Cert.quiescent_FwdIdeal :=
  fun m ρ _ => Gen.frame (F := Ideal) m ρ

theorem frame_pi_finite : Cert.quiescent_FwdIdeal_pre_finite_scores :=
  fun m ρ _ => Gen.frame (F := Ideal) m ρ

theorem frame_ri : Cert.quiescent_FwdRefIdeal :=
  fun m ρ _ => (θ_run Cert.FwdRefIdeal.defs _ _).mono
    (fun r h => ⟨fun c => (h c).2.2, sem_eq_zero_of_no_sems (by decide) r.2⟩) (Cert.FwdRefIdeal.Value.run (F := Ideal) m ρ)

theorem frame_ri_finite : Cert.quiescent_FwdRefIdeal_pre_finite_scores :=
  fun m ρ _ => frame_ri m ρ trivial

theorem preserves : Cert.preserves_Fwd_FwdIdeal := trivial

/-- From finite queries and keys that agree, the kernel's arrays end at the reference's output and log-sum-exp. -/
theorem algebraic : Cert.algebraic_FwdIdeal_FwdRefIdeal_pre_finite_scores := by
  intro m ρ m' ρ' hpre hagree
  refine ⟨_, _, Value.run_blocks (F := Ideal) m ρ, ?_⟩
  refine (θ_run Cert.FwdRefIdeal.defs _ _).mono (fun _ h c => ?_) (Cert.FwdRefIdeal.Value.run (F := Ideal) m' ρ')
  obtain ⟨e0, e1, kept⟩ := h c
  obtain ⟨b0, b1, b2⟩ := hagree c
  obtain ⟨r0, r1⟩ := reals_of_finite_scores _ _ _ (hpre c)
  obtain ⟨f0, f1⟩ := results_eq m c (q := fun i l => (argQ m c (ix2 i l)).toReal) (k := fun i l => (argK m c (ix2 i l)).toReal)
    (fun i l => r0 _) (fun i l => r1 _)
  rw [b0, b1, b2] at e0
  rw [b0, b1] at e1
  exact ⟨e0.trans f0, e1.trans f1, kept⟩

end Cert.FwdIdeal.Softmax
end
-- ==== Proof.UpdateFf2.lean ====
/- The optimiser's step on the feed-forward block's second weight: the kernel's result arrays are the summed gradient, the
   weight's change and the two running means, and so are the reference's. -/
module
public import proofs.«01_k».proof.Defs
public import proofs.«01_k».proof.Proof.Update
public import proofs.«01_k».proof.Proof.Gen.AdamFf2Ideal.Value
public import proofs.«01_k».proof.Proof.Gen.AdamFf2
public import proofs.«01_k».proof.Proof.Gen.AdamFf2RefIdeal.Run
public import Idealize.ShloMosaic.Lib.VecWindow
public import Idealize.ShloMosaic.Lib.Tactic
public import Idealize.ShloMosaic.Lib.Quiescent
@[expose] public section

set_option maxRecDepth 16384

noncomputable section

namespace Cert.AdamFf2Ideal.Step

open Cert.AdamFf2Ideal Cert.AdamFf2Ideal.Gen Cert.Blocks Cert.Update
open Idealize.ShloMosaic Idealize.ShloMosaic.TcCoe Idealize.SL.Sem

/-- What a point leaves at an entry of the four results' tiles. -/
theorem point_at (x0 x1 x2 x3 x4 : Vec Ideal S256x2048 .bf16) (x5 x6 x7 : Vec Ideal S256x2048 .f32) (i : S256x2048.Idx) :
    out0_8 x0 x1 x2 x3 x4 x5 x6 x7 i = grad (x0 i) (x1 i) (x2 i) (x3 i) (x4 i)
      ∧ out0_9 x0 x1 x2 x3 x4 x5 x6 x7 i = delta (grad (x0 i) (x1 i) (x2 i) (x3 i) (x4 i)) (x5 i) (x6 i) (x7 i)
      ∧ out0_10 x0 x1 x2 x3 x4 x5 x6 x7 i = newM (grad (x0 i) (x1 i) (x2 i) (x3 i) (x4 i)) (x6 i)
      ∧ out0_11 x0 x1 x2 x3 x4 x5 x6 x7 i = newV (grad (x0 i) (x1 i) (x2 i) (x3 i) (x4 i)) (x7 i) := by
  unfold out0_8 out0_9 out0_10 out0_11
  simp only [r0_0, View.canon_unit_zero (S := S256x2048) hz, View.ld_unit_zero (S := S256x2048) hz]
  unfold k0_pay1 k0_pay5 k0_pay6 k0_pay4 k0_pay3 k0_pay2
  exact ⟨rfl, rfl, rfl, rfl⟩

/-! ## Which tiles a point reads and writes -/

theorem index : ∀ t : Fin cfg0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0] :=
  (by decide +kernel : ∀ t : Fin grid0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0])
theorem flush : ∀ t : Fin cfg0.N, (cfg0.win 8).flush t = true ∧ (cfg0.win 9).flush t = true ∧ (cfg0.win 10).flush t = true ∧ (cfg0.win 11).flush t = true :=
  (by decide +kernel : ∀ t : Fin grid0.N, win0_8.flush t = true ∧ win0_9.flush t = true ∧ win0_10.flush t = true ∧ win0_11.flush t = true)

variable (m : (ℓ : Loc nD τ sig) → Buf (Elt Ideal) ℓ) (c : Dev nD)

/-- The kernel's arguments: the gradient's parts, the weight and the two running means. -/
abbrev arg0 : FVec Ideal S1024x2048 .bf16 := m ((c.tc : Thread nD τ).loc main_arg0)
abbrev arg1 : FVec Ideal S1024x2048 .bf16 := m ((c.tc : Thread nD τ).loc main_arg1)
abbrev arg2 : FVec Ideal S1024x2048 .bf16 := m ((c.tc : Thread nD τ).loc main_arg2)
abbrev arg3 : FVec Ideal S1024x2048 .bf16 := m ((c.tc : Thread nD τ).loc main_arg3)
abbrev arg4 : FVec Ideal S1024x2048 .bf16 := m ((c.tc : Thread nD τ).loc main_arg4)
abbrev argW : FVec Ideal S1024x2048 .f32 := m ((c.tc : Thread nD τ).loc main_arg5)
abbrev argM : FVec Ideal S1024x2048 .f32 := m ((c.tc : Thread nD τ).loc main_arg6)
abbrev argV : FVec Ideal S1024x2048 .f32 := m ((c.tc : Thread nD τ).loc main_arg7)

/-- The gradient at a pair of numbers, the parts summed. -/
def gradN (i j : ℕ) : EReal := grad (at2 (arg0 m c) i j) (at2 (arg1 m c) i j) (at2 (arg2 m c) i j) (at2 (arg3 m c) i j) (at2 (arg4 m c) i j)

theorem reads (t : Fin cfg0.N) (r : Fin 256) (l : Fin 2048) :
    grad (iblk m c 0 t (ix2 r l)) (iblk m c 1 t (ix2 r l)) (iblk m c 2 t (ix2 r l)) (iblk m c 3 t (ix2 r l)) (iblk m c 4 t (ix2 r l))
        = gradN m c (t.val * 256 + r.val) l.val
      ∧ iblk m c 5 t (ix2 r l) = at2 (argW m c) (t.val * 256 + r.val) l.val
      ∧ iblk m c 6 t (ix2 r l) = at2 (argM m c) (t.val * 256 + r.val) l.val
      ∧ iblk m c 7 t (ix2 r l) = at2 (argV m c) (t.val * 256 + r.val) l.val := by
  obtain ⟨⟨i0, i1, i2, i3, i4, i5⟩, i6, i7, -⟩ := index t
  have e0 : iblk m c 0 t (ix2 r l) = at2 (arg0 m c) (t.val * 256 + r.val) l.val := tile (arg0 m c) _ _ _ i0 r l rfl rfl
  have e1 : iblk m c 1 t (ix2 r l) = at2 (arg1 m c) (t.val * 256 + r.val) l.val := tile (arg1 m c) _ _ _ i1 r l rfl rfl
  have e2 : iblk m c 2 t (ix2 r l) = at2 (arg2 m c) (t.val * 256 + r.val) l.val := tile (arg2 m c) _ _ _ i2 r l rfl rfl
  have e3 : iblk m c 3 t (ix2 r l) = at2 (arg3 m c) (t.val * 256 + r.val) l.val := tile (arg3 m c) _ _ _ i3 r l rfl rfl
  have e4 : iblk m c 4 t (ix2 r l) = at2 (arg4 m c) (t.val * 256 + r.val) l.val := tile (arg4 m c) _ _ _ i4 r l rfl rfl
  rw [e0, e1, e2, e3, e4]
  exact ⟨rfl, tile (argW m c) _ _ _ i5 r l rfl rfl, tile (argM m c) _ _ _ i6 r l rfl rfl, tile (argV m c) _ _ _ i7 r l rfl rfl⟩

/-! ## The result arrays -/

/-- The kernel's result arrays: the gradient, the weight's change and the two running means. -/
abbrev outG : FVec Ideal S1024x2048 .f32 := (dats m 0 c).arrAt 8 cfg0.N
abbrev outD : FVec Ideal S1024x2048 .f32 := (dats m 0 c).arrAt 9 cfg0.N
abbrev outM : FVec Ideal S1024x2048 .f32 := (dats m 0 c).arrAt 10 cfg0.N
abbrev outV : FVec Ideal S1024x2048 .f32 := (dats m 0 c).arrAt 11 cfg0.N

theorem tiles_at (t : Fin cfg0.N) (r : Fin 256) (l : Fin 2048) :
    at2 (outG m c) (t.val * 256 + r.val) l.val = gradN m c (t.val * 256 + r.val) l.val
      ∧ at2 (outD m c) (t.val * 256 + r.val) l.val = delta (gradN m c (t.val * 256 + r.val) l.val) (at2 (argW m c) (t.val * 256 + r.val) l.val)
        (at2 (argM m c) (t.val * 256 + r.val) l.val) (at2 (argV m c) (t.val * 256 + r.val) l.val)
      ∧ at2 (outM m c) (t.val * 256 + r.val) l.val = newM (gradN m c (t.val * 256 + r.val) l.val) (at2 (argM m c) (t.val * 256 + r.val) l.val)
      ∧ at2 (outV m c) (t.val * 256 + r.val) l.val = newV (gradN m c (t.val * 256 + r.val) l.val) (at2 (argV m c) (t.val * 256 + r.val) l.val) := by
  obtain ⟨-, -, -, i8, i9, i10, i11⟩ := index t
  obtain ⟨f8, f9, f10, f11⟩ := flush t
  obtain ⟨g0, g1, g2, g3⟩ := point_at (iblk m c 0 t) (iblk m c 1 t) (iblk m c 2 t) (iblk m c 3 t) (iblk m c 4 t) (iblk m c 5 t) (iblk m c 6 t) (iblk m c 7 t) (ix2 r l)
  obtain ⟨hg, hw, hm, hv⟩ := reads m c t r l
  rw [hg] at g0 g1 g2 g3
  rw [hw, hm, hv] at g1
  rw [hm] at g2
  rw [hv] at g3
  have b8 := congrFun ((Value.blocks8 m c t f8).trans (Value.flushed8 m c t)) (ix2 r l)
  have b9 := congrFun ((Value.blocks9 m c t f9).trans (Value.flushed9 m c t)) (ix2 r l)
  have b10 := congrFun ((Value.blocks10 m c t f10).trans (Value.flushed10 m c t)) (ix2 r l)
  have b11 := congrFun ((Value.blocks11 m c t f11).trans (Value.flushed11 m c t)) (ix2 r l)
  rw [View.read_apply] at b8 b9 b10 b11
  exact ⟨(tile (outG m c) _ _ _ i8 r l rfl rfl).symm.trans (b8.trans g0), (tile (outD m c) _ _ _ i9 r l rfl rfl).symm.trans (b9.trans g1),
    (tile (outM m c) _ _ _ i10 r l rfl rfl).symm.trans (b10.trans g2), (tile (outV m c) _ _ _ i11 r l rfl rfl).symm.trans (b11.trans g3)⟩

/-- The gradient at an entry, the parts summed. -/
def gradA (r : Fin 1024) (l : Fin 2048) : EReal :=
  grad (arg0 m c (ix2 r l)) (arg1 m c (ix2 r l)) (arg2 m c (ix2 r l)) (arg3 m c (ix2 r l)) (arg4 m c (ix2 r l))

theorem out_at (r : Fin 1024) (l : Fin 2048) :
    outG m c (ix2 r l) = gradA m c r l
      ∧ outD m c (ix2 r l) = delta (gradA m c r l) (argW m c (ix2 r l)) (argM m c (ix2 r l)) (argV m c (ix2 r l))
      ∧ outM m c (ix2 r l) = newM (gradA m c r l) (argM m c (ix2 r l))
      ∧ outV m c (ix2 r l) = newV (gradA m c r l) (argV m c (ix2 r l)) := by
  have hN : r.val / 256 < cfg0.N := lt_of_lt_of_eq (by omega) N_0.symm
  have h := fun s : Fin 256 => tiles_at m c ⟨r.val / 256, hN⟩ s l
  have k (x : FVec Ideal S1024x2048 .f32) : x (ix2 r l) = at2 x r.val l.val := at2_val x (ix2 r l) rfl rfl
  have e : gradA m c r l = gradN m c r.val l.val := by
    unfold gradA gradN
    rw [k (arg0 m c), k (arg1 m c), k (arg2 m c), k (arg3 m c), k (arg4 m c)]
  rw [e, k (argW m c), k (argM m c), k (argV m c)]
  exact ⟨of_tile (outG m c) (gradN m c) r l (by decide) fun s => (h s).1,
    of_tile (outD m c) (fun i j => delta (gradN m c i j) (at2 (argW m c) i j) (at2 (argM m c) i j) (at2 (argV m c) i j)) r l (by decide) fun s => (h s).2.1,
    of_tile (outM m c) (fun i j => newM (gradN m c i j) (at2 (argM m c) i j)) r l (by decide) fun s => (h s).2.2.1,
    of_tile (outV m c) (fun i j => newV (gradN m c i j) (at2 (argV m c) i j)) r l (by decide) fun s => (h s).2.2.2⟩

/-! ## The claims -/

/-- The body table printed for words is the one printed for extended reals, read at words. -/
theorem bodies : Cert.AdamFf2.defs₀ (F := Bits) = defs₀ (F := Bits) := by
  unfold Cert.AdamFf2.defs₀ defs₀
  congr 1
  funext l a
  match l, a with
  | ⟨0, _⟩, (t, s) => rfl

theorem frame_p : Cert.quiescent_AdamFf2 := by
  intro m ρ _
  unfold Cert.AdamFf2.defs
  rw [bodies]
  exact Gen.frame (F := Bits) m ρ

theorem frame_pi : Cert.quiescent_AdamFf2Ideal :=
  fun m ρ _ => Gen.frame (F := Ideal) m ρ

theorem frame_ri : Cert.quiescent_AdamFf2RefIdeal :=
  fun m ρ _ => (θ_run Cert.AdamFf2RefIdeal.defs _ _).mono
    (fun r h => ⟨fun c => (h c).2.2.2.2, sem_eq_zero_of_no_sems (by decide) r.2⟩) (Cert.AdamFf2RefIdeal.Value.run (F := Ideal) m ρ)

theorem preserves : Cert.preserves_AdamFf2_AdamFf2Ideal := trivial

theorem algebraic : Cert.algebraic_AdamFf2Ideal_AdamFf2RefIdeal := by
  intro m ρ m' ρ' _ hagree
  refine ⟨_, _, _, _, Value.run_blocks (F := Ideal) m ρ, ?_⟩
  refine (θ_run Cert.AdamFf2RefIdeal.defs _ _).mono (fun _ h c => ?_) (Cert.AdamFf2RefIdeal.Value.run (F := Ideal) m' ρ')
  obtain ⟨e0, e1, e2, e3, kept⟩ := h c
  obtain ⟨b0, b1, b2, b3, b4, b5, b6, b7⟩ := hagree c
  refine ⟨e0.trans (ext2 fun r l => Eq.trans ?_ (out_at m c r l).1.symm), e1.trans (ext2 fun r l => Eq.trans ?_ (out_at m c r l).2.1.symm),
    e2.trans (ext2 fun r l => Eq.trans ?_ (out_at m c r l).2.2.1.symm), e3.trans (ext2 fun r l => Eq.trans ?_ (out_at m c r l).2.2.2.symm), kept⟩
  all_goals
    simp only [pointwise, zero_add]
    simp only [b0, b1, b2, b3, b4, b5, b6, b7]
    rfl

end Cert.AdamFf2Ideal.Step
end
-- ==== Proof.UpdateFf1.lean ====
/- The optimiser's step on the feed-forward block's first weight: the kernel's result arrays are the summed gradient, the
   weight's change and the two running means, and so are the reference's. -/
module
public import proofs.«01_k».proof.Defs
public import proofs.«01_k».proof.Proof.Update
public import proofs.«01_k».proof.Proof.Gen.AdamFf1Ideal.Value
public import proofs.«01_k».proof.Proof.Gen.AdamFf1
public import proofs.«01_k».proof.Proof.Gen.AdamFf1RefIdeal.Run
public import Idealize.ShloMosaic.Lib.VecWindow
public import Idealize.ShloMosaic.Lib.Tactic
public import Idealize.ShloMosaic.Lib.Quiescent
@[expose] public section

set_option maxRecDepth 16384

noncomputable section

namespace Cert.AdamFf1Ideal.Step

open Cert.AdamFf1Ideal Cert.AdamFf1Ideal.Gen Cert.Blocks Cert.Update
open Idealize.ShloMosaic Idealize.ShloMosaic.TcCoe Idealize.SL.Sem

/-- What a point leaves at an entry of the four results' tiles. -/
theorem point_at (x0 x1 x2 x3 x4 : Vec Ideal S256x1024 .bf16) (x5 x6 x7 : Vec Ideal S256x1024 .f32) (i : S256x1024.Idx) :
    out0_8 x0 x1 x2 x3 x4 x5 x6 x7 i = grad (x0 i) (x1 i) (x2 i) (x3 i) (x4 i)
      ∧ out0_9 x0 x1 x2 x3 x4 x5 x6 x7 i = delta (grad (x0 i) (x1 i) (x2 i) (x3 i) (x4 i)) (x5 i) (x6 i) (x7 i)
      ∧ out0_10 x0 x1 x2 x3 x4 x5 x6 x7 i = newM (grad (x0 i) (x1 i) (x2 i) (x3 i) (x4 i)) (x6 i)
      ∧ out0_11 x0 x1 x2 x3 x4 x5 x6 x7 i = newV (grad (x0 i) (x1 i) (x2 i) (x3 i) (x4 i)) (x7 i) := by
  unfold out0_8 out0_9 out0_10 out0_11
  simp only [r0_0, View.canon_unit_zero (S := S256x1024) hz, View.ld_unit_zero (S := S256x1024) hz]
  unfold k0_pay1 k0_pay5 k0_pay6 k0_pay4 k0_pay3 k0_pay2
  exact ⟨rfl, rfl, rfl, rfl⟩

/-! ## Which tiles a point reads and writes -/

theorem index : ∀ t : Fin cfg0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0] :=
  (by decide +kernel : ∀ t : Fin grid0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0])
theorem flush : ∀ t : Fin cfg0.N, (cfg0.win 8).flush t = true ∧ (cfg0.win 9).flush t = true ∧ (cfg0.win 10).flush t = true ∧ (cfg0.win 11).flush t = true :=
  (by decide +kernel : ∀ t : Fin grid0.N, win0_8.flush t = true ∧ win0_9.flush t = true ∧ win0_10.flush t = true ∧ win0_11.flush t = true)

variable (m : (ℓ : Loc nD τ sig) → Buf (Elt Ideal) ℓ) (c : Dev nD)

/-- The kernel's arguments: the gradient's parts, the weight and the two running means. -/
abbrev arg0 : FVec Ideal S2048x1024 .bf16 := m ((c.tc : Thread nD τ).loc main_arg0)
abbrev arg1 : FVec Ideal S2048x1024 .bf16 := m ((c.tc : Thread nD τ).loc main_arg1)
abbrev arg2 : FVec Ideal S2048x1024 .bf16 := m ((c.tc : Thread nD τ).loc main_arg2)
abbrev arg3 : FVec Ideal S2048x1024 .bf16 := m ((c.tc : Thread nD τ).loc main_arg3)
abbrev arg4 : FVec Ideal S2048x1024 .bf16 := m ((c.tc : Thread nD τ).loc main_arg4)
abbrev argW : FVec Ideal S2048x1024 .f32 := m ((c.tc : Thread nD τ).loc main_arg5)
abbrev argM : FVec Ideal S2048x1024 .f32 := m ((c.tc : Thread nD τ).loc main_arg6)
abbrev argV : FVec Ideal S2048x1024 .f32 := m ((c.tc : Thread nD τ).loc main_arg7)

/-- The gradient at a pair of numbers, the parts summed. -/
def gradN (i j : ℕ) : EReal := grad (at2 (arg0 m c) i j) (at2 (arg1 m c) i j) (at2 (arg2 m c) i j) (at2 (arg3 m c) i j) (at2 (arg4 m c) i j)

theorem reads (t : Fin cfg0.N) (r : Fin 256) (l : Fin 1024) :
    grad (iblk m c 0 t (ix2 r l)) (iblk m c 1 t (ix2 r l)) (iblk m c 2 t (ix2 r l)) (iblk m c 3 t (ix2 r l)) (iblk m c 4 t (ix2 r l))
        = gradN m c (t.val * 256 + r.val) l.val
      ∧ iblk m c 5 t (ix2 r l) = at2 (argW m c) (t.val * 256 + r.val) l.val
      ∧ iblk m c 6 t (ix2 r l) = at2 (argM m c) (t.val * 256 + r.val) l.val
      ∧ iblk m c 7 t (ix2 r l) = at2 (argV m c) (t.val * 256 + r.val) l.val := by
  obtain ⟨⟨i0, i1, i2, i3, i4, i5⟩, i6, i7, -⟩ := index t
  have e0 : iblk m c 0 t (ix2 r l) = at2 (arg0 m c) (t.val * 256 + r.val) l.val := tile (arg0 m c) _ _ _ i0 r l rfl rfl
  have e1 : iblk m c 1 t (ix2 r l) = at2 (arg1 m c) (t.val * 256 + r.val) l.val := tile (arg1 m c) _ _ _ i1 r l rfl rfl
  have e2 : iblk m c 2 t (ix2 r l) = at2 (arg2 m c) (t.val * 256 + r.val) l.val := tile (arg2 m c) _ _ _ i2 r l rfl rfl
  have e3 : iblk m c 3 t (ix2 r l) = at2 (arg3 m c) (t.val * 256 + r.val) l.val := tile (arg3 m c) _ _ _ i3 r l rfl rfl
  have e4 : iblk m c 4 t (ix2 r l) = at2 (arg4 m c) (t.val * 256 + r.val) l.val := tile (arg4 m c) _ _ _ i4 r l rfl rfl
  rw [e0, e1, e2, e3, e4]
  exact ⟨rfl, tile (argW m c) _ _ _ i5 r l rfl rfl, tile (argM m c) _ _ _ i6 r l rfl rfl, tile (argV m c) _ _ _ i7 r l rfl rfl⟩

/-! ## The result arrays -/

/-- The kernel's result arrays: the gradient, the weight's change and the two running means. -/
abbrev outG : FVec Ideal S2048x1024 .f32 := (dats m 0 c).arrAt 8 cfg0.N
abbrev outD : FVec Ideal S2048x1024 .f32 := (dats m 0 c).arrAt 9 cfg0.N
abbrev outM : FVec Ideal S2048x1024 .f32 := (dats m 0 c).arrAt 10 cfg0.N
abbrev outV : FVec Ideal S2048x1024 .f32 := (dats m 0 c).arrAt 11 cfg0.N

theorem tiles_at (t : Fin cfg0.N) (r : Fin 256) (l : Fin 1024) :
    at2 (outG m c) (t.val * 256 + r.val) l.val = gradN m c (t.val * 256 + r.val) l.val
      ∧ at2 (outD m c) (t.val * 256 + r.val) l.val = delta (gradN m c (t.val * 256 + r.val) l.val) (at2 (argW m c) (t.val * 256 + r.val) l.val)
        (at2 (argM m c) (t.val * 256 + r.val) l.val) (at2 (argV m c) (t.val * 256 + r.val) l.val)
      ∧ at2 (outM m c) (t.val * 256 + r.val) l.val = newM (gradN m c (t.val * 256 + r.val) l.val) (at2 (argM m c) (t.val * 256 + r.val) l.val)
      ∧ at2 (outV m c) (t.val * 256 + r.val) l.val = newV (gradN m c (t.val * 256 + r.val) l.val) (at2 (argV m c) (t.val * 256 + r.val) l.val) := by
  obtain ⟨-, -, -, i8, i9, i10, i11⟩ := index t
  obtain ⟨f8, f9, f10, f11⟩ := flush t
  obtain ⟨g0, g1, g2, g3⟩ := point_at (iblk m c 0 t) (iblk m c 1 t) (iblk m c 2 t) (iblk m c 3 t) (iblk m c 4 t) (iblk m c 5 t) (iblk m c 6 t) (iblk m c 7 t) (ix2 r l)
  obtain ⟨hg, hw, hm, hv⟩ := reads m c t r l
  rw [hg] at g0 g1 g2 g3
  rw [hw, hm, hv] at g1
  rw [hm] at g2
  rw [hv] at g3
  have b8 := congrFun ((Value.blocks8 m c t f8).trans (Value.flushed8 m c t)) (ix2 r l)
  have b9 := congrFun ((Value.blocks9 m c t f9).trans (Value.flushed9 m c t)) (ix2 r l)
  have b10 := congrFun ((Value.blocks10 m c t f10).trans (Value.flushed10 m c t)) (ix2 r l)
  have b11 := congrFun ((Value.blocks11 m c t f11).trans (Value.flushed11 m c t)) (ix2 r l)
  rw [View.read_apply] at b8 b9 b10 b11
  exact ⟨(tile (outG m c) _ _ _ i8 r l rfl rfl).symm.trans (b8.trans g0), (tile (outD m c) _ _ _ i9 r l rfl rfl).symm.trans (b9.trans g1),
    (tile (outM m c) _ _ _ i10 r l rfl rfl).symm.trans (b10.trans g2), (tile (outV m c) _ _ _ i11 r l rfl rfl).symm.trans (b11.trans g3)⟩

/-- The gradient at an entry, the parts summed. -/
def gradA (r : Fin 2048) (l : Fin 1024) : EReal :=
  grad (arg0 m c (ix2 r l)) (arg1 m c (ix2 r l)) (arg2 m c (ix2 r l)) (arg3 m c (ix2 r l)) (arg4 m c (ix2 r l))

theorem out_at (r : Fin 2048) (l : Fin 1024) :
    outG m c (ix2 r l) = gradA m c r l
      ∧ outD m c (ix2 r l) = delta (gradA m c r l) (argW m c (ix2 r l)) (argM m c (ix2 r l)) (argV m c (ix2 r l))
      ∧ outM m c (ix2 r l) = newM (gradA m c r l) (argM m c (ix2 r l))
      ∧ outV m c (ix2 r l) = newV (gradA m c r l) (argV m c (ix2 r l)) := by
  have hN : r.val / 256 < cfg0.N := lt_of_lt_of_eq (by omega) N_0.symm
  have h := fun s : Fin 256 => tiles_at m c ⟨r.val / 256, hN⟩ s l
  have k (x : FVec Ideal S2048x1024 .f32) : x (ix2 r l) = at2 x r.val l.val := at2_val x (ix2 r l) rfl rfl
  have e : gradA m c r l = gradN m c r.val l.val := by
    unfold gradA gradN
    rw [k (arg0 m c), k (arg1 m c), k (arg2 m c), k (arg3 m c), k (arg4 m c)]
  rw [e, k (argW m c), k (argM m c), k (argV m c)]
  exact ⟨of_tile (outG m c) (gradN m c) r l (by decide) fun s => (h s).1,
    of_tile (outD m c) (fun i j => delta (gradN m c i j) (at2 (argW m c) i j) (at2 (argM m c) i j) (at2 (argV m c) i j)) r l (by decide) fun s => (h s).2.1,
    of_tile (outM m c) (fun i j => newM (gradN m c i j) (at2 (argM m c) i j)) r l (by decide) fun s => (h s).2.2.1,
    of_tile (outV m c) (fun i j => newV (gradN m c i j) (at2 (argV m c) i j)) r l (by decide) fun s => (h s).2.2.2⟩

/-! ## The claims -/

/-- The body table printed for words is the one printed for extended reals, read at words. -/
theorem bodies : Cert.AdamFf1.defs₀ (F := Bits) = defs₀ (F := Bits) := by
  unfold Cert.AdamFf1.defs₀ defs₀
  congr 1
  funext l a
  match l, a with
  | ⟨0, _⟩, (t, s) => rfl

theorem frame_p : Cert.quiescent_AdamFf1 := by
  intro m ρ _
  unfold Cert.AdamFf1.defs
  rw [bodies]
  exact Gen.frame (F := Bits) m ρ

theorem frame_pi : Cert.quiescent_AdamFf1Ideal :=
  fun m ρ _ => Gen.frame (F := Ideal) m ρ

theorem frame_ri : Cert.quiescent_AdamFf1RefIdeal :=
  fun m ρ _ => (θ_run Cert.AdamFf1RefIdeal.defs _ _).mono
    (fun r h => ⟨fun c => (h c).2.2.2.2, sem_eq_zero_of_no_sems (by decide) r.2⟩) (Cert.AdamFf1RefIdeal.Value.run (F := Ideal) m ρ)

theorem preserves : Cert.preserves_AdamFf1_AdamFf1Ideal := trivial

theorem algebraic : Cert.algebraic_AdamFf1Ideal_AdamFf1RefIdeal := by
  intro m ρ m' ρ' _ hagree
  refine ⟨_, _, _, _, Value.run_blocks (F := Ideal) m ρ, ?_⟩
  refine (θ_run Cert.AdamFf1RefIdeal.defs _ _).mono (fun _ h c => ?_) (Cert.AdamFf1RefIdeal.Value.run (F := Ideal) m' ρ')
  obtain ⟨e0, e1, e2, e3, kept⟩ := h c
  obtain ⟨b0, b1, b2, b3, b4, b5, b6, b7⟩ := hagree c
  refine ⟨e0.trans (ext2 fun r l => Eq.trans ?_ (out_at m c r l).1.symm), e1.trans (ext2 fun r l => Eq.trans ?_ (out_at m c r l).2.1.symm),
    e2.trans (ext2 fun r l => Eq.trans ?_ (out_at m c r l).2.2.1.symm), e3.trans (ext2 fun r l => Eq.trans ?_ (out_at m c r l).2.2.2.symm), kept⟩
  all_goals
    simp only [pointwise, zero_add]
    simp only [b0, b1, b2, b3, b4, b5, b6, b7]
    rfl

end Cert.AdamFf1Ideal.Step
end
-- ==== Proof.UpdateOut.lean ====
/- The optimiser's step on the output projection's weight: the kernel's result arrays are the summed gradient, the
   weight's change and the two running means, and so are the reference's. -/
module
public import proofs.«01_k».proof.Defs
public import proofs.«01_k».proof.Proof.Update
public import proofs.«01_k».proof.Proof.Gen.AdamOutIdeal.Value
public import proofs.«01_k».proof.Proof.Gen.AdamOut
public import proofs.«01_k».proof.Proof.Gen.AdamOutRefIdeal.Run
public import Idealize.ShloMosaic.Lib.VecWindow
public import Idealize.ShloMosaic.Lib.Tactic
public import Idealize.ShloMosaic.Lib.Quiescent
@[expose] public section

set_option maxRecDepth 16384

noncomputable section

namespace Cert.AdamOutIdeal.Step

open Cert.AdamOutIdeal Cert.AdamOutIdeal.Gen Cert.Blocks Cert.Update
open Idealize.ShloMosaic Idealize.ShloMosaic.TcCoe Idealize.SL.Sem

/-- What a point leaves at an entry of the four results' tiles. -/
theorem point_at (x0 x1 x2 x3 x4 : Vec Ideal S256x2048 .bf16) (x5 x6 x7 : Vec Ideal S256x2048 .f32) (i : S256x2048.Idx) :
    out0_8 x0 x1 x2 x3 x4 x5 x6 x7 i = grad (x0 i) (x1 i) (x2 i) (x3 i) (x4 i)
      ∧ out0_9 x0 x1 x2 x3 x4 x5 x6 x7 i = delta (grad (x0 i) (x1 i) (x2 i) (x3 i) (x4 i)) (x5 i) (x6 i) (x7 i)
      ∧ out0_10 x0 x1 x2 x3 x4 x5 x6 x7 i = newM (grad (x0 i) (x1 i) (x2 i) (x3 i) (x4 i)) (x6 i)
      ∧ out0_11 x0 x1 x2 x3 x4 x5 x6 x7 i = newV (grad (x0 i) (x1 i) (x2 i) (x3 i) (x4 i)) (x7 i) := by
  unfold out0_8 out0_9 out0_10 out0_11
  simp only [r0_0, View.canon_unit_zero (S := S256x2048) hz, View.ld_unit_zero (S := S256x2048) hz]
  unfold k0_pay1 k0_pay5 k0_pay6 k0_pay4 k0_pay3 k0_pay2
  exact ⟨rfl, rfl, rfl, rfl⟩

/-! ## Which tiles a point reads and writes -/

theorem index : ∀ t : Fin cfg0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0] :=
  (by decide +kernel : ∀ t : Fin grid0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0])
theorem flush : ∀ t : Fin cfg0.N, (cfg0.win 8).flush t = true ∧ (cfg0.win 9).flush t = true ∧ (cfg0.win 10).flush t = true ∧ (cfg0.win 11).flush t = true :=
  (by decide +kernel : ∀ t : Fin grid0.N, win0_8.flush t = true ∧ win0_9.flush t = true ∧ win0_10.flush t = true ∧ win0_11.flush t = true)

variable (m : (ℓ : Loc nD τ sig) → Buf (Elt Ideal) ℓ) (c : Dev nD)

/-- The kernel's arguments: the gradient's parts, the weight and the two running means. -/
abbrev arg0 : FVec Ideal S256x2048 .bf16 := m ((c.tc : Thread nD τ).loc main_arg0)
abbrev arg1 : FVec Ideal S256x2048 .bf16 := m ((c.tc : Thread nD τ).loc main_arg1)
abbrev arg2 : FVec Ideal S256x2048 .bf16 := m ((c.tc : Thread nD τ).loc main_arg2)
abbrev arg3 : FVec Ideal S256x2048 .bf16 := m ((c.tc : Thread nD τ).loc main_arg3)
abbrev arg4 : FVec Ideal S256x2048 .bf16 := m ((c.tc : Thread nD τ).loc main_arg4)
abbrev argW : FVec Ideal S256x2048 .f32 := m ((c.tc : Thread nD τ).loc main_arg5)
abbrev argM : FVec Ideal S256x2048 .f32 := m ((c.tc : Thread nD τ).loc main_arg6)
abbrev argV : FVec Ideal S256x2048 .f32 := m ((c.tc : Thread nD τ).loc main_arg7)

/-- The gradient at a pair of numbers, the parts summed. -/
def gradN (i j : ℕ) : EReal := grad (at2 (arg0 m c) i j) (at2 (arg1 m c) i j) (at2 (arg2 m c) i j) (at2 (arg3 m c) i j) (at2 (arg4 m c) i j)

theorem reads (t : Fin cfg0.N) (r : Fin 256) (l : Fin 2048) :
    grad (iblk m c 0 t (ix2 r l)) (iblk m c 1 t (ix2 r l)) (iblk m c 2 t (ix2 r l)) (iblk m c 3 t (ix2 r l)) (iblk m c 4 t (ix2 r l))
        = gradN m c (t.val * 256 + r.val) l.val
      ∧ iblk m c 5 t (ix2 r l) = at2 (argW m c) (t.val * 256 + r.val) l.val
      ∧ iblk m c 6 t (ix2 r l) = at2 (argM m c) (t.val * 256 + r.val) l.val
      ∧ iblk m c 7 t (ix2 r l) = at2 (argV m c) (t.val * 256 + r.val) l.val := by
  obtain ⟨⟨i0, i1, i2, i3, i4, i5⟩, i6, i7, -⟩ := index t
  have e0 : iblk m c 0 t (ix2 r l) = at2 (arg0 m c) (t.val * 256 + r.val) l.val := tile (arg0 m c) _ _ _ i0 r l rfl rfl
  have e1 : iblk m c 1 t (ix2 r l) = at2 (arg1 m c) (t.val * 256 + r.val) l.val := tile (arg1 m c) _ _ _ i1 r l rfl rfl
  have e2 : iblk m c 2 t (ix2 r l) = at2 (arg2 m c) (t.val * 256 + r.val) l.val := tile (arg2 m c) _ _ _ i2 r l rfl rfl
  have e3 : iblk m c 3 t (ix2 r l) = at2 (arg3 m c) (t.val * 256 + r.val) l.val := tile (arg3 m c) _ _ _ i3 r l rfl rfl
  have e4 : iblk m c 4 t (ix2 r l) = at2 (arg4 m c) (t.val * 256 + r.val) l.val := tile (arg4 m c) _ _ _ i4 r l rfl rfl
  rw [e0, e1, e2, e3, e4]
  exact ⟨rfl, tile (argW m c) _ _ _ i5 r l rfl rfl, tile (argM m c) _ _ _ i6 r l rfl rfl, tile (argV m c) _ _ _ i7 r l rfl rfl⟩

/-! ## The result arrays -/

/-- The kernel's result arrays: the gradient, the weight's change and the two running means. -/
abbrev outG : FVec Ideal S256x2048 .f32 := (dats m 0 c).arrAt 8 cfg0.N
abbrev outD : FVec Ideal S256x2048 .f32 := (dats m 0 c).arrAt 9 cfg0.N
abbrev outM : FVec Ideal S256x2048 .f32 := (dats m 0 c).arrAt 10 cfg0.N
abbrev outV : FVec Ideal S256x2048 .f32 := (dats m 0 c).arrAt 11 cfg0.N

theorem tiles_at (t : Fin cfg0.N) (r : Fin 256) (l : Fin 2048) :
    at2 (outG m c) (t.val * 256 + r.val) l.val = gradN m c (t.val * 256 + r.val) l.val
      ∧ at2 (outD m c) (t.val * 256 + r.val) l.val = delta (gradN m c (t.val * 256 + r.val) l.val) (at2 (argW m c) (t.val * 256 + r.val) l.val)
        (at2 (argM m c) (t.val * 256 + r.val) l.val) (at2 (argV m c) (t.val * 256 + r.val) l.val)
      ∧ at2 (outM m c) (t.val * 256 + r.val) l.val = newM (gradN m c (t.val * 256 + r.val) l.val) (at2 (argM m c) (t.val * 256 + r.val) l.val)
      ∧ at2 (outV m c) (t.val * 256 + r.val) l.val = newV (gradN m c (t.val * 256 + r.val) l.val) (at2 (argV m c) (t.val * 256 + r.val) l.val) := by
  obtain ⟨-, -, -, i8, i9, i10, i11⟩ := index t
  obtain ⟨f8, f9, f10, f11⟩ := flush t
  obtain ⟨g0, g1, g2, g3⟩ := point_at (iblk m c 0 t) (iblk m c 1 t) (iblk m c 2 t) (iblk m c 3 t) (iblk m c 4 t) (iblk m c 5 t) (iblk m c 6 t) (iblk m c 7 t) (ix2 r l)
  obtain ⟨hg, hw, hm, hv⟩ := reads m c t r l
  rw [hg] at g0 g1 g2 g3
  rw [hw, hm, hv] at g1
  rw [hm] at g2
  rw [hv] at g3
  have b8 := congrFun ((Value.blocks8 m c t f8).trans (Value.flushed8 m c t)) (ix2 r l)
  have b9 := congrFun ((Value.blocks9 m c t f9).trans (Value.flushed9 m c t)) (ix2 r l)
  have b10 := congrFun ((Value.blocks10 m c t f10).trans (Value.flushed10 m c t)) (ix2 r l)
  have b11 := congrFun ((Value.blocks11 m c t f11).trans (Value.flushed11 m c t)) (ix2 r l)
  rw [View.read_apply] at b8 b9 b10 b11
  exact ⟨(tile (outG m c) _ _ _ i8 r l rfl rfl).symm.trans (b8.trans g0), (tile (outD m c) _ _ _ i9 r l rfl rfl).symm.trans (b9.trans g1),
    (tile (outM m c) _ _ _ i10 r l rfl rfl).symm.trans (b10.trans g2), (tile (outV m c) _ _ _ i11 r l rfl rfl).symm.trans (b11.trans g3)⟩

/-- The gradient at an entry, the parts summed. -/
def gradA (r : Fin 256) (l : Fin 2048) : EReal :=
  grad (arg0 m c (ix2 r l)) (arg1 m c (ix2 r l)) (arg2 m c (ix2 r l)) (arg3 m c (ix2 r l)) (arg4 m c (ix2 r l))

theorem out_at (r : Fin 256) (l : Fin 2048) :
    outG m c (ix2 r l) = gradA m c r l
      ∧ outD m c (ix2 r l) = delta (gradA m c r l) (argW m c (ix2 r l)) (argM m c (ix2 r l)) (argV m c (ix2 r l))
      ∧ outM m c (ix2 r l) = newM (gradA m c r l) (argM m c (ix2 r l))
      ∧ outV m c (ix2 r l) = newV (gradA m c r l) (argV m c (ix2 r l)) := by
  have hN : r.val / 256 < cfg0.N := lt_of_lt_of_eq (by omega) N_0.symm
  have h := fun s : Fin 256 => tiles_at m c ⟨r.val / 256, hN⟩ s l
  have k (x : FVec Ideal S256x2048 .f32) : x (ix2 r l) = at2 x r.val l.val := at2_val x (ix2 r l) rfl rfl
  have e : gradA m c r l = gradN m c r.val l.val := by
    unfold gradA gradN
    rw [k (arg0 m c), k (arg1 m c), k (arg2 m c), k (arg3 m c), k (arg4 m c)]
  rw [e, k (argW m c), k (argM m c), k (argV m c)]
  exact ⟨of_tile (outG m c) (gradN m c) r l (by decide) fun s => (h s).1,
    of_tile (outD m c) (fun i j => delta (gradN m c i j) (at2 (argW m c) i j) (at2 (argM m c) i j) (at2 (argV m c) i j)) r l (by decide) fun s => (h s).2.1,
    of_tile (outM m c) (fun i j => newM (gradN m c i j) (at2 (argM m c) i j)) r l (by decide) fun s => (h s).2.2.1,
    of_tile (outV m c) (fun i j => newV (gradN m c i j) (at2 (argV m c) i j)) r l (by decide) fun s => (h s).2.2.2⟩

/-! ## The claims -/

/-- The body table printed for words is the one printed for extended reals, read at words. -/
theorem bodies : Cert.AdamOut.defs₀ (F := Bits) = defs₀ (F := Bits) := by
  unfold Cert.AdamOut.defs₀ defs₀
  congr 1
  funext l a
  match l, a with
  | ⟨0, _⟩, (t, s) => rfl

theorem frame_p : Cert.quiescent_AdamOut := by
  intro m ρ _
  unfold Cert.AdamOut.defs
  rw [bodies]
  exact Gen.frame (F := Bits) m ρ

theorem frame_pi : Cert.quiescent_AdamOutIdeal :=
  fun m ρ _ => Gen.frame (F := Ideal) m ρ

theorem frame_ri : Cert.quiescent_AdamOutRefIdeal :=
  fun m ρ _ => (θ_run Cert.AdamOutRefIdeal.defs _ _).mono
    (fun r h => ⟨fun c => (h c).2.2.2.2, sem_eq_zero_of_no_sems (by decide) r.2⟩) (Cert.AdamOutRefIdeal.Value.run (F := Ideal) m ρ)

theorem preserves : Cert.preserves_AdamOut_AdamOutIdeal := trivial

theorem algebraic : Cert.algebraic_AdamOutIdeal_AdamOutRefIdeal := by
  intro m ρ m' ρ' _ hagree
  refine ⟨_, _, _, _, Value.run_blocks (F := Ideal) m ρ, ?_⟩
  refine (θ_run Cert.AdamOutRefIdeal.defs _ _).mono (fun _ h c => ?_) (Cert.AdamOutRefIdeal.Value.run (F := Ideal) m' ρ')
  obtain ⟨e0, e1, e2, e3, kept⟩ := h c
  obtain ⟨b0, b1, b2, b3, b4, b5, b6, b7⟩ := hagree c
  refine ⟨e0.trans (ext2 fun r l => Eq.trans ?_ (out_at m c r l).1.symm), e1.trans (ext2 fun r l => Eq.trans ?_ (out_at m c r l).2.1.symm),
    e2.trans (ext2 fun r l => Eq.trans ?_ (out_at m c r l).2.2.1.symm), e3.trans (ext2 fun r l => Eq.trans ?_ (out_at m c r l).2.2.2.symm), kept⟩
  all_goals
    simp only [pointwise, zero_add]
    simp only [b0, b1, b2, b3, b4, b5, b6, b7]
    rfl

end Cert.AdamOutIdeal.Step
end
-- ==== Proof.UpdateIn.lean ====
/- The optimiser's step on the input projection's weight: the kernel's result arrays are the summed gradient, the
   weight's change and the two running means, and so are the reference's. -/
module
public import proofs.«01_k».proof.Defs
public import proofs.«01_k».proof.Proof.Update
public import proofs.«01_k».proof.Proof.Gen.AdamInIdeal.Value
public import proofs.«01_k».proof.Proof.Gen.AdamIn
public import proofs.«01_k».proof.Proof.Gen.AdamInRefIdeal.Run
public import Idealize.ShloMosaic.Lib.VecWindow
public import Idealize.ShloMosaic.Lib.Tactic
public import Idealize.ShloMosaic.Lib.Quiescent
@[expose] public section

set_option maxRecDepth 16384

noncomputable section

namespace Cert.AdamInIdeal.Step

open Cert.AdamInIdeal Cert.AdamInIdeal.Gen Cert.Blocks Cert.Update
open Idealize.ShloMosaic Idealize.ShloMosaic.TcCoe Idealize.SL.Sem

/-- What a point leaves at an entry of the four results' tiles. -/
theorem point_at (x0 x1 x2 x3 x4 : Vec Ideal S256x618 .bf16) (x5 x6 x7 : Vec Ideal S256x618 .f32) (i : S256x618.Idx) :
    out0_8 x0 x1 x2 x3 x4 x5 x6 x7 i = grad (x0 i) (x1 i) (x2 i) (x3 i) (x4 i)
      ∧ out0_9 x0 x1 x2 x3 x4 x5 x6 x7 i = delta (grad (x0 i) (x1 i) (x2 i) (x3 i) (x4 i)) (x5 i) (x6 i) (x7 i)
      ∧ out0_10 x0 x1 x2 x3 x4 x5 x6 x7 i = newM (grad (x0 i) (x1 i) (x2 i) (x3 i) (x4 i)) (x6 i)
      ∧ out0_11 x0 x1 x2 x3 x4 x5 x6 x7 i = newV (grad (x0 i) (x1 i) (x2 i) (x3 i) (x4 i)) (x7 i) := by
  unfold out0_8 out0_9 out0_10 out0_11
  simp only [r0_0, View.canon_unit_zero (S := S256x618) hz, View.ld_unit_zero (S := S256x618) hz]
  unfold k0_pay1 k0_pay5 k0_pay6 k0_pay4 k0_pay3 k0_pay2
  exact ⟨rfl, rfl, rfl, rfl⟩

/-! ## Which tiles a point reads and writes -/

theorem index : ∀ t : Fin cfg0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0] :=
  (by decide +kernel : ∀ t : Fin grid0.N, (win0_0.index t = ![t.val, 0] ∧ win0_1.index t = ![t.val, 0] ∧ win0_2.index t = ![t.val, 0]
      ∧ win0_3.index t = ![t.val, 0] ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0])
theorem flush : ∀ t : Fin cfg0.N, (cfg0.win 8).flush t = true ∧ (cfg0.win 9).flush t = true ∧ (cfg0.win 10).flush t = true ∧ (cfg0.win 11).flush t = true :=
  (by decide +kernel : ∀ t : Fin grid0.N, win0_8.flush t = true ∧ win0_9.flush t = true ∧ win0_10.flush t = true ∧ win0_11.flush t = true)

variable (m : (ℓ : Loc nD τ sig) → Buf (Elt Ideal) ℓ) (c : Dev nD)

/-- The kernel's arguments: the gradient's parts, the weight and the two running means. -/
abbrev arg0 : FVec Ideal S2048x618 .bf16 := m ((c.tc : Thread nD τ).loc main_arg0)
abbrev arg1 : FVec Ideal S2048x618 .bf16 := m ((c.tc : Thread nD τ).loc main_arg1)
abbrev arg2 : FVec Ideal S2048x618 .bf16 := m ((c.tc : Thread nD τ).loc main_arg2)
abbrev arg3 : FVec Ideal S2048x618 .bf16 := m ((c.tc : Thread nD τ).loc main_arg3)
abbrev arg4 : FVec Ideal S2048x618 .bf16 := m ((c.tc : Thread nD τ).loc main_arg4)
abbrev argW : FVec Ideal S2048x618 .f32 := m ((c.tc : Thread nD τ).loc main_arg5)
abbrev argM : FVec Ideal S2048x618 .f32 := m ((c.tc : Thread nD τ).loc main_arg6)
abbrev argV : FVec Ideal S2048x618 .f32 := m ((c.tc : Thread nD τ).loc main_arg7)

/-- The gradient at a pair of numbers, the parts summed. -/
def gradN (i j : ℕ) : EReal := grad (at2 (arg0 m c) i j) (at2 (arg1 m c) i j) (at2 (arg2 m c) i j) (at2 (arg3 m c) i j) (at2 (arg4 m c) i j)

theorem reads (t : Fin cfg0.N) (r : Fin 256) (l : Fin 618) :
    grad (iblk m c 0 t (ix2 r l)) (iblk m c 1 t (ix2 r l)) (iblk m c 2 t (ix2 r l)) (iblk m c 3 t (ix2 r l)) (iblk m c 4 t (ix2 r l))
        = gradN m c (t.val * 256 + r.val) l.val
      ∧ iblk m c 5 t (ix2 r l) = at2 (argW m c) (t.val * 256 + r.val) l.val
      ∧ iblk m c 6 t (ix2 r l) = at2 (argM m c) (t.val * 256 + r.val) l.val
      ∧ iblk m c 7 t (ix2 r l) = at2 (argV m c) (t.val * 256 + r.val) l.val := by
  obtain ⟨⟨i0, i1, i2, i3, i4, i5⟩, i6, i7, -⟩ := index t
  have e0 : iblk m c 0 t (ix2 r l) = at2 (arg0 m c) (t.val * 256 + r.val) l.val := tile (arg0 m c) _ _ _ i0 r l rfl rfl
  have e1 : iblk m c 1 t (ix2 r l) = at2 (arg1 m c) (t.val * 256 + r.val) l.val := tile (arg1 m c) _ _ _ i1 r l rfl rfl
  have e2 : iblk m c 2 t (ix2 r l) = at2 (arg2 m c) (t.val * 256 + r.val) l.val := tile (arg2 m c) _ _ _ i2 r l rfl rfl
  have e3 : iblk m c 3 t (ix2 r l) = at2 (arg3 m c) (t.val * 256 + r.val) l.val := tile (arg3 m c) _ _ _ i3 r l rfl rfl
  have e4 : iblk m c 4 t (ix2 r l) = at2 (arg4 m c) (t.val * 256 + r.val) l.val := tile (arg4 m c) _ _ _ i4 r l rfl rfl
  rw [e0, e1, e2, e3, e4]
  exact ⟨rfl, tile (argW m c) _ _ _ i5 r l rfl rfl, tile (argM m c) _ _ _ i6 r l rfl rfl, tile (argV m c) _ _ _ i7 r l rfl rfl⟩

/-! ## The result arrays -/

/-- The kernel's result arrays: the gradient, the weight's change and the two running means. -/
abbrev outG : FVec Ideal S2048x618 .f32 := (dats m 0 c).arrAt 8 cfg0.N
abbrev outD : FVec Ideal S2048x618 .f32 := (dats m 0 c).arrAt 9 cfg0.N
abbrev outM : FVec Ideal S2048x618 .f32 := (dats m 0 c).arrAt 10 cfg0.N
abbrev outV : FVec Ideal S2048x618 .f32 := (dats m 0 c).arrAt 11 cfg0.N

theorem tiles_at (t : Fin cfg0.N) (r : Fin 256) (l : Fin 618) :
    at2 (outG m c) (t.val * 256 + r.val) l.val = gradN m c (t.val * 256 + r.val) l.val
      ∧ at2 (outD m c) (t.val * 256 + r.val) l.val = delta (gradN m c (t.val * 256 + r.val) l.val) (at2 (argW m c) (t.val * 256 + r.val) l.val)
        (at2 (argM m c) (t.val * 256 + r.val) l.val) (at2 (argV m c) (t.val * 256 + r.val) l.val)
      ∧ at2 (outM m c) (t.val * 256 + r.val) l.val = newM (gradN m c (t.val * 256 + r.val) l.val) (at2 (argM m c) (t.val * 256 + r.val) l.val)
      ∧ at2 (outV m c) (t.val * 256 + r.val) l.val = newV (gradN m c (t.val * 256 + r.val) l.val) (at2 (argV m c) (t.val * 256 + r.val) l.val) := by
  obtain ⟨-, -, -, i8, i9, i10, i11⟩ := index t
  obtain ⟨f8, f9, f10, f11⟩ := flush t
  obtain ⟨g0, g1, g2, g3⟩ := point_at (iblk m c 0 t) (iblk m c 1 t) (iblk m c 2 t) (iblk m c 3 t) (iblk m c 4 t) (iblk m c 5 t) (iblk m c 6 t) (iblk m c 7 t) (ix2 r l)
  obtain ⟨hg, hw, hm, hv⟩ := reads m c t r l
  rw [hg] at g0 g1 g2 g3
  rw [hw, hm, hv] at g1
  rw [hm] at g2
  rw [hv] at g3
  have b8 := congrFun ((Value.blocks8 m c t f8).trans (Value.flushed8 m c t)) (ix2 r l)
  have b9 := congrFun ((Value.blocks9 m c t f9).trans (Value.flushed9 m c t)) (ix2 r l)
  have b10 := congrFun ((Value.blocks10 m c t f10).trans (Value.flushed10 m c t)) (ix2 r l)
  have b11 := congrFun ((Value.blocks11 m c t f11).trans (Value.flushed11 m c t)) (ix2 r l)
  rw [View.read_apply] at b8 b9 b10 b11
  exact ⟨(tile (outG m c) _ _ _ i8 r l rfl rfl).symm.trans (b8.trans g0), (tile (outD m c) _ _ _ i9 r l rfl rfl).symm.trans (b9.trans g1),
    (tile (outM m c) _ _ _ i10 r l rfl rfl).symm.trans (b10.trans g2), (tile (outV m c) _ _ _ i11 r l rfl rfl).symm.trans (b11.trans g3)⟩

/-- The gradient at an entry, the parts summed. -/
def gradA (r : Fin 2048) (l : Fin 618) : EReal :=
  grad (arg0 m c (ix2 r l)) (arg1 m c (ix2 r l)) (arg2 m c (ix2 r l)) (arg3 m c (ix2 r l)) (arg4 m c (ix2 r l))

theorem out_at (r : Fin 2048) (l : Fin 618) :
    outG m c (ix2 r l) = gradA m c r l
      ∧ outD m c (ix2 r l) = delta (gradA m c r l) (argW m c (ix2 r l)) (argM m c (ix2 r l)) (argV m c (ix2 r l))
      ∧ outM m c (ix2 r l) = newM (gradA m c r l) (argM m c (ix2 r l))
      ∧ outV m c (ix2 r l) = newV (gradA m c r l) (argV m c (ix2 r l)) := by
  have hN : r.val / 256 < cfg0.N := lt_of_lt_of_eq (by omega) N_0.symm
  have h := fun s : Fin 256 => tiles_at m c ⟨r.val / 256, hN⟩ s l
  have k (x : FVec Ideal S2048x618 .f32) : x (ix2 r l) = at2 x r.val l.val := at2_val x (ix2 r l) rfl rfl
  have e : gradA m c r l = gradN m c r.val l.val := by
    unfold gradA gradN
    rw [k (arg0 m c), k (arg1 m c), k (arg2 m c), k (arg3 m c), k (arg4 m c)]
  rw [e, k (argW m c), k (argM m c), k (argV m c)]
  exact ⟨of_tile (outG m c) (gradN m c) r l (by decide) fun s => (h s).1,
    of_tile (outD m c) (fun i j => delta (gradN m c i j) (at2 (argW m c) i j) (at2 (argM m c) i j) (at2 (argV m c) i j)) r l (by decide) fun s => (h s).2.1,
    of_tile (outM m c) (fun i j => newM (gradN m c i j) (at2 (argM m c) i j)) r l (by decide) fun s => (h s).2.2.1,
    of_tile (outV m c) (fun i j => newV (gradN m c i j) (at2 (argV m c) i j)) r l (by decide) fun s => (h s).2.2.2⟩

/-! ## The claims -/

/-- The body table printed for words is the one printed for extended reals, read at words. -/
theorem bodies : Cert.AdamIn.defs₀ (F := Bits) = defs₀ (F := Bits) := by
  unfold Cert.AdamIn.defs₀ defs₀
  congr 1
  funext l a
  match l, a with
  | ⟨0, _⟩, (t, s) => rfl

theorem frame_p : Cert.quiescent_AdamIn := by
  intro m ρ _
  unfold Cert.AdamIn.defs
  rw [bodies]
  exact Gen.frame (F := Bits) m ρ

theorem frame_pi : Cert.quiescent_AdamInIdeal :=
  fun m ρ _ => Gen.frame (F := Ideal) m ρ

theorem frame_ri : Cert.quiescent_AdamInRefIdeal :=
  fun m ρ _ => (θ_run Cert.AdamInRefIdeal.defs _ _).mono
    (fun r h => ⟨fun c => (h c).2.2.2.2, sem_eq_zero_of_no_sems (by decide) r.2⟩) (Cert.AdamInRefIdeal.Value.run (F := Ideal) m ρ)

theorem preserves : Cert.preserves_AdamIn_AdamInIdeal := trivial

theorem algebraic : Cert.algebraic_AdamInIdeal_AdamInRefIdeal := by
  intro m ρ m' ρ' _ hagree
  refine ⟨_, _, _, _, Value.run_blocks (F := Ideal) m ρ, ?_⟩
  refine (θ_run Cert.AdamInRefIdeal.defs _ _).mono (fun _ h c => ?_) (Cert.AdamInRefIdeal.Value.run (F := Ideal) m' ρ')
  obtain ⟨e0, e1, e2, e3, kept⟩ := h c
  obtain ⟨b0, b1, b2, b3, b4, b5, b6, b7⟩ := hagree c
  refine ⟨e0.trans (ext2 fun r l => Eq.trans ?_ (out_at m c r l).1.symm), e1.trans (ext2 fun r l => Eq.trans ?_ (out_at m c r l).2.1.symm),
    e2.trans (ext2 fun r l => Eq.trans ?_ (out_at m c r l).2.2.1.symm), e3.trans (ext2 fun r l => Eq.trans ?_ (out_at m c r l).2.2.2.symm), kept⟩
  all_goals
    simp only [pointwise, zero_add]
    simp only [b0, b1, b2, b3, b4, b5, b6, b7]
    rfl

end Cert.AdamInIdeal.Step
end
-- ==== Proof.GradNormMlp.lean ====
/- The backward pass of the layer's gated sum and second norm: the kernel's result arrays are the gradients of the layer's
   input through the sum, of the mixer's output, of the gate, of the norm's gain, of the shift and of the scale, and so are
   the reference's. -/
module

public import proofs.«01_k».proof.Defs
public import proofs.«01_k».proof.Proof.Rows
public import proofs.«01_k».proof.Proof.Gen.NormMlpIdeal.Value
public import proofs.«01_k».proof.Proof.Gen.NormMlp
public import proofs.«01_k».proof.Proof.Gen.NormMlpRefIdeal.Run
public import Idealize.ShloMosaic.Lib.VecWindow
public import Idealize.ShloMosaic.Lib.Tactic
public import Idealize.ShloMosaic.Lib.Quiescent

@[expose] public section

set_option maxRecDepth 16384

noncomputable section

namespace Cert.NormMlpRefIdeal.Grad

open Cert.NormMlpRefIdeal Cert.NormMlpRefIdeal.Gen Cert.Rows
open Idealize.ShloMosaic Idealize.ShloMosaic.TcCoe Idealize.SL.Sem

variable (m : (ℓ : Loc nD τ sig) → Buf (Elt Ideal) ℓ) (c : Dev nD)

/-- The reference's arguments: the layer's input, the mixer's output, the gate, the gain, the scale, the gradient of the gated sum
    from past the norm and the gradient of the modulated rows. -/
abbrev argX : FVec Ideal S8192x2048 .f32 := m ((c.tc : Thread nD τ).loc main_arg0)
abbrev argM : FVec Ideal S8192x2048 .f32 := m ((c.tc : Thread nD τ).loc main_arg1)
abbrev argT : FVec Ideal S1x2048 .f32 := m ((c.tc : Thread nD τ).loc main_arg2)
abbrev argG : FVec Ideal S1x2048 .f32 := m ((c.tc : Thread nD τ).loc main_arg3)
abbrev argS : FVec Ideal S1x2048 .f32 := m ((c.tc : Thread nD τ).loc main_arg5)
abbrev argE : FVec Ideal S8192x2048 .f32 := m ((c.tc : Thread nD τ).loc main_arg6)
abbrev argD : FVec Ideal S8192x2048 .f32 := m ((c.tc : Thread nD τ).loc main_arg7)

theorem ref0 (r : Fin 8192) (l : Fin 2048) :
    (Value.res_out0 m c : FVec Ideal S8192x2048 .f32) (ix2 r l) = dx (gated (row (argX m c) r) (row (argM m c) r) (row (argT m c) 0)) (row (argG m c) 0) (row (argS m c) 0) (row (argD m c) r) (row (argE m c) r) l := by
  unfold Value.res_out0 Value.res_main_v51
  simp only [pointwise, zero_add, mean, Finset.univ_unique, Finset.sum_singleton]
  rfl

theorem ref1 (r : Fin 8192) (l : Fin 2048) :
    (Value.res_out1 m c : FVec Ideal S8192x2048 .bf16) (ix2 r l) = row (argT m c) 0 l * dx (gated (row (argX m c) r) (row (argM m c) r) (row (argT m c) 0)) (row (argG m c) 0) (row (argS m c) 0) (row (argD m c) r) (row (argE m c) r) l := by
  unfold Value.res_out1 Value.res_main_v58
  simp only [pointwise, zero_add, mean, Finset.univ_unique, Finset.sum_singleton]
  rfl

theorem ref2 (l : Fin 2048) :
    (Value.res_out2 m c : FVec Ideal S1x2048 .f32) (ix2 0 l) = ∑ k : Fin 8192, dx (gated (row (argX m c) k) (row (argM m c) k) (row (argT m c) 0)) (row (argG m c) 0) (row (argS m c) 0) (row (argD m c) k) (row (argE m c) k) l * row (argM m c) k l := by
  unfold Value.res_out2 Value.res_main_v57
  simp only [pointwise, zero_add, mean, Finset.univ_unique, Finset.sum_singleton]
  rfl

end Cert.NormMlpRefIdeal.Grad

namespace Cert.NormMlpIdeal.Grad

open Cert.NormMlpIdeal Cert.NormMlpIdeal.Gen Cert.Rows Cert.Blocks
open Idealize.ShloMosaic Idealize.ShloMosaic.TcCoe Idealize.SL.Sem

/-! ## What a point leaves in the results' blocks -/

section Cases

variable {F : FTy → Type} [FloatOps F] (c : Dev nD) (i : grid0.Coords)
  (a0 : Memref sig .tc .vmem S256x2048 .f32) (h0 : a0.IsWhole)
  (a1 : Memref sig .tc .vmem S256x2048 .f32) (h1 : a1.IsWhole)
  (a2 : Memref sig .tc .vmem S1x2048 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S1x2048 .f32) (h5 : a5.IsWhole)
  (a6 : Memref sig .tc .vmem S256x2048 .f32) (h6 : a6.IsWhole)
  (a7 : Memref sig .tc .vmem S256x2048 .f32) (h7 : a7.IsWhole)
  (a8 : Memref sig .tc .vmem S256x2048 .f32) (h8 : a8.IsWhole)
  (a9 : Memref sig .tc .vmem S256x2048 .bf16) (h9 : a9.IsWhole)
  (a10 : Memref sig .tc .vmem S1x2048 .f32) (h10 : a10.IsWhole)
  (a11 : Memref sig .tc .vmem S1x2048 .f32) (h11 : a11.IsWhole)
  (a12 : Memref sig .tc .vmem S1x2048 .f32) (h12 : a12.IsWhole)
  (a13 : Memref sig .tc .vmem S1x2048 .f32) (h13 : a13.IsWhole)
  (x0 x1 : Vec F S256x2048 .f32) (x2 x3 x4 x5 : Vec F S1x2048 .f32) (x6 x7 : Vec F S256x2048 .f32) (y10 y11 y12 y13 : Vec F S1x2048 .f32)

theorem case_A (hc : cond0_0 i) :
    (out0_A_8 c i a0 h0 a1 h1 a2 h2 a3 h3 a4 h4 a5 h5 a6 h6 a7 h7 a8 h8 a9 h9 a10 h10 a11 h11 a12 h12 a13 h13 hc x0 x1 x2 x3 x4 x5 x6 x7,
      out0_A_9 c i a0 h0 a1 h1 a2 h2 a3 h3 a4 h4 a5 h5 a6 h6 a7 h7 a8 h8 a9 h9 a10 h10 a11 h11 a12 h12 a13 h13 hc x0 x1 x2 x3 x4 x5 x6 x7,
      out0_A_10 c i a0 h0 a1 h1 a2 h2 a3 h3 a4 h4 a5 h5 a6 h6 a7 h7 a8 h8 a9 h9 a10 h10 a11 h11 a12 h12 a13 h13 hc x0 x1 x2 x3 x4 x5 x6 x7,
      out0_A_11 c i a0 h0 a1 h1 a2 h2 a3 h3 a4 h4 a5 h5 a6 h6 a7 h7 a8 h8 a9 h9 a10 h10 a11 h11 a12 h12 a13 h13 hc x0 x1 x2 x3 x4 x5 x6 x7,
      out0_A_12 c i a0 h0 a1 h1 a2 h2 a3 h3 a4 h4 a5 h5 a6 h6 a7 h7 a8 h8 a9 h9 a10 h10 a11 h11 a12 h12 a13 h13 hc x0 x1 x2 x3 x4 x5 x6 x7,
      out0_A_13 c i a0 h0 a1 h1 a2 h2 a3 h3 a4 h4 a5 h5 a6 h6 a7 h7 a8 h8 a9 h9 a10 h10 a11 h11 a12 h12 a13 h13 hc x0 x1 x2 x3 x4 x5 x6 x7)
      = (k0_pay13 x3 (k0_pay3 x0 x1 x2) (k0_pay5 x0 x1 x2) (k0_pay6 x0 x1 x2) x6 (k0_pay11 x5 x7),
        k0_pay15 x2 x3 (k0_pay3 x0 x1 x2) (k0_pay5 x0 x1 x2) (k0_pay6 x0 x1 x2) x6 (k0_pay11 x5 x7),
        k0_pay20 x1 x3 (k0_pay3 x0 x1 x2) (k0_pay5 x0 x1 x2) (k0_pay6 x0 x1 x2) x6 (k0_pay11 x5 x7) (k0_pay16 (F := F)),
        k0_pay21 (k0_pay12 x0 x1 x2 x5 x7) (k0_pay17 (F := F)), k0_pay1 (k0_pay9 x7) (k0_pay18 (F := F)), k0_pay2 (k0_pay10 x0 x1 x2 x3 x7) (k0_pay19 (F := F))) := by
  refine congr (congrArg Prod.mk ((View.read_writes_eq_canon _ _ _ (cover0_A_8 c i a0 h0 a1 h1 a2 h2 a3 h3 a4 h4 a5 h5 a6 h6 a7 h7 a8 h8 a9 h9 a10 h10 a11 h11 a12 h12 a13 h13 hc x0 x1 x2 x3 x4 x5 x6 x7)).trans ?_))
    (congr (congrArg Prod.mk ((View.read_writes_eq_canon _ _ _ (cover0_A_9 c i a0 h0 a1 h1 a2 h2 a3 h3 a4 h4 a5 h5 a6 h6 a7 h7 a8 h8 a9 h9 a10 h10 a11 h11 a12 h12 a13 h13 hc x0 x1 x2 x3 x4 x5 x6 x7)).trans ?_))
    (congr (congrArg Prod.mk ((View.read_writes_eq_canon _ _ _ (cover0_A_10 c i a0 h0 a1 h1 a2 h2 a3 h3 a4 h4 a5 h5 a6 h6 a7 h7 a8 h8 a9 h9 a10 h10 a11 h11 a12 h12 a13 h13 hc x0 x1 x2 x3 x4 x5 x6 x7)).trans ?_))
    (congr (congrArg Prod.mk ((View.read_writes_eq_canon _ _ _ (cover0_A_11 c i a0 h0 a1 h1 a2 h2 a3 h3 a4 h4 a5 h5 a6 h6 a7 h7 a8 h8 a9 h9 a10 h10 a11 h11 a12 h12 a13 h13 hc x0 x1 x2 x3 x4 x5 x6 x7)).trans ?_))
    (congr (congrArg Prod.mk ((View.read_writes_eq_canon _ _ _ (cover0_A_12 c i a0 h0 a1 h1 a2 h2 a3 h3 a4 h4 a5 h5 a6 h6 a7 h7 a8 h8 a9 h9 a10 h10 a11 h11 a12 h12 a13 h13 hc x0 x1 x2 x3 x4 x5 x6 x7)).trans ?_))
    ((View.read_writes_eq_canon _ _ _ (cover0_A_13 c i a0 h0 a1 h1 a2 h2 a3 h3 a4 h4 a5 h5 a6 h6 a7 h7 a8 h8 a9 h9 a10 h10 a11 h11 a12 h12 a13 h13 hc x0 x1 x2 x3 x4 x5 x6 x7)).trans ?_)))))
  all_goals
    unfold kernelRun0_A
    dsimp only
    sl_unfold_words
    simp only [View.canon_unit_zero (S := S256x2048) hz, View.canon_unit_zero (S := S1x2048) hz, View.canon_cons_unit_zero (S := S1x2048) hz,
      View.readCov_unit_zero (S := S1x2048) _ hz, View.readAt_eq_ld, h0.read_unread, h1.read_unread, h2.read_unread, h3.read_unread, h5.read_unread, h6.read_unread, h7.read_unread,
      View.ld_unit_zero (S := S256x2048) hz, View.ld_unit_zero (S := S1x2048) hz]

theorem case_B (hc : ¬cond0_0 i) :
    (out0_B_8 c i a0 h0 a1 h1 a2 h2 a3 h3 a4 h4 a5 h5 a6 h6 a7 h7 a8 h8 a9 h9 a10 h10 a11 h11 a12 h12 a13 h13 hc x0 x1 x2 x3 x4 x5 x6 x7 y10 y11 y12 y13,
      out0_B_9 c i a0 h0 a1 h1 a2 h2 a3 h3 a4 h4 a5 h5 a6 h6 a7 h7 a8 h8 a9 h9 a10 h10 a11 h11 a12 h12 a13 h13 hc x0 x1 x2 x3 x4 x5 x6 x7 y10 y11 y12 y13,
      out0_B_10 c i a0 h0 a1 h1 a2 h2 a3 h3 a4 h4 a5 h5 a6 h6 a7 h7 a8 h8 a9 h9 a10 h10 a11 h11 a12 h12 a13 h13 hc x0 x1 x2 x3 x4 x5 x6 x7 y10 y11 y12 y13,
      out0_B_11 c i a0 h0 a1 h1 a2 h2 a3 h3 a4 h4 a5 h5 a6 h6 a7 h7 a8 h8 a9 h9 a10 h10 a11 h11 a12 h12 a13 h13 hc x0 x1 x2 x3 x4 x5 x6 x7 y10 y11 y12 y13,
      out0_B_12 c i a0 h0 a1 h1 a2 h2 a3 h3 a4 h4 a5 h5 a6 h6 a7 h7 a8 h8 a9 h9 a10 h10 a11 h11 a12 h12 a13 h13 hc x0 x1 x2 x3 x4 x5 x6 x7 y10 y11 y12 y13,
      out0_B_13 c i a0 h0 a1 h1 a2 h2 a3 h3 a4 h4 a5 h5 a6 h6 a7 h7 a8 h8 a9 h9 a10 h10 a11 h11 a12 h12 a13 h13 hc x0 x1 x2 x3 x4 x5 x6 x7 y10 y11 y12 y13)
      = (k0_pay13 x3 (k0_pay3 x0 x1 x2) (k0_pay5 x0 x1 x2) (k0_pay6 x0 x1 x2) x6 (k0_pay11 x5 x7),
        k0_pay15 x2 x3 (k0_pay3 x0 x1 x2) (k0_pay5 x0 x1 x2) (k0_pay6 x0 x1 x2) x6 (k0_pay11 x5 x7),
        k0_pay20 x1 x3 (k0_pay3 x0 x1 x2) (k0_pay5 x0 x1 x2) (k0_pay6 x0 x1 x2) x6 (k0_pay11 x5 x7) y10,
        k0_pay21 (k0_pay12 x0 x1 x2 x5 x7) y11, k0_pay1 (k0_pay9 x7) y12, k0_pay2 (k0_pay10 x0 x1 x2 x3 x7) y13) := by
  refine congr (congrArg Prod.mk ((View.read_writes_eq_canon _ _ _ (cover0_B_8 c i a0 h0 a1 h1 a2 h2 a3 h3 a4 h4 a5 h5 a6 h6 a7 h7 a8 h8 a9 h9 a10 h10 a11 h11 a12 h12 a13 h13 hc x0 x1 x2 x3 x4 x5 x6 x7 y10 y11 y12 y13)).trans ?_))
    (congr (congrArg Prod.mk ((View.read_writes_eq_canon _ _ _ (cover0_B_9 c i a0 h0 a1 h1 a2 h2 a3 h3 a4 h4 a5 h5 a6 h6 a7 h7 a8 h8 a9 h9 a10 h10 a11 h11 a12 h12 a13 h13 hc x0 x1 x2 x3 x4 x5 x6 x7 y10 y11 y12 y13)).trans ?_))
    (congr (congrArg Prod.mk ((View.read_writes_eq_canon _ _ _ (cover0_B_10 c i a0 h0 a1 h1 a2 h2 a3 h3 a4 h4 a5 h5 a6 h6 a7 h7 a8 h8 a9 h9 a10 h10 a11 h11 a12 h12 a13 h13 hc x0 x1 x2 x3 x4 x5 x6 x7 y10 y11 y12 y13)).trans ?_))
    (congr (congrArg Prod.mk ((View.read_writes_eq_canon _ _ _ (cover0_B_11 c i a0 h0 a1 h1 a2 h2 a3 h3 a4 h4 a5 h5 a6 h6 a7 h7 a8 h8 a9 h9 a10 h10 a11 h11 a12 h12 a13 h13 hc x0 x1 x2 x3 x4 x5 x6 x7 y10 y11 y12 y13)).trans ?_))
    (congr (congrArg Prod.mk ((View.read_writes_eq_canon _ _ _ (cover0_B_12 c i a0 h0 a1 h1 a2 h2 a3 h3 a4 h4 a5 h5 a6 h6 a7 h7 a8 h8 a9 h9 a10 h10 a11 h11 a12 h12 a13 h13 hc x0 x1 x2 x3 x4 x5 x6 x7 y10 y11 y12 y13)).trans ?_))
    ((View.read_writes_eq_canon _ _ _ (cover0_B_13 c i a0 h0 a1 h1 a2 h2 a3 h3 a4 h4 a5 h5 a6 h6 a7 h7 a8 h8 a9 h9 a10 h10 a11 h11 a12 h12 a13 h13 hc x0 x1 x2 x3 x4 x5 x6 x7 y10 y11 y12 y13)).trans ?_)))))
  all_goals
    unfold kernelRun0_B
    dsimp only
    sl_unfold_words
    simp only [View.canon_unit_zero (S := S256x2048) hz, View.canon_unit_zero (S := S1x2048) hz, View.canon_cons_unit_zero (S := S1x2048) hz,
      View.readCov_unit_zero (S := S1x2048) _ hz, View.readAt_eq_ld, h0.read_unread, h1.read_unread, h2.read_unread, h3.read_unread, h5.read_unread, h6.read_unread, h7.read_unread, h10.read_unread, h11.read_unread, h12.read_unread, h13.read_unread,
      View.ld_unit_zero (S := S256x2048) hz, View.ld_unit_zero (S := S1x2048) hz]

end Cases

/-! ## Entries -/

section Entries

variable (v0 v1 : Vec Ideal S256x2048 .f32) (v2 v3 v5 : Vec Ideal S1x2048 .f32) (v6 v7 : Vec Ideal S256x2048 .f32) (a : Vec Ideal S1x2048 .f32) (l : Fin 2048)

theorem dx_at (r : Fin 256) : k0_pay13 v3 (k0_pay3 v0 v1 v2) (k0_pay5 v0 v1 v2) (k0_pay6 v0 v1 v2) v6 (k0_pay11 v5 v7) (ix2 r l) = dx (gated (row v0 r) (row v1 r) (row v2 0)) (row v3 0) (row v5 0) (row v7 r) (row v6 r) l := by
  unfold k0_pay13 k0_pay11 k0_pay8 k0_pay6 k0_pay5 k0_pay4 k0_pay3
  simp only [pointwise, zero_add, Finset.univ_unique, Finset.sum_singleton]
  rfl

theorem dmixed_at (r : Fin 256) : k0_pay15 v2 v3 (k0_pay3 v0 v1 v2) (k0_pay5 v0 v1 v2) (k0_pay6 v0 v1 v2) v6 (k0_pay11 v5 v7) (ix2 r l) = row v2 0 l * dx (gated (row v0 r) (row v1 r) (row v2 0)) (row v3 0) (row v5 0) (row v7 r) (row v6 r) l := by
  unfold k0_pay15 k0_pay14 k0_pay13 k0_pay11 k0_pay8 k0_pay6 k0_pay5 k0_pay4 k0_pay3
  simp only [pointwise, zero_add, Finset.univ_unique, Finset.sum_singleton]
  rfl

theorem dgate_at : k0_pay20 v1 v3 (k0_pay3 v0 v1 v2) (k0_pay5 v0 v1 v2) (k0_pay6 v0 v1 v2) v6 (k0_pay11 v5 v7) a (ix2 0 l)
    = a (ix2 0 l) + ∑ k : Fin 256, dx (gated (row v0 k) (row v1 k) (row v2 0)) (row v3 0) (row v5 0) (row v7 k) (row v6 k) l * row v1 k l := by
  unfold k0_pay20 k0_pay14 k0_pay13 k0_pay11 k0_pay8 k0_pay6 k0_pay5 k0_pay4 k0_pay3
  simp only [pointwise, zero_add, Finset.univ_unique, Finset.sum_singleton]
  rfl

theorem dg_at : k0_pay21 (k0_pay12 v0 v1 v2 v5 v7) a (ix2 0 l)
    = a (ix2 0 l) + ∑ k : Fin 256, dg (gated (row v0 k) (row v1 k) (row v2 0)) (row v5 0) (row v7 k) l := by
  unfold k0_pay21 k0_pay12 k0_pay11 k0_pay8 k0_pay7 k0_pay5 k0_pay4 k0_pay3
  simp only [pointwise, zero_add]
  rfl

theorem dshift_at : k0_pay1 (k0_pay9 v7) a (ix2 0 l) = a (ix2 0 l) + ∑ k : Fin 256, row v7 k l := by
  unfold k0_pay1 k0_pay9
  simp only [pointwise, zero_add]
  rfl

theorem dscale_at : k0_pay2 (k0_pay10 v0 v1 v2 v3 v7) a (ix2 0 l)
    = a (ix2 0 l) + ∑ k : Fin 256, dscale (gated (row v0 k) (row v1 k) (row v2 0)) (row v3 0) (row v7 k) l := by
  unfold k0_pay2 k0_pay10 k0_pay8 k0_pay7 k0_pay5 k0_pay4 k0_pay3
  simp only [pointwise, zero_add]
  rfl

end Entries

theorem zero_at (y : S1x2048.Idx) :
    k0_pay16 (F := Ideal) y = 0 ∧ k0_pay17 (F := Ideal) y = 0 ∧ k0_pay18 (F := Ideal) y = 0 ∧ k0_pay19 (F := Ideal) y = 0 := by
  unfold k0_pay16 k0_pay17 k0_pay18 k0_pay19
  simp only [pointwise, and_self]

/-! ## Which blocks a point reads and writes -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index5 : ∀ t : Fin cfg0.N, win0_5.index t = ![0, 0] := (by decide +kernel : ∀ t : Fin grid0.N, win0_5.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem flush8 : ∀ t : Fin cfg0.N, (cfg0.win 8).flush t = true := (by decide +kernel : ∀ t : Fin grid0.N, win0_8.flush t = true)
theorem flush9 : ∀ t : Fin cfg0.N, (cfg0.win 9).flush t = true := (by decide +kernel : ∀ t : Fin grid0.N, win0_9.flush t = true)
theorem flush10 : ∀ t : Fin cfg0.N, (cfg0.win 10).flush t = decide (t.val = 31) := (by decide +kernel : ∀ t : Fin grid0.N, win0_10.flush t = decide (t.val = 31))
theorem flush11 : ∀ t : Fin cfg0.N, (cfg0.win 11).flush t = decide (t.val = 31) := (by decide +kernel : ∀ t : Fin grid0.N, win0_11.flush t = decide (t.val = 31))
theorem flush12 : ∀ t : Fin cfg0.N, (cfg0.win 12).flush t = decide (t.val = 31) := (by decide +kernel : ∀ t : Fin grid0.N, win0_12.flush t = decide (t.val = 31))
theorem flush13 : ∀ t : Fin cfg0.N, (cfg0.win 13).flush t = decide (t.val = 31) := (by decide +kernel : ∀ t : Fin grid0.N, win0_13.flush t = decide (t.val = 31))

variable (m : (ℓ : Loc nD τ sig) → Buf (Elt Ideal) ℓ) (c : Dev nD)

/-- The kernel's arguments, as the reference's: the layer's input, the mixer's output, the gate, the gain, the scale, the gradient of the gated sum
    from past the norm and the gradient of the modulated rows. -/
abbrev argX : FVec Ideal S8192x2048 .f32 := m ((c.tc : Thread nD τ).loc main_arg0)
abbrev argM : FVec Ideal S8192x2048 .f32 := m ((c.tc : Thread nD τ).loc main_arg1)
abbrev argT : FVec Ideal S1x2048 .f32 := m ((c.tc : Thread nD τ).loc main_arg2)
abbrev argG : FVec Ideal S1x2048 .f32 := m ((c.tc : Thread nD τ).loc main_arg3)
abbrev argS : FVec Ideal S1x2048 .f32 := m ((c.tc : Thread nD τ).loc main_arg5)
abbrev argE : FVec Ideal S8192x2048 .f32 := m ((c.tc : Thread nD τ).loc main_arg6)
abbrev argD : FVec Ideal S8192x2048 .f32 := m ((c.tc : Thread nD τ).loc main_arg7)

theorem read0 (t : Fin cfg0.N) (r : Fin 256) : row (iblk m c 0 t : Vec Ideal S256x2048 .f32) r = rowN (argX m c) (t.val * 256 + r.val) := by
  funext k
  unfold row iblk
  rw [View.read_apply]
  exact at2_val (argX m c) _ (by change win0_0.index t 0 * 256 + 1 * r.val = _; rw [index0 t, Nat.one_mul]; rfl)
    (by change win0_0.index t 1 * 2048 + 1 * k.val = _; rw [index0 t]; change 0 * 2048 + 1 * k.val = _; rw [Nat.one_mul]; exact Nat.zero_add _)

theorem read1 (t : Fin cfg0.N) (r : Fin 256) : row (iblk m c 1 t : Vec Ideal S256x2048 .f32) r = rowN (argM m c) (t.val * 256 + r.val) := by
  funext k
  unfold row iblk
  rw [View.read_apply]
  exact at2_val (argM m c) _ (by change win0_1.index t 0 * 256 + 1 * r.val = _; rw [index1 t, Nat.one_mul]; rfl)
    (by change win0_1.index t 1 * 2048 + 1 * k.val = _; rw [index1 t]; change 0 * 2048 + 1 * k.val = _; rw [Nat.one_mul]; exact Nat.zero_add _)

theorem read6 (t : Fin cfg0.N) (r : Fin 256) : row (iblk m c 6 t : Vec Ideal S256x2048 .f32) r = rowN (argE m c) (t.val * 256 + r.val) := by
  funext k
  unfold row iblk
  rw [View.read_apply]
  exact at2_val (argE m c) _ (by change win0_6.index t 0 * 256 + 1 * r.val = _; rw [index6 t, Nat.one_mul]; rfl)
    (by change win0_6.index t 1 * 2048 + 1 * k.val = _; rw [index6 t]; change 0 * 2048 + 1 * k.val = _; rw [Nat.one_mul]; exact Nat.zero_add _)

theorem read7 (t : Fin cfg0.N) (r : Fin 256) : row (iblk m c 7 t : Vec Ideal S256x2048 .f32) r = rowN (argD m c) (t.val * 256 + r.val) := by
  funext k
  unfold row iblk
  rw [View.read_apply]
  exact at2_val (argD m c) _ (by change win0_7.index t 0 * 256 + 1 * r.val = _; rw [index7 t, Nat.one_mul]; rfl)
    (by change win0_7.index t 1 * 2048 + 1 * k.val = _; rw [index7 t]; change 0 * 2048 + 1 * k.val = _; rw [Nat.one_mul]; exact Nat.zero_add _)

theorem read2 (t : Fin cfg0.N) : row (iblk m c 2 t : Vec Ideal S1x2048 .f32) 0 = row (argT m c) 0 := by
  funext k
  rw [row_eq (argT m c)]
  unfold row iblk
  rw [View.read_apply]
  exact at2_val (argT m c) _ (by change win0_2.index t 0 * 1 + 1 * 0 = _; rw [index2 t]; rfl)
    (by change win0_2.index t 1 * 2048 + 1 * k.val = _; rw [index2 t]; change 0 * 2048 + 1 * k.val = _; rw [Nat.one_mul]; exact Nat.zero_add _)

theorem read3 (t : Fin cfg0.N) : row (iblk m c 3 t : Vec Ideal S1x2048 .f32) 0 = row (argG m c) 0 := by
  funext k
  rw [row_eq (argG m c)]
  unfold row iblk
  rw [View.read_apply]
  exact at2_val (argG m c) _ (by change win0_3.index t 0 * 1 + 1 * 0 = _; rw [index3 t]; rfl)
    (by change win0_3.index t 1 * 2048 + 1 * k.val = _; rw [index3 t]; change 0 * 2048 + 1 * k.val = _; rw [Nat.one_mul]; exact Nat.zero_add _)

theorem read5 (t : Fin cfg0.N) : row (iblk m c 5 t : Vec Ideal S1x2048 .f32) 0 = row (argS m c) 0 := by
  funext k
  rw [row_eq (argS m c)]
  unfold row iblk
  rw [View.read_apply]
  exact at2_val (argS m c) _ (by change win0_5.index t 0 * 1 + 1 * 0 = _; rw [index5 t]; rfl)
    (by change win0_5.index t 1 * 2048 + 1 * k.val = _; rw [index5 t]; change 0 * 2048 + 1 * k.val = _; rw [Nat.one_mul]; exact Nat.zero_add _)

/-! ## What a point leaves -/

/-- What the accumulators gain at a point, over what the point before left. -/
theorem next (n : ℕ) (hn : n + 1 < cfg0.N) (l : Fin 2048) :
    (outsAt0 m c (n + 1) hn).2.2.1 (ix2 0 l) = (outsAt0 m c n (Nat.lt_of_succ_lt hn)).2.2.1 (ix2 0 l)
        + ∑ k : Fin 256, dx (gated (rowN (argX m c) ((n + 1) * 256 + k.val)) (rowN (argM m c) ((n + 1) * 256 + k.val)) (row (argT m c) 0)) (row (argG m c) 0) (row (argS m c) 0) (rowN (argD m c) ((n + 1) * 256 + k.val)) (rowN (argE m c) ((n + 1) * 256 + k.val)) l * rowN (argM m c) ((n + 1) * 256 + k.val) l
      ∧ (outsAt0 m c (n + 1) hn).2.2.2.1 (ix2 0 l) = (outsAt0 m c n (Nat.lt_of_succ_lt hn)).2.2.2.1 (ix2 0 l)
        + ∑ k : Fin 256, dg (gated (rowN (argX m c) ((n + 1) * 256 + k.val)) (rowN (argM m c) ((n + 1) * 256 + k.val)) (row (argT m c) 0)) (row (argS m c) 0) (rowN (argD m c) ((n + 1) * 256 + k.val)) l
      ∧ (outsAt0 m c (n + 1) hn).2.2.2.2.1 (ix2 0 l) = (outsAt0 m c n (Nat.lt_of_succ_lt hn)).2.2.2.2.1 (ix2 0 l)
        + ∑ k : Fin 256, rowN (argD m c) ((n + 1) * 256 + k.val) l
      ∧ (outsAt0 m c (n + 1) hn).2.2.2.2.2 (ix2 0 l) = (outsAt0 m c n (Nat.lt_of_succ_lt hn)).2.2.2.2.2 (ix2 0 l)
        + ∑ k : Fin 256, dscale (gated (rowN (argX m c) ((n + 1) * 256 + k.val)) (rowN (argM m c) ((n + 1) * 256 + k.val)) (row (argT m c) 0)) (row (argG m c) 0) (rowN (argD m c) ((n + 1) * 256 + k.val)) l := by
  have h0 : ¬(⟨n + 1, hn⟩ : Fin cfg0.N).val % 32 = 0 := by
    have := lt_of_lt_of_eq hn N_0
    dsimp only
    omega
  have e := (outsAt0_B m c ⟨n + 1, hn⟩ h0).trans (case_B ..)
  dsimp only at e
  rw [e]
  dsimp only
  rw [dgate_at, dg_at, dshift_at, dscale_at]
  simp only [read0, read1, read2, read3, read5, read6, read7]
  exact ⟨rfl, rfl, rfl, rfl⟩

/-- What the first point leaves in the accumulators. -/
theorem first (hn : 0 < cfg0.N) (l : Fin 2048) :
    (outsAt0 m c 0 hn).2.2.1 (ix2 0 l) = ∑ k : Fin 256, dx (gated (rowN (argX m c) (0 * 256 + k.val)) (rowN (argM m c) (0 * 256 + k.val)) (row (argT m c) 0)) (row (argG m c) 0) (row (argS m c) 0) (rowN (argD m c) (0 * 256 + k.val)) (rowN (argE m c) (0 * 256 + k.val)) l * rowN (argM m c) (0 * 256 + k.val) l
      ∧ (outsAt0 m c 0 hn).2.2.2.1 (ix2 0 l) = ∑ k : Fin 256, dg (gated (rowN (argX m c) (0 * 256 + k.val)) (rowN (argM m c) (0 * 256 + k.val)) (row (argT m c) 0)) (row (argS m c) 0) (rowN (argD m c) (0 * 256 + k.val)) l
      ∧ (outsAt0 m c 0 hn).2.2.2.2.1 (ix2 0 l) = ∑ k : Fin 256, rowN (argD m c) (0 * 256 + k.val) l
      ∧ (outsAt0 m c 0 hn).2.2.2.2.2 (ix2 0 l) = ∑ k : Fin 256, dscale (gated (rowN (argX m c) (0 * 256 + k.val)) (rowN (argM m c) (0 * 256 + k.val)) (row (argT m c) 0)) (row (argG m c) 0) (rowN (argD m c) (0 * 256 + k.val)) l := by
  have e := (outsAt0_A m c ⟨0, hn⟩ rfl).trans (case_A ..)
  dsimp only at e
  rw [e]
  dsimp only
  rw [dgate_at, dg_at, dshift_at, dscale_at, (zero_at _).1, (zero_at _).2.1, (zero_at _).2.2.1, (zero_at _).2.2.2]
  simp only [read0, read1, read2, read3, read5, read6, read7, zero_add, true_and]

/-- What a point leaves in the blocks of the gradients of the rows. -/
theorem rows_at (t : Fin cfg0.N) (r : Fin 256) (l : Fin 2048) :
    (outsAt0 m c t.val t.isLt).1 (ix2 r l) = dx (gated (rowN (argX m c) (t.val * 256 + r.val)) (rowN (argM m c) (t.val * 256 + r.val)) (row (argT m c) 0)) (row (argG m c) 0) (row (argS m c) 0) (rowN (argD m c) (t.val * 256 + r.val)) (rowN (argE m c) (t.val * 256 + r.val)) l
      ∧ (outsAt0 m c t.val t.isLt).2.1 (ix2 r l) = row (argT m c) 0 l * dx (gated (rowN (argX m c) (t.val * 256 + r.val)) (rowN (argM m c) (t.val * 256 + r.val)) (row (argT m c) 0)) (row (argG m c) 0) (row (argS m c) 0) (rowN (argD m c) (t.val * 256 + r.val)) (rowN (argE m c) (t.val * 256 + r.val)) l := by
  have e : (outsAt0 m c t.val t.isLt).1 = k0_pay13 (iblk m c 3 t) (k0_pay3 (iblk m c 0 t) (iblk m c 1 t) (iblk m c 2 t)) (k0_pay5 (iblk m c 0 t) (iblk m c 1 t) (iblk m c 2 t)) (k0_pay6 (iblk m c 0 t) (iblk m c 1 t) (iblk m c 2 t)) (iblk m c 6 t) (k0_pay11 (iblk m c 5 t) (iblk m c 7 t))
      ∧ (outsAt0 m c t.val t.isLt).2.1 = k0_pay15 (iblk m c 2 t) (iblk m c 3 t) (k0_pay3 (iblk m c 0 t) (iblk m c 1 t) (iblk m c 2 t)) (k0_pay5 (iblk m c 0 t) (iblk m c 1 t) (iblk m c 2 t)) (k0_pay6 (iblk m c 0 t) (iblk m c 1 t) (iblk m c 2 t)) (iblk m c 6 t) (k0_pay11 (iblk m c 5 t) (iblk m c 7 t)) := by
    by_cases h0 : t.val % 32 = 0
    · rw [(outsAt0_A m c t h0).trans (case_A ..)]
      exact ⟨rfl, rfl⟩
    · rw [(outsAt0_B m c t h0).trans (case_B ..)]
      exact ⟨rfl, rfl⟩
  rw [e.1, e.2]
  refine ⟨(dx_at _ _ _ _ _ _ _ l r).trans ?_, (dmixed_at _ _ _ _ _ _ _ l r).trans ?_⟩ <;> rw [read0, read1, read2, read3, read5, read6, read7]

/-! ## The result arrays -/

/-- The kernel's result arrays: the gradients of the input, of the mixer's output, of the gate, of the gain, of the shift
    and of the scale. -/
abbrev outX : FVec Ideal S8192x2048 .f32 := (dats m 0 c).arrAt 8 cfg0.N
abbrev outM : FVec Ideal S8192x2048 .bf16 := (dats m 0 c).arrAt 9 cfg0.N
abbrev outT : FVec Ideal S1x2048 .f32 := (dats m 0 c).arrAt 10 cfg0.N
abbrev outG : FVec Ideal S1x2048 .f32 := (dats m 0 c).arrAt 11 cfg0.N
abbrev outH : FVec Ideal S1x2048 .f32 := (dats m 0 c).arrAt 12 cfg0.N
abbrev outS : FVec Ideal S1x2048 .f32 := (dats m 0 c).arrAt 13 cfg0.N

theorem outX_at (r : Fin 8192) (l : Fin 2048) : outX m c (ix2 r l) = dx (gated (row (argX m c) r) (row (argM m c) r) (row (argT m c) 0)) (row (argG m c) 0) (row (argS m c) 0) (row (argD m c) r) (row (argE m c) r) l := by
  have hN : r.val / 256 < cfg0.N := lt_of_lt_of_eq (by omega) N_0.symm
  have e := congrFun (Value.blocks8 m c ⟨_, hN⟩ (flush8 _)) (ix2 (⟨r.val % 256, by omega⟩ : Fin 256) l)
  rw [View.read_apply] at e
  have hi : at2 (outX m c) r.val l.val = outX m c _ :=
    (at2_val (outX m c) (((cfg0.win 8).blk ⟨_, hN⟩).view.emb (ix2 (⟨r.val % 256, by omega⟩ : Fin 256) l))
      (by change win0_8.index ⟨_, hN⟩ 0 * 256 + 1 * (r.val % 256) = _; rw [index8]; change r.val / 256 * 256 + 1 * (r.val % 256) = _; omega)
      (by change win0_8.index ⟨_, hN⟩ 1 * 2048 + 1 * l.val = _; rw [index8]; change 0 * 2048 + 1 * l.val = _; rw [Nat.one_mul]; exact Nat.zero_add _)).symm
  rw [at2_val (outX m c) (ix2 r l) rfl rfl]
  refine hi.trans (e.trans ?_)
  rw [Value.flushed8]
  refine (rows_at m c ⟨_, hN⟩ (⟨r.val % 256, by omega⟩ : Fin 256) l).1.trans ?_
  have er : r.val / 256 * 256 + r.val % 256 = r.val := by omega
  dsimp only
  simp only [er, row_eq]

theorem outM_at (r : Fin 8192) (l : Fin 2048) : outM m c (ix2 r l) = row (argT m c) 0 l * dx (gated (row (argX m c) r) (row (argM m c) r) (row (argT m c) 0)) (row (argG m c) 0) (row (argS m c) 0) (row (argD m c) r) (row (argE m c) r) l := by
  have hN : r.val / 256 < cfg0.N := lt_of_lt_of_eq (by omega) N_0.symm
  have e := congrFun (Value.blocks9 m c ⟨_, hN⟩ (flush9 _)) (ix2 (⟨r.val % 256, by omega⟩ : Fin 256) l)
  rw [View.read_apply] at e
  have hi : at2 (outM m c) r.val l.val = outM m c _ :=
    (at2_val (outM m c) (((cfg0.win 9).blk ⟨_, hN⟩).view.emb (ix2 (⟨r.val % 256, by omega⟩ : Fin 256) l))
      (by change win0_9.index ⟨_, hN⟩ 0 * 256 + 1 * (r.val % 256) = _; rw [index9]; change r.val / 256 * 256 + 1 * (r.val % 256) = _; omega)
      (by change win0_9.index ⟨_, hN⟩ 1 * 2048 + 1 * l.val = _; rw [index9]; change 0 * 2048 + 1 * l.val = _; rw [Nat.one_mul]; exact Nat.zero_add _)).symm
  rw [at2_val (outM m c) (ix2 r l) rfl rfl]
  refine hi.trans (e.trans ?_)
  rw [Value.flushed9]
  refine (rows_at m c ⟨_, hN⟩ (⟨r.val % 256, by omega⟩ : Fin 256) l).2.trans ?_
  have er : r.val / 256 * 256 + r.val % 256 = r.val := by omega
  dsimp only
  simp only [er, row_eq]

/-- The last point, which alone writes the accumulated results back. -/
theorem last : ∃ t : Fin cfg0.N, t.val = 31 := ⟨⟨31, lt_of_lt_of_eq (by decide) N_0.symm⟩, rfl⟩

theorem sum_last (t : Fin cfg0.N) (ht : t.val = 31) (f : ℕ → EReal) :
    ∑ k ∈ Finset.range ((t.val + 1) * 256), f k = ∑ k ∈ Finset.range 8192, f k := by rw [ht]

/-- A result written back at the last point alone is written back once. -/
theorem once (w : Fin cfg0.W) (hf : ∀ t : Fin cfg0.N, (cfg0.win w).flush t = decide (t.val = 31)) :
    ∀ t t' : Fin cfg0.N, (cfg0.win w).flush t = true → (cfg0.win w).flush t' = true → t ≠ t' →
      Disjoint ((cfg0.win w).blk t).view.set ((cfg0.win w).blk t').view.set :=
  fun t t' ht ht' hne => absurd (Fin.ext ((of_decide_eq_true ((hf t).symm.trans ht)).trans (of_decide_eq_true ((hf t').symm.trans ht')).symm)) hne

theorem outT_at (l : Fin 2048) : outT m c (ix2 0 l) = ∑ k : Fin 8192, dx (gated (row (argX m c) k) (row (argM m c) k) (row (argT m c) 0)) (row (argG m c) 0) (row (argS m c) 0) (row (argD m c) k) (row (argE m c) k) l * row (argM m c) k l := by
  obtain ⟨t, ht⟩ := last
  have e := congrFun ((dats m 0 c).read_blk_arrAt_eq_flushed 10 (once 10 flush10) cfg0.N t t.isLt ((flush10 t).trans (decide_eq_true ht))) (ix2 0 l)
  rw [View.read_apply] at e
  have hi : at2 (outT m c) 0 l.val = outT m c _ :=
    (at2_val (outT m c) (((cfg0.win 10).blk t).view.emb (ix2 0 l)) (by change win0_10.index t 0 * 1 + 1 * 0 = _; rw [index10]; rfl)
      (by change win0_10.index t 1 * 2048 + 1 * l.val = _; rw [index10]; change 0 * 2048 + 1 * l.val = _; rw [Nat.one_mul]; exact Nat.zero_add _)).symm
  rw [at2_val (outT m c) (ix2 0 l) rfl rfl]
  refine hi.trans (e.trans ?_)
  rw [Value.flushed10]
  have s := sweep (fun n h l => (outsAt0 m c n h).2.2.1 (ix2 0 l)) (fun l n => dx (gated (rowN (argX m c) n) (rowN (argM m c) n) (row (argT m c) 0)) (row (argG m c) 0) (row (argS m c) 0) (rowN (argD m c) n) (rowN (argE m c) n) l * rowN (argM m c) n l)
    (fun h l => (first m c h l).1) (fun n h l => (next m c n h l).1) t.val t.isLt l
  rw [sum_last t ht] at s
  exact Eq.trans s (sum_rows _ _ fun k => by simp only [row_eq])

theorem outG_at (l : Fin 2048) : outG m c (ix2 0 l) = ∑ k : Fin 8192, dg (gated (row (argX m c) k) (row (argM m c) k) (row (argT m c) 0)) (row (argS m c) 0) (row (argD m c) k) l := by
  obtain ⟨t, ht⟩ := last
  have e := congrFun ((dats m 0 c).read_blk_arrAt_eq_flushed 11 (once 11 flush11) cfg0.N t t.isLt ((flush11 t).trans (decide_eq_true ht))) (ix2 0 l)
  rw [View.read_apply] at e
  have hi : at2 (outG m c) 0 l.val = outG m c _ :=
    (at2_val (outG m c) (((cfg0.win 11).blk t).view.emb (ix2 0 l)) (by change win0_11.index t 0 * 1 + 1 * 0 = _; rw [index11]; rfl)
      (by change win0_11.index t 1 * 2048 + 1 * l.val = _; rw [index11]; change 0 * 2048 + 1 * l.val = _; rw [Nat.one_mul]; exact Nat.zero_add _)).symm
  rw [at2_val (outG m c) (ix2 0 l) rfl rfl]
  refine hi.trans (e.trans ?_)
  rw [Value.flushed11]
  have s := sweep (fun n h l => (outsAt0 m c n h).2.2.2.1 (ix2 0 l)) (fun l n => dg (gated (rowN (argX m c) n) (rowN (argM m c) n) (row (argT m c) 0)) (row (argS m c) 0) (rowN (argD m c) n) l)
    (fun h l => (first m c h l).2.1) (fun n h l => (next m c n h l).2.1) t.val t.isLt l
  rw [sum_last t ht] at s
  exact Eq.trans s (sum_rows _ _ fun k => by simp only [row_eq])

theorem outH_at (l : Fin 2048) : outH m c (ix2 0 l) = ∑ k : Fin 8192, row (argD m c) k l := by
  obtain ⟨t, ht⟩ := last
  have e := congrFun ((dats m 0 c).read_blk_arrAt_eq_flushed 12 (once 12 flush12) cfg0.N t t.isLt ((flush12 t).trans (decide_eq_true ht))) (ix2 0 l)
  rw [View.read_apply] at e
  have hi : at2 (outH m c) 0 l.val = outH m c _ :=
    (at2_val (outH m c) (((cfg0.win 12).blk t).view.emb (ix2 0 l)) (by change win0_12.index t 0 * 1 + 1 * 0 = _; rw [index12]; rfl)
      (by change win0_12.index t 1 * 2048 + 1 * l.val = _; rw [index12]; change 0 * 2048 + 1 * l.val = _; rw [Nat.one_mul]; exact Nat.zero_add _)).symm
  rw [at2_val (outH m c) (ix2 0 l) rfl rfl]
  refine hi.trans (e.trans ?_)
  rw [Value.flushed12]
  have s := sweep (fun n h l => (outsAt0 m c n h).2.2.2.2.1 (ix2 0 l)) (fun l n => rowN (argD m c) n l)
    (fun h l => (first m c h l).2.2.1) (fun n h l => (next m c n h l).2.2.1) t.val t.isLt l
  rw [sum_last t ht] at s
  exact Eq.trans s (sum_rows _ _ fun k => by simp only [row_eq])

theorem outS_at (l : Fin 2048) : outS m c (ix2 0 l) = ∑ k : Fin 8192, dscale (gated (row (argX m c) k) (row (argM m c) k) (row (argT m c) 0)) (row (argG m c) 0) (row (argD m c) k) l := by
  obtain ⟨t, ht⟩ := last
  have e := congrFun ((dats m 0 c).read_blk_arrAt_eq_flushed 13 (once 13 flush13) cfg0.N t t.isLt ((flush13 t).trans (decide_eq_true ht))) (ix2 0 l)
  rw [View.read_apply] at e
  have hi : at2 (outS m c) 0 l.val = outS m c _ :=
    (at2_val (outS m c) (((cfg0.win 13).blk t).view.emb (ix2 0 l)) (by change win0_13.index t 0 * 1 + 1 * 0 = _; rw [index13]; rfl)
      (by change win0_13.index t 1 * 2048 + 1 * l.val = _; rw [index13]; change 0 * 2048 + 1 * l.val = _; rw [Nat.one_mul]; exact Nat.zero_add _)).symm
  rw [at2_val (outS m c) (ix2 0 l) rfl rfl]
  refine hi.trans (e.trans ?_)
  rw [Value.flushed13]
  have s := sweep (fun n h l => (outsAt0 m c n h).2.2.2.2.2 (ix2 0 l)) (fun l n => dscale (gated (rowN (argX m c) n) (rowN (argM m c) n) (row (argT m c) 0)) (row (argG m c) 0) (rowN (argD m c) n) l)
    (fun h l => (first m c h l).2.2.2) (fun n h l => (next m c n h l).2.2.2) t.val t.isLt l
  rw [sum_last t ht] at s
  exact Eq.trans s (sum_rows _ _ fun k => by simp only [row_eq])

/-! ## The claims -/

/-- The body table printed for words is the one printed for extended reals, read at words. -/
theorem bodies : Cert.NormMlp.defs₀ (F := Bits) = defs₀ (F := Bits) := by
  unfold Cert.NormMlp.defs₀ defs₀
  congr 1
  funext l a
  match l, a with
  | ⟨0, _⟩, (t, s) => rfl

theorem frame_p : Cert.quiescent_NormMlp := by
  intro m ρ _
  unfold Cert.NormMlp.defs
  rw [bodies]
  exact Gen.frame (F := Bits) m ρ

theorem frame_pi : Cert.quiescent_NormMlpIdeal :=
  fun m ρ _ => Gen.frame (F := Ideal) m ρ

theorem frame_ri : Cert.quiescent_NormMlpRefIdeal :=
  fun m ρ _ => (θ_run Cert.NormMlpRefIdeal.defs _ _).mono
    (fun r h => ⟨fun c => (h c).2.2.2.2.2.2, sem_eq_zero_of_no_sems (by decide) r.2⟩) (Cert.NormMlpRefIdeal.Value.run (F := Ideal) m ρ)

theorem preserves : Cert.preserves_NormMlp_NormMlpIdeal := trivial

theorem algebraic : Cert.algebraic_NormMlpIdeal_NormMlpRefIdeal := by
  intro m ρ m' ρ' _ hagree
  refine ⟨_, _, _, _, _, _, Value.run_blocks (F := Ideal) m ρ, ?_⟩
  refine (θ_run Cert.NormMlpRefIdeal.defs _ _).mono (fun _ h c => ?_) (Cert.NormMlpRefIdeal.Value.run (F := Ideal) m' ρ')
  obtain ⟨e0, e1, e2, e3, e4, e5, kept⟩ := h c
  obtain ⟨b0, b1, b2, b3, _, b5, b6, b7⟩ := hagree c
  refine ⟨e0.trans (ext2 fun r l => ?_), e1.trans (ext2 fun r l => ?_), e2.trans (ext2 fun r l => ?_), e3.trans (ext2 fun r l => ?_),
    e4.trans (ext2 fun r l => ?_), e5.trans (ext2 fun r l => ?_), kept⟩
  · refine ((Cert.NormMlpRefIdeal.Grad.ref0 m' c r l).trans ?_).trans (outX_at m c r l).symm
    unfold Cert.NormMlpRefIdeal.Grad.argX Cert.NormMlpRefIdeal.Grad.argM Cert.NormMlpRefIdeal.Grad.argT Cert.NormMlpRefIdeal.Grad.argG Cert.NormMlpRefIdeal.Grad.argS Cert.NormMlpRefIdeal.Grad.argE Cert.NormMlpRefIdeal.Grad.argD
    rw [b0, b1, b2, b3, b5, b6, b7]
  · refine ((Cert.NormMlpRefIdeal.Grad.ref1 m' c r l).trans ?_).trans (outM_at m c r l).symm
    unfold Cert.NormMlpRefIdeal.Grad.argX Cert.NormMlpRefIdeal.Grad.argM Cert.NormMlpRefIdeal.Grad.argT Cert.NormMlpRefIdeal.Grad.argG Cert.NormMlpRefIdeal.Grad.argS Cert.NormMlpRefIdeal.Grad.argE Cert.NormMlpRefIdeal.Grad.argD
    rw [b0, b1, b2, b3, b5, b6, b7]
  · obtain rfl : r = 0 := Subsingleton.elim _ _
    refine ((Cert.NormMlpRefIdeal.Grad.ref2 m' c l).trans ?_).trans (outT_at m c l).symm
    unfold Cert.NormMlpRefIdeal.Grad.argX Cert.NormMlpRefIdeal.Grad.argM Cert.NormMlpRefIdeal.Grad.argT Cert.NormMlpRefIdeal.Grad.argG Cert.NormMlpRefIdeal.Grad.argS Cert.NormMlpRefIdeal.Grad.argE Cert.NormMlpRefIdeal.Grad.argD
    rw [b0, b1, b2, b3, b5, b6, b7]
  · obtain rfl : r = 0 := Subsingleton.elim _ _
    refine Eq.trans ?_ (outG_at m c l).symm
    simp only [pointwise, zero_add, mean]
    rw [b0, b1, b2, b5, b7]
    rfl
  · obtain rfl : r = 0 := Subsingleton.elim _ _
    refine Eq.trans ?_ (outH_at m c l).symm
    simp only [pointwise, zero_add, mean]
    rw [b7]
    rfl
  · obtain rfl : r = 0 := Subsingleton.elim _ _
    refine Eq.trans ?_ (outS_at m c l).symm
    simp only [pointwise, zero_add, mean]
    rw [b0, b1, b2, b3, b7]
    rfl

end Cert.NormMlpIdeal.Grad

end
-- ==== Proof.GradNormMix.lean ====
/- The backward pass of the layer's first norm: the kernel's result arrays are the gradients of the layer's input, of the
   norm's gain, of the shift and of the scale, and so are the reference's. -/
module
public import proofs.«01_k».proof.Defs
public import proofs.«01_k».proof.Proof.Rows
public import proofs.«01_k».proof.Proof.Gen.NormMixIdeal.Value
public import proofs.«01_k».proof.Proof.Gen.NormMix
public import proofs.«01_k».proof.Proof.Gen.NormMixRefIdeal.Run
public import Idealize.ShloMosaic.Lib.VecWindow
public import Idealize.ShloMosaic.Lib.Tactic
public import Idealize.ShloMosaic.Lib.Quiescent
@[expose] public section

set_option maxRecDepth 16384

noncomputable section

namespace Cert.NormMixRefIdeal.Grad

open Cert.NormMixRefIdeal Cert.NormMixRefIdeal.Gen Cert.Rows
open Idealize.ShloMosaic Idealize.ShloMosaic.TcCoe Idealize.SL.Sem

variable (m : (ℓ : Loc nD τ sig) → Buf (Elt Ideal) ℓ) (c : Dev nD)

/-- The reference's arguments: the layer's input, the gain, the scale, the gradient of the modulated rows and the gradient
    that reaches the input past the norm. -/
abbrev argX : FVec Ideal S8192x2048 .f32 := m ((c.tc : Thread nD τ).loc main_arg0)
abbrev argG : FVec Ideal S1x2048 .f32 := m ((c.tc : Thread nD τ).loc main_arg1)
abbrev argS : FVec Ideal S1x2048 .f32 := m ((c.tc : Thread nD τ).loc main_arg3)
abbrev argD : FVec Ideal S8192x2048 .f32 := m ((c.tc : Thread nD τ).loc main_arg4)
abbrev argE : FVec Ideal S8192x2048 .f32 := m ((c.tc : Thread nD τ).loc main_arg5)

theorem ref0 (r : Fin 8192) (l : Fin 2048) :
    (Value.res_out0 m c : FVec Ideal S8192x2048 .f32) (ix2 r l)
      = dx (row (argX m c) r) (row (argG m c) 0) (row (argS m c) 0) (row (argD m c) r) (row (argE m c) r) l := by
  unfold Value.res_out0 Value.res_main_v48
  simp only [pointwise, zero_add, mean, Finset.univ_unique, Finset.sum_singleton]
  rfl

end Cert.NormMixRefIdeal.Grad

namespace Cert.NormMixIdeal.Grad

open Cert.NormMixIdeal Cert.NormMixIdeal.Gen Cert.Rows Cert.Blocks
open Idealize.ShloMosaic Idealize.ShloMosaic.TcCoe Idealize.SL.Sem

/-! ## What a point leaves in the results' blocks -/

section Cases

variable {F : FTy → Type} [FloatOps F] (c : Dev nD) (i : grid0.Coords) (a0 : Memref sig .tc .vmem S256x2048 .f32) (h0 : a0.IsWhole)
  (a1 : Memref sig .tc .vmem S1x2048 .f32) (h1 : a1.IsWhole) (a2 : Memref sig .tc .vmem S1x2048 .f32) (h2 : a2.IsWhole)
  (a3 : Memref sig .tc .vmem S1x2048 .f32) (h3 : a3.IsWhole) (a4 : Memref sig .tc .vmem S256x2048 .f32) (h4 : a4.IsWhole)
  (a5 : Memref sig .tc .vmem S256x2048 .f32) (h5 : a5.IsWhole) (a6 : Memref sig .tc .vmem S256x2048 .f32) (h6 : a6.IsWhole)
  (a7 : Memref sig .tc .vmem S1x2048 .f32) (h7 : a7.IsWhole) (a8 : Memref sig .tc .vmem S1x2048 .f32) (h8 : a8.IsWhole)
  (a9 : Memref sig .tc .vmem S1x2048 .f32) (h9 : a9.IsWhole)
  (x0 : Vec F S256x2048 .f32) (x1 x2 x3 : Vec F S1x2048 .f32) (x4 x5 : Vec F S256x2048 .f32) (y7 y8 y9 : Vec F S1x2048 .f32)

theorem case_A (hc : cond0_0 i) :
    (out0_A_6 c i a0 h0 a1 h1 a2 h2 a3 h3 a4 h4 a5 h5 a6 h6 a7 h7 a8 h8 a9 h9 hc x0 x1 x2 x3 x4 x5,
      out0_A_7 c i a0 h0 a1 h1 a2 h2 a3 h3 a4 h4 a5 h5 a6 h6 a7 h7 a8 h8 a9 h9 hc x0 x1 x2 x3 x4 x5,
      out0_A_8 c i a0 h0 a1 h1 a2 h2 a3 h3 a4 h4 a5 h5 a6 h6 a7 h7 a8 h8 a9 h9 hc x0 x1 x2 x3 x4 x5,
      out0_A_9 c i a0 h0 a1 h1 a2 h2 a3 h3 a4 h4 a5 h5 a6 h6 a7 h7 a8 h8 a9 h9 hc x0 x1 x2 x3 x4 x5)
      = (k0_pay1 x0 (k0_pay10 x0) x5 (k0_pay18 x0 x1 x3 x4) (k0_pay19 x0 x1 x3 x4), k0_pay5 (k0_pay16 x0 x3 x4) (k0_pay2 (F := F)),
        k0_pay6 (k0_pay13 x4) (k0_pay3 (F := F)), k0_pay7 (k0_pay14 x0 x1 x4) (k0_pay4 (F := F))) := by
  unfold out0_A_6 out0_A_7 out0_A_8 out0_A_9
  rw [View.read_writes_eq_canon _ _ _ (cover0_A_6 c i a0 h0 a1 h1 a2 h2 a3 h3 a4 h4 a5 h5 a6 h6 a7 h7 a8 h8 a9 h9 hc x0 x1 x2 x3 x4 x5),
    View.read_writes_eq_canon _ _ _ (cover0_A_7 c i a0 h0 a1 h1 a2 h2 a3 h3 a4 h4 a5 h5 a6 h6 a7 h7 a8 h8 a9 h9 hc x0 x1 x2 x3 x4 x5),
    View.read_writes_eq_canon _ _ _ (cover0_A_8 c i a0 h0 a1 h1 a2 h2 a3 h3 a4 h4 a5 h5 a6 h6 a7 h7 a8 h8 a9 h9 hc x0 x1 x2 x3 x4 x5),
    View.read_writes_eq_canon _ _ _ (cover0_A_9 c i a0 h0 a1 h1 a2 h2 a3 h3 a4 h4 a5 h5 a6 h6 a7 h7 a8 h8 a9 h9 hc x0 x1 x2 x3 x4 x5)]
  unfold kernelRun0_A
  dsimp only
  sl_unfold_words
  simp only [View.canon_unit_zero (S := S256x2048) hz, View.canon_unit_zero (S := S1x2048) hz, View.canon_cons_unit_zero (S := S1x2048) hz, View.readCov_unit_zero (S := S1x2048) _ hz, View.readAt_eq_ld,
    h0.read_unread, h1.read_unread, h3.read_unread, h4.read_unread, h5.read_unread, View.ld_unit_zero (S := S256x2048) hz, View.ld_unit_zero (S := S1x2048) hz]

theorem case_B (hc : ¬cond0_0 i) :
    (out0_B_6 c i a0 h0 a1 h1 a2 h2 a3 h3 a4 h4 a5 h5 a6 h6 a7 h7 a8 h8 a9 h9 hc x0 x1 x2 x3 x4 x5 y7 y8 y9,
      out0_B_7 c i a0 h0 a1 h1 a2 h2 a3 h3 a4 h4 a5 h5 a6 h6 a7 h7 a8 h8 a9 h9 hc x0 x1 x2 x3 x4 x5 y7 y8 y9,
      out0_B_8 c i a0 h0 a1 h1 a2 h2 a3 h3 a4 h4 a5 h5 a6 h6 a7 h7 a8 h8 a9 h9 hc x0 x1 x2 x3 x4 x5 y7 y8 y9,
      out0_B_9 c i a0 h0 a1 h1 a2 h2 a3 h3 a4 h4 a5 h5 a6 h6 a7 h7 a8 h8 a9 h9 hc x0 x1 x2 x3 x4 x5 y7 y8 y9)
      = (k0_pay1 x0 (k0_pay10 x0) x5 (k0_pay18 x0 x1 x3 x4) (k0_pay19 x0 x1 x3 x4), k0_pay5 (k0_pay16 x0 x3 x4) y7,
        k0_pay6 (k0_pay13 x4) y8, k0_pay7 (k0_pay14 x0 x1 x4) y9) := by
  unfold out0_B_6 out0_B_7 out0_B_8 out0_B_9
  rw [View.read_writes_eq_canon _ _ _ (cover0_B_6 c i a0 h0 a1 h1 a2 h2 a3 h3 a4 h4 a5 h5 a6 h6 a7 h7 a8 h8 a9 h9 hc x0 x1 x2 x3 x4 x5 y7 y8 y9),
    View.read_writes_eq_canon _ _ _ (cover0_B_7 c i a0 h0 a1 h1 a2 h2 a3 h3 a4 h4 a5 h5 a6 h6 a7 h7 a8 h8 a9 h9 hc x0 x1 x2 x3 x4 x5 y7 y8 y9),
    View.read_writes_eq_canon _ _ _ (cover0_B_8 c i a0 h0 a1 h1 a2 h2 a3 h3 a4 h4 a5 h5 a6 h6 a7 h7 a8 h8 a9 h9 hc x0 x1 x2 x3 x4 x5 y7 y8 y9),
    View.read_writes_eq_canon _ _ _ (cover0_B_9 c i a0 h0 a1 h1 a2 h2 a3 h3 a4 h4 a5 h5 a6 h6 a7 h7 a8 h8 a9 h9 hc x0 x1 x2 x3 x4 x5 y7 y8 y9)]
  unfold kernelRun0_B
  dsimp only
  sl_unfold_words
  simp only [View.canon_unit_zero (S := S256x2048) hz, View.canon_unit_zero (S := S1x2048) hz, View.readAt_eq_ld, h0.read_unread, h1.read_unread, h3.read_unread, h4.read_unread, h5.read_unread,
    h7.read_unread, h8.read_unread, h9.read_unread, View.ld_unit_zero (S := S256x2048) hz, View.ld_unit_zero (S := S1x2048) hz]

end Cases

/-! ## Entries -/

theorem dx_at (v0 : Vec Ideal S256x2048 .f32) (v1 v2 : Vec Ideal S1x2048 .f32) (v20 v21 : Vec Ideal S256x2048 .f32) (r : Fin 256) (l : Fin 2048) :
    k0_pay1 v0 (k0_pay10 v0) v21 (k0_pay18 v0 v1 v2 v20) (k0_pay19 v0 v1 v2 v20) (ix2 r l)
      = dx (row v0 r) (row v1 0) (row v2 0) (row v20 r) (row v21 r) l := by
  unfold k0_pay1 k0_pay10 k0_pay18 k0_pay19 k0_pay17 k0_pay15 k0_pay12 k0_pay9 k0_pay8
  simp only [pointwise, zero_add, Finset.univ_unique, Finset.sum_singleton]
  rfl

theorem dg_at (v0 : Vec Ideal S256x2048 .f32) (v2 : Vec Ideal S1x2048 .f32) (v20 : Vec Ideal S256x2048 .f32) (a : Vec Ideal S1x2048 .f32) (l : Fin 2048) :
    k0_pay5 (k0_pay16 v0 v2 v20) a (ix2 0 l) = a (ix2 0 l) + ∑ k : Fin 256, dg (row v0 k) (row v2 0) (row v20 k) l := by
  unfold k0_pay5 k0_pay16 k0_pay15 k0_pay12 k0_pay11 k0_pay9 k0_pay8
  simp only [pointwise, zero_add]
  rfl

theorem dshift_at (v20 : Vec Ideal S256x2048 .f32) (a : Vec Ideal S1x2048 .f32) (l : Fin 2048) :
    k0_pay6 (k0_pay13 v20) a (ix2 0 l) = a (ix2 0 l) + ∑ k : Fin 256, row v20 k l := by
  unfold k0_pay6 k0_pay13
  simp only [pointwise, zero_add]
  rfl

theorem dscale_at (v0 : Vec Ideal S256x2048 .f32) (v1 : Vec Ideal S1x2048 .f32) (v20 : Vec Ideal S256x2048 .f32) (a : Vec Ideal S1x2048 .f32) (l : Fin 2048) :
    k0_pay7 (k0_pay14 v0 v1 v20) a (ix2 0 l) = a (ix2 0 l) + ∑ k : Fin 256, dscale (row v0 k) (row v1 0) (row v20 k) l := by
  unfold k0_pay7 k0_pay14 k0_pay12 k0_pay11 k0_pay9 k0_pay8
  simp only [pointwise, zero_add]
  rfl

theorem zero_at (y : S1x2048.Idx) : k0_pay2 (F := Ideal) y = 0 ∧ k0_pay3 (F := Ideal) y = 0 ∧ k0_pay4 (F := Ideal) y = 0 := by
  unfold k0_pay2 k0_pay3 k0_pay4
  simp only [pointwise, and_self]

/-! ## Which blocks a point reads and writes -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem flush6 : ∀ t : Fin cfg0.N, (cfg0.win 6).flush t = true := (by decide +kernel : ∀ t : Fin grid0.N, win0_6.flush t = true)
theorem flush7 : ∀ t : Fin cfg0.N, (cfg0.win 7).flush t = decide (t.val = 31) := (by decide +kernel : ∀ t : Fin grid0.N, win0_7.flush t = decide (t.val = 31))
theorem flush8 : ∀ t : Fin cfg0.N, (cfg0.win 8).flush t = decide (t.val = 31) := (by decide +kernel : ∀ t : Fin grid0.N, win0_8.flush t = decide (t.val = 31))
theorem flush9 : ∀ t : Fin cfg0.N, (cfg0.win 9).flush t = decide (t.val = 31) := (by decide +kernel : ∀ t : Fin grid0.N, win0_9.flush t = decide (t.val = 31))

variable (m : (ℓ : Loc nD τ sig) → Buf (Elt Ideal) ℓ) (c : Dev nD)

/-- The kernel's arguments, as the reference's. -/
abbrev argX : FVec Ideal S8192x2048 .f32 := m ((c.tc : Thread nD τ).loc main_arg0)
abbrev argG : FVec Ideal S1x2048 .f32 := m ((c.tc : Thread nD τ).loc main_arg1)
abbrev argS : FVec Ideal S1x2048 .f32 := m ((c.tc : Thread nD τ).loc main_arg3)
abbrev argD : FVec Ideal S8192x2048 .f32 := m ((c.tc : Thread nD τ).loc main_arg4)
abbrev argE : FVec Ideal S8192x2048 .f32 := m ((c.tc : Thread nD τ).loc main_arg5)

theorem read0 (t : Fin cfg0.N) (r : Fin 256) : row (iblk m c 0 t : Vec Ideal S256x2048 .f32) r = rowN (argX m c) (t.val * 256 + r.val) := by
  funext k
  unfold row iblk
  rw [View.read_apply]
  exact at2_val (argX m c) _ (by change win0_0.index t 0 * 256 + 1 * r.val = _; rw [index0 t, Nat.one_mul]; rfl)
    (by change win0_0.index t 1 * 2048 + 1 * k.val = _; rw [index0 t]; change 0 * 2048 + 1 * k.val = _; rw [Nat.one_mul]; exact Nat.zero_add _)

theorem read4 (t : Fin cfg0.N) (r : Fin 256) : row (iblk m c 4 t : Vec Ideal S256x2048 .f32) r = rowN (argD m c) (t.val * 256 + r.val) := by
  funext k
  unfold row iblk
  rw [View.read_apply]
  exact at2_val (argD m c) _ (by change win0_4.index t 0 * 256 + 1 * r.val = _; rw [index4 t, Nat.one_mul]; rfl)
    (by change win0_4.index t 1 * 2048 + 1 * k.val = _; rw [index4 t]; change 0 * 2048 + 1 * k.val = _; rw [Nat.one_mul]; exact Nat.zero_add _)

theorem read5 (t : Fin cfg0.N) (r : Fin 256) : row (iblk m c 5 t : Vec Ideal S256x2048 .f32) r = rowN (argE m c) (t.val * 256 + r.val) := by
  funext k
  unfold row iblk
  rw [View.read_apply]
  exact at2_val (argE m c) _ (by change win0_5.index t 0 * 256 + 1 * r.val = _; rw [index5 t, Nat.one_mul]; rfl)
    (by change win0_5.index t 1 * 2048 + 1 * k.val = _; rw [index5 t]; change 0 * 2048 + 1 * k.val = _; rw [Nat.one_mul]; exact Nat.zero_add _)

theorem read1 (t : Fin cfg0.N) : row (iblk m c 1 t : Vec Ideal S1x2048 .f32) 0 = row (argG m c) 0 := by
  funext k
  rw [row_eq (argG m c)]
  unfold row iblk
  rw [View.read_apply]
  exact at2_val (argG m c) _ (by change win0_1.index t 0 * 1 + 1 * 0 = _; rw [index1 t]; rfl)
    (by change win0_1.index t 1 * 2048 + 1 * k.val = _; rw [index1 t]; change 0 * 2048 + 1 * k.val = _; rw [Nat.one_mul]; exact Nat.zero_add _)

theorem read3 (t : Fin cfg0.N) : row (iblk m c 3 t : Vec Ideal S1x2048 .f32) 0 = row (argS m c) 0 := by
  funext k
  rw [row_eq (argS m c)]
  unfold row iblk
  rw [View.read_apply]
  exact at2_val (argS m c) _ (by change win0_3.index t 0 * 1 + 1 * 0 = _; rw [index3 t]; rfl)
    (by change win0_3.index t 1 * 2048 + 1 * k.val = _; rw [index3 t]; change 0 * 2048 + 1 * k.val = _; rw [Nat.one_mul]; exact Nat.zero_add _)

/-! ## What a point leaves -/

/-- What the accumulators gain at a point, over what the point before left. -/
theorem next (n : ℕ) (hn : n + 1 < cfg0.N) (l : Fin 2048) :
    (outsAt0 m c (n + 1) hn).2.1 (ix2 0 l) = (outsAt0 m c n (Nat.lt_of_succ_lt hn)).2.1 (ix2 0 l)
        + ∑ k : Fin 256, dg (rowN (argX m c) ((n + 1) * 256 + k.val)) (row (argS m c) 0) (rowN (argD m c) ((n + 1) * 256 + k.val)) l
      ∧ (outsAt0 m c (n + 1) hn).2.2.1 (ix2 0 l) = (outsAt0 m c n (Nat.lt_of_succ_lt hn)).2.2.1 (ix2 0 l)
        + ∑ k : Fin 256, rowN (argD m c) ((n + 1) * 256 + k.val) l
      ∧ (outsAt0 m c (n + 1) hn).2.2.2 (ix2 0 l) = (outsAt0 m c n (Nat.lt_of_succ_lt hn)).2.2.2 (ix2 0 l)
        + ∑ k : Fin 256, dscale (rowN (argX m c) ((n + 1) * 256 + k.val)) (row (argG m c) 0) (rowN (argD m c) ((n + 1) * 256 + k.val)) l := by
  have h0 : ¬(⟨n + 1, hn⟩ : Fin cfg0.N).val % 32 = 0 := by
    have := lt_of_lt_of_eq hn N_0
    dsimp only
    omega
  have e := (outsAt0_B m c ⟨n + 1, hn⟩ h0).trans (case_B ..)
  dsimp only at e
  rw [e]
  dsimp only
  rw [dg_at, dshift_at, dscale_at]
  simp only [read0, read1, read3, read4]
  exact ⟨rfl, rfl, rfl⟩

/-- What the first point leaves in the accumulators. -/
theorem first (hn : 0 < cfg0.N) (l : Fin 2048) :
    (outsAt0 m c 0 hn).2.1 (ix2 0 l) = ∑ k : Fin 256, dg (rowN (argX m c) (0 * 256 + k.val)) (row (argS m c) 0) (rowN (argD m c) (0 * 256 + k.val)) l
      ∧ (outsAt0 m c 0 hn).2.2.1 (ix2 0 l) = ∑ k : Fin 256, rowN (argD m c) (0 * 256 + k.val) l
      ∧ (outsAt0 m c 0 hn).2.2.2 (ix2 0 l)
        = ∑ k : Fin 256, dscale (rowN (argX m c) (0 * 256 + k.val)) (row (argG m c) 0) (rowN (argD m c) (0 * 256 + k.val)) l := by
  have e := (outsAt0_A m c ⟨0, hn⟩ rfl).trans (case_A ..)
  dsimp only at e
  rw [e]
  dsimp only
  rw [dg_at, dshift_at, dscale_at, (zero_at _).1, (zero_at _).2.1, (zero_at _).2.2]
  simp only [read0, read1, read3, read4, zero_add, true_and]

/-- What a point leaves in the block of the input's gradient. -/
theorem rows_at (t : Fin cfg0.N) (r : Fin 256) (l : Fin 2048) :
    (outsAt0 m c t.val t.isLt).1 (ix2 r l) = dx (rowN (argX m c) (t.val * 256 + r.val)) (row (argG m c) 0) (row (argS m c) 0)
      (rowN (argD m c) (t.val * 256 + r.val)) (rowN (argE m c) (t.val * 256 + r.val)) l := by
  have e : (outsAt0 m c t.val t.isLt).1 = k0_pay1 (iblk m c 0 t) (k0_pay10 (iblk m c 0 t)) (iblk m c 5 t)
      (k0_pay18 (iblk m c 0 t) (iblk m c 1 t) (iblk m c 3 t) (iblk m c 4 t)) (k0_pay19 (iblk m c 0 t) (iblk m c 1 t) (iblk m c 3 t) (iblk m c 4 t)) := by
    by_cases h0 : t.val % 32 = 0
    · rw [(outsAt0_A m c t h0).trans (case_A ..)]
    · rw [(outsAt0_B m c t h0).trans (case_B ..)]
  rw [e]
  refine (dx_at _ _ _ _ _ r l).trans ?_
  rw [read0, read1, read3, read4, read5]

/-! ## The result arrays -/

/-- The kernel's result arrays: the gradients of the input, of the gain, of the shift and of the scale. -/
abbrev outX : FVec Ideal S8192x2048 .f32 := (dats m 0 c).arrAt 6 cfg0.N
abbrev outG : FVec Ideal S1x2048 .f32 := (dats m 0 c).arrAt 7 cfg0.N
abbrev outH : FVec Ideal S1x2048 .f32 := (dats m 0 c).arrAt 8 cfg0.N
abbrev outS : FVec Ideal S1x2048 .f32 := (dats m 0 c).arrAt 9 cfg0.N

theorem outX_at (r : Fin 8192) (l : Fin 2048) :
    outX m c (ix2 r l) = dx (row (argX m c) r) (row (argG m c) 0) (row (argS m c) 0) (row (argD m c) r) (row (argE m c) r) l := by
  have hN : r.val / 256 < cfg0.N := lt_of_lt_of_eq (by omega) N_0.symm
  have e := congrFun (Value.blocks6 m c ⟨_, hN⟩ (flush6 _)) (ix2 (⟨r.val % 256, by omega⟩ : Fin 256) l)
  rw [View.read_apply] at e
  have hi : at2 (outX m c) r.val l.val = outX m c _ :=
    (at2_val (outX m c) (((cfg0.win 6).blk ⟨_, hN⟩).view.emb (ix2 (⟨r.val % 256, by omega⟩ : Fin 256) l))
      (by change win0_6.index ⟨_, hN⟩ 0 * 256 + 1 * (r.val % 256) = _; rw [index6]; change r.val / 256 * 256 + 1 * (r.val % 256) = _; omega)
      (by change win0_6.index ⟨_, hN⟩ 1 * 2048 + 1 * l.val = _; rw [index6]; change 0 * 2048 + 1 * l.val = _; rw [Nat.one_mul]; exact Nat.zero_add _)).symm
  rw [at2_val (outX m c) (ix2 r l) rfl rfl]
  refine hi.trans (e.trans ?_)
  rw [Value.flushed6]
  refine (rows_at m c ⟨_, hN⟩ (⟨r.val % 256, by omega⟩ : Fin 256) l).trans ?_
  have er : r.val / 256 * 256 + r.val % 256 = r.val := by omega
  dsimp only
  rw [er, ← row_eq, ← row_eq, ← row_eq]

/-- The last point, which alone writes the accumulated results back. -/
theorem last : ∃ t : Fin cfg0.N, t.val = 31 := ⟨⟨31, lt_of_lt_of_eq (by decide) N_0.symm⟩, rfl⟩

theorem sum_last (t : Fin cfg0.N) (ht : t.val = 31) (f : ℕ → EReal) :
    ∑ k ∈ Finset.range ((t.val + 1) * 256), f k = ∑ k ∈ Finset.range 8192, f k := by rw [ht]

/-- A result written back at the last point alone is written back once. -/
theorem once (w : Fin cfg0.W) (hf : ∀ t : Fin cfg0.N, (cfg0.win w).flush t = decide (t.val = 31)) :
    ∀ t t' : Fin cfg0.N, (cfg0.win w).flush t = true → (cfg0.win w).flush t' = true → t ≠ t' →
      Disjoint ((cfg0.win w).blk t).view.set ((cfg0.win w).blk t').view.set :=
  fun t t' ht ht' hne => absurd (Fin.ext ((of_decide_eq_true ((hf t).symm.trans ht)).trans (of_decide_eq_true ((hf t').symm.trans ht')).symm)) hne

theorem outG_at (l : Fin 2048) : outG m c (ix2 0 l) = ∑ k : Fin 8192, dg (row (argX m c) k) (row (argS m c) 0) (row (argD m c) k) l := by
  obtain ⟨t, ht⟩ := last
  have e := congrFun ((dats m 0 c).read_blk_arrAt_eq_flushed 7 (once 7 flush7) cfg0.N t t.isLt ((flush7 t).trans (decide_eq_true ht))) (ix2 0 l)
  rw [View.read_apply] at e
  have hi : at2 (outG m c) 0 l.val = outG m c _ :=
    (at2_val (outG m c) (((cfg0.win 7).blk t).view.emb (ix2 0 l)) (by change win0_7.index t 0 * 1 + 1 * 0 = _; rw [index7]; rfl)
      (by change win0_7.index t 1 * 2048 + 1 * l.val = _; rw [index7]; change 0 * 2048 + 1 * l.val = _; rw [Nat.one_mul]; exact Nat.zero_add _)).symm
  rw [at2_val (outG m c) (ix2 0 l) rfl rfl]
  refine hi.trans (e.trans ?_)
  rw [Value.flushed7]
  have s := sweep (fun n h l => (outsAt0 m c n h).2.1 (ix2 0 l)) (fun l n => dg (rowN (argX m c) n) (row (argS m c) 0) (rowN (argD m c) n) l)
    (fun h l => (first m c h l).1) (fun n h l => (next m c n h l).1) t.val t.isLt l
  rw [sum_last t ht] at s
  exact Eq.trans s (sum_rows _ _ fun k => by simp only [row_eq])

theorem outH_at (l : Fin 2048) : outH m c (ix2 0 l) = ∑ k : Fin 8192, row (argD m c) k l := by
  obtain ⟨t, ht⟩ := last
  have e := congrFun ((dats m 0 c).read_blk_arrAt_eq_flushed 8 (once 8 flush8) cfg0.N t t.isLt ((flush8 t).trans (decide_eq_true ht))) (ix2 0 l)
  rw [View.read_apply] at e
  have hi : at2 (outH m c) 0 l.val = outH m c _ :=
    (at2_val (outH m c) (((cfg0.win 8).blk t).view.emb (ix2 0 l)) (by change win0_8.index t 0 * 1 + 1 * 0 = _; rw [index8]; rfl)
      (by change win0_8.index t 1 * 2048 + 1 * l.val = _; rw [index8]; change 0 * 2048 + 1 * l.val = _; rw [Nat.one_mul]; exact Nat.zero_add _)).symm
  rw [at2_val (outH m c) (ix2 0 l) rfl rfl]
  refine hi.trans (e.trans ?_)
  rw [Value.flushed8]
  have s := sweep (fun n h l => (outsAt0 m c n h).2.2.1 (ix2 0 l)) (fun l n => rowN (argD m c) n l)
    (fun h l => (first m c h l).2.1) (fun n h l => (next m c n h l).2.1) t.val t.isLt l
  rw [sum_last t ht] at s
  exact Eq.trans s (sum_rows _ _ fun k => by simp only [row_eq])

theorem outS_at (l : Fin 2048) : outS m c (ix2 0 l) = ∑ k : Fin 8192, dscale (row (argX m c) k) (row (argG m c) 0) (row (argD m c) k) l := by
  obtain ⟨t, ht⟩ := last
  have e := congrFun ((dats m 0 c).read_blk_arrAt_eq_flushed 9 (once 9 flush9) cfg0.N t t.isLt ((flush9 t).trans (decide_eq_true ht))) (ix2 0 l)
  rw [View.read_apply] at e
  have hi : at2 (outS m c) 0 l.val = outS m c _ :=
    (at2_val (outS m c) (((cfg0.win 9).blk t).view.emb (ix2 0 l)) (by change win0_9.index t 0 * 1 + 1 * 0 = _; rw [index9]; rfl)
      (by change win0_9.index t 1 * 2048 + 1 * l.val = _; rw [index9]; change 0 * 2048 + 1 * l.val = _; rw [Nat.one_mul]; exact Nat.zero_add _)).symm
  rw [at2_val (outS m c) (ix2 0 l) rfl rfl]
  refine hi.trans (e.trans ?_)
  rw [Value.flushed9]
  have s := sweep (fun n h l => (outsAt0 m c n h).2.2.2 (ix2 0 l)) (fun l n => dscale (rowN (argX m c) n) (row (argG m c) 0) (rowN (argD m c) n) l)
    (fun h l => (first m c h l).2.2) (fun n h l => (next m c n h l).2.2) t.val t.isLt l
  rw [sum_last t ht] at s
  exact Eq.trans s (sum_rows _ _ fun k => by simp only [row_eq])

/-! ## The claims -/

/-- The body table printed for words is the one printed for extended reals, read at words. -/
theorem bodies : Cert.NormMix.defs₀ (F := Bits) = defs₀ (F := Bits) := by
  unfold Cert.NormMix.defs₀ defs₀
  congr 1
  funext l a
  match l, a with
  | ⟨0, _⟩, (t, s) => rfl

theorem frame_p : Cert.quiescent_NormMix := by
  intro m ρ _
  unfold Cert.NormMix.defs
  rw [bodies]
  exact Gen.frame (F := Bits) m ρ

theorem frame_pi : Cert.quiescent_NormMixIdeal :=
  fun m ρ _ => Gen.frame (F := Ideal) m ρ

theorem frame_ri : Cert.quiescent_NormMixRefIdeal :=
  fun m ρ _ => (θ_run Cert.NormMixRefIdeal.defs _ _).mono
    (fun r h => ⟨fun c => (h c).2.2.2.2, sem_eq_zero_of_no_sems (by decide) r.2⟩) (Cert.NormMixRefIdeal.Value.run (F := Ideal) m ρ)

theorem preserves : Cert.preserves_NormMix_NormMixIdeal := trivial

theorem algebraic : Cert.algebraic_NormMixIdeal_NormMixRefIdeal := by
  intro m ρ m' ρ' _ hagree
  refine ⟨_, _, _, _, Value.run_blocks (F := Ideal) m ρ, ?_⟩
  refine (θ_run Cert.NormMixRefIdeal.defs _ _).mono (fun _ h c => ?_) (Cert.NormMixRefIdeal.Value.run (F := Ideal) m' ρ')
  obtain ⟨e0, e1, e2, e3, kept⟩ := h c
  obtain ⟨b0, b1, _, b3, b4, b5⟩ := hagree c
  refine ⟨e0.trans (ext2 fun r l => ?_), e1.trans (ext2 fun r l => ?_), e2.trans (ext2 fun r l => ?_), e3.trans (ext2 fun r l => ?_), kept⟩
  · refine Eq.trans ?_ (outX_at m c r l).symm
    refine (Cert.NormMixRefIdeal.Grad.ref0 m' c r l).trans ?_
    unfold Cert.NormMixRefIdeal.Grad.argX Cert.NormMixRefIdeal.Grad.argG Cert.NormMixRefIdeal.Grad.argS Cert.NormMixRefIdeal.Grad.argD Cert.NormMixRefIdeal.Grad.argE
    rw [b0, b1, b3, b4, b5]
  · obtain rfl : r = 0 := Subsingleton.elim _ _
    refine Eq.trans ?_ (outG_at m c l).symm
    simp only [pointwise, zero_add, mean]
    rw [b0, b3, b4]
    rfl
  · obtain rfl : r = 0 := Subsingleton.elim _ _
    refine Eq.trans ?_ (outH_at m c l).symm
    simp only [pointwise, zero_add, mean]
    rw [b4]
    rfl
  · obtain rfl : r = 0 := Subsingleton.elim _ _
    refine Eq.trans ?_ (outS_at m c l).symm
    simp only [pointwise, zero_add, mean]
    rw [b0, b1, b4]
    rfl

end Cert.NormMixIdeal.Grad
end
-- ==== Proof.GradH.lean ====
/- The gradient of the input projection's input: the kernel's result array is the product of the projection's gradient and the
   transposed weight, and so is the reference's. -/
module

public import proofs.«01_k».proof.Defs
public import proofs.«01_k».proof.Proof.Blocks
public import proofs.«01_k».proof.Proof.Gen.DHIdeal.Value
public import proofs.«01_k».proof.Proof.Gen.DH
public import proofs.«01_k».proof.Proof.Gen.DHRefIdeal.Run
public import Idealize.ShloMosaic.Lib.Tactic
public import Idealize.ShloMosaic.Lib.Quiescent

@[expose] public section

set_option maxRecDepth 16384

noncomputable section

namespace Cert.DHIdeal.Grad

open Cert.DHIdeal Cert.DHIdeal.Gen Cert.Blocks
open Idealize.ShloMosaic Idealize.ShloMosaic.TcCoe Idealize.SL.Sem

/-! ## What a point leaves -/

section Cases

variable {F : FTy → Type} [FloatOps F]
variable (c : Dev nD) (i : grid0.Coords) (a0 : Memref sig .tc .vmem S512x1280 .bf16) (h0 : a0.IsWhole)
  (a1 : Memref sig .tc .vmem S2048x1280 .bf16) (h1 : a1.IsWhole) (a2 : Memref sig .tc .vmem S512x2048 .f32) (h2 : a2.IsWhole)
  (a3 : Memref sig .tc .vmem S512x2048 .f32) (h3 : a3.IsWhole)
  (x0 : Vec F S512x1280 .bf16) (x1 : Vec F S2048x1280 .bf16) (xs : Vec F S512x2048 .f32)

theorem acc_A (hc0 : cond0_0 i) (hc1 : ¬cond0_1 i) :
    sout0_A_0 c i a0 h0 a1 h1 a2 h2 a3 h3 hc0 hc1 x0 x1 = k0_pay2 x0 (k0_pay1 (F := F)) x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S512x2048) hz, View.readCov_unit_zero (S := S512x2048) _ hz]
  simp only [View.readAt_eq_ld, h0.read_unread, h1.read_unread, View.ld_unit_zero (S := S512x1280) hz, View.ld_unit_zero (S := S2048x1280) hz]

theorem acc_B (hc0 : ¬cond0_0 i) (hc1 : ¬cond0_1 i) :
    sout0_B_0 c i a0 h0 a1 h1 a2 h2 a3 h3 hc0 hc1 x0 x1 xs = k0_pay2 x0 xs x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero hz]
  simp only [View.readAt_eq_ld, h0.read_unread, h1.read_unread, h3.read_unread, View.ld_unit_zero (S := S512x1280) hz, View.ld_unit_zero (S := S2048x1280) hz, View.ld_unit_zero (S := S512x2048) hz]

theorem acc_C (hc0 : ¬cond0_0 i) (hc1 : cond0_1 i) :
    sout0_C_0 c i a0 h0 a1 h1 a2 h2 a3 h3 hc0 hc1 x0 x1 xs = k0_pay2 x0 xs x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero hz]
  simp only [View.readAt_eq_ld, h0.read_unread, h1.read_unread, h3.read_unread, View.ld_unit_zero (S := S512x1280) hz, View.ld_unit_zero (S := S2048x1280) hz, View.ld_unit_zero (S := S512x2048) hz]

theorem out_C (hc0 : ¬cond0_0 i) (hc1 : cond0_1 i) :
    out0_C_2 c i a0 h0 a1 h1 a2 h2 a3 h3 hc0 hc1 x0 x1 xs = k0_pay2 x0 xs x1 := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero hz, View.readCov_unit_zero (S := S512x2048) _ hz]
  simp only [View.readAt_eq_ld, h0.read_unread, h1.read_unread, h3.read_unread, View.ld_unit_zero (S := S512x1280) hz, View.ld_unit_zero (S := S2048x1280) hz, View.ld_unit_zero (S := S512x2048) hz]

end Cases

/-! ## Entries -/

theorem zero_at (y : S512x2048.Idx) : k0_pay1 (F := Ideal) y = 0 := by
  unfold k0_pay1
  simp only [pointwise]

theorem step_at (x0 : Vec Ideal S512x1280 .bf16) (xs : Vec Ideal S512x2048 .f32) (x1 : Vec Ideal S2048x1280 .bf16) (r : Fin 512) (l : Fin 2048) :
    k0_pay2 x0 xs x1 (ix2 r l) = xs (ix2 r l) + ∑ k : Fin 1280, x0 (ix2 r k) * x1 (ix2 l k) := by
  unfold k0_pay2
  simp only [pointwise, zero_add]

/-! ## Which blocks a point reads -/

theorem index0 : ∀ t : Fin cfg0.N, win0_0.index t = ![t.val / 4, t.val % 4] :=
  (by decide +kernel : ∀ t : Fin grid0.N, win0_0.index t = ![t.val / 4, t.val % 4])
theorem index1 : ∀ t : Fin cfg0.N, win0_1.index t = ![0, t.val % 4] :=
  (by decide +kernel : ∀ t : Fin grid0.N, win0_1.index t = ![0, t.val % 4])

variable (m : (ℓ : Loc nD τ sig) → Buf (Elt Ideal) ℓ) (c : Dev nD)

/-- The kernel's first argument. -/
abbrev argA : FVec Ideal S8192x5120 .bf16 := m ((c.tc : Thread nD τ).loc main_arg0)

/-- The kernel's second argument. -/
abbrev argB : FVec Ideal S2048x5120 .bf16 := m ((c.tc : Thread nD τ).loc main_arg1)

theorem read0 (t : Fin cfg0.N) (r : Fin 512) (k : Fin 1280) :
    (iblk m c 0 t : Vec Ideal S512x1280 .bf16) (ix2 r k) = at2 (argA m c) (t.val / 4 * 512 + r.val) (t.val % 4 * 1280 + k.val) := by
  unfold iblk
  rw [View.read_apply]
  change argA m c _ = _
  have e := index0 t
  refine at2_val _ _ ?_ ?_
  · change win0_0.index t 0 * 512 + 1 * r.val = _
    rw [e, Nat.one_mul]
    rfl
  · change win0_0.index t 1 * 1280 + 1 * k.val = _
    rw [e, Nat.one_mul]
    rfl

theorem read1 (t : Fin cfg0.N) (l : Fin 2048) (k : Fin 1280) :
    (iblk m c 1 t : Vec Ideal S2048x1280 .bf16) (ix2 l k) = at2 (argB m c) l.val (t.val % 4 * 1280 + k.val) := by
  unfold iblk
  rw [View.read_apply]
  exact at2_val (argB m c) _ (by change win0_1.index t 0 * 2048 + 1 * l.val = _; rw [index1 t]; change 0 * 2048 + 1 * l.val = _; omega)
    (by change win0_1.index t 1 * 1280 + 1 * k.val = _; rw [index1 t, Nat.one_mul]; rfl)

/-! ## The running sum -/

/-- The products that row block `g` of the result sums, at row `y.1` and column `y.2` of the block. -/
def term (g : ℕ) (y : Fin 512 × Fin 2048) (k : ℕ) : EReal :=
  at2 (argA m c) (g * 512 + y.1.val) k * at2 (argB m c) y.2.val k

theorem step_term (t : Fin cfg0.N) (xs : Vec Ideal S512x2048 .f32) (r : Fin 512) (l : Fin 2048) :
    k0_pay2 (iblk m c 0 t : Vec Ideal S512x1280 .bf16) xs (iblk m c 1 t : Vec Ideal S2048x1280 .bf16) (ix2 r l)
      = xs (ix2 r l) + ∑ k : Fin 1280, term m c (t.val / 4) (r, l) (t.val % 4 * 1280 + k.val) := by
  rw [step_at]
  simp only [read0, read1]
  rfl

theorem acc_first (t : Fin cfg0.N) (h : t.val % 4 = 0) (r : Fin 512) (l : Fin 2048) :
    (outsAt0 m c t.val t.isLt).2 (ix2 r l) = ∑ k : Fin 1280, term m c (t.val / 4) (r, l) (t.val % 4 * 1280 + k.val) := by
  rw [outsAt0_A m c t h (by omega)]
  dsimp only
  rw [acc_A, step_term, zero_at, zero_add]

theorem acc_next (n : ℕ) (hn : n + 1 < cfg0.N) (h : ¬(n + 1) % 4 = 0) (r : Fin 512) (l : Fin 2048) :
    (outsAt0 m c (n + 1) hn).2 (ix2 r l) = (outsAt0 m c n (Nat.lt_of_succ_lt hn)).2 (ix2 r l)
      + ∑ k : Fin 1280, term m c ((n + 1) / 4) (r, l) ((n + 1) % 4 * 1280 + k.val) := by
  by_cases h1 : (n + 1) % 4 = 3
  · have e := outsAt0_C m c ⟨n + 1, hn⟩ h h1
    dsimp only at e
    rw [e]
    dsimp only
    rw [acc_C, step_term]
    rfl
  · have e := outsAt0_B m c ⟨n + 1, hn⟩ h h1
    dsimp only at e
    rw [e]
    dsimp only
    rw [acc_B, step_term]
    rfl

theorem acc_at (n : ℕ) (hn : n < cfg0.N) (r : Fin 512) (l : Fin 2048) :
    (outsAt0 m c n hn).2 (ix2 r l) = ∑ k ∈ Finset.range ((n % 4 + 1) * 1280), term m c (n / 4) (r, l) k :=
  acc_sum (d := 4) (w := 1280) (by decide) (fun n h y => (outsAt0 m c n h).2 (ix2 y.1 y.2)) (term m c)
    (fun n h y h0 => acc_first m c ⟨n, h⟩ h0 y.1 y.2) (fun n h y h0 => acc_next m c n h h0 y.1 y.2) n hn (r, l)

theorem out_at (t : Fin cfg0.N) (h : t.val % 4 = 3) (r : Fin 512) (l : Fin 2048) :
    (outsAt0 m c t.val t.isLt).1 (ix2 r l) = ∑ k ∈ Finset.range 5120, term m c (t.val / 4) (r, l) k := by
  have e := acc_at m c t.val t.isLt r l
  rw [h, outsAt0_C m c t (by omega) h] at e
  dsimp only at e
  rw [acc_C] at e
  rw [outsAt0_C m c t (by omega) h]
  dsimp only
  rw [out_C, e]

/-! ## The result arrays -/

theorem result_at (r : Fin 8192) (l : Fin 2048) :
    Value.G2 m c (ix2 r l) = ∑ k : Fin 5120, argA m c (ix2 r k) * argB m c (ix2 l k) := by
  have hp : Value.pt2Of (ix2 r l) = 4 * (1 * (r.val / 512 - 0) + 1 * (l.val / 2048 - 0)) + 3 := rfl
  have hN : Value.pt2Of (ix2 r l) < cfg0.N := lt_of_lt_of_eq (by rw [hp]; omega) N_0.symm
  have e := out_at m c ⟨_, hN⟩ (by dsimp only; rw [hp]; omega) ⟨r.val % 512, by omega⟩ ⟨l.val % 2048, by omega⟩
  unfold Value.G2
  rw [dif_pos hN, ← Value.outsAt0_sweep m c _ hN]
  have hl : Value.loc2Of (ix2 r l) = ix2 (⟨r.val % 512, by omega⟩ : Fin 512) (⟨l.val % 2048, by omega⟩ : Fin 2048) := by
    funext p
    match p with
    | ⟨0, _⟩ => rfl
    | ⟨1, _⟩ => rfl
  rw [hl]
  refine e.trans ?_
  rw [Finset.sum_range]
  refine Finset.sum_congr rfl fun k _ => ?_
  unfold term
  rw [at2_val (argA m c) (ix2 r k) rfl rfl, at2_val (argB m c) (ix2 l k) rfl rfl]
  dsimp only
  rw [hp]
  congr 2
  · change _ = r.val
    omega
  · change _ = l.val
    omega

end Cert.DHIdeal.Grad

namespace Cert.DHRefIdeal.Grad

open Cert.DHRefIdeal Cert.DHRefIdeal.Gen
open Idealize.ShloMosaic Idealize.ShloMosaic.TcCoe Idealize.SL.Sem

/-- The reference's result term. -/
abbrev refTerm (x0 : FVec Ideal S8192x5120 .bf16) (x1 : FVec Ideal S2048x5120 .bf16) : FVec Ideal S8192x2048 .f32 :=
  Host.dotGeneral dot_S8192x5120_S2048x5120_S8192x2048_1_1_0_0_n_n none (extf .f32 x0 bitsLt_bf16_f32) (extf .f32 x1 bitsLt_bf16_f32)

theorem ref_at (x0 : FVec Ideal S8192x5120 .bf16) (x1 : FVec Ideal S2048x5120 .bf16) (r : Fin 8192) (l : Fin 2048) :
    refTerm x0 x1 (ix2 r l) = ∑ k : Fin 5120, x0 (ix2 r k) * x1 (ix2 l k) := by
  unfold refTerm
  simp only [pointwise, zero_add]

end Cert.DHRefIdeal.Grad

namespace Cert.DHIdeal.Grad

open Cert.DHIdeal Cert.DHIdeal.Gen Cert.Blocks
open Idealize.ShloMosaic Idealize.ShloMosaic.TcCoe Idealize.SL.Sem
open Cert.DHRefIdeal.Grad (refTerm ref_at)

variable (m : (ℓ : Loc nD τ sig) → Buf (Elt Ideal) ℓ) (c : Dev nD)

theorem results_eq : Value.G2 m c = refTerm (argA m c) (argB m c) := by
  exact ext2 fun _ _ => (result_at m c _ _).trans (ref_at _ _ _ _).symm

/-! ## The claims -/

/-- The body table printed for words is the one printed for extended reals, read at words. -/
theorem bodies : Cert.DH.defs₀ (F := Bits) = defs₀ (F := Bits) := by
  unfold Cert.DH.defs₀ defs₀
  congr 1
  funext l a
  match l, a with
  | ⟨0, _⟩, (t, s) => rfl

theorem frame_p : Cert.quiescent_DH := by
  intro m ρ _
  unfold Cert.DH.defs
  rw [bodies]
  exact Gen.frame (F := Bits) m ρ

theorem frame_pi : Cert.quiescent_DHIdeal :=
  fun m ρ _ => Gen.frame (F := Ideal) m ρ

theorem frame_ri : Cert.quiescent_DHRefIdeal :=
  fun m ρ _ => (θ_run Cert.DHRefIdeal.defs _ _).mono
    (fun r h => ⟨fun c => (h c).2, sem_eq_zero_of_no_sems (by decide) r.2⟩) (Cert.DHRefIdeal.Value.run (F := Ideal) m ρ)

theorem preserves : Cert.preserves_DH_DHIdeal := trivial

theorem algebraic : Cert.algebraic_DHIdeal_DHRefIdeal := by
  intro m ρ m' ρ' _ hagree
  refine ⟨_, Value.run (F := Ideal) m ρ, ?_⟩
  refine (θ_run Cert.DHRefIdeal.defs _ _).mono (fun _ h c => ⟨?_, (h c).2⟩) (Cert.DHRefIdeal.Value.run (F := Ideal) m' ρ')
  refine (h c).1.trans ?_
  rw [(hagree c).1, (hagree c).2]
  exact (results_eq m c).symm

end Cert.DHIdeal.Grad

end
-- ==== Proof.GradWIn.lean ====
/- The gradient of the input projection's weight: the kernel's result array is the product of the transposed input and the
   gradient of the output, and so is the reference's. -/
module

public import proofs.«01_k».proof.Defs
public import proofs.«01_k».proof.Proof.Blocks
public import proofs.«01_k».proof.Proof.Gen.DwInIdeal.Value
public import proofs.«01_k».proof.Proof.Gen.DwIn
public import proofs.«01_k».proof.Proof.Gen.DwInRefIdeal.Run
public import Idealize.ShloMosaic.Lib.Tactic
public import Idealize.ShloMosaic.Lib.Quiescent

@[expose] public section

set_option maxRecDepth 16384

noncomputable section

namespace Cert.DwInIdeal.Grad

open Cert.DwInIdeal Cert.DwInIdeal.Gen Cert.Blocks
open Idealize.ShloMosaic Idealize.ShloMosaic.TcCoe Idealize.SL.Sem

/-! ## What a point leaves -/

section Cases

variable {F : FTy → Type} [FloatOps F]
variable (c : Dev nD) (i : grid0.Coords) (a0 : Memref sig .tc .vmem S2048x512 .bf16) (h0 : a0.IsWhole)
  (a1 : Memref sig .tc .vmem S2048x1024 .bf16) (h1 : a1.IsWhole) (a2 : Memref sig .tc .vmem S512x1024 .bf16) (h2 : a2.IsWhole)
  (a3 : Memref sig .tc .vmem S512x1024 .f32) (h3 : a3.IsWhole)
  (x0 : Vec F S2048x512 .bf16) (x1 : Vec F S2048x1024 .bf16) (xs : Vec F S512x1024 .f32)

theorem acc_A (hc0 : cond0_0 i) (hc1 : ¬cond0_1 i) :
    sout0_A_0 c i a0 h0 a1 h1 a2 h2 a3 h3 hc0 hc1 x0 x1 = k0_pay2 x0 (k0_pay1 (F := F)) x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S512x1024) hz, View.readCov_unit_zero (S := S512x1024) _ hz]
  simp only [View.readAt_eq_ld, h0.read_unread, h1.read_unread, View.ld_unit_zero (S := S2048x512) hz, View.ld_unit_zero (S := S2048x1024) hz]

theorem acc_B (hc0 : ¬cond0_0 i) (hc1 : ¬cond0_1 i) :
    sout0_B_0 c i a0 h0 a1 h1 a2 h2 a3 h3 hc0 hc1 x0 x1 xs = k0_pay2 x0 xs x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero hz]
  simp only [View.readAt_eq_ld, h0.read_unread, h1.read_unread, h3.read_unread, View.ld_unit_zero (S := S2048x512) hz, View.ld_unit_zero (S := S2048x1024) hz, View.ld_unit_zero (S := S512x1024) hz]

theorem acc_C (hc0 : ¬cond0_0 i) (hc1 : cond0_1 i) :
    sout0_C_0 c i a0 h0 a1 h1 a2 h2 a3 h3 hc0 hc1 x0 x1 xs = k0_pay2 x0 xs x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero hz]
  simp only [View.readAt_eq_ld, h0.read_unread, h1.read_unread, h3.read_unread, View.ld_unit_zero (S := S2048x512) hz, View.ld_unit_zero (S := S2048x1024) hz, View.ld_unit_zero (S := S512x1024) hz]

theorem out_C (hc0 : ¬cond0_0 i) (hc1 : cond0_1 i) :
    out0_C_2 c i a0 h0 a1 h1 a2 h2 a3 h3 hc0 hc1 x0 x1 xs = k0_pay3 (k0_pay2 x0 xs x1) := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero hz, View.readCov_unit_zero (S := S512x1024) _ hz]
  simp only [View.readAt_eq_ld, h0.read_unread, h1.read_unread, h3.read_unread, View.ld_unit_zero (S := S2048x512) hz, View.ld_unit_zero (S := S2048x1024) hz, View.ld_unit_zero (S := S512x1024) hz]

end Cases

/-! ## Entries -/

theorem zero_at (y : S512x1024.Idx) : k0_pay1 (F := Ideal) y = 0 := by
  unfold k0_pay1
  simp only [pointwise]

theorem step_at (x0 : Vec Ideal S2048x512 .bf16) (xs : Vec Ideal S512x1024 .f32) (x1 : Vec Ideal S2048x1024 .bf16) (r : Fin 512) (l : Fin 1024) :
    k0_pay2 x0 xs x1 (ix2 r l) = xs (ix2 r l) + ∑ k : Fin 2048, x0 (ix2 k r) * x1 (ix2 k l) := by
  unfold k0_pay2
  simp only [pointwise, zero_add]

theorem last_at (x : Vec Ideal S512x1024 .f32) (r : Fin 512) (l : Fin 1024) : k0_pay3 x (ix2 r l) = x (ix2 r l) := by
  unfold k0_pay3
  simp only [pointwise]

/-! ## Which blocks a point reads -/

theorem index0 : ∀ t : Fin cfg0.N, win0_0.index t = ![t.val % 4, t.val / 4 / 5] :=
  (by decide +kernel : ∀ t : Fin grid0.N, win0_0.index t = ![t.val % 4, t.val / 4 / 5])
theorem index1 : ∀ t : Fin cfg0.N, win0_1.index t = ![t.val % 4, t.val / 4 % 5] :=
  (by decide +kernel : ∀ t : Fin grid0.N, win0_1.index t = ![t.val % 4, t.val / 4 % 5])

variable (m : (ℓ : Loc nD τ sig) → Buf (Elt Ideal) ℓ) (c : Dev nD)

/-- The kernel's first argument. -/
abbrev argA : FVec Ideal S8192x2048 .bf16 := m ((c.tc : Thread nD τ).loc main_arg0)

/-- The kernel's second argument. -/
abbrev argB : FVec Ideal S8192x5120 .bf16 := m ((c.tc : Thread nD τ).loc main_arg1)

theorem read0 (t : Fin cfg0.N) (k : Fin 2048) (r : Fin 512) :
    (iblk m c 0 t : Vec Ideal S2048x512 .bf16) (ix2 k r) = at2 (argA m c) (t.val % 4 * 2048 + k.val) (t.val / 4 / 5 * 512 + r.val) := by
  unfold iblk
  rw [View.read_apply]
  change argA m c _ = _
  have e := index0 t
  refine at2_val _ _ ?_ ?_
  · change win0_0.index t 0 * 2048 + 1 * k.val = _
    rw [e, Nat.one_mul]
    rfl
  · change win0_0.index t 1 * 512 + 1 * r.val = _
    rw [e, Nat.one_mul]
    rfl

theorem read1 (t : Fin cfg0.N) (k : Fin 2048) (l : Fin 1024) :
    (iblk m c 1 t : Vec Ideal S2048x1024 .bf16) (ix2 k l) = at2 (argB m c) (t.val % 4 * 2048 + k.val) (t.val / 4 % 5 * 1024 + l.val) := by
  unfold iblk
  rw [View.read_apply]
  change argB m c _ = _
  have e := index1 t
  refine at2_val _ _ ?_ ?_
  · change win0_1.index t 0 * 2048 + 1 * k.val = _
    rw [e, Nat.one_mul]
    rfl
  · change win0_1.index t 1 * 1024 + 1 * l.val = _
    rw [e, Nat.one_mul]
    rfl

/-! ## The running sum -/

/-- The products that tile `g` of the result sums, at row `y.1` and column `y.2` of the tile. -/
def term (g : ℕ) (y : Fin 512 × Fin 1024) (k : ℕ) : EReal :=
  at2 (argA m c) k (g / 5 * 512 + y.1.val) * at2 (argB m c) k (g % 5 * 1024 + y.2.val)

theorem step_term (t : Fin cfg0.N) (xs : Vec Ideal S512x1024 .f32) (r : Fin 512) (l : Fin 1024) :
    k0_pay2 (iblk m c 0 t : Vec Ideal S2048x512 .bf16) xs (iblk m c 1 t : Vec Ideal S2048x1024 .bf16) (ix2 r l)
      = xs (ix2 r l) + ∑ k : Fin 2048, term m c (t.val / 4) (r, l) (t.val % 4 * 2048 + k.val) := by
  rw [step_at]
  simp only [read0, read1]
  rfl

theorem acc_first (t : Fin cfg0.N) (h : t.val % 4 = 0) (r : Fin 512) (l : Fin 1024) :
    (outsAt0 m c t.val t.isLt).2 (ix2 r l) = ∑ k : Fin 2048, term m c (t.val / 4) (r, l) (t.val % 4 * 2048 + k.val) := by
  rw [outsAt0_A m c t h (by omega)]
  dsimp only
  rw [acc_A, step_term, zero_at, zero_add]

theorem acc_next (n : ℕ) (hn : n + 1 < cfg0.N) (h : ¬(n + 1) % 4 = 0) (r : Fin 512) (l : Fin 1024) :
    (outsAt0 m c (n + 1) hn).2 (ix2 r l) = (outsAt0 m c n (Nat.lt_of_succ_lt hn)).2 (ix2 r l)
      + ∑ k : Fin 2048, term m c ((n + 1) / 4) (r, l) ((n + 1) % 4 * 2048 + k.val) := by
  by_cases h1 : (n + 1) % 4 = 3
  · have e := outsAt0_C m c ⟨n + 1, hn⟩ h h1
    dsimp only at e
    rw [e]
    dsimp only
    rw [acc_C, step_term]
    rfl
  · have e := outsAt0_B m c ⟨n + 1, hn⟩ h h1
    dsimp only at e
    rw [e]
    dsimp only
    rw [acc_B, step_term]
    rfl

theorem acc_at (n : ℕ) (hn : n < cfg0.N) (r : Fin 512) (l : Fin 1024) :
    (outsAt0 m c n hn).2 (ix2 r l) = ∑ k ∈ Finset.range ((n % 4 + 1) * 2048), term m c (n / 4) (r, l) k :=
  acc_sum (d := 4) (w := 2048) (by decide) (fun n h y => (outsAt0 m c n h).2 (ix2 y.1 y.2)) (term m c)
    (fun n h y h0 => acc_first m c ⟨n, h⟩ h0 y.1 y.2) (fun n h y h0 => acc_next m c n h h0 y.1 y.2) n hn (r, l)

theorem out_at (t : Fin cfg0.N) (h : t.val % 4 = 3) (r : Fin 512) (l : Fin 1024) :
    (outsAt0 m c t.val t.isLt).1 (ix2 r l) = ∑ k ∈ Finset.range 8192, term m c (t.val / 4) (r, l) k := by
  have e := acc_at m c t.val t.isLt r l
  rw [h, outsAt0_C m c t (by omega) h] at e
  dsimp only at e
  rw [acc_C] at e
  rw [outsAt0_C m c t (by omega) h]
  dsimp only
  rw [out_C, last_at, e]

/-! ## The result arrays -/

theorem result_at (r : Fin 2048) (l : Fin 5120) :
    Value.G2 m c (ix2 r l) = ∑ k : Fin 8192, argA m c (ix2 k r) * argB m c (ix2 k l) := by
  have hp : Value.pt2Of (ix2 r l) = 4 * (5 * (r.val / 512 - 0) + 1 * (l.val / 1024 - 0)) + 3 := rfl
  have hN : Value.pt2Of (ix2 r l) < cfg0.N := lt_of_lt_of_eq (by rw [hp]; omega) N_0.symm
  have e := out_at m c ⟨_, hN⟩ (by dsimp only; rw [hp]; omega) ⟨r.val % 512, by omega⟩ ⟨l.val % 1024, by omega⟩
  unfold Value.G2
  rw [dif_pos hN, ← Value.outsAt0_sweep m c _ hN]
  have hl : Value.loc2Of (ix2 r l) = ix2 (⟨r.val % 512, by omega⟩ : Fin 512) (⟨l.val % 1024, by omega⟩ : Fin 1024) := by
    funext p
    match p with
    | ⟨0, _⟩ => rfl
    | ⟨1, _⟩ => rfl
  rw [hl]
  refine e.trans ?_
  rw [Finset.sum_range]
  refine Finset.sum_congr rfl fun k _ => ?_
  unfold term
  rw [at2_val (argA m c) (ix2 k r) rfl rfl, at2_val (argB m c) (ix2 k l) rfl rfl]
  dsimp only
  rw [hp]
  congr 2
  · change _ = r.val
    omega
  · change _ = l.val
    omega

end Cert.DwInIdeal.Grad

namespace Cert.DwInRefIdeal.Grad

open Cert.DwInRefIdeal Cert.DwInRefIdeal.Gen
open Idealize.ShloMosaic Idealize.ShloMosaic.TcCoe Idealize.SL.Sem

/-- The reference's result term. -/
abbrev refTerm (x0 : FVec Ideal S8192x2048 .bf16) (x1 : FVec Ideal S8192x5120 .bf16) : FVec Ideal S2048x5120 .bf16 :=
  truncf .bf16 (transpose S2048x5120 [1, 0] (Host.dotGeneral dot_S8192x5120_S8192x2048_S5120x2048_0_0_1_1_n_n none
    (extf .f32 x1 bitsLt_bf16_f32) (extf .f32 x0 bitsLt_bf16_f32)) transposes_S5120x2048_S2048x5120_1_0) bitsLt_bf16_f32

theorem ref_at (x0 : FVec Ideal S8192x2048 .bf16) (x1 : FVec Ideal S8192x5120 .bf16) (r : Fin 2048) (l : Fin 5120) :
    refTerm x0 x1 (ix2 r l) = ∑ k : Fin 8192, x0 (ix2 k r) * x1 (ix2 k l) := by
  unfold refTerm
  simp only [pointwise, zero_add]
  exact Finset.sum_congr rfl fun k _ => mul_comm _ _

end Cert.DwInRefIdeal.Grad

namespace Cert.DwInIdeal.Grad

open Cert.DwInIdeal Cert.DwInIdeal.Gen Cert.Blocks
open Idealize.ShloMosaic Idealize.ShloMosaic.TcCoe Idealize.SL.Sem
open Cert.DwInRefIdeal.Grad (refTerm ref_at)

variable (m : (ℓ : Loc nD τ sig) → Buf (Elt Ideal) ℓ) (c : Dev nD)

theorem results_eq : Value.G2 m c = refTerm (argA m c) (argB m c) := by
  exact ext2 fun _ _ => (result_at m c _ _).trans (ref_at _ _ _ _).symm

/-! ## The claims -/

/-- The body table printed for words is the one printed for extended reals, read at words. -/
theorem bodies : Cert.DwIn.defs₀ (F := Bits) = defs₀ (F := Bits) := by
  unfold Cert.DwIn.defs₀ defs₀
  congr 1
  funext l a
  match l, a with
  | ⟨0, _⟩, (t, s) => rfl

theorem frame_p : Cert.quiescent_DwIn := by
  intro m ρ _
  unfold Cert.DwIn.defs
  rw [bodies]
  exact Gen.frame (F := Bits) m ρ

theorem frame_pi : Cert.quiescent_DwInIdeal :=
  fun m ρ _ => Gen.frame (F := Ideal) m ρ

theorem frame_ri : Cert.quiescent_DwInRefIdeal :=
  fun m ρ _ => (θ_run Cert.DwInRefIdeal.defs _ _).mono
    (fun r h => ⟨fun c => (h c).2, sem_eq_zero_of_no_sems (by decide) r.2⟩) (Cert.DwInRefIdeal.Value.run (F := Ideal) m ρ)

theorem preserves : Cert.preserves_DwIn_DwInIdeal := trivial

theorem algebraic : Cert.algebraic_DwInIdeal_DwInRefIdeal := by
  intro m ρ m' ρ' _ hagree
  refine ⟨_, Value.run (F := Ideal) m ρ, ?_⟩
  refine (θ_run Cert.DwInRefIdeal.defs _ _).mono (fun _ h c => ⟨?_, (h c).2⟩) (Cert.DwInRefIdeal.Value.run (F := Ideal) m' ρ')
  refine (h c).1.trans ?_
  rw [(hagree c).1, (hagree c).2]
  exact (results_eq m c).symm

end Cert.DwInIdeal.Grad

end
-- ==== Proof.GradCat.lean ====
/- The gradient of the output projection's input: the kernel's result array is the product of the output's gradient and the
   transposed weight, and so is the reference's. -/
module

public import proofs.«01_k».proof.Defs
public import proofs.«01_k».proof.Proof.Blocks
public import proofs.«01_k».proof.Proof.Gen.DCatIdeal.Value
public import proofs.«01_k».proof.Proof.Gen.DCat
public import proofs.«01_k».proof.Proof.Gen.DCatRefIdeal.Run
public import Idealize.ShloMosaic.Lib.VecWindow
public import Idealize.ShloMosaic.Lib.Tactic
public import Idealize.ShloMosaic.Lib.Quiescent

@[expose] public section

set_option maxRecDepth 16384

noncomputable section

namespace Cert.DCatRefIdeal.Product

open Cert.DCatRefIdeal Cert.DCatRefIdeal.Gen
open Idealize.ShloMosaic Idealize.ShloMosaic.TcCoe Idealize.SL.Sem

/-- The reference's result term. -/
abbrev refTerm (x0 : FVec Ideal S8192x2048 .bf16) (x1 : FVec Ideal S2048x2048 .bf16) : FVec Ideal S8192x2048 .f32 :=
  Host.dotGeneral dot_S8192x2048_S2048x2048_S8192x2048_1_1_0_0_n_n none (extf .f32 x0 bitsLt_bf16_f32) (extf .f32 x1 bitsLt_bf16_f32)

theorem ref_at (x0 : FVec Ideal S8192x2048 .bf16) (x1 : FVec Ideal S2048x2048 .bf16) (r : Fin 8192) (l : Fin 2048) :
    refTerm x0 x1 (ix2 r l) = ∑ k : Fin 2048, x0 (ix2 r k) * x1 (ix2 l k) := by
  unfold refTerm
  simp only [pointwise, zero_add]

end Cert.DCatRefIdeal.Product

namespace Cert.DCatIdeal.Product

open Cert.DCatIdeal Cert.DCatIdeal.Gen Cert.Blocks
open Idealize.ShloMosaic Idealize.ShloMosaic.TcCoe Idealize.SL.Sem
open Cert.DCatRefIdeal.Product (refTerm ref_at)

/-- What a point leaves in the result's block. -/
theorem out_A {F : FTy → Type} [FloatOps F] (c : Dev nD) (i : grid0.Coords) (a0 : Memref sig .tc .vmem S512x2048 .bf16) (h0 : a0.IsWhole)
    (a1 : Memref sig .tc .vmem S2048x2048 .bf16) (h1 : a1.IsWhole) (a2 : Memref sig .tc .vmem S512x2048 .f32) (h2 : a2.IsWhole)
    (a3 : Memref sig .tc .vmem S512x2048 .f32) (h3 : a3.IsWhole) (hc0 : cond0_0 i) (hc1 : cond0_1 i)
    (x0 : Vec F S512x2048 .bf16) (x1 : Vec F S2048x2048 .bf16) :
    out0_A_2 c i a0 h0 a1 h1 a2 h2 a3 h3 hc0 hc1 x0 x1 = k0_pay2 x0 (k0_pay1 (F := F)) x1 := by
  unfold out0_A_2
  rw [View.read_writes_eq_canon _ _ _ (cover0_A_2 c i a0 h0 a1 h1 a2 h2 a3 h3 hc0 hc1 x0 x1)]
  unfold kernelRun0_A
  dsimp only
  sl_unfold_words
  rw [View.canon_unit_zero hz]
  simp only [View.readCov_full (s := S512x2048), View.readCov_unit_zero (S := S512x2048) _ hz, View.readAt_eq_ld, h0.read_unread, h1.read_unread,
    View.ld_unit_zero (S := S512x2048) hz, View.ld_unit_zero (S := S2048x2048) hz]

theorem entry_at (x0 : Vec Ideal S512x2048 .bf16) (x1 : Vec Ideal S2048x2048 .bf16) (r : Fin 512) (l : Fin 2048) :
    k0_pay2 x0 (k0_pay1 (F := Ideal)) x1 (ix2 r l) = ∑ k : Fin 2048, x0 (ix2 r k) * x1 (ix2 l k) := by
  unfold k0_pay2 k0_pay1
  simp only [pointwise, zero_add]

/-! ## Which blocks a point reads and writes -/

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val % 16, 0] :=
  (by decide +kernel : ∀ t : Fin grid0.N, win0_2.index t = ![t.val % 16, 0])
theorem flush2 : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The gradient of the projection's output. -/
abbrev argA : FVec Ideal S8192x2048 .bf16 := m ((c.tc : Thread nD τ).loc main_arg0)

/-- The weight. -/
abbrev argB : FVec Ideal S2048x2048 .bf16 := m ((c.tc : Thread nD τ).loc main_arg1)

theorem read0 (t : Fin cfg0.N) (r : Fin 512) (k : Fin 2048) :
    (iblk m c 0 t : Vec Ideal S512x2048 .bf16) (ix2 r k) = at2 (argA m c) (t.val * 512 + r.val) k.val := by
  unfold iblk
  rw [View.read_apply]
  exact at2_val (argA m c) _ (by change win0_0.index t 0 * 512 + 1 * r.val = _; rw [index0 t, Nat.one_mul]; rfl)
    (by change win0_0.index t 1 * 2048 + 1 * k.val = _; rw [index0 t]; change 0 * 2048 + 1 * k.val = _; omega)

theorem read1 (t : Fin cfg0.N) (l : Fin 2048) (k : Fin 2048) :
    (iblk m c 1 t : Vec Ideal S2048x2048 .bf16) (ix2 l k) = at2 (argB m c) l.val k.val := by
  unfold iblk
  rw [View.read_apply]
  exact at2_val (argB m c) _ (by change win0_1.index t 0 * 2048 + 1 * l.val = _; rw [index1 t]; change 0 * 2048 + 1 * l.val = _; omega)
    (by change win0_1.index t 1 * 2048 + 1 * k.val = _; rw [index1 t]; change 0 * 2048 + 1 * k.val = _; omega)

/-! ## The result arrays -/

/-- The kernel's result array. -/
abbrev result : FVec Ideal S8192x2048 .f32 := (dats m 0 c).arrAt 2 cfg0.N

theorem result_at (r : Fin 8192) (l : Fin 2048) : result m c (ix2 r l) = ∑ k : Fin 2048, argA m c (ix2 r k) * argB m c (ix2 l k) := by
  have hN : r.val / 512 < cfg0.N := lt_of_lt_of_eq (by omega) N_0.symm
  have e := congrFun (Value.blocks2 m c ⟨_, hN⟩ (flush2 _)) (ix2 (⟨r.val % 512, by omega⟩ : Fin 512) l)
  have er : r.val / 512 * 512 + r.val % 512 = r.val := by omega
  rw [View.read_apply] at e
  have hi : at2 (result m c) r.val l.val = result m c _ :=
    (at2_val (result m c) (((cfg0.win 2).blk ⟨_, hN⟩).view.emb (ix2 (⟨r.val % 512, by omega⟩ : Fin 512) l))
      (by change win0_2.index ⟨_, hN⟩ 0 * 512 + 1 * (r.val % 512) = _; rw [index2]; change r.val / 512 % 16 * 512 + 1 * (r.val % 512) = _; omega)
      (by change win0_2.index ⟨_, hN⟩ 1 * 2048 + 1 * l.val = _; rw [index2]; rw [Nat.one_mul]; exact Nat.zero_add _)).symm
  rw [at2_val (result m c) (ix2 r l) rfl rfl]
  refine hi.trans (e.trans ?_)
  rw [Value.flushed2_A, out_A]
  refine (entry_at _ _ (⟨r.val % 512, by omega⟩ : Fin 512) l).trans ?_
  simp only [read0, read1, er]
  exact Finset.sum_congr rfl fun k _ => by
    rw [at2_val (argA m c) (ix2 r k) rfl rfl, at2_val (argB m c) (ix2 l k) rfl rfl]
    rfl

theorem results_eq : result m c = refTerm (argA m c) (argB m c) :=
  ext2 fun _ _ => (result_at m c _ _).trans (ref_at _ _ _ _).symm

/-! ## The claims -/

/-- The body table printed for words is the one printed for extended reals, read at words. -/
theorem bodies : Cert.DCat.defs₀ (F := Bits) = defs₀ (F := Bits) := by
  unfold Cert.DCat.defs₀ defs₀
  congr 1
  funext l a
  match l, a with
  | ⟨0, _⟩, (t, s) => rfl

theorem frame_p : Cert.quiescent_DCat := by
  intro m ρ _
  unfold Cert.DCat.defs
  rw [bodies]
  exact Gen.frame (F := Bits) m ρ

theorem frame_pi : Cert.quiescent_DCatIdeal :=
  fun m ρ _ => Gen.frame (F := Ideal) m ρ

theorem frame_ri : Cert.quiescent_DCatRefIdeal :=
  fun m ρ _ => (θ_run Cert.DCatRefIdeal.defs _ _).mono
    (fun r h => ⟨fun c => (h c).2, sem_eq_zero_of_no_sems (by decide) r.2⟩) (Cert.DCatRefIdeal.Value.run (F := Ideal) m ρ)

theorem preserves : Cert.preserves_DCat_DCatIdeal := trivial

theorem algebraic : Cert.algebraic_DCatIdeal_DCatRefIdeal := by
  intro m ρ m' ρ' _ hagree
  refine ⟨_, Value.run_blocks (F := Ideal) m ρ, ?_⟩
  refine (θ_run Cert.DCatRefIdeal.defs _ _).mono (fun _ h c => ⟨?_, (h c).2⟩) (Cert.DCatRefIdeal.Value.run (F := Ideal) m' ρ')
  refine (h c).1.trans ?_
  rw [(hagree c).1, (hagree c).2]
  exact (results_eq m c).symm

end Cert.DCatIdeal.Product

end
-- ==== Proof.GradWOut.lean ====
/- The gradient of the output projection's weight: the kernel's result array is the product of the transposed input and the
   gradient of the output, and so is the reference's. -/
module

public import proofs.«01_k».proof.Defs
public import proofs.«01_k».proof.Proof.Blocks
public import proofs.«01_k».proof.Proof.Gen.DwOutIdeal.Value
public import proofs.«01_k».proof.Proof.Gen.DwOut
public import proofs.«01_k».proof.Proof.Gen.DwOutRefIdeal.Run
public import Idealize.ShloMosaic.Lib.Tactic
public import Idealize.ShloMosaic.Lib.Quiescent

@[expose] public section

set_option maxRecDepth 16384

noncomputable section

namespace Cert.DwOutIdeal.Grad

open Cert.DwOutIdeal Cert.DwOutIdeal.Gen Cert.Blocks
open Idealize.ShloMosaic Idealize.ShloMosaic.TcCoe Idealize.SL.Sem

/-! ## What a point leaves -/

section Cases

variable {F : FTy → Type} [FloatOps F]
variable (c : Dev nD) (i : grid0.Coords) (a0 : Memref sig .tc .vmem S2048x512 .bf16) (h0 : a0.IsWhole)
  (a1 : Memref sig .tc .vmem S2048x1024 .bf16) (h1 : a1.IsWhole) (a2 : Memref sig .tc .vmem S512x1024 .bf16) (h2 : a2.IsWhole)
  (a3 : Memref sig .tc .vmem S512x1024 .f32) (h3 : a3.IsWhole)
  (x0 : Vec F S2048x512 .bf16) (x1 : Vec F S2048x1024 .bf16) (xs : Vec F S512x1024 .f32)

theorem acc_A (hc0 : cond0_0 i) (hc1 : ¬cond0_1 i) :
    sout0_A_0 c i a0 h0 a1 h1 a2 h2 a3 h3 hc0 hc1 x0 x1 = k0_pay2 x0 (k0_pay1 (F := F)) x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S512x1024) hz, View.readCov_unit_zero (S := S512x1024) _ hz]
  simp only [View.readAt_eq_ld, h0.read_unread, h1.read_unread, View.ld_unit_zero (S := S2048x512) hz, View.ld_unit_zero (S := S2048x1024) hz]

theorem acc_B (hc0 : ¬cond0_0 i) (hc1 : ¬cond0_1 i) :
    sout0_B_0 c i a0 h0 a1 h1 a2 h2 a3 h3 hc0 hc1 x0 x1 xs = k0_pay2 x0 xs x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero hz]
  simp only [View.readAt_eq_ld, h0.read_unread, h1.read_unread, h3.read_unread, View.ld_unit_zero (S := S2048x512) hz, View.ld_unit_zero (S := S2048x1024) hz, View.ld_unit_zero (S := S512x1024) hz]

theorem acc_C (hc0 : ¬cond0_0 i) (hc1 : cond0_1 i) :
    sout0_C_0 c i a0 h0 a1 h1 a2 h2 a3 h3 hc0 hc1 x0 x1 xs = k0_pay2 x0 xs x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero hz]
  simp only [View.readAt_eq_ld, h0.read_unread, h1.read_unread, h3.read_unread, View.ld_unit_zero (S := S2048x512) hz, View.ld_unit_zero (S := S2048x1024) hz, View.ld_unit_zero (S := S512x1024) hz]

theorem out_C (hc0 : ¬cond0_0 i) (hc1 : cond0_1 i) :
    out0_C_2 c i a0 h0 a1 h1 a2 h2 a3 h3 hc0 hc1 x0 x1 xs = k0_pay3 (k0_pay2 x0 xs x1) := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero hz, View.readCov_unit_zero (S := S512x1024) _ hz]
  simp only [View.readAt_eq_ld, h0.read_unread, h1.read_unread, h3.read_unread, View.ld_unit_zero (S := S2048x512) hz, View.ld_unit_zero (S := S2048x1024) hz, View.ld_unit_zero (S := S512x1024) hz]

end Cases

/-! ## Entries -/

theorem zero_at (y : S512x1024.Idx) : k0_pay1 (F := Ideal) y = 0 := by
  unfold k0_pay1
  simp only [pointwise]

theorem step_at (x0 : Vec Ideal S2048x512 .bf16) (xs : Vec Ideal S512x1024 .f32) (x1 : Vec Ideal S2048x1024 .bf16) (r : Fin 512) (l : Fin 1024) :
    k0_pay2 x0 xs x1 (ix2 r l) = xs (ix2 r l) + ∑ k : Fin 2048, x0 (ix2 k r) * x1 (ix2 k l) := by
  unfold k0_pay2
  simp only [pointwise, zero_add]

theorem last_at (x : Vec Ideal S512x1024 .f32) (r : Fin 512) (l : Fin 1024) : k0_pay3 x (ix2 r l) = x (ix2 r l) := by
  unfold k0_pay3
  simp only [pointwise]

/-! ## Which blocks a point reads -/

theorem index0 : ∀ t : Fin cfg0.N, win0_0.index t = ![t.val % 4, t.val / 4 / 2] :=
  (by decide +kernel : ∀ t : Fin grid0.N, win0_0.index t = ![t.val % 4, t.val / 4 / 2])
theorem index1 : ∀ t : Fin cfg0.N, win0_1.index t = ![t.val % 4, t.val / 4 % 2] :=
  (by decide +kernel : ∀ t : Fin grid0.N, win0_1.index t = ![t.val % 4, t.val / 4 % 2])

variable (m : (ℓ : Loc nD τ sig) → Buf (Elt Ideal) ℓ) (c : Dev nD)

/-- The kernel's first argument. -/
abbrev argA : FVec Ideal S8192x2048 .bf16 := m ((c.tc : Thread nD τ).loc main_arg0)

/-- The kernel's second argument. -/
abbrev argB : FVec Ideal S8192x2048 .bf16 := m ((c.tc : Thread nD τ).loc main_arg1)

theorem read0 (t : Fin cfg0.N) (k : Fin 2048) (r : Fin 512) :
    (iblk m c 0 t : Vec Ideal S2048x512 .bf16) (ix2 k r) = at2 (argA m c) (t.val % 4 * 2048 + k.val) (t.val / 4 / 2 * 512 + r.val) := by
  unfold iblk
  rw [View.read_apply]
  change argA m c _ = _
  have e := index0 t
  refine at2_val _ _ ?_ ?_
  · change win0_0.index t 0 * 2048 + 1 * k.val = _
    rw [e, Nat.one_mul]
    rfl
  · change win0_0.index t 1 * 512 + 1 * r.val = _
    rw [e, Nat.one_mul]
    rfl

theorem read1 (t : Fin cfg0.N) (k : Fin 2048) (l : Fin 1024) :
    (iblk m c 1 t : Vec Ideal S2048x1024 .bf16) (ix2 k l) = at2 (argB m c) (t.val % 4 * 2048 + k.val) (t.val / 4 % 2 * 1024 + l.val) := by
  unfold iblk
  rw [View.read_apply]
  change argB m c _ = _
  have e := index1 t
  refine at2_val _ _ ?_ ?_
  · change win0_1.index t 0 * 2048 + 1 * k.val = _
    rw [e, Nat.one_mul]
    rfl
  · change win0_1.index t 1 * 1024 + 1 * l.val = _
    rw [e, Nat.one_mul]
    rfl

/-! ## The running sum -/

/-- The products that tile `g` of the result sums, at row `y.1` and column `y.2` of the tile. -/
def term (g : ℕ) (y : Fin 512 × Fin 1024) (k : ℕ) : EReal :=
  at2 (argA m c) k (g / 2 * 512 + y.1.val) * at2 (argB m c) k (g % 2 * 1024 + y.2.val)

theorem step_term (t : Fin cfg0.N) (xs : Vec Ideal S512x1024 .f32) (r : Fin 512) (l : Fin 1024) :
    k0_pay2 (iblk m c 0 t : Vec Ideal S2048x512 .bf16) xs (iblk m c 1 t : Vec Ideal S2048x1024 .bf16) (ix2 r l)
      = xs (ix2 r l) + ∑ k : Fin 2048, term m c (t.val / 4) (r, l) (t.val % 4 * 2048 + k.val) := by
  rw [step_at]
  simp only [read0, read1]
  rfl

theorem acc_first (t : Fin cfg0.N) (h : t.val % 4 = 0) (r : Fin 512) (l : Fin 1024) :
    (outsAt0 m c t.val t.isLt).2 (ix2 r l) = ∑ k : Fin 2048, term m c (t.val / 4) (r, l) (t.val % 4 * 2048 + k.val) := by
  rw [outsAt0_A m c t h (by omega)]
  dsimp only
  rw [acc_A, step_term, zero_at, zero_add]

theorem acc_next (n : ℕ) (hn : n + 1 < cfg0.N) (h : ¬(n + 1) % 4 = 0) (r : Fin 512) (l : Fin 1024) :
    (outsAt0 m c (n + 1) hn).2 (ix2 r l) = (outsAt0 m c n (Nat.lt_of_succ_lt hn)).2 (ix2 r l)
      + ∑ k : Fin 2048, term m c ((n + 1) / 4) (r, l) ((n + 1) % 4 * 2048 + k.val) := by
  by_cases h1 : (n + 1) % 4 = 3
  · have e := outsAt0_C m c ⟨n + 1, hn⟩ h h1
    dsimp only at e
    rw [e]
    dsimp only
    rw [acc_C, step_term]
    rfl
  · have e := outsAt0_B m c ⟨n + 1, hn⟩ h h1
    dsimp only at e
    rw [e]
    dsimp only
    rw [acc_B, step_term]
    rfl

theorem acc_at (n : ℕ) (hn : n < cfg0.N) (r : Fin 512) (l : Fin 1024) :
    (outsAt0 m c n hn).2 (ix2 r l) = ∑ k ∈ Finset.range ((n % 4 + 1) * 2048), term m c (n / 4) (r, l) k :=
  acc_sum (d := 4) (w := 2048) (by decide) (fun n h y => (outsAt0 m c n h).2 (ix2 y.1 y.2)) (term m c)
    (fun n h y h0 => acc_first m c ⟨n, h⟩ h0 y.1 y.2) (fun n h y h0 => acc_next m c n h h0 y.1 y.2) n hn (r, l)

theorem out_at (t : Fin cfg0.N) (h : t.val % 4 = 3) (r : Fin 512) (l : Fin 1024) :
    (outsAt0 m c t.val t.isLt).1 (ix2 r l) = ∑ k ∈ Finset.range 8192, term m c (t.val / 4) (r, l) k := by
  have e := acc_at m c t.val t.isLt r l
  rw [h, outsAt0_C m c t (by omega) h] at e
  dsimp only at e
  rw [acc_C] at e
  rw [outsAt0_C m c t (by omega) h]
  dsimp only
  rw [out_C, last_at, e]

/-! ## The result arrays -/

theorem result_at (r l : Fin 2048) :
    Value.G2 m c (ix2 r l) = ∑ k : Fin 8192, argA m c (ix2 k r) * argB m c (ix2 k l) := by
  have hp : Value.pt2Of (ix2 r l) = 4 * (2 * (r.val / 512 - 0) + 1 * (l.val / 1024 - 0)) + 3 := rfl
  have hN : Value.pt2Of (ix2 r l) < cfg0.N := lt_of_lt_of_eq (by rw [hp]; omega) N_0.symm
  have e := out_at m c ⟨_, hN⟩ (by dsimp only; rw [hp]; omega) ⟨r.val % 512, by omega⟩ ⟨l.val % 1024, by omega⟩
  unfold Value.G2
  rw [dif_pos hN, ← Value.outsAt0_sweep m c _ hN]
  have hl : Value.loc2Of (ix2 r l) = ix2 (⟨r.val % 512, by omega⟩ : Fin 512) (⟨l.val % 1024, by omega⟩ : Fin 1024) := by
    funext p
    match p with
    | ⟨0, _⟩ => rfl
    | ⟨1, _⟩ => rfl
  rw [hl]
  refine e.trans ?_
  rw [Finset.sum_range]
  refine Finset.sum_congr rfl fun k _ => ?_
  unfold term
  rw [at2_val (argA m c) (ix2 k r) rfl rfl, at2_val (argB m c) (ix2 k l) rfl rfl]
  dsimp only
  rw [hp]
  congr 2
  · change _ = r.val
    omega
  · change _ = l.val
    omega

end Cert.DwOutIdeal.Grad

namespace Cert.DwOutRefIdeal.Grad

open Cert.DwOutRefIdeal Cert.DwOutRefIdeal.Gen
open Idealize.ShloMosaic Idealize.ShloMosaic.TcCoe Idealize.SL.Sem

/-- The reference's result term. -/
abbrev refTerm (x0 x1 : FVec Ideal S8192x2048 .bf16) : FVec Ideal S2048x2048 .bf16 :=
  truncf .bf16 (transpose S2048x2048 [1, 0] (Host.dotGeneral dot_S8192x2048_S8192x2048_S2048x2048_0_0_1_1_n_n none
    (extf .f32 x1 bitsLt_bf16_f32) (extf .f32 x0 bitsLt_bf16_f32)) transposes_S2048x2048_S2048x2048_1_0) bitsLt_bf16_f32

theorem ref_at (x0 x1 : FVec Ideal S8192x2048 .bf16) (r l : Fin 2048) :
    refTerm x0 x1 (ix2 r l) = ∑ k : Fin 8192, x0 (ix2 k r) * x1 (ix2 k l) := by
  unfold refTerm
  simp only [pointwise, zero_add]
  exact Finset.sum_congr rfl fun k _ => mul_comm _ _

end Cert.DwOutRefIdeal.Grad

namespace Cert.DwOutIdeal.Grad

open Cert.DwOutIdeal Cert.DwOutIdeal.Gen Cert.Blocks
open Idealize.ShloMosaic Idealize.ShloMosaic.TcCoe Idealize.SL.Sem
open Cert.DwOutRefIdeal.Grad (refTerm ref_at)

variable (m : (ℓ : Loc nD τ sig) → Buf (Elt Ideal) ℓ) (c : Dev nD)

theorem results_eq : Value.G2 m c = refTerm (argA m c) (argB m c) := by
  exact ext2 fun _ _ => (result_at m c _ _).trans (ref_at _ _ _ _).symm

/-! ## The claims -/

/-- The body table printed for words is the one printed for extended reals, read at words. -/
theorem bodies : Cert.DwOut.defs₀ (F := Bits) = defs₀ (F := Bits) := by
  unfold Cert.DwOut.defs₀ defs₀
  congr 1
  funext l a
  match l, a with
  | ⟨0, _⟩, (t, s) => rfl

theorem frame_p : Cert.quiescent_DwOut := by
  intro m ρ _
  unfold Cert.DwOut.defs
  rw [bodies]
  exact Gen.frame (F := Bits) m ρ

theorem frame_pi : Cert.quiescent_DwOutIdeal :=
  fun m ρ _ => Gen.frame (F := Ideal) m ρ

theorem frame_ri : Cert.quiescent_DwOutRefIdeal :=
  fun m ρ _ => (θ_run Cert.DwOutRefIdeal.defs _ _).mono
    (fun r h => ⟨fun c => (h c).2, sem_eq_zero_of_no_sems (by decide) r.2⟩) (Cert.DwOutRefIdeal.Value.run (F := Ideal) m ρ)

theorem preserves : Cert.preserves_DwOut_DwOutIdeal := trivial

theorem algebraic : Cert.algebraic_DwOutIdeal_DwOutRefIdeal := by
  intro m ρ m' ρ' _ hagree
  refine ⟨_, Value.run (F := Ideal) m ρ, ?_⟩
  refine (θ_run Cert.DwOutRefIdeal.defs _ _).mono (fun _ h c => ⟨?_, (h c).2⟩) (Cert.DwOutRefIdeal.Value.run (F := Ideal) m' ρ')
  refine (h c).1.trans ?_
  rw [(hagree c).1, (hagree c).2]
  exact (results_eq m c).symm

end Cert.DwOutIdeal.Grad

end
-- ==== Proof.Ff2Forward.lean ====
/- The feed-forward's second product: the kernel's result array is the product of the squared ReLU of the hidden layer and the
   weight, and so is the reference's. -/
module

public import proofs.«01_k».proof.Defs
public import proofs.«01_k».proof.Proof.Blocks
public import proofs.«01_k».proof.Proof.Gen.Ff2Ideal.Value
public import proofs.«01_k».proof.Proof.Gen.Ff2
public import proofs.«01_k».proof.Proof.Gen.Ff2RefIdeal.Run
public import Idealize.ShloMosaic.Lib.Tactic
public import Idealize.ShloMosaic.Lib.Quiescent

@[expose] public section

set_option maxRecDepth 16384

noncomputable section

namespace Cert.Ff2Ideal.Product

open Cert.Ff2Ideal Cert.Ff2Ideal.Gen Cert.Blocks
open Idealize.ShloMosaic Idealize.ShloMosaic.TcCoe Idealize.SL.Sem

/-! ## What a point leaves -/

section Cases

variable {F : FTy → Type} [FloatOps F]
variable (c : Dev nD) (i : grid0.Coords) (a0 : Memref sig .tc .vmem S512x2048 .bf16) (h0 : a0.IsWhole)
  (a1 : Memref sig .tc .vmem S2048x1024 .bf16) (h1 : a1.IsWhole) (a2 : Memref sig .tc .vmem S512x1024 .f32) (h2 : a2.IsWhole)
  (a3 : Memref sig .tc .vmem S512x1024 .f32) (h3 : a3.IsWhole)
  (x0 : Vec F S512x2048 .bf16) (x1 : Vec F S2048x1024 .bf16) (xs : Vec F S512x1024 .f32)

theorem acc_A (hc0 : cond0_0 i) (hc1 : ¬cond0_1 i) :
    sout0_A_0 c i a0 h0 a1 h1 a2 h2 a3 h3 hc0 hc1 x0 x1 = k0_pay2 x0 (k0_pay1 (F := F)) x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S512x1024) hz, View.readCov_unit_zero (S := S512x1024) _ hz]
  simp only [View.readAt_eq_ld, h0.read_unread, h1.read_unread, View.ld_unit_zero (S := S512x2048) hz, View.ld_unit_zero (S := S2048x1024) hz]

theorem acc_B (hc0 : ¬cond0_0 i) (hc1 : ¬cond0_1 i) :
    sout0_B_0 c i a0 h0 a1 h1 a2 h2 a3 h3 hc0 hc1 x0 x1 xs = k0_pay2 x0 xs x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero hz]
  simp only [View.readAt_eq_ld, h0.read_unread, h1.read_unread, h3.read_unread, View.ld_unit_zero (S := S512x2048) hz, View.ld_unit_zero (S := S2048x1024) hz, View.ld_unit_zero (S := S512x1024) hz]

theorem acc_C (hc0 : ¬cond0_0 i) (hc1 : cond0_1 i) :
    sout0_C_0 c i a0 h0 a1 h1 a2 h2 a3 h3 hc0 hc1 x0 x1 xs = k0_pay2 x0 xs x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero hz]
  simp only [View.readAt_eq_ld, h0.read_unread, h1.read_unread, h3.read_unread, View.ld_unit_zero (S := S512x2048) hz, View.ld_unit_zero (S := S2048x1024) hz, View.ld_unit_zero (S := S512x1024) hz]

theorem out_C (hc0 : ¬cond0_0 i) (hc1 : cond0_1 i) :
    out0_C_2 c i a0 h0 a1 h1 a2 h2 a3 h3 hc0 hc1 x0 x1 xs = k0_pay2 x0 xs x1 := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero hz, View.readCov_unit_zero (S := S512x1024) _ hz]
  simp only [View.readAt_eq_ld, h0.read_unread, h1.read_unread, h3.read_unread, View.ld_unit_zero (S := S512x2048) hz, View.ld_unit_zero (S := S2048x1024) hz, View.ld_unit_zero (S := S512x1024) hz]

end Cases

/-! ## Entries -/

theorem zero_at (y : S512x1024.Idx) : k0_pay1 (F := Ideal) y = 0 := by
  unfold k0_pay1
  simp only [pointwise]

theorem step_at (x0 : Vec Ideal S512x2048 .bf16) (xs : Vec Ideal S512x1024 .f32) (x1 : Vec Ideal S2048x1024 .bf16) (r : Fin 512) (l : Fin 1024) :
    k0_pay2 x0 xs x1 (ix2 r l) = xs (ix2 r l) + ∑ k : Fin 2048, sqr (x0 (ix2 r k)) * x1 (ix2 k l) := by
  unfold k0_pay2 sqr
  simp only [pointwise, zero_add]

/-! ## Which blocks a point reads -/

theorem index0 : ∀ t : Fin cfg0.N, win0_0.index t = ![t.val / 4 / 2, t.val % 4] :=
  (by decide +kernel : ∀ t : Fin grid0.N, win0_0.index t = ![t.val / 4 / 2, t.val % 4])
theorem index1 : ∀ t : Fin cfg0.N, win0_1.index t = ![t.val % 4, t.val / 4 % 2] :=
  (by decide +kernel : ∀ t : Fin grid0.N, win0_1.index t = ![t.val % 4, t.val / 4 % 2])

variable (m : (ℓ : Loc nD τ sig) → Buf (Elt Ideal) ℓ) (c : Dev nD)

/-- The kernel's first argument. -/
abbrev argA : FVec Ideal S8192x8192 .bf16 := m ((c.tc : Thread nD τ).loc main_arg0)

/-- The kernel's second argument. -/
abbrev argB : FVec Ideal S8192x2048 .bf16 := m ((c.tc : Thread nD τ).loc main_arg1)

theorem read0 (t : Fin cfg0.N) (r : Fin 512) (k : Fin 2048) :
    (iblk m c 0 t : Vec Ideal S512x2048 .bf16) (ix2 r k) = at2 (argA m c) (t.val / 4 / 2 * 512 + r.val) (t.val % 4 * 2048 + k.val) := by
  unfold iblk
  rw [View.read_apply]
  exact at2_val (argA m c) _ (by change win0_0.index t 0 * 512 + 1 * r.val = _; rw [index0 t, Nat.one_mul]; rfl)
    (by change win0_0.index t 1 * 2048 + 1 * k.val = _; rw [index0 t, Nat.one_mul]; rfl)

theorem read1 (t : Fin cfg0.N) (k : Fin 2048) (l : Fin 1024) :
    (iblk m c 1 t : Vec Ideal S2048x1024 .bf16) (ix2 k l) = at2 (argB m c) (t.val % 4 * 2048 + k.val) (t.val / 4 % 2 * 1024 + l.val) := by
  unfold iblk
  rw [View.read_apply]
  change argB m c _ = _
  have e := index1 t
  refine at2_val _ _ ?_ ?_
  · change win0_1.index t 0 * 2048 + 1 * k.val = _
    rw [e, Nat.one_mul]
    rfl
  · change win0_1.index t 1 * 1024 + 1 * l.val = _
    rw [e, Nat.one_mul]
    rfl

/-! ## The running sum -/

/-- The products that tile `g` of the result sums, at row `y.1` and column `y.2` of the tile. -/
def term (g : ℕ) (y : Fin 512 × Fin 1024) (k : ℕ) : EReal :=
  sqr (at2 (argA m c) (g / 2 * 512 + y.1.val) k) * at2 (argB m c) k (g % 2 * 1024 + y.2.val)

theorem step_term (t : Fin cfg0.N) (xs : Vec Ideal S512x1024 .f32) (r : Fin 512) (l : Fin 1024) :
    k0_pay2 (iblk m c 0 t : Vec Ideal S512x2048 .bf16) xs (iblk m c 1 t : Vec Ideal S2048x1024 .bf16) (ix2 r l)
      = xs (ix2 r l) + ∑ k : Fin 2048, term m c (t.val / 4) (r, l) (t.val % 4 * 2048 + k.val) := by
  rw [step_at]
  simp only [read0, read1]
  rfl

theorem acc_first (t : Fin cfg0.N) (h : t.val % 4 = 0) (r : Fin 512) (l : Fin 1024) :
    (outsAt0 m c t.val t.isLt).2 (ix2 r l) = ∑ k : Fin 2048, term m c (t.val / 4) (r, l) (t.val % 4 * 2048 + k.val) := by
  rw [outsAt0_A m c t h (by omega)]
  dsimp only
  rw [acc_A, step_term, zero_at, zero_add]

theorem acc_next (n : ℕ) (hn : n + 1 < cfg0.N) (h : ¬(n + 1) % 4 = 0) (r : Fin 512) (l : Fin 1024) :
    (outsAt0 m c (n + 1) hn).2 (ix2 r l) = (outsAt0 m c n (Nat.lt_of_succ_lt hn)).2 (ix2 r l)
      + ∑ k : Fin 2048, term m c ((n + 1) / 4) (r, l) ((n + 1) % 4 * 2048 + k.val) := by
  by_cases h1 : (n + 1) % 4 = 3
  · have e := outsAt0_C m c ⟨n + 1, hn⟩ h h1
    dsimp only at e
    rw [e]
    dsimp only
    rw [acc_C, step_term]
    rfl
  · have e := outsAt0_B m c ⟨n + 1, hn⟩ h h1
    dsimp only at e
    rw [e]
    dsimp only
    rw [acc_B, step_term]
    rfl

theorem acc_at (n : ℕ) (hn : n < cfg0.N) (r : Fin 512) (l : Fin 1024) :
    (outsAt0 m c n hn).2 (ix2 r l) = ∑ k ∈ Finset.range ((n % 4 + 1) * 2048), term m c (n / 4) (r, l) k :=
  acc_sum (d := 4) (w := 2048) (by decide) (fun n h y => (outsAt0 m c n h).2 (ix2 y.1 y.2)) (term m c)
    (fun n h y h0 => acc_first m c ⟨n, h⟩ h0 y.1 y.2) (fun n h y h0 => acc_next m c n h h0 y.1 y.2) n hn (r, l)

theorem out_at (t : Fin cfg0.N) (h : t.val % 4 = 3) (r : Fin 512) (l : Fin 1024) :
    (outsAt0 m c t.val t.isLt).1 (ix2 r l) = ∑ k ∈ Finset.range 8192, term m c (t.val / 4) (r, l) k := by
  have e := acc_at m c t.val t.isLt r l
  rw [h, outsAt0_C m c t (by omega) h] at e
  dsimp only at e
  rw [acc_C] at e
  rw [outsAt0_C m c t (by omega) h]
  dsimp only
  rw [out_C, e]

/-! ## The result arrays -/

theorem result_at (r : Fin 8192) (l : Fin 2048) :
    Value.G2 m c (ix2 r l) = ∑ k : Fin 8192, sqr (argA m c (ix2 r k)) * argB m c (ix2 k l) := by
  have hp : Value.pt2Of (ix2 r l) = 4 * (2 * (r.val / 512 - 0) + 1 * (l.val / 1024 - 0)) + 3 := rfl
  have hN : Value.pt2Of (ix2 r l) < cfg0.N := lt_of_lt_of_eq (by rw [hp]; omega) N_0.symm
  have e := out_at m c ⟨_, hN⟩ (by dsimp only; rw [hp]; omega) ⟨r.val % 512, by omega⟩ ⟨l.val % 1024, by omega⟩
  unfold Value.G2
  rw [dif_pos hN, ← Value.outsAt0_sweep m c _ hN]
  have hl : Value.loc2Of (ix2 r l) = ix2 (⟨r.val % 512, by omega⟩ : Fin 512) (⟨l.val % 1024, by omega⟩ : Fin 1024) := by
    funext p
    match p with
    | ⟨0, _⟩ => rfl
    | ⟨1, _⟩ => rfl
  rw [hl]
  refine e.trans ?_
  rw [Finset.sum_range]
  refine Finset.sum_congr rfl fun k _ => ?_
  unfold term
  rw [at2_val (argA m c) (ix2 r k) rfl rfl, at2_val (argB m c) (ix2 k l) rfl rfl]
  dsimp only
  rw [hp]
  congr 2
  · congr 1
    change _ = r.val
    omega
  · change _ = l.val
    omega

end Cert.Ff2Ideal.Product

namespace Cert.Ff2RefIdeal.Product

open Cert.Ff2RefIdeal Cert.Ff2RefIdeal.Gen
open Idealize.ShloMosaic Idealize.ShloMosaic.TcCoe Idealize.SL.Sem
open Cert.Blocks (sqr)

/-- The squared positive parts, entry by entry. -/
abbrev reluTerm (x0 : FVec Ideal S8192x8192 .bf16) : FVec Ideal S8192x8192 .f32 :=
  maximumf (extf .f32 x0 bitsLt_bf16_f32) (broadcastInDim S8192x8192 ![] bcast_S_S8192x8192 (constant S_ .f32 0x00000000#32))

/-- The reference's result term. -/
abbrev refTerm (x0 : FVec Ideal S8192x8192 .bf16) (x1 : FVec Ideal S8192x2048 .bf16) : FVec Ideal S8192x2048 .f32 :=
  Host.dotGeneral dot_S8192x8192_S8192x2048_S8192x2048_1_0_0_1_n_n none (mulf (reluTerm x0) (reluTerm x0)) (extf .f32 x1 bitsLt_bf16_f32)

theorem ref_at (x0 : FVec Ideal S8192x8192 .bf16) (x1 : FVec Ideal S8192x2048 .bf16) (r : Fin 8192) (l : Fin 2048) :
    refTerm x0 x1 (ix2 r l) = ∑ k : Fin 8192, sqr (x0 (ix2 r k)) * x1 (ix2 k l) := by
  unfold refTerm reluTerm sqr
  simp only [pointwise, zero_add]

end Cert.Ff2RefIdeal.Product

namespace Cert.Ff2Ideal.Product

open Cert.Ff2Ideal Cert.Ff2Ideal.Gen Cert.Blocks
open Idealize.ShloMosaic Idealize.ShloMosaic.TcCoe Idealize.SL.Sem
open Cert.Ff2RefIdeal.Product (refTerm ref_at)

variable (m : (ℓ : Loc nD τ sig) → Buf (Elt Ideal) ℓ) (c : Dev nD)

theorem results_eq : Value.G2 m c = refTerm (argA m c) (argB m c) := by
  exact ext2 fun _ _ => (result_at m c _ _).trans (ref_at _ _ _ _).symm

/-! ## The claims -/

/-- The body table printed for words is the one printed for extended reals, read at words. -/
theorem bodies : Cert.Ff2.defs₀ (F := Bits) = defs₀ (F := Bits) := by
  unfold Cert.Ff2.defs₀ defs₀
  congr 1
  funext l a
  match l, a with
  | ⟨0, _⟩, (t, s) => rfl

theorem frame_p : Cert.quiescent_Ff2 := by
  intro m ρ _
  unfold Cert.Ff2.defs
  rw [bodies]
  exact Gen.frame (F := Bits) m ρ

theorem frame_pi : Cert.quiescent_Ff2Ideal :=
  fun m ρ _ => Gen.frame (F := Ideal) m ρ

theorem frame_ri : Cert.quiescent_Ff2RefIdeal :=
  fun m ρ _ => (θ_run Cert.Ff2RefIdeal.defs _ _).mono
    (fun r h => ⟨fun c => (h c).2, sem_eq_zero_of_no_sems (by decide) r.2⟩) (Cert.Ff2RefIdeal.Value.run (F := Ideal) m ρ)

theorem preserves : Cert.preserves_Ff2_Ff2Ideal := trivial

theorem algebraic : Cert.algebraic_Ff2Ideal_Ff2RefIdeal := by
  intro m ρ m' ρ' _ hagree
  refine ⟨_, Value.run (F := Ideal) m ρ, ?_⟩
  refine (θ_run Cert.Ff2RefIdeal.defs _ _).mono (fun _ h c => ⟨?_, (h c).2⟩) (Cert.Ff2RefIdeal.Value.run (F := Ideal) m' ρ')
  refine (h c).1.trans ?_
  rw [(hagree c).1, (hagree c).2]
  exact (results_eq m c).symm

end Cert.Ff2Ideal.Product

end
-- ==== Proof.Ff1Forward.lean ====
/- The feed-forward's first product: the kernel's result array is the product of the feed-forward's input and the weight, which
   lies in blocks of columns, and so is the reference's. -/
module

public import proofs.«01_k».proof.Defs
public import proofs.«01_k».proof.Proof.Blocks
public import proofs.«01_k».proof.Proof.Gen.Ff1Ideal.Value
public import proofs.«01_k».proof.Proof.Gen.Ff1
public import proofs.«01_k».proof.Proof.Gen.Ff1RefIdeal.Run
public import Idealize.ShloMosaic.Lib.VecWindow
public import Idealize.ShloMosaic.Lib.Tactic
public import Idealize.ShloMosaic.Lib.Quiescent

@[expose] public section

set_option maxRecDepth 16384

noncomputable section

namespace Cert.Ff1RefIdeal.Product

open Cert.Ff1RefIdeal Cert.Ff1RefIdeal.Gen
open Idealize.ShloMosaic Idealize.ShloMosaic.TcCoe Idealize.SL.Sem

/-- The reference's result term. -/
abbrev refTerm (x0 : FVec Ideal S8192x2048 .bf16) (x1 : FVec Ideal S8x2048x1024 .bf16) : FVec Ideal S8192x8192 .bf16 :=
  truncf .bf16 (Host.dotGeneral dot_S8192x2048_S2048x8192_S8192x8192_1_0_0_1_n_n none (extf .f32 x0 bitsLt_bf16_f32)
    (shapeCast _ (transpose S2048x8x1024 [1, 0, 2] (extf .f32 x1 bitsLt_bf16_f32) transposes_S8x2048x1024_S2048x8x1024_1_0_2) shapeCasts_S2048x8x1024_S2048x8192)) bitsLt_bf16_f32

theorem ref_at (x0 : FVec Ideal S8192x2048 .bf16) (x1 : FVec Ideal S8x2048x1024 .bf16) (r : Fin 8192) (l : Fin 8192) :
    refTerm x0 x1 (ix2 r l) = ∑ k : Fin 2048, x0 (ix2 r k) * x1 (ix3 ⟨l.val / 1024, by omega⟩ k ⟨l.val % 1024, by omega⟩) := by
  unfold refTerm
  simp only [pointwise, zero_add]

end Cert.Ff1RefIdeal.Product

namespace Cert.Ff1Ideal.Product

open Cert.Ff1Ideal Cert.Ff1Ideal.Gen Cert.Blocks
open Idealize.ShloMosaic Idealize.ShloMosaic.TcCoe Idealize.SL.Sem
open Cert.Ff1RefIdeal.Product (refTerm ref_at)

/-- What a point leaves in the result's block. -/
theorem out_A {F : FTy → Type} [FloatOps F] (c : Dev nD) (i : grid0.Coords) (a0 : Memref sig .tc .vmem S512x2048 .bf16) (h0 : a0.IsWhole)
    (a1 : Memref sig .tc .vmem S1x2048x1024 .bf16) (h1 : a1.IsWhole) (a2 : Memref sig .tc .vmem S512x1024 .bf16) (h2 : a2.IsWhole)
    (a3 : Memref sig .tc .vmem S512x1024 .f32) (h3 : a3.IsWhole) (hc0 : cond0_0 i) (hc1 : cond0_1 i)
    (x0 : Vec F S512x2048 .bf16) (x1 : Vec F S1x2048x1024 .bf16) :
    out0_A_2 c i a0 h0 a1 h1 a2 h2 a3 h3 hc0 hc1 x0 x1 = k0_pay3 (k0_pay2 x0 (k0_pay1 (F := F)) x1) := by
  unfold out0_A_2
  rw [View.read_writes_eq_canon _ _ _ (cover0_A_2 c i a0 h0 a1 h1 a2 h2 a3 h3 hc0 hc1 x0 x1)]
  unfold kernelRun0_A
  dsimp only
  sl_unfold_words
  rw [View.canon_unit_zero hz]
  simp only [View.readCov_full (s := S512x1024), View.readCov_unit_zero (S := S512x1024) _ hz, View.readAt_eq_ld, h0.read_unread, h1.read_unread,
    View.ld_unit_zero (S := S512x2048) hz, View.ld_unit_zero (S := S1x2048x1024) hz3]

theorem entry_at (x0 : Vec Ideal S512x2048 .bf16) (x1 : Vec Ideal S1x2048x1024 .bf16) (r : Fin 512) (l : Fin 1024) :
    k0_pay3 (k0_pay2 x0 (k0_pay1 (F := Ideal)) x1) (ix2 r l) = ∑ k : Fin 2048, x0 (ix2 r k) * x1 (ix3 (0 : Fin 1) k l) := by
  unfold k0_pay3 k0_pay2 k0_pay1
  simp only [pointwise, zero_add]

/-! ## Which blocks a point reads and writes -/

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![t.val % 8, 0, 0] :=
  (by decide +kernel : ∀ t : Fin grid0.N, win0_1.index t = ![t.val % 8, 0, 0])
theorem index2 : ∀ t : Fin cfg0.N, win0_2.index t = ![t.val / 8, t.val % 8] :=
  (by decide +kernel : ∀ t : Fin grid0.N, win0_2.index t = ![t.val / 8, t.val % 8])
theorem flush2 : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The feed-forward's input. -/
abbrev argA : FVec Ideal S8192x2048 .bf16 := m ((c.tc : Thread nD τ).loc main_arg0)

/-- The weight. -/
abbrev argB : FVec Ideal S8x2048x1024 .bf16 := m ((c.tc : Thread nD τ).loc main_arg1)

theorem read0 (t : Fin cfg0.N) (r : Fin 512) (k : Fin 2048) :
    (iblk m c 0 t : Vec Ideal S512x2048 .bf16) (ix2 r k) = at2 (argA m c) (t.val / 8 * 512 + r.val) k.val := by
  unfold iblk
  rw [View.read_apply]
  exact at2_val (argA m c) _ (by change win0_0.index t 0 * 512 + 1 * r.val = _; rw [index0 t, Nat.one_mul]; rfl)
    (by change win0_0.index t 1 * 2048 + 1 * k.val = _; rw [index0 t]; change 0 * 2048 + 1 * k.val = _; omega)

theorem read1 (t : Fin cfg0.N) (u : Fin 1) (k : Fin 2048) (l : Fin 1024) :
    (iblk m c 1 t : Vec Ideal S1x2048x1024 .bf16) (ix3 u k l) = at3 (argB m c) (t.val % 8) k.val l.val := by
  unfold iblk
  rw [View.read_apply]
  exact at3_val (argB m c) _ (by change win0_1.index t 0 * 1 + 1 * u.val = _; rw [index1 t]; change t.val % 8 * 1 + 1 * u.val = _; omega)
    (by change win0_1.index t 1 * 2048 + 1 * k.val = _; rw [index1 t]; change 0 * 2048 + 1 * k.val = _; omega)
    (by change win0_1.index t 2 * 1024 + 1 * l.val = _; rw [index1 t]; change 0 * 1024 + 1 * l.val = _; omega)

/-! ## The result arrays -/

/-- The kernel's result array. -/
abbrev result : FVec Ideal S8192x8192 .bf16 := (dats m 0 c).arrAt 2 cfg0.N

theorem result_at (r l : Fin 8192) : result m c (ix2 r l)
    = ∑ k : Fin 2048, argA m c (ix2 r k) * argB m c (ix3 ⟨l.val / 1024, by omega⟩ k ⟨l.val % 1024, by omega⟩) := by
  have hN : r.val / 512 * 8 + l.val / 1024 < cfg0.N := lt_of_lt_of_eq (by omega) N_0.symm
  have e := congrFun (Value.blocks2 m c ⟨_, hN⟩ (flush2 _)) (ix2 (⟨r.val % 512, by omega⟩ : Fin 512) (⟨l.val % 1024, by omega⟩ : Fin 1024))
  have e1 : (r.val / 512 * 8 + l.val / 1024) / 8 = r.val / 512 := by omega
  have e2 : (r.val / 512 * 8 + l.val / 1024) % 8 = l.val / 1024 := by omega
  have er : r.val / 512 * 512 + r.val % 512 = r.val := by omega
  have el : l.val / 1024 * 1024 + l.val % 1024 = l.val := by omega
  rw [View.read_apply] at e
  have hi : at2 (result m c) r.val l.val = result m c _ :=
    (at2_val (result m c) (((cfg0.win 2).blk ⟨_, hN⟩).view.emb (ix2 (⟨r.val % 512, by omega⟩ : Fin 512) (⟨l.val % 1024, by omega⟩ : Fin 1024)))
      (by change win0_2.index ⟨_, hN⟩ 0 * 512 + 1 * (r.val % 512) = _; rw [index2]; change (r.val / 512 * 8 + l.val / 1024) / 8 * 512 + 1 * (r.val % 512) = _; omega)
      (by change win0_2.index ⟨_, hN⟩ 1 * 1024 + 1 * (l.val % 1024) = _; rw [index2]; change (r.val / 512 * 8 + l.val / 1024) % 8 * 1024 + 1 * (l.val % 1024) = _; omega)).symm
  rw [at2_val (result m c) (ix2 r l) rfl rfl]
  refine hi.trans (e.trans ?_)
  rw [Value.flushed2_A, out_A]
  refine (entry_at _ _ (⟨r.val % 512, by omega⟩ : Fin 512) (⟨l.val % 1024, by omega⟩ : Fin 1024)).trans ?_
  simp only [read0, read1, e1, e2, er, el]
  exact Finset.sum_congr rfl fun k _ => by
    rw [at2_val (argA m c) (ix2 r k) rfl rfl, at3_val (argB m c) (ix3 ⟨l.val / 1024, by omega⟩ k ⟨l.val % 1024, by omega⟩) rfl rfl rfl]
    rfl

theorem results_eq : result m c = refTerm (argA m c) (argB m c) :=
  ext2 fun _ _ => (result_at m c _ _).trans (ref_at _ _ _ _).symm

/-! ## The claims -/

/-- The body table printed for words is the one printed for extended reals, read at words. -/
theorem bodies : Cert.Ff1.defs₀ (F := Bits) = defs₀ (F := Bits) := by
  unfold Cert.Ff1.defs₀ defs₀
  congr 1
  funext l a
  match l, a with
  | ⟨0, _⟩, (t, s) => rfl

theorem frame_p : Cert.quiescent_Ff1 := by
  intro m ρ _
  unfold Cert.Ff1.defs
  rw [bodies]
  exact Gen.frame (F := Bits) m ρ

theorem frame_pi : Cert.quiescent_Ff1Ideal :=
  fun m ρ _ => Gen.frame (F := Ideal) m ρ

theorem frame_ri : Cert.quiescent_Ff1RefIdeal :=
  fun m ρ _ => (θ_run Cert.Ff1RefIdeal.defs _ _).mono
    (fun r h => ⟨fun c => (h c).2, sem_eq_zero_of_no_sems (by decide) r.2⟩) (Cert.Ff1RefIdeal.Value.run (F := Ideal) m ρ)

theorem preserves : Cert.preserves_Ff1_Ff1Ideal := trivial

theorem algebraic : Cert.algebraic_Ff1Ideal_Ff1RefIdeal := by
  intro m ρ m' ρ' _ hagree
  refine ⟨_, Value.run_blocks (F := Ideal) m ρ, ?_⟩
  refine (θ_run Cert.Ff1RefIdeal.defs _ _).mono (fun _ h c => ⟨?_, (h c).2⟩) (Cert.Ff1RefIdeal.Value.run (F := Ideal) m' ρ')
  refine (h c).1.trans ?_
  rw [(hagree c).1, (hagree c).2]
  exact (results_eq m c).symm

end Cert.Ff1Ideal.Product

end
-- ==== Proof.OutForward.lean ====
/- The output projection: the kernel's result array is the product of the heads' concatenated outputs and the weight, and so is
   the reference's. -/
module

public import proofs.«01_k».proof.Defs
public import proofs.«01_k».proof.Proof.Blocks
public import proofs.«01_k».proof.Proof.Gen.ProjOutIdeal.Value
public import proofs.«01_k».proof.Proof.Gen.ProjOut
public import proofs.«01_k».proof.Proof.Gen.ProjOutRefIdeal.Run
public import Idealize.ShloMosaic.Lib.VecWindow
public import Idealize.ShloMosaic.Lib.Tactic
public import Idealize.ShloMosaic.Lib.Quiescent

@[expose] public section

set_option maxRecDepth 16384

noncomputable section

namespace Cert.ProjOutRefIdeal.Product

open Cert.ProjOutRefIdeal Cert.ProjOutRefIdeal.Gen
open Idealize.ShloMosaic Idealize.ShloMosaic.TcCoe Idealize.SL.Sem

/-- The reference's result term. -/
abbrev refTerm (x0 : FVec Ideal S8192x2048 .bf16) (x1 : FVec Ideal S2048x2048 .bf16) : FVec Ideal S8192x2048 .f32 :=
  Host.dotGeneral dot_S8192x2048_S2048x2048_S8192x2048_1_0_0_1_n_n none (extf .f32 x0 bitsLt_bf16_f32) (extf .f32 x1 bitsLt_bf16_f32)

theorem ref_at (x0 : FVec Ideal S8192x2048 .bf16) (x1 : FVec Ideal S2048x2048 .bf16) (r : Fin 8192) (l : Fin 2048) :
    refTerm x0 x1 (ix2 r l) = ∑ k : Fin 2048, x0 (ix2 r k) * x1 (ix2 k l) := by
  unfold refTerm
  simp only [pointwise, zero_add]

end Cert.ProjOutRefIdeal.Product

namespace Cert.ProjOutIdeal.Product

open Cert.ProjOutIdeal Cert.ProjOutIdeal.Gen Cert.Blocks
open Idealize.ShloMosaic Idealize.ShloMosaic.TcCoe Idealize.SL.Sem
open Cert.ProjOutRefIdeal.Product (refTerm ref_at)

/-- What a point leaves in the result's block. -/
theorem out_A {F : FTy → Type} [FloatOps F] (c : Dev nD) (i : grid0.Coords) (a0 : Memref sig .tc .vmem S512x2048 .bf16) (h0 : a0.IsWhole)
    (a1 : Memref sig .tc .vmem S2048x1024 .bf16) (h1 : a1.IsWhole) (a2 : Memref sig .tc .vmem S512x1024 .f32) (h2 : a2.IsWhole)
    (a3 : Memref sig .tc .vmem S512x1024 .f32) (h3 : a3.IsWhole) (hc0 : cond0_0 i) (hc1 : cond0_1 i)
    (x0 : Vec F S512x2048 .bf16) (x1 : Vec F S2048x1024 .bf16) :
    out0_A_2 c i a0 h0 a1 h1 a2 h2 a3 h3 hc0 hc1 x0 x1 = k0_pay2 x0 (k0_pay1 (F := F)) x1 := by
  unfold out0_A_2
  rw [View.read_writes_eq_canon _ _ _ (cover0_A_2 c i a0 h0 a1 h1 a2 h2 a3 h3 hc0 hc1 x0 x1)]
  unfold kernelRun0_A
  dsimp only
  sl_unfold_words
  rw [View.canon_unit_zero hz]
  simp only [View.readCov_full (s := S512x1024), View.readCov_unit_zero (S := S512x1024) _ hz, View.readAt_eq_ld, h0.read_unread, h1.read_unread,
    View.ld_unit_zero (S := S512x2048) hz, View.ld_unit_zero (S := S2048x1024) hz]

theorem entry_at (x0 : Vec Ideal S512x2048 .bf16) (x1 : Vec Ideal S2048x1024 .bf16) (r : Fin 512) (l : Fin 1024) :
    k0_pay2 x0 (k0_pay1 (F := Ideal)) x1 (ix2 r l) = ∑ k : Fin 2048, x0 (ix2 r k) * x1 (ix2 k l) := by
  unfold k0_pay2 k0_pay1
  simp only [pointwise, zero_add]

/-! ## Which blocks a point reads and writes -/

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![0, t.val % 2] :=
  (by decide +kernel : ∀ t : Fin grid0.N, win0_1.index t = ![0, t.val % 2])
theorem index2 : ∀ t : Fin cfg0.N, win0_2.index t = ![t.val / 2, t.val % 2] :=
  (by decide +kernel : ∀ t : Fin grid0.N, win0_2.index t = ![t.val / 2, t.val % 2])
theorem flush2 : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The heads' concatenated outputs. -/
abbrev argA : FVec Ideal S8192x2048 .bf16 := m ((c.tc : Thread nD τ).loc main_arg0)

/-- The weight. -/
abbrev argB : FVec Ideal S2048x2048 .bf16 := m ((c.tc : Thread nD τ).loc main_arg1)

theorem read0 (t : Fin cfg0.N) (r : Fin 512) (k : Fin 2048) :
    (iblk m c 0 t : Vec Ideal S512x2048 .bf16) (ix2 r k) = at2 (argA m c) (t.val / 2 * 512 + r.val) k.val := by
  unfold iblk
  rw [View.read_apply]
  exact at2_val (argA m c) _ (by change win0_0.index t 0 * 512 + 1 * r.val = _; rw [index0 t, Nat.one_mul]; rfl)
    (by change win0_0.index t 1 * 2048 + 1 * k.val = _; rw [index0 t]; change 0 * 2048 + 1 * k.val = _; omega)

theorem read1 (t : Fin cfg0.N) (k : Fin 2048) (l : Fin 1024) :
    (iblk m c 1 t : Vec Ideal S2048x1024 .bf16) (ix2 k l) = at2 (argB m c) k.val (t.val % 2 * 1024 + l.val) := by
  unfold iblk
  rw [View.read_apply]
  exact at2_val (argB m c) _ (by change win0_1.index t 0 * 2048 + 1 * k.val = _; rw [index1 t]; change 0 * 2048 + 1 * k.val = _; omega)
    (by change win0_1.index t 1 * 1024 + 1 * l.val = _; rw [index1 t, Nat.one_mul]; rfl)

/-! ## The result arrays -/

/-- The kernel's result array. -/
abbrev result : FVec Ideal S8192x2048 .f32 := (dats m 0 c).arrAt 2 cfg0.N

theorem result_at (r : Fin 8192) (l : Fin 2048) : result m c (ix2 r l) = ∑ k : Fin 2048, argA m c (ix2 r k) * argB m c (ix2 k l) := by
  have hN : r.val / 512 * 2 + l.val / 1024 < cfg0.N := lt_of_lt_of_eq (by omega) N_0.symm
  have e := congrFun (Value.blocks2 m c ⟨_, hN⟩ (flush2 _)) (ix2 (⟨r.val % 512, by omega⟩ : Fin 512) (⟨l.val % 1024, by omega⟩ : Fin 1024))
  have e1 : (r.val / 512 * 2 + l.val / 1024) / 2 = r.val / 512 := by omega
  have e2 : (r.val / 512 * 2 + l.val / 1024) % 2 = l.val / 1024 := by omega
  have er : r.val / 512 * 512 + r.val % 512 = r.val := by omega
  have el : l.val / 1024 * 1024 + l.val % 1024 = l.val := by omega
  rw [View.read_apply] at e
  have hi : at2 (result m c) r.val l.val = result m c _ :=
    (at2_val (result m c) (((cfg0.win 2).blk ⟨_, hN⟩).view.emb (ix2 (⟨r.val % 512, by omega⟩ : Fin 512) (⟨l.val % 1024, by omega⟩ : Fin 1024)))
      (by change win0_2.index ⟨_, hN⟩ 0 * 512 + 1 * (r.val % 512) = _; rw [index2]; change (r.val / 512 * 2 + l.val / 1024) / 2 * 512 + 1 * (r.val % 512) = _; omega)
      (by change win0_2.index ⟨_, hN⟩ 1 * 1024 + 1 * (l.val % 1024) = _; rw [index2]; change (r.val / 512 * 2 + l.val / 1024) % 2 * 1024 + 1 * (l.val % 1024) = _; omega)).symm
  rw [at2_val (result m c) (ix2 r l) rfl rfl]
  refine hi.trans (e.trans ?_)
  rw [Value.flushed2_A, out_A]
  refine (entry_at _ _ (⟨r.val % 512, by omega⟩ : Fin 512) (⟨l.val % 1024, by omega⟩ : Fin 1024)).trans ?_
  simp only [read0, read1, e1, e2, er, el]
  exact Finset.sum_congr rfl fun k _ => by
    rw [at2_val (argA m c) (ix2 r k) rfl rfl, at2_val (argB m c) (ix2 k l) rfl rfl]
    rfl

theorem results_eq : result m c = refTerm (argA m c) (argB m c) :=
  ext2 fun _ _ => (result_at m c _ _).trans (ref_at _ _ _ _).symm

/-! ## The claims -/

/-- The body table printed for words is the one printed for extended reals, read at words. -/
theorem bodies : Cert.ProjOut.defs₀ (F := Bits) = defs₀ (F := Bits) := by
  unfold Cert.ProjOut.defs₀ defs₀
  congr 1
  funext l a
  match l, a with
  | ⟨0, _⟩, (t, s) => rfl

theorem frame_p : Cert.quiescent_ProjOut := by
  intro m ρ _
  unfold Cert.ProjOut.defs
  rw [bodies]
  exact Gen.frame (F := Bits) m ρ

theorem frame_pi : Cert.quiescent_ProjOutIdeal :=
  fun m ρ _ => Gen.frame (F := Ideal) m ρ

theorem frame_ri : Cert.quiescent_ProjOutRefIdeal :=
  fun m ρ _ => (θ_run Cert.ProjOutRefIdeal.defs _ _).mono
    (fun r h => ⟨fun c => (h c).2, sem_eq_zero_of_no_sems (by decide) r.2⟩) (Cert.ProjOutRefIdeal.Value.run (F := Ideal) m ρ)

theorem preserves : Cert.preserves_ProjOut_ProjOutIdeal := trivial

theorem algebraic : Cert.algebraic_ProjOutIdeal_ProjOutRefIdeal := by
  intro m ρ m' ρ' _ hagree
  refine ⟨_, Value.run_blocks (F := Ideal) m ρ, ?_⟩
  refine (θ_run Cert.ProjOutRefIdeal.defs _ _).mono (fun _ h c => ⟨?_, (h c).2⟩) (Cert.ProjOutRefIdeal.Value.run (F := Ideal) m' ρ')
  refine (h c).1.trans ?_
  rw [(hagree c).1, (hagree c).2]
  exact (results_eq m c).symm

end Cert.ProjOutIdeal.Product

end
-- ==== Proof.InForward.lean ====
/- The input projection: the kernel's result array is the product of the layer's input and the weight, and so is the
   reference's. -/
module

public import proofs.«01_k».proof.Defs
public import proofs.«01_k».proof.Proof.Blocks
public import proofs.«01_k».proof.Proof.Gen.ProjInIdeal.Value
public import proofs.«01_k».proof.Proof.Gen.ProjIn
public import proofs.«01_k».proof.Proof.Gen.ProjInRefIdeal.Run
public import Idealize.ShloMosaic.Lib.VecWindow
public import Idealize.ShloMosaic.Lib.Tactic
public import Idealize.ShloMosaic.Lib.Quiescent

@[expose] public section

set_option maxRecDepth 16384

noncomputable section

namespace Cert.ProjInRefIdeal.Product

open Cert.ProjInRefIdeal Cert.ProjInRefIdeal.Gen
open Idealize.ShloMosaic Idealize.ShloMosaic.TcCoe Idealize.SL.Sem

/-- The reference's result term. -/
abbrev refTerm (x0 : FVec Ideal S8192x2048 .bf16) (x1 : FVec Ideal S2048x5120 .bf16) : FVec Ideal S8192x5120 .f32 :=
  Host.dotGeneral dot_S8192x2048_S2048x5120_S8192x5120_1_0_0_1_n_n none (extf .f32 x0 bitsLt_bf16_f32) (extf .f32 x1 bitsLt_bf16_f32)

theorem ref_at (x0 : FVec Ideal S8192x2048 .bf16) (x1 : FVec Ideal S2048x5120 .bf16) (r : Fin 8192) (l : Fin 5120) :
    refTerm x0 x1 (ix2 r l) = ∑ k : Fin 2048, x0 (ix2 r k) * x1 (ix2 k l) := by
  unfold refTerm
  simp only [pointwise, zero_add]

end Cert.ProjInRefIdeal.Product

namespace Cert.ProjInIdeal.Product

open Cert.ProjInIdeal Cert.ProjInIdeal.Gen Cert.Blocks
open Idealize.ShloMosaic Idealize.ShloMosaic.TcCoe Idealize.SL.Sem
open Cert.ProjInRefIdeal.Product (refTerm ref_at)

/-- What a point leaves in the result's block. -/
theorem out_A {F : FTy → Type} [FloatOps F] (c : Dev nD) (i : grid0.Coords) (a0 : Memref sig .tc .vmem S512x2048 .bf16) (h0 : a0.IsWhole)
    (a1 : Memref sig .tc .vmem S2048x1024 .bf16) (h1 : a1.IsWhole) (a2 : Memref sig .tc .vmem S512x1024 .f32) (h2 : a2.IsWhole)
    (a3 : Memref sig .tc .vmem S512x1024 .f32) (h3 : a3.IsWhole) (hc0 : cond0_0 i) (hc1 : cond0_1 i)
    (x0 : Vec F S512x2048 .bf16) (x1 : Vec F S2048x1024 .bf16) :
    out0_A_2 c i a0 h0 a1 h1 a2 h2 a3 h3 hc0 hc1 x0 x1 = k0_pay2 x0 (k0_pay1 (F := F)) x1 := by
  unfold out0_A_2
  rw [View.read_writes_eq_canon _ _ _ (cover0_A_2 c i a0 h0 a1 h1 a2 h2 a3 h3 hc0 hc1 x0 x1)]
  unfold kernelRun0_A
  dsimp only
  sl_unfold_words
  rw [View.canon_unit_zero hz]
  simp only [View.readCov_full (s := S512x1024), View.readCov_unit_zero (S := S512x1024) _ hz, View.readAt_eq_ld, h0.read_unread, h1.read_unread,
    View.ld_unit_zero (S := S512x2048) hz, View.ld_unit_zero (S := S2048x1024) hz]

theorem entry_at (x0 : Vec Ideal S512x2048 .bf16) (x1 : Vec Ideal S2048x1024 .bf16) (r : Fin 512) (l : Fin 1024) :
    k0_pay2 x0 (k0_pay1 (F := Ideal)) x1 (ix2 r l) = ∑ k : Fin 2048, x0 (ix2 r k) * x1 (ix2 k l) := by
  unfold k0_pay2 k0_pay1
  simp only [pointwise, zero_add]

/-! ## Which blocks a point reads and writes -/

theorem index0 : ∀ t : Fin cfg0.N, win0_0.index t = ![t.val / 5, 0] :=
  (by decide +kernel : ∀ t : Fin grid0.N, win0_0.index t = ![t.val / 5, 0])
theorem index1 : ∀ t : Fin cfg0.N, win0_1.index t = ![0, t.val % 5] :=
  (by decide +kernel : ∀ t : Fin grid0.N, win0_1.index t = ![0, t.val % 5])
theorem index2 : ∀ t : Fin cfg0.N, win0_2.index t = ![t.val / 5, t.val % 5] :=
  (by decide +kernel : ∀ t : Fin grid0.N, win0_2.index t = ![t.val / 5, t.val % 5])
theorem flush2 : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The layer's input. -/
abbrev argA : FVec Ideal S8192x2048 .bf16 := m ((c.tc : Thread nD τ).loc main_arg0)

/-- The weight. -/
abbrev argB : FVec Ideal S2048x5120 .bf16 := m ((c.tc : Thread nD τ).loc main_arg1)

theorem read0 (t : Fin cfg0.N) (r : Fin 512) (k : Fin 2048) :
    (iblk m c 0 t : Vec Ideal S512x2048 .bf16) (ix2 r k) = at2 (argA m c) (t.val / 5 * 512 + r.val) k.val := by
  unfold iblk
  rw [View.read_apply]
  exact at2_val (argA m c) _ (by change win0_0.index t 0 * 512 + 1 * r.val = _; rw [index0 t, Nat.one_mul]; rfl)
    (by change win0_0.index t 1 * 2048 + 1 * k.val = _; rw [index0 t]; change 0 * 2048 + 1 * k.val = _; omega)

theorem read1 (t : Fin cfg0.N) (k : Fin 2048) (l : Fin 1024) :
    (iblk m c 1 t : Vec Ideal S2048x1024 .bf16) (ix2 k l) = at2 (argB m c) k.val (t.val % 5 * 1024 + l.val) := by
  unfold iblk
  rw [View.read_apply]
  exact at2_val (argB m c) _ (by change win0_1.index t 0 * 2048 + 1 * k.val = _; rw [index1 t]; change 0 * 2048 + 1 * k.val = _; omega)
    (by change win0_1.index t 1 * 1024 + 1 * l.val = _; rw [index1 t, Nat.one_mul]; rfl)

/-! ## The result arrays -/

/-- The kernel's result array. -/
abbrev result : FVec Ideal S8192x5120 .f32 := (dats m 0 c).arrAt 2 cfg0.N

theorem result_at (r : Fin 8192) (l : Fin 5120) : result m c (ix2 r l) = ∑ k : Fin 2048, argA m c (ix2 r k) * argB m c (ix2 k l) := by
  have hN : r.val / 512 * 5 + l.val / 1024 < cfg0.N := lt_of_lt_of_eq (by omega) N_0.symm
  have e := congrFun (Value.blocks2 m c ⟨_, hN⟩ (flush2 _)) (ix2 (⟨r.val % 512, by omega⟩ : Fin 512) (⟨l.val % 1024, by omega⟩ : Fin 1024))
  have e1 : (r.val / 512 * 5 + l.val / 1024) / 5 = r.val / 512 := by omega
  have e2 : (r.val / 512 * 5 + l.val / 1024) % 5 = l.val / 1024 := by omega
  have er : r.val / 512 * 512 + r.val % 512 = r.val := by omega
  have el : l.val / 1024 * 1024 + l.val % 1024 = l.val := by omega
  rw [View.read_apply] at e
  have hi : at2 (result m c) r.val l.val = result m c _ :=
    (at2_val (result m c) (((cfg0.win 2).blk ⟨_, hN⟩).view.emb (ix2 (⟨r.val % 512, by omega⟩ : Fin 512) (⟨l.val % 1024, by omega⟩ : Fin 1024)))
      (by change win0_2.index ⟨_, hN⟩ 0 * 512 + 1 * (r.val % 512) = _; rw [index2]; change (r.val / 512 * 5 + l.val / 1024) / 5 * 512 + 1 * (r.val % 512) = _; omega)
      (by change win0_2.index ⟨_, hN⟩ 1 * 1024 + 1 * (l.val % 1024) = _; rw [index2]; change (r.val / 512 * 5 + l.val / 1024) % 5 * 1024 + 1 * (l.val % 1024) = _; omega)).symm
  rw [at2_val (result m c) (ix2 r l) rfl rfl]
  refine hi.trans (e.trans ?_)
  rw [Value.flushed2_A, out_A]
  refine (entry_at _ _ (⟨r.val % 512, by omega⟩ : Fin 512) (⟨l.val % 1024, by omega⟩ : Fin 1024)).trans ?_
  simp only [read0, read1, e1, e2, er, el]
  exact Finset.sum_congr rfl fun k _ => by
    rw [at2_val (argA m c) (ix2 r k) rfl rfl, at2_val (argB m c) (ix2 k l) rfl rfl]
    rfl

theorem results_eq : result m c = refTerm (argA m c) (argB m c) :=
  ext2 fun _ _ => (result_at m c _ _).trans (ref_at _ _ _ _).symm

/-! ## The claims -/

/-- The body table printed for words is the one printed for extended reals, read at words. -/
theorem bodies : Cert.ProjIn.defs₀ (F := Bits) = defs₀ (F := Bits) := by
  unfold Cert.ProjIn.defs₀ defs₀
  congr 1
  funext l a
  match l, a with
  | ⟨0, _⟩, (t, s) => rfl

theorem frame_p : Cert.quiescent_ProjIn := by
  intro m ρ _
  unfold Cert.ProjIn.defs
  rw [bodies]
  exact Gen.frame (F := Bits) m ρ

theorem frame_pi : Cert.quiescent_ProjInIdeal :=
  fun m ρ _ => Gen.frame (F := Ideal) m ρ

theorem frame_ri : Cert.quiescent_ProjInRefIdeal :=
  fun m ρ _ => (θ_run Cert.ProjInRefIdeal.defs _ _).mono
    (fun r h => ⟨fun c => (h c).2, sem_eq_zero_of_no_sems (by decide) r.2⟩) (Cert.ProjInRefIdeal.Value.run (F := Ideal) m ρ)

theorem preserves : Cert.preserves_ProjIn_ProjInIdeal := trivial

theorem algebraic : Cert.algebraic_ProjInIdeal_ProjInRefIdeal := by
  intro m ρ m' ρ' _ hagree
  refine ⟨_, Value.run_blocks (F := Ideal) m ρ, ?_⟩
  refine (θ_run Cert.ProjInRefIdeal.defs _ _).mono (fun _ h c => ⟨?_, (h c).2⟩) (Cert.ProjInRefIdeal.Value.run (F := Ideal) m' ρ')
  refine (h c).1.trans ?_
  rw [(hagree c).1, (hagree c).2]
  exact (results_eq m c).symm

end Cert.ProjInIdeal.Product

end
-- ==== Proof.GradH2.lean ====
/- The gradient of the feed-forward's input: the kernel's result array is the product of the gradient of the hidden layer and
   the transposed first weight, which lies in blocks of columns, and so is the reference's. -/
module

public import proofs.«01_k».proof.Defs
public import proofs.«01_k».proof.Proof.Blocks
public import proofs.«01_k».proof.Proof.Gen.DH2Ideal.Value
public import proofs.«01_k».proof.Proof.Gen.DH2
public import proofs.«01_k».proof.Proof.Gen.DH2RefIdeal.Run
public import Idealize.ShloMosaic.Lib.Tactic
public import Idealize.ShloMosaic.Lib.Quiescent

@[expose] public section

set_option maxRecDepth 16384

noncomputable section

namespace Cert.DH2Ideal.Grad

open Cert.DH2Ideal Cert.DH2Ideal.Gen Cert.Blocks
open Idealize.ShloMosaic Idealize.ShloMosaic.TcCoe Idealize.SL.Sem

/-! ## What a point leaves -/

section Cases

variable {F : FTy → Type} [FloatOps F]
variable (c : Dev nD) (i : grid0.Coords) (a0 : Memref sig .tc .vmem S512x1024 .bf16) (h0 : a0.IsWhole)
  (a1 : Memref sig .tc .vmem S1x2048x1024 .bf16) (h1 : a1.IsWhole) (a2 : Memref sig .tc .vmem S512x2048 .f32) (h2 : a2.IsWhole)
  (a3 : Memref sig .tc .vmem S512x2048 .f32) (h3 : a3.IsWhole)
  (x0 : Vec F S512x1024 .bf16) (x1 : Vec F S1x2048x1024 .bf16) (xs : Vec F S512x2048 .f32)

theorem acc_A (hc0 : cond0_0 i) (hc1 : ¬cond0_1 i) :
    sout0_A_0 c i a0 h0 a1 h1 a2 h2 a3 h3 hc0 hc1 x0 x1 = k0_pay2 x0 (k0_pay1 (F := F)) x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S512x2048) hz, View.readCov_unit_zero (S := S512x2048) _ hz]
  simp only [View.readAt_eq_ld, h0.read_unread, h1.read_unread, View.ld_unit_zero (S := S512x1024) hz, View.ld_unit_zero (S := S1x2048x1024) hz3]

theorem acc_B (hc0 : ¬cond0_0 i) (hc1 : ¬cond0_1 i) :
    sout0_B_0 c i a0 h0 a1 h1 a2 h2 a3 h3 hc0 hc1 x0 x1 xs = k0_pay2 x0 xs x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero hz]
  simp only [View.readAt_eq_ld, h0.read_unread, h1.read_unread, h3.read_unread, View.ld_unit_zero (S := S512x1024) hz, View.ld_unit_zero (S := S1x2048x1024) hz3, View.ld_unit_zero (S := S512x2048) hz]

theorem acc_C (hc0 : ¬cond0_0 i) (hc1 : cond0_1 i) :
    sout0_C_0 c i a0 h0 a1 h1 a2 h2 a3 h3 hc0 hc1 x0 x1 xs = k0_pay2 x0 xs x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero hz]
  simp only [View.readAt_eq_ld, h0.read_unread, h1.read_unread, h3.read_unread, View.ld_unit_zero (S := S512x1024) hz, View.ld_unit_zero (S := S1x2048x1024) hz3, View.ld_unit_zero (S := S512x2048) hz]

theorem out_C (hc0 : ¬cond0_0 i) (hc1 : cond0_1 i) :
    out0_C_2 c i a0 h0 a1 h1 a2 h2 a3 h3 hc0 hc1 x0 x1 xs = k0_pay2 x0 xs x1 := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero hz, View.readCov_unit_zero (S := S512x2048) _ hz]
  simp only [View.readAt_eq_ld, h0.read_unread, h1.read_unread, h3.read_unread, View.ld_unit_zero (S := S512x1024) hz, View.ld_unit_zero (S := S1x2048x1024) hz3, View.ld_unit_zero (S := S512x2048) hz]

end Cases

/-! ## Entries -/

theorem zero_at (y : S512x2048.Idx) : k0_pay1 (F := Ideal) y = 0 := by
  unfold k0_pay1
  simp only [pointwise]

theorem step_at (x0 : Vec Ideal S512x1024 .bf16) (xs : Vec Ideal S512x2048 .f32) (x1 : Vec Ideal S1x2048x1024 .bf16) (r : Fin 512) (l : Fin 2048) :
    k0_pay2 x0 xs x1 (ix2 r l) = xs (ix2 r l) + ∑ k : Fin 1024, x0 (ix2 r k) * x1 (ix3 (0 : Fin 1) l k) := by
  unfold k0_pay2
  simp only [pointwise, zero_add]

/-! ## Which blocks a point reads -/

theorem index0 : ∀ t : Fin cfg0.N, win0_0.index t = ![t.val / 8, t.val % 8] :=
  (by decide +kernel : ∀ t : Fin grid0.N, win0_0.index t = ![t.val / 8, t.val % 8])
theorem index1 : ∀ t : Fin cfg0.N, win0_1.index t = ![t.val % 8, 0, 0] :=
  (by decide +kernel : ∀ t : Fin grid0.N, win0_1.index t = ![t.val % 8, 0, 0])

variable (m : (ℓ : Loc nD τ sig) → Buf (Elt Ideal) ℓ) (c : Dev nD)

/-- The kernel's first argument. -/
abbrev argA : FVec Ideal S8192x8192 .bf16 := m ((c.tc : Thread nD τ).loc main_arg0)

/-- The kernel's second argument. -/
abbrev argB : FVec Ideal S8x2048x1024 .bf16 := m ((c.tc : Thread nD τ).loc main_arg1)

theorem read0 (t : Fin cfg0.N) (r : Fin 512) (k : Fin 1024) :
    (iblk m c 0 t : Vec Ideal S512x1024 .bf16) (ix2 r k) = at2 (argA m c) (t.val / 8 * 512 + r.val) (t.val % 8 * 1024 + k.val) := by
  unfold iblk
  rw [View.read_apply]
  change argA m c _ = _
  have e := index0 t
  refine at2_val _ _ ?_ ?_
  · change win0_0.index t 0 * 512 + 1 * r.val = _
    rw [e, Nat.one_mul]
    rfl
  · change win0_0.index t 1 * 1024 + 1 * k.val = _
    rw [e, Nat.one_mul]
    rfl

theorem read1 (t : Fin cfg0.N) (u : Fin 1) (l : Fin 2048) (k : Fin 1024) :
    (iblk m c 1 t : Vec Ideal S1x2048x1024 .bf16) (ix3 u l k)
      = at3 (argB m c) ((t.val % 8 * 1024 + k.val) / 1024) l.val ((t.val % 8 * 1024 + k.val) % 1024) := by
  unfold iblk
  rw [View.read_apply]
  change argB m c _ = _
  have e := index1 t
  refine at3_val _ _ ?_ ?_ ?_
  · change win0_1.index t 0 * 1 + 1 * u.val = _
    rw [e]
    change t.val % 8 * 1 + 1 * u.val = _
    omega
  · change win0_1.index t 1 * 2048 + 1 * l.val = _
    rw [e]
    change 0 * 2048 + 1 * l.val = _
    omega
  · change win0_1.index t 2 * 1024 + 1 * k.val = _
    rw [e]
    change 0 * 1024 + 1 * k.val = _
    omega

/-! ## The running sum -/

/-- The products that row block `g` of the result sums, at row `y.1` and column `y.2` of the block. -/
def term (g : ℕ) (y : Fin 512 × Fin 2048) (k : ℕ) : EReal :=
  at2 (argA m c) (g * 512 + y.1.val) k * at3 (argB m c) (k / 1024) y.2.val (k % 1024)

theorem step_term (t : Fin cfg0.N) (xs : Vec Ideal S512x2048 .f32) (r : Fin 512) (l : Fin 2048) :
    k0_pay2 (iblk m c 0 t : Vec Ideal S512x1024 .bf16) xs (iblk m c 1 t : Vec Ideal S1x2048x1024 .bf16) (ix2 r l)
      = xs (ix2 r l) + ∑ k : Fin 1024, term m c (t.val / 8) (r, l) (t.val % 8 * 1024 + k.val) := by
  rw [step_at]
  simp only [read0, read1]
  rfl

theorem acc_first (t : Fin cfg0.N) (h : t.val % 8 = 0) (r : Fin 512) (l : Fin 2048) :
    (outsAt0 m c t.val t.isLt).2 (ix2 r l) = ∑ k : Fin 1024, term m c (t.val / 8) (r, l) (t.val % 8 * 1024 + k.val) := by
  rw [outsAt0_A m c t h (by omega)]
  dsimp only
  rw [acc_A, step_term, zero_at, zero_add]

theorem acc_next (n : ℕ) (hn : n + 1 < cfg0.N) (h : ¬(n + 1) % 8 = 0) (r : Fin 512) (l : Fin 2048) :
    (outsAt0 m c (n + 1) hn).2 (ix2 r l) = (outsAt0 m c n (Nat.lt_of_succ_lt hn)).2 (ix2 r l)
      + ∑ k : Fin 1024, term m c ((n + 1) / 8) (r, l) ((n + 1) % 8 * 1024 + k.val) := by
  by_cases h1 : (n + 1) % 8 = 7
  · have e := outsAt0_C m c ⟨n + 1, hn⟩ h h1
    dsimp only at e
    rw [e]
    dsimp only
    rw [acc_C, step_term]
    rfl
  · have e := outsAt0_B m c ⟨n + 1, hn⟩ h h1
    dsimp only at e
    rw [e]
    dsimp only
    rw [acc_B, step_term]
    rfl

theorem acc_at (n : ℕ) (hn : n < cfg0.N) (r : Fin 512) (l : Fin 2048) :
    (outsAt0 m c n hn).2 (ix2 r l) = ∑ k ∈ Finset.range ((n % 8 + 1) * 1024), term m c (n / 8) (r, l) k :=
  acc_sum (d := 8) (w := 1024) (by decide) (fun n h y => (outsAt0 m c n h).2 (ix2 y.1 y.2)) (term m c)
    (fun n h y h0 => acc_first m c ⟨n, h⟩ h0 y.1 y.2) (fun n h y h0 => acc_next m c n h h0 y.1 y.2) n hn (r, l)

theorem out_at (t : Fin cfg0.N) (h : t.val % 8 = 7) (r : Fin 512) (l : Fin 2048) :
    (outsAt0 m c t.val t.isLt).1 (ix2 r l) = ∑ k ∈ Finset.range 8192, term m c (t.val / 8) (r, l) k := by
  have e := acc_at m c t.val t.isLt r l
  rw [h, outsAt0_C m c t (by omega) h] at e
  dsimp only at e
  rw [acc_C] at e
  rw [outsAt0_C m c t (by omega) h]
  dsimp only
  rw [out_C, e]

/-! ## The result arrays -/

theorem result_at (r : Fin 8192) (l : Fin 2048) :
    Value.G2 m c (ix2 r l) = ∑ k : Fin 8192, argA m c (ix2 r k) * argB m c (ix3 ⟨k.val / 1024, by omega⟩ l ⟨k.val % 1024, by omega⟩) := by
  have hp : Value.pt2Of (ix2 r l) = 8 * (1 * (r.val / 512 - 0) + 1 * (l.val / 2048 - 0)) + 7 := rfl
  have hN : Value.pt2Of (ix2 r l) < cfg0.N := lt_of_lt_of_eq (by rw [hp]; omega) N_0.symm
  have e := out_at m c ⟨_, hN⟩ (by dsimp only; rw [hp]; omega) ⟨r.val % 512, by omega⟩ ⟨l.val % 2048, by omega⟩
  unfold Value.G2
  rw [dif_pos hN, ← Value.outsAt0_sweep m c _ hN]
  have hl : Value.loc2Of (ix2 r l) = ix2 (⟨r.val % 512, by omega⟩ : Fin 512) (⟨l.val % 2048, by omega⟩ : Fin 2048) := by
    funext p
    match p with
    | ⟨0, _⟩ => rfl
    | ⟨1, _⟩ => rfl
  rw [hl]
  refine e.trans ?_
  rw [Finset.sum_range]
  refine Finset.sum_congr rfl fun k _ => ?_
  unfold term
  rw [at2_val (argA m c) (ix2 r k) rfl rfl, at3_val (argB m c) (ix3 ⟨k.val / 1024, by omega⟩ l ⟨k.val % 1024, by omega⟩) rfl rfl rfl]
  dsimp only
  rw [hp]
  congr 2
  · change _ = r.val
    omega
  · change _ = l.val
    omega

end Cert.DH2Ideal.Grad

namespace Cert.DH2RefIdeal.Grad

open Cert.DH2RefIdeal Cert.DH2RefIdeal.Gen
open Idealize.ShloMosaic Idealize.ShloMosaic.TcCoe Idealize.SL.Sem

/-- The reference's result term. -/
abbrev refTerm (x0 : FVec Ideal S8192x8192 .bf16) (x1 : FVec Ideal S8x2048x1024 .bf16) : FVec Ideal S8192x2048 .f32 :=
  Host.dotGeneral dot_S8192x8192_S2048x8192_S8192x2048_1_1_0_0_n_n none (extf .f32 x0 bitsLt_bf16_f32)
    (shapeCast _ (transpose S2048x8x1024 [1, 0, 2] (extf .f32 x1 bitsLt_bf16_f32) transposes_S8x2048x1024_S2048x8x1024_1_0_2) shapeCasts_S2048x8x1024_S2048x8192)

theorem ref_at (x0 : FVec Ideal S8192x8192 .bf16) (x1 : FVec Ideal S8x2048x1024 .bf16) (r : Fin 8192) (l : Fin 2048) :
    refTerm x0 x1 (ix2 r l) = ∑ k : Fin 8192, x0 (ix2 r k) * x1 (ix3 ⟨k.val / 1024, by omega⟩ l ⟨k.val % 1024, by omega⟩) := by
  unfold refTerm
  simp only [pointwise, zero_add]

end Cert.DH2RefIdeal.Grad

namespace Cert.DH2Ideal.Grad

open Cert.DH2Ideal Cert.DH2Ideal.Gen Cert.Blocks
open Idealize.ShloMosaic Idealize.ShloMosaic.TcCoe Idealize.SL.Sem
open Cert.DH2RefIdeal.Grad (refTerm ref_at)

variable (m : (ℓ : Loc nD τ sig) → Buf (Elt Ideal) ℓ) (c : Dev nD)

theorem results_eq : Value.G2 m c = refTerm (argA m c) (argB m c) := by
  exact ext2 fun _ _ => (result_at m c _ _).trans (ref_at _ _ _ _).symm

/-! ## The claims -/

/-- The body table printed for words is the one printed for extended reals, read at words. -/
theorem bodies : Cert.DH2.defs₀ (F := Bits) = defs₀ (F := Bits) := by
  unfold Cert.DH2.defs₀ defs₀
  congr 1
  funext l a
  match l, a with
  | ⟨0, _⟩, (t, s) => rfl

theorem frame_p : Cert.quiescent_DH2 := by
  intro m ρ _
  unfold Cert.DH2.defs
  rw [bodies]
  exact Gen.frame (F := Bits) m ρ

theorem frame_pi : Cert.quiescent_DH2Ideal :=
  fun m ρ _ => Gen.frame (F := Ideal) m ρ

theorem frame_ri : Cert.quiescent_DH2RefIdeal :=
  fun m ρ _ => (θ_run Cert.DH2RefIdeal.defs _ _).mono
    (fun r h => ⟨fun c => (h c).2, sem_eq_zero_of_no_sems (by decide) r.2⟩) (Cert.DH2RefIdeal.Value.run (F := Ideal) m ρ)

theorem preserves : Cert.preserves_DH2_DH2Ideal := trivial

theorem algebraic : Cert.algebraic_DH2Ideal_DH2RefIdeal := by
  intro m ρ m' ρ' _ hagree
  refine ⟨_, Value.run (F := Ideal) m ρ, ?_⟩
  refine (θ_run Cert.DH2RefIdeal.defs _ _).mono (fun _ h c => ⟨?_, (h c).2⟩) (Cert.DH2RefIdeal.Value.run (F := Ideal) m' ρ')
  refine (h c).1.trans ?_
  rw [(hagree c).1, (hagree c).2]
  exact (results_eq m c).symm

end Cert.DH2Ideal.Grad

end
-- ==== Proof.GradFf1.lean ====
/- The gradient of the first feed-forward weight: the kernel's result array is the product of the transposed input and the
   gradient of the hidden layer, column block by column block, and so is the reference's. -/
module

public import proofs.«01_k».proof.Defs
public import proofs.«01_k».proof.Proof.Blocks
public import proofs.«01_k».proof.Proof.Gen.DwFf1Ideal.Value
public import proofs.«01_k».proof.Proof.Gen.DwFf1
public import proofs.«01_k».proof.Proof.Gen.DwFf1RefIdeal.Run
public import Idealize.ShloMosaic.Lib.Tactic
public import Idealize.ShloMosaic.Lib.Quiescent

@[expose] public section

set_option maxRecDepth 16384

noncomputable section

namespace Cert.DwFf1Ideal.Grad

open Cert.DwFf1Ideal Cert.DwFf1Ideal.Gen Cert.Blocks
open Idealize.ShloMosaic Idealize.ShloMosaic.TcCoe Idealize.SL.Sem

/-! ## What a point leaves -/

section Cases

variable {F : FTy → Type} [FloatOps F]
variable (c : Dev nD) (i : grid0.Coords) (a0 : Memref sig .tc .vmem S2048x512 .bf16) (h0 : a0.IsWhole)
  (a1 : Memref sig .tc .vmem S2048x1024 .bf16) (h1 : a1.IsWhole) (a2 : Memref sig .tc .vmem S1x512x1024 .bf16) (h2 : a2.IsWhole)
  (a3 : Memref sig .tc .vmem S512x1024 .f32) (h3 : a3.IsWhole)
  (x0 : Vec F S2048x512 .bf16) (x1 : Vec F S2048x1024 .bf16) (xs : Vec F S512x1024 .f32)

theorem acc_A (hc0 : cond0_0 i) (hc1 : ¬cond0_1 i) :
    sout0_A_0 c i a0 h0 a1 h1 a2 h2 a3 h3 hc0 hc1 x0 x1 = k0_pay2 x0 (k0_pay1 (F := F)) x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S512x1024) hz, View.readCov_unit_zero (S := S512x1024) _ hz]
  simp only [View.readAt_eq_ld, h0.read_unread, h1.read_unread, View.ld_unit_zero (S := S2048x512) hz, View.ld_unit_zero (S := S2048x1024) hz]

theorem acc_B (hc0 : ¬cond0_0 i) (hc1 : ¬cond0_1 i) :
    sout0_B_0 c i a0 h0 a1 h1 a2 h2 a3 h3 hc0 hc1 x0 x1 xs = k0_pay2 x0 xs x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero hz]
  simp only [View.readAt_eq_ld, h0.read_unread, h1.read_unread, h3.read_unread, View.ld_unit_zero (S := S2048x512) hz, View.ld_unit_zero (S := S2048x1024) hz, View.ld_unit_zero (S := S512x1024) hz]

theorem acc_C (hc0 : ¬cond0_0 i) (hc1 : cond0_1 i) :
    sout0_C_0 c i a0 h0 a1 h1 a2 h2 a3 h3 hc0 hc1 x0 x1 xs = k0_pay2 x0 xs x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero hz]
  simp only [View.readAt_eq_ld, h0.read_unread, h1.read_unread, h3.read_unread, View.ld_unit_zero (S := S2048x512) hz, View.ld_unit_zero (S := S2048x1024) hz, View.ld_unit_zero (S := S512x1024) hz]

theorem out_C (hc0 : ¬cond0_0 i) (hc1 : cond0_1 i) :
    out0_C_2 c i a0 h0 a1 h1 a2 h2 a3 h3 hc0 hc1 x0 x1 xs = k0_pay3 (k0_pay2 x0 xs x1) := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero hz3, View.readCov_unit_zero (S := S512x1024) _ hz]
  simp only [View.readAt_eq_ld, h0.read_unread, h1.read_unread, h3.read_unread, View.ld_unit_zero (S := S2048x512) hz, View.ld_unit_zero (S := S2048x1024) hz, View.ld_unit_zero (S := S512x1024) hz]

end Cases

/-! ## Entries -/

theorem zero_at (y : S512x1024.Idx) : k0_pay1 (F := Ideal) y = 0 := by
  unfold k0_pay1
  simp only [pointwise]

theorem step_at (x0 : Vec Ideal S2048x512 .bf16) (xs : Vec Ideal S512x1024 .f32) (x1 : Vec Ideal S2048x1024 .bf16) (r : Fin 512) (l : Fin 1024) :
    k0_pay2 x0 xs x1 (ix2 r l) = xs (ix2 r l) + ∑ k : Fin 2048, x0 (ix2 k r) * x1 (ix2 k l) := by
  unfold k0_pay2
  simp only [pointwise, zero_add]

theorem last_at (x : Vec Ideal S512x1024 .f32) (u : Fin 1) (r : Fin 512) (l : Fin 1024) : k0_pay3 x (ix3 u r l) = x (ix2 r l) := by
  unfold k0_pay3
  simp only [pointwise]

/-! ## Which blocks a point reads -/

theorem index0 : ∀ t : Fin cfg0.N, win0_0.index t = ![t.val % 4, t.val / 4 / 8] :=
  (by decide +kernel : ∀ t : Fin grid0.N, win0_0.index t = ![t.val % 4, t.val / 4 / 8])
theorem index1 : ∀ t : Fin cfg0.N, win0_1.index t = ![t.val % 4, t.val / 4 % 8] :=
  (by decide +kernel : ∀ t : Fin grid0.N, win0_1.index t = ![t.val % 4, t.val / 4 % 8])

variable (m : (ℓ : Loc nD τ sig) → Buf (Elt Ideal) ℓ) (c : Dev nD)

/-- The kernel's first argument. -/
abbrev argA : FVec Ideal S8192x2048 .bf16 := m ((c.tc : Thread nD τ).loc main_arg0)

/-- The kernel's second argument. -/
abbrev argB : FVec Ideal S8192x8192 .bf16 := m ((c.tc : Thread nD τ).loc main_arg1)

theorem read0 (t : Fin cfg0.N) (k : Fin 2048) (r : Fin 512) :
    (iblk m c 0 t : Vec Ideal S2048x512 .bf16) (ix2 k r) = at2 (argA m c) (t.val % 4 * 2048 + k.val) (t.val / 4 / 8 * 512 + r.val) := by
  unfold iblk
  rw [View.read_apply]
  change argA m c _ = _
  have e := index0 t
  refine at2_val _ _ ?_ ?_
  · change win0_0.index t 0 * 2048 + 1 * k.val = _
    rw [e, Nat.one_mul]
    rfl
  · change win0_0.index t 1 * 512 + 1 * r.val = _
    rw [e, Nat.one_mul]
    rfl

theorem read1 (t : Fin cfg0.N) (k : Fin 2048) (l : Fin 1024) :
    (iblk m c 1 t : Vec Ideal S2048x1024 .bf16) (ix2 k l) = at2 (argB m c) (t.val % 4 * 2048 + k.val) (t.val / 4 % 8 * 1024 + l.val) := by
  unfold iblk
  rw [View.read_apply]
  change argB m c _ = _
  have e := index1 t
  refine at2_val _ _ ?_ ?_
  · change win0_1.index t 0 * 2048 + 1 * k.val = _
    rw [e, Nat.one_mul]
    rfl
  · change win0_1.index t 1 * 1024 + 1 * l.val = _
    rw [e, Nat.one_mul]
    rfl

/-! ## The running sum -/

/-- The products that tile `g` of the result sums, at row `y.1` and column `y.2` of the tile. -/
def term (g : ℕ) (y : Fin 512 × Fin 1024) (k : ℕ) : EReal :=
  at2 (argA m c) k (g / 8 * 512 + y.1.val) * at2 (argB m c) k (g % 8 * 1024 + y.2.val)

theorem step_term (t : Fin cfg0.N) (xs : Vec Ideal S512x1024 .f32) (r : Fin 512) (l : Fin 1024) :
    k0_pay2 (iblk m c 0 t : Vec Ideal S2048x512 .bf16) xs (iblk m c 1 t : Vec Ideal S2048x1024 .bf16) (ix2 r l)
      = xs (ix2 r l) + ∑ k : Fin 2048, term m c (t.val / 4) (r, l) (t.val % 4 * 2048 + k.val) := by
  rw [step_at]
  simp only [read0, read1]
  rfl

theorem acc_first (t : Fin cfg0.N) (h : t.val % 4 = 0) (r : Fin 512) (l : Fin 1024) :
    (outsAt0 m c t.val t.isLt).2 (ix2 r l) = ∑ k : Fin 2048, term m c (t.val / 4) (r, l) (t.val % 4 * 2048 + k.val) := by
  rw [outsAt0_A m c t h (by omega)]
  dsimp only
  rw [acc_A, step_term, zero_at, zero_add]

theorem acc_next (n : ℕ) (hn : n + 1 < cfg0.N) (h : ¬(n + 1) % 4 = 0) (r : Fin 512) (l : Fin 1024) :
    (outsAt0 m c (n + 1) hn).2 (ix2 r l) = (outsAt0 m c n (Nat.lt_of_succ_lt hn)).2 (ix2 r l)
      + ∑ k : Fin 2048, term m c ((n + 1) / 4) (r, l) ((n + 1) % 4 * 2048 + k.val) := by
  by_cases h1 : (n + 1) % 4 = 3
  · have e := outsAt0_C m c ⟨n + 1, hn⟩ h h1
    dsimp only at e
    rw [e]
    dsimp only
    rw [acc_C, step_term]
    rfl
  · have e := outsAt0_B m c ⟨n + 1, hn⟩ h h1
    dsimp only at e
    rw [e]
    dsimp only
    rw [acc_B, step_term]
    rfl

theorem acc_at (n : ℕ) (hn : n < cfg0.N) (r : Fin 512) (l : Fin 1024) :
    (outsAt0 m c n hn).2 (ix2 r l) = ∑ k ∈ Finset.range ((n % 4 + 1) * 2048), term m c (n / 4) (r, l) k :=
  acc_sum (d := 4) (w := 2048) (by decide) (fun n h y => (outsAt0 m c n h).2 (ix2 y.1 y.2)) (term m c)
    (fun n h y h0 => acc_first m c ⟨n, h⟩ h0 y.1 y.2) (fun n h y h0 => acc_next m c n h h0 y.1 y.2) n hn (r, l)

theorem out_at (t : Fin cfg0.N) (h : t.val % 4 = 3) (u : Fin 1) (r : Fin 512) (l : Fin 1024) :
    (outsAt0 m c t.val t.isLt).1 (ix3 u r l) = ∑ k ∈ Finset.range 8192, term m c (t.val / 4) (r, l) k := by
  have e := acc_at m c t.val t.isLt r l
  rw [h, outsAt0_C m c t (by omega) h] at e
  dsimp only at e
  rw [acc_C] at e
  rw [outsAt0_C m c t (by omega) h]
  dsimp only
  rw [out_C, last_at, e]

/-! ## The result arrays -/

theorem result_at (b : Fin 8) (r : Fin 2048) (l : Fin 1024) :
    Value.G2 m c (ix3 b r l) = ∑ k : Fin 8192, argA m c (ix2 k r) * argB m c (ix2 k ⟨b.val * 1024 + l.val, by omega⟩) := by
  have hp : Value.pt2Of (ix3 b r l) = 4 * (1 * (b.val / 1 - 0) + 8 * (r.val / 512 - 0) + 32 * (l.val / 1024 - 0)) + 3 := rfl
  have hN : Value.pt2Of (ix3 b r l) < cfg0.N := lt_of_lt_of_eq (by rw [hp]; omega) N_0.symm
  have e := out_at m c ⟨_, hN⟩ (by dsimp only; rw [hp]; omega) 0 ⟨r.val % 512, by omega⟩ ⟨l.val % 1024, by omega⟩
  unfold Value.G2
  rw [dif_pos hN, ← Value.outsAt0_sweep m c _ hN]
  have hl : Value.loc2Of (ix3 b r l) = ix3 (0 : Fin 1) (⟨r.val % 512, by omega⟩ : Fin 512) (⟨l.val % 1024, by omega⟩ : Fin 1024) := by
    funext p
    apply Fin.ext
    match p with
    | ⟨0, _⟩ => exact Nat.mod_one _
    | ⟨1, _⟩ => rfl
    | ⟨2, _⟩ => rfl
  rw [hl]
  refine e.trans ?_
  rw [Finset.sum_range]
  refine Finset.sum_congr rfl fun k _ => ?_
  unfold term
  rw [at2_val (argA m c) (ix2 k r) rfl rfl, at2_val (argB m c) (ix2 k ⟨b.val * 1024 + l.val, by omega⟩) rfl rfl]
  dsimp only
  rw [hp]
  congr 2
  · change _ = r.val
    omega
  · change _ = b.val * 1024 + l.val
    omega

end Cert.DwFf1Ideal.Grad

namespace Cert.DwFf1RefIdeal.Grad

open Cert.DwFf1RefIdeal Cert.DwFf1RefIdeal.Gen
open Idealize.ShloMosaic Idealize.ShloMosaic.TcCoe Idealize.SL.Sem

/-- The reference's result term. -/
abbrev refTerm (x0 : FVec Ideal S8192x2048 .bf16) (x1 : FVec Ideal S8192x8192 .bf16) :
    FVec Ideal S8x2048x1024 .bf16 :=
  truncf .bf16 (transpose S8x2048x1024 [1, 0, 2] (shapeCast _ (transpose S2048x8192 [1, 0] (Host.dotGeneral dot_S8192x8192_S8192x2048_S8192x2048_0_0_1_1_n_n none (extf .f32 x1 bitsLt_bf16_f32) (extf .f32 x0 bitsLt_bf16_f32)) transposes_S8192x2048_S2048x8192_1_0) shapeCasts_S2048x8192_S2048x8x1024) transposes_S2048x8x1024_S8x2048x1024_1_0_2) bitsLt_bf16_f32

theorem ref_at (x0 : FVec Ideal S8192x2048 .bf16) (x1 : FVec Ideal S8192x8192 .bf16) (b : Fin 8) (r : Fin 2048) (l : Fin 1024) :
    refTerm x0 x1 (ix3 b r l) = ∑ k : Fin 8192, x0 (ix2 k r) * x1 (ix2 k ⟨b.val * 1024 + l.val, by omega⟩) := by
  unfold refTerm
  simp only [pointwise, zero_add]
  exact Finset.sum_congr rfl fun k _ => mul_comm _ _

end Cert.DwFf1RefIdeal.Grad

namespace Cert.DwFf1Ideal.Grad

open Cert.DwFf1Ideal Cert.DwFf1Ideal.Gen Cert.Blocks
open Idealize.ShloMosaic Idealize.ShloMosaic.TcCoe Idealize.SL.Sem
open Cert.DwFf1RefIdeal.Grad (refTerm ref_at)

variable (m : (ℓ : Loc nD τ sig) → Buf (Elt Ideal) ℓ) (c : Dev nD)

theorem results_eq : Value.G2 m c = refTerm (argA m c) (argB m c) := by
  funext i
  have hi : i = ix3 (i 0 : Fin 8) (i 1 : Fin 2048) (i 2 : Fin 1024) := by
    funext p
    match p with
    | ⟨0, _⟩ => rfl
    | ⟨1, _⟩ => rfl
    | ⟨2, _⟩ => rfl
  rw [hi]
  exact (result_at m c _ _ _).trans (ref_at _ _ _ _ _).symm

/-! ## The claims -/

/-- The body table printed for words is the one printed for extended reals, read at words. -/
theorem bodies : Cert.DwFf1.defs₀ (F := Bits) = defs₀ (F := Bits) := by
  unfold Cert.DwFf1.defs₀ defs₀
  congr 1
  funext l a
  match l, a with
  | ⟨0, _⟩, (t, s) => rfl

theorem frame_p : Cert.quiescent_DwFf1 := by
  intro m ρ _
  unfold Cert.DwFf1.defs
  rw [bodies]
  exact Gen.frame (F := Bits) m ρ

theorem frame_pi : Cert.quiescent_DwFf1Ideal :=
  fun m ρ _ => Gen.frame (F := Ideal) m ρ

theorem frame_ri : Cert.quiescent_DwFf1RefIdeal :=
  fun m ρ _ => (θ_run Cert.DwFf1RefIdeal.defs _ _).mono
    (fun r h => ⟨fun c => (h c).2, sem_eq_zero_of_no_sems (by decide) r.2⟩) (Cert.DwFf1RefIdeal.Value.run (F := Ideal) m ρ)

theorem preserves : Cert.preserves_DwFf1_DwFf1Ideal := trivial

theorem algebraic : Cert.algebraic_DwFf1Ideal_DwFf1RefIdeal := by
  intro m ρ m' ρ' _ hagree
  refine ⟨_, Value.run (F := Ideal) m ρ, ?_⟩
  refine (θ_run Cert.DwFf1RefIdeal.defs _ _).mono (fun _ h c => ⟨?_, (h c).2⟩) (Cert.DwFf1RefIdeal.Value.run (F := Ideal) m' ρ')
  refine (h c).1.trans ?_
  rw [(hagree c).1, (hagree c).2]
  exact (results_eq m c).symm

end Cert.DwFf1Ideal.Grad

end
-- ==== Proof.GradU.lean ====
/- The gradient of the hidden layer: the kernel's result array is the product of the output's gradient and the transposed second
   weight, times twice the positive part of the hidden layer, and so is the reference's. -/
module

public import proofs.«01_k».proof.Defs
public import proofs.«01_k».proof.Proof.Blocks
public import proofs.«01_k».proof.Proof.Gen.DUIdeal.Value
public import proofs.«01_k».proof.Proof.Gen.DU
public import proofs.«01_k».proof.Proof.Gen.DURefIdeal.Run
public import Idealize.ShloMosaic.Lib.VecWindow
public import Idealize.ShloMosaic.Lib.Tactic
public import Idealize.ShloMosaic.Lib.Quiescent

@[expose] public section

set_option maxRecDepth 16384

noncomputable section

namespace Cert.DUIdeal.Grad

open Cert.DUIdeal Cert.DUIdeal.Gen Cert.Blocks
open Idealize.ShloMosaic Idealize.ShloMosaic.TcCoe Idealize.SL.Sem

/-- What a point leaves in the result's block. -/
theorem out_A {F : FTy → Type} [FloatOps F] (c : Dev nD) (i : grid0.Coords) (a0 : Memref sig .tc .vmem S512x2048 .bf16) (h0 : a0.IsWhole)
    (a1 : Memref sig .tc .vmem S1024x2048 .bf16) (h1 : a1.IsWhole) (a2 : Memref sig .tc .vmem S512x1024 .bf16) (h2 : a2.IsWhole)
    (a3 : Memref sig .tc .vmem S512x1024 .bf16) (h3 : a3.IsWhole) (a4 : Memref sig .tc .vmem S512x1024 .f32) (h4 : a4.IsWhole)
    (hc0 : cond0_0 i) (hc1 : cond0_1 i) (x0 : Vec F S512x2048 .bf16) (x1 : Vec F S1024x2048 .bf16) (x2 : Vec F S512x1024 .bf16) :
    out0_A_3 c i a0 h0 a1 h1 a2 h2 a3 h3 a4 h4 hc0 hc1 x0 x1 x2 = k0_pay3 (k0_pay2 x0 (k0_pay1 (F := F)) x1) x2 := by
  unfold out0_A_3
  rw [View.read_writes_eq_canon _ _ _ (cover0_A_3 c i a0 h0 a1 h1 a2 h2 a3 h3 a4 h4 hc0 hc1 x0 x1 x2)]
  unfold kernelRun0_A
  dsimp only
  sl_unfold_words
  rw [View.canon_unit_zero hz]
  simp only [View.readCov_full (s := S512x1024), View.readCov_unit_zero (S := S512x1024) _ hz, View.readAt_eq_ld, h0.read_unread, h1.read_unread, h2.read_unread, View.ld_unit_zero (S := S512x2048) hz, View.ld_unit_zero (S := S1024x2048) hz, View.ld_unit_zero (S := S512x1024) hz]

theorem two_f32 : Ideal.ofBits .f32 0x40000000#32 = ((2 : ℝ) : EReal) := by
  simp [Ideal.ofBits, Ideal.ieee, -EReal.coe_mul]; norm_num

theorem entry_at (x0 : Vec Ideal S512x2048 .bf16) (x1 : Vec Ideal S1024x2048 .bf16) (x2 : Vec Ideal S512x1024 .bf16) (r : Fin 512) (l : Fin 1024) :
    k0_pay3 (k0_pay2 x0 (k0_pay1 (F := Ideal)) x1) x2 (ix2 r l)
      = (∑ k : Fin 2048, x0 (ix2 r k) * x1 (ix2 l k)) * (((2 : ℝ) : EReal) * max (x2 (ix2 r l)) 0) := by
  unfold k0_pay3 k0_pay2 k0_pay1
  simp only [pointwise, zero_add, two_f32]

/-! ## Which blocks a point reads and writes -/

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![t.val % 8, 0] :=
  (by decide +kernel : ∀ t : Fin grid0.N, win0_1.index t = ![t.val % 8, 0])
theorem index2 : ∀ t : Fin cfg0.N, win0_2.index t = ![t.val / 8, t.val % 8] :=
  (by decide +kernel : ∀ t : Fin grid0.N, win0_2.index t = ![t.val / 8, t.val % 8])
theorem index3 : ∀ t : Fin cfg0.N, win0_3.index t = ![t.val / 8, t.val % 8] :=
  (by decide +kernel : ∀ t : Fin grid0.N, win0_3.index t = ![t.val / 8, t.val % 8])
theorem flush3 : ∀ t : Fin cfg0.N, (cfg0.win 3).flush t = true :=
  (by decide +kernel : ∀ t : Fin grid0.N, win0_3.flush t = true)

variable (m : (ℓ : Loc nD τ sig) → Buf (Elt Ideal) ℓ) (c : Dev nD)

/-- The gradient of the output. -/
abbrev argA : FVec Ideal S8192x2048 .bf16 := m ((c.tc : Thread nD τ).loc main_arg0)

/-- The second weight. -/
abbrev argB : FVec Ideal S8192x2048 .bf16 := m ((c.tc : Thread nD τ).loc main_arg1)

/-- The hidden layer. -/
abbrev argU : FVec Ideal S8192x8192 .bf16 := m ((c.tc : Thread nD τ).loc main_arg2)

theorem read0 (t : Fin cfg0.N) (r : Fin 512) (k : Fin 2048) :
    (iblk m c 0 t : Vec Ideal S512x2048 .bf16) (ix2 r k) = at2 (argA m c) (t.val / 8 * 512 + r.val) k.val := by
  unfold iblk
  rw [View.read_apply]
  change argA m c _ = _
  have e := index0 t
  refine at2_val _ _ ?_ ?_
  · change win0_0.index t 0 * 512 + 1 * r.val = _
    rw [e, Nat.one_mul]
    rfl
  · change win0_0.index t 1 * 2048 + 1 * k.val = _
    rw [e]
    change 0 * 2048 + 1 * k.val = _
    omega

theorem read1 (t : Fin cfg0.N) (l : Fin 1024) (k : Fin 2048) :
    (iblk m c 1 t : Vec Ideal S1024x2048 .bf16) (ix2 l k) = at2 (argB m c) (t.val % 8 * 1024 + l.val) k.val := by
  unfold iblk
  rw [View.read_apply]
  change argB m c _ = _
  have e := index1 t
  refine at2_val _ _ ?_ ?_
  · change win0_1.index t 0 * 1024 + 1 * l.val = _
    rw [e, Nat.one_mul]
    rfl
  · change win0_1.index t 1 * 2048 + 1 * k.val = _
    rw [e]
    change 0 * 2048 + 1 * k.val = _
    omega

theorem read2 (t : Fin cfg0.N) (r : Fin 512) (l : Fin 1024) :
    (iblk m c 2 t : Vec Ideal S512x1024 .bf16) (ix2 r l) = at2 (argU m c) (t.val / 8 * 512 + r.val) (t.val % 8 * 1024 + l.val) := by
  unfold iblk
  rw [View.read_apply]
  change argU m c _ = _
  have e := index2 t
  refine at2_val _ _ ?_ ?_
  · change win0_2.index t 0 * 512 + 1 * r.val = _
    rw [e, Nat.one_mul]
    rfl
  · change win0_2.index t 1 * 1024 + 1 * l.val = _
    rw [e, Nat.one_mul]
    rfl

/-! ## The result arrays -/

/-- The kernel's result array. -/
abbrev result : FVec Ideal S8192x8192 .bf16 := (dats m 0 c).arrAt 3 cfg0.N

theorem result_at (r l : Fin 8192) : result m c (ix2 r l)
    = (∑ k : Fin 2048, argA m c (ix2 r k) * argB m c (ix2 l k)) * (((2 : ℝ) : EReal) * max (argU m c (ix2 r l)) 0) := by
  have hN : r.val / 512 * 8 + l.val / 1024 < cfg0.N := lt_of_lt_of_eq (by omega) N_0.symm
  have e := congrFun (Value.blocks3 m c ⟨_, hN⟩ (flush3 _)) (ix2 (⟨r.val % 512, by omega⟩ : Fin 512) (⟨l.val % 1024, by omega⟩ : Fin 1024))
  have ei := index3 ⟨_, hN⟩
  have er : r.val / 512 * 512 + r.val % 512 = r.val := by omega
  have el : l.val / 1024 * 1024 + l.val % 1024 = l.val := by omega
  have e1 : (r.val / 512 * 8 + l.val / 1024) / 8 = r.val / 512 := by omega
  have e2 : (r.val / 512 * 8 + l.val / 1024) % 8 = l.val / 1024 := by omega
  have hi : ((cfg0.win 3).blk ⟨_, hN⟩).view.emb (ix2 (⟨r.val % 512, by omega⟩ : Fin 512) (⟨l.val % 1024, by omega⟩ : Fin 1024)) = ix2 r l := by
    funext p
    apply Fin.ext
    match p with
    | ⟨0, _⟩ =>
      change win0_3.index ⟨_, hN⟩ 0 * 512 + 1 * (r.val % 512) = r.val
      rw [ei]
      change (r.val / 512 * 8 + l.val / 1024) / 8 * 512 + 1 * (r.val % 512) = r.val
      omega
    | ⟨1, _⟩ =>
      change win0_3.index ⟨_, hN⟩ 1 * 1024 + 1 * (l.val % 1024) = l.val
      rw [ei]
      change (r.val / 512 * 8 + l.val / 1024) % 8 * 1024 + 1 * (l.val % 1024) = l.val
      omega
  rw [View.read_apply, hi] at e
  refine e.trans ?_
  rw [Value.flushed3_A, out_A]
  refine (entry_at _ _ _ (⟨r.val % 512, by omega⟩ : Fin 512) (⟨l.val % 1024, by omega⟩ : Fin 1024)).trans ?_
  simp only [read0, read1, read2, e1, e2, er, el]
  rw [at2_val (argU m c) (ix2 r l) rfl rfl]
  congr 1
  exact Finset.sum_congr rfl fun k _ => by
    rw [at2_val (argA m c) (ix2 r k) rfl rfl, at2_val (argB m c) (ix2 l k) rfl rfl]
    rfl

end Cert.DUIdeal.Grad

namespace Cert.DURefIdeal.Grad

open Cert.DURefIdeal Cert.DURefIdeal.Gen
open Idealize.ShloMosaic Idealize.ShloMosaic.TcCoe Idealize.SL.Sem

/-- The array of zeros. -/
abbrev zeros : FVec Ideal S8192x8192 .f32 := broadcastInDim S8192x8192 ![] bcast_S_S8192x8192 (constant S_ .f32 0x00000000#32)

/-- The reference's result term. -/
abbrev refTerm (x0 x1 : FVec Ideal S8192x2048 .bf16) (x2 : FVec Ideal S8192x8192 .bf16) : FVec Ideal S8192x8192 .bf16 :=
  truncf .bf16 (select (cmpf .ogt (extf .f32 x2 bitsLt_bf16_f32) zeros)
    (mulf (Host.dotGeneral dot_S8192x2048_S8192x2048_S8192x8192_1_1_0_0_n_n none (extf .f32 x0 bitsLt_bf16_f32) (extf .f32 x1 bitsLt_bf16_f32))
      (mulf (broadcastInDim S8192x8192 ![] bcast_S_S8192x8192 (constant S_ .f32 0x40000000#32)) (maximumf (extf .f32 x2 bitsLt_bf16_f32) zeros)))
    zeros) bitsLt_bf16_f32

theorem ref_at (x0 x1 : FVec Ideal S8192x2048 .bf16) (x2 : FVec Ideal S8192x8192 .bf16) (r l : Fin 8192) :
    refTerm x0 x1 x2 (ix2 r l) = (∑ k : Fin 2048, x0 (ix2 r k) * x1 (ix2 l k)) * (((2 : ℝ) : EReal) * max (x2 (ix2 r l)) 0) := by
  unfold refTerm zeros
  simp only [pointwise, zero_add, Cert.DUIdeal.Grad.two_f32]
  by_cases h : 0 < x2 (ix2 r l)
  · rw [if_pos h]
  · rw [if_neg h, max_eq_right (not_lt.mp h), mul_zero, mul_zero]

end Cert.DURefIdeal.Grad

namespace Cert.DUIdeal.Grad

open Cert.DUIdeal Cert.DUIdeal.Gen Cert.Blocks
open Idealize.ShloMosaic Idealize.ShloMosaic.TcCoe Idealize.SL.Sem
open Cert.DURefIdeal.Grad (refTerm ref_at)

variable (m : (ℓ : Loc nD τ sig) → Buf (Elt Ideal) ℓ) (c : Dev nD)

theorem results_eq : result m c = refTerm (argA m c) (argB m c) (argU m c) := by
  exact ext2 fun _ _ => (result_at m c _ _).trans (ref_at _ _ _ _ _).symm

/-! ## The claims -/

/-- The body table printed for words is the one printed for extended reals, read at words. -/
theorem bodies : Cert.DU.defs₀ (F := Bits) = defs₀ (F := Bits) := by
  unfold Cert.DU.defs₀ defs₀
  congr 1
  funext l a
  match l, a with
  | ⟨0, _⟩, (t, s) => rfl

theorem frame_p : Cert.quiescent_DU := by
  intro m ρ _
  unfold Cert.DU.defs
  rw [bodies]
  exact Gen.frame (F := Bits) m ρ

theorem frame_pi : Cert.quiescent_DUIdeal :=
  fun m ρ _ => Gen.frame (F := Ideal) m ρ

theorem frame_ri : Cert.quiescent_DURefIdeal :=
  fun m ρ _ => (θ_run Cert.DURefIdeal.defs _ _).mono
    (fun r h => ⟨fun c => (h c).2, sem_eq_zero_of_no_sems (by decide) r.2⟩) (Cert.DURefIdeal.Value.run (F := Ideal) m ρ)

theorem preserves : Cert.preserves_DU_DUIdeal := trivial

theorem algebraic : Cert.algebraic_DUIdeal_DURefIdeal := by
  intro m ρ m' ρ' _ hagree
  refine ⟨_, Value.run_blocks (F := Ideal) m ρ, ?_⟩
  refine (θ_run Cert.DURefIdeal.defs _ _).mono (fun _ h c => ⟨?_, (h c).2⟩) (Cert.DURefIdeal.Value.run (F := Ideal) m' ρ')
  refine (h c).1.trans ?_
  rw [(hagree c).1, (hagree c).2.1, (hagree c).2.2]
  exact (results_eq m c).symm

end Cert.DUIdeal.Grad

end
-- ==== Proof.GradFf2.lean ====
/- The gradient of the second feed-forward weight: the kernel's result array is the product of the transposed squared ReLU of
   the hidden layer and the gradient of the output, and so is the reference's. -/
module

public import proofs.«01_k».proof.Defs
public import proofs.«01_k».proof.Proof.Blocks
public import proofs.«01_k».proof.Proof.Gen.DwFf2Ideal.Value
public import proofs.«01_k».proof.Proof.Gen.DwFf2
public import proofs.«01_k».proof.Proof.Gen.DwFf2RefIdeal.Run
public import Idealize.ShloMosaic.Lib.Tactic
public import Idealize.ShloMosaic.Lib.Quiescent

@[expose] public section

set_option maxRecDepth 16384

noncomputable section

namespace Cert.DwFf2Ideal.Grad

open Cert.DwFf2Ideal Cert.DwFf2Ideal.Gen Cert.Blocks
open Idealize.ShloMosaic Idealize.ShloMosaic.TcCoe Idealize.SL.Sem

/-! ## What a point leaves -/

section Cases

variable {F : FTy → Type} [FloatOps F]
variable (c : Dev nD) (i : grid0.Coords) (a0 : Memref sig .tc .vmem S2048x512 .bf16) (h0 : a0.IsWhole)
  (a1 : Memref sig .tc .vmem S2048x1024 .bf16) (h1 : a1.IsWhole) (a2 : Memref sig .tc .vmem S512x1024 .bf16) (h2 : a2.IsWhole)
  (a3 : Memref sig .tc .vmem S512x1024 .f32) (h3 : a3.IsWhole)
  (x0 : Vec F S2048x512 .bf16) (x1 : Vec F S2048x1024 .bf16) (xs : Vec F S512x1024 .f32)

theorem acc_A (hc0 : cond0_0 i) (hc1 : ¬cond0_1 i) :
    sout0_A_0 c i a0 h0 a1 h1 a2 h2 a3 h3 hc0 hc1 x0 x1 = k0_pay2 x0 (k0_pay1 (F := F)) x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S512x1024) hz, View.readCov_unit_zero (S := S512x1024) _ hz]
  simp only [View.readAt_eq_ld, h0.read_unread, h1.read_unread, View.ld_unit_zero (S := S2048x512) hz, View.ld_unit_zero (S := S2048x1024) hz]

theorem acc_B (hc0 : ¬cond0_0 i) (hc1 : ¬cond0_1 i) :
    sout0_B_0 c i a0 h0 a1 h1 a2 h2 a3 h3 hc0 hc1 x0 x1 xs = k0_pay2 x0 xs x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero hz]
  simp only [View.readAt_eq_ld, h0.read_unread, h1.read_unread, h3.read_unread, View.ld_unit_zero (S := S2048x512) hz, View.ld_unit_zero (S := S2048x1024) hz, View.ld_unit_zero (S := S512x1024) hz]

theorem acc_C (hc0 : ¬cond0_0 i) (hc1 : cond0_1 i) :
    sout0_C_0 c i a0 h0 a1 h1 a2 h2 a3 h3 hc0 hc1 x0 x1 xs = k0_pay2 x0 xs x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero hz]
  simp only [View.readAt_eq_ld, h0.read_unread, h1.read_unread, h3.read_unread, View.ld_unit_zero (S := S2048x512) hz, View.ld_unit_zero (S := S2048x1024) hz, View.ld_unit_zero (S := S512x1024) hz]

theorem out_C (hc0 : ¬cond0_0 i) (hc1 : cond0_1 i) :
    out0_C_2 c i a0 h0 a1 h1 a2 h2 a3 h3 hc0 hc1 x0 x1 xs = k0_pay3 (k0_pay2 x0 xs x1) := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero hz, View.readCov_unit_zero (S := S512x1024) _ hz]
  simp only [View.readAt_eq_ld, h0.read_unread, h1.read_unread, h3.read_unread, View.ld_unit_zero (S := S2048x512) hz, View.ld_unit_zero (S := S2048x1024) hz, View.ld_unit_zero (S := S512x1024) hz]

end Cases

/-! ## Entries -/

theorem zero_at (y : S512x1024.Idx) : k0_pay1 (F := Ideal) y = 0 := by
  unfold k0_pay1
  simp only [pointwise]

theorem step_at (x0 : Vec Ideal S2048x512 .bf16) (xs : Vec Ideal S512x1024 .f32) (x1 : Vec Ideal S2048x1024 .bf16) (r : Fin 512) (l : Fin 1024) :
    k0_pay2 x0 xs x1 (ix2 r l) = xs (ix2 r l) + ∑ k : Fin 2048, sqr (x0 (ix2 k r)) * x1 (ix2 k l) := by
  unfold k0_pay2 sqr
  simp only [pointwise, zero_add]

theorem last_at (x : Vec Ideal S512x1024 .f32) (r : Fin 512) (l : Fin 1024) : k0_pay3 x (ix2 r l) = x (ix2 r l) := by
  unfold k0_pay3
  simp only [pointwise]

/-! ## Which blocks a point reads -/

theorem index0 : ∀ t : Fin cfg0.N, win0_0.index t = ![t.val % 4, t.val / 4 / 2] :=
  (by decide +kernel : ∀ t : Fin grid0.N, win0_0.index t = ![t.val % 4, t.val / 4 / 2])
theorem index1 : ∀ t : Fin cfg0.N, win0_1.index t = ![t.val % 4, t.val / 4 % 2] :=
  (by decide +kernel : ∀ t : Fin grid0.N, win0_1.index t = ![t.val % 4, t.val / 4 % 2])

variable (m : (ℓ : Loc nD τ sig) → Buf (Elt Ideal) ℓ) (c : Dev nD)

/-- The kernel's first argument. -/
abbrev argA : FVec Ideal S8192x8192 .bf16 := m ((c.tc : Thread nD τ).loc main_arg0)

/-- The kernel's second argument. -/
abbrev argB : FVec Ideal S8192x2048 .bf16 := m ((c.tc : Thread nD τ).loc main_arg1)

theorem read0 (t : Fin cfg0.N) (k : Fin 2048) (r : Fin 512) :
    (iblk m c 0 t : Vec Ideal S2048x512 .bf16) (ix2 k r) = at2 (argA m c) (t.val % 4 * 2048 + k.val) (t.val / 4 / 2 * 512 + r.val) := by
  unfold iblk
  rw [View.read_apply]
  change argA m c _ = _
  have e := index0 t
  refine at2_val _ _ ?_ ?_
  · change win0_0.index t 0 * 2048 + 1 * k.val = _
    rw [e, Nat.one_mul]
    rfl
  · change win0_0.index t 1 * 512 + 1 * r.val = _
    rw [e, Nat.one_mul]
    rfl

theorem read1 (t : Fin cfg0.N) (k : Fin 2048) (l : Fin 1024) :
    (iblk m c 1 t : Vec Ideal S2048x1024 .bf16) (ix2 k l) = at2 (argB m c) (t.val % 4 * 2048 + k.val) (t.val / 4 % 2 * 1024 + l.val) := by
  unfold iblk
  rw [View.read_apply]
  change argB m c _ = _
  have e := index1 t
  refine at2_val _ _ ?_ ?_
  · change win0_1.index t 0 * 2048 + 1 * k.val = _
    rw [e, Nat.one_mul]
    rfl
  · change win0_1.index t 1 * 1024 + 1 * l.val = _
    rw [e, Nat.one_mul]
    rfl

/-! ## The running sum -/

/-- The products that tile `g` of the result sums, at row `y.1` and column `y.2` of the tile. -/
def term (g : ℕ) (y : Fin 512 × Fin 1024) (k : ℕ) : EReal :=
  sqr (at2 (argA m c) k (g / 2 * 512 + y.1.val)) * at2 (argB m c) k (g % 2 * 1024 + y.2.val)

theorem step_term (t : Fin cfg0.N) (xs : Vec Ideal S512x1024 .f32) (r : Fin 512) (l : Fin 1024) :
    k0_pay2 (iblk m c 0 t : Vec Ideal S2048x512 .bf16) xs (iblk m c 1 t : Vec Ideal S2048x1024 .bf16) (ix2 r l)
      = xs (ix2 r l) + ∑ k : Fin 2048, term m c (t.val / 4) (r, l) (t.val % 4 * 2048 + k.val) := by
  rw [step_at]
  simp only [read0, read1]
  rfl

theorem acc_first (t : Fin cfg0.N) (h : t.val % 4 = 0) (r : Fin 512) (l : Fin 1024) :
    (outsAt0 m c t.val t.isLt).2 (ix2 r l) = ∑ k : Fin 2048, term m c (t.val / 4) (r, l) (t.val % 4 * 2048 + k.val) := by
  rw [outsAt0_A m c t h (by omega)]
  dsimp only
  rw [acc_A, step_term, zero_at, zero_add]

theorem acc_next (n : ℕ) (hn : n + 1 < cfg0.N) (h : ¬(n + 1) % 4 = 0) (r : Fin 512) (l : Fin 1024) :
    (outsAt0 m c (n + 1) hn).2 (ix2 r l) = (outsAt0 m c n (Nat.lt_of_succ_lt hn)).2 (ix2 r l)
      + ∑ k : Fin 2048, term m c ((n + 1) / 4) (r, l) ((n + 1) % 4 * 2048 + k.val) := by
  by_cases h1 : (n + 1) % 4 = 3
  · have e := outsAt0_C m c ⟨n + 1, hn⟩ h h1
    dsimp only at e
    rw [e]
    dsimp only
    rw [acc_C, step_term]
    rfl
  · have e := outsAt0_B m c ⟨n + 1, hn⟩ h h1
    dsimp only at e
    rw [e]
    dsimp only
    rw [acc_B, step_term]
    rfl

theorem acc_at (n : ℕ) (hn : n < cfg0.N) (r : Fin 512) (l : Fin 1024) :
    (outsAt0 m c n hn).2 (ix2 r l) = ∑ k ∈ Finset.range ((n % 4 + 1) * 2048), term m c (n / 4) (r, l) k :=
  acc_sum (d := 4) (w := 2048) (by decide) (fun n h y => (outsAt0 m c n h).2 (ix2 y.1 y.2)) (term m c)
    (fun n h y h0 => acc_first m c ⟨n, h⟩ h0 y.1 y.2) (fun n h y h0 => acc_next m c n h h0 y.1 y.2) n hn (r, l)

theorem out_at (t : Fin cfg0.N) (h : t.val % 4 = 3) (r : Fin 512) (l : Fin 1024) :
    (outsAt0 m c t.val t.isLt).1 (ix2 r l) = ∑ k ∈ Finset.range 8192, term m c (t.val / 4) (r, l) k := by
  have e := acc_at m c t.val t.isLt r l
  rw [h, outsAt0_C m c t (by omega) h] at e
  dsimp only at e
  rw [acc_C] at e
  rw [outsAt0_C m c t (by omega) h]
  dsimp only
  rw [out_C, last_at, e]

/-! ## The result arrays -/

theorem result_at (r : Fin 8192) (l : Fin 2048) :
    Value.G2 m c (ix2 r l) = ∑ k : Fin 8192, sqr (argA m c (ix2 k r)) * argB m c (ix2 k l) := by
  have hp : Value.pt2Of (ix2 r l) = 4 * (2 * (r.val / 512 - 0) + 1 * (l.val / 1024 - 0)) + 3 := rfl
  have hN : Value.pt2Of (ix2 r l) < cfg0.N := lt_of_lt_of_eq (by rw [hp]; omega) N_0.symm
  have e := out_at m c ⟨_, hN⟩ (by dsimp only; rw [hp]; omega) ⟨r.val % 512, by omega⟩ ⟨l.val % 1024, by omega⟩
  unfold Value.G2
  rw [dif_pos hN, ← Value.outsAt0_sweep m c _ hN]
  have hl : Value.loc2Of (ix2 r l) = ix2 (⟨r.val % 512, by omega⟩ : Fin 512) (⟨l.val % 1024, by omega⟩ : Fin 1024) := by
    funext p
    match p with
    | ⟨0, _⟩ => rfl
    | ⟨1, _⟩ => rfl
  rw [hl]
  refine e.trans ?_
  rw [Finset.sum_range]
  refine Finset.sum_congr rfl fun k _ => ?_
  unfold term
  rw [at2_val (argA m c) (ix2 k r) rfl rfl, at2_val (argB m c) (ix2 k l) rfl rfl]
  dsimp only
  rw [hp]
  congr 2
  · congr 1
    change _ = r.val
    omega
  · change _ = l.val
    omega

end Cert.DwFf2Ideal.Grad

namespace Cert.DwFf2RefIdeal.Grad

open Cert.DwFf2RefIdeal Cert.DwFf2RefIdeal.Gen
open Idealize.ShloMosaic Idealize.ShloMosaic.TcCoe Idealize.SL.Sem
open Cert.Blocks (sqr)

/-- The squared positive parts, entry by entry. -/
abbrev reluTerm (x0 : FVec Ideal S8192x8192 .bf16) : FVec Ideal S8192x8192 .f32 :=
  maximumf (extf .f32 x0 bitsLt_bf16_f32) (broadcastInDim S8192x8192 ![] bcast_S_S8192x8192 (constant S_ .f32 0x00000000#32))

/-- The reference's result term. -/
abbrev refTerm (x0 : FVec Ideal S8192x8192 .bf16) (x1 : FVec Ideal S8192x2048 .bf16) : FVec Ideal S8192x2048 .bf16 :=
  truncf .bf16 (transpose S8192x2048 [1, 0] (Host.dotGeneral dot_S8192x2048_S8192x8192_S2048x8192_0_0_1_1_n_n none
    (extf .f32 x1 bitsLt_bf16_f32) (mulf (reluTerm x0) (reluTerm x0))) transposes_S2048x8192_S8192x2048_1_0) bitsLt_bf16_f32

theorem ref_at (x0 : FVec Ideal S8192x8192 .bf16) (x1 : FVec Ideal S8192x2048 .bf16) (r : Fin 8192) (l : Fin 2048) :
    refTerm x0 x1 (ix2 r l) = ∑ k : Fin 8192, sqr (x0 (ix2 k r)) * x1 (ix2 k l) := by
  unfold refTerm reluTerm
  simp only [pointwise, zero_add]
  exact Finset.sum_congr rfl fun k _ => mul_comm _ _

end Cert.DwFf2RefIdeal.Grad

namespace Cert.DwFf2Ideal.Grad

open Cert.DwFf2Ideal Cert.DwFf2Ideal.Gen Cert.Blocks
open Idealize.ShloMosaic Idealize.ShloMosaic.TcCoe Idealize.SL.Sem
open Cert.DwFf2RefIdeal.Grad (refTerm ref_at)

variable (m : (ℓ : Loc nD τ sig) → Buf (Elt Ideal) ℓ) (c : Dev nD)

theorem results_eq : Value.G2 m c = refTerm (argA m c) (argB m c) := by
  exact ext2 fun _ _ => (result_at m c _ _).trans (ref_at _ _ _ _).symm

/-! ## The claims -/

/-- The body table printed for words is the one printed for extended reals, read at words. -/
theorem bodies : Cert.DwFf2.defs₀ (F := Bits) = defs₀ (F := Bits) := by
  unfold Cert.DwFf2.defs₀ defs₀
  congr 1
  funext l a
  match l, a with
  | ⟨0, _⟩, (t, s) => rfl

theorem frame_p : Cert.quiescent_DwFf2 := by
  intro m ρ _
  unfold Cert.DwFf2.defs
  rw [bodies]
  exact Gen.frame (F := Bits) m ρ

theorem frame_pi : Cert.quiescent_DwFf2Ideal :=
  fun m ρ _ => Gen.frame (F := Ideal) m ρ

theorem frame_ri : Cert.quiescent_DwFf2RefIdeal :=
  fun m ρ _ => (θ_run Cert.DwFf2RefIdeal.defs _ _).mono
    (fun r h => ⟨fun c => (h c).2, sem_eq_zero_of_no_sems (by decide) r.2⟩) (Cert.DwFf2RefIdeal.Value.run (F := Ideal) m ρ)

theorem preserves : Cert.preserves_DwFf2_DwFf2Ideal := trivial

theorem algebraic : Cert.algebraic_DwFf2Ideal_DwFf2RefIdeal := by
  intro m ρ m' ρ' _ hagree
  refine ⟨_, Value.run (F := Ideal) m ρ, ?_⟩
  refine (θ_run Cert.DwFf2RefIdeal.defs _ _).mono (fun _ h c => ⟨?_, (h c).2⟩) (Cert.DwFf2RefIdeal.Value.run (F := Ideal) m' ρ')
  refine (h c).1.trans ?_
  rw [(hagree c).1, (hagree c).2]
  exact (results_eq m c).symm

end Cert.DwFf2Ideal.Grad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.DwFf2Ideal.Frame
public import proofs.«01_k».proof.Proof.Gen.DwFf2Ideal.Value
public import proofs.«01_k».proof.Proof.Gen.DwFf2
public import proofs.«01_k».proof.Proof.Gen.DwFf2RefIdeal.Run
public import proofs.«01_k».proof.Proof.Gen.DUIdeal.Frame
public import proofs.«01_k».proof.Proof.Gen.DUIdeal.Value
public import proofs.«01_k».proof.Proof.Gen.DU
public import proofs.«01_k».proof.Proof.Gen.DURefIdeal.Run
public import proofs.«01_k».proof.Proof.Gen.DwFf1Ideal.Frame
public import proofs.«01_k».proof.Proof.Gen.DwFf1Ideal.Value
public import proofs.«01_k».proof.Proof.Gen.DwFf1
public import proofs.«01_k».proof.Proof.Gen.DwFf1RefIdeal.Run
public import proofs.«01_k».proof.Proof.Gen.DH2Ideal.Frame
public import proofs.«01_k».proof.Proof.Gen.DH2Ideal.Value
public import proofs.«01_k».proof.Proof.Gen.DH2
public import proofs.«01_k».proof.Proof.Gen.DH2RefIdeal.Run
public import proofs.«01_k».proof.Proof.Algebra
public import proofs.«01_k».proof.Proof.MlstmPostBwdRef
public import proofs.«01_k».proof.Proof.MlstmPost
public import proofs.«01_k».proof.Proof.LossHead
public import proofs.«01_k».proof.Proof.UpdateTiny
public import proofs.«01_k».proof.Proof.UpdateSmall
public import proofs.«01_k».proof.Proof.UpdateAda
public import proofs.«01_k».proof.Proof.NormForward
public import proofs.«01_k».proof.Proof.AdaFwd
public import proofs.«01_k».proof.Proof.AdaGrad
public import proofs.«01_k».proof.Proof.ForwardClaims
public import proofs.«01_k».proof.Proof.UpdateFf2
public import proofs.«01_k».proof.Proof.UpdateFf1
public import proofs.«01_k».proof.Proof.UpdateOut
public import proofs.«01_k».proof.Proof.UpdateIn
public import proofs.«01_k».proof.Proof.GradNormMlp
public import proofs.«01_k».proof.Proof.GradNormMix
public import proofs.«01_k».proof.Proof.GradH
public import proofs.«01_k».proof.Proof.GradWIn
public import proofs.«01_k».proof.Proof.GradCat
public import proofs.«01_k».proof.Proof.GradWOut
public import proofs.«01_k».proof.Proof.Ff2Forward
public import proofs.«01_k».proof.Proof.Ff1Forward
public import proofs.«01_k».proof.Proof.OutForward
public import proofs.«01_k».proof.Proof.InForward
public import proofs.«01_k».proof.Proof.GradH2
public import proofs.«01_k».proof.Proof.GradFf1
public import proofs.«01_k».proof.Proof.GradU
public import proofs.«01_k».proof.Proof.GradFf2
public import proofs.«01_k».proof.Proof.Gen.ProjInIdeal.Frame
public import proofs.«01_k».proof.Proof.Gen.ProjInIdeal.Value
public import proofs.«01_k».proof.Proof.Gen.ProjIn
public import proofs.«01_k».proof.Proof.Gen.ProjInRefIdeal.Run
public import proofs.«01_k».proof.Proof.Gen.ProjOutIdeal.Frame
public import proofs.«01_k».proof.Proof.Gen.ProjOutIdeal.Value
public import proofs.«01_k».proof.Proof.Gen.ProjOut
public import proofs.«01_k».proof.Proof.Gen.ProjOutRefIdeal.Run
public import proofs.«01_k».proof.Proof.Gen.Ff1Ideal.Frame
public import proofs.«01_k».proof.Proof.Gen.Ff1Ideal.Value
public import proofs.«01_k».proof.Proof.Gen.Ff1
public import proofs.«01_k».proof.Proof.Gen.Ff1RefIdeal.Run
public import proofs.«01_k».proof.Proof.Gen.Ff2Ideal.Frame
public import proofs.«01_k».proof.Proof.Gen.Ff2Ideal.Value
public import proofs.«01_k».proof.Proof.Gen.Ff2
public import proofs.«01_k».proof.Proof.Gen.Ff2RefIdeal.Run
public import proofs.«01_k».proof.Proof.Gen.DwOutIdeal.Frame
public import proofs.«01_k».proof.Proof.Gen.DwOutIdeal.Value
public import proofs.«01_k».proof.Proof.Gen.DwOut
public import proofs.«01_k».proof.Proof.Gen.DwOutRefIdeal.Run
public import proofs.«01_k».proof.Proof.Gen.DCatIdeal.Frame
public import proofs.«01_k».proof.Proof.Gen.DCatIdeal.Value
public import proofs.«01_k».proof.Proof.Gen.DCat
public import proofs.«01_k».proof.Proof.Gen.DCatRefIdeal.Run
public import proofs.«01_k».proof.Proof.Gen.DwInIdeal.Frame
public import proofs.«01_k».proof.Proof.Gen.DwInIdeal.Value
public import proofs.«01_k».proof.Proof.Gen.DwIn
public import proofs.«01_k».proof.Proof.Gen.DwInRefIdeal.Run
public import proofs.«01_k».proof.Proof.Gen.DHIdeal.Frame
public import proofs.«01_k».proof.Proof.Gen.DHIdeal.Value
public import proofs.«01_k».proof.Proof.Gen.DH
public import proofs.«01_k».proof.Proof.Gen.DHRefIdeal.Run
public import proofs.«01_k».proof.Proof.Gen.NormMixIdeal.Frame
public import proofs.«01_k».proof.Proof.Gen.NormMixIdeal.Value
public import proofs.«01_k».proof.Proof.Gen.NormMix
public import proofs.«01_k».proof.Proof.Gen.NormMixRefIdeal.Run
public import proofs.«01_k».proof.Proof.Gen.NormMlpIdeal.Frame
public import proofs.«01_k».proof.Proof.Gen.NormMlpIdeal.Value
public import proofs.«01_k».proof.Proof.Gen.NormMlp
public import proofs.«01_k».proof.Proof.Gen.NormMlpRefIdeal.Run
public import proofs.«01_k».proof.Proof.Gen.NormMixFwdIdeal.Frame
public import proofs.«01_k».proof.Proof.Gen.NormMixFwdIdeal.Value
public import proofs.«01_k».proof.Proof.Gen.NormMixFwd
public import proofs.«01_k».proof.Proof.Gen.NormMixFwdRefIdeal.Run
public import proofs.«01_k».proof.Proof.Gen.NormMlpFwdIdeal.Frame
public import proofs.«01_k».proof.Proof.Gen.NormMlpFwdIdeal.Value
public import proofs.«01_k».proof.Proof.Gen.NormMlpFwd
public import proofs.«01_k».proof.Proof.Gen.NormMlpFwdRefIdeal.Run
public import proofs.«01_k».proof.Proof.Gen.AdaFwdIdeal.Frame
public import proofs.«01_k».proof.Proof.Gen.AdaFwdIdeal.Value
public import proofs.«01_k».proof.Proof.Gen.AdaFwd
public import proofs.«01_k».proof.Proof.Gen.AdaFwdRefIdeal.Run
public import proofs.«01_k».proof.Proof.Gen.AdaGradIdeal.Frame
public import proofs.«01_k».proof.Proof.Gen.AdaGradIdeal.Value
public import proofs.«01_k».proof.Proof.Gen.AdaGrad
public import proofs.«01_k».proof.Proof.Gen.AdaGradRefIdeal.Run
public import proofs.«01_k».proof.Proof.Gen.AdamAdaIdeal.Frame
public import proofs.«01_k».proof.Proof.Gen.AdamAdaIdeal.Value
public import proofs.«01_k».proof.Proof.Gen.AdamAda
public import proofs.«01_k».proof.Proof.Gen.AdamAdaRefIdeal.Run
public import proofs.«01_k».proof.Proof.Gen.AdamSmallIdeal.Frame
public import proofs.«01_k».proof.Proof.Gen.AdamSmallIdeal.Value
public import proofs.«01_k».proof.Proof.Gen.AdamSmall
public import proofs.«01_k».proof.Proof.Gen.AdamSmallRefIdeal.Run
public import proofs.«01_k».proof.Proof.Gen.AdamTinyIdeal.Frame
public import proofs.«01_k».proof.Proof.Gen.AdamTinyIdeal.Value
public import proofs.«01_k».proof.Proof.Gen.AdamTiny
public import proofs.«01_k».proof.Proof.Gen.AdamTinyRefIdeal.Run
public import proofs.«01_k».proof.Proof.Gen.LossIdeal.Frame
public import proofs.«01_k».proof.Proof.Gen.LossIdeal.Value
public import proofs.«01_k».proof.Proof.Gen.Loss
public import proofs.«01_k».proof.Proof.Gen.LossRefIdeal.Run
public import proofs.«01_k».proof.Proof.Gen.MlstmPostIdeal.Frame
public import proofs.«01_k».proof.Proof.Gen.MlstmPostBwdIdeal.Frame
public import proofs.«01_k».proof.Proof.Gen.MlstmPostIdeal.Value
public import proofs.«01_k».proof.Proof.Gen.MlstmPostBwdIdeal.Value
public import proofs.«01_k».proof.Proof.Gen.MlstmPost
public import proofs.«01_k».proof.Proof.Gen.MlstmPostBwd
public import proofs.«01_k».proof.Proof.Gen.MlstmPostRefIdeal.Run
public import proofs.«01_k».proof.Proof.Gen.MlstmPostBwdRefIdeal.Run
public import proofs.«01_k».proof.Proof.Gen.FwdIdeal.Frame
public import proofs.«01_k».proof.Proof.Gen.FwdIdeal.Value
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.Fwd
public import proofs.«01_k».proof.Proof.Gen.FwdRefIdeal.Run
public import proofs.«01_k».proof.Proof.Gen.Pre_finite_scores
public import proofs.«01_k».proof.Proof.Gen.AdamInIdeal.Frame
public import proofs.«01_k».proof.Proof.Gen.AdamInIdeal.Value
public import proofs.«01_k».proof.Proof.Gen.AdamIn
public import proofs.«01_k».proof.Proof.Gen.AdamInRefIdeal.Run
public import proofs.«01_k».proof.Proof.Gen.AdamOutIdeal.Frame
public import proofs.«01_k».proof.Proof.Gen.AdamOutIdeal.Value
public import proofs.«01_k».proof.Proof.Gen.AdamOut
public import proofs.«01_k».proof.Proof.Gen.AdamOutRefIdeal.Run
public import proofs.«01_k».proof.Proof.Gen.AdamFf1Ideal.Frame
public import proofs.«01_k».proof.Proof.Gen.AdamFf1Ideal.Value
public import proofs.«01_k».proof.Proof.Gen.AdamFf1
public import proofs.«01_k».proof.Proof.Gen.AdamFf1RefIdeal.Run
public import proofs.«01_k».proof.Proof.Gen.AdamFf2Ideal.Frame
public import proofs.«01_k».proof.Proof.Gen.AdamFf2Ideal.Value
public import proofs.«01_k».proof.Proof.Gen.AdamFf2
public import proofs.«01_k».proof.Proof.Gen.AdamFf2RefIdeal.Run
public import Idealize.ShloMosaic.Adequacy
public import Idealize.ShloMosaic.Init

@[expose] public section

noncomputable section

namespace Cert.Proof

open Idealize.ShloMosaic Idealize.SL.Sem Cert.Kernel

/-- The claims of the attention's backward and forward calls, of the step's products by its large weights, forward and backward, of its
    two norms, forward and backward, of the modulation and its weight's gradient, of the loss head, of the mLSTM's last
    call, forward and backward, and of the optimiser's step on the weights. -/
theorem claim : Cert.Claim := ⟨Cert.Kernel.Gen.facts, Cert.KernelIdeal.Gen.facts, Cert.ReferenceIdeal.Gen.facts,
  Cert.DwFf2.Gen.facts, Cert.DwFf2Ideal.Gen.facts, Cert.DwFf2RefIdeal.Gen.facts,
  Cert.DU.Gen.facts, Cert.DUIdeal.Gen.facts, Cert.DURefIdeal.Gen.facts,
  Cert.DwFf1.Gen.facts, Cert.DwFf1Ideal.Gen.facts, Cert.DwFf1RefIdeal.Gen.facts,
  Cert.DH2.Gen.facts, Cert.DH2Ideal.Gen.facts, Cert.DH2RefIdeal.Gen.facts,
  Cert.ProjIn.Gen.facts, Cert.ProjInIdeal.Gen.facts, Cert.ProjInRefIdeal.Gen.facts,
  Cert.ProjOut.Gen.facts, Cert.ProjOutIdeal.Gen.facts, Cert.ProjOutRefIdeal.Gen.facts,
  Cert.Ff1.Gen.facts, Cert.Ff1Ideal.Gen.facts, Cert.Ff1RefIdeal.Gen.facts,
  Cert.Ff2.Gen.facts, Cert.Ff2Ideal.Gen.facts, Cert.Ff2RefIdeal.Gen.facts,
  Cert.DwOut.Gen.facts, Cert.DwOutIdeal.Gen.facts, Cert.DwOutRefIdeal.Gen.facts,
  Cert.DCat.Gen.facts, Cert.DCatIdeal.Gen.facts, Cert.DCatRefIdeal.Gen.facts,
  Cert.DwIn.Gen.facts, Cert.DwInIdeal.Gen.facts, Cert.DwInRefIdeal.Gen.facts,
  Cert.DH.Gen.facts, Cert.DHIdeal.Gen.facts, Cert.DHRefIdeal.Gen.facts,
  Cert.NormMix.Gen.facts, Cert.NormMixIdeal.Gen.facts, Cert.NormMixRefIdeal.Gen.facts,
  Cert.NormMlp.Gen.facts, Cert.NormMlpIdeal.Gen.facts, Cert.NormMlpRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamFf1.Gen.facts, Cert.AdamFf1Ideal.Gen.facts, Cert.AdamFf1RefIdeal.Gen.facts,
  Cert.AdamFf2.Gen.facts, Cert.AdamFf2Ideal.Gen.facts, Cert.AdamFf2RefIdeal.Gen.facts,
  Cert.Fwd.Gen.facts, Cert.FwdIdeal.Gen.facts, Cert.FwdRefIdeal.Gen.facts,
  Cert.NormMixFwd.Gen.facts, Cert.NormMixFwdIdeal.Gen.facts, Cert.NormMixFwdRefIdeal.Gen.facts,
  Cert.NormMlpFwd.Gen.facts, Cert.NormMlpFwdIdeal.Gen.facts, Cert.NormMlpFwdRefIdeal.Gen.facts,
  Cert.AdaFwd.Gen.facts, Cert.AdaFwdIdeal.Gen.facts, Cert.AdaFwdRefIdeal.Gen.facts,
  Cert.AdaGrad.Gen.facts, Cert.AdaGradIdeal.Gen.facts, Cert.AdaGradRefIdeal.Gen.facts,
  Cert.AdamAda.Gen.facts, Cert.AdamAdaIdeal.Gen.facts, Cert.AdamAdaRefIdeal.Gen.facts,
  Cert.AdamSmall.Gen.facts, Cert.AdamSmallIdeal.Gen.facts, Cert.AdamSmallRefIdeal.Gen.facts,
  Cert.AdamTiny.Gen.facts, Cert.AdamTinyIdeal.Gen.facts, Cert.AdamTinyRefIdeal.Gen.facts,
  Cert.Loss.Gen.facts, Cert.LossIdeal.Gen.facts, Cert.LossRefIdeal.Gen.facts,
  Cert.MlstmPost.Gen.facts, Cert.MlstmPostIdeal.Gen.facts, Cert.MlstmPostRefIdeal.Gen.facts,
  Cert.MlstmPostBwd.Gen.facts, Cert.MlstmPostBwdIdeal.Gen.facts, Cert.MlstmPostBwdRefIdeal.Gen.facts,
  Cert.Pre_finite.Gen.facts, Cert.Pre_finite_scores.Gen.facts,
  Claims.frame_p, Claims.frame_pi, Claims.frame_pi_finite, Claims.frame_ri, Claims.frame_ri_finite,
  Cert.DwFf2Ideal.Grad.frame_p, Cert.DwFf2Ideal.Grad.frame_pi, Cert.DwFf2Ideal.Grad.frame_ri,
  Cert.DUIdeal.Grad.frame_p, Cert.DUIdeal.Grad.frame_pi, Cert.DUIdeal.Grad.frame_ri,
  Cert.DwFf1Ideal.Grad.frame_p, Cert.DwFf1Ideal.Grad.frame_pi, Cert.DwFf1Ideal.Grad.frame_ri,
  Cert.DH2Ideal.Grad.frame_p, Cert.DH2Ideal.Grad.frame_pi, Cert.DH2Ideal.Grad.frame_ri,
  Cert.ProjInIdeal.Product.frame_p, Cert.ProjInIdeal.Product.frame_pi, Cert.ProjInIdeal.Product.frame_ri,
  Cert.ProjOutIdeal.Product.frame_p, Cert.ProjOutIdeal.Product.frame_pi, Cert.ProjOutIdeal.Product.frame_ri,
  Cert.Ff1Ideal.Product.frame_p, Cert.Ff1Ideal.Product.frame_pi, Cert.Ff1Ideal.Product.frame_ri,
  Cert.Ff2Ideal.Product.frame_p, Cert.Ff2Ideal.Product.frame_pi, Cert.Ff2Ideal.Product.frame_ri,
  Cert.DwOutIdeal.Grad.frame_p, Cert.DwOutIdeal.Grad.frame_pi, Cert.DwOutIdeal.Grad.frame_ri,
  Cert.DCatIdeal.Product.frame_p, Cert.DCatIdeal.Product.frame_pi, Cert.DCatIdeal.Product.frame_ri,
  Cert.DwInIdeal.Grad.frame_p, Cert.DwInIdeal.Grad.frame_pi, Cert.DwInIdeal.Grad.frame_ri,
  Cert.DHIdeal.Grad.frame_p, Cert.DHIdeal.Grad.frame_pi, Cert.DHIdeal.Grad.frame_ri,
  Cert.NormMixIdeal.Grad.frame_p, Cert.NormMixIdeal.Grad.frame_pi, Cert.NormMixIdeal.Grad.frame_ri,
  Cert.NormMlpIdeal.Grad.frame_p, Cert.NormMlpIdeal.Grad.frame_pi, Cert.NormMlpIdeal.Grad.frame_ri,
  Cert.AdamInIdeal.Step.frame_p, Cert.AdamInIdeal.Step.frame_pi, Cert.AdamInIdeal.Step.frame_ri,
  Cert.AdamOutIdeal.Step.frame_p, Cert.AdamOutIdeal.Step.frame_pi, Cert.AdamOutIdeal.Step.frame_ri,
  Cert.AdamFf1Ideal.Step.frame_p, Cert.AdamFf1Ideal.Step.frame_pi, Cert.AdamFf1Ideal.Step.frame_ri,
  Cert.AdamFf2Ideal.Step.frame_p, Cert.AdamFf2Ideal.Step.frame_pi, Cert.AdamFf2Ideal.Step.frame_ri,
  Cert.FwdIdeal.Softmax.frame_p, Cert.FwdIdeal.Softmax.frame_pi, Cert.FwdIdeal.Softmax.frame_pi_finite,
  Cert.FwdIdeal.Softmax.frame_ri, Cert.FwdIdeal.Softmax.frame_ri_finite,
  Cert.NormMixFwdIdeal.Norm.frame_p, Cert.NormMixFwdIdeal.Norm.frame_pi, Cert.NormMixFwdIdeal.Norm.frame_ri,
  Cert.NormMlpFwdIdeal.Norm.frame_p, Cert.NormMlpFwdIdeal.Norm.frame_pi, Cert.NormMlpFwdIdeal.Norm.frame_ri,
  Cert.AdaFwdIdeal.Modulation.frame_p, Cert.AdaFwdIdeal.Modulation.frame_pi, Cert.AdaFwdIdeal.Modulation.frame_ri,
  Cert.AdaGradIdeal.Grad.frame_p, Cert.AdaGradIdeal.Grad.frame_pi, Cert.AdaGradIdeal.Grad.frame_ri,
  Cert.AdamAdaIdeal.Step.frame_p, Cert.AdamAdaIdeal.Step.frame_pi, Cert.AdamAdaIdeal.Step.frame_ri,
  Cert.AdamSmallIdeal.Step.frame_p, Cert.AdamSmallIdeal.Step.frame_pi, Cert.AdamSmallIdeal.Step.frame_ri,
  Cert.AdamTinyIdeal.Step.frame_p, Cert.AdamTinyIdeal.Step.frame_pi, Cert.AdamTinyIdeal.Step.frame_ri,
  Cert.LossIdeal.Head.frame_p, Cert.LossIdeal.Head.frame_pi, Cert.LossIdeal.Head.frame_ri,
  Cert.MlstmPostIdeal.Post.frame_p, Cert.MlstmPostIdeal.Post.frame_pi, Cert.MlstmPostIdeal.Post.frame_ri,
  Cert.MlstmPostBwdIdeal.Grad.frame_p, Cert.MlstmPostBwdIdeal.Grad.frame_pi, Cert.MlstmPostBwdIdeal.Grad.frame_ri,
  Claims.preserves, Claims.algebraic,
  Cert.DwFf2Ideal.Grad.preserves, Cert.DwFf2Ideal.Grad.algebraic,
  Cert.DUIdeal.Grad.preserves, Cert.DUIdeal.Grad.algebraic,
  Cert.DwFf1Ideal.Grad.preserves, Cert.DwFf1Ideal.Grad.algebraic,
  Cert.DH2Ideal.Grad.preserves, Cert.DH2Ideal.Grad.algebraic,
  Cert.ProjInIdeal.Product.preserves, Cert.ProjInIdeal.Product.algebraic,
  Cert.ProjOutIdeal.Product.preserves, Cert.ProjOutIdeal.Product.algebraic,
  Cert.Ff1Ideal.Product.preserves, Cert.Ff1Ideal.Product.algebraic,
  Cert.Ff2Ideal.Product.preserves, Cert.Ff2Ideal.Product.algebraic,
  Cert.DwOutIdeal.Grad.preserves, Cert.DwOutIdeal.Grad.algebraic,
  Cert.DCatIdeal.Product.preserves, Cert.DCatIdeal.Product.algebraic,
  Cert.DwInIdeal.Grad.preserves, Cert.DwInIdeal.Grad.algebraic,
  Cert.DHIdeal.Grad.preserves, Cert.DHIdeal.Grad.algebraic,
  Cert.NormMixIdeal.Grad.preserves, Cert.NormMixIdeal.Grad.algebraic,
  Cert.NormMlpIdeal.Grad.preserves, Cert.NormMlpIdeal.Grad.algebraic,
  Cert.AdamInIdeal.Step.preserves, Cert.AdamInIdeal.Step.algebraic,
  Cert.AdamOutIdeal.Step.preserves, Cert.AdamOutIdeal.Step.algebraic,
  Cert.AdamFf1Ideal.Step.preserves, Cert.AdamFf1Ideal.Step.algebraic,
  Cert.AdamFf2Ideal.Step.preserves, Cert.AdamFf2Ideal.Step.algebraic,
  Cert.FwdIdeal.Softmax.preserves, Cert.FwdIdeal.Softmax.algebraic,
  Cert.NormMixFwdIdeal.Norm.preserves, Cert.NormMixFwdIdeal.Norm.algebraic,
  Cert.NormMlpFwdIdeal.Norm.preserves, Cert.NormMlpFwdIdeal.Norm.algebraic,
  Cert.AdaFwdIdeal.Modulation.preserves, Cert.AdaFwdIdeal.Modulation.algebraic,
  Cert.AdaGradIdeal.Grad.preserves, Cert.AdaGradIdeal.Grad.algebraic,
  Cert.AdamAdaIdeal.Step.preserves, Cert.AdamAdaIdeal.Step.algebraic,
  Cert.AdamSmallIdeal.Step.preserves, Cert.AdamSmallIdeal.Step.algebraic,
  Cert.AdamTinyIdeal.Step.preserves, Cert.AdamTinyIdeal.Step.algebraic,
  Cert.LossIdeal.Head.preserves, Cert.LossIdeal.Head.algebraic,
  Cert.MlstmPostIdeal.Post.preserves, Cert.MlstmPostIdeal.Post.algebraic,
  Cert.MlstmPostBwdIdeal.Grad.preserves, Cert.MlstmPostBwdRefIdeal.Grad.algebraic⟩

end Cert.Proof

end
